-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Kernel7Ideal_finite7 [hPre_finite7 : Cert.Pre_finite7.Facts] (m : (ℓ : Loc Cert.Kernel7Ideal.nD Cert.Kernel7Ideal.τ Cert.Kernel7Ideal.sig) → Buf (Elt Ideal) ℓ) : Prop :=
  ∀ c : Dev Cert.Kernel7Ideal.nD,
    (Cert.Pre_finite7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1))) = (fun _ => 1#1)

def Pre_Reference7Ideal (m : (ℓ : Loc Cert.Reference7Ideal.nD Cert.Reference7Ideal.τ Cert.Reference7Ideal.sig) → Buf (Elt Ideal) ℓ) : Prop :=
  True

def Pre_Reference7Ideal_finite7 [hPre_finite7 : Cert.Pre_finite7.Facts] (m : (ℓ : Loc Cert.Reference7Ideal.nD Cert.Reference7Ideal.τ Cert.Reference7Ideal.sig) → Buf (Elt Ideal) ℓ) : Prop :=
  ∀ c : Dev Cert.Reference7Ideal.nD,
    (Cert.Pre_finite7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Kernel7Ideal_pre_finite7 [hKernel7Ideal : Cert.Kernel7Ideal.Facts] [hPre_finite7 : Cert.Pre_finite7.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal_finite7 m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Reference7Ideal_pre_finite7 [hReference7Ideal : Cert.Reference7Ideal.Facts] [hPre_finite7 : Cert.Pre_finite7.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal_finite7 m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)) →
    ∃ (v0 : (c : Dev Cert.Kernel2Ideal.nD) → Buf (Elt Ideal) ((c.tc : Thread Cert.Kernel2Ideal.nD Cert.Kernel2Ideal.τ).loc Cert.Kernel2Ideal.main_v8)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v8) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v67) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)) →
    ∃ (v0 : (c : Dev Cert.Kernel3Ideal.nD) → Buf (Elt Ideal) ((c.tc : Thread Cert.Kernel3Ideal.nD Cert.Kernel3Ideal.τ).loc Cert.Kernel3Ideal.main_v10)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v10) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v81) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v3)) (v1 : (c : Dev Cert.Kernel4Ideal.nD) → Buf (Elt Ideal) ((c.tc : Thread Cert.Kernel4Ideal.nD Cert.Kernel4Ideal.τ).loc Cert.Kernel4Ideal.main_v6)) (v2 : (c : Dev Cert.Kernel4Ideal.nD) → Buf (Elt Ideal) ((c.tc : Thread Cert.Kernel4Ideal.nD Cert.Kernel4Ideal.τ).loc Cert.Kernel4Ideal.main_v4)) (v3 : (c : Dev Cert.Kernel4Ideal.nD) → Buf (Elt Ideal) ((c.tc : Thread Cert.Kernel4Ideal.nD Cert.Kernel4Ideal.τ).loc Cert.Kernel4Ideal.main_v5)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v3) = v0 c
          ∧ r.2.mem ((c.tc : Thread Cert.Kernel4Ideal.nD Cert.Kernel4Ideal.τ).loc Cert.Kernel4Ideal.main_v6) = v1 c
          ∧ r.2.mem ((c.tc : Thread Cert.Kernel4Ideal.nD Cert.Kernel4Ideal.τ).loc Cert.Kernel4Ideal.main_v4) = v2 c
          ∧ r.2.mem ((c.tc : Thread Cert.Kernel4Ideal.nD Cert.Kernel4Ideal.τ).loc Cert.Kernel4Ideal.main_v5) = v3 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v23) = v0 c
          ∧ r.2.mem ((c.tc : Thread Cert.Reference4Ideal.nD Cert.Reference4Ideal.τ).loc Cert.Reference4Ideal.main_v17) = v1 c
          ∧ r.2.mem ((c.tc : Thread Cert.Reference4Ideal.nD Cert.Reference4Ideal.τ).loc Cert.Reference4Ideal.main_v25) = v2 c
          ∧ r.2.mem ((c.tc : Thread Cert.Reference4Ideal.nD Cert.Reference4Ideal.τ).loc Cert.Reference4Ideal.main_v19) = v3 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)) →
    ∃ (v0 : (c : Dev Cert.Kernel5Ideal.nD) → Buf (Elt Ideal) ((c.tc : Thread Cert.Kernel5Ideal.nD Cert.Kernel5Ideal.τ).loc Cert.Kernel5Ideal.main_v0)) (v1 : (c : Dev Cert.Kernel5Ideal.nD) → Buf (Elt Ideal) ((c.tc : Thread Cert.Kernel5Ideal.nD Cert.Kernel5Ideal.τ).loc Cert.Kernel5Ideal.main_v2)) (v2 : (c : Dev Cert.Kernel5Ideal.nD) → Buf (Elt Ideal) ((c.tc : Thread Cert.Kernel5Ideal.nD Cert.Kernel5Ideal.τ).loc Cert.Kernel5Ideal.main_v3)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_v2) = v1 c
          ∧ r.2.mem ((c.tc : Thread Cert.Kernel5Ideal.nD Cert.Kernel5Ideal.τ).loc Cert.Kernel5Ideal.main_v3) = v2 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v4) = v0 c
          ∧ r.2.mem ((c.tc : Thread Cert.Reference5Ideal.nD Cert.Reference5Ideal.τ).loc Cert.Reference5Ideal.main_v15) = v1 c
          ∧ r.2.mem ((c.tc : Thread Cert.Reference5Ideal.nD Cert.Reference5Ideal.τ).loc Cert.Reference5Ideal.main_v19) = v2 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v5)) (v1 : (c : Dev Cert.Kernel6Ideal.nD) → Buf (Elt Ideal) ((c.tc : Thread Cert.Kernel6Ideal.nD Cert.Kernel6Ideal.τ).loc Cert.Kernel6Ideal.main_v7)) (v2 : (c : Dev Cert.Kernel6Ideal.nD) → Buf (Elt Ideal) ((c.tc : Thread Cert.Kernel6Ideal.nD Cert.Kernel6Ideal.τ).loc Cert.Kernel6Ideal.main_v4_2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v5) = v0 c
          ∧ r.2.mem ((c.tc : Thread Cert.Kernel6Ideal.nD Cert.Kernel6Ideal.τ).loc Cert.Kernel6Ideal.main_v7) = v1 c
          ∧ r.2.mem ((c.tc : Thread Cert.Kernel6Ideal.nD Cert.Kernel6Ideal.τ).loc Cert.Kernel6Ideal.main_v4_2) = v2 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v25) = v0 c
          ∧ r.2.mem ((c.tc : Thread Cert.Reference6Ideal.nD Cert.Reference6Ideal.τ).loc Cert.Reference6Ideal.main_v27) = v1 c
          ∧ r.2.mem ((c.tc : Thread Cert.Reference6Ideal.nD Cert.Reference6Ideal.τ).loc Cert.Reference6Ideal.main_v28) = v2 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def preserves_Kernel7_Kernel7Ideal : Prop :=
  True

def algebraic_Kernel7Ideal_Reference7Ideal_pre_finite7 [hKernel7Ideal : Cert.Kernel7Ideal.Facts] [hReference7Ideal : Cert.Reference7Ideal.Facts] [hPre_finite7 : Cert.Pre_finite7.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal_finite7 m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v3)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v3) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v36) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hPre_finite7 : Cert.Pre_finite7.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Kernel7Ideal_pre_finite7 (hKernel7Ideal := hKernel7Ideal) (hPre_finite7 := hPre_finite7)
    ∧ quiescent_Reference7Ideal (hReference7Ideal := hReference7Ideal)
    ∧ quiescent_Reference7Ideal_pre_finite7 (hReference7Ideal := hReference7Ideal) (hPre_finite7 := hPre_finite7)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal_pre_finite7 (hKernel7Ideal := hKernel7Ideal) (hReference7Ideal := hReference7Ideal) (hPre_finite7 := hPre_finite7)
-- ==== Pre_finite7.lean ====
abbrev S8192x6144 : Shape := ⟨2, ![8192, 6144]⟩
abbrev S8192x16 : Shape := ⟨2, ![8192, 16]⟩
abbrev S8192x4096 : Shape := ⟨2, ![8192, 4096]⟩
abbrev S8192x4112 : Shape := ⟨2, ![8192, 4112]⟩
abbrev S_ : Shape := ⟨0, ![]⟩

class Facts : Prop where
  slices_S8192x6144_S8192x4096_0_0 : S8192x6144.Slices ![0, 0] S8192x4096
  bitsLt_bf16_f32 : FTy.bits .bf16 < FTy.bits .f32
  concatenates_S8192x4096_S8192x16_S8192x4112_d1 : Shape.Concatenates [S8192x4096, S8192x16] S8192x4112 1
  bcast_S_S8192x4112 : S_.BroadcastsInDim S8192x4112 (![] : Fin 0 → Fin S8192x4112.rank)

variable [Facts]

def fn {F : FTy → Type} [FloatOps F] (main_arg0 : FVec F S8192x6144 .bf16) (main_arg1 : FVec F S8192x16 .f32) : IVec S8192x4112 1 :=
  let main_v0 : FVec F S8192x4096 .bf16 := (extractStridedSlice S8192x4096 ![0, 0] · slices_S8192x6144_S8192x4096_0_0) main_arg0
  let main_v1 : FVec F S8192x4096 .f32 := (extf .f32 · bitsLt_bf16_f32) main_v0
  let main_v2 : FVec F S8192x4112 .f32 := (fun a b => concatenate S8192x4112 1 [⟨S8192x4096, a⟩, ⟨S8192x16, b⟩] concatenates_S8192x4096_S8192x16_S8192x4112_d1) main_v1 main_arg1
  let main_cst : FVec F S_ .f32 := constant S_ .f32 0x7F800000#32
  let main_v3 : FVec F S8192x4112 .f32 := broadcastInDim S8192x4112 ![] bcast_S_S8192x4112 main_cst
  let main_v4 : IVec S8192x4112 1 := cmpf .olt main_v2 main_v3
  let main_cst_0 : FVec F S_ .f32 := constant S_ .f32 0xFF800000#32
  let main_v5 : FVec F S8192x4112 .f32 := broadcastInDim S8192x4112 ![] bcast_S_S8192x4112 main_cst_0
  let main_v6 : IVec S8192x4112 1 := cmpf .ogt main_v2 main_v5
  let main_v7 : IVec S8192x4112 1 := andi main_v4 main_v6
  main_v7
-- ==== Kernel.lean ====
abbrev S8192x2048 : Shape := ⟨2, ![8192, 2048]⟩
abbrev S2048 : Shape := ⟨1, ![2048]⟩
abbrev S2x2048x11008 : Shape := ⟨3, ![2, 2048, 11008]⟩
abbrev S2x5504x2048 : Shape := ⟨3, ![2, 5504, 2048]⟩
abbrev S1x2048 : Shape := ⟨2, ![1, 2048]⟩
abbrev S8192x384 : Shape := ⟨2, ![8192, 384]⟩
abbrev S384x2048 : Shape := ⟨2, ![384, 2048]⟩
abbrev S1024x2048 : Shape := ⟨2, ![1024, 2048]⟩
abbrev S1x2048x384 : Shape := ⟨3, ![1, 2048, 384]⟩
abbrev S1x48x2048 : Shape := ⟨3, ![1, 48, 2048]⟩
abbrev S1024x384 : Shape := ⟨2, ![1024, 384]⟩
abbrev S48x2048 : Shape := ⟨2, ![48, 2048]⟩
abbrev S2048x384 : Shape := ⟨2, ![2048, 384]⟩
abbrev S1024 : Shape := ⟨1, ![1024]⟩
abbrev S1024x1 : Shape := ⟨2, ![1024, 1]⟩
abbrev S8192x5120 : Shape := ⟨2, ![8192, 5120]⟩
abbrev S5120x2048 : Shape := ⟨2, ![5120, 2048]⟩
abbrev S1x2048x512 : Shape := ⟨3, ![1, 2048, 512]⟩
abbrev S1x64x2048 : Shape := ⟨3, ![1, 64, 2048]⟩
abbrev S1024x512 : Shape := ⟨2, ![1024, 512]⟩
abbrev S64x2048 : Shape := ⟨2, ![64, 2048]⟩
abbrev S2048x512 : Shape := ⟨2, ![2048, 512]⟩
abbrev S1x5120x2048 : Shape := ⟨3, ![1, 5120, 2048]⟩
abbrev S1x384x2048 : Shape := ⟨3, ![1, 384, 2048]⟩
abbrev S512x1024 : Shape := ⟨2, ![512, 1024]⟩
abbrev S512x5120 : Shape := ⟨2, ![512, 5120]⟩
abbrev S512x384 : Shape := ⟨2, ![512, 384]⟩
abbrev S1x5120x1024 : Shape := ⟨3, ![1, 5120, 1024]⟩
abbrev S1x384x1024 : Shape := ⟨3, ![1, 384, 1024]⟩
abbrev S5120x1024 : Shape := ⟨2, ![5120, 1024]⟩
abbrev S384x1024 : Shape := ⟨2, ![384, 1024]⟩

abbrev nBuf : Space → Nat
  | .hbm => 13
  | .vmem => 41
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2x2048x11008, .f32⟩
  | .hbm, ⟨3, _⟩ => ⟨S2x5504x2048, .f32⟩
  | .hbm, ⟨4, _⟩ => ⟨S1x2048, .f32⟩
  | .hbm, ⟨5, _⟩ => ⟨S8192x384, .bf16⟩
  | .hbm, ⟨6, _⟩ => ⟨S8192x2048, .bf16⟩
  | .hbm, ⟨7, _⟩ => ⟨S384x2048, .bf16⟩
  | .hbm, ⟨8, _⟩ => ⟨S8192x5120, .bf16⟩
  | .hbm, ⟨9, _⟩ => ⟨S5120x2048, .bf16⟩
  | .hbm, ⟨10, _⟩ => ⟨S1x5120x2048, .bf16⟩
  | .hbm, ⟨11, _⟩ => ⟨S1x384x2048, .bf16⟩
  | .hbm, ⟨12, _⟩ => ⟨S8192x2048, .f32⟩
  | .local _ .vmem, ⟨0, _⟩ => ⟨S1024x2048, .f32⟩
  | .local _ .vmem, ⟨1, _⟩ => ⟨S1024x2048, .f32⟩
  | .local _ .vmem, ⟨2, _⟩ => ⟨S1x2048x384, .f32⟩
  | .local _ .vmem, ⟨3, _⟩ => ⟨S1x2048x384, .f32⟩
  | .local _ .vmem, ⟨4, _⟩ => ⟨S1x2048, .f32⟩
  | .local _ .vmem, ⟨5, _⟩ => ⟨S1x48x2048, .f32⟩
  | .local _ .vmem, ⟨6, _⟩ => ⟨S1x48x2048, .f32⟩
  | .local _ .vmem, ⟨7, _⟩ => ⟨S1024x384, .bf16⟩
  | .local _ .vmem, ⟨8, _⟩ => ⟨S1024x384, .bf16⟩
  | .local _ .vmem, ⟨9, _⟩ => ⟨S1024x2048, .bf16⟩
  | .local _ .vmem, ⟨10, _⟩ => ⟨S1024x2048, .bf16⟩
  | .local _ .vmem, ⟨11, _⟩ => ⟨S48x2048, .bf16⟩
  | .local _ .vmem, ⟨12, _⟩ => ⟨S48x2048, .bf16⟩
  | .local _ .vmem, ⟨13, _⟩ => ⟨S2048x384, .bf16⟩
  | .local _ .vmem, ⟨14, _⟩ => ⟨S2048x384, .bf16⟩
  | .local _ .vmem, ⟨15, _⟩ => ⟨S1024x2048, .bf16⟩
  | .local _ .vmem, ⟨16, _⟩ => ⟨S1024x2048, .bf16⟩
  | .local _ .vmem, ⟨17, _⟩ => ⟨S1x2048x512, .f32⟩
  | .local _ .vmem, ⟨18, _⟩ => ⟨S1x2048x512, .f32⟩
  | .local _ .vmem, ⟨19, _⟩ => ⟨S1x2048x512, .f32⟩
  | .local _ .vmem, ⟨20, _⟩ => ⟨S1x2048x512, .f32⟩
  | .local _ .vmem, ⟨21, _⟩ => ⟨S1x64x2048, .f32⟩
  | .local _ .vmem, ⟨22, _⟩ => ⟨S1x64x2048, .f32⟩
  | .local _ .vmem, ⟨23, _⟩ => ⟨S1024x512, .bf16⟩
  | .local _ .vmem, ⟨24, _⟩ => ⟨S1024x512, .bf16⟩
  | .local _ .vmem, ⟨25, _⟩ => ⟨S64x2048, .bf16⟩
  | .local _ .vmem, ⟨26, _⟩ => ⟨S64x2048, .bf16⟩
  | .local _ .vmem, ⟨27, _⟩ => ⟨S2048x512, .bf16⟩
  | .local _ .vmem, ⟨28, _⟩ => ⟨S2048x512, .bf16⟩
  | .local _ .vmem, ⟨29, _⟩ => ⟨S512x1024, .f32⟩
  | .local _ .vmem, ⟨30, _⟩ => ⟨S512x1024, .f32⟩
  | .local _ .vmem, ⟨31, _⟩ => ⟨S512x5120, .bf16⟩
  | .local _ .vmem, ⟨32, _⟩ => ⟨S512x5120, .bf16⟩
  | .local _ .vmem, ⟨33, _⟩ => ⟨S512x384, .bf16⟩
  | .local _ .vmem, ⟨34, _⟩ => ⟨S512x384, .bf16⟩
  | .local _ .vmem, ⟨35, _⟩ => ⟨S1x5120x1024, .bf16⟩
  | .local _ .vmem, ⟨36, _⟩ => ⟨S1x5120x1024, .bf16⟩
  | .local _ .vmem, ⟨37, _⟩ => ⟨S1x384x1024, .bf16⟩
  | .local _ .vmem, ⟨38, _⟩ => ⟨S1x384x1024, .bf16⟩
  | .local _ .vmem, ⟨39, _⟩ => ⟨S512x1024, .f32⟩
  | .local _ .vmem, ⟨40, _⟩ => ⟨S512x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | _, _ => false

abbrev semScoped : Fin 0 → Bool
  | ⟨_, h⟩ => absurd h (Nat.not_lt_zero _)

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  ofTc nBuf bufTy 0 37 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v2_0 : Ref sig .tc := ⟨.hbm, 8, rfl⟩
abbrev main_v2_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_scratch0 : Ref sig .tc := ⟨.vmem, 13, rfl⟩
abbrev cc0_scratch1 : Ref sig .tc := ⟨.vmem, 14, rfl⟩
abbrev cc1_stg0_0 : Ref sig .tc := ⟨.vmem, 15, rfl⟩
abbrev cc1_stg0_1 : Ref sig .tc := ⟨.vmem, 16, rfl⟩
abbrev cc1_stg1_0 : Ref sig .tc := ⟨.vmem, 17, rfl⟩
abbrev cc1_stg1_1 : Ref sig .tc := ⟨.vmem, 18, rfl⟩
abbrev cc1_stg2_0 : Ref sig .tc := ⟨.vmem, 19, rfl⟩
abbrev cc1_stg2_1 : Ref sig .tc := ⟨.vmem, 20, rfl⟩
abbrev cc1_stg3_0 : Ref sig .tc := ⟨.vmem, 21, rfl⟩
abbrev cc1_stg3_1 : Ref sig .tc := ⟨.vmem, 22, rfl⟩
abbrev cc1_stg4_0 : Ref sig .tc := ⟨.vmem, 23, rfl⟩
abbrev cc1_stg4_1 : Ref sig .tc := ⟨.vmem, 24, rfl⟩
abbrev cc1_stg5_0 : Ref sig .tc := ⟨.vmem, 25, rfl⟩
abbrev cc1_stg5_1 : Ref sig .tc := ⟨.vmem, 26, rfl⟩
abbrev cc1_scratch0 : Ref sig .tc := ⟨.vmem, 27, rfl⟩
abbrev cc1_scratch1 : Ref sig .tc := ⟨.vmem, 28, rfl⟩
abbrev cc2_stg0_0 : Ref sig .tc := ⟨.vmem, 29, rfl⟩
abbrev cc2_stg0_1 : Ref sig .tc := ⟨.vmem, 30, rfl⟩
abbrev cc2_stg1_0 : Ref sig .tc := ⟨.vmem, 31, rfl⟩
abbrev cc2_stg1_1 : Ref sig .tc := ⟨.vmem, 32, rfl⟩
abbrev cc2_stg2_0 : Ref sig .tc := ⟨.vmem, 33, rfl⟩
abbrev cc2_stg2_1 : Ref sig .tc := ⟨.vmem, 34, rfl⟩
abbrev cc2_stg3_0 : Ref sig .tc := ⟨.vmem, 35, rfl⟩
abbrev cc2_stg3_1 : Ref sig .tc := ⟨.vmem, 36, rfl⟩
abbrev cc2_stg4_0 : Ref sig .tc := ⟨.vmem, 37, rfl⟩
abbrev cc2_stg4_1 : Ref sig .tc := ⟨.vmem, 38, rfl⟩
abbrev cc2_stg5_0 : Ref sig .tc := ⟨.vmem, 39, rfl⟩
abbrev cc2_stg5_1 : Ref sig .tc := ⟨.vmem, 40, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc1_sem0_0 : DmaSem sig := 13
abbrev cc1_sem0_1 : DmaSem sig := 14
abbrev cc1_sem1_0 : DmaSem sig := 15
abbrev cc1_sem1_1 : DmaSem sig := 16
abbrev cc1_sem2_0 : DmaSem sig := 17
abbrev cc1_sem2_1 : DmaSem sig := 18
abbrev cc1_sem3_0 : DmaSem sig := 19
abbrev cc1_sem3_1 : DmaSem sig := 20
abbrev cc1_sem4_0 : DmaSem sig := 21
abbrev cc1_sem4_1 : DmaSem sig := 22
abbrev cc1_sem5_0 : DmaSem sig := 23
abbrev cc1_sem5_1 : DmaSem sig := 24
abbrev cc2_sem0_0 : DmaSem sig := 25
abbrev cc2_sem0_1 : DmaSem sig := 26
abbrev cc2_sem1_0 : DmaSem sig := 27
abbrev cc2_sem1_1 : DmaSem sig := 28
abbrev cc2_sem2_0 : DmaSem sig := 29
abbrev cc2_sem2_1 : DmaSem sig := 30
abbrev cc2_sem3_0 : DmaSem sig := 31
abbrev cc2_sem3_1 : DmaSem sig := 32
abbrev cc2_sem4_0 : DmaSem sig := 33
abbrev cc2_sem4_1 : DmaSem sig := 34
abbrev cc2_sem5_0 : DmaSem sig := 35
abbrev cc2_sem5_1 : DmaSem sig := 36

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.muli arg0 c3_i32
  let c40_i32 : BitVec 32 := 40#32
  let v1 : BitVec 32 := Scalar.addi c40_i32 v0
  let c128_i32 : BitVec 32 := 128#32
  let v2 : BitVec 32 := Scalar.muli v1 c128_i32
  let c0_i32 : BitVec 32 := 0#32
  let c0_i32_0 : BitVec 32 := 0#32
  let c0_i32_1 : BitVec 32 := 0#32
  ![c0_i32.toNat, c0_i32_0.toNat, v2.toNat]

def cc0_transform_2 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.muli arg0 c3_i32
  let c83_i32 : BitVec 32 := 83#32
  let v1 : BitVec 32 := Scalar.addi c83_i32 v0
  let c128_i32 : BitVec 32 := 128#32
  let v2 : BitVec 32 := Scalar.muli v1 c128_i32
  let c0_i32 : BitVec 32 := 0#32
  let c0_i32_0 : BitVec 32 := 0#32
  let c0_i32_1 : BitVec 32 := 0#32
  ![c0_i32.toNat, c0_i32_0.toNat, v2.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c3_i32 : BitVec 32 := 3#32
  let v2 : BitVec 32 := Scalar.muli v1 c3_i32
  let c320_i32 : BitVec 32 := 320#32
  let v3 : BitVec 32 := Scalar.addi c320_i32 v2
  let c16_i32 : BitVec 32 := 16#32
  let v4 : BitVec 32 := Scalar.muli v3 c16_i32
  let c0_i32 : BitVec 32 := 0#32
  let c0_i32_0 : BitVec 32 := 0#32
  let c0_i32_1 : BitVec 32 := 0#32
  ![c0_i32.toNat, v4.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x2048x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S1x2048x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x48x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x384 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S48x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev grid1 : Pipeline.Grid := ⟨2, ![10, 8], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let c0_i32 : BitVec 32 := 0#32
  let v1 : BitVec 32 := Scalar.addi c0_i32 v0
  let c128_i32 : BitVec 32 := 128#32
  let v2 : BitVec 32 := Scalar.muli v1 c128_i32
  let c0_i32_0 : BitVec 32 := 0#32
  let c0_i32_1 : BitVec 32 := 0#32
  let c0_i32_2 : BitVec 32 := 0#32
  ![c0_i32_0.toNat, c0_i32_1.toNat, v2.toNat]

def cc1_transform_2 (i : grid1.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let c43_i32 : BitVec 32 := 43#32
  let v1 : BitVec 32 := Scalar.addi c43_i32 v0
  let c128_i32 : BitVec 32 := 128#32
  let v2 : BitVec 32 := Scalar.muli v1 c128_i32
  let c0_i32 : BitVec 32 := 0#32
  let c0_i32_0 : BitVec 32 := 0#32
  let c0_i32_1 : BitVec 32 := 0#32
  ![c0_i32.toNat, c0_i32_0.toNat, v2.toNat]

def cc1_transform_3 (i : grid1.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c4_i32 : BitVec 32 := 4#32
  let v2 : BitVec 32 := Scalar.muli v1 c4_i32
  let c0_i32 : BitVec 32 := 0#32
  let v3 : BitVec 32 := Scalar.addi c0_i32 v2
  let c16_i32 : BitVec 32 := 16#32
  let v4 : BitVec 32 := Scalar.muli v3 c16_i32
  let c0_i32_0 : BitVec 32 := 0#32
  let c0_i32_1 : BitVec 32 := 0#32
  let c0_i32_2 : BitVec 32 := 0#32
  ![c0_i32_0.toNat, v4.toNat, c0_i32_1.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_5 (i : grid1.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage1_0 : Fin 2 → Memref sig .tc .vmem S1024x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S1x2048x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x2048x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x64x2048 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1024x512 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S64x2048 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev grid2 : Pipeline.Grid := ⟨2, ![2, 16], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_3 (i : grid2.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c128_i32 : BitVec 32 := 128#32
  let v1 : BitVec 32 := Scalar.muli v0 c128_i32
  let c0_i32 : BitVec 32 := 0#32
  let c0_i32_0 : BitVec 32 := 0#32
  let c0_i32_1 : BitVec 32 := 0#32
  ![c0_i32.toNat, c0_i32_0.toNat, v1.toNat]

def cc2_transform_4 (i : grid2.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c128_i32 : BitVec 32 := 128#32
  let v1 : BitVec 32 := Scalar.muli v0 c128_i32
  let c0_i32 : BitVec 32 := 0#32
  let c0_i32_0 : BitVec 32 := 0#32
  let c0_i32_1 : BitVec 32 := 0#32
  ![c0_i32.toNat, c0_i32_0.toNat, v1.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage2_0 : Fin 2 → Memref sig .tc .vmem S512x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S512x5120 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S512x384 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![false, true]

abbrev stage2_3 : Fin 2 → Memref sig .tc .vmem S1x5120x1024 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

abbrev stage2_4 : Fin 2 → Memref sig .tc .vmem S1x384x1024 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, false]

abbrev stage2_5 : Fin 2 → Memref sig .tc .vmem S512x1024 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, true]
-- ==== ReferenceIdeal.lean ====
abbrev S8192x2048 : Shape := ⟨2, ![8192, 2048]⟩
abbrev S2048 : Shape := ⟨1, ![2048]⟩
abbrev S2x2048x11008 : Shape := ⟨3, ![2, 2048, 11008]⟩
abbrev S2x5504x2048 : Shape := ⟨3, ![2, 5504, 2048]⟩
abbrev S1x2048x11008 : Shape := ⟨3, ![1, 2048, 11008]⟩
abbrev S2048x11008 : Shape := ⟨2, ![2048, 11008]⟩
abbrev S1x5504x2048 : Shape := ⟨3, ![1, 5504, 2048]⟩
abbrev S5504x2048 : Shape := ⟨2, ![5504, 2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩
abbrev S8192x11008 : Shape := ⟨2, ![8192, 11008]⟩
abbrev S8192x5504 : Shape := ⟨2, ![8192, 5504]⟩

abbrev nBuf : Space → Nat
  | .hbm => 42
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2x2048x11008, .f32⟩
  | .hbm, ⟨3, _⟩ => ⟨S2x5504x2048, .f32⟩
  | .hbm, ⟨4, _⟩ => ⟨S1x2048x11008, .f32⟩
  | .hbm, ⟨5, _⟩ => ⟨S2048x11008, .f32⟩
  | .hbm, ⟨6, _⟩ => ⟨S1x5504x2048, .f32⟩
  | .hbm, ⟨7, _⟩ => ⟨S5504x2048, .f32⟩
  | .hbm, ⟨8, _⟩ => ⟨S8192x2048, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S8192x2048, .f32⟩
  | .hbm, ⟨20, _⟩ => ⟨S8192x2048, .f32⟩
  | .hbm, ⟨21, _⟩ => ⟨S1x2048, .f32⟩
  | .hbm, ⟨22, _⟩ => ⟨S8192x2048, .f32⟩
  | .hbm, ⟨23, _⟩ => ⟨S8192x2048, .f32⟩
  | .hbm, ⟨24, _⟩ => ⟨S8192x11008, .f32⟩
  | .hbm, ⟨25, _⟩ => ⟨S8192x5504, .f32⟩
  | .hbm, ⟨26, _⟩ => ⟨S8192x5504, .f32⟩
  | .hbm, ⟨27, _⟩ => ⟨S8192x5504, .f32⟩
  | .hbm, ⟨28, _⟩ => ⟨S8192x5504, .f32⟩
  | .hbm, ⟨29, _⟩ => ⟨S_, .f32⟩
  | .hbm, ⟨30, _⟩ => ⟨S8192x5504, .f32⟩
  | .hbm, ⟨31, _⟩ => ⟨S8192x5504, .f32⟩
  | .hbm, ⟨32, _⟩ => ⟨S_, .f32⟩
  | .hbm, ⟨33, _⟩ => ⟨S8192x5504, .f32⟩
  | .hbm, ⟨34, _⟩ => ⟨S8192x5504, .f32⟩
  | .hbm, ⟨35, _⟩ => ⟨S8192x5504, .f32⟩
  | .hbm, ⟨36, _⟩ => ⟨S8192x5504, .f32⟩
  | .hbm, ⟨37, _⟩ => ⟨S8192x2048, .f32⟩
  | .hbm, ⟨38, _⟩ => ⟨S_, .f32⟩
  | .hbm, ⟨39, _⟩ => ⟨S8192x2048, .f32⟩
  | .hbm, ⟨40, _⟩ => ⟨S8192x2048, .f32⟩
  | .hbm, ⟨41, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_call0_v5 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_2 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩

abbrev nD : Nat := 1
abbrev τ : Topo := Topo.v7x

variable {F : FTy → Type} [FloatOps F]
-- ==== Kernel2.lean ====
abbrev S8192x2048 : Shape := ⟨2, ![8192, 2048]⟩
abbrev S2x1x8192x256 : Shape := ⟨4, ![2, 1, 8192, 256]⟩
abbrev S2048 : Shape := ⟨1, ![2048]⟩
abbrev S2x2048x2048 : Shape := ⟨3, ![2, 2048, 2048]⟩
abbrev S2x256x2048 : Shape := ⟨3, ![2, 256, 2048]⟩
abbrev S2x2048x11008 : Shape := ⟨3, ![2, 2048, 11008]⟩
abbrev S2x5504x2048 : Shape := ⟨3, ![2, 5504, 2048]⟩
abbrev S1x2048 : Shape := ⟨2, ![1, 2048]⟩
abbrev S256x2048 : Shape := ⟨2, ![256, 2048]⟩
abbrev S1x1x256x256 : Shape := ⟨4, ![1, 1, 256, 256]⟩
abbrev S1x2048x2048 : Shape := ⟨3, ![1, 2048, 2048]⟩
abbrev S1x256x2048 : Shape := ⟨3, ![1, 256, 2048]⟩
abbrev S2048x2048 : Shape := ⟨2, ![2048, 2048]⟩
abbrev S256 : Shape := ⟨1, ![256]⟩
abbrev S256x1 : Shape := ⟨2, ![256, 1]⟩
abbrev S256x256 : Shape := ⟨2, ![256, 256]⟩
abbrev S8192x384 : Shape := ⟨2, ![8192, 384]⟩
abbrev S384x2048 : Shape := ⟨2, ![384, 2048]⟩
abbrev S1024x2048 : Shape := ⟨2, ![1024, 2048]⟩
abbrev S1x2048x384 : Shape := ⟨3, ![1, 2048, 384]⟩
abbrev S1x48x2048 : Shape := ⟨3, ![1, 48, 2048]⟩
abbrev S1024x384 : Shape := ⟨2, ![1024, 384]⟩
abbrev S48x2048 : Shape := ⟨2, ![48, 2048]⟩
abbrev S2048x384 : Shape := ⟨2, ![2048, 384]⟩
abbrev S8192x5120 : Shape := ⟨2, ![8192, 5120]⟩
abbrev S5120x2048 : Shape := ⟨2, ![5120, 2048]⟩
abbrev S1x2048x512 : Shape := ⟨3, ![1, 2048, 512]⟩
abbrev S1x64x2048 : Shape := ⟨3, ![1, 64, 2048]⟩
abbrev S1024x512 : Shape := ⟨2, ![1024, 512]⟩
abbrev S64x2048 : Shape := ⟨2, ![64, 2048]⟩
abbrev S2048x512 : Shape := ⟨2, ![2048, 512]⟩
abbrev S1x5120x2048 : Shape := ⟨3, ![1, 5120, 2048]⟩
abbrev S1x384x2048 : Shape := ⟨3, ![1, 384, 2048]⟩
abbrev S512x1024 : Shape := ⟨2, ![512, 1024]⟩
abbrev S512x5120 : Shape := ⟨2, ![512, 5120]⟩
abbrev S512x384 : Shape := ⟨2, ![512, 384]⟩
abbrev S1x5120x1024 : Shape := ⟨3, ![1, 5120, 1024]⟩
abbrev S1x384x1024 : Shape := ⟨3, ![1, 384, 1024]⟩
abbrev S5120x1024 : Shape := ⟨2, ![5120, 1024]⟩
abbrev S384x1024 : Shape := ⟨2, ![384, 1024]⟩

abbrev nBuf : Space → Nat
  | .hbm => 21
  | .vmem => 53
  | .smem => 0
  | _ => 0

abbrev bufTy : (tb : Table) → Fin (tcTables nBuf tb) → BufTy
  | .hbm, ⟨0, _⟩ => ⟨S8192x2048, .f32⟩
  | .hbm, ⟨1, _⟩ => ⟨S2x1x8192x256, .f32⟩
  | .hbm, ⟨2, _⟩ => ⟨S2048, .f32⟩
  | .hbm, ⟨3, _⟩ => ⟨S2x2048x2048, .f32⟩
  | .hbm, ⟨4, _⟩ => ⟨S2x256x2048, .f32⟩
  | .hbm, ⟨5, _⟩ => ⟨S2048, .f32⟩
  | .hbm, ⟨6, _⟩ => ⟨S2048, .f32⟩
  | .hbm, ⟨7, _⟩ => ⟨S2x2048x11008, .f32⟩
  | .hbm, ⟨8, _⟩ => ⟨S2x5504x2048, .f32⟩
  | .hbm, ⟨9, _⟩ => ⟨S1x2048, .f32⟩
  | .hbm, ⟨10, _⟩ => ⟨S1x2048, .f32⟩
  | .hbm, ⟨11, _⟩ => ⟨S1x2048, .f32⟩
  | .hbm, ⟨12, _⟩ => ⟨S8192x2048, .f32⟩
  | .hbm, ⟨13, _⟩ => ⟨S8192x2048, .bf16⟩
  | .hbm, ⟨14, _⟩ => ⟨S8192x384, .bf16⟩
  | .hbm, ⟨15, _⟩ => ⟨S384x2048, .bf16⟩
  | .hbm, ⟨16, _⟩ => ⟨S8192x5120, .bf16⟩
  | .hbm, ⟨17, _⟩ => ⟨S5120x2048, .bf16⟩
  | .hbm, ⟨18, _⟩ => ⟨S1x5120x2048, .bf16⟩
  | .hbm, ⟨19, _⟩ => ⟨S1x384x2048, .bf16⟩
  | .hbm, ⟨20, _⟩ => ⟨S8192x2048, .f32⟩
  | .local _ .vmem, ⟨0, _⟩ => ⟨S256x2048, .f32⟩
  | .local _ .vmem, ⟨1, _⟩ => ⟨S256x2048, .f32⟩
  | .local _ .vmem, ⟨2, _⟩ => ⟨S1x1x256x256, .f32⟩
  | .local _ .vmem, ⟨3, _⟩ => ⟨S1x1x256x256, .f32⟩
  | .local _ .vmem, ⟨4, _⟩ => ⟨S1x2048x2048, .f32⟩
  | .local _ .vmem, ⟨5, _⟩ => ⟨S1x256x2048, .f32⟩
  | .local _ .vmem, ⟨6, _⟩ => ⟨S1x2048, .f32⟩
  | .local _ .vmem, ⟨7, _⟩ => ⟨S1x2048, .f32⟩
  | .local _ .vmem, ⟨8, _⟩ => ⟨S1x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .bf16⟩
  | .local _ .vmem, ⟨12, _⟩ => ⟨S256x2048, .bf16⟩
  | .local _ .vmem, ⟨13, _⟩ => ⟨S2048x2048, .bf16⟩
  | .local _ .vmem, ⟨14, _⟩ => ⟨S256x2048, .bf16⟩
  | .local _ .vmem, ⟨15, _⟩ => ⟨S1024x2048, .bf16⟩
  | .local _ .vmem, ⟨16, _⟩ => ⟨S1024x2048, .bf16⟩
  | .local _ .vmem, ⟨17, _⟩ => ⟨S1x2048x384, .f32⟩
  | .local _ .vmem, ⟨18, _⟩ => ⟨S1x2048x384, .f32⟩
  | .local _ .vmem, ⟨19, _⟩ => ⟨S1x48x2048, .f32⟩
  | .local _ .vmem, ⟨20, _⟩ => ⟨S1x48x2048, .f32⟩
  | .local _ .vmem, ⟨21, _⟩ => ⟨S1024x384, .bf16⟩
  | .local _ .vmem, ⟨22, _⟩ => ⟨S1024x384, .bf16⟩
  | .local _ .vmem, ⟨23, _⟩ => ⟨S48x2048, .bf16⟩
  | .local _ .vmem, ⟨24, _⟩ => ⟨S48x2048, .bf16⟩
  | .local _ .vmem, ⟨25, _⟩ => ⟨S2048x384, .bf16⟩
  | .local _ .vmem, ⟨26, _⟩ => ⟨S2048x384, .bf16⟩
  | .local _ .vmem, ⟨27, _⟩ => ⟨S1024x2048, .bf16⟩
  | .local _ .vmem, ⟨28, _⟩ => ⟨S1024x2048, .bf16⟩
  | .local _ .vmem, ⟨29, _⟩ => ⟨S1x2048x512, .f32⟩
  | .local _ .vmem, ⟨30, _⟩ => ⟨S1x2048x512, .f32⟩
  | .local _ .vmem, ⟨31, _⟩ => ⟨S1x2048x512, .f32⟩
  | .local _ .vmem, ⟨32, _⟩ => ⟨S1x2048x512, .f32⟩
  | .local _ .vmem, ⟨33, _⟩ => ⟨S1x64x2048, .f32⟩
  | .local _ .vmem, ⟨34, _⟩ => ⟨S1x64x2048, .f32⟩
  | .local _ .vmem, ⟨35, _⟩ => ⟨S1024x512, .bf16⟩
  | .local _ .vmem, ⟨36, _⟩ => ⟨S1024x512, .bf16⟩
  | .local _ .vmem, ⟨37, _⟩ => ⟨S64x2048, .bf16⟩
  | .local _ .vmem, ⟨38, _⟩ => ⟨S64x2048, .bf16⟩
  | .local _ .vmem, ⟨39, _⟩ => ⟨S2048x512, .bf16⟩
  | .local _ .vmem, ⟨40, _⟩ => ⟨S2048x512, .bf16⟩
  | .local _ .vmem, ⟨41, _⟩ => ⟨S512x1024, .f32⟩
  | .local _ .vmem, ⟨42, _⟩ => ⟨S512x1024, .f32⟩
  | .local _ .vmem, ⟨43, _⟩ => ⟨S512x5120, .bf16⟩
  | .local _ .vmem, ⟨44, _⟩ => ⟨S512x5120, .bf16⟩
  | .local _ .vmem, ⟨45, _⟩ => ⟨S512x384, .bf16⟩
  | .local _ .vmem, ⟨46, _⟩ => ⟨S512x384, .bf16⟩
  | .local _ .vmem, ⟨47, _⟩ => ⟨S1x5120x1024, .bf16⟩
  | .local _ .vmem, ⟨48, _⟩ => ⟨S1x5120x1024, .bf16⟩
  | .local _ .vmem, ⟨49, _⟩ => ⟨S1x384x1024, .bf16⟩
  | .local _ .vmem, ⟨50, _⟩ => ⟨S1x384x1024, .bf16⟩
  | .local _ .vmem, ⟨51, _⟩ => ⟨S512x1024, .f32⟩
  | .local _ .vmem, ⟨52, _⟩ => ⟨S512x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | _, _ => false

abbrev semScoped : Fin 0 → Bool
  | ⟨_, h⟩ => absurd h (Nat.not_lt_zero _)

abbrev dmaSemScoped : Fin 47 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | _ => false

abbrev sig : RefSig :=
  ofTc nBuf bufTy 0 47 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3_0 : Ref sig .tc := ⟨.hbm, 12, rfl⟩
abbrev main_v3_1 : Ref sig .tc := ⟨.hbm, 13, rfl⟩
abbrev main_v4_0 : Ref sig .tc := ⟨.hbm, 14, rfl⟩
abbrev main_v4_1 : Ref sig .tc := ⟨.hbm, 15, rfl⟩
abbrev main_v5_0 : Ref sig .tc := ⟨.hbm, 16, rfl⟩
abbrev main_v5_1 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_scratch0 : Ref sig .tc := ⟨.vmem, 13, rfl⟩
abbrev cc0_scratch1 : Ref sig .tc := ⟨.vmem, 14, rfl⟩
abbrev cc1_stg0_0 : Ref sig .tc := ⟨.vmem, 15, rfl⟩
abbrev cc1_stg0_1 : Ref sig .tc := ⟨.vmem, 16, rfl⟩
abbrev cc1_stg1_0 : Ref sig .tc := ⟨.vmem, 17, rfl⟩
abbrev cc1_stg2_0 : Ref sig .tc := ⟨.vmem, 18, rfl⟩
abbrev cc1_stg3_0 : Ref sig .tc := ⟨.vmem, 19, rfl⟩
abbrev cc1_stg3_1 : Ref sig .tc := ⟨.vmem, 20, rfl⟩
abbrev cc1_stg4_0 : Ref sig .tc := ⟨.vmem, 21, rfl⟩
abbrev cc1_stg4_1 : Ref sig .tc := ⟨.vmem, 22, rfl⟩
abbrev cc1_stg5_0 : Ref sig .tc := ⟨.vmem, 23, rfl⟩
abbrev cc1_stg5_1 : Ref sig .tc := ⟨.vmem, 24, rfl⟩
abbrev cc1_scratch0 : Ref sig .tc := ⟨.vmem, 25, rfl⟩
abbrev cc1_scratch1 : Ref sig .tc := ⟨.vmem, 26, rfl⟩
abbrev cc2_stg0_0 : Ref sig .tc := ⟨.vmem, 27, rfl⟩
abbrev cc2_stg0_1 : Ref sig .tc := ⟨.vmem, 28, rfl⟩
abbrev cc2_stg1_0 : Ref sig .tc := ⟨.vmem, 29, rfl⟩
abbrev cc2_stg1_1 : Ref sig .tc := ⟨.vmem, 30, rfl⟩
abbrev cc2_stg2_0 : Ref sig .tc := ⟨.vmem, 31, rfl⟩
abbrev cc2_stg2_1 : Ref sig .tc := ⟨.vmem, 32, rfl⟩
abbrev cc2_stg3_0 : Ref sig .tc := ⟨.vmem, 33, rfl⟩
abbrev cc2_stg3_1 : Ref sig .tc := ⟨.vmem, 34, rfl⟩
abbrev cc2_stg4_0 : Ref sig .tc := ⟨.vmem, 35, rfl⟩
abbrev cc2_stg4_1 : Ref sig .tc := ⟨.vmem, 36, rfl⟩
abbrev cc2_stg5_0 : Ref sig .tc := ⟨.vmem, 37, rfl⟩
abbrev cc2_stg5_1 : Ref sig .tc := ⟨.vmem, 38, rfl⟩
abbrev cc2_scratch0 : Ref sig .tc := ⟨.vmem, 39, rfl⟩
abbrev cc2_scratch1 : Ref sig .tc := ⟨.vmem, 40, rfl⟩
abbrev cc3_stg0_0 : Ref sig .tc := ⟨.vmem, 41, rfl⟩
abbrev cc3_stg0_1 : Ref sig .tc := ⟨.vmem, 42, rfl⟩
abbrev cc3_stg1_0 : Ref sig .tc := ⟨.vmem, 43, rfl⟩
abbrev cc3_stg1_1 : Ref sig .tc := ⟨.vmem, 44, rfl⟩
abbrev cc3_stg2_0 : Ref sig .tc := ⟨.vmem, 45, rfl⟩
abbrev cc3_stg2_1 : Ref sig .tc := ⟨.vmem, 46, rfl⟩
abbrev cc3_stg3_0 : Ref sig .tc := ⟨.vmem, 47, rfl⟩
abbrev cc3_stg3_1 : Ref sig .tc := ⟨.vmem, 48, rfl⟩
abbrev cc3_stg4_0 : Ref sig .tc := ⟨.vmem, 49, rfl⟩
abbrev cc3_stg4_1 : Ref sig .tc := ⟨.vmem, 50, rfl⟩
abbrev cc3_stg5_0 : Ref sig .tc := ⟨.vmem, 51, rfl⟩
abbrev cc3_stg5_1 : Ref sig .tc := ⟨.vmem, 52, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12
abbrev cc1_sem0_0 : DmaSem sig := 13
abbrev cc1_sem0_1 : DmaSem sig := 14
abbrev cc1_sem1_0 : DmaSem sig := 15
abbrev cc1_sem2_0 : DmaSem sig := 16
abbrev cc1_sem3_0 : DmaSem sig := 17
abbrev cc1_sem3_1 : DmaSem sig := 18
abbrev cc1_sem4_0 : DmaSem sig := 19
abbrev cc1_sem4_1 : DmaSem sig := 20
abbrev cc1_sem5_0 : DmaSem sig := 21
abbrev cc1_sem5_1 : DmaSem sig := 22
abbrev cc2_sem0_0 : DmaSem sig := 23
abbrev cc2_sem0_1 : DmaSem sig := 24
abbrev cc2_sem1_0 : DmaSem sig := 25
abbrev cc2_sem1_1 : DmaSem sig := 26
abbrev cc2_sem2_0 : DmaSem sig := 27
abbrev cc2_sem2_1 : DmaSem sig := 28
abbrev cc2_sem3_0 : DmaSem sig := 29
abbrev cc2_sem3_1 : DmaSem sig := 30
abbrev cc2_sem4_0 : DmaSem sig := 31
abbrev cc2_sem4_1 : DmaSem sig := 32
abbrev cc2_sem5_0 : DmaSem sig := 33
abbrev cc2_sem5_1 : DmaSem sig := 34
abbrev cc3_sem0_0 : DmaSem sig := 35
abbrev cc3_sem0_1 : DmaSem sig := 36
abbrev cc3_sem1_0 : DmaSem sig := 37
abbrev cc3_sem1_1 : DmaSem sig := 38
abbrev cc3_sem2_0 : DmaSem sig := 39
abbrev cc3_sem2_1 : DmaSem sig := 40
abbrev cc3_sem3_0 : DmaSem sig := 41
abbrev cc3_sem3_1 : DmaSem sig := 42
abbrev cc3_sem4_0 : DmaSem sig := 43
abbrev cc3_sem4_1 : DmaSem sig := 44
abbrev cc3_sem5_0 : DmaSem sig := 45
abbrev cc3_sem5_1 : DmaSem sig := 46

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨2, ![1, 8], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.muli arg0 c3_i32
  let c40_i32 : BitVec 32 := 40#32
  let v1 : BitVec 32 := Scalar.addi c40_i32 v0
  let c128_i32 : BitVec 32 := 128#32
  let v2 : BitVec 32 := Scalar.muli v1 c128_i32
  let c1_i32 : BitVec 32 := 1#32
  let c0_i32 : BitVec 32 := 0#32
  let c0_i32_0 : BitVec 32 := 0#32
  ![c1_i32.toNat, c0_i32.toNat, v2.toNat]

def cc1_transform_2 (i : grid1.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.muli arg0 c3_i32
  let c83_i32 : BitVec 32 := 83#32
  let v1 : BitVec 32 := Scalar.addi c83_i32 v0
  let c128_i32 : BitVec 32 := 128#32
  let v2 : BitVec 32 := Scalar.muli v1 c128_i32
  let c1_i32 : BitVec 32 := 1#32
  let c0_i32 : BitVec 32 := 0#32
  let c0_i32_0 : BitVec 32 := 0#32
  ![c1_i32.toNat, c0_i32.toNat, v2.toNat]

def cc1_transform_3 (i : grid1.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c3_i32 : BitVec 32 := 3#32
  let v2 : BitVec 32 := Scalar.muli v1 c3_i32
  let c320_i32 : BitVec 32 := 320#32
  let v3 : BitVec 32 := Scalar.addi c320_i32 v2
  let c16_i32 : BitVec 32 := 16#32
  let v4 : BitVec 32 := Scalar.muli v3 c16_i32
  let c1_i32 : BitVec 32 := 1#32
  let c0_i32 : BitVec 32 := 0#32
  let c0_i32_0 : BitVec 32 := 0#32
  ![c1_i32.toNat, v4.toNat, c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_5 (i : grid1.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage1_0 : Fin 2 → Memref sig .tc .vmem S1024x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 1 → Memref sig .tc .vmem S1x2048x384 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![true, false]

abbrev stage1_2 : Fin 1 → Memref sig .tc .vmem S1x2048x384 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![true, false]

abbrev stage1_3 : Fin 2 → Memref sig .tc .vmem S1x48x2048 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1024x384 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S48x2048 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev grid2 : Pipeline.Grid := ⟨2, ![10, 8], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_1 (i : grid2.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let c0_i32 : BitVec 32 := 0#32
  let v1 : BitVec 32 := Scalar.addi c0_i32 v0
  let c128_i32 : BitVec 32 := 128#32
  let v2 : BitVec 32 := Scalar.muli v1 c128_i32
  let c1_i32 : BitVec 32 := 1#32
  let c0_i32_0 : BitVec 32 := 0#32
  let c0_i32_1 : BitVec 32 := 0#32
  ![c1_i32.toNat, c0_i32_0.toNat, v2.toNat]

def cc2_transform_2 (i : grid2.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let c43_i32 : BitVec 32 := 43#32
  let v1 : BitVec 32 := Scalar.addi c43_i32 v0
  let c128_i32 : BitVec 32 := 128#32
  let v2 : BitVec 32 := Scalar.muli v1 c128_i32
  let c1_i32 : BitVec 32 := 1#32
  let c0_i32 : BitVec 32 := 0#32
  let c0_i32_0 : BitVec 32 := 0#32
  ![c1_i32.toNat, c0_i32.toNat, v2.toNat]

def cc2_transform_3 (i : grid2.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c4_i32 : BitVec 32 := 4#32
  let v2 : BitVec 32 := Scalar.muli v1 c4_i32
  let c0_i32 : BitVec 32 := 0#32
  let v3 : BitVec 32 := Scalar.addi c0_i32 v2
  let c16_i32 : BitVec 32 := 16#32
  let v4 : BitVec 32 := Scalar.muli v3 c16_i32
  let c1_i32 : BitVec 32 := 1#32
  let c0_i32_0 : BitVec 32 := 0#32
  let c0_i32_1 : BitVec 32 := 0#32
  ![c1_i32.toNat, v4.toNat, c0_i32_0.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc2_transform_5 (i : grid2.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage2_0 : Fin 2 → Memref sig .tc .vmem S1024x2048 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![false, true]

abbrev stage2_1 : Fin 2 → Memref sig .tc .vmem S1x2048x512 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false]

abbrev stage2_2 : Fin 2 → Memref sig .tc .vmem S1x2048x512 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev stage2_3 : Fin 2 → Memref sig .tc .vmem S1x64x2048 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

abbrev stage2_4 : Fin 2 → Memref sig .tc .vmem S1024x512 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true]

abbrev stage2_5 : Fin 2 → Memref sig .tc .vmem S64x2048 .bf16 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, true]

abbrev grid3 : Pipeline.Grid := ⟨2, ![2, 16], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_3 (i : grid3.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c128_i32 : BitVec 32 := 128#32
  let v1 : BitVec 32 := Scalar.muli v0 c128_i32
  let c0_i32 : BitVec 32 := 0#32
  let c0_i32_0 : BitVec 32 := 0#32
  let c0_i32_1 : BitVec 32 := 0#32
  ![c0_i32.toNat, c0_i32_0.toNat, v1.toNat]

def cc3_transform_4 (i : grid3.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c128_i32 : BitVec 32 := 128#32
  let v1 : BitVec 32 := Scalar.muli v0 c128_i32
  let c0_i32 : BitVec 32 := 0#32
  let c0_i32_0 : BitVec 32 := 0#32
  let c0_i32_1 : BitVec 32 := 0#32
  ![c0_i32.toNat, c0_i32_0.toNat, v1.toNat]

def cc3_transform_5 (i : grid3.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage3_0 : Fin 2 → Memref sig .tc .vmem S512x1024 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 2 → Memref sig .tc .vmem S512x5120 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 2 → Memref sig .tc .vmem S512x384 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![false, true]

abbrev stage3_3 : Fin 2 → Memref sig .tc .vmem S1x5120x1024 .bf16 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, false]

abbrev stage3_4 : Fin 2 → Memref sig .tc .vmem S1x384x1024 .bf16 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true, false]

abbrev stage3_5 : Fin 2 → Memref sig .tc .vmem S512x1024 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true, true]
-- ==== Reference2Ideal.lean ====
abbrev S8192x2048 : Shape := ⟨2, ![8192, 2048]⟩
abbrev S2x1x8192x256 : Shape := ⟨4, ![2, 1, 8192, 256]⟩
abbrev S2048 : Shape := ⟨1, ![2048]⟩
abbrev S2x2048x2048 : Shape := ⟨3, ![2, 2048, 2048]⟩
abbrev S2x256x2048 : Shape := ⟨3, ![2, 256, 2048]⟩
abbrev S2x2048x11008 : Shape := ⟨3, ![2, 2048, 11008]⟩
abbrev S2x5504x2048 : Shape := ⟨3, ![2, 5504, 2048]⟩
abbrev S1x1x8192x256 : Shape := ⟨4, ![1, 1, 8192, 256]⟩
abbrev S8192x256 : Shape := ⟨2, ![8192, 256]⟩
abbrev S1x2048x2048 : Shape := ⟨3, ![1, 2048, 2048]⟩
abbrev S2048x2048 : Shape := ⟨2, ![2048, 2048]⟩
abbrev S1x256x2048 : Shape := ⟨3, ![1, 256, 2048]⟩
abbrev S256x2048 : Shape := ⟨2, ![256, 2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩
abbrev S1x2048x11008 : Shape := ⟨3, ![1, 2048, 11008]⟩
abbrev S2048x11008 : Shape := ⟨2, ![2048, 11008]⟩
abbrev S1x5504x2048 : Shape := ⟨3, ![1, 5504, 2048]⟩
abbrev S5504x2048 : Shape := ⟨2, ![5504, 2048]⟩
abbrev S8192x11008 : Shape := ⟨2, ![8192, 11008]⟩
abbrev S8192x5504 : Shape := ⟨2, ![8192, 5504]⟩

abbrev nBuf : Space → Nat
  | .hbm => 97
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2x1x8192x256, .f32⟩
  | .hbm, ⟨2, _⟩ => ⟨S2048, .f32⟩
  | .hbm, ⟨3, _⟩ => ⟨S2x2048x2048, .f32⟩
  | .hbm, ⟨4, _⟩ => ⟨S2x256x2048, .f32⟩
  | .hbm, ⟨5, _⟩ => ⟨S2048, .f32⟩
  | .hbm, ⟨6, _⟩ => ⟨S2048, .f32⟩
  | .hbm, ⟨7, _⟩ => ⟨S2x2048x11008, .f32⟩
  | .hbm, ⟨8, _⟩ => ⟨S2x5504x2048, .f32⟩
  | .hbm, ⟨9, _⟩ => ⟨S1x1x8192x256, .f32⟩
  | .hbm, ⟨10, _⟩ => ⟨S8192x256, .f32⟩
  | .hbm, ⟨11, _⟩ => ⟨S1x2048x2048, .f32⟩
  | .hbm, ⟨12, _⟩ => ⟨S2048x2048, .f32⟩
  | .hbm, ⟨13, _⟩ => ⟨S1x256x2048, .f32⟩
  | .hbm, ⟨14, _⟩ => ⟨S256x2048, .f32⟩
  | .hbm, ⟨15, _⟩ => ⟨S8192x2048, .f32⟩
  | .hbm, ⟨16, _⟩ => ⟨S8192x2048, .f32⟩
  | .hbm, ⟨17, _⟩ => ⟨S_, .f32⟩
  | .hbm, ⟨18, _⟩ => ⟨S8192, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S_, .f32⟩
  | .hbm, ⟨24, _⟩ => ⟨S8192x1, .f32⟩
  | .hbm, ⟨25, _⟩ => ⟨S8192x1, .f32⟩
  | .hbm, ⟨26, _⟩ => ⟨S8192x1, .f32⟩
  | .hbm, ⟨27, _⟩ => ⟨S8192x2048, .f32⟩
  | .hbm, ⟨28, _⟩ => ⟨S8192x2048, .f32⟩
  | .hbm, ⟨29, _⟩ => ⟨S1x2048, .f32⟩
  | .hbm, ⟨30, _⟩ => ⟨S8192x2048, .f32⟩
  | .hbm, ⟨31, _⟩ => ⟨S8192x2048, .f32⟩
  | .hbm, ⟨32, _⟩ => ⟨S8192x2048, .f32⟩
  | .hbm, ⟨33, _⟩ => ⟨S_, .f32⟩
  | .hbm, ⟨34, _⟩ => ⟨S8192, .f32⟩
  | .hbm, ⟨35, _⟩ => ⟨S8192x1, .f32⟩
  | .hbm, ⟨36, _⟩ => ⟨S_, .f32⟩
  | .hbm, ⟨37, _⟩ => ⟨S8192x1, .f32⟩
  | .hbm, ⟨38, _⟩ => ⟨S8192x1, .f32⟩
  | .hbm, ⟨39, _⟩ => ⟨S_, .f32⟩
  | .hbm, ⟨40, _⟩ => ⟨S8192x1, .f32⟩
  | .hbm, ⟨41, _⟩ => ⟨S8192x1, .f32⟩
  | .hbm, ⟨42, _⟩ => ⟨S8192x1, .f32⟩
  | .hbm, ⟨43, _⟩ => ⟨S8192x2048, .f32⟩
  | .hbm, ⟨44, _⟩ => ⟨S8192x2048, .f32⟩
  | .hbm, ⟨45, _⟩ => ⟨S1x2048, .f32⟩
  | .hbm, ⟨46, _⟩ => ⟨S8192x2048, .f32⟩
  | .hbm, ⟨47, _⟩ => ⟨S8192x2048, .f32⟩
  | .hbm, ⟨48, _⟩ => ⟨S8192x2048, .f32⟩
  | .hbm, ⟨49, _⟩ => ⟨S8192x2048, .f32⟩
  | .hbm, ⟨50, _⟩ => ⟨S8192x2048, .f32⟩
  | .hbm, ⟨51, _⟩ => ⟨S_, .f32⟩
  | .hbm, ⟨52, _⟩ => ⟨S8192x2048, .f32⟩
  | .hbm, ⟨53, _⟩ => ⟨S8192x2048, .f32⟩
  | .hbm, ⟨54, _⟩ => ⟨S_, .f32⟩
  | .hbm, ⟨55, _⟩ => ⟨S8192x2048, .f32⟩
  | .hbm, ⟨56, _⟩ => ⟨S8192x2048, .f32⟩
  | .hbm, ⟨57, _⟩ => ⟨S8192x2048, .f32⟩
  | .hbm, ⟨58, _⟩ => ⟨S8192x2048, .f32⟩
  | .hbm, ⟨59, _⟩ => ⟨S1x2048x11008, .f32⟩
  | .hbm, ⟨60, _⟩ => ⟨S2048x11008, .f32⟩
  | .hbm, ⟨61, _⟩ => ⟨S1x5504x2048, .f32⟩
  | .hbm, ⟨62, _⟩ => ⟨S5504x2048, .f32⟩
  | .hbm, ⟨63, _⟩ => ⟨S8192x2048, .f32⟩
  | .hbm, ⟨64, _⟩ => ⟨S_, .f32⟩
  | .hbm, ⟨65, _⟩ => ⟨S8192, .f32⟩
  | .hbm, ⟨66, _⟩ => ⟨S8192x1, .f32⟩
  | .hbm, ⟨67, _⟩ => ⟨S_, .f32⟩
  | .hbm, ⟨68, _⟩ => ⟨S8192x1, .f32⟩
  | .hbm, ⟨69, _⟩ => ⟨S8192x1, .f32⟩
  | .hbm, ⟨70, _⟩ => ⟨S_, .f32⟩
  | .hbm, ⟨71, _⟩ => ⟨S8192x1, .f32⟩
  | .hbm, ⟨72, _⟩ => ⟨S8192x1, .f32⟩
  | .hbm, ⟨73, _⟩ => ⟨S8192x1, .f32⟩
  | .hbm, ⟨74, _⟩ => ⟨S8192x2048, .f32⟩
  | .hbm, ⟨75, _⟩ => ⟨S8192x2048, .f32⟩
  | .hbm, ⟨76, _⟩ => ⟨S1x2048, .f32⟩
  | .hbm, ⟨77, _⟩ => ⟨S8192x2048, .f32⟩
  | .hbm, ⟨78, _⟩ => ⟨S8192x2048, .f32⟩
  | .hbm, ⟨79, _⟩ => ⟨S8192x11008, .f32⟩
  | .hbm, ⟨80, _⟩ => ⟨S8192x5504, .f32⟩
  | .hbm, ⟨81, _⟩ => ⟨S8192x5504, .f32⟩
  | .hbm, ⟨82, _⟩ => ⟨S8192x5504, .f32⟩
  | .hbm, ⟨83, _⟩ => ⟨S8192x5504, .f32⟩
  | .hbm, ⟨84, _⟩ => ⟨S_, .f32⟩
  | .hbm, ⟨85, _⟩ => ⟨S8192x5504, .f32⟩
  | .hbm, ⟨86, _⟩ => ⟨S8192x5504, .f32⟩
  | .hbm, ⟨87, _⟩ => ⟨S_, .f32⟩
  | .hbm, ⟨88, _⟩ => ⟨S8192x5504, .f32⟩
  | .hbm, ⟨89, _⟩ => ⟨S8192x5504, .f32⟩
  | .hbm, ⟨90, _⟩ => ⟨S8192x5504, .f32⟩
  | .hbm, ⟨91, _⟩ => ⟨S8192x5504, .f32⟩
  | .hbm, ⟨92, _⟩ => ⟨S8192x2048, .f32⟩
  | .hbm, ⟨93, _⟩ => ⟨S_, .f32⟩
  | .hbm, ⟨94, _⟩ => ⟨S8192x2048, .f32⟩
  | .hbm, ⟨95, _⟩ => ⟨S8192x2048, .f32⟩
  | .hbm, ⟨96, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_v9 : Ref sig .tc := ⟨.hbm, 19, rfl⟩
abbrev main_cst_0 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_2 : Ref sig .tc := ⟨.hbm, 33, rfl⟩
abbrev main_v21 : Ref sig .tc := ⟨.hbm, 34, rfl⟩
abbrev main_v22 : Ref sig .tc := ⟨.hbm, 35, rfl⟩
abbrev main_cst_3 : Ref sig .tc := ⟨.hbm, 36, rfl⟩
abbrev main_v23 : Ref sig .tc := ⟨.hbm, 37, rfl⟩
abbrev main_v24 : Ref sig .tc := ⟨.hbm, 38, rfl⟩
abbrev main_cst_4 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_5 : Ref sig .tc := ⟨.hbm, 51, rfl⟩
abbrev main_v36 : Ref sig .tc := ⟨.hbm, 52, rfl⟩
abbrev main_v37 : Ref sig .tc := ⟨.hbm, 53, rfl⟩
abbrev main_cst_6 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_cst_7 : Ref sig .tc := ⟨.hbm, 64, rfl⟩
abbrev main_v47 : Ref sig .tc := ⟨.hbm, 65, rfl⟩
abbrev main_v48 : Ref sig .tc := ⟨.hbm, 66, rfl⟩
abbrev main_cst_8 : Ref sig .tc := ⟨.hbm, 67, rfl⟩
abbrev main_v49 : Ref sig .tc := ⟨.hbm, 68, rfl⟩
abbrev main_v50 : Ref sig .tc := ⟨.hbm, 69, rfl⟩
abbrev main_cst_9 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_call0_v0 : Ref sig .tc := ⟨.hbm, 82, rfl⟩
abbrev main_call0_v1 : Ref sig .tc := ⟨.hbm, 83, rfl⟩
abbrev main_call0_cst : Ref sig .tc := ⟨.hbm, 84, rfl⟩
abbrev main_call0_v2 : Ref sig .tc := ⟨.hbm, 85, rfl⟩
abbrev main_call0_v3 : Ref sig .tc := ⟨.hbm, 86, rfl⟩
abbrev main_call0_cst_0 : Ref sig .tc := ⟨.hbm, 87, rfl⟩
abbrev main_call0_v4 : Ref sig .tc := ⟨.hbm, 88, rfl⟩
abbrev main_call0_v5 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_cst_10 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩

abbrev nD : Nat := 1
abbrev τ : Topo := Topo.v7x

variable {F : FTy → Type} [FloatOps F]
-- ==== Kernel3.lean ====
abbrev S8192x2048 : Shape := ⟨2, ![8192, 2048]⟩
abbrev S2048 : Shape := ⟨1, ![2048]⟩
abbrev S2x2048x11008 : Shape := ⟨3, ![2, 2048, 11008]⟩
abbrev S2x5504x2048 : Shape := ⟨3, ![2, 5504, 2048]⟩
abbrev S2x1x8192x256 : Shape := ⟨4, ![2, 1, 8192, 256]⟩
abbrev S2x2048x2048 : Shape := ⟨3, ![2, 2048, 2048]⟩
abbrev S2x256x2048 : Shape := ⟨3, ![2, 256, 2048]⟩
abbrev S1x2048 : Shape := ⟨2, ![1, 2048]⟩
abbrev S8192x384 : Shape := ⟨2, ![8192, 384]⟩
abbrev S384x2048 : Shape := ⟨2, ![384, 2048]⟩
abbrev S1024x2048 : Shape := ⟨2, ![1024, 2048]⟩
abbrev S1x2048x384 : Shape := ⟨3, ![1, 2048, 384]⟩
abbrev S1x48x2048 : Shape := ⟨3, ![1, 48, 2048]⟩
abbrev S1024x384 : Shape := ⟨2, ![1024, 384]⟩
abbrev S48x2048 : Shape := ⟨2, ![48, 2048]⟩
abbrev S2048x384 : Shape := ⟨2, ![2048, 384]⟩
abbrev S1024 : Shape := ⟨1, ![1024]⟩
abbrev S1024x1 : Shape := ⟨2, ![1024, 1]⟩
abbrev S8192x5120 : Shape := ⟨2, ![8192, 5120]⟩
abbrev S5120x2048 : Shape := ⟨2, ![5120, 2048]⟩
abbrev S1x2048x512 : Shape := ⟨3, ![1, 2048, 512]⟩
abbrev S1x64x2048 : Shape := ⟨3, ![1, 64, 2048]⟩
abbrev S1024x512 : Shape := ⟨2, ![1024, 512]⟩
abbrev S64x2048 : Shape := ⟨2, ![64, 2048]⟩
abbrev S2048x512 : Shape := ⟨2, ![2048, 512]⟩
abbrev S1x5120x2048 : Shape := ⟨3, ![1, 5120, 2048]⟩
abbrev S1x384x2048 : Shape := ⟨3, ![1, 384, 2048]⟩
abbrev S512x1024 : Shape := ⟨2, ![512, 1024]⟩
abbrev S512x5120 : Shape := ⟨2, ![512, 5120]⟩
abbrev S512x384 : Shape := ⟨2, ![512, 384]⟩
abbrev S1x5120x1024 : Shape := ⟨3, ![1, 5120, 1024]⟩
abbrev S1x384x1024 : Shape := ⟨3, ![1, 384, 1024]⟩
abbrev S5120x1024 : Shape := ⟨2, ![5120, 1024]⟩
abbrev S384x1024 : Shape := ⟨2, ![384, 1024]⟩
abbrev S256x2048 : Shape := ⟨2, ![256, 2048]⟩
abbrev S1x1x256x256 : Shape := ⟨4, ![1, 1, 256, 256]⟩
abbrev S1x2048x2048 : Shape := ⟨3, ![1, 2048, 2048]⟩
abbrev S1x256x2048 : Shape := ⟨3, ![1, 256, 2048]⟩
abbrev S2048x2048 : Shape := ⟨2, ![2048, 2048]⟩
abbrev S256 : Shape := ⟨1, ![256]⟩
abbrev S256x1 : Shape := ⟨2, ![256, 1]⟩
abbrev S256x256 : Shape := ⟨2, ![256, 256]⟩
abbrev S1x8192x2048 : Shape := ⟨3, ![1, 8192, 2048]⟩

abbrev nBuf : Space → Nat
  | .hbm => 24
  | .vmem => 54
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2x2048x11008, .f32⟩
  | .hbm, ⟨3, _⟩ => ⟨S2x5504x2048, .f32⟩
  | .hbm, ⟨4, _⟩ => ⟨S2x1x8192x256, .f32⟩
  | .hbm, ⟨5, _⟩ => ⟨S2048, .f32⟩
  | .hbm, ⟨6, _⟩ => ⟨S2x2048x2048, .f32⟩
  | .hbm, ⟨7, _⟩ => ⟨S2x256x2048, .f32⟩
  | .hbm, ⟨8, _⟩ => ⟨S2048, .f32⟩
  | .hbm, ⟨9, _⟩ => ⟨S2048, .f32⟩
  | .hbm, ⟨10, _⟩ => ⟨S1x2048, .f32⟩
  | .hbm, ⟨11, _⟩ => ⟨S8192x384, .bf16⟩
  | .hbm, ⟨12, _⟩ => ⟨S8192x2048, .bf16⟩
  | .hbm, ⟨13, _⟩ => ⟨S384x2048, .bf16⟩
  | .hbm, ⟨14, _⟩ => ⟨S8192x5120, .bf16⟩
  | .hbm, ⟨15, _⟩ => ⟨S5120x2048, .bf16⟩
  | .hbm, ⟨16, _⟩ => ⟨S1x5120x2048, .bf16⟩
  | .hbm, ⟨17, _⟩ => ⟨S1x384x2048, .bf16⟩
  | .hbm, ⟨18, _⟩ => ⟨S8192x2048, .f32⟩
  | .hbm, ⟨19, _⟩ => ⟨S1x2048, .f32⟩
  | .hbm, ⟨20, _⟩ => ⟨S1x2048, .f32⟩
  | .hbm, ⟨21, _⟩ => ⟨S1x2048, .f32⟩
  | .hbm, ⟨22, _⟩ => ⟨S8192x2048, .f32⟩
  | .hbm, ⟨23, _⟩ => ⟨S1x8192x2048, .f32⟩
  | .local _ .vmem, ⟨0, _⟩ => ⟨S1024x2048, .f32⟩
  | .local _ .vmem, ⟨1, _⟩ => ⟨S1024x2048, .f32⟩
  | .local _ .vmem, ⟨2, _⟩ => ⟨S1x2048x384, .f32⟩
  | .local _ .vmem, ⟨3, _⟩ => ⟨S1x2048x384, .f32⟩
  | .local _ .vmem, ⟨4, _⟩ => ⟨S1x2048, .f32⟩
  | .local _ .vmem, ⟨5, _⟩ => ⟨S1x48x2048, .f32⟩
  | .local _ .vmem, ⟨6, _⟩ => ⟨S1x48x2048, .f32⟩
  | .local _ .vmem, ⟨7, _⟩ => ⟨S1024x384, .bf16⟩
  | .local _ .vmem, ⟨8, _⟩ => ⟨S1024x384, .bf16⟩
  | .local _ .vmem, ⟨9, _⟩ => ⟨S1024x2048, .bf16⟩
  | .local _ .vmem, ⟨10, _⟩ => ⟨S1024x2048, .bf16⟩
  | .local _ .vmem, ⟨11, _⟩ => ⟨S48x2048, .bf16⟩
  | .local _ .vmem, ⟨12, _⟩ => ⟨S48x2048, .bf16⟩
  | .local _ .vmem, ⟨13, _⟩ => ⟨S2048x384, .bf16⟩
  | .local _ .vmem, ⟨14, _⟩ => ⟨S2048x384, .bf16⟩
  | .local _ .vmem, ⟨15, _⟩ => ⟨S1024x2048, .bf16⟩
  | .local _ .vmem, ⟨16, _⟩ => ⟨S1024x2048, .bf16⟩
  | .local _ .vmem, ⟨17, _⟩ => ⟨S1x2048x512, .f32⟩
  | .local _ .vmem, ⟨18, _⟩ => ⟨S1x2048x512, .f32⟩
  | .local _ .vmem, ⟨19, _⟩ => ⟨S1x2048x512, .f32⟩
  | .local _ .vmem, ⟨20, _⟩ => ⟨S1x2048x512, .f32⟩
  | .local _ .vmem, ⟨21, _⟩ => ⟨S1x64x2048, .f32⟩
  | .local _ .vmem, ⟨22, _⟩ => ⟨S1x64x2048, .f32⟩
  | .local _ .vmem, ⟨23, _⟩ => ⟨S1024x512, .bf16⟩
  | .local _ .vmem, ⟨24, _⟩ => ⟨S1024x512, .bf16⟩
  | .local _ .vmem, ⟨25, _⟩ => ⟨S64x2048, .bf16⟩
  | .local _ .vmem, ⟨26, _⟩ => ⟨S64x2048, .bf16⟩
  | .local _ .vmem, ⟨27, _⟩ => ⟨S2048x512, .bf16⟩
  | .local _ .vmem, ⟨28, _⟩ => ⟨S2048x512, .bf16⟩
  | .local _ .vmem, ⟨29, _⟩ => ⟨S512x1024, .f32⟩
  | .local _ .vmem, ⟨30, _⟩ => ⟨S512x1024, .f32⟩
  | .local _ .vmem, ⟨31, _⟩ => ⟨S512x5120, .bf16⟩
  | .local _ .vmem, ⟨32, _⟩ => ⟨S512x5120, .bf16⟩
  | .local _ .vmem, ⟨33, _⟩ => ⟨S512x384, .bf16⟩
  | .local _ .vmem, ⟨34, _⟩ => ⟨S512x384, .bf16⟩
  | .local _ .vmem, ⟨35, _⟩ => ⟨S1x5120x1024, .bf16⟩
  | .local _ .vmem, ⟨36, _⟩ => ⟨S1x5120x1024, .bf16⟩
  | .local _ .vmem, ⟨37, _⟩ => ⟨S1x384x1024, .bf16⟩
  | .local _ .vmem, ⟨38, _⟩ => ⟨S1x384x1024, .bf16⟩
  | .local _ .vmem, ⟨39, _⟩ => ⟨S512x1024, .f32⟩
  | .local _ .vmem, ⟨40, _⟩ => ⟨S512x1024, .f32⟩
  | .local _ .vmem, ⟨41, _⟩ => ⟨S256x2048, .f32⟩
  | .local _ .vmem, ⟨42, _⟩ => ⟨S256x2048, .f32⟩
  | .local _ .vmem, ⟨43, _⟩ => ⟨S1x1x256x256, .f32⟩
  | .local _ .vmem, ⟨44, _⟩ => ⟨S1x1x256x256, .f32⟩
  | .local _ .vmem, ⟨45, _⟩ => ⟨S1x2048x2048, .f32⟩
  | .local _ .vmem, ⟨46, _⟩ => ⟨S1x256x2048, .f32⟩
  | .local _ .vmem, ⟨47, _⟩ => ⟨S1x2048, .f32⟩
  | .local _ .vmem, ⟨48, _⟩ => ⟨S1x2048, .f32⟩
  | .local _ .vmem, ⟨49, _⟩ => ⟨S1x2048, .f32⟩
  | .local _ .vmem, ⟨50, _⟩ => ⟨S256x2048, .f32⟩
  | .local _ .vmem, ⟨51, _⟩ => ⟨S256x2048, .f32⟩
  | .local _ .vmem, ⟨52, _⟩ => ⟨S2048x2048, .bf16⟩
  | .local _ .vmem, ⟨53, _⟩ => ⟨S256x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | _, _ => false

abbrev semScoped : Fin 0 → Bool
  | ⟨_, h⟩ => absurd h (Nat.not_lt_zero _)

abbrev dmaSemScoped : Fin 48 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | _ => false

abbrev sig : RefSig :=
  ofTc nBuf bufTy 0 48 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1_0 : Ref sig .tc := ⟨.hbm, 11, rfl⟩
abbrev main_v1_1 : Ref sig .tc := ⟨.hbm, 12, rfl⟩
abbrev main_v1_2 : Ref sig .tc := ⟨.hbm, 13, rfl⟩
abbrev main_v2_0 : Ref sig .tc := ⟨.hbm, 14, rfl⟩
abbrev main_v2_1 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_scratch0 : Ref sig .tc := ⟨.vmem, 13, rfl⟩
abbrev cc0_scratch1 : Ref sig .tc := ⟨.vmem, 14, rfl⟩
abbrev cc1_stg0_0 : Ref sig .tc := ⟨.vmem, 15, rfl⟩
abbrev cc1_stg0_1 : Ref sig .tc := ⟨.vmem, 16, rfl⟩
abbrev cc1_stg1_0 : Ref sig .tc := ⟨.vmem, 17, rfl⟩
abbrev cc1_stg1_1 : Ref sig .tc := ⟨.vmem, 18, rfl⟩
abbrev cc1_stg2_0 : Ref sig .tc := ⟨.vmem, 19, rfl⟩
abbrev cc1_stg2_1 : Ref sig .tc := ⟨.vmem, 20, rfl⟩
abbrev cc1_stg3_0 : Ref sig .tc := ⟨.vmem, 21, rfl⟩
abbrev cc1_stg3_1 : Ref sig .tc := ⟨.vmem, 22, rfl⟩
abbrev cc1_stg4_0 : Ref sig .tc := ⟨.vmem, 23, rfl⟩
abbrev cc1_stg4_1 : Ref sig .tc := ⟨.vmem, 24, rfl⟩
abbrev cc1_stg5_0 : Ref sig .tc := ⟨.vmem, 25, rfl⟩
abbrev cc1_stg5_1 : Ref sig .tc := ⟨.vmem, 26, rfl⟩
abbrev cc1_scratch0 : Ref sig .tc := ⟨.vmem, 27, rfl⟩
abbrev cc1_scratch1 : Ref sig .tc := ⟨.vmem, 28, rfl⟩
abbrev cc2_stg0_0 : Ref sig .tc := ⟨.vmem, 29, rfl⟩
abbrev cc2_stg0_1 : Ref sig .tc := ⟨.vmem, 30, rfl⟩
abbrev cc2_stg1_0 : Ref sig .tc := ⟨.vmem, 31, rfl⟩
abbrev cc2_stg1_1 : Ref sig .tc := ⟨.vmem, 32, rfl⟩
abbrev cc2_stg2_0 : Ref sig .tc := ⟨.vmem, 33, rfl⟩
abbrev cc2_stg2_1 : Ref sig .tc := ⟨.vmem, 34, rfl⟩
abbrev cc2_stg3_0 : Ref sig .tc := ⟨.vmem, 35, rfl⟩
abbrev cc2_stg3_1 : Ref sig .tc := ⟨.vmem, 36, rfl⟩
abbrev cc2_stg4_0 : Ref sig .tc := ⟨.vmem, 37, rfl⟩
abbrev cc2_stg4_1 : Ref sig .tc := ⟨.vmem, 38, rfl⟩
abbrev cc2_stg5_0 : Ref sig .tc := ⟨.vmem, 39, rfl⟩
abbrev cc2_stg5_1 : Ref sig .tc := ⟨.vmem, 40, rfl⟩
abbrev cc3_stg0_0 : Ref sig .tc := ⟨.vmem, 41, rfl⟩
abbrev cc3_stg0_1 : Ref sig .tc := ⟨.vmem, 42, rfl⟩
abbrev cc3_stg1_0 : Ref sig .tc := ⟨.vmem, 43, rfl⟩
abbrev cc3_stg1_1 : Ref sig .tc := ⟨.vmem, 44, rfl⟩
abbrev cc3_stg2_0 : Ref sig .tc := ⟨.vmem, 45, rfl⟩
abbrev cc3_stg3_0 : Ref sig .tc := ⟨.vmem, 46, rfl⟩
abbrev cc3_stg4_0 : Ref sig .tc := ⟨.vmem, 47, rfl⟩
abbrev cc3_stg5_0 : Ref sig .tc := ⟨.vmem, 48, rfl⟩
abbrev cc3_stg6_0 : Ref sig .tc := ⟨.vmem, 49, rfl⟩
abbrev cc3_stg7_0 : Ref sig .tc := ⟨.vmem, 50, rfl⟩
abbrev cc3_stg7_1 : Ref sig .tc := ⟨.vmem, 51, rfl⟩
abbrev cc3_scratch0 : Ref sig .tc := ⟨.vmem, 52, rfl⟩
abbrev cc3_scratch1 : Ref sig .tc := ⟨.vmem, 53, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc1_sem0_0 : DmaSem sig := 13
abbrev cc1_sem0_1 : DmaSem sig := 14
abbrev cc1_sem1_0 : DmaSem sig := 15
abbrev cc1_sem1_1 : DmaSem sig := 16
abbrev cc1_sem2_0 : DmaSem sig := 17
abbrev cc1_sem2_1 : DmaSem sig := 18
abbrev cc1_sem3_0 : DmaSem sig := 19
abbrev cc1_sem3_1 : DmaSem sig := 20
abbrev cc1_sem4_0 : DmaSem sig := 21
abbrev cc1_sem4_1 : DmaSem sig := 22
abbrev cc1_sem5_0 : DmaSem sig := 23
abbrev cc1_sem5_1 : DmaSem sig := 24
abbrev cc2_sem0_0 : DmaSem sig := 25
abbrev cc2_sem0_1 : DmaSem sig := 26
abbrev cc2_sem1_0 : DmaSem sig := 27
abbrev cc2_sem1_1 : DmaSem sig := 28
abbrev cc2_sem2_0 : DmaSem sig := 29
abbrev cc2_sem2_1 : DmaSem sig := 30
abbrev cc2_sem3_0 : DmaSem sig := 31
abbrev cc2_sem3_1 : DmaSem sig := 32
abbrev cc2_sem4_0 : DmaSem sig := 33
abbrev cc2_sem4_1 : DmaSem sig := 34
abbrev cc2_sem5_0 : DmaSem sig := 35
abbrev cc2_sem5_1 : DmaSem sig := 36
abbrev cc3_sem0_0 : DmaSem sig := 37
abbrev cc3_sem0_1 : DmaSem sig := 38
abbrev cc3_sem1_0 : DmaSem sig := 39
abbrev cc3_sem1_1 : DmaSem sig := 40
abbrev cc3_sem2_0 : DmaSem sig := 41
abbrev cc3_sem3_0 : DmaSem sig := 42
abbrev cc3_sem4_0 : DmaSem sig := 43
abbrev cc3_sem5_0 : DmaSem sig := 44
abbrev cc3_sem6_0 : DmaSem sig := 45
abbrev cc3_sem7_0 : DmaSem sig := 46
abbrev cc3_sem7_1 : DmaSem sig := 47

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.muli arg0 c3_i32
  let c40_i32 : BitVec 32 := 40#32
  let v1 : BitVec 32 := Scalar.addi c40_i32 v0
  let c128_i32 : BitVec 32 := 128#32
  let v2 : BitVec 32 := Scalar.muli v1 c128_i32
  let c1_i32 : BitVec 32 := 1#32
  let c0_i32 : BitVec 32 := 0#32
  let c0_i32_0 : BitVec 32 := 0#32
  ![c1_i32.toNat, c0_i32.toNat, v2.toNat]

def cc0_transform_2 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.muli arg0 c3_i32
  let c83_i32 : BitVec 32 := 83#32
  let v1 : BitVec 32 := Scalar.addi c83_i32 v0
  let c128_i32 : BitVec 32 := 128#32
  let v2 : BitVec 32 := Scalar.muli v1 c128_i32
  let c1_i32 : BitVec 32 := 1#32
  let c0_i32 : BitVec 32 := 0#32
  let c0_i32_0 : BitVec 32 := 0#32
  ![c1_i32.toNat, c0_i32.toNat, v2.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c3_i32 : BitVec 32 := 3#32
  let v2 : BitVec 32 := Scalar.muli v1 c3_i32
  let c320_i32 : BitVec 32 := 320#32
  let v3 : BitVec 32 := Scalar.addi c320_i32 v2
  let c16_i32 : BitVec 32 := 16#32
  let v4 : BitVec 32 := Scalar.muli v3 c16_i32
  let c1_i32 : BitVec 32 := 1#32
  let c0_i32 : BitVec 32 := 0#32
  let c0_i32_0 : BitVec 32 := 0#32
  ![c1_i32.toNat, v4.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x2048x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S1x2048x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x48x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x384 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S48x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev grid1 : Pipeline.Grid := ⟨2, ![10, 8], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let c0_i32 : BitVec 32 := 0#32
  let v1 : BitVec 32 := Scalar.addi c0_i32 v0
  let c128_i32 : BitVec 32 := 128#32
  let v2 : BitVec 32 := Scalar.muli v1 c128_i32
  let c1_i32 : BitVec 32 := 1#32
  let c0_i32_0 : BitVec 32 := 0#32
  let c0_i32_1 : BitVec 32 := 0#32
  ![c1_i32.toNat, c0_i32_0.toNat, v2.toNat]

def cc1_transform_2 (i : grid1.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let c43_i32 : BitVec 32 := 43#32
  let v1 : BitVec 32 := Scalar.addi c43_i32 v0
  let c128_i32 : BitVec 32 := 128#32
  let v2 : BitVec 32 := Scalar.muli v1 c128_i32
  let c1_i32 : BitVec 32 := 1#32
  let c0_i32 : BitVec 32 := 0#32
  let c0_i32_0 : BitVec 32 := 0#32
  ![c1_i32.toNat, c0_i32.toNat, v2.toNat]

def cc1_transform_3 (i : grid1.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c4_i32 : BitVec 32 := 4#32
  let v2 : BitVec 32 := Scalar.muli v1 c4_i32
  let c0_i32 : BitVec 32 := 0#32
  let v3 : BitVec 32 := Scalar.addi c0_i32 v2
  let c16_i32 : BitVec 32 := 16#32
  let v4 : BitVec 32 := Scalar.muli v3 c16_i32
  let c1_i32 : BitVec 32 := 1#32
  let c0_i32_0 : BitVec 32 := 0#32
  let c0_i32_1 : BitVec 32 := 0#32
  ![c1_i32.toNat, v4.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_5 (i : grid1.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage1_0 : Fin 2 → Memref sig .tc .vmem S1024x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S1x2048x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x2048x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x64x2048 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1024x512 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S64x2048 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev grid2 : Pipeline.Grid := ⟨2, ![2, 16], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_3 (i : grid2.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c128_i32 : BitVec 32 := 128#32
  let v1 : BitVec 32 := Scalar.muli v0 c128_i32
  let c0_i32 : BitVec 32 := 0#32
  let c0_i32_0 : BitVec 32 := 0#32
  let c0_i32_1 : BitVec 32 := 0#32
  ![c0_i32.toNat, c0_i32_0.toNat, v1.toNat]

def cc2_transform_4 (i : grid2.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c128_i32 : BitVec 32 := 128#32
  let v1 : BitVec 32 := Scalar.muli v0 c128_i32
  let c0_i32 : BitVec 32 := 0#32
  let c0_i32_0 : BitVec 32 := 0#32
  let c0_i32_1 : BitVec 32 := 0#32
  ![c0_i32.toNat, c0_i32_0.toNat, v1.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage2_0 : Fin 2 → Memref sig .tc .vmem S512x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S512x5120 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S512x384 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![false, true]

abbrev stage2_3 : Fin 2 → Memref sig .tc .vmem S1x5120x1024 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

abbrev stage2_4 : Fin 2 → Memref sig .tc .vmem S1x384x1024 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, false]

abbrev stage2_5 : Fin 2 → Memref sig .tc .vmem S512x1024 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, true]

abbrev grid3 : Pipeline.Grid := ⟨1, ![32], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 4 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, arg0.toNat, c0_i32_0.toNat]

def cc3_transform_2 (i : grid3.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc3_transform_3 (i : grid3.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S256x2048 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S1x1x256x256 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x2048x2048 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x256x2048 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x2048 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x2048 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x2048 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 2 → Memref sig .tc .vmem S256x2048 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]
-- ==== Reference3Ideal.lean ====
abbrev S8192x2048 : Shape := ⟨2, ![8192, 2048]⟩
abbrev S2048 : Shape := ⟨1, ![2048]⟩
abbrev S2x2048x11008 : Shape := ⟨3, ![2, 2048, 11008]⟩
abbrev S2x5504x2048 : Shape := ⟨3, ![2, 5504, 2048]⟩
abbrev S2x1x8192x256 : Shape := ⟨4, ![2, 1, 8192, 256]⟩
abbrev S2x2048x2048 : Shape := ⟨3, ![2, 2048, 2048]⟩
abbrev S2x256x2048 : Shape := ⟨3, ![2, 256, 2048]⟩
abbrev S1x2048x11008 : Shape := ⟨3, ![1, 2048, 11008]⟩
abbrev S2048x11008 : Shape := ⟨2, ![2048, 11008]⟩
abbrev S1x5504x2048 : Shape := ⟨3, ![1, 5504, 2048]⟩
abbrev S5504x2048 : Shape := ⟨2, ![5504, 2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩
abbrev S8192x11008 : Shape := ⟨2, ![8192, 11008]⟩
abbrev S8192x5504 : Shape := ⟨2, ![8192, 5504]⟩
abbrev S1x1x8192x256 : Shape := ⟨4, ![1, 1, 8192, 256]⟩
abbrev S8192x256 : Shape := ⟨2, ![8192, 256]⟩
abbrev S1x2048x2048 : Shape := ⟨3, ![1, 2048, 2048]⟩
abbrev S2048x2048 : Shape := ⟨2, ![2048, 2048]⟩
abbrev S1x256x2048 : Shape := ⟨3, ![1, 256, 2048]⟩
abbrev S256x2048 : Shape := ⟨2, ![256, 2048]⟩
abbrev S1x8192x2048 : Shape := ⟨3, ![1, 8192, 2048]⟩

abbrev nBuf : Space → Nat
  | .hbm => 115
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2x2048x11008, .f32⟩
  | .hbm, ⟨3, _⟩ => ⟨S2x5504x2048, .f32⟩
  | .hbm, ⟨4, _⟩ => ⟨S2x1x8192x256, .f32⟩
  | .hbm, ⟨5, _⟩ => ⟨S2048, .f32⟩
  | .hbm, ⟨6, _⟩ => ⟨S2x2048x2048, .f32⟩
  | .hbm, ⟨7, _⟩ => ⟨S2x256x2048, .f32⟩
  | .hbm, ⟨8, _⟩ => ⟨S2048, .f32⟩
  | .hbm, ⟨9, _⟩ => ⟨S2048, .f32⟩
  | .hbm, ⟨10, _⟩ => ⟨S1x2048x11008, .f32⟩
  | .hbm, ⟨11, _⟩ => ⟨S2048x11008, .f32⟩
  | .hbm, ⟨12, _⟩ => ⟨S1x5504x2048, .f32⟩
  | .hbm, ⟨13, _⟩ => ⟨S5504x2048, .f32⟩
  | .hbm, ⟨14, _⟩ => ⟨S8192x2048, .f32⟩
  | .hbm, ⟨15, _⟩ => ⟨S_, .f32⟩
  | .hbm, ⟨16, _⟩ => ⟨S8192, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S_, .f32⟩
  | .hbm, ⟨22, _⟩ => ⟨S8192x1, .f32⟩
  | .hbm, ⟨23, _⟩ => ⟨S8192x1, .f32⟩
  | .hbm, ⟨24, _⟩ => ⟨S8192x1, .f32⟩
  | .hbm, ⟨25, _⟩ => ⟨S8192x2048, .f32⟩
  | .hbm, ⟨26, _⟩ => ⟨S8192x2048, .f32⟩
  | .hbm, ⟨27, _⟩ => ⟨S1x2048, .f32⟩
  | .hbm, ⟨28, _⟩ => ⟨S8192x2048, .f32⟩
  | .hbm, ⟨29, _⟩ => ⟨S8192x2048, .f32⟩
  | .hbm, ⟨30, _⟩ => ⟨S8192x11008, .f32⟩
  | .hbm, ⟨31, _⟩ => ⟨S8192x5504, .f32⟩
  | .hbm, ⟨32, _⟩ => ⟨S8192x5504, .f32⟩
  | .hbm, ⟨33, _⟩ => ⟨S8192x5504, .f32⟩
  | .hbm, ⟨34, _⟩ => ⟨S8192x5504, .f32⟩
  | .hbm, ⟨35, _⟩ => ⟨S_, .f32⟩
  | .hbm, ⟨36, _⟩ => ⟨S8192x5504, .f32⟩
  | .hbm, ⟨37, _⟩ => ⟨S8192x5504, .f32⟩
  | .hbm, ⟨38, _⟩ => ⟨S_, .f32⟩
  | .hbm, ⟨39, _⟩ => ⟨S8192x5504, .f32⟩
  | .hbm, ⟨40, _⟩ => ⟨S8192x5504, .f32⟩
  | .hbm, ⟨41, _⟩ => ⟨S8192x5504, .f32⟩
  | .hbm, ⟨42, _⟩ => ⟨S8192x5504, .f32⟩
  | .hbm, ⟨43, _⟩ => ⟨S8192x2048, .f32⟩
  | .hbm, ⟨44, _⟩ => ⟨S_, .f32⟩
  | .hbm, ⟨45, _⟩ => ⟨S8192x2048, .f32⟩
  | .hbm, ⟨46, _⟩ => ⟨S8192x2048, .f32⟩
  | .hbm, ⟨47, _⟩ => ⟨S8192x2048, .f32⟩
  | .hbm, ⟨48, _⟩ => ⟨S1x1x8192x256, .f32⟩
  | .hbm, ⟨49, _⟩ => ⟨S8192x256, .f32⟩
  | .hbm, ⟨50, _⟩ => ⟨S1x2048x2048, .f32⟩
  | .hbm, ⟨51, _⟩ => ⟨S2048x2048, .f32⟩
  | .hbm, ⟨52, _⟩ => ⟨S1x256x2048, .f32⟩
  | .hbm, ⟨53, _⟩ => ⟨S256x2048, .f32⟩
  | .hbm, ⟨54, _⟩ => ⟨S8192x2048, .f32⟩
  | .hbm, ⟨55, _⟩ => ⟨S8192x2048, .f32⟩
  | .hbm, ⟨56, _⟩ => ⟨S_, .f32⟩
  | .hbm, ⟨57, _⟩ => ⟨S8192, .f32⟩
  | .hbm, ⟨58, _⟩ => ⟨S8192x1, .f32⟩
  | .hbm, ⟨59, _⟩ => ⟨S_, .f32⟩
  | .hbm, ⟨60, _⟩ => ⟨S8192x1, .f32⟩
  | .hbm, ⟨61, _⟩ => ⟨S8192x1, .f32⟩
  | .hbm, ⟨62, _⟩ => ⟨S_, .f32⟩
  | .hbm, ⟨63, _⟩ => ⟨S8192x1, .f32⟩
  | .hbm, ⟨64, _⟩ => ⟨S8192x1, .f32⟩
  | .hbm, ⟨65, _⟩ => ⟨S8192x1, .f32⟩
  | .hbm, ⟨66, _⟩ => ⟨S8192x2048, .f32⟩
  | .hbm, ⟨67, _⟩ => ⟨S8192x2048, .f32⟩
  | .hbm, ⟨68, _⟩ => ⟨S1x2048, .f32⟩
  | .hbm, ⟨69, _⟩ => ⟨S8192x2048, .f32⟩
  | .hbm, ⟨70, _⟩ => ⟨S8192x2048, .f32⟩
  | .hbm, ⟨71, _⟩ => ⟨S8192x2048, .f32⟩
  | .hbm, ⟨72, _⟩ => ⟨S_, .f32⟩
  | .hbm, ⟨73, _⟩ => ⟨S8192, .f32⟩
  | .hbm, ⟨74, _⟩ => ⟨S8192x1, .f32⟩
  | .hbm, ⟨75, _⟩ => ⟨S_, .f32⟩
  | .hbm, ⟨76, _⟩ => ⟨S8192x1, .f32⟩
  | .hbm, ⟨77, _⟩ => ⟨S8192x1, .f32⟩
  | .hbm, ⟨78, _⟩ => ⟨S_, .f32⟩
  | .hbm, ⟨79, _⟩ => ⟨S8192x1, .f32⟩
  | .hbm, ⟨80, _⟩ => ⟨S8192x1, .f32⟩
  | .hbm, ⟨81, _⟩ => ⟨S8192x1, .f32⟩
  | .hbm, ⟨82, _⟩ => ⟨S8192x2048, .f32⟩
  | .hbm, ⟨83, _⟩ => ⟨S8192x2048, .f32⟩
  | .hbm, ⟨84, _⟩ => ⟨S1x2048, .f32⟩
  | .hbm, ⟨85, _⟩ => ⟨S8192x2048, .f32⟩
  | .hbm, ⟨86, _⟩ => ⟨S8192x2048, .f32⟩
  | .hbm, ⟨87, _⟩ => ⟨S8192x2048, .f32⟩
  | .hbm, ⟨88, _⟩ => ⟨S8192x2048, .f32⟩
  | .hbm, ⟨89, _⟩ => ⟨S8192x2048, .f32⟩
  | .hbm, ⟨90, _⟩ => ⟨S_, .f32⟩
  | .hbm, ⟨91, _⟩ => ⟨S8192x2048, .f32⟩
  | .hbm, ⟨92, _⟩ => ⟨S8192x2048, .f32⟩
  | .hbm, ⟨93, _⟩ => ⟨S_, .f32⟩
  | .hbm, ⟨94, _⟩ => ⟨S8192x2048, .f32⟩
  | .hbm, ⟨95, _⟩ => ⟨S8192x2048, .f32⟩
  | .hbm, ⟨96, _⟩ => ⟨S8192x2048, .f32⟩
  | .hbm, ⟨97, _⟩ => ⟨S8192x2048, .f32⟩
  | .hbm, ⟨98, _⟩ => ⟨S8192x2048, .f32⟩
  | .hbm, ⟨99, _⟩ => ⟨S_, .f32⟩
  | .hbm, ⟨100, _⟩ => ⟨S8192, .f32⟩
  | .hbm, ⟨101, _⟩ => ⟨S8192x1, .f32⟩
  | .hbm, ⟨102, _⟩ => ⟨S_, .f32⟩
  | .hbm, ⟨103, _⟩ => ⟨S8192x1, .f32⟩
  | .hbm, ⟨104, _⟩ => ⟨S8192x1, .f32⟩
  | .hbm, ⟨105, _⟩ => ⟨S_, .f32⟩
  | .hbm, ⟨106, _⟩ => ⟨S8192x1, .f32⟩
  | .hbm, ⟨107, _⟩ => ⟨S8192x1, .f32⟩
  | .hbm, ⟨108, _⟩ => ⟨S8192x1, .f32⟩
  | .hbm, ⟨109, _⟩ => ⟨S8192x2048, .f32⟩
  | .hbm, ⟨110, _⟩ => ⟨S8192x2048, .f32⟩
  | .hbm, ⟨111, _⟩ => ⟨S1x2048, .f32⟩
  | .hbm, ⟨112, _⟩ => ⟨S8192x2048, .f32⟩
  | .hbm, ⟨113, _⟩ => ⟨S8192x2048, .f32⟩
  | .hbm, ⟨114, _⟩ => ⟨S1x8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst : Ref sig .tc := ⟨.hbm, 15, rfl⟩
abbrev main_v5 : Ref sig .tc := ⟨.hbm, 16, rfl⟩
abbrev main_v6 : Ref sig .tc := ⟨.hbm, 17, rfl⟩
abbrev main_cst_0 : Ref sig .tc := ⟨.hbm, 18, rfl⟩
abbrev main_v7 : Ref sig .tc := ⟨.hbm, 19, rfl⟩
abbrev main_v8 : Ref sig .tc := ⟨.hbm, 20, rfl⟩
abbrev main_cst_1 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_call0_v0 : Ref sig .tc := ⟨.hbm, 33, rfl⟩
abbrev main_call0_v1 : Ref sig .tc := ⟨.hbm, 34, rfl⟩
abbrev main_call0_cst : Ref sig .tc := ⟨.hbm, 35, rfl⟩
abbrev main_call0_v2 : Ref sig .tc := ⟨.hbm, 36, rfl⟩
abbrev main_call0_v3 : Ref sig .tc := ⟨.hbm, 37, rfl⟩
abbrev main_call0_cst_0 : Ref sig .tc := ⟨.hbm, 38, rfl⟩
abbrev main_call0_v4 : Ref sig .tc := ⟨.hbm, 39, rfl⟩
abbrev main_call0_v5 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_cst_2 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_cst_3 : Ref sig .tc := ⟨.hbm, 56, rfl⟩
abbrev main_v34 : Ref sig .tc := ⟨.hbm, 57, rfl⟩
abbrev main_v35 : Ref sig .tc := ⟨.hbm, 58, rfl⟩
abbrev main_cst_4 : Ref sig .tc := ⟨.hbm, 59, rfl⟩
abbrev main_v36 : Ref sig .tc := ⟨.hbm, 60, rfl⟩
abbrev main_v37 : Ref sig .tc := ⟨.hbm, 61, rfl⟩
abbrev main_cst_5 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_cst_6 : Ref sig .tc := ⟨.hbm, 72, rfl⟩
abbrev main_v47 : Ref sig .tc := ⟨.hbm, 73, rfl⟩
abbrev main_v48 : Ref sig .tc := ⟨.hbm, 74, rfl⟩
abbrev main_cst_7 : Ref sig .tc := ⟨.hbm, 75, rfl⟩
abbrev main_v49 : Ref sig .tc := ⟨.hbm, 76, rfl⟩
abbrev main_v50 : Ref sig .tc := ⟨.hbm, 77, rfl⟩
abbrev main_cst_8 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_cst_9 : Ref sig .tc := ⟨.hbm, 90, rfl⟩
abbrev main_v62 : Ref sig .tc := ⟨.hbm, 91, rfl⟩
abbrev main_v63 : Ref sig .tc := ⟨.hbm, 92, rfl⟩
abbrev main_cst_10 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_cst_11 : Ref sig .tc := ⟨.hbm, 99, rfl⟩
abbrev main_v69 : Ref sig .tc := ⟨.hbm, 100, rfl⟩
abbrev main_v70 : Ref sig .tc := ⟨.hbm, 101, rfl⟩
abbrev main_cst_12 : Ref sig .tc := ⟨.hbm, 102, rfl⟩
abbrev main_v71 : Ref sig .tc := ⟨.hbm, 103, rfl⟩
abbrev main_v72 : Ref sig .tc := ⟨.hbm, 104, rfl⟩
abbrev main_cst_13 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩

abbrev nD : Nat := 1
abbrev τ : Topo := Topo.v7x

variable {F : FTy → Type} [FloatOps F]
-- ==== Kernel4.lean ====
abbrev S8192x2048 : Shape := ⟨2, ![8192, 2048]⟩
abbrev S2048 : Shape := ⟨1, ![2048]⟩
abbrev S1x2048x13344 : Shape := ⟨3, ![1, 2048, 13344]⟩
abbrev S1x13344x2048 : Shape := ⟨3, ![1, 13344, 2048]⟩
abbrev S1x2048 : Shape := ⟨2, ![1, 2048]⟩
abbrev S8192x128 : Shape := ⟨2, ![8192, 128]⟩
abbrev S1024x2048 : Shape := ⟨2, ![1024, 2048]⟩
abbrev S1x128x2048 : Shape := ⟨3, ![1, 128, 2048]⟩
abbrev S1024x128 : Shape := ⟨2, ![1024, 128]⟩
abbrev S128x2048 : Shape := ⟨2, ![128, 2048]⟩
abbrev S1024 : Shape := ⟨1, ![1024]⟩
abbrev S1024x1 : Shape := ⟨2, ![1024, 1]⟩
abbrev S8192x5120 : Shape := ⟨2, ![8192, 5120]⟩
abbrev S1x1024x2048 : Shape := ⟨3, ![1, 1024, 2048]⟩
abbrev S1024x1024 : Shape := ⟨2, ![1024, 1024]⟩
abbrev S8192x6144 : Shape := ⟨2, ![8192, 6144]⟩
abbrev S8192x32 : Shape := ⟨2, ![8192, 32]⟩

abbrev nBuf : Space → Nat
  | .hbm => 11
  | .vmem => 30
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S1x2048x13344, .f32⟩
  | .hbm, ⟨3, _⟩ => ⟨S1x13344x2048, .f32⟩
  | .hbm, ⟨4, _⟩ => ⟨S1x2048, .f32⟩
  | .hbm, ⟨5, _⟩ => ⟨S8192x128, .f32⟩
  | .hbm, ⟨6, _⟩ => ⟨S8192x2048, .bf16⟩
  | .hbm, ⟨7, _⟩ => ⟨S8192x5120, .bf16⟩
  | .hbm, ⟨8, _⟩ => ⟨S8192x6144, .bf16⟩
  | .hbm, ⟨9, _⟩ => ⟨S8192x2048, .f32⟩
  | .hbm, ⟨10, _⟩ => ⟨S8192x32, .f32⟩
  | .local _ .vmem, ⟨0, _⟩ => ⟨S1024x2048, .f32⟩
  | .local _ .vmem, ⟨1, _⟩ => ⟨S1024x2048, .f32⟩
  | .local _ .vmem, ⟨2, _⟩ => ⟨S1x128x2048, .f32⟩
  | .local _ .vmem, ⟨3, _⟩ => ⟨S1x2048, .f32⟩
  | .local _ .vmem, ⟨4, _⟩ => ⟨S1024x128, .f32⟩
  | .local _ .vmem, ⟨5, _⟩ => ⟨S1024x128, .f32⟩
  | .local _ .vmem, ⟨6, _⟩ => ⟨S1024x2048, .bf16⟩
  | .local _ .vmem, ⟨7, _⟩ => ⟨S1024x2048, .bf16⟩
  | .local _ .vmem, ⟨8, _⟩ => ⟨S128x2048, .bf16⟩
  | .local _ .vmem, ⟨9, _⟩ => ⟨S1024x2048, .bf16⟩
  | .local _ .vmem, ⟨10, _⟩ => ⟨S1024x2048, .bf16⟩
  | .local _ .vmem, ⟨11, _⟩ => ⟨S1x1024x2048, .f32⟩
  | .local _ .vmem, ⟨12, _⟩ => ⟨S1x1024x2048, .f32⟩
  | .local _ .vmem, ⟨13, _⟩ => ⟨S1024x1024, .bf16⟩
  | .local _ .vmem, ⟨14, _⟩ => ⟨S1024x1024, .bf16⟩
  | .local _ .vmem, ⟨15, _⟩ => ⟨S1024x2048, .bf16⟩
  | .local _ .vmem, ⟨16, _⟩ => ⟨S1024x2048, .bf16⟩
  | .local _ .vmem, ⟨17, _⟩ => ⟨S1024x2048, .bf16⟩
  | .local _ .vmem, ⟨18, _⟩ => ⟨S1x1024x2048, .f32⟩
  | .local _ .vmem, ⟨19, _⟩ => ⟨S1x1024x2048, .f32⟩
  | .local _ .vmem, ⟨20, _⟩ => ⟨S1024x1024, .bf16⟩
  | .local _ .vmem, ⟨21, _⟩ => ⟨S1024x1024, .bf16⟩
  | .local _ .vmem, ⟨22, _⟩ => ⟨S1024x2048, .bf16⟩
  | .local _ .vmem, ⟨23, _⟩ => ⟨S1024x2048, .bf16⟩
  | .local _ .vmem, ⟨24, _⟩ => ⟨S1024x2048, .bf16⟩
  | .local _ .vmem, ⟨25, _⟩ => ⟨S1x1024x2048, .f32⟩
  | .local _ .vmem, ⟨26, _⟩ => ⟨S1x1024x2048, .f32⟩
  | .local _ .vmem, ⟨27, _⟩ => ⟨S1024x1024, .f32⟩
  | .local _ .vmem, ⟨28, _⟩ => ⟨S1024x1024, .f32⟩
  | .local _ .vmem, ⟨29, _⟩ => ⟨S1024x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_scratch0 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg2_1 : Ref sig .tc := ⟨.vmem, 21, rfl⟩
abbrev cc2_scratch0 : Ref sig .tc := ⟨.vmem, 22, rfl⟩
abbrev cc3_stg0_0 : Ref sig .tc := ⟨.vmem, 23, rfl⟩
abbrev cc3_stg0_1 : Ref sig .tc := ⟨.vmem, 24, rfl⟩
abbrev cc3_stg1_0 : Ref sig .tc := ⟨.vmem, 25, rfl⟩
abbrev cc3_stg1_1 : Ref sig .tc := ⟨.vmem, 26, rfl⟩
abbrev cc3_stg2_0 : Ref sig .tc := ⟨.vmem, 27, rfl⟩
abbrev cc3_stg2_1 : Ref sig .tc := ⟨.vmem, 28, rfl⟩
abbrev cc3_scratch0 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem2_1 : DmaSem sig := 19
abbrev cc3_sem0_0 : DmaSem sig := 20
abbrev cc3_sem0_1 : DmaSem sig := 21
abbrev cc3_sem1_0 : DmaSem sig := 22
abbrev cc3_sem1_1 : DmaSem sig := 23
abbrev cc3_sem2_0 : DmaSem sig := 24
abbrev cc3_sem2_1 : DmaSem sig := 25

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c5120_i32 : BitVec 32 := 5120#32
  let c0_i32_0 : BitVec 32 := 0#32
  let c0_i32_1 : BitVec 32 := 0#32
  ![c0_i32.toNat, c5120_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x128x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev grid1 : Pipeline.Grid := ⟨2, ![5, 8], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c128_i32 : BitVec 32 := 128#32
  let v0 : BitVec 32 := Scalar.muli arg0 c128_i32
  let c8_i32 : BitVec 32 := 8#32
  let v1 : BitVec 32 := Scalar.muli v0 c8_i32
  let c0_i32 : BitVec 32 := 0#32
  let c0_i32_0 : BitVec 32 := 0#32
  let c0_i32_1 : BitVec 32 := 0#32
  ![c0_i32.toNat, v1.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage1_0 : Fin 2 → Memref sig .tc .vmem S1024x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S1x1024x2048 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1024x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev grid2 : Pipeline.Grid := ⟨2, ![6, 8], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_1 (i : grid2.Coords) : Fin 3 → Nat :=
  let arg0 : BitVec 32 := BitVec.ofNat 32 (i 0).val
  let arg1 : BitVec 32 := BitVec.ofNat 32 (i 1).val
  let c2_i32 : BitVec 32 := 2#32
  let v0 : BitVec 1 := Scalar.cmpi .sge arg0 c2_i32
  let c2_i32_0 : BitVec 32 := 2#32
  let c0_i32 : BitVec 32 := 0#32
  let v1 : BitVec 32 := Scalar.select v0 c2_i32_0 c0_i32
  let v2 : BitVec 32 := Scalar.addi arg0 v1
  let c128_i32 : BitVec 32 := 128#32
  let v3 : BitVec 32 := Scalar.muli v2 c128_i32
  let c644_i32 : BitVec 32 := 644#32
  let v4 : BitVec 32 := Scalar.addi c644_i32 v3
  let c8_i32 : BitVec 32 := 8#32
  let v5 : BitVec 32 := Scalar.muli v4 c8_i32
  let c0_i32_1 : BitVec 32 := 0#32
  let c0_i32_2 : BitVec 32 := 0#32
  let c0_i32_3 : BitVec 32 := 0#32
  ![c0_i32_1.toNat, v5.toNat, c0_i32_2.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage2_0 : Fin 2 → Memref sig .tc .vmem S1024x2048 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![false, true]

abbrev stage2_1 : Fin 2 → Memref sig .tc .vmem S1x1024x2048 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false]

abbrev stage2_2 : Fin 2 → Memref sig .tc .vmem S1024x1024 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev grid3 : Pipeline.Grid := ⟨2, ![2, 8], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_1 (i : grid3.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.addi arg0 c2_i32
  let c128_i32 : BitVec 32 := 128#32
  let v1 : BitVec 32 := Scalar.muli v0 c128_i32
  let c644_i32 : BitVec 32 := 644#32
  let v2 : BitVec 32 := Scalar.addi c644_i32 v1
  let c8_i32 : BitVec 32 := 8#32
  let v3 : BitVec 32 := Scalar.muli v2 c8_i32
  let c0_i32 : BitVec 32 := 0#32
  let c0_i32_0 : BitVec 32 := 0#32
  let c0_i32_1 : BitVec 32 := 0#32
  ![c0_i32.toNat, v3.toNat, c0_i32_0.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage3_0 : Fin 2 → Memref sig .tc .vmem S1024x2048 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![false, true]

abbrev stage3_1 : Fin 2 → Memref sig .tc .vmem S1x1024x2048 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, false]

abbrev stage3_2 : Fin 2 → Memref sig .tc .vmem S1024x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]
-- ==== Reference4Ideal.lean ====
abbrev S8192x2048 : Shape := ⟨2, ![8192, 2048]⟩
abbrev S2048 : Shape := ⟨1, ![2048]⟩
abbrev S1x2048x13344 : Shape := ⟨3, ![1, 2048, 13344]⟩
abbrev S_ : Shape := ⟨0, ![]⟩
abbrev S8192 : Shape := ⟨1, ![8192]⟩
abbrev S8192x1 : Shape := ⟨2, ![8192, 1]⟩
abbrev S1x2048 : Shape := ⟨2, ![1, 2048]⟩
abbrev S2048x13344 : Shape := ⟨2, ![2048, 13344]⟩
abbrev S8192x13344 : Shape := ⟨2, ![8192, 13344]⟩
abbrev S8192x3072 : Shape := ⟨2, ![8192, 3072]⟩
abbrev S8192x32 : Shape := ⟨2, ![8192, 32]⟩
abbrev S8192x5120 : Shape := ⟨2, ![8192, 5120]⟩
abbrev S8192x6144 : Shape := ⟨2, ![8192, 6144]⟩

abbrev nBuf : Space → Nat
  | .hbm => 32
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S1x2048x13344, .f32⟩
  | .hbm, ⟨3, _⟩ => ⟨S8192x2048, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x2048, .f32⟩
  | .hbm, ⟨15, _⟩ => ⟨S8192x2048, .f32⟩
  | .hbm, ⟨16, _⟩ => ⟨S1x2048, .f32⟩
  | .hbm, ⟨17, _⟩ => ⟨S8192x2048, .f32⟩
  | .hbm, ⟨18, _⟩ => ⟨S8192x2048, .f32⟩
  | .hbm, ⟨19, _⟩ => ⟨S2048x13344, .f32⟩
  | .hbm, ⟨20, _⟩ => ⟨S8192x13344, .f32⟩
  | .hbm, ⟨21, _⟩ => ⟨S8192x2048, .f32⟩
  | .hbm, ⟨22, _⟩ => ⟨S8192x3072, .f32⟩
  | .hbm, ⟨23, _⟩ => ⟨S8192x32, .f32⟩
  | .hbm, ⟨24, _⟩ => ⟨S8192x2048, .f32⟩
  | .hbm, ⟨25, _⟩ => ⟨S8192x2048, .f32⟩
  | .hbm, ⟨26, _⟩ => ⟨S8192x2048, .f32⟩
  | .hbm, ⟨27, _⟩ => ⟨S8192x2048, .f32⟩
  | .hbm, ⟨28, _⟩ => ⟨S8192x5120, .f32⟩
  | .hbm, ⟨29, _⟩ => ⟨S8192x5120, .bf16⟩
  | .hbm, ⟨30, _⟩ => ⟨S8192x6144, .f32⟩
  | .hbm, ⟨31, _⟩ => ⟨S8192x6144, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩

abbrev nD : Nat := 1
abbrev τ : Topo := Topo.v7x

variable {F : FTy → Type} [FloatOps F]
-- ==== Kernel5.lean ====
abbrev S8192x2048 : Shape := ⟨2, ![8192, 2048]⟩
abbrev S1x4096x2048 : Shape := ⟨3, ![1, 4096, 2048]⟩
abbrev S1x2048x6160 : Shape := ⟨3, ![1, 2048, 6160]⟩
abbrev S1x2048x2048 : Shape := ⟨3, ![1, 2048, 2048]⟩
abbrev S512x1024 : Shape := ⟨2, ![512, 1024]⟩
abbrev S512x2048 : Shape := ⟨2, ![512, 2048]⟩
abbrev S1x2048x1024 : Shape := ⟨3, ![1, 2048, 1024]⟩
abbrev S2048x1024 : Shape := ⟨2, ![2048, 1024]⟩
abbrev S1x6160x2048 : Shape := ⟨3, ![1, 6160, 2048]⟩
abbrev S8192x6144 : Shape := ⟨2, ![8192, 6144]⟩
abbrev S1024x2048 : Shape := ⟨2, ![1024, 2048]⟩
abbrev S1x1024x2048 : Shape := ⟨3, ![1, 1024, 2048]⟩
abbrev S1024x1024 : Shape := ⟨2, ![1024, 1024]⟩

abbrev nBuf : Space → Nat
  | .hbm => 13
  | .vmem => 28
  | .smem => 0
  | _ => 0

abbrev bufTy : (tb : Table) → Fin (tcTables nBuf tb) → BufTy
  | .hbm, ⟨0, _⟩ => ⟨S8192x2048, .f32⟩
  | .hbm, ⟨1, _⟩ => ⟨S8192x2048, .bf16⟩
  | .hbm, ⟨2, _⟩ => ⟨S8192x2048, .bf16⟩
  | .hbm, ⟨3, _⟩ => ⟨S1x4096x2048, .f32⟩
  | .hbm, ⟨4, _⟩ => ⟨S8192x2048, .bf16⟩
  | .hbm, ⟨5, _⟩ => ⟨S1x2048x6160, .f32⟩
  | .hbm, ⟨6, _⟩ => ⟨S8192x2048, .f32⟩
  | .hbm, ⟨7, _⟩ => ⟨S8192x2048, .bf16⟩
  | .hbm, ⟨8, _⟩ => ⟨S1x2048x2048, .f32⟩
  | .hbm, ⟨9, _⟩ => ⟨S8192x2048, .f32⟩
  | .hbm, ⟨10, _⟩ => ⟨S1x6160x2048, .f32⟩
  | .hbm, ⟨11, _⟩ => ⟨S8192x6144, .bf16⟩
  | .hbm, ⟨12, _⟩ => ⟨S8192x2048, .f32⟩
  | .local _ .vmem, ⟨0, _⟩ => ⟨S512x1024, .f32⟩
  | .local _ .vmem, ⟨1, _⟩ => ⟨S512x1024, .f32⟩
  | .local _ .vmem, ⟨2, _⟩ => ⟨S512x2048, .bf16⟩
  | .local _ .vmem, ⟨3, _⟩ => ⟨S512x2048, .bf16⟩
  | .local _ .vmem, ⟨4, _⟩ => ⟨S512x2048, .bf16⟩
  | .local _ .vmem, ⟨5, _⟩ => ⟨S512x2048, .bf16⟩
  | .local _ .vmem, ⟨6, _⟩ => ⟨S1x2048x1024, .f32⟩
  | .local _ .vmem, ⟨7, _⟩ => ⟨S1x2048x1024, .f32⟩
  | .local _ .vmem, ⟨8, _⟩ => ⟨S512x1024, .f32⟩
  | .local _ .vmem, ⟨9, _⟩ => ⟨S512x1024, .f32⟩
  | .local _ .vmem, ⟨10, _⟩ => ⟨S2048x1024, .bf16⟩
  | .local _ .vmem, ⟨11, _⟩ => ⟨S2048x1024, .bf16⟩
  | .local _ .vmem, ⟨12, _⟩ => ⟨S1024x2048, .bf16⟩
  | .local _ .vmem, ⟨13, _⟩ => ⟨S1024x2048, .bf16⟩
  | .local _ .vmem, ⟨14, _⟩ => ⟨S1x1024x2048, .f32⟩
  | .local _ .vmem, ⟨15, _⟩ => ⟨S1x1024x2048, .f32⟩
  | .local _ .vmem, ⟨16, _⟩ => ⟨S1024x1024, .bf16⟩
  | .local _ .vmem, ⟨17, _⟩ => ⟨S1024x1024, .bf16⟩
  | .local _ .vmem, ⟨18, _⟩ => ⟨S1024x2048, .bf16⟩
  | .local _ .vmem, ⟨19, _⟩ => ⟨S1024x1024, .f32⟩
  | .local _ .vmem, ⟨20, _⟩ => ⟨S1024x1024, .f32⟩
  | .local _ .vmem, ⟨21, _⟩ => ⟨S1024x2048, .bf16⟩
  | .local _ .vmem, ⟨22, _⟩ => ⟨S1024x2048, .bf16⟩
  | .local _ .vmem, ⟨23, _⟩ => ⟨S1x2048x1024, .f32⟩
  | .local _ .vmem, ⟨24, _⟩ => ⟨S1x2048x1024, .f32⟩
  | .local _ .vmem, ⟨25, _⟩ => ⟨S1024x1024, .f32⟩
  | .local _ .vmem, ⟨26, _⟩ => ⟨S1024x1024, .f32⟩
  | .local _ .vmem, ⟨27, _⟩ => ⟨S2048x1024, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_scratch0 : Ref sig .tc := ⟨.vmem, 18, rfl⟩
abbrev cc2_stg0_0 : Ref sig .tc := ⟨.vmem, 19, rfl⟩
abbrev cc2_stg0_1 : Ref sig .tc := ⟨.vmem, 20, rfl⟩
abbrev cc2_stg1_0 : Ref sig .tc := ⟨.vmem, 21, rfl⟩
abbrev cc2_stg1_1 : Ref sig .tc := ⟨.vmem, 22, rfl⟩
abbrev cc2_stg2_0 : Ref sig .tc := ⟨.vmem, 23, rfl⟩
abbrev cc2_stg2_1 : Ref sig .tc := ⟨.vmem, 24, rfl⟩
abbrev cc2_stg3_0 : Ref sig .tc := ⟨.vmem, 25, rfl⟩
abbrev cc2_stg3_1 : Ref sig .tc := ⟨.vmem, 26, rfl⟩
abbrev cc2_scratch0 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem2_1 : DmaSem sig := 21
abbrev cc2_sem3_0 : DmaSem sig := 22
abbrev cc2_sem3_1 : DmaSem sig := 23

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c128_i32 : BitVec 32 := 128#32
  let v1 : BitVec 32 := Scalar.muli v0 c128_i32
  let c0_i32 : BitVec 32 := 0#32
  let c0_i32_0 : BitVec 32 := 0#32
  let c0_i32_1 : BitVec 32 := 0#32
  ![c0_i32.toNat, c0_i32_0.toNat, v1.toNat]

def cc0_transform_4 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c128_i32 : BitVec 32 := 128#32
  let v1 : BitVec 32 := Scalar.muli v0 c128_i32
  let c0_i32 : BitVec 32 := 0#32
  let c2048_i32 : BitVec 32 := 2048#32
  let c0_i32_0 : BitVec 32 := 0#32
  ![c0_i32.toNat, c2048_i32.toNat, v1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1x2048x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 1 → Memref sig .tc .vmem S1x2048x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev grid1 : Pipeline.Grid := ⟨2, ![6, 8], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c128_i32 : BitVec 32 := 128#32
  let v0 : BitVec 32 := Scalar.muli arg0 c128_i32
  let c8_i32 : BitVec 32 := 8#32
  let v1 : BitVec 32 := Scalar.muli v0 c8_i32
  let c0_i32 : BitVec 32 := 0#32
  let c0_i32_0 : BitVec 32 := 0#32
  let c0_i32_1 : BitVec 32 := 0#32
  ![c0_i32.toNat, v1.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage1_0 : Fin 2 → Memref sig .tc .vmem S1024x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S1x1024x2048 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1024x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev grid2 : Pipeline.Grid := ⟨2, ![2, 8], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c128_i32 : BitVec 32 := 128#32
  let v1 : BitVec 32 := Scalar.muli v0 c128_i32
  let c0_i32 : BitVec 32 := 0#32
  let c0_i32_0 : BitVec 32 := 0#32
  let c0_i32_1 : BitVec 32 := 0#32
  ![c0_i32.toNat, c0_i32_0.toNat, v1.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage2_0 : Fin 2 → Memref sig .tc .vmem S1024x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1024x2048 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S1x2048x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev stage2_3 : Fin 2 → Memref sig .tc .vmem S1024x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]
-- ==== Reference5Ideal.lean ====
abbrev S8192x2048 : Shape := ⟨2, ![8192, 2048]⟩
abbrev S1x4096x2048 : Shape := ⟨3, ![1, 4096, 2048]⟩
abbrev S1x2048x6160 : Shape := ⟨3, ![1, 2048, 6160]⟩
abbrev S1x2048x2048 : Shape := ⟨3, ![1, 2048, 2048]⟩
abbrev S8192x4096 : Shape := ⟨2, ![8192, 4096]⟩
abbrev S4096x2048 : Shape := ⟨2, ![4096, 2048]⟩
abbrev S2048x6160 : Shape := ⟨2, ![2048, 6160]⟩
abbrev S8192x6160 : Shape := ⟨2, ![8192, 6160]⟩
abbrev S8192x16 : Shape := ⟨2, ![8192, 16]⟩
abbrev S_ : Shape := ⟨0, ![]⟩
abbrev S8192x6144 : Shape := ⟨2, ![8192, 6144]⟩
abbrev S2048x2048 : Shape := ⟨2, ![2048, 2048]⟩

abbrev nBuf : Space → Nat
  | .hbm => 30
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .bf16⟩
  | .hbm, ⟨2, _⟩ => ⟨S8192x2048, .bf16⟩
  | .hbm, ⟨3, _⟩ => ⟨S1x4096x2048, .f32⟩
  | .hbm, ⟨4, _⟩ => ⟨S8192x2048, .bf16⟩
  | .hbm, ⟨5, _⟩ => ⟨S1x2048x6160, .f32⟩
  | .hbm, ⟨6, _⟩ => ⟨S8192x2048, .f32⟩
  | .hbm, ⟨7, _⟩ => ⟨S8192x2048, .bf16⟩
  | .hbm, ⟨8, _⟩ => ⟨S1x2048x2048, .f32⟩
  | .hbm, ⟨9, _⟩ => ⟨S8192x4096, .bf16⟩
  | .hbm, ⟨10, _⟩ => ⟨S8192x4096, .f32⟩
  | .hbm, ⟨11, _⟩ => ⟨S4096x2048, .f32⟩
  | .hbm, ⟨12, _⟩ => ⟨S8192x2048, .f32⟩
  | .hbm, ⟨13, _⟩ => ⟨S8192x2048, .f32⟩
  | .hbm, ⟨14, _⟩ => ⟨S8192x2048, .f32⟩
  | .hbm, ⟨15, _⟩ => ⟨S2048x6160, .f32⟩
  | .hbm, ⟨16, _⟩ => ⟨S8192x6160, .f32⟩
  | .hbm, ⟨17, _⟩ => ⟨S8192x2048, .f32⟩
  | .hbm, ⟨18, _⟩ => ⟨S8192x2048, .f32⟩
  | .hbm, ⟨19, _⟩ => ⟨S8192x2048, .f32⟩
  | .hbm, ⟨20, _⟩ => ⟨S8192x16, .f32⟩
  | .hbm, ⟨21, _⟩ => ⟨S_, .f32⟩
  | .hbm, ⟨22, _⟩ => ⟨S8192x2048, .f32⟩
  | .hbm, ⟨23, _⟩ => ⟨S8192x2048, .f32⟩
  | .hbm, ⟨24, _⟩ => ⟨S8192x6144, .f32⟩
  | .hbm, ⟨25, _⟩ => ⟨S8192x6144, .bf16⟩
  | .hbm, ⟨26, _⟩ => ⟨S8192x2048, .f32⟩
  | .hbm, ⟨27, _⟩ => ⟨S2048x2048, .f32⟩
  | .hbm, ⟨28, _⟩ => ⟨S8192x2048, .f32⟩
  | .hbm, ⟨29, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩

abbrev nD : Nat := 1
abbrev τ : Topo := Topo.v7x

variable {F : FTy → Type} [FloatOps F]
-- ==== Kernel6.lean ====
abbrev S8192x2048 : Shape := ⟨2, ![8192, 2048]⟩
abbrev S2048 : Shape := ⟨1, ![2048]⟩
abbrev S1x2048x6160 : Shape := ⟨3, ![1, 2048, 6160]⟩
abbrev S16 : Shape := ⟨1, ![16]⟩
abbrev S1x6160x2048 : Shape := ⟨3, ![1, 6160, 2048]⟩
abbrev S_ : Shape := ⟨0, ![]⟩
abbrev S128 : Shape := ⟨1, ![128]⟩
abbrev S1x128 : Shape := ⟨2, ![1, 128]⟩
abbrev S1x2048 : Shape := ⟨2, ![1, 2048]⟩
abbrev S8192x128 : Shape := ⟨2, ![8192, 128]⟩
abbrev S128x8192 : Shape := ⟨2, ![128, 8192]⟩
abbrev S1024x2048 : Shape := ⟨2, ![1024, 2048]⟩
abbrev S1x128x2048 : Shape := ⟨3, ![1, 128, 2048]⟩
abbrev S1024x128 : Shape := ⟨2, ![1024, 128]⟩
abbrev S128x1024 : Shape := ⟨2, ![128, 1024]⟩
abbrev S128x2048 : Shape := ⟨2, ![128, 2048]⟩
abbrev S1024 : Shape := ⟨1, ![1024]⟩
abbrev S1024x1 : Shape := ⟨2, ![1024, 1]⟩
abbrev S128x128 : Shape := ⟨2, ![128, 128]⟩
abbrev S8192x16 : Shape := ⟨2, ![8192, 16]⟩
abbrev S16x8192 : Shape := ⟨2, ![16, 8192]⟩
abbrev S16x1x8192 : Shape := ⟨3, ![16, 1, 8192]⟩

abbrev nBuf : Space → Nat
  | .hbm => 16
  | .vmem => 13
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S1x2048x6160, .f32⟩
  | .hbm, ⟨3, _⟩ => ⟨S16, .f32⟩
  | .hbm, ⟨4, _⟩ => ⟨S1x6160x2048, .f32⟩
  | .hbm, ⟨5, _⟩ => ⟨S_, .i32⟩
  | .hbm, ⟨6, _⟩ => ⟨S_, .f32⟩
  | .hbm, ⟨7, _⟩ => ⟨S128, .f32⟩
  | .hbm, ⟨8, _⟩ => ⟨S1x128, .f32⟩
  | .hbm, ⟨9, _⟩ => ⟨S1x2048, .f32⟩
  | .hbm, ⟨10, _⟩ => ⟨S8192x128, .f32⟩
  | .hbm, ⟨11, _⟩ => ⟨S128x8192, .f32⟩
  | .hbm, ⟨12, _⟩ => ⟨S8192x2048, .bf16⟩
  | .hbm, ⟨13, _⟩ => ⟨S8192x16, .f32⟩
  | .hbm, ⟨14, _⟩ => ⟨S16x8192, .f32⟩
  | .hbm, ⟨15, _⟩ => ⟨S16x1x8192, .f32⟩
  | .local _ .vmem, ⟨0, _⟩ => ⟨S1024x2048, .f32⟩
  | .local _ .vmem, ⟨1, _⟩ => ⟨S1024x2048, .f32⟩
  | .local _ .vmem, ⟨2, _⟩ => ⟨S1x128x2048, .f32⟩
  | .local _ .vmem, ⟨3, _⟩ => ⟨S1x2048, .f32⟩
  | .local _ .vmem, ⟨4, _⟩ => ⟨S1x128, .f32⟩
  | .local _ .vmem, ⟨5, _⟩ => ⟨S1024x128, .f32⟩
  | .local _ .vmem, ⟨6, _⟩ => ⟨S1024x128, .f32⟩
  | .local _ .vmem, ⟨7, _⟩ => ⟨S128x1024, .f32⟩
  | .local _ .vmem, ⟨8, _⟩ => ⟨S128x1024, .f32⟩
  | .local _ .vmem, ⟨9, _⟩ => ⟨S1024x2048, .bf16⟩
  | .local _ .vmem, ⟨10, _⟩ => ⟨S1024x2048, .bf16⟩
  | .local _ .vmem, ⟨11, _⟩ => ⟨S128x2048, .bf16⟩
  | .local _ .vmem, ⟨12, _⟩ => ⟨S1x128, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev main_v4_2 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c6032_i32 : BitVec 32 := 6032#32
  let c0_i32_0 : BitVec 32 := 0#32
  let c0_i32_1 : BitVec 32 := 0#32
  ![c0_i32.toNat, c6032_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x128x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]
-- ==== Reference6Ideal.lean ====
abbrev S8192x2048 : Shape := ⟨2, ![8192, 2048]⟩
abbrev S2048 : Shape := ⟨1, ![2048]⟩
abbrev S1x2048x6160 : Shape := ⟨3, ![1, 2048, 6160]⟩
abbrev S16 : Shape := ⟨1, ![16]⟩
abbrev S_ : Shape := ⟨0, ![]⟩
abbrev S8192 : Shape := ⟨1, ![8192]⟩
abbrev S8192x1 : Shape := ⟨2, ![8192, 1]⟩
abbrev S1x2048 : Shape := ⟨2, ![1, 2048]⟩
abbrev S2048x6160 : Shape := ⟨2, ![2048, 6160]⟩
abbrev S8192x6160 : Shape := ⟨2, ![8192, 6160]⟩
abbrev S8192x16 : Shape := ⟨2, ![8192, 16]⟩
abbrev S1x16 : Shape := ⟨2, ![1, 16]⟩
abbrev S16x8192 : Shape := ⟨2, ![16, 8192]⟩
abbrev S16x1x8192 : Shape := ⟨3, ![16, 1, 8192]⟩

abbrev nBuf : Space → Nat
  | .hbm => 54
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S1x2048x6160, .f32⟩
  | .hbm, ⟨3, _⟩ => ⟨S16, .f32⟩
  | .hbm, ⟨4, _⟩ => ⟨S8192x2048, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x2048, .f32⟩
  | .hbm, ⟨16, _⟩ => ⟨S8192x2048, .f32⟩
  | .hbm, ⟨17, _⟩ => ⟨S1x2048, .f32⟩
  | .hbm, ⟨18, _⟩ => ⟨S8192x2048, .f32⟩
  | .hbm, ⟨19, _⟩ => ⟨S8192x2048, .f32⟩
  | .hbm, ⟨20, _⟩ => ⟨S2048x6160, .f32⟩
  | .hbm, ⟨21, _⟩ => ⟨S8192x6160, .f32⟩
  | .hbm, ⟨22, _⟩ => ⟨S8192x2048, .f32⟩
  | .hbm, ⟨23, _⟩ => ⟨S8192x2048, .f32⟩
  | .hbm, ⟨24, _⟩ => ⟨S8192x2048, .f32⟩
  | .hbm, ⟨25, _⟩ => ⟨S8192x16, .f32⟩
  | .hbm, ⟨26, _⟩ => ⟨S1x16, .f32⟩
  | .hbm, ⟨27, _⟩ => ⟨S8192x16, .f32⟩
  | .hbm, ⟨28, _⟩ => ⟨S8192x16, .f32⟩
  | .hbm, ⟨29, _⟩ => ⟨S8192x16, .f32⟩
  | .hbm, ⟨30, _⟩ => ⟨S_, .f32⟩
  | .hbm, ⟨31, _⟩ => ⟨S8192x16, .f32⟩
  | .hbm, ⟨32, _⟩ => ⟨S8192x16, .f32⟩
  | .hbm, ⟨33, _⟩ => ⟨S8192x16, .f32⟩
  | .hbm, ⟨34, _⟩ => ⟨S8192x16, .f32⟩
  | .hbm, ⟨35, _⟩ => ⟨S8192x16, .i1⟩
  | .hbm, ⟨36, _⟩ => ⟨S8192x16, .f32⟩
  | .hbm, ⟨37, _⟩ => ⟨S8192x16, .f32⟩
  | .hbm, ⟨38, _⟩ => ⟨S8192x16, .f32⟩
  | .hbm, ⟨39, _⟩ => ⟨S8192x16, .f32⟩
  | .hbm, ⟨40, _⟩ => ⟨S8192x16, .f32⟩
  | .hbm, ⟨41, _⟩ => ⟨S8192x16, .f32⟩
  | .hbm, ⟨42, _⟩ => ⟨S8192x16, .f32⟩
  | .hbm, ⟨43, _⟩ => ⟨S8192x16, .f32⟩
  | .hbm, ⟨44, _⟩ => ⟨S8192x16, .f32⟩
  | .hbm, ⟨45, _⟩ => ⟨S_, .f32⟩
  | .hbm, ⟨46, _⟩ => ⟨S_, .f32⟩
  | .hbm, ⟨47, _⟩ => ⟨S8192x16, .f32⟩
  | .hbm, ⟨48, _⟩ => ⟨S_, .f32⟩
  | .hbm, ⟨49, _⟩ => ⟨S8192x16, .f32⟩
  | .hbm, ⟨50, _⟩ => ⟨S8192x16, .f32⟩
  | .hbm, ⟨51, _⟩ => ⟨S16x8192, .f32⟩
  | .hbm, ⟨52, _⟩ => ⟨S16x1x8192, .f32⟩
  | .hbm, ⟨53, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_call0_v0 : Ref sig .tc := ⟨.hbm, 29, rfl⟩
abbrev main_call0_call0_cst : Ref sig .tc := ⟨.hbm, 30, rfl⟩
abbrev main_call0_call0_v0 : Ref sig .tc := ⟨.hbm, 31, rfl⟩
abbrev main_call0_call0_v1 : Ref sig .tc := ⟨.hbm, 32, rfl⟩
abbrev main_call0_call0_v2 : Ref sig .tc := ⟨.hbm, 33, rfl⟩
abbrev main_call0_call0_v3 : Ref sig .tc := ⟨.hbm, 34, rfl⟩
abbrev main_call0_call0_v4 : Ref sig .tc := ⟨.hbm, 35, rfl⟩
abbrev main_call0_call0_v5 : Ref sig .tc := ⟨.hbm, 36, rfl⟩
abbrev main_call0_call0_v6 : Ref sig .tc := ⟨.hbm, 37, rfl⟩
abbrev main_call0_call0_v7 : Ref sig .tc := ⟨.hbm, 38, rfl⟩
abbrev main_call0_call0_v8 : Ref sig .tc := ⟨.hbm, 39, rfl⟩
abbrev main_call0_call0_v9 : Ref sig .tc := ⟨.hbm, 40, rfl⟩
abbrev main_call0_call0_v10 : Ref sig .tc := ⟨.hbm, 41, rfl⟩
abbrev main_call0_call0_v11 : Ref sig .tc := ⟨.hbm, 42, rfl⟩
abbrev main_call0_v1 : Ref sig .tc := ⟨.hbm, 43, rfl⟩
abbrev main_v22 : Ref sig .tc := ⟨.hbm, 44, rfl⟩
abbrev main_call1_call0_cst : Ref sig .tc := ⟨.hbm, 45, rfl⟩
abbrev main_call1_call0_v0 : Ref sig .tc := ⟨.hbm, 46, rfl⟩
abbrev main_v23 : Ref sig .tc := ⟨.hbm, 47, rfl⟩
abbrev main_cst_2 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩

abbrev nD : Nat := 1
abbrev τ : Topo := Topo.v7x

variable {F : FTy → Type} [FloatOps F]
-- ==== Kernel7.lean ====
abbrev S8192x6144 : Shape := ⟨2, ![8192, 6144]⟩
abbrev S8192x16 : Shape := ⟨2, ![8192, 16]⟩
abbrev S_ : Shape := ⟨0, ![]⟩
abbrev S8192x128 : Shape := ⟨2, ![8192, 128]⟩
abbrev S16x8192 : Shape := ⟨2, ![16, 8192]⟩
abbrev S16x1x8192 : Shape := ⟨3, ![16, 1, 8192]⟩
abbrev S8192x2048 : Shape := ⟨2, ![8192, 2048]⟩
abbrev S1024x256 : Shape := ⟨2, ![1024, 256]⟩
abbrev S8192x256 : Shape := ⟨2, ![8192, 256]⟩
abbrev S2x1x8192 : Shape := ⟨3, ![2, 1, 8192]⟩
abbrev S1024x128 : Shape := ⟨2, ![1024, 128]⟩
abbrev S1x1x1024 : Shape := ⟨3, ![1, 1, 1024]⟩
abbrev S1x1024 : Shape := ⟨2, ![1, 1024]⟩
abbrev S128x1024 : Shape := ⟨2, ![128, 1024]⟩
abbrev S2048x128 : Shape := ⟨2, ![2048, 128]⟩
abbrev S2048 : Shape := ⟨1, ![2048]⟩
abbrev S2048x1 : Shape := ⟨2, ![2048, 1]⟩
abbrev S2048x1024 : Shape := ⟨2, ![2048, 1024]⟩
abbrev S1024 : Shape := ⟨1, ![1024]⟩
abbrev S1024x1 : Shape := ⟨2, ![1024, 1]⟩
abbrev S1024x1024 : Shape := ⟨2, ![1024, 1024]⟩
abbrev S512x128 : Shape := ⟨2, ![512, 128]⟩
abbrev S512 : Shape := ⟨1, ![512]⟩
abbrev S512x1 : Shape := ⟨2, ![512, 1]⟩
abbrev S512x1024 : Shape := ⟨2, ![512, 1024]⟩
abbrev S1x512 : Shape := ⟨2, ![1, 512]⟩
abbrev S128x512 : Shape := ⟨2, ![128, 512]⟩
abbrev S512x512 : Shape := ⟨2, ![512, 512]⟩

abbrev nBuf : Space → Nat
  | .hbm => 8
  | .vmem => 11
  | .smem => 0
  | _ => 0

abbrev bufTy : (tb : Table) → Fin (tcTables nBuf tb) → BufTy
  | .hbm, ⟨0, _⟩ => ⟨S8192x6144, .bf16⟩
  | .hbm, ⟨1, _⟩ => ⟨S8192x16, .f32⟩
  | .hbm, ⟨2, _⟩ => ⟨S_, .i32⟩
  | .hbm, ⟨3, _⟩ => ⟨S_, .f32⟩
  | .hbm, ⟨4, _⟩ => ⟨S8192x128, .f32⟩
  | .hbm, ⟨5, _⟩ => ⟨S16x8192, .f32⟩
  | .hbm, ⟨6, _⟩ => ⟨S16x1x8192, .f32⟩
  | .hbm, ⟨7, _⟩ => ⟨S8192x2048, .bf16⟩
  | .local _ .vmem, ⟨0, _⟩ => ⟨S1024x256, .bf16⟩
  | .local _ .vmem, ⟨1, _⟩ => ⟨S1024x256, .bf16⟩
  | .local _ .vmem, ⟨2, _⟩ => ⟨S8192x256, .bf16⟩
  | .local _ .vmem, ⟨3, _⟩ => ⟨S8192x256, .bf16⟩
  | .local _ .vmem, ⟨4, _⟩ => ⟨S8192x256, .bf16⟩
  | .local _ .vmem, ⟨5, _⟩ => ⟨S8192x256, .bf16⟩
  | .local _ .vmem, ⟨6, _⟩ => ⟨S8192x128, .f32⟩
  | .local _ .vmem, ⟨7, _⟩ => ⟨S2x1x8192, .f32⟩
  | .local _ .vmem, ⟨8, _⟩ => ⟨S2x1x8192, .f32⟩
  | .local _ .vmem, ⟨9, _⟩ => ⟨S1024x256, .bf16⟩
  | .local _ .vmem, ⟨10, _⟩ => ⟨S1024x256, .bf16⟩
  | _, _ => ⟨S8192x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![8, 8], ![false, false]⟩

def k0_mult1 (i : grid0.Coords) : BitVec 32 :=
  let arg1 : BitVec 32 := BitVec.ofNat 32 (i 1).val
  let c1024_i32 : BitVec 32 := 1024#32
  let v0 : BitVec 32 := Scalar.muli arg1 c1024_i32
  v0
def k0_off1 (i : grid0.Coords) : Fin 3 → Nat :=
  let c0_1 : Index := 0#32
  let c0_2 : Index := 0#32
  let arg1 : BitVec 32 := BitVec.ofNat 32 (i 1).val
  let c1024_i32 : BitVec 32 := 1024#32
  let v0 : BitVec 32 := Scalar.muli arg1 c1024_i32
  let v1 : BitVec 32 := v0
  let v3 : Index := Scalar.indexCast v1
  ![0, 0, v3.toNat]
def k0_off2 (i : grid0.Coords) : Fin 3 → Nat :=
  let c1 : Index := 1#32
  let c0_4 : Index := 0#32
  let arg1 : BitVec 32 := BitVec.ofNat 32 (i 1).val
  let c1024_i32 : BitVec 32 := 1024#32
  let v0 : BitVec 32 := Scalar.muli arg1 c1024_i32
  let v1 : BitVec 32 := v0
  let v7 : Index := Scalar.indexCast v1
  ![1, 0, v7.toNat]
@[reducible] def k0_t1_loop (i : grid0.Coords) : Scf.Loop 32 :=
  let c0_i32 : BitVec 32 := 0#32
  let arg1 : BitVec 32 := BitVec.ofNat 32 (i 1).val
  let c1_i32 : BitVec 32 := 1#32
  let v16 : BitVec 32 := Scalar.shrui arg1 c1_i32
  let v17 : BitVec 32 := Scalar.subi v16 c0_i32
  let c1_i32_10 : BitVec 32 := 1#32
  let v19 : BitVec 32 := Scalar.divsi v17 c1_i32_10
  let v20 : BitVec 32 := Scalar.muli v19 c1_i32_10
  let v21 : BitVec 32 := Scalar.addi c0_i32 v20
  let c1_i32_11 : BitVec 32 := 1#32
  ⟨c0_i32, v21, c1_i32_11⟩
def k0_mult2 (i : grid0.Coords) (k0_t1 : Fin (k0_t1_loop i).trips) : BitVec 32 :=
  let c0_i32 : BitVec 32 := 0#32
  let c1_i32_11 : BitVec 32 := 1#32
  let arg8 : BitVec 32 := Scf.iv c0_i32 c1_i32_11 k0_t1
  let c2048_i32_70 : BitVec 32 := 2048#32
  let v234 : BitVec 32 := Scalar.muli arg8 c2048_i32_70
  v234
def k0_off3 (i : grid0.Coords) (k0_t1 : Fin (k0_t1_loop i).trips) : Fin 2 → Nat :=
  let c0_i32 : BitVec 32 := 0#32
  let c1_i32_11 : BitVec 32 := 1#32
  let arg8 : BitVec 32 := Scf.iv c0_i32 c1_i32_11 k0_t1
  let c2048_i32_70 : BitVec 32 := 2048#32
  let v234 : BitVec 32 := Scalar.muli arg8 c2048_i32_70
  let v235 : BitVec 32 := v234
  let v237 : Index := Scalar.indexCast v235
  let c0_71 : Index := 0#32
  ![v237.toNat, 0]
def k0_off4 (i : grid0.Coords) (k0_t1 : Fin (k0_t1_loop i).trips) : Fin 2 → Nat :=
  let c0_i32 : BitVec 32 := 0#32
  let c1_i32_11 : BitVec 32 := 1#32
  let arg8 : BitVec 32 := Scf.iv c0_i32 c1_i32_11 k0_t1
  let c2048_i32_70 : BitVec 32 := 2048#32
  let v234 : BitVec 32 := Scalar.muli arg8 c2048_i32_70
  let v235 : BitVec 32 := v234
  let v240 : Index := Scalar.indexCast v235
  let c0_72 : Index := 0#32
  ![v240.toNat, 0]
def k0_off5 (i : grid0.Coords) (k0_t1 : Fin (k0_t1_loop i).trips) : Fin 2 → Nat :=
  let c0_i32 : BitVec 32 := 0#32
  let c1_i32_11 : BitVec 32 := 1#32
  let arg8 : BitVec 32 := Scf.iv c0_i32 c1_i32_11 k0_t1
  let c2048_i32_70 : BitVec 32 := 2048#32
  let v234 : BitVec 32 := Scalar.muli arg8 c2048_i32_70
  let v235 : BitVec 32 := v234
  let v275 : Index := Scalar.indexCast v235
  let c128_83 : Index := 128#32
  ![v275.toNat, 128]
@[reducible] def k0_t2_loop (i : grid0.Coords) : Scf.Loop 32 :=
  let c0_i32 : BitVec 32 := 0#32
  let arg1 : BitVec 32 := BitVec.ofNat 32 (i 1).val
  let c1_i32 : BitVec 32 := 1#32
  let v16 : BitVec 32 := Scalar.shrui arg1 c1_i32
  let v17 : BitVec 32 := Scalar.subi v16 c0_i32
  let c1_i32_10 : BitVec 32 := 1#32
  let v19 : BitVec 32 := Scalar.divsi v17 c1_i32_10
  let v20 : BitVec 32 := Scalar.muli v19 c1_i32_10
  let v21 : BitVec 32 := Scalar.addi c0_i32 v20
  let v18 : BitVec 32 := Scalar.addi c0_i32 v17
  let c1_i32_12 : BitVec 32 := 1#32
  ⟨v21, v18, c1_i32_12⟩
def k0_mult3 (i : grid0.Coords) (k0_t2 : Fin (k0_t2_loop i).trips) : BitVec 32 :=
  let c0_i32 : BitVec 32 := 0#32
  let arg1 : BitVec 32 := BitVec.ofNat 32 (i 1).val
  let c1_i32 : BitVec 32 := 1#32
  let v16 : BitVec 32 := Scalar.shrui arg1 c1_i32
  let v17 : BitVec 32 := Scalar.subi v16 c0_i32
  let c1_i32_10 : BitVec 32 := 1#32
  let v19 : BitVec 32 := Scalar.divsi v17 c1_i32_10
  let v20 : BitVec 32 := Scalar.muli v19 c1_i32_10
  let v21 : BitVec 32 := Scalar.addi c0_i32 v20
  let c1_i32_12 : BitVec 32 := 1#32
  let arg8 : BitVec 32 := Scf.iv v21 c1_i32_12 k0_t2
  let c2048_i32_70 : BitVec 32 := 2048#32
  let v234 : BitVec 32 := Scalar.muli arg8 c2048_i32_70
  v234
def k0_off6 (i : grid0.Coords) (k0_t2 : Fin (k0_t2_loop i).trips) : Fin 2 → Nat :=
  let c0_i32 : BitVec 32 := 0#32
  let arg1 : BitVec 32 := BitVec.ofNat 32 (i 1).val
  let c1_i32 : BitVec 32 := 1#32
  let v16 : BitVec 32 := Scalar.shrui arg1 c1_i32
  let v17 : BitVec 32 := Scalar.subi v16 c0_i32
  let c1_i32_10 : BitVec 32 := 1#32
  let v19 : BitVec 32 := Scalar.divsi v17 c1_i32_10
  let v20 : BitVec 32 := Scalar.muli v19 c1_i32_10
  let v21 : BitVec 32 := Scalar.addi c0_i32 v20
  let c1_i32_12 : BitVec 32 := 1#32
  let arg8 : BitVec 32 := Scf.iv v21 c1_i32_12 k0_t2
  let c2048_i32_70 : BitVec 32 := 2048#32
  let v234 : BitVec 32 := Scalar.muli arg8 c2048_i32_70
  let v235 : BitVec 32 := v234
  let v237 : Index := Scalar.indexCast v235
  let c0_71 : Index := 0#32
  ![v237.toNat, 0]
def k0_off7 (i : grid0.Coords) (k0_t2 : Fin (k0_t2_loop i).trips) : Fin 2 → Nat :=
  let c0_i32 : BitVec 32 := 0#32
  let arg1 : BitVec 32 := BitVec.ofNat 32 (i 1).val
  let c1_i32 : BitVec 32 := 1#32
  let v16 : BitVec 32 := Scalar.shrui arg1 c1_i32
  let v17 : BitVec 32 := Scalar.subi v16 c0_i32
  let c1_i32_10 : BitVec 32 := 1#32
  let v19 : BitVec 32 := Scalar.divsi v17 c1_i32_10
  let v20 : BitVec 32 := Scalar.muli v19 c1_i32_10
  let v21 : BitVec 32 := Scalar.addi c0_i32 v20
  let c1_i32_12 : BitVec 32 := 1#32
  let arg8 : BitVec 32 := Scf.iv v21 c1_i32_12 k0_t2
  let c2048_i32_70 : BitVec 32 := 2048#32
  let v234 : BitVec 32 := Scalar.muli arg8 c2048_i32_70
  let v235 : BitVec 32 := v234
  let v240 : Index := Scalar.indexCast v235
  let c0_72 : Index := 0#32
  ![v240.toNat, 0]
def k0_off8 (i : grid0.Coords) (k0_t2 : Fin (k0_t2_loop i).trips) : Fin 2 → Nat :=
  let c0_i32 : BitVec 32 := 0#32
  let arg1 : BitVec 32 := BitVec.ofNat 32 (i 1).val
  let c1_i32 : BitVec 32 := 1#32
  let v16 : BitVec 32 := Scalar.shrui arg1 c1_i32
  let v17 : BitVec 32 := Scalar.subi v16 c0_i32
  let c1_i32_10 : BitVec 32 := 1#32
  let v19 : BitVec 32 := Scalar.divsi v17 c1_i32_10
  let v20 : BitVec 32 := Scalar.muli v19 c1_i32_10
  let v21 : BitVec 32 := Scalar.addi c0_i32 v20
  let c1_i32_12 : BitVec 32 := 1#32
  let arg8 : BitVec 32 := Scf.iv v21 c1_i32_12 k0_t2
  let c2048_i32_70 : BitVec 32 := 2048#32
  let v234 : BitVec 32 := Scalar.muli arg8 c2048_i32_70
  let v235 : BitVec 32 := v234
  let v275 : Index := Scalar.indexCast v235
  let c128_83 : Index := 128#32
  ![v275.toNat, 128]
def k0_mult4 (i : grid0.Coords) : BitVec 32 :=
  let arg1 : BitVec 32 := BitVec.ofNat 32 (i 1).val
  let c1_i32 : BitVec 32 := 1#32
  let v16 : BitVec 32 := Scalar.shrui arg1 c1_i32
  let c2048_i32 : BitVec 32 := 2048#32
  let v24 : BitVec 32 := Scalar.muli v16 c2048_i32
  v24
@[reducible] def k0_t3_loop (i : grid0.Coords) : Scf.Loop 32 :=
  let c0_i32_14 : BitVec 32 := 0#32
  let arg1 : BitVec 32 := BitVec.ofNat 32 (i 1).val
  let c1_i32_13 : BitVec 32 := 1#32
  let v26 : BitVec 32 := Scalar.andi arg1 c1_i32_13
  let v27 : BitVec 32 := Scalar.subi v26 c0_i32_14
  let c1_i32_15 : BitVec 32 := 1#32
  let v29 : BitVec 32 := Scalar.divsi v27 c1_i32_15
  let v30 : BitVec 32 := Scalar.muli v29 c1_i32_15
  let v31 : BitVec 32 := Scalar.addi c0_i32_14 v30
  let c1_i32_16 : BitVec 32 := 1#32
  ⟨c0_i32_14, v31, c1_i32_16⟩
def k0_off9 (i : grid0.Coords) : Fin 2 → Nat :=
  let arg1 : BitVec 32 := BitVec.ofNat 32 (i 1).val
  let c1_i32 : BitVec 32 := 1#32
  let v16 : BitVec 32 := Scalar.shrui arg1 c1_i32
  let c2048_i32 : BitVec 32 := 2048#32
  let v24 : BitVec 32 := Scalar.muli v16 c2048_i32
  let v25 : BitVec 32 := v24
  let v235 : Index := Scalar.indexCast v25
  let c0_70 : Index := 0#32
  ![v235.toNat, 0]
def k0_off10 (i : grid0.Coords) : Fin 2 → Nat :=
  let arg1 : BitVec 32 := BitVec.ofNat 32 (i 1).val
  let c1_i32 : BitVec 32 := 1#32
  let v16 : BitVec 32 := Scalar.shrui arg1 c1_i32
  let c2048_i32 : BitVec 32 := 2048#32
  let v24 : BitVec 32 := Scalar.muli v16 c2048_i32
  let v25 : BitVec 32 := v24
  let v238 : Index := Scalar.indexCast v25
  let c0_71 : Index := 0#32
  ![v238.toNat, 0]
def k0_off11 (i : grid0.Coords) : Fin 2 → Nat :=
  let arg1 : BitVec 32 := BitVec.ofNat 32 (i 1).val
  let c1_i32 : BitVec 32 := 1#32
  let v16 : BitVec 32 := Scalar.shrui arg1 c1_i32
  let c2048_i32 : BitVec 32 := 2048#32
  let v24 : BitVec 32 := Scalar.muli v16 c2048_i32
  let v25 : BitVec 32 := v24
  let v273 : Index := Scalar.indexCast v25
  let c128_82 : Index := 128#32
  ![v273.toNat, 128]
@[reducible] def k0_t4_loop (i : grid0.Coords) : Scf.Loop 32 :=
  let c0_i32_14 : BitVec 32 := 0#32
  let arg1 : BitVec 32 := BitVec.ofNat 32 (i 1).val
  let c1_i32_13 : BitVec 32 := 1#32
  let v26 : BitVec 32 := Scalar.andi arg1 c1_i32_13
  let v27 : BitVec 32 := Scalar.subi v26 c0_i32_14
  let c1_i32_15 : BitVec 32 := 1#32
  let v29 : BitVec 32 := Scalar.divsi v27 c1_i32_15
  let v30 : BitVec 32 := Scalar.muli v29 c1_i32_15
  let v31 : BitVec 32 := Scalar.addi c0_i32_14 v30
  let v28 : BitVec 32 := Scalar.addi c0_i32_14 v27
  let c1_i32_17 : BitVec 32 := 1#32
  ⟨v31, v28, c1_i32_17⟩
def k0_off12 (i : grid0.Coords) : Fin 2 → Nat :=
  let arg1 : BitVec 32 := BitVec.ofNat 32 (i 1).val
  let c1_i32 : BitVec 32 := 1#32
  let v16 : BitVec 32 := Scalar.shrui arg1 c1_i32
  let c2048_i32 : BitVec 32 := 2048#32
  let v24 : BitVec 32 := Scalar.muli v16 c2048_i32
  let v25 : BitVec 32 := v24
  let v235 : Index := Scalar.indexCast v25
  let c0_70 : Index := 0#32
  ![v235.toNat, 0]
def k0_off13 (i : grid0.Coords) : Fin 2 → Nat :=
  let arg1 : BitVec 32 := BitVec.ofNat 32 (i 1).val
  let c1_i32 : BitVec 32 := 1#32
  let v16 : BitVec 32 := Scalar.shrui arg1 c1_i32
  let c2048_i32 : BitVec 32 := 2048#32
  let v24 : BitVec 32 := Scalar.muli v16 c2048_i32
  let v25 : BitVec 32 := v24
  let v238 : Index := Scalar.indexCast v25
  let c0_71 : Index := 0#32
  ![v238.toNat, 0]
def k0_off14 (i : grid0.Coords) : Fin 2 → Nat :=
  let arg1 : BitVec 32 := BitVec.ofNat 32 (i 1).val
  let c1_i32 : BitVec 32 := 1#32
  let v16 : BitVec 32 := Scalar.shrui arg1 c1_i32
  let c2048_i32 : BitVec 32 := 2048#32
  let v24 : BitVec 32 := Scalar.muli v16 c2048_i32
  let v25 : BitVec 32 := v24
  let v273 : Index := Scalar.indexCast v25
  let c128_82 : Index := 128#32
  ![v273.toNat, 128]
def k0_off15 (i : grid0.Coords) : Fin 2 → Nat :=
  let arg1 : BitVec 32 := BitVec.ofNat 32 (i 1).val
  let c1024_i32 : BitVec 32 := 1024#32
  let v0 : BitVec 32 := Scalar.muli arg1 c1024_i32
  let v1 : BitVec 32 := v0
  let v35 : Index := Scalar.indexCast v1
  let c0_18 : Index := 0#32
  ![v35.toNat, 0]
def k0_off16 (i : grid0.Coords) : Fin 2 → Nat :=
  let arg1 : BitVec 32 := BitVec.ofNat 32 (i 1).val
  let c1024_i32 : BitVec 32 := 1024#32
  let v0 : BitVec 32 := Scalar.muli arg1 c1024_i32
  let v1 : BitVec 32 := v0
  let v38 : Index := Scalar.indexCast v1
  let c0_19 : Index := 0#32
  ![v38.toNat, 0]
def k0_off17 (i : grid0.Coords) : Fin 2 → Nat :=
  let arg1 : BitVec 32 := BitVec.ofNat 32 (i 1).val
  let c1024_i32 : BitVec 32 := 1024#32
  let v0 : BitVec 32 := Scalar.muli arg1 c1024_i32
  let v1 : BitVec 32 := v0
  let v78 : Index := Scalar.indexCast v1
  let c128_29 : Index := 128#32
  ![v78.toNat, 128]
def k0_mult5 (i : grid0.Coords) : BitVec 32 :=
  let arg1 : BitVec 32 := BitVec.ofNat 32 (i 1).val
  let c1024_i32 : BitVec 32 := 1024#32
  let v0 : BitVec 32 := Scalar.muli arg1 c1024_i32
  let v1 : BitVec 32 := v0
  let c512_i32 : BitVec 32 := 512#32
  let v118 : BitVec 32 := Scalar.addi v1 c512_i32
  v118
def k0_off18 (i : grid0.Coords) : Fin 2 → Nat :=
  let arg1 : BitVec 32 := BitVec.ofNat 32 (i 1).val
  let c1024_i32 : BitVec 32 := 1024#32
  let v0 : BitVec 32 := Scalar.muli arg1 c1024_i32
  let v1 : BitVec 32 := v0
  let c512_i32 : BitVec 32 := 512#32
  let v118 : BitVec 32 := Scalar.addi v1 c512_i32
  let v119 : BitVec 32 := v118
  let v127 : Index := Scalar.indexCast v119
  let c0_41 : Index := 0#32
  ![v127.toNat, 0]
def k0_off19 (i : grid0.Coords) : Fin 2 → Nat :=
  let arg1 : BitVec 32 := BitVec.ofNat 32 (i 1).val
  let c1024_i32 : BitVec 32 := 1024#32
  let v0 : BitVec 32 := Scalar.muli arg1 c1024_i32
  let v1 : BitVec 32 := v0
  let c512_i32 : BitVec 32 := 512#32
  let v118 : BitVec 32 := Scalar.addi v1 c512_i32
  let v119 : BitVec 32 := v118
  let v130 : Index := Scalar.indexCast v119
  let c0_42 : Index := 0#32
  ![v130.toNat, 0]
def k0_off20 (i : grid0.Coords) : Fin 2 → Nat :=
  let arg1 : BitVec 32 := BitVec.ofNat 32 (i 1).val
  let c1024_i32 : BitVec 32 := 1024#32
  let v0 : BitVec 32 := Scalar.muli arg1 c1024_i32
  let v1 : BitVec 32 := v0
  let c512_i32 : BitVec 32 := 512#32
  let v118 : BitVec 32 := Scalar.addi v1 c512_i32
  let v119 : BitVec 32 := v118
  let v173 : Index := Scalar.indexCast v119
  let c128_54 : Index := 128#32
  ![v173.toNat, 128]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8192x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8192x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S8192x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S2x1x8192 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference7Ideal.lean ====
abbrev S8192x6144 : Shape := ⟨2, ![8192, 6144]⟩
abbrev S8192x16 : Shape := ⟨2, ![8192, 16]⟩
abbrev S8192x2048 : Shape := ⟨2, ![8192, 2048]⟩
abbrev S8192x16x128 : Shape := ⟨3, ![8192, 16, 128]⟩
abbrev S16x8192 : Shape := ⟨2, ![16, 8192]⟩
abbrev S16x8192x8192 : Shape := ⟨3, ![16, 8192, 8192]⟩
abbrev S16x8192x1 : Shape := ⟨3, ![16, 8192, 1]⟩
abbrev S16x1x8192 : Shape := ⟨3, ![16, 1, 8192]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S_ : Shape := ⟨0, ![]⟩
abbrev S16x128x8192 : Shape := ⟨3, ![16, 128, 8192]⟩

abbrev nBuf : Space → Nat
  | .hbm => 46
  | .vmem => 0
  | .smem => 0
  | _ => 0

abbrev bufTy : (tb : Table) → Fin (tcTables nBuf tb) → BufTy
  | .hbm, ⟨0, _⟩ => ⟨S8192x6144, .bf16⟩
  | .hbm, ⟨1, _⟩ => ⟨S8192x16, .f32⟩
  | .hbm, ⟨2, _⟩ => ⟨S8192x6144, .f32⟩
  | .hbm, ⟨3, _⟩ => ⟨S8192x2048, .f32⟩
  | .hbm, ⟨4, _⟩ => ⟨S8192x2048, .f32⟩
  | .hbm, ⟨5, _⟩ => ⟨S8192x2048, .f32⟩
  | .hbm, ⟨6, _⟩ => ⟨S8192x16x128, .f32⟩
  | .hbm, ⟨7, _⟩ => ⟨S8192x16x128, .f32⟩
  | .hbm, ⟨8, _⟩ => ⟨S8192x16x128, .f32⟩
  | .hbm, ⟨9, _⟩ => ⟨S16x8192, .f32⟩
  | .hbm, ⟨10, _⟩ => ⟨S16x8192x8192, .f32⟩
  | .hbm, ⟨11, _⟩ => ⟨S16x8192x1, .f32⟩
  | .hbm, ⟨12, _⟩ => ⟨S16x8192x8192, .f32⟩
  | .hbm, ⟨13, _⟩ => ⟨S16x8192x8192, .f32⟩
  | .hbm, ⟨14, _⟩ => ⟨S16x1x8192, .f32⟩
  | .hbm, ⟨15, _⟩ => ⟨S16x8192x8192, .f32⟩
  | .hbm, ⟨16, _⟩ => ⟨S16x8192x8192, .f32⟩
  | .hbm, ⟨17, _⟩ => ⟨S8192, .i32⟩
  | .hbm, ⟨18, _⟩ => ⟨S8192x1, .i32⟩
  | .hbm, ⟨19, _⟩ => ⟨S8192, .i32⟩
  | .hbm, ⟨20, _⟩ => ⟨S1x8192, .i32⟩
  | .hbm, ⟨21, _⟩ => ⟨S8192x8192, .i32⟩
  | .hbm, ⟨22, _⟩ => ⟨S8192x8192, .i32⟩
  | .hbm, ⟨23, _⟩ => ⟨S8192x8192, .i1⟩
  | .hbm, ⟨24, _⟩ => ⟨S_, .f32⟩
  | .hbm, ⟨25, _⟩ => ⟨S_, .f32⟩
  | .hbm, ⟨26, _⟩ => ⟨S16x8192x8192, .i1⟩
  | .hbm, ⟨27, _⟩ => ⟨S16x8192x8192, .f32⟩
  | .hbm, ⟨28, _⟩ => ⟨S16x8192x8192, .f32⟩
  | .hbm, ⟨29, _⟩ => ⟨S_, .f32⟩
  | .hbm, ⟨30, _⟩ => ⟨S16x8192, .f32⟩
  | .hbm, ⟨31, _⟩ => ⟨S16x8192x1, .f32⟩
  | .hbm, ⟨32, _⟩ => ⟨S16x8192x8192, .f32⟩
  | .hbm, ⟨33, _⟩ => ⟨S16x8192x8192, .f32⟩
  | .hbm, ⟨34, _⟩ => ⟨S_, .f32⟩
  | .hbm, ⟨35, _⟩ => ⟨S16x8192x8192, .f32⟩
  | .hbm, ⟨36, _⟩ => ⟨S16x8192x8192, .f32⟩
  | .hbm, ⟨37, _⟩ => ⟨S_, .f32⟩
  | .hbm, ⟨38, _⟩ => ⟨S16x8192, .f32⟩
  | .hbm, ⟨39, _⟩ => ⟨S16x8192x1, .f32⟩
  | .hbm, ⟨40, _⟩ => ⟨S16x8192x8192, .f32⟩
  | .hbm, ⟨41, _⟩ => ⟨S16x8192x8192, .f32⟩
  | .hbm, ⟨42, _⟩ => ⟨S16x128x8192, .f32⟩
  | .hbm, ⟨43, _⟩ => ⟨S8192x16x128, .f32⟩
  | .hbm, ⟨44, _⟩ => ⟨S8192x2048, .f32⟩
  | .hbm, ⟨45, _⟩ => ⟨S8192x2048, .bf16⟩
  | _, _ => ⟨S8192x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩
abbrev main_v21 : Ref sig .tc := ⟨.hbm, 23, rfl⟩
abbrev main_cst : Ref sig .tc := ⟨.hbm, 24, rfl⟩
abbrev main_call0_v0 : Ref sig .tc := ⟨.hbm, 25, rfl⟩
abbrev main_call0_v1 : Ref sig .tc := ⟨.hbm, 26, rfl⟩
abbrev main_call0_v2 : Ref sig .tc := ⟨.hbm, 27, rfl⟩
abbrev main_v22 : Ref sig .tc := ⟨.hbm, 28, rfl⟩
abbrev main_cst_0 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_cst_1 : Ref sig .tc := ⟨.hbm, 34, rfl⟩
abbrev main_v27 : Ref sig .tc := ⟨.hbm, 35, rfl⟩
abbrev main_v28 : Ref sig .tc := ⟨.hbm, 36, rfl⟩
abbrev main_cst_2 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩

abbrev nD : Nat := 1
abbrev τ : Topo := Topo.v7x

variable {F : FTy → Type} [FloatOps F]
-- ==== Proof.Spec.lean ====
module

public import Idealize.ShloMosaic.Lib.MatmulPlain
public import Idealize.ShloMosaic.Lib.Pipeline.Value
public import Idealize.ShloMosaic.Lib.ValueIdx
public import Idealize.ShloMosaic.PureOps.Ideal.Laws

@[expose] public section

noncomputable section

namespace Cert.Hand

open Idealize.ShloMosaic Idealize.ShloMosaic.ValueIdx

/-- The mean of a row's squares plus the small constant, under the reciprocal square root. -/
def rms (x : Fin 2048 → EReal) : EReal :=
  Ideal.rsqrt (Ideal.div (∑ k : Fin 2048, x k * x k) (Ideal.ofBits .f32 0x45000000#32) + Ideal.ofBits .f32 0x358637BD#32)

/-- A row divided by its root mean square and scaled by the norm's weights, at one position. -/
def hnS (x w : Fin 2048 → EReal) (k : Fin 2048) : EReal := x k * rms x * w k

/-- The gated unit of one gate value and one up value: `silu gate * up`. -/
def glu (g u : EReal) : EReal := g * Ideal.logistic g * u

/-- The word of one half, as an extended real. -/
def half : EReal := Ideal.ofBits .f32 0x3F000000#32

/-- A matrix product into a zero accumulator, at an index: the sum of the products along the row and the column. -/
theorem matmul_at {M K N : ℕ} {φ₁ φ₂ : FTy} (lhs : FVec Ideal ⟨2, ![M, K]⟩ φ₁) (rhs : FVec Ideal ⟨2, ![K, N]⟩ φ₂)
    (y : (⟨2, ![M, N]⟩ : Shape).Idx) :
    FloatOps.matmul (DotDims.plain M K N) none lhs rhs (constant ⟨2, ![M, N]⟩ .f32 0x00000000#32) y
      = ∑ k : Fin K, lhs (ix2 (y 0) k) * rhs (ix2 k (y 1)) := by
  have e : ∀ (r : Fin M) (c : Fin N), FloatOps.matmul (DotDims.plain M K N) none lhs rhs (constant ⟨2, ![M, N]⟩ .f32 0x00000000#32) (ix2 r c)
      = ∑ k : Fin K, lhs (ix2 r k) * rhs (ix2 k c) := fun r c => by
    rw [Ideal.matmul_plain_apply]
    show Ideal.ofBits .f32 0x00000000#32 + _ = _
    rw [Ideal.ofBits_zero_f32, zero_add]
  exact (congrArg _ (eq_ix2 y)).trans (e (y 0) (y 1))

/-- A matrix product with a transposed right operand into a zero accumulator, at an index. -/
theorem matmul_nt_at {M K N : ℕ} {φ₁ φ₂ : FTy} (lhs : FVec Ideal ⟨2, ![M, K]⟩ φ₁) (rhs : FVec Ideal ⟨2, ![N, K]⟩ φ₂)
    (y : (⟨2, ![M, N]⟩ : Shape).Idx) :
    FloatOps.matmul (DotDims.transposedRhs M K N) none lhs rhs (constant ⟨2, ![M, N]⟩ .f32 0x00000000#32) y
      = ∑ k : Fin K, lhs (ix2 (y 0) k) * rhs (ix2 (y 1) k) := by
  refine (congrArg _ (eq_ix2 y)).trans ((Ideal.matmul_transposedRhs_apply none lhs rhs _ (y 0) (y 1)).trans ?_)
  show Ideal.ofBits .f32 0x00000000#32 + _ = _
  rw [Ideal.ofBits_zero_f32, zero_add]

/-- A block with a leading axis of one row, viewed without it, at an index. -/
theorem squeeze_at {A B : ℕ} {α : Type} (v : (⟨3, ![1, A, B]⟩ : Shape).Idx → α)
    (h : (⟨3, ![1, A, B]⟩ : Shape).ShapeCasts ⟨2, ![A, B]⟩) (y : (⟨2, ![A, B]⟩ : Shape).Idx) :
    shapeCast ⟨2, ![A, B]⟩ v h y = v (ix3 (0 : Fin 1) (y 0) (y 1)) := by
  refine shapeCast_apply v h y _ ?_
  rw [Shape.rowMajor_val_three, Shape.rowMajor_val_two]
  show (0 * A + (y 0).val) * B + (y 1).val = (y 0).val * B + (y 1).val
  simp

/-- A matrix given a leading axis of one row, at an index. -/
theorem unsqueeze_at {A B : ℕ} {α : Type} (v : (⟨2, ![A, B]⟩ : Shape).Idx → α)
    (h : (⟨2, ![A, B]⟩ : Shape).ShapeCasts ⟨3, ![1, A, B]⟩) (a : Fin A) (b : Fin B) :
    shapeCast ⟨3, ![1, A, B]⟩ v h (ix3 (0 : Fin 1) a b) = v (ix2 a b) := by
  refine shapeCast_apply v h _ _ ?_
  rw [Shape.rowMajor_val_three, Shape.rowMajor_val_two]
  show a.val * B + b.val = (0 * A + a.val) * B + b.val
  simp

/-- A vector given a leading axis of one row, at an index. -/
theorem lead_at {A : ℕ} {α : Type} (v : (⟨1, ![A]⟩ : Shape).Idx → α)
    (h : (⟨1, ![A]⟩ : Shape).ShapeCasts ⟨2, ![1, A]⟩) (a : Fin A) :
    shapeCast ⟨2, ![1, A]⟩ v h (ix2 (0 : Fin 1) a) = v (ix1 a) := by
  refine shapeCast_apply v h _ _ ?_
  rw [Shape.rowMajor_val_two, Shape.rowMajor_val_one]
  show a.val = 0 * A + a.val
  simp

/-- An array of real numbers read at indices of its shape. -/
abbrev rd (S : Shape) (f : S.Idx → EReal) : S.Idx → EReal := f

/-- One activation of layer `l`: the gated unit of a normalised row's products with a gate column and an up column of the first weight matrix. -/
def act (l : Fin 2) (x0 : (⟨2, ![8192, 2048]⟩ : Shape).Idx → EReal) (x1 : (⟨1, ![2048]⟩ : Shape).Idx → EReal)
    (x2 : (⟨3, ![2, 2048, 11008]⟩ : Shape).Idx → EReal) (r : Fin 8192) (j : Fin 5504) : EReal :=
  glu (∑ k : Fin 2048, hnS (fun k => x0 (ix2 r k)) (fun k => x1 (ix1 k)) k * x2 (ix3 l k ⟨j.val, by omega⟩))
    (∑ k : Fin 2048, hnS (fun k => x0 (ix2 r k)) (fun k => x1 (ix1 k)) k * x2 (ix3 l k ⟨5504 + j.val, by omega⟩))

/-- The whole half layer `l`: the stream plus half of the activations' product with the second weight matrix. -/
def swiglu (l : Fin 2) (x0 : (⟨2, ![8192, 2048]⟩ : Shape).Idx → EReal) (x1 : (⟨1, ![2048]⟩ : Shape).Idx → EReal)
    (x2 : (⟨3, ![2, 2048, 11008]⟩ : Shape).Idx → EReal) (x3 : (⟨3, ![2, 5504, 2048]⟩ : Shape).Idx → EReal) :
    (⟨2, ![8192, 2048]⟩ : Shape).Idx → EReal := fun i =>
  x0 i + half * ∑ j : Fin 5504, act l x0 x1 x2 (i 0) j * x3 (ix3 l j (i 1))

/-- A column of a normalised row's product with the mixers' first weights. -/
def proj (x : (⟨2, ![8192, 2048]⟩ : Shape).Idx → EReal) (w : Fin 2048 → EReal) (wi : (⟨3, ![1, 2048, 13344]⟩ : Shape).Idx → EReal)
    (r : Fin 8192) (j : Fin 13344) : EReal :=
  ∑ k : Fin 2048, hnS (fun k => x (ix2 r k)) w k * wi (ix3 (0 : Fin 1) k j)

/-- The column of the mixers' first weights behind a column of the queries, inputs and gates, which leave out the forget gates' columns. -/
def qcol (j : ℕ) : ℕ := 5152 + j + (j / 2048 + 1) / 2 * 2048

/-- A token's embedding of layer `l` projected to the stream's width, at one position. -/
def emb (l : Fin 2) (p : (⟨4, ![2, 1, 8192, 256]⟩ : Shape).Idx → EReal) (wu : (⟨3, ![2, 256, 2048]⟩ : Shape).Idx → EReal)
    (r : Fin 8192) (j : Fin 2048) : EReal :=
  ∑ k : Fin 256, p (ix4 l (0 : Fin 1) r k) * wu (ix3 l k j)

/-- The embedding's gate of layer `l`: the logistic of a normalised row's product with a column of the gate's weights. -/
def gate (l : Fin 2) (x : (⟨2, ![8192, 2048]⟩ : Shape).Idx → EReal) (gn : Fin 2048 → EReal) (wg : (⟨3, ![2, 2048, 2048]⟩ : Shape).Idx → EReal)
    (r : Fin 8192) (j : Fin 2048) : EReal :=
  Ideal.logistic (∑ k : Fin 2048, hnS (fun k => x (ix2 r k)) gn k * wg (ix3 l k j))

/-- The stream plus the gated normalised embedding of layer `l`. -/
def ple (l : Fin 2) (x : (⟨2, ![8192, 2048]⟩ : Shape).Idx → EReal) (p : (⟨4, ![2, 1, 8192, 256]⟩ : Shape).Idx → EReal)
    (gn : Fin 2048 → EReal) (wg : (⟨3, ![2, 2048, 2048]⟩ : Shape).Idx → EReal) (wu : (⟨3, ![2, 256, 2048]⟩ : Shape).Idx → EReal)
    (pn : Fin 2048 → EReal) : (⟨2, ![8192, 2048]⟩ : Shape).Idx → EReal := fun i =>
  x i + hnS (emb l p wu (i 0)) pn (i 1) * gate l x gn wg (i 0) (i 1)

end Cert.Hand

end
-- ==== Proof.RefValue.lean ====
module

public import proofs.«01_k».proof.Proof.Gen.ReferenceIdeal.Read
public import proofs.«01_k».proof.Proof.Spec
public import Idealize.ShloMosaic.Lib.IdealHost

@[expose] public section

set_option maxRecDepth 16384

noncomputable section

namespace Cert.ReferenceIdeal.Hand

open Cert.ReferenceIdeal Cert.ReferenceIdeal.Gen Cert.ReferenceIdeal.Read Cert.Hand
open Idealize.ShloMosaic Idealize.ShloMosaic.TcCoe Idealize.ShloMosaic.ValueIdx

variable (x0 : (⟨S8192x2048, .f32⟩ : BufTy).Contents (Elt Ideal)) (x1 : (⟨S2048, .f32⟩ : BufTy).Contents (Elt Ideal)) (x2 : (⟨S2x2048x11008, .f32⟩ : BufTy).Contents (Elt Ideal)) (x3 : (⟨S2x5504x2048, .f32⟩ : BufTy).Contents (Elt Ideal))

/-- The reference's first weights are the first of the pair. -/
theorem win_ref (k : Fin 2048) (j : Fin 11008) : val_main_v1 (F := Ideal) x2 (ix2 k j) = rd S2x2048x11008 x2 (ix3 (0 : Fin 2) k j) := by
  rw [val_main_v1_apply, val_main_v0_apply]
  refine congrArg x2 (funext fun a => Fin.ext ?_)
  have hk := k.isLt
  have hj := j.isLt
  match a with
  | ⟨0, _⟩ => rfl
  | ⟨1, _⟩ => show (k.val * 11008 + j.val) / 11008 % 2048 = k.val; omega
  | ⟨2, _⟩ => show (k.val * 11008 + j.val) % 11008 = j.val; omega

/-- The reference's second weights are the first of the pair. -/
theorem wout_ref (k : Fin 5504) (j : Fin 2048) : val_main_v3 (F := Ideal) x3 (ix2 k j) = rd S2x5504x2048 x3 (ix3 (0 : Fin 2) k j) := by
  rw [val_main_v3_apply, val_main_v2_apply]
  refine congrArg x3 (funext fun a => Fin.ext ?_)
  have hk := k.isLt
  have hj := j.isLt
  match a with
  | ⟨0, _⟩ => rfl
  | ⟨1, _⟩ => show (k.val * 2048 + j.val) / 2048 % 5504 = k.val; omega
  | ⟨2, _⟩ => show (k.val * 2048 + j.val) % 2048 = j.val; omega

/-- The root mean square of a row of the stream. -/
theorem rms_ffn (i : S8192x1.Idx) : val_main_v11 (F := Ideal) x0 i = rms (fun k => rd S8192x2048 (x0) (ix2 (i 0) k)) := by
  rw [val_main_v11_apply, val_main_v10_apply, val_main_v8_apply, val_main_v9_apply, val_main_v7_apply, val_main_v6_apply, val_main_v5_apply,
    val_main_cst_apply, val_main_cst_0_apply, val_main_cst_1_apply]
  have e : ∀ k : Fin 2048, val_main_v4 (F := Ideal) x0 (idx_main_v5 (idx_main_v6 i) k)
      = rd S8192x2048 (x0) (ix2 (i 0) k) * rd S8192x2048 (x0) (ix2 (i 0) k) := fun k => by
    rw [val_main_v4_apply, show idx_main_v5 (idx_main_v6 i) k = ix2 (i 0) k from funext fun a => by match a with | ⟨0, _⟩ => rfl | ⟨1, _⟩ => rfl]
    rfl
  rw [Finset.sum_congr rfl fun k _ => e k]
  show Ideal.rsqrt (Ideal.div (Ideal.ofBits .f32 0x00000000#32 + _) _ + _) = _
  rw [Ideal.ofBits_zero_f32, zero_add]
  rfl

/-- The rows the half layer reads. -/
theorem hn_ffn (r : Fin 8192) (k : Fin 2048) : val_main_v16 (F := Ideal) x0 x1 (ix2 r k)
    = hnS (fun k => rd S8192x2048 (x0) (ix2 r k)) (fun k => rd S2048 x1 (ix1 k)) k := by
  rw [val_main_v16_apply, val_main_v13_apply, val_main_v12_apply, val_main_v15_apply, val_main_v14_apply, rms_ffn]
  refine congrArg₂ (· * ·) rfl (congrArg x1 ?_)
  exact funext fun a => by match a with | ⟨0, _⟩ => rfl

/-- The reference's first product. -/
theorem up_ref (r : Fin 8192) (j : Fin 11008) : val_main_v17 (F := Ideal) x0 x1 x2 (ix2 r j)
    = ∑ k : Fin 2048, hnS (fun k => rd S8192x2048 (x0) (ix2 r k)) (fun k => rd S2048 x1 (ix1 k)) k * rd S2x2048x11008 x2 (ix3 (0 : Fin 2) k j) := by
  rw [val_main_v17_apply]
  refine Finset.sum_congr rfl fun k _ => congrArg₂ (· * ·) ?_ ?_
  · refine (congrArg (val_main_v16 (F := Ideal) x0 x1) ?_).trans (hn_ffn x0 x1 r k)
    exact funext fun a => by match a with | ⟨0, _⟩ => rfl | ⟨1, _⟩ => rfl
  · refine (congrArg (val_main_v1 (F := Ideal) x2) ?_).trans (win_ref x2 k j)
    exact funext fun a => by match a with | ⟨0, _⟩ => rfl | ⟨1, _⟩ => rfl

/-- The reference's activations. -/
theorem act_ref (r : Fin 8192) (j : Fin 5504) : val_main_v21 (F := Ideal) x0 x1 x2 (ix2 r j)
    = act 0 (rd S8192x2048 (x0)) (rd S2048 x1) (rd S2x2048x11008 x2) r j := by
  have eg : val_main_v18 (F := Ideal) x0 x1 x2 (ix2 r j) = _ := (val_main_v18_apply x0 x1 x2 _).trans
    ((congrArg (val_main_v17 (F := Ideal) x0 x1 x2) (funext fun a => by match a with | ⟨0, _⟩ => rfl | ⟨1, _⟩ => rfl)).trans (up_ref x0 x1 x2 r ⟨j.val, by omega⟩))
  have eu : val_main_v19 (F := Ideal) x0 x1 x2 (ix2 r j) = _ := (val_main_v19_apply x0 x1 x2 _).trans
    ((congrArg (val_main_v17 (F := Ideal) x0 x1 x2) (funext fun a => by match a with | ⟨0, _⟩ => rfl | ⟨1, _⟩ => rfl)).trans (up_ref x0 x1 x2 r ⟨5504 + j.val, by omega⟩))
  rw [val_main_v21_apply, val_main_v20_apply, val_main_call0_v5_apply, val_main_call0_v3_apply, val_main_call0_v4_apply, val_main_call0_v2_apply,
    val_main_call0_v1_apply, val_main_call0_v0_apply, val_main_call0_cst_apply, val_main_call0_cst_0_apply, eg, eu]
  unfold act glu
  refine congrArg₂ (· * ·) (congrArg₂ (· * ·) rfl ?_) rfl
  show Ideal.div (Ideal.ofBits .f32 0x3F800000#32) (Ideal.ofBits .f32 0x3F800000#32 + _) = _
  rw [Ideal.ofBits_one_f32]
  rfl

/-- The reference's half layer. -/
theorem half_ref (i : S8192x2048.Idx) : val_main_v25 (F := Ideal) x0 x1 x2 x3 i
    = swiglu 0 (rd S8192x2048 (x0)) (rd S2048 x1) (rd S2x2048x11008 x2) (rd S2x5504x2048 x3) i := by
  rw [val_main_v25_apply, val_main_v24_apply, val_main_v23_apply, val_main_cst_2_apply, val_main_v22_apply]
  unfold swiglu
  refine congrArg₂ (· + ·) rfl (congrArg₂ (· * ·) rfl (Finset.sum_congr rfl fun j _ => congrArg₂ (· * ·) ?_ ?_))
  · refine (congrArg (val_main_v21 (F := Ideal) x0 x1 x2) ?_).trans (act_ref x0 x1 x2 (i 0) j)
    exact funext fun a => by match a with | ⟨0, _⟩ => rfl | ⟨1, _⟩ => rfl
  · refine (congrArg (val_main_v3 (F := Ideal) x3) ?_).trans (wout_ref x3 j (i 1))
    exact funext fun a => by match a with | ⟨0, _⟩ => rfl | ⟨1, _⟩ => rfl

/-- The reference's result is the half layer's formula. -/
theorem out_ref : val_main_v25 (F := Ideal) x0 x1 x2 x3 = swiglu 0 (rd S8192x2048 x0) (rd S2048 x1) (rd S2x2048x11008 x2) (rd S2x5504x2048 x3) :=
  funext fun i => half_ref x0 x1 x2 x3 i

end Cert.ReferenceIdeal.Hand

end
-- ==== Proof.P2RefValue.lean ====
module

public import proofs.«01_k».proof.Proof.Gen.Reference2Ideal.Read
public import proofs.«01_k».proof.Proof.Spec
public import Idealize.ShloMosaic.Lib.IdealHost

@[expose] public section

set_option maxRecDepth 16384

noncomputable section

namespace Cert.Reference2Ideal.Hand

open Cert.Reference2Ideal Cert.Reference2Ideal.Gen Cert.Reference2Ideal.Read Cert.Hand
open Idealize.ShloMosaic Idealize.ShloMosaic.TcCoe Idealize.ShloMosaic.ValueIdx

variable (x0 : (⟨S8192x2048, .f32⟩ : BufTy).Contents (Elt Ideal)) (x1 : (⟨S2x1x8192x256, .f32⟩ : BufTy).Contents (Elt Ideal)) (x2 : (⟨S2048, .f32⟩ : BufTy).Contents (Elt Ideal)) (x3 : (⟨S2x2048x2048, .f32⟩ : BufTy).Contents (Elt Ideal)) (x4 : (⟨S2x256x2048, .f32⟩ : BufTy).Contents (Elt Ideal)) (x5 : (⟨S2048, .f32⟩ : BufTy).Contents (Elt Ideal)) (x6 : (⟨S2048, .f32⟩ : BufTy).Contents (Elt Ideal)) (x7 : (⟨S2x2048x11008, .f32⟩ : BufTy).Contents (Elt Ideal)) (x8 : (⟨S2x5504x2048, .f32⟩ : BufTy).Contents (Elt Ideal))

/-- The reference's embeddings of the layer. -/
theorem tok_ref (r : Fin 8192) (k : Fin 256) : val_main_v1 (F := Ideal) x1 (ix2 r k) = rd S2x1x8192x256 x1 (ix4 (0 : Fin 2) (0 : Fin 1) r k) := by
  rw [val_main_v1_apply, val_main_v0_apply]
  refine congrArg x1 (funext fun a => Fin.ext ?_)
  have hr := r.isLt
  have hk := k.isLt
  match a with
  | ⟨0, _⟩ => rfl
  | ⟨1, _⟩ => rfl
  | ⟨2, _⟩ => show (r.val * 256 + k.val) / 256 % 8192 = r.val; omega
  | ⟨3, _⟩ => show (r.val * 256 + k.val) % 256 = k.val; omega

/-- The reference's gate weights are the first of the pair. -/
theorem wgate_ref (k : Fin 2048) (j : Fin 2048) : val_main_v3 (F := Ideal) x3 (ix2 k j) = rd S2x2048x2048 x3 (ix3 (0 : Fin 2) k j) := by
  rw [val_main_v3_apply, val_main_v2_apply]
  refine congrArg x3 (funext fun a => Fin.ext ?_)
  have hk := k.isLt
  have hj := j.isLt
  match a with
  | ⟨0, _⟩ => rfl
  | ⟨1, _⟩ => show (k.val * 2048 + j.val) / 2048 % 2048 = k.val; omega
  | ⟨2, _⟩ => show (k.val * 2048 + j.val) % 2048 = j.val; omega

/-- The reference's projection weights are the first of the pair. -/
theorem wup_ref (k : Fin 256) (j : Fin 2048) : val_main_v5 (F := Ideal) x4 (ix2 k j) = rd S2x256x2048 x4 (ix3 (0 : Fin 2) k j) := by
  rw [val_main_v5_apply, val_main_v4_apply]
  refine congrArg x4 (funext fun a => Fin.ext ?_)
  have hk := k.isLt
  have hj := j.isLt
  match a with
  | ⟨0, _⟩ => rfl
  | ⟨1, _⟩ => show (k.val * 2048 + j.val) / 2048 % 256 = k.val; omega
  | ⟨2, _⟩ => show (k.val * 2048 + j.val) % 2048 = j.val; omega

/-- The root mean square of a projected embedding. -/
theorem rms_emb (i : S8192x1.Idx) : val_main_v14 (F := Ideal) x1 x4 i = rms (fun k => rd S8192x2048 (val_main_v6 (F := Ideal) x1 x4) (ix2 (i 0) k)) := by
  rw [val_main_v14_apply, val_main_v13_apply, val_main_v11_apply, val_main_v12_apply, val_main_v10_apply, val_main_v9_apply, val_main_v8_apply,
    val_main_cst_apply, val_main_cst_0_apply, val_main_cst_1_apply]
  have e : ∀ k : Fin 2048, val_main_v7 (F := Ideal) x1 x4 (idx_main_v8 (idx_main_v9 i) k)
      = rd S8192x2048 (val_main_v6 (F := Ideal) x1 x4) (ix2 (i 0) k) * rd S8192x2048 (val_main_v6 (F := Ideal) x1 x4) (ix2 (i 0) k) := fun k => by
    rw [val_main_v7_apply, show idx_main_v8 (idx_main_v9 i) k = ix2 (i 0) k from funext fun a => by match a with | ⟨0, _⟩ => rfl | ⟨1, _⟩ => rfl]
    rfl
  rw [Finset.sum_congr rfl fun k _ => e k]
  show Ideal.rsqrt (Ideal.div (Ideal.ofBits .f32 0x00000000#32 + _) _ + _) = _
  rw [Ideal.ofBits_zero_f32, zero_add]
  rfl

/-- The normalised embedding. -/
theorem hn_emb (r : Fin 8192) (k : Fin 2048) : val_main_v19 (F := Ideal) x1 x4 x5 (ix2 r k)
    = hnS (fun k => rd S8192x2048 (val_main_v6 (F := Ideal) x1 x4) (ix2 r k)) (fun k => rd S2048 x5 (ix1 k)) k := by
  rw [val_main_v19_apply, val_main_v16_apply, val_main_v15_apply, val_main_v18_apply, val_main_v17_apply, rms_emb]
  refine congrArg₂ (· * ·) rfl (congrArg x5 ?_)
  exact funext fun a => by match a with | ⟨0, _⟩ => rfl

/-- The root mean square of a row of the stream. -/
theorem rms_gate (i : S8192x1.Idx) : val_main_v27 (F := Ideal) x0 i = rms (fun k => rd S8192x2048 (x0) (ix2 (i 0) k)) := by
  rw [val_main_v27_apply, val_main_v26_apply, val_main_v24_apply, val_main_v25_apply, val_main_v23_apply, val_main_v22_apply, val_main_v21_apply,
    val_main_cst_2_apply, val_main_cst_3_apply, val_main_cst_4_apply]
  have e : ∀ k : Fin 2048, val_main_v20 (F := Ideal) x0 (idx_main_v21 (idx_main_v22 i) k)
      = rd S8192x2048 (x0) (ix2 (i 0) k) * rd S8192x2048 (x0) (ix2 (i 0) k) := fun k => by
    rw [val_main_v20_apply, show idx_main_v21 (idx_main_v22 i) k = ix2 (i 0) k from funext fun a => by match a with | ⟨0, _⟩ => rfl | ⟨1, _⟩ => rfl]
    rfl
  rw [Finset.sum_congr rfl fun k _ => e k]
  show Ideal.rsqrt (Ideal.div (Ideal.ofBits .f32 0x00000000#32 + _) _ + _) = _
  rw [Ideal.ofBits_zero_f32, zero_add]
  rfl

/-- The rows the gate reads. -/
theorem hn_gate (r : Fin 8192) (k : Fin 2048) : val_main_v32 (F := Ideal) x0 x2 (ix2 r k)
    = hnS (fun k => rd S8192x2048 (x0) (ix2 r k)) (fun k => rd S2048 x2 (ix1 k)) k := by
  rw [val_main_v32_apply, val_main_v29_apply, val_main_v28_apply, val_main_v31_apply, val_main_v30_apply, rms_gate]
  refine congrArg₂ (· * ·) rfl (congrArg x2 ?_)
  exact funext fun a => by match a with | ⟨0, _⟩ => rfl

/-- The reference's projected embedding. -/
theorem emb_ref (r : Fin 8192) (j : Fin 2048) : val_main_v6 (F := Ideal) x1 x4 (ix2 r j)
    = emb 0 (rd S2x1x8192x256 x1) (rd S2x256x2048 x4) r j := by
  rw [val_main_v6_apply]
  refine Finset.sum_congr rfl fun k _ => congrArg₂ (· * ·) ?_ ?_
  · refine (congrArg (val_main_v1 (F := Ideal) x1) ?_).trans (tok_ref x1 r k)
    exact funext fun a => by match a with | ⟨0, _⟩ => rfl | ⟨1, _⟩ => rfl
  · refine (congrArg (val_main_v5 (F := Ideal) x4) ?_).trans (wup_ref x4 k j)
    exact funext fun a => by match a with | ⟨0, _⟩ => rfl | ⟨1, _⟩ => rfl

/-- The reference's gate before its logistic. -/
theorem gdot_ref (r : Fin 8192) (j : Fin 2048) : val_main_v33 (F := Ideal) x0 x2 x3 (ix2 r j)
    = ∑ k : Fin 2048, hnS (fun k => rd S8192x2048 (x0) (ix2 r k)) (fun k => rd S2048 x2 (ix1 k)) k * rd S2x2048x2048 x3 (ix3 (0 : Fin 2) k j) := by
  rw [val_main_v33_apply]
  refine Finset.sum_congr rfl fun k _ => congrArg₂ (· * ·) ?_ ?_
  · refine (congrArg (val_main_v32 (F := Ideal) x0 x2) ?_).trans (hn_gate x0 x2 r k)
    exact funext fun a => by match a with | ⟨0, _⟩ => rfl | ⟨1, _⟩ => rfl
  · refine (congrArg (val_main_v3 (F := Ideal) x3) ?_).trans (wgate_ref x3 k j)
    exact funext fun a => by match a with | ⟨0, _⟩ => rfl | ⟨1, _⟩ => rfl

/-- The reference's gate. -/
theorem gate_ref (r : Fin 8192) (j : Fin 2048) : val_main_v39 (F := Ideal) x0 x2 x3 (ix2 r j)
    = gate 0 (rd S8192x2048 (x0)) (fun k => rd S2048 x2 (ix1 k)) (rd S2x2048x2048 x3) r j := by
  rw [val_main_v39_apply, val_main_v37_apply, val_main_v38_apply, val_main_v36_apply, val_main_v35_apply, val_main_v34_apply, val_main_cst_5_apply, val_main_cst_6_apply, gdot_ref]
  show Ideal.div (Ideal.ofBits .f32 0x3F800000#32) (Ideal.ofBits .f32 0x3F800000#32 + _) = _
  rw [Ideal.ofBits_one_f32]
  rfl

/-- The reference's stream with the gated embedding. -/
theorem ple_ref (r : Fin 8192) (j : Fin 2048) : val_main_v41 (F := Ideal) x0 x1 x2 x3 x4 x5 (ix2 r j)
    = ple 0 (rd S8192x2048 (x0)) (rd S2x1x8192x256 x1) (fun k => rd S2048 x2 (ix1 k)) (rd S2x2048x2048 x3) (rd S2x256x2048 x4)
      (fun k => rd S2048 x5 (ix1 k)) (ix2 r j) := by
  rw [val_main_v41_apply, val_main_v40_apply, gate_ref, hn_emb]
  unfold ple
  refine congrArg₂ (· + ·) rfl (congrArg₂ (· * ·) (congrFun (congrFun (congrArg hnS (funext fun k => ?_)) _) _) rfl)
  exact emb_ref x1 x4 r k

/-- The reference's first weights are the second of the pair. -/
theorem win_ref (k : Fin 2048) (j : Fin 11008) : val_main_v43 (F := Ideal) x7 (ix2 k j) = rd S2x2048x11008 x7 (ix3 (1 : Fin 2) k j) := by
  rw [val_main_v43_apply, val_main_v42_apply]
  refine congrArg x7 (funext fun a => Fin.ext ?_)
  have hk := k.isLt
  have hj := j.isLt
  match a with
  | ⟨0, _⟩ => rfl
  | ⟨1, _⟩ => show (k.val * 11008 + j.val) / 11008 % 2048 = k.val; omega
  | ⟨2, _⟩ => show (k.val * 11008 + j.val) % 11008 = j.val; omega

/-- The reference's second weights are the second of the pair. -/
theorem wout_ref (k : Fin 5504) (j : Fin 2048) : val_main_v45 (F := Ideal) x8 (ix2 k j) = rd S2x5504x2048 x8 (ix3 (1 : Fin 2) k j) := by
  rw [val_main_v45_apply, val_main_v44_apply]
  refine congrArg x8 (funext fun a => Fin.ext ?_)
  have hk := k.isLt
  have hj := j.isLt
  match a with
  | ⟨0, _⟩ => rfl
  | ⟨1, _⟩ => show (k.val * 2048 + j.val) / 2048 % 5504 = k.val; omega
  | ⟨2, _⟩ => show (k.val * 2048 + j.val) % 2048 = j.val; omega

/-- The root mean square of a row of the stream with the gated embedding. -/
theorem rms_ffn (i : S8192x1.Idx) : val_main_v53 (F := Ideal) x0 x1 x2 x3 x4 x5 i = rms (fun k => rd S8192x2048 (val_main_v41 (F := Ideal) x0 x1 x2 x3 x4 x5) (ix2 (i 0) k)) := by
  rw [val_main_v53_apply, val_main_v52_apply, val_main_v50_apply, val_main_v51_apply, val_main_v49_apply, val_main_v48_apply, val_main_v47_apply,
    val_main_cst_7_apply, val_main_cst_8_apply, val_main_cst_9_apply]
  have e : ∀ k : Fin 2048, val_main_v46 (F := Ideal) x0 x1 x2 x3 x4 x5 (idx_main_v47 (idx_main_v48 i) k)
      = rd S8192x2048 (val_main_v41 (F := Ideal) x0 x1 x2 x3 x4 x5) (ix2 (i 0) k) * rd S8192x2048 (val_main_v41 (F := Ideal) x0 x1 x2 x3 x4 x5) (ix2 (i 0) k) := fun k => by
    rw [val_main_v46_apply, show idx_main_v47 (idx_main_v48 i) k = ix2 (i 0) k from funext fun a => by match a with | ⟨0, _⟩ => rfl | ⟨1, _⟩ => rfl]
    rfl
  rw [Finset.sum_congr rfl fun k _ => e k]
  show Ideal.rsqrt (Ideal.div (Ideal.ofBits .f32 0x00000000#32 + _) _ + _) = _
  rw [Ideal.ofBits_zero_f32, zero_add]
  rfl

/-- The rows the half layer reads. -/
theorem hn_ffn (r : Fin 8192) (k : Fin 2048) : val_main_v58 (F := Ideal) x0 x1 x2 x3 x4 x5 x6 (ix2 r k)
    = hnS (fun k => rd S8192x2048 (val_main_v41 (F := Ideal) x0 x1 x2 x3 x4 x5) (ix2 r k)) (fun k => rd S2048 x6 (ix1 k)) k := by
  rw [val_main_v58_apply, val_main_v55_apply, val_main_v54_apply, val_main_v57_apply, val_main_v56_apply, rms_ffn]
  refine congrArg₂ (· * ·) rfl (congrArg x6 ?_)
  exact funext fun a => by match a with | ⟨0, _⟩ => rfl

/-- The reference's first product. -/
theorem up_ref (r : Fin 8192) (j : Fin 11008) : val_main_v59 (F := Ideal) x0 x1 x2 x3 x4 x5 x6 x7 (ix2 r j)
    = ∑ k : Fin 2048, hnS (fun k => rd S8192x2048 (val_main_v41 (F := Ideal) x0 x1 x2 x3 x4 x5) (ix2 r k)) (fun k => rd S2048 x6 (ix1 k)) k * rd S2x2048x11008 x7 (ix3 (1 : Fin 2) k j) := by
  rw [val_main_v59_apply]
  refine Finset.sum_congr rfl fun k _ => congrArg₂ (· * ·) ?_ ?_
  · refine (congrArg (val_main_v58 (F := Ideal) x0 x1 x2 x3 x4 x5 x6) ?_).trans (hn_ffn x0 x1 x2 x3 x4 x5 x6 r k)
    exact funext fun a => by match a with | ⟨0, _⟩ => rfl | ⟨1, _⟩ => rfl
  · refine (congrArg (val_main_v43 (F := Ideal) x7) ?_).trans (win_ref x7 k j)
    exact funext fun a => by match a with | ⟨0, _⟩ => rfl | ⟨1, _⟩ => rfl

/-- The reference's activations. -/
theorem act_ref (r : Fin 8192) (j : Fin 5504) : val_main_v63 (F := Ideal) x0 x1 x2 x3 x4 x5 x6 x7 (ix2 r j)
    = act 1 (rd S8192x2048 (val_main_v41 (F := Ideal) x0 x1 x2 x3 x4 x5)) (rd S2048 x6) (rd S2x2048x11008 x7) r j := by
  have eg : val_main_v60 (F := Ideal) x0 x1 x2 x3 x4 x5 x6 x7 (ix2 r j) = _ := (val_main_v60_apply x0 x1 x2 x3 x4 x5 x6 x7 _).trans
    ((congrArg (val_main_v59 (F := Ideal) x0 x1 x2 x3 x4 x5 x6 x7) (funext fun a => by match a with | ⟨0, _⟩ => rfl | ⟨1, _⟩ => rfl)).trans (up_ref x0 x1 x2 x3 x4 x5 x6 x7 r ⟨j.val, by omega⟩))
  have eu : val_main_v61 (F := Ideal) x0 x1 x2 x3 x4 x5 x6 x7 (ix2 r j) = _ := (val_main_v61_apply x0 x1 x2 x3 x4 x5 x6 x7 _).trans
    ((congrArg (val_main_v59 (F := Ideal) x0 x1 x2 x3 x4 x5 x6 x7) (funext fun a => by match a with | ⟨0, _⟩ => rfl | ⟨1, _⟩ => rfl)).trans (up_ref x0 x1 x2 x3 x4 x5 x6 x7 r ⟨5504 + j.val, by omega⟩))
  rw [val_main_v63_apply, val_main_v62_apply, val_main_call0_v5_apply, val_main_call0_v3_apply, val_main_call0_v4_apply, val_main_call0_v2_apply,
    val_main_call0_v1_apply, val_main_call0_v0_apply, val_main_call0_cst_apply, val_main_call0_cst_0_apply, eg, eu]
  unfold act glu
  refine congrArg₂ (· * ·) (congrArg₂ (· * ·) rfl ?_) rfl
  show Ideal.div (Ideal.ofBits .f32 0x3F800000#32) (Ideal.ofBits .f32 0x3F800000#32 + _) = _
  rw [Ideal.ofBits_one_f32]
  rfl

/-- The reference's half layer. -/
theorem half_ref (i : S8192x2048.Idx) : val_main_v67 (F := Ideal) x0 x1 x2 x3 x4 x5 x6 x7 x8 i
    = swiglu 1 (rd S8192x2048 (val_main_v41 (F := Ideal) x0 x1 x2 x3 x4 x5)) (rd S2048 x6) (rd S2x2048x11008 x7) (rd S2x5504x2048 x8) i := by
  rw [val_main_v67_apply, val_main_v66_apply, val_main_v65_apply, val_main_cst_10_apply, val_main_v64_apply]
  unfold swiglu
  refine congrArg₂ (· + ·) rfl (congrArg₂ (· * ·) rfl (Finset.sum_congr rfl fun j _ => congrArg₂ (· * ·) ?_ ?_))
  · refine (congrArg (val_main_v63 (F := Ideal) x0 x1 x2 x3 x4 x5 x6 x7) ?_).trans (act_ref x0 x1 x2 x3 x4 x5 x6 x7 (i 0) j)
    exact funext fun a => by match a with | ⟨0, _⟩ => rfl | ⟨1, _⟩ => rfl
  · refine (congrArg (val_main_v45 (F := Ideal) x8) ?_).trans (wout_ref x8 j (i 1))
    exact funext fun a => by match a with | ⟨0, _⟩ => rfl | ⟨1, _⟩ => rfl

/-- The reference's result: the half layer of the stream with the gated embedding. -/
theorem out_ref : val_main_v67 (F := Ideal) x0 x1 x2 x3 x4 x5 x6 x7 x8 = swiglu 1 (ple 0 (rd S8192x2048 x0) (rd S2x1x8192x256 x1) (fun k => rd S2048 x2 (ix1 k)) (rd S2x2048x2048 x3) (rd S2x256x2048 x4)
    (fun k => rd S2048 x5 (ix1 k))) (rd S2048 x6) (rd S2x2048x11008 x7) (rd S2x5504x2048 x8) := by
  have e : rd S8192x2048 (val_main_v41 (F := Ideal) x0 x1 x2 x3 x4 x5) = _ := funext fun i => (congrArg (val_main_v41 (F := Ideal) x0 x1 x2 x3 x4 x5) (eq_ix2 i)).trans (ple_ref x0 x1 x2 x3 x4 x5 (i 0) (i 1))
  funext i
  rw [half_ref, e]
  exact congrArg (fun h => swiglu 1 h (rd S2048 x6) (rd S2x2048x11008 x7) (rd S2x5504x2048 x8) i) (funext fun i => (congrArg _ (eq_ix2 i)).symm)

end Cert.Reference2Ideal.Hand

end
-- ==== Proof.P3RefValue.lean ====
module

public import proofs.«01_k».proof.Proof.Gen.Reference3Ideal.Read
public import proofs.«01_k».proof.Proof.Spec
public import Idealize.ShloMosaic.Lib.IdealHost

@[expose] public section

set_option maxRecDepth 16384

noncomputable section

namespace Cert.Reference3Ideal.Hand

open Cert.Reference3Ideal Cert.Reference3Ideal.Gen Cert.Reference3Ideal.Read Cert.Hand
open Idealize.ShloMosaic Idealize.ShloMosaic.TcCoe Idealize.ShloMosaic.ValueIdx

variable (x0 : (⟨S8192x2048, .f32⟩ : BufTy).Contents (Elt Ideal)) (x1 : (⟨S2048, .f32⟩ : BufTy).Contents (Elt Ideal)) (x2 : (⟨S2x2048x11008, .f32⟩ : BufTy).Contents (Elt Ideal)) (x3 : (⟨S2x5504x2048, .f32⟩ : BufTy).Contents (Elt Ideal)) (x4 : (⟨S2x1x8192x256, .f32⟩ : BufTy).Contents (Elt Ideal)) (x5 : (⟨S2048, .f32⟩ : BufTy).Contents (Elt Ideal)) (x6 : (⟨S2x2048x2048, .f32⟩ : BufTy).Contents (Elt Ideal)) (x7 : (⟨S2x256x2048, .f32⟩ : BufTy).Contents (Elt Ideal)) (x8 : (⟨S2048, .f32⟩ : BufTy).Contents (Elt Ideal)) (x9 : (⟨S2048, .f32⟩ : BufTy).Contents (Elt Ideal))

/-- The reference's first weights are the second of the pair. -/
theorem win_ref (k : Fin 2048) (j : Fin 11008) : val_main_v1 (F := Ideal) x2 (ix2 k j) = rd S2x2048x11008 x2 (ix3 (1 : Fin 2) k j) := by
  rw [val_main_v1_apply, val_main_v0_apply]
  refine congrArg x2 (funext fun a => Fin.ext ?_)
  have hk := k.isLt
  have hj := j.isLt
  match a with
  | ⟨0, _⟩ => rfl
  | ⟨1, _⟩ => show (k.val * 11008 + j.val) / 11008 % 2048 = k.val; omega
  | ⟨2, _⟩ => show (k.val * 11008 + j.val) % 11008 = j.val; omega

/-- The reference's second weights are the second of the pair. -/
theorem wout_ref (k : Fin 5504) (j : Fin 2048) : val_main_v3 (F := Ideal) x3 (ix2 k j) = rd S2x5504x2048 x3 (ix3 (1 : Fin 2) k j) := by
  rw [val_main_v3_apply, val_main_v2_apply]
  refine congrArg x3 (funext fun a => Fin.ext ?_)
  have hk := k.isLt
  have hj := j.isLt
  match a with
  | ⟨0, _⟩ => rfl
  | ⟨1, _⟩ => show (k.val * 2048 + j.val) / 2048 % 5504 = k.val; omega
  | ⟨2, _⟩ => show (k.val * 2048 + j.val) % 2048 = j.val; omega

/-- The root mean square of a row of the stream. -/
theorem rms_ffn (i : S8192x1.Idx) : val_main_v11 (F := Ideal) x0 i = rms (fun k => rd S8192x2048 (x0) (ix2 (i 0) k)) := by
  rw [val_main_v11_apply, val_main_v10_apply, val_main_v8_apply, val_main_v9_apply, val_main_v7_apply, val_main_v6_apply, val_main_v5_apply,
    val_main_cst_apply, val_main_cst_0_apply, val_main_cst_1_apply]
  have e : ∀ k : Fin 2048, val_main_v4 (F := Ideal) x0 (idx_main_v5 (idx_main_v6 i) k)
      = rd S8192x2048 (x0) (ix2 (i 0) k) * rd S8192x2048 (x0) (ix2 (i 0) k) := fun k => by
    rw [val_main_v4_apply, show idx_main_v5 (idx_main_v6 i) k = ix2 (i 0) k from funext fun a => by match a with | ⟨0, _⟩ => rfl | ⟨1, _⟩ => rfl]
    rfl
  rw [Finset.sum_congr rfl fun k _ => e k]
  show Ideal.rsqrt (Ideal.div (Ideal.ofBits .f32 0x00000000#32 + _) _ + _) = _
  rw [Ideal.ofBits_zero_f32, zero_add]
  rfl

/-- The rows the half layer reads. -/
theorem hn_ffn (r : Fin 8192) (k : Fin 2048) : val_main_v16 (F := Ideal) x0 x1 (ix2 r k)
    = hnS (fun k => rd S8192x2048 (x0) (ix2 r k)) (fun k => rd S2048 x1 (ix1 k)) k := by
  rw [val_main_v16_apply, val_main_v13_apply, val_main_v12_apply, val_main_v15_apply, val_main_v14_apply, rms_ffn]
  refine congrArg₂ (· * ·) rfl (congrArg x1 ?_)
  exact funext fun a => by match a with | ⟨0, _⟩ => rfl

/-- The reference's first product. -/
theorem up_ref (r : Fin 8192) (j : Fin 11008) : val_main_v17 (F := Ideal) x0 x1 x2 (ix2 r j)
    = ∑ k : Fin 2048, hnS (fun k => rd S8192x2048 (x0) (ix2 r k)) (fun k => rd S2048 x1 (ix1 k)) k * rd S2x2048x11008 x2 (ix3 (1 : Fin 2) k j) := by
  rw [val_main_v17_apply]
  refine Finset.sum_congr rfl fun k _ => congrArg₂ (· * ·) ?_ ?_
  · refine (congrArg (val_main_v16 (F := Ideal) x0 x1) ?_).trans (hn_ffn x0 x1 r k)
    exact funext fun a => by match a with | ⟨0, _⟩ => rfl | ⟨1, _⟩ => rfl
  · refine (congrArg (val_main_v1 (F := Ideal) x2) ?_).trans (win_ref x2 k j)
    exact funext fun a => by match a with | ⟨0, _⟩ => rfl | ⟨1, _⟩ => rfl

/-- The reference's activations. -/
theorem act_ref (r : Fin 8192) (j : Fin 5504) : val_main_v21 (F := Ideal) x0 x1 x2 (ix2 r j)
    = act 1 (rd S8192x2048 (x0)) (rd S2048 x1) (rd S2x2048x11008 x2) r j := by
  have eg : val_main_v18 (F := Ideal) x0 x1 x2 (ix2 r j) = _ := (val_main_v18_apply x0 x1 x2 _).trans
    ((congrArg (val_main_v17 (F := Ideal) x0 x1 x2) (funext fun a => by match a with | ⟨0, _⟩ => rfl | ⟨1, _⟩ => rfl)).trans (up_ref x0 x1 x2 r ⟨j.val, by omega⟩))
  have eu : val_main_v19 (F := Ideal) x0 x1 x2 (ix2 r j) = _ := (val_main_v19_apply x0 x1 x2 _).trans
    ((congrArg (val_main_v17 (F := Ideal) x0 x1 x2) (funext fun a => by match a with | ⟨0, _⟩ => rfl | ⟨1, _⟩ => rfl)).trans (up_ref x0 x1 x2 r ⟨5504 + j.val, by omega⟩))
  rw [val_main_v21_apply, val_main_v20_apply, val_main_call0_v5_apply, val_main_call0_v3_apply, val_main_call0_v4_apply, val_main_call0_v2_apply,
    val_main_call0_v1_apply, val_main_call0_v0_apply, val_main_call0_cst_apply, val_main_call0_cst_0_apply, eg, eu]
  unfold act glu
  refine congrArg₂ (· * ·) (congrArg₂ (· * ·) rfl ?_) rfl
  show Ideal.div (Ideal.ofBits .f32 0x3F800000#32) (Ideal.ofBits .f32 0x3F800000#32 + _) = _
  rw [Ideal.ofBits_one_f32]
  rfl

/-- The reference's half layer. -/
theorem half_ref (i : S8192x2048.Idx) : val_main_v25 (F := Ideal) x0 x1 x2 x3 i
    = swiglu 1 (rd S8192x2048 (x0)) (rd S2048 x1) (rd S2x2048x11008 x2) (rd S2x5504x2048 x3) i := by
  rw [val_main_v25_apply, val_main_v24_apply, val_main_v23_apply, val_main_cst_2_apply, val_main_v22_apply]
  unfold swiglu
  refine congrArg₂ (· + ·) rfl (congrArg₂ (· * ·) rfl (Finset.sum_congr rfl fun j _ => congrArg₂ (· * ·) ?_ ?_))
  · refine (congrArg (val_main_v21 (F := Ideal) x0 x1 x2) ?_).trans (act_ref x0 x1 x2 (i 0) j)
    exact funext fun a => by match a with | ⟨0, _⟩ => rfl | ⟨1, _⟩ => rfl
  · refine (congrArg (val_main_v3 (F := Ideal) x3) ?_).trans (wout_ref x3 j (i 1))
    exact funext fun a => by match a with | ⟨0, _⟩ => rfl | ⟨1, _⟩ => rfl

/-- The reference's embeddings of the layer. -/
theorem tok_ref (r : Fin 8192) (k : Fin 256) : val_main_v27 (F := Ideal) x4 (ix2 r k) = rd S2x1x8192x256 x4 (ix4 (1 : Fin 2) (0 : Fin 1) r k) := by
  rw [val_main_v27_apply, val_main_v26_apply]
  refine congrArg x4 (funext fun a => Fin.ext ?_)
  have hr := r.isLt
  have hk := k.isLt
  match a with
  | ⟨0, _⟩ => rfl
  | ⟨1, _⟩ => rfl
  | ⟨2, _⟩ => show (r.val * 256 + k.val) / 256 % 8192 = r.val; omega
  | ⟨3, _⟩ => show (r.val * 256 + k.val) % 256 = k.val; omega

/-- The reference's gate weights are the second of the pair. -/
theorem wgate_ref (k : Fin 2048) (j : Fin 2048) : val_main_v29 (F := Ideal) x6 (ix2 k j) = rd S2x2048x2048 x6 (ix3 (1 : Fin 2) k j) := by
  rw [val_main_v29_apply, val_main_v28_apply]
  refine congrArg x6 (funext fun a => Fin.ext ?_)
  have hk := k.isLt
  have hj := j.isLt
  match a with
  | ⟨0, _⟩ => rfl
  | ⟨1, _⟩ => show (k.val * 2048 + j.val) / 2048 % 2048 = k.val; omega
  | ⟨2, _⟩ => show (k.val * 2048 + j.val) % 2048 = j.val; omega

/-- The reference's projection weights are the second of the pair. -/
theorem wup_ref (k : Fin 256) (j : Fin 2048) : val_main_v31 (F := Ideal) x7 (ix2 k j) = rd S2x256x2048 x7 (ix3 (1 : Fin 2) k j) := by
  rw [val_main_v31_apply, val_main_v30_apply]
  refine congrArg x7 (funext fun a => Fin.ext ?_)
  have hk := k.isLt
  have hj := j.isLt
  match a with
  | ⟨0, _⟩ => rfl
  | ⟨1, _⟩ => show (k.val * 2048 + j.val) / 2048 % 256 = k.val; omega
  | ⟨2, _⟩ => show (k.val * 2048 + j.val) % 2048 = j.val; omega

/-- The root mean square of a projected embedding. -/
theorem rms_emb (i : S8192x1.Idx) : val_main_v40 (F := Ideal) x4 x7 i = rms (fun k => rd S8192x2048 (val_main_v32 (F := Ideal) x4 x7) (ix2 (i 0) k)) := by
  rw [val_main_v40_apply, val_main_v39_apply, val_main_v37_apply, val_main_v38_apply, val_main_v36_apply, val_main_v35_apply, val_main_v34_apply,
    val_main_cst_3_apply, val_main_cst_4_apply, val_main_cst_5_apply]
  have e : ∀ k : Fin 2048, val_main_v33 (F := Ideal) x4 x7 (idx_main_v34 (idx_main_v35 i) k)
      = rd S8192x2048 (val_main_v32 (F := Ideal) x4 x7) (ix2 (i 0) k) * rd S8192x2048 (val_main_v32 (F := Ideal) x4 x7) (ix2 (i 0) k) := fun k => by
    rw [val_main_v33_apply, show idx_main_v34 (idx_main_v35 i) k = ix2 (i 0) k from funext fun a => by match a with | ⟨0, _⟩ => rfl | ⟨1, _⟩ => rfl]
    rfl
  rw [Finset.sum_congr rfl fun k _ => e k]
  show Ideal.rsqrt (Ideal.div (Ideal.ofBits .f32 0x00000000#32 + _) _ + _) = _
  rw [Ideal.ofBits_zero_f32, zero_add]
  rfl

/-- The normalised embedding. -/
theorem hn_emb (r : Fin 8192) (k : Fin 2048) : val_main_v45 (F := Ideal) x4 x7 x8 (ix2 r k)
    = hnS (fun k => rd S8192x2048 (val_main_v32 (F := Ideal) x4 x7) (ix2 r k)) (fun k => rd S2048 x8 (ix1 k)) k := by
  rw [val_main_v45_apply, val_main_v42_apply, val_main_v41_apply, val_main_v44_apply, val_main_v43_apply, rms_emb]
  refine congrArg₂ (· * ·) rfl (congrArg x8 ?_)
  exact funext fun a => by match a with | ⟨0, _⟩ => rfl

/-- The root mean square of a row of the half layer's result. -/
theorem rms_gate (i : S8192x1.Idx) : val_main_v53 (F := Ideal) x0 x1 x2 x3 i = rms (fun k => rd S8192x2048 (val_main_v25 (F := Ideal) x0 x1 x2 x3) (ix2 (i 0) k)) := by
  rw [val_main_v53_apply, val_main_v52_apply, val_main_v50_apply, val_main_v51_apply, val_main_v49_apply, val_main_v48_apply, val_main_v47_apply,
    val_main_cst_6_apply, val_main_cst_7_apply, val_main_cst_8_apply]
  have e : ∀ k : Fin 2048, val_main_v46 (F := Ideal) x0 x1 x2 x3 (idx_main_v47 (idx_main_v48 i) k)
      = rd S8192x2048 (val_main_v25 (F := Ideal) x0 x1 x2 x3) (ix2 (i 0) k) * rd S8192x2048 (val_main_v25 (F := Ideal) x0 x1 x2 x3) (ix2 (i 0) k) := fun k => by
    rw [val_main_v46_apply, show idx_main_v47 (idx_main_v48 i) k = ix2 (i 0) k from funext fun a => by match a with | ⟨0, _⟩ => rfl | ⟨1, _⟩ => rfl]
    rfl
  rw [Finset.sum_congr rfl fun k _ => e k]
  show Ideal.rsqrt (Ideal.div (Ideal.ofBits .f32 0x00000000#32 + _) _ + _) = _
  rw [Ideal.ofBits_zero_f32, zero_add]
  rfl

/-- The rows the gate reads. -/
theorem hn_gate (r : Fin 8192) (k : Fin 2048) : val_main_v58 (F := Ideal) x0 x1 x2 x3 x5 (ix2 r k)
    = hnS (fun k => rd S8192x2048 (val_main_v25 (F := Ideal) x0 x1 x2 x3) (ix2 r k)) (fun k => rd S2048 x5 (ix1 k)) k := by
  rw [val_main_v58_apply, val_main_v55_apply, val_main_v54_apply, val_main_v57_apply, val_main_v56_apply, rms_gate]
  refine congrArg₂ (· * ·) rfl (congrArg x5 ?_)
  exact funext fun a => by match a with | ⟨0, _⟩ => rfl

/-- The reference's projected embedding. -/
theorem emb_ref (r : Fin 8192) (j : Fin 2048) : val_main_v32 (F := Ideal) x4 x7 (ix2 r j)
    = emb 1 (rd S2x1x8192x256 x4) (rd S2x256x2048 x7) r j := by
  rw [val_main_v32_apply]
  refine Finset.sum_congr rfl fun k _ => congrArg₂ (· * ·) ?_ ?_
  · refine (congrArg (val_main_v27 (F := Ideal) x4) ?_).trans (tok_ref x4 r k)
    exact funext fun a => by match a with | ⟨0, _⟩ => rfl | ⟨1, _⟩ => rfl
  · refine (congrArg (val_main_v31 (F := Ideal) x7) ?_).trans (wup_ref x7 k j)
    exact funext fun a => by match a with | ⟨0, _⟩ => rfl | ⟨1, _⟩ => rfl

/-- The reference's gate before its logistic. -/
theorem gdot_ref (r : Fin 8192) (j : Fin 2048) : val_main_v59 (F := Ideal) x0 x1 x2 x3 x5 x6 (ix2 r j)
    = ∑ k : Fin 2048, hnS (fun k => rd S8192x2048 (val_main_v25 (F := Ideal) x0 x1 x2 x3) (ix2 r k)) (fun k => rd S2048 x5 (ix1 k)) k * rd S2x2048x2048 x6 (ix3 (1 : Fin 2) k j) := by
  rw [val_main_v59_apply]
  refine Finset.sum_congr rfl fun k _ => congrArg₂ (· * ·) ?_ ?_
  · refine (congrArg (val_main_v58 (F := Ideal) x0 x1 x2 x3 x5) ?_).trans (hn_gate x0 x1 x2 x3 x5 r k)
    exact funext fun a => by match a with | ⟨0, _⟩ => rfl | ⟨1, _⟩ => rfl
  · refine (congrArg (val_main_v29 (F := Ideal) x6) ?_).trans (wgate_ref x6 k j)
    exact funext fun a => by match a with | ⟨0, _⟩ => rfl | ⟨1, _⟩ => rfl

/-- The reference's gate. -/
theorem gate_ref (r : Fin 8192) (j : Fin 2048) : val_main_v65 (F := Ideal) x0 x1 x2 x3 x5 x6 (ix2 r j)
    = gate 1 (rd S8192x2048 (val_main_v25 (F := Ideal) x0 x1 x2 x3)) (fun k => rd S2048 x5 (ix1 k)) (rd S2x2048x2048 x6) r j := by
  rw [val_main_v65_apply, val_main_v63_apply, val_main_v64_apply, val_main_v62_apply, val_main_v61_apply, val_main_v60_apply, val_main_cst_9_apply, val_main_cst_10_apply, gdot_ref]
  show Ideal.div (Ideal.ofBits .f32 0x3F800000#32) (Ideal.ofBits .f32 0x3F800000#32 + _) = _
  rw [Ideal.ofBits_one_f32]
  rfl

/-- The reference's stream with the gated embedding. -/
theorem ple_ref (r : Fin 8192) (j : Fin 2048) : val_main_v67 (F := Ideal) x0 x1 x2 x3 x4 x5 x6 x7 x8 (ix2 r j)
    = ple 1 (rd S8192x2048 (val_main_v25 (F := Ideal) x0 x1 x2 x3)) (rd S2x1x8192x256 x4) (fun k => rd S2048 x5 (ix1 k)) (rd S2x2048x2048 x6) (rd S2x256x2048 x7)
      (fun k => rd S2048 x8 (ix1 k)) (ix2 r j) := by
  rw [val_main_v67_apply, val_main_v66_apply, gate_ref, hn_emb]
  unfold ple
  refine congrArg₂ (· + ·) rfl (congrArg₂ (· * ·) (congrFun (congrFun (congrArg hnS (funext fun k => ?_)) _) _) rfl)
  exact emb_ref x4 x7 r k

/-- The root mean square of a row of the stream with the gated embedding. -/
theorem rms_last (i : S8192x1.Idx) : val_main_v75 (F := Ideal) x0 x1 x2 x3 x4 x5 x6 x7 x8 i = rms (fun k => rd S8192x2048 (val_main_v67 (F := Ideal) x0 x1 x2 x3 x4 x5 x6 x7 x8) (ix2 (i 0) k)) := by
  rw [val_main_v75_apply, val_main_v74_apply, val_main_v72_apply, val_main_v73_apply, val_main_v71_apply, val_main_v70_apply, val_main_v69_apply,
    val_main_cst_11_apply, val_main_cst_12_apply, val_main_cst_13_apply]
  have e : ∀ k : Fin 2048, val_main_v68 (F := Ideal) x0 x1 x2 x3 x4 x5 x6 x7 x8 (idx_main_v69 (idx_main_v70 i) k)
      = rd S8192x2048 (val_main_v67 (F := Ideal) x0 x1 x2 x3 x4 x5 x6 x7 x8) (ix2 (i 0) k) * rd S8192x2048 (val_main_v67 (F := Ideal) x0 x1 x2 x3 x4 x5 x6 x7 x8) (ix2 (i 0) k) := fun k => by
    rw [val_main_v68_apply, show idx_main_v69 (idx_main_v70 i) k = ix2 (i 0) k from funext fun a => by match a with | ⟨0, _⟩ => rfl | ⟨1, _⟩ => rfl]
    rfl
  rw [Finset.sum_congr rfl fun k _ => e k]
  show Ideal.rsqrt (Ideal.div (Ideal.ofBits .f32 0x00000000#32 + _) _ + _) = _
  rw [Ideal.ofBits_zero_f32, zero_add]
  rfl

/-- The reference's final norm. -/
theorem hn_last (r : Fin 8192) (k : Fin 2048) : val_main_v80 (F := Ideal) x0 x1 x2 x3 x4 x5 x6 x7 x8 x9 (ix2 r k)
    = hnS (fun k => rd S8192x2048 (val_main_v67 (F := Ideal) x0 x1 x2 x3 x4 x5 x6 x7 x8) (ix2 r k)) (fun k => rd S2048 x9 (ix1 k)) k := by
  rw [val_main_v80_apply, val_main_v77_apply, val_main_v76_apply, val_main_v79_apply, val_main_v78_apply, rms_last]
  refine congrArg₂ (· * ·) rfl (congrArg x9 ?_)
  exact funext fun a => by match a with | ⟨0, _⟩ => rfl

/-- The reference's result: the final norm of the stream with the half layer and the gated embedding. -/
theorem out_ref : val_main_v81 (F := Ideal) x0 x1 x2 x3 x4 x5 x6 x7 x8 x9 = fun i : S1x8192x2048.Idx =>
    hnS (fun j => ple 1 (swiglu 1 (rd S8192x2048 x0) (rd S2048 x1) (rd S2x2048x11008 x2) (rd S2x5504x2048 x3)) (rd S2x1x8192x256 x4) (fun k => rd S2048 x5 (ix1 k))
      (rd S2x2048x2048 x6) (rd S2x256x2048 x7) (fun k => rd S2048 x8 (ix1 k)) (ix2 (i 1) j)) (fun k => rd S2048 x9 (ix1 k)) (i 2) := by
  refine funext fun (i : S1x8192x2048.Idx) => ?_
  have hi : idx_main_v81 i = ix2 (i 1) (i 2) := funext fun a => Fin.ext (by
    have h0 : (i 0).val < 1 := (i 0).isLt
    have h1 : (i 1).val < 8192 := (i 1).isLt
    have h2 : (i 2).val < 2048 := (i 2).isLt
    match a with
    | ⟨0, _⟩ => show (((i 0).val * 8192 + (i 1).val) * 2048 + (i 2).val) / 2048 = (i 1).val; omega
    | ⟨1, _⟩ => show (((i 0).val * 8192 + (i 1).val) * 2048 + (i 2).val) % 2048 = (i 2).val; omega)
  have e : rd S8192x2048 (val_main_v25 (F := Ideal) x0 x1 x2 x3) = swiglu 1 (rd S8192x2048 x0) (rd S2048 x1) (rd S2x2048x11008 x2) (rd S2x5504x2048 x3) := funext fun i => half_ref x0 x1 x2 x3 i
  refine (val_main_v81_apply x0 x1 x2 x3 x4 x5 x6 x7 x8 x9 i).trans ((congrArg (val_main_v80 (F := Ideal) x0 x1 x2 x3 x4 x5 x6 x7 x8 x9) hi).trans ((hn_last x0 x1 x2 x3 x4 x5 x6 x7 x8 x9 (i 1) (i 2)).trans ?_))
  refine congrFun (congrFun (congrArg hnS (funext fun j => ?_)) _) _
  refine (ple_ref x0 x1 x2 x3 x4 x5 x6 x7 x8 (i 1) j).trans ?_
  rw [e]

end Cert.Reference3Ideal.Hand

end
-- ==== Proof.SameText.lean ====
module

public import proofs.«01_k».proof.Proof.Gen.Kernel
public import proofs.«01_k».proof.Proof.Gen.KernelIdeal
public import proofs.«01_k».proof.Proof.Gen.Kernel2
public import proofs.«01_k».proof.Proof.Gen.Kernel2Ideal
public import proofs.«01_k».proof.Proof.Gen.Kernel3
public import proofs.«01_k».proof.Proof.Gen.Kernel3Ideal
public import proofs.«01_k».proof.Proof.Gen.Kernel4
public import proofs.«01_k».proof.Proof.Gen.Kernel4Ideal
public import proofs.«01_k».proof.Proof.Gen.Kernel5
public import proofs.«01_k».proof.Proof.Gen.Kernel5Ideal

@[expose] public section

set_option maxRecDepth 16384
set_option maxHeartbeats 4000000

noncomputable section

namespace Cert.Hand

open Idealize.ShloMosaic Idealize.SL.Sem

attribute [local instance] Cert.Kernel.Gen.facts Cert.KernelIdeal.Gen.facts Cert.Kernel2.Gen.facts Cert.Kernel2Ideal.Gen.facts Cert.Kernel3.Gen.facts Cert.Kernel3Ideal.Gen.facts Cert.Kernel4.Gen.facts Cert.Kernel4Ideal.Gen.facts Cert.Kernel5.Gen.facts Cert.Kernel5Ideal.Gen.facts

variable {F : FTy → Type} [FloatOps F]

/-- The first program's two texts have the same kernel bodies, label by label. -/
theorem bodies_same : Cert.Kernel.defs₀ (F := F) = Cert.KernelIdeal.defs₀ (F := F) := by
  unfold Cert.Kernel.defs₀ Cert.KernelIdeal.defs₀
  refine congrArg (Defs.onTc (τ := Cert.KernelIdeal.τ) (sig := Cert.KernelIdeal.sig) (Λ := Cert.KernelIdeal.Λ₀)) (funext fun l => funext fun a => ?_)
  match l, a with
  | ⟨0, _⟩, (t, s) => rfl
  | ⟨1, _⟩, (t, s) => rfl
  | ⟨2, _⟩, (t, s) => rfl
  | ⟨_ + 3, h⟩, _ => exact absurd h (Nat.not_lt.2 (Nat.le_add_left _ _))

/-- The first program's two texts have the same body tables. -/
theorem defs_same : Cert.Kernel.defs (F := F) = Cert.KernelIdeal.defs (F := F) :=
  congrArg (Pipeline.defs (Cert.KernelIdeal.pcfgs (F := F))) bodies_same

/-- The second program's two texts have the same kernel bodies, label by label. -/
theorem bodies_same2 : Cert.Kernel2.defs₀ (F := F) = Cert.Kernel2Ideal.defs₀ (F := F) := by
  unfold Cert.Kernel2.defs₀ Cert.Kernel2Ideal.defs₀
  refine congrArg (Defs.onTc (τ := Cert.Kernel2Ideal.τ) (sig := Cert.Kernel2Ideal.sig) (Λ := Cert.Kernel2Ideal.Λ₀)) (funext fun l => funext fun a => ?_)
  match l, a with
  | ⟨0, _⟩, (t, s) => rfl
  | ⟨1, _⟩, (t, s) => rfl
  | ⟨2, _⟩, (t, s) => rfl
  | ⟨3, _⟩, (t, s) => rfl
  | ⟨_ + 4, h⟩, _ => exact absurd h (Nat.not_lt.2 (Nat.le_add_left _ _))

/-- The second program's two texts have the same body tables. -/
theorem defs_same2 : Cert.Kernel2.defs (F := F) = Cert.Kernel2Ideal.defs (F := F) :=
  congrArg (Pipeline.defs (Cert.Kernel2Ideal.pcfgs (F := F))) bodies_same2

/-- The third program's two texts have the same kernel bodies, label by label. -/
theorem bodies_same3 : Cert.Kernel3.defs₀ (F := F) = Cert.Kernel3Ideal.defs₀ (F := F) := by
  unfold Cert.Kernel3.defs₀ Cert.Kernel3Ideal.defs₀
  refine congrArg (Defs.onTc (τ := Cert.Kernel3Ideal.τ) (sig := Cert.Kernel3Ideal.sig) (Λ := Cert.Kernel3Ideal.Λ₀)) (funext fun l => funext fun a => ?_)
  match l, a with
  | ⟨0, _⟩, (t, s) => rfl
  | ⟨1, _⟩, (t, s) => rfl
  | ⟨2, _⟩, (t, s) => rfl
  | ⟨3, _⟩, (t, s) => rfl
  | ⟨_ + 4, h⟩, _ => exact absurd h (Nat.not_lt.2 (Nat.le_add_left _ _))

/-- The third program's two texts have the same body tables. -/
theorem defs_same3 : Cert.Kernel3.defs (F := F) = Cert.Kernel3Ideal.defs (F := F) :=
  congrArg (Pipeline.defs (Cert.Kernel3Ideal.pcfgs (F := F))) bodies_same3

/-- The fourth program's two texts have the same kernel bodies, label by label. -/
theorem bodies_same4 : Cert.Kernel4.defs₀ (F := F) = Cert.Kernel4Ideal.defs₀ (F := F) := by
  unfold Cert.Kernel4.defs₀ Cert.Kernel4Ideal.defs₀
  refine congrArg (Defs.onTc (τ := Cert.Kernel4Ideal.τ) (sig := Cert.Kernel4Ideal.sig) (Λ := Cert.Kernel4Ideal.Λ₀)) (funext fun l => funext fun a => ?_)
  match l, a with
  | ⟨0, _⟩, (t, s) => rfl
  | ⟨1, _⟩, (t, s) => rfl
  | ⟨2, _⟩, (t, s) => rfl
  | ⟨3, _⟩, (t, s) => rfl
  | ⟨_ + 4, h⟩, _ => exact absurd h (Nat.not_lt.2 (Nat.le_add_left _ _))

/-- The fourth program's two texts have the same body tables. -/
theorem defs_same4 : Cert.Kernel4.defs (F := F) = Cert.Kernel4Ideal.defs (F := F) :=
  congrArg (Pipeline.defs (Cert.Kernel4Ideal.pcfgs (F := F))) bodies_same4

/-- The fifth program's two texts have the same kernel bodies, label by label. -/
theorem bodies_same5 : Cert.Kernel5.defs₀ (F := F) = Cert.Kernel5Ideal.defs₀ (F := F) := by
  unfold Cert.Kernel5.defs₀ Cert.Kernel5Ideal.defs₀
  refine congrArg (Defs.onTc (τ := Cert.Kernel5Ideal.τ) (sig := Cert.Kernel5Ideal.sig) (Λ := Cert.Kernel5Ideal.Λ₀)) (funext fun l => funext fun a => ?_)
  match l, a with
  | ⟨0, _⟩, (t, s) => rfl
  | ⟨1, _⟩, (t, s) => rfl
  | ⟨2, _⟩, (t, s) => rfl
  | ⟨_ + 3, h⟩, _ => exact absurd h (Nat.not_lt.2 (Nat.le_add_left _ _))

/-- The fifth program's two texts have the same body tables. -/
theorem defs_same5 : Cert.Kernel5.defs (F := F) = Cert.Kernel5Ideal.defs (F := F) :=
  congrArg (Pipeline.defs (Cert.Kernel5Ideal.pcfgs (F := F))) bodies_same5

end Cert.Hand

end
-- ==== Proof.Run0.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.Value
public import Idealize.ShloMosaic.Lib.Ring
public import Idealize.ShloMosaic.Lib.Tactic
public import Idealize.ShloMosaic.Lib.VecWindow
public import Idealize.ShloMosaic.Lib.WordCmp

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The condition of the body's branch, as the program states it. -/
abbrev cond0 (i : grid0.Coords) : Prop := (Scalar.cmpi .ne (Scalar.extui (Scalar.cmpi .eq (BitVec.ofNat 32 (i 1).val) 0#32)) 0#32) = 1#1

set_option maxHeartbeats 2000000 in
/-- The body where it casts the two weight slabs first: from any scratch contents, every output ends at its payload and the scratch at the cast slabs. -/
theorem run0A (c : Dev nD) (i : grid0.Coords) (arg2 : Memref sig .tc .vmem S1024x2048 .f32) (harg2 : arg2.IsWhole) (arg3 : Memref sig .tc .vmem S1x2048x384 .f32) (harg3 : arg3.IsWhole) (arg4 : Memref sig .tc .vmem S1x2048x384 .f32) (harg4 : arg4.IsWhole) (arg5 : Memref sig .tc .vmem S1x2048 .f32) (harg5 : arg5.IsWhole) (arg6 : Memref sig .tc .vmem S1x48x2048 .f32) (harg6 : arg6.IsWhole) (arg7 : Memref sig .tc .vmem S1024x384 .bf16) (harg7 : arg7.IsWhole) (arg8 : Memref sig .tc .vmem S1024x2048 .bf16) (harg8 : arg8.IsWhole) (arg9 : Memref sig .tc .vmem S48x2048 .bf16) (harg9 : arg9.IsWhole) (arg10 : Memref sig .tc .vmem S2048x384 .bf16) (harg10 : arg10.IsWhole) (arg11 : Memref sig .tc .vmem S2048x384 .bf16) (harg11 : arg11.IsWhole) (hc0 : cond0 i)
    (x0 : Vec F S1024x2048 .f32) (x1 : Vec F S1x2048x384 .f32) (x2 : Vec F S1x2048x384 .f32) (x3 : Vec F S1x2048 .f32) (x4 : Vec F S1x48x2048 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (k0_pay5 x0 x3 (k0_pay1 x1) (k0_pay2 x2)) ∗ owns (c : Thread nD τ) arg8 fullShare (k0_pay3 x0 x3) ∗ owns (c : Thread nD τ) arg9 fullShare (k0_pay4 x4) ∗ owns (c : Thread nD τ) arg10 fullShare (k0_pay1 x1) ∗ owns (c : Thread nD τ) arg11 fullShare (k0_pay2 x2)) -∗ K ⟨⟩))
      ⊢ wp frame (wpE (defs₀ (F := F)) Variants.none c none) E (cc0_ffn_in i arg2 harg2 arg3 harg3 arg4 harg4 arg5 harg5 arg6 harg6 arg7 harg7 arg8 harg8 arg9 harg9 arg10 harg10 arg11 harg11) K := by
  simp only [cc0_ffn_in_eq_skeleton]; unfold cc0_ffn_in_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, ⟨%d9, %f9, -, H9⟩, Hk⟩
  obtain rfl := harg2.eq_unread hf0; obtain rfl := harg3.eq_unread hf1; obtain rfl := harg4.eq_unread hf2; obtain rfl := harg5.eq_unread hf3; obtain rfl := harg6.eq_unread hf4
  sl_exec (disch := first | sl_exact hc0)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; swap; · iexact H5
    ipureintro
    refine (View.read_writes_full _ _ _ _ _).trans ?_
    show k0_pay5 _ _ _ _ = k0_pay5 x0 x3 (k0_pay1 x1) (k0_pay2 x2)
    exact (congr (congr (congr (congrArg k0_pay5 ((View.readAt_full _ _ _).trans (Memref.IsWhole.read_unread _ _))) ((View.readAt_full _ _ _).trans (Memref.IsWhole.read_unread _ _))) ((View.readCov_full _ _ _ _ _).trans (congrArg k0_pay1 ((View.readAt_full _ _ _).trans (Memref.IsWhole.read_unread _ _))))) ((View.readCov_full _ _ _ _ _).trans (congrArg k0_pay2 ((View.readAt_full _ _ _).trans (Memref.IsWhole.read_unread _ _)))))
  isplitl [H6]
  · iexists _; isplitr; swap; · iexact H6
    ipureintro
    refine (View.read_writes_full _ _ _ _ _).trans ?_
    show k0_pay3 _ _ = k0_pay3 x0 x3
    exact (congr (congrArg k0_pay3 ((View.readAt_full _ _ _).trans (Memref.IsWhole.read_unread _ _))) ((View.readAt_full _ _ _).trans (Memref.IsWhole.read_unread _ _)))
  isplitl [H7]
  · iexists _; isplitr; swap; · iexact H7
    ipureintro
    refine (View.read_writes_full _ _ _ _ _).trans ?_
    show k0_pay4 _ = k0_pay4 x4
    exact (congrArg k0_pay4 ((View.readAt_full _ _ _).trans (Memref.IsWhole.read_unread _ _)))
  isplitl [H8]
  · iexists _; isplitr; swap; · iexact H8
    ipureintro
    refine (View.read_writes_full _ _ _ _ _).trans ?_
    show k0_pay1 _ = k0_pay1 x1
    exact (congrArg k0_pay1 ((View.readAt_full _ _ _).trans (Memref.IsWhole.read_unread _ _)))
  · iexists _; isplitr; swap; · iexact H9
    ipureintro
    refine (View.read_writes_full _ _ _ _ _).trans ?_
    show k0_pay2 _ = k0_pay2 x2
    exact (congrArg k0_pay2 ((View.readAt_full _ _ _).trans (Memref.IsWhole.read_unread _ _)))

set_option maxHeartbeats 2000000 in
/-- The body where the scratch already holds the two cast slabs: every output ends at its payload and the scratch stays. -/
theorem run0B (c : Dev nD) (i : grid0.Coords) (arg2 : Memref sig .tc .vmem S1024x2048 .f32) (harg2 : arg2.IsWhole) (arg3 : Memref sig .tc .vmem S1x2048x384 .f32) (harg3 : arg3.IsWhole) (arg4 : Memref sig .tc .vmem S1x2048x384 .f32) (harg4 : arg4.IsWhole) (arg5 : Memref sig .tc .vmem S1x2048 .f32) (harg5 : arg5.IsWhole) (arg6 : Memref sig .tc .vmem S1x48x2048 .f32) (harg6 : arg6.IsWhole) (arg7 : Memref sig .tc .vmem S1024x384 .bf16) (harg7 : arg7.IsWhole) (arg8 : Memref sig .tc .vmem S1024x2048 .bf16) (harg8 : arg8.IsWhole) (arg9 : Memref sig .tc .vmem S48x2048 .bf16) (harg9 : arg9.IsWhole) (arg10 : Memref sig .tc .vmem S2048x384 .bf16) (harg10 : arg10.IsWhole) (arg11 : Memref sig .tc .vmem S2048x384 .bf16) (harg11 : arg11.IsWhole) (hc0 : ¬cond0 i)
    (x0 : Vec F S1024x2048 .f32) (x1 : Vec F S1x2048x384 .f32) (x2 : Vec F S1x2048x384 .f32) (x3 : Vec F S1x2048 .f32) (x4 : Vec F S1x48x2048 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d) ∗ owns (c : Thread nD τ) arg10 fullShare (k0_pay1 x1) ∗ owns (c : Thread nD τ) arg11 fullShare (k0_pay2 x2)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (k0_pay5 x0 x3 (k0_pay1 x1) (k0_pay2 x2)) ∗ owns (c : Thread nD τ) arg8 fullShare (k0_pay3 x0 x3) ∗ owns (c : Thread nD τ) arg9 fullShare (k0_pay4 x4) ∗ owns (c : Thread nD τ) arg10 fullShare (k0_pay1 x1) ∗ owns (c : Thread nD τ) arg11 fullShare (k0_pay2 x2)) -∗ K ⟨⟩))
      ⊢ wp frame (wpE (defs₀ (F := F)) Variants.none c none) E (cc0_ffn_in i arg2 harg2 arg3 harg3 arg4 harg4 arg5 harg5 arg6 harg6 arg7 harg7 arg8 harg8 arg9 harg9 arg10 harg10 arg11 harg11) K := by
  simp only [cc0_ffn_in_eq_skeleton]; unfold cc0_ffn_in_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%f8, %hf8, H8⟩, ⟨%f9, %hf9, H9⟩, Hk⟩
  obtain rfl := harg2.eq_unread hf0; obtain rfl := harg3.eq_unread hf1; obtain rfl := harg4.eq_unread hf2; obtain rfl := harg5.eq_unread hf3; obtain rfl := harg6.eq_unread hf4; obtain rfl := harg10.eq_unread hf8; obtain rfl := harg11.eq_unread hf9
  sl_exec (disch := first | sl_exact hc0)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; swap; · iexact H5
    ipureintro
    refine (View.read_writes_full _ _ _ _ _).trans ?_
    show k0_pay5 _ _ _ _ = k0_pay5 x0 x3 (k0_pay1 x1) (k0_pay2 x2)
    exact (congr (congr (congr (congrArg k0_pay5 ((View.readAt_full _ _ _).trans (Memref.IsWhole.read_unread _ _))) ((View.readAt_full _ _ _).trans (Memref.IsWhole.read_unread _ _))) ((View.readAt_full _ _ _).trans (Memref.IsWhole.read_unread _ _))) ((View.readAt_full _ _ _).trans (Memref.IsWhole.read_unread _ _)))
  isplitl [H6]
  · iexists _; isplitr; swap; · iexact H6
    ipureintro
    refine (View.read_writes_full _ _ _ _ _).trans ?_
    show k0_pay3 _ _ = k0_pay3 x0 x3
    exact (congr (congrArg k0_pay3 ((View.readAt_full _ _ _).trans (Memref.IsWhole.read_unread _ _))) ((View.readAt_full _ _ _).trans (Memref.IsWhole.read_unread _ _)))
  isplitl [H7]
  · iexists _; isplitr; swap; · iexact H7
    ipureintro
    refine (View.read_writes_full _ _ _ _ _).trans ?_
    show k0_pay4 _ = k0_pay4 x4
    exact (congrArg k0_pay4 ((View.readAt_full _ _ _).trans (Memref.IsWhole.read_unread _ _)))
  isplitl [H8]
  · iexists _; isplitr; · ipureintro; exact harg10.read_unread _
    iexact H8
  · iexists _; isplitr; · ipureintro; exact harg11.read_unread _
    iexact H9

end Cert.KernelIdeal.Hand

end
-- ==== Proof.Region0.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.Value
public import Idealize.ShloMosaic.Lib.Ring
public import Idealize.ShloMosaic.Lib.Tactic
public import Idealize.ShloMosaic.Lib.VecWindow
public import Idealize.ShloMosaic.Lib.WordCmp
public import proofs.«01_k».proof.Proof.Gen.KernelIdeal.Regions
public import proofs.«01_k».proof.Proof.Run0

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → Valuation τ sig (Elt F))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The scratch buffers before point `n`: anything where a weight slab starts, and the slab's two cast halves elsewhere. -/
def scr0 (c : Dev nD) (n : ℕ) : sProp 𝕄 :=
  if n % 8 = 0 then iprop((∃ d, owns (c : Thread nD τ) (Memref.whole cc0_scratch0) fullShare d) ∗ (∃ d, owns (c : Thread nD τ) (Memref.whole cc0_scratch1) fullShare d))
  else iprop(∃ t' : Fin cfg0.N, ⌜t'.val / 8 = n / 8⌝ ∗ owns (c : Thread nD τ) (Memref.whole cc0_scratch0) fullShare (k0_pay1 (iblk0 V c 1 t')) ∗ owns (c : Thread nD τ) (Memref.whole cc0_scratch1) fullShare (k0_pay2 (iblk0 V c 2 t')))

/-- What the scratch holds after point `t` is what the next point expects. -/
theorem scr0_close (c : Dev nD) (t : Fin cfg0.N) :
    iprop(owns (c : Thread nD τ) (Memref.whole cc0_scratch0) fullShare (k0_pay1 (iblk0 V c 1 t)) ∗ owns (c : Thread nD τ) (Memref.whole cc0_scratch1) fullShare (k0_pay2 (iblk0 V c 2 t)))
      ⊢ scr0 V c (t.val + 1) := by
  unfold scr0
  by_cases h : (t.val + 1) % 8 = 0
  · rw [if_pos h]
    iintro ⟨H0, H1⟩
    isplitl [H0]
    · iexists _; iexact H0
    iexists _; iexact H1
  · rw [if_neg h]
    iintro ⟨H0, H1⟩
    iexists t
    isplitr
    · ipureintro; omega
    isplitl [H0] <;> iassumption

/-- The two weight windows move only with the slab's number. -/
theorem index0_1 : ∀ t t' : Fin grid0.N, t.val / 8 = t'.val / 8 → ∀ a, win0_1.index t a = win0_1.index t' a := by
  decide +kernel
theorem index0_2 : ∀ t t' : Fin grid0.N, t.val / 8 = t'.val / 8 → ∀ a, win0_2.index t a = win0_2.index t' a := by
  decide +kernel

theorem iblk0_1_eq (c : Dev nD) (t t' : Fin cfg0.N) (h : t.val / 8 = t'.val / 8) : iblk0 V c 1 t = iblk0 V c 1 t' := by
  funext y
  refine congrArg (V c main_arg2) ?_
  funext a
  refine Fin.ext ?_
  have h1 := index0_1 t t' h
  fin_cases a
  · show win0_1.index t 0 + 1 * (y 0).val = win0_1.index t' 0 + 1 * (y 0).val
    rw [h1]
  · show win0_1.index t 1 + 1 * (y 1).val = win0_1.index t' 1 + 1 * (y 1).val
    rw [h1]
  · show win0_1.index t 2 + 1 * (y 2).val = win0_1.index t' 2 + 1 * (y 2).val
    rw [h1]
theorem iblk0_2_eq (c : Dev nD) (t t' : Fin cfg0.N) (h : t.val / 8 = t'.val / 8) : iblk0 V c 2 t = iblk0 V c 2 t' := by
  funext y
  refine congrArg (V c main_arg2) ?_
  funext a
  refine Fin.ext ?_
  have h1 := index0_2 t t' h
  fin_cases a
  · show win0_2.index t 0 + 1 * (y 0).val = win0_2.index t' 0 + 1 * (y 0).val
    rw [h1]
  · show win0_2.index t 1 + 1 * (y 1).val = win0_2.index t' 1 + 1 * (y 1).val
    rw [h1]
  · show win0_2.index t 2 + 1 * (y 2).val = win0_2.index t' 2 + 1 * (y 2).val
    rw [h1]

/-- The body's branch is taken exactly where a weight slab starts. -/
theorem hcond0 : ∀ t : Fin cfg0.N, cond0 (grid0.coords t) ↔ t.val % 8 = 0 :=
  (fun t => by
    have ht : t.val < 8 := lt_of_lt_of_eq t.isLt N_0
    have e1 : (grid0.coords t 1).val = t.val / 1 % 8 := Pipeline.Grid.coords_val t 1 (by decide) rfl
    simp only [cond0, e1]
    word_cmp
   : ∀ t : Fin grid0.N, cond0 (grid0.coords t) ↔ t.val % 8 = 0)

/-- The region's proof data: each array at its entry contents, each input's buffer at its block, each output's at its payload, the scratch as the points leave it. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => k0_pay5 (iblk0 V c 0 t) (iblk0 V c 3 t) (k0_pay1 (iblk0 V c 1 t)) (k0_pay2 (iblk0 V c 2 t))
    | ⟨6, _⟩ => k0_pay3 (iblk0 V c 0 t) (iblk0 V c 3 t)
    | ⟨7, _⟩ => k0_pay4 (iblk0 V c 4 t)
  Φ t := iprop(scr0 V c t.val ∗ Pipeline.scopedRestBut (Ix := Unit) (Name := ℕ) (U := UR sig nD τ) (Lvl := ℕ) (Val := Elt F) spec0 c [cc0_scratch0, cc0_scratch1])
  q w := Pipeline.shareOf spec0 w
  owed _ := 0

theorem A0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by
  dsimp only [dat0]
theorem after0_1 (c : Dev nD) (t : Fin cfg0.N) : (dat0 V c).after 1 t = iblk0 V c 1 t := by
  dsimp only [dat0]
theorem after0_2 (c : Dev nD) (t : Fin cfg0.N) : (dat0 V c).after 2 t = iblk0 V c 2 t := by
  dsimp only [dat0]
theorem after0_3 (c : Dev nD) (t : Fin cfg0.N) : (dat0 V c).after 3 t = iblk0 V c 3 t := by
  dsimp only [dat0]
theorem after0_4 (c : Dev nD) (t : Fin cfg0.N) : (dat0 V c).after 4 t = iblk0 V c 4 t := by
  dsimp only [dat0]
theorem after0_5 (c : Dev nD) (t : Fin cfg0.N) : (dat0 V c).after 5 t = k0_pay5 (iblk0 V c 0 t) (iblk0 V c 3 t) (k0_pay1 (iblk0 V c 1 t)) (k0_pay2 (iblk0 V c 2 t)) := by
  dsimp only [dat0]
theorem after0_6 (c : Dev nD) (t : Fin cfg0.N) : (dat0 V c).after 6 t = k0_pay3 (iblk0 V c 0 t) (iblk0 V c 3 t) := by
  dsimp only [dat0]
theorem after0_7 (c : Dev nD) (t : Fin cfg0.N) : (dat0 V c).after 7 t = k0_pay4 (iblk0 V c 4 t) := by
  dsimp only [dat0]
theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A0]; try rfl) t d).trans
    (by unfold Dat.fetched Dat.blockOf iblk0; rw [A0]; try rfl)
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A0]; try rfl) t d).trans
    (by unfold Dat.fetched Dat.blockOf iblk0; rw [A0]; try rfl)
theorem before0_2 (c : Dev nD) (t : Fin cfg0.N) (d) : (dat0 V c).before 2 t d = iblk0 V c 2 t :=
  ((dat0 V c).before_in_eq_fetched 2 rfl (fun _ => rfl) (fun _ _ _ => rfl) (fun t => by rw [after0_2]; unfold Dat.blockOf iblk0; rw [A0]; try rfl) t d).trans
    (by unfold Dat.fetched Dat.blockOf iblk0; rw [A0]; try rfl)
theorem before0_3 (c : Dev nD) (t : Fin cfg0.N) (d) : (dat0 V c).before 3 t d = iblk0 V c 3 t :=
  ((dat0 V c).before_in_eq_fetched 3 rfl (fun _ => rfl) (fun _ _ _ => rfl) (fun t => by rw [after0_3]; unfold Dat.blockOf iblk0; rw [A0]; try rfl) t d).trans
    (by unfold Dat.fetched Dat.blockOf iblk0; rw [A0]; try rfl)
theorem before0_4 (c : Dev nD) (t : Fin cfg0.N) (d) : (dat0 V c).before 4 t d = iblk0 V c 4 t :=
  ((dat0 V c).before_in_eq_fetched 4 rfl (fun _ => rfl) (fun _ _ _ => rfl) (fun t => by rw [after0_4]; unfold Dat.blockOf iblk0; rw [A0]; try rfl) t d).trans
    (by unfold Dat.fetched Dat.blockOf iblk0; rw [A0]; try rfl)
abbrev ms0_0 (t : Fin cfg0.N) : Memref sig .tc .vmem S1024x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x2048x384 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x2048x384 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x2048 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x48x2048 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1024x384 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1024x2048 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S48x2048 .bf16 := win0_7.stage (cfg0.slots t 7)
abbrev hs0_7 (t : Fin cfg0.N) : (ms0_7 t).IsWhole := hstage0_7 ((cfg0.slots t 7).cast nbuf0_7)

/-- What the body is given at a point. -/
def pre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d)))
/-- What the body leaves at a point. -/
def post0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t)
    ∗ owns (c : Thread nD τ) (ms0_4 t) fullShare ((dat0 V c).after 4 t)
    ∗ owns (c : Thread nD τ) (ms0_5 t) fullShare ((dat0 V c).after 5 t)
    ∗ owns (c : Thread nD τ) (ms0_6 t) fullShare ((dat0 V c).after 6 t)
    ∗ owns (c : Thread nD τ) (ms0_7 t) fullShare ((dat0 V c).after 7 t))

set_option maxHeartbeats 4000000 in
/-- The body at any point. -/
theorem sound0 (c : Dev nD) (t : Fin cfg0.N) :
    pre0 V c t ⊢ wp frame (wpE (defs₀ (F := F)) Variants.none c none) Set.univ (bodyAt0 t) (fun _ => post0 V c t) := by
  unfold pre0 post0 bodyAt0
  simp only [before0_0, before0_1, before0_2, before0_3, before0_4]
  rw [show (dat0 V c).owesAt () t.succ = (dat0 V c).owesAt () t.castSucc from rfl,
    after0_0, after0_1, after0_2, after0_3, after0_4, after0_5, after0_6, after0_7]
  rw [show (dat0 V c).Φ t.castSucc = iprop(scr0 V c t.val ∗ Pipeline.scopedRestBut (Ix := Unit) (Name := ℕ) (U := UR sig nD τ) (Lvl := ℕ) (Val := Elt F) spec0 c [cc0_scratch0, cc0_scratch1]) from rfl,
    show (dat0 V c).Φ t.succ = iprop(scr0 V c (t.val + 1) ∗ Pipeline.scopedRestBut (Ix := Unit) (Name := ℕ) (U := UR sig nD τ) (Lvl := ℕ) (Val := Elt F) spec0 c [cc0_scratch0, cc0_scratch1]) from rfl]
  by_cases h0 : t.val % 8 = 0
  · rw [show scr0 V c t.val = _ from if_pos h0]
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (run0A c (grid0.coords t) _ _ _ _ _ _ _ _ _ _ _ _ _ _ _ _ _ _ _ _ ((hcond0 t).mpr h0) (iblk0 V c 0 t) (iblk0 V c 1 t) (iblk0 V c 2 t) (iblk0 V c 3 t) (iblk0 V c 4 t) Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    isplitl [HS0]; · iexact HS0
    isplitl [HS1]; · iexact HS1
    iintro ⟨H0, H1, H2, H3, H4, H5, H6, H7, HS0, HS1⟩
    isplitl [HS0 HS1 Hg]
    · isplitl [HS0 HS1]
      · iapply (scr0_close V c t)
        isplitl [HS0] <;> iassumption
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · rw [show scr0 V c t.val = _ from if_neg h0]
    iintro ⟨⟨⟨%t', %ht', HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    rw [iblk0_1_eq V c t' t (by omega), iblk0_2_eq V c t' t (by omega)]
    iapply (run0B c (grid0.coords t) _ _ _ _ _ _ _ _ _ _ _ _ _ _ _ _ _ _ _ _ (fun h => h0 ((hcond0 t).mp h)) (iblk0 V c 0 t) (iblk0 V c 1 t) (iblk0 V c 2 t) (iblk0 V c 3 t) (iblk0 V c 4 t) Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    isplitl [HS0]; · iexact HS0
    isplitl [HS1]; · iexact HS1
    iintro ⟨H0, H1, H2, H3, H4, H5, H6, H7, HS0, HS1⟩
    isplitl [HS0 HS1 Hg]
    · isplitl [HS0 HS1]
      · iapply (scr0_close V c t)
        isplitl [HS0] <;> iassumption
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

theorem defs₀_row0 (t : Fin cfg0.N) :
    defs₀ (F := F) .tc cfg0.body (cfg0.bodyArgs t (cfg0.slots t)) = bodyAt0 t := by
  unfold defs₀; rw [Defs.onTc_tc]

/-- The pipeline's body obligation, at every point. -/
theorem body0 (c : Dev nD) : BodyObligation (dat0 V c) (defs₀ (F := F)) Variants.none () Set.univ := fun t => by
  rw [bigSep_W0, bigSep_W0, defs₀_row0]
  exact triple_restated (sound0 V c t) rfl .rfl fun _ => .rfl

variable (Vp : (c : Dev nD) → Valuation τ sig (Elt F))
variable (pdats : (p : Fin 3) → (c : Dev nD) → Dat τ (Elt F) Unit ℕ (UR sig nD τ) ℕ (cfgs p) c)

set_option maxHeartbeats 1000000 in
set_option backward.isDefEq.respectTransparency.types false in
/-- The region as a segment: entered with every unscoped buffer at `V`, left with them at `Vp`, the outputs' arrays as its points' write-backs make them. -/
def reg0 (hp : ∀ c, pdats 0 c = dat0 V c) (h5 : ∀ c, Vp c main_v1_0 = (dat0 V c).arrAt 5 cfg0.N) (h6 : ∀ c, Vp c main_v1_1 = (dat0 V c).arrAt 6 cfg0.N) (h7 : ∀ c, Vp c main_v1_2 = (dat0 V c).arrAt 7 cfg0.N)
    (hne : ∀ c (b : Ref sig .tc), b ∉ ([main_v1_0, main_v1_1, main_v1_2] : List (Ref sig .tc)) → Vp c b = V c b) :
    Pipeline.RegionSeg (pcfgs (F := F)) adm pdats () defs₀ Variants.none (fun _ => ∅) (fun _ _ => 0) 0 where
  win := launch₀0.win
  block_pos := launch₀0.block_pos
  stage_whole := launch₀0.stage_whole
  K := PEmpty
  osem k := k.elim
  ho := Pipeline.OwnSemFacts.none _
  hbody c := by
    have h := (body0 V c).loose
    rw [← hp c] at h
    exact h
  hwaits := Pipeline.hwaits_of_owed_zero _ _ _ _ (fun _ => ∅) (fun _ _ => 0) 0 fun c _ => by rw [hp c]; rfl
  pre c := iprop(unscopedBufs c (fun b => V c b) ∗ ∃ W, owes (c : Thread nD τ) (0 : CellTallies nD τ sig Unit) W)
  post c := iprop(unscopedBufs c (fun b => Vp c b) ∗ ∃ W, owes (c : Thread nD τ) (0 : CellTallies nD τ sig Unit) W)
  X _ := BI.emp
  Y _ := BI.emp
  Z c := Pipeline.unscopedRest (Ix := Unit) (Name := ℕ) (U := UR sig nD τ) (Lvl := ℕ) spec0 c (fun b => V c b)
  hentry c := by
    rw [Pipeline.ownSems0_none]
    have hsplit := Pipeline.arrays_of_unscopedBufs_shared (p := 0) (pcfgs (F := F)) adm pdats launch₀0.win launch₀0.sharedIn launch₀0.arr_whole c
      (fun w _ => by rw [hp c]; rfl) (fun b => V c b) (fun w => by rw [hp c]; exact A0 V c w)
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · rw [show (pdats 0 c).owesAt () 0 = (dat0 V c).owesAt () 0 from by rw [hp c]]
      unfold Pipeline.Dat.owesAt Pipeline.owesWithin
      icases HO with ⟨%W, HO⟩; iexists W; isplitr; · ipureintro; exact fun _ _ => Or.inl trivial
      iexact HO
    isplitr; · iempintro
    iexact Hrest
  hin c := by
    rw [hp c, show (dat0 V c).Φ 0 = iprop(scr0 V c 0 ∗ Pipeline.scopedRestBut (Ix := Unit) (Name := ℕ) (U := UR sig nD τ) (Lvl := ℕ) (Val := Elt F) spec0 c [cc0_scratch0, cc0_scratch1]) from rfl, show scr0 V c 0 = _ from if_pos rfl]
    have hs := scopedRest0_split (Ix := Unit) (Name := ℕ) (U := UR sig nD τ) (Lvl := ℕ) (Val := Elt F) c
    simp only [owns_whole]
    iintro ⟨-, -, Hr⟩
    ihave H := (Entails.of_eq hs) $$ Hr
    iexact H
  hout c := by
    rw [Pipeline.ownSems0_none, hp c, show (dat0 V c).Φ (Fin.last (Pipeline.pin (pcfgs (F := F)) adm 0).N) = iprop(scr0 V c grid0.N ∗ Pipeline.scopedRestBut (Ix := Unit) (Name := ℕ) (U := UR sig nD τ) (Lvl := ℕ) (Val := Elt F) spec0 c [cc0_scratch0, cc0_scratch1]) from rfl,
      show scr0 V c grid0.N = _ from if_pos (by rw [N_0])]
    have hs := scopedRest0_split (Ix := Unit) (Name := ℕ) (U := UR sig nD τ) (Lvl := ℕ) (Val := Elt F) c
    simp only [owns_whole]
    iintro Hr
    isplitr; · iempintro
    isplitr; · iempintro
    iapply (Entails.of_eq hs.symm)
    iexact Hr
  hexit c := by
    have hjoin := Pipeline.unscopedBufs_of_arrays_shared (p := 0) (pcfgs (F := F)) adm (Ix := Unit) (Name := ℕ) (U := UR sig nD τ) (Lvl := ℕ) launch₀0.win launch₀0.sharedIn launch₀0.arr_whole c
      pdats (fun w _ => by rw [hp c]; rfl) (fun b => V c b) (fun b => Vp c b) ((pdats 0 c).arrAt · cfg0.N)
      (fun w => by
        rw [hp c]
        fin_cases w
        · exact ((dat0 V c).arrAt_in 0 rfl _).trans (hne c main_arg0 (by decide)).symm
        · exact ((dat0 V c).arrAt_in 1 rfl _).trans (hne c main_arg2 (by decide)).symm
        · exact ((dat0 V c).arrAt_in 2 rfl _).trans (hne c main_arg2 (by decide)).symm
        · exact ((dat0 V c).arrAt_in 3 rfl _).trans (hne c main_v0 (by decide)).symm
        · exact ((dat0 V c).arrAt_in 4 rfl _).trans (hne c main_arg3 (by decide)).symm
        · exact (h5 c).symm
        · exact (h6 c).symm
        · exact (h7 c).symm
        )
      (fun b hb => hne c b fun h => hb (by
        simp only [List.mem_cons, List.not_mem_nil, _root_.or_false] at h
        rcases h with h | h | h
        · exact h ▸ Finset.mem_image.mpr ⟨5, Finset.mem_univ _, rfl⟩
        · exact h ▸ Finset.mem_image.mpr ⟨6, Finset.mem_univ _, rfl⟩
        · exact h ▸ Finset.mem_image.mpr ⟨7, Finset.mem_univ _, rfl⟩))
    have hO : (pdats 0 c).owesAt () (Fin.last cfg0.N) ⊢ (iprop(∃ W, owes (c : Thread nD τ) (0 : CellTallies nD τ sig Unit) W) : sProp 𝕄) := by
      rw [hp c]
      unfold Pipeline.Dat.owesAt Pipeline.owesWithin
      iintro ⟨%W, -, HO⟩; iexists W; iexact HO
    iintro ⟨Ha, HO, -, Hrest⟩
    imodintro
    isplitl [Ha Hrest]
    · iapply hjoin; isplitl [Ha] <;> iassumption
    iapply hO; iexact HO

end Cert.KernelIdeal.Hand

end
-- ==== Proof.Run1.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.Value
public import Idealize.ShloMosaic.Lib.Ring
public import Idealize.ShloMosaic.Lib.Tactic
public import Idealize.ShloMosaic.Lib.VecWindow
public import Idealize.ShloMosaic.Lib.WordCmp

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The condition of the body's branch, as the program states it. -/
abbrev cond1 (i : grid1.Coords) : Prop := (Scalar.cmpi .ne (Scalar.extui (Scalar.cmpi .eq (BitVec.ofNat 32 (i 1).val) 0#32)) 0#32) = 1#1

set_option maxHeartbeats 2000000 in
/-- The body where it casts the two weight slabs first: from any scratch contents, every output ends at its payload and the scratch at the cast slabs. -/
theorem run1A (c : Dev nD) (i : grid1.Coords) (arg2 : Memref sig .tc .vmem S1024x2048 .bf16) (harg2 : arg2.IsWhole) (arg3 : Memref sig .tc .vmem S1x2048x512 .f32) (harg3 : arg3.IsWhole) (arg4 : Memref sig .tc .vmem S1x2048x512 .f32) (harg4 : arg4.IsWhole) (arg5 : Memref sig .tc .vmem S1x64x2048 .f32) (harg5 : arg5.IsWhole) (arg6 : Memref sig .tc .vmem S1024x512 .bf16) (harg6 : arg6.IsWhole) (arg7 : Memref sig .tc .vmem S64x2048 .bf16) (harg7 : arg7.IsWhole) (arg8 : Memref sig .tc .vmem S2048x512 .bf16) (harg8 : arg8.IsWhole) (arg9 : Memref sig .tc .vmem S2048x512 .bf16) (harg9 : arg9.IsWhole) (hc0 : cond1 i)
    (x0 : Vec F S1024x2048 .bf16) (x1 : Vec F S1x2048x512 .f32) (x2 : Vec F S1x2048x512 .f32) (x3 : Vec F S1x64x2048 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (k1_pay4 x0 (k1_pay1 x1) (k1_pay2 x2)) ∗ owns (c : Thread nD τ) arg7 fullShare (k1_pay3 x3) ∗ owns (c : Thread nD τ) arg8 fullShare (k1_pay1 x1) ∗ owns (c : Thread nD τ) arg9 fullShare (k1_pay2 x2)) -∗ K ⟨⟩))
      ⊢ wp frame (wpE (defs₀ (F := F)) Variants.none c none) E (cc1_ffn_in i arg2 harg2 arg3 harg3 arg4 harg4 arg5 harg5 arg6 harg6 arg7 harg7 arg8 harg8 arg9 harg9) K := by
  simp only [cc1_ffn_in_eq_skeleton]; unfold cc1_ffn_in_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, Hk⟩
  obtain rfl := harg2.eq_unread hf0; obtain rfl := harg3.eq_unread hf1; obtain rfl := harg4.eq_unread hf2; obtain rfl := harg5.eq_unread hf3
  sl_exec (disch := first | sl_exact hc0)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; swap; · iexact H4
    ipureintro
    refine (View.read_writes_full _ _ _ _ _).trans ?_
    show k1_pay4 _ _ _ = k1_pay4 x0 (k1_pay1 x1) (k1_pay2 x2)
    exact (congr (congr (congrArg k1_pay4 ((View.readAt_full _ _ _).trans (Memref.IsWhole.read_unread _ _))) ((View.readCov_full _ _ _ _ _).trans (congrArg k1_pay1 ((View.readAt_full _ _ _).trans (Memref.IsWhole.read_unread _ _))))) ((View.readCov_full _ _ _ _ _).trans (congrArg k1_pay2 ((View.readAt_full _ _ _).trans (Memref.IsWhole.read_unread _ _)))))
  isplitl [H5]
  · iexists _; isplitr; swap; · iexact H5
    ipureintro
    refine (View.read_writes_full _ _ _ _ _).trans ?_
    show k1_pay3 _ = k1_pay3 x3
    exact (congrArg k1_pay3 ((View.readAt_full _ _ _).trans (Memref.IsWhole.read_unread _ _)))
  isplitl [H6]
  · iexists _; isplitr; swap; · iexact H6
    ipureintro
    refine (View.read_writes_full _ _ _ _ _).trans ?_
    show k1_pay1 _ = k1_pay1 x1
    exact (congrArg k1_pay1 ((View.readAt_full _ _ _).trans (Memref.IsWhole.read_unread _ _)))
  · iexists _; isplitr; swap; · iexact H7
    ipureintro
    refine (View.read_writes_full _ _ _ _ _).trans ?_
    show k1_pay2 _ = k1_pay2 x2
    exact (congrArg k1_pay2 ((View.readAt_full _ _ _).trans (Memref.IsWhole.read_unread _ _)))

set_option maxHeartbeats 2000000 in
/-- The body where the scratch already holds the two cast slabs: every output ends at its payload and the scratch stays. -/
theorem run1B (c : Dev nD) (i : grid1.Coords) (arg2 : Memref sig .tc .vmem S1024x2048 .bf16) (harg2 : arg2.IsWhole) (arg3 : Memref sig .tc .vmem S1x2048x512 .f32) (harg3 : arg3.IsWhole) (arg4 : Memref sig .tc .vmem S1x2048x512 .f32) (harg4 : arg4.IsWhole) (arg5 : Memref sig .tc .vmem S1x64x2048 .f32) (harg5 : arg5.IsWhole) (arg6 : Memref sig .tc .vmem S1024x512 .bf16) (harg6 : arg6.IsWhole) (arg7 : Memref sig .tc .vmem S64x2048 .bf16) (harg7 : arg7.IsWhole) (arg8 : Memref sig .tc .vmem S2048x512 .bf16) (harg8 : arg8.IsWhole) (arg9 : Memref sig .tc .vmem S2048x512 .bf16) (harg9 : arg9.IsWhole) (hc0 : ¬cond1 i)
    (x0 : Vec F S1024x2048 .bf16) (x1 : Vec F S1x2048x512 .f32) (x2 : Vec F S1x2048x512 .f32) (x3 : Vec F S1x64x2048 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ owns (c : Thread nD τ) arg8 fullShare (k1_pay1 x1) ∗ owns (c : Thread nD τ) arg9 fullShare (k1_pay2 x2)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (k1_pay4 x0 (k1_pay1 x1) (k1_pay2 x2)) ∗ owns (c : Thread nD τ) arg7 fullShare (k1_pay3 x3) ∗ owns (c : Thread nD τ) arg8 fullShare (k1_pay1 x1) ∗ owns (c : Thread nD τ) arg9 fullShare (k1_pay2 x2)) -∗ K ⟨⟩))
      ⊢ wp frame (wpE (defs₀ (F := F)) Variants.none c none) E (cc1_ffn_in i arg2 harg2 arg3 harg3 arg4 harg4 arg5 harg5 arg6 harg6 arg7 harg7 arg8 harg8 arg9 harg9) K := by
  simp only [cc1_ffn_in_eq_skeleton]; unfold cc1_ffn_in_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%f6, %hf6, H6⟩, ⟨%f7, %hf7, H7⟩, Hk⟩
  obtain rfl := harg2.eq_unread hf0; obtain rfl := harg3.eq_unread hf1; obtain rfl := harg4.eq_unread hf2; obtain rfl := harg5.eq_unread hf3; obtain rfl := harg8.eq_unread hf6; obtain rfl := harg9.eq_unread hf7
  sl_exec (disch := first | sl_exact hc0)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; swap; · iexact H4
    ipureintro
    refine (View.read_writes_full _ _ _ _ _).trans ?_
    show k1_pay4 _ _ _ = k1_pay4 x0 (k1_pay1 x1) (k1_pay2 x2)
    exact (congr (congr (congrArg k1_pay4 ((View.readAt_full _ _ _).trans (Memref.IsWhole.read_unread _ _))) ((View.readAt_full _ _ _).trans (Memref.IsWhole.read_unread _ _))) ((View.readAt_full _ _ _).trans (Memref.IsWhole.read_unread _ _)))
  isplitl [H5]
  · iexists _; isplitr; swap; · iexact H5
    ipureintro
    refine (View.read_writes_full _ _ _ _ _).trans ?_
    show k1_pay3 _ = k1_pay3 x3
    exact (congrArg k1_pay3 ((View.readAt_full _ _ _).trans (Memref.IsWhole.read_unread _ _)))
  isplitl [H6]
  · iexists _; isplitr; · ipureintro; exact harg8.read_unread _
    iexact H6
  · iexists _; isplitr; · ipureintro; exact harg9.read_unread _
    iexact H7

end Cert.KernelIdeal.Hand

end
-- ==== Proof.Region1.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.Value
public import Idealize.ShloMosaic.Lib.Ring
public import Idealize.ShloMosaic.Lib.Tactic
public import Idealize.ShloMosaic.Lib.VecWindow
public import Idealize.ShloMosaic.Lib.WordCmp
public import proofs.«01_k».proof.Proof.Gen.KernelIdeal.Regions
public import proofs.«01_k».proof.Proof.Run1

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → Valuation τ sig (Elt F))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The scratch buffers before point `n`: anything where a weight slab starts, and the slab's two cast halves elsewhere. -/
def scr1 (c : Dev nD) (n : ℕ) : sProp 𝕄 :=
  if n % 8 = 0 then iprop((∃ d, owns (c : Thread nD τ) (Memref.whole cc1_scratch0) fullShare d) ∗ (∃ d, owns (c : Thread nD τ) (Memref.whole cc1_scratch1) fullShare d))
  else iprop(∃ t' : Fin cfg1.N, ⌜t'.val / 8 = n / 8⌝ ∗ owns (c : Thread nD τ) (Memref.whole cc1_scratch0) fullShare (k1_pay1 (iblk1 V c 1 t')) ∗ owns (c : Thread nD τ) (Memref.whole cc1_scratch1) fullShare (k1_pay2 (iblk1 V c 2 t')))

/-- What the scratch holds after point `t` is what the next point expects. -/
theorem scr1_close (c : Dev nD) (t : Fin cfg1.N) :
    iprop(owns (c : Thread nD τ) (Memref.whole cc1_scratch0) fullShare (k1_pay1 (iblk1 V c 1 t)) ∗ owns (c : Thread nD τ) (Memref.whole cc1_scratch1) fullShare (k1_pay2 (iblk1 V c 2 t)))
      ⊢ scr1 V c (t.val + 1) := by
  unfold scr1
  by_cases h : (t.val + 1) % 8 = 0
  · rw [if_pos h]
    iintro ⟨H0, H1⟩
    isplitl [H0]
    · iexists _; iexact H0
    iexists _; iexact H1
  · rw [if_neg h]
    iintro ⟨H0, H1⟩
    iexists t
    isplitr
    · ipureintro; omega
    isplitl [H0] <;> iassumption

/-- The two weight windows move only with the slab's number. -/
theorem index1_1 : ∀ t t' : Fin grid1.N, t.val / 8 = t'.val / 8 → ∀ a, win1_1.index t a = win1_1.index t' a := by
  decide +kernel
theorem index1_2 : ∀ t t' : Fin grid1.N, t.val / 8 = t'.val / 8 → ∀ a, win1_2.index t a = win1_2.index t' a := by
  decide +kernel

theorem iblk1_1_eq (c : Dev nD) (t t' : Fin cfg1.N) (h : t.val / 8 = t'.val / 8) : iblk1 V c 1 t = iblk1 V c 1 t' := by
  funext y
  refine congrArg (V c main_arg2) ?_
  funext a
  refine Fin.ext ?_
  have h1 := index1_1 t t' h
  fin_cases a
  · show win1_1.index t 0 + 1 * (y 0).val = win1_1.index t' 0 + 1 * (y 0).val
    rw [h1]
  · show win1_1.index t 1 + 1 * (y 1).val = win1_1.index t' 1 + 1 * (y 1).val
    rw [h1]
  · show win1_1.index t 2 + 1 * (y 2).val = win1_1.index t' 2 + 1 * (y 2).val
    rw [h1]
theorem iblk1_2_eq (c : Dev nD) (t t' : Fin cfg1.N) (h : t.val / 8 = t'.val / 8) : iblk1 V c 2 t = iblk1 V c 2 t' := by
  funext y
  refine congrArg (V c main_arg2) ?_
  funext a
  refine Fin.ext ?_
  have h1 := index1_2 t t' h
  fin_cases a
  · show win1_2.index t 0 + 1 * (y 0).val = win1_2.index t' 0 + 1 * (y 0).val
    rw [h1]
  · show win1_2.index t 1 + 1 * (y 1).val = win1_2.index t' 1 + 1 * (y 1).val
    rw [h1]
  · show win1_2.index t 2 + 1 * (y 2).val = win1_2.index t' 2 + 1 * (y 2).val
    rw [h1]

/-- The body's branch is taken exactly where a weight slab starts. -/
theorem hcond1 : ∀ t : Fin cfg1.N, cond1 (grid1.coords t) ↔ t.val % 8 = 0 :=
  (fun t => by
    have ht : t.val < 80 := lt_of_lt_of_eq t.isLt N_1
    have e1 : (grid1.coords t 1).val = t.val / 1 % 8 := Pipeline.Grid.coords_val t 1 (by decide) rfl
    simp only [cond1, e1]
    word_cmp
   : ∀ t : Fin grid1.N, cond1 (grid1.coords t) ↔ t.val % 8 = 0)

/-- The region's proof data: each array at its entry contents, each input's buffer at its block, each output's at its payload, the scratch as the points leave it. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => k1_pay4 (iblk1 V c 0 t) (k1_pay1 (iblk1 V c 1 t)) (k1_pay2 (iblk1 V c 2 t))
    | ⟨5, _⟩ => k1_pay3 (iblk1 V c 3 t)
  Φ t := iprop(scr1 V c t.val ∗ Pipeline.scopedRestBut (Ix := Unit) (Name := ℕ) (U := UR sig nD τ) (Lvl := ℕ) (Val := Elt F) spec1 c [cc1_scratch0, cc1_scratch1])
  q w := Pipeline.shareOf spec1 w
  owed _ := 0

theorem A1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by
  dsimp only [dat1]
theorem after1_1 (c : Dev nD) (t : Fin cfg1.N) : (dat1 V c).after 1 t = iblk1 V c 1 t := by
  dsimp only [dat1]
theorem after1_2 (c : Dev nD) (t : Fin cfg1.N) : (dat1 V c).after 2 t = iblk1 V c 2 t := by
  dsimp only [dat1]
theorem after1_3 (c : Dev nD) (t : Fin cfg1.N) : (dat1 V c).after 3 t = iblk1 V c 3 t := by
  dsimp only [dat1]
theorem after1_4 (c : Dev nD) (t : Fin cfg1.N) : (dat1 V c).after 4 t = k1_pay4 (iblk1 V c 0 t) (k1_pay1 (iblk1 V c 1 t)) (k1_pay2 (iblk1 V c 2 t)) := by
  dsimp only [dat1]
theorem after1_5 (c : Dev nD) (t : Fin cfg1.N) : (dat1 V c).after 5 t = k1_pay3 (iblk1 V c 3 t) := by
  dsimp only [dat1]
theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A1]; try rfl) t d).trans
    (by unfold Dat.fetched Dat.blockOf iblk1; rw [A1]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A1]; try rfl) t d).trans
    (by unfold Dat.fetched Dat.blockOf iblk1; rw [A1]; try rfl)
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A1]; try rfl) t d).trans
    (by unfold Dat.fetched Dat.blockOf iblk1; rw [A1]; try rfl)
theorem before1_3 (c : Dev nD) (t : Fin cfg1.N) (d) : (dat1 V c).before 3 t d = iblk1 V c 3 t :=
  ((dat1 V c).before_in_eq_fetched 3 rfl (fun _ => rfl) (fun _ _ _ => rfl) (fun t => by rw [after1_3]; unfold Dat.blockOf iblk1; rw [A1]; try rfl) t d).trans
    (by unfold Dat.fetched Dat.blockOf iblk1; rw [A1]; try rfl)
abbrev ms1_0 (t : Fin cfg1.N) : Memref sig .tc .vmem S1024x2048 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x2048x512 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x2048x512 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x64x2048 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1024x512 .bf16 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S64x2048 .bf16 := win1_5.stage (cfg1.slots t 5)
abbrev hs1_5 (t : Fin cfg1.N) : (ms1_5 t).IsWhole := hstage1_5 ((cfg1.slots t 5).cast nbuf1_5)

/-- What the body is given at a point. -/
def pre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))
/-- What the body leaves at a point. -/
def post1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t)
    ∗ owns (c : Thread nD τ) (ms1_5 t) fullShare ((dat1 V c).after 5 t))

set_option maxHeartbeats 4000000 in
/-- The body at any point. -/
theorem sound1 (c : Dev nD) (t : Fin cfg1.N) :
    pre1 V c t ⊢ wp frame (wpE (defs₀ (F := F)) Variants.none c none) Set.univ (bodyAt1 t) (fun _ => post1 V c t) := by
  unfold pre1 post1 bodyAt1
  simp only [before1_0, before1_1, before1_2, before1_3]
  rw [show (dat1 V c).owesAt () t.succ = (dat1 V c).owesAt () t.castSucc from rfl,
    after1_0, after1_1, after1_2, after1_3, after1_4, after1_5]
  rw [show (dat1 V c).Φ t.castSucc = iprop(scr1 V c t.val ∗ Pipeline.scopedRestBut (Ix := Unit) (Name := ℕ) (U := UR sig nD τ) (Lvl := ℕ) (Val := Elt F) spec1 c [cc1_scratch0, cc1_scratch1]) from rfl,
    show (dat1 V c).Φ t.succ = iprop(scr1 V c (t.val + 1) ∗ Pipeline.scopedRestBut (Ix := Unit) (Name := ℕ) (U := UR sig nD τ) (Lvl := ℕ) (Val := Elt F) spec1 c [cc1_scratch0, cc1_scratch1]) from rfl]
  by_cases h0 : t.val % 8 = 0
  · rw [show scr1 V c t.val = _ from if_pos h0]
    iintro ⟨⟨⟨HS0, HS1⟩, Hg⟩, Ho, ⟨%d0, H0⟩, ⟨%d1, H1⟩, ⟨%d2, H2⟩, ⟨%d3, H3⟩, ⟨%d4, H4⟩, ⟨%d5, H5⟩⟩
    iapply (run1A c (grid1.coords t) _ _ _ _ _ _ _ _ _ _ _ _ _ _ _ _ ((hcond1 t).mpr h0) (iblk1 V c 0 t) (iblk1 V c 1 t) (iblk1 V c 2 t) (iblk1 V c 3 t) Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [HS0]; · iexact HS0
    isplitl [HS1]; · iexact HS1
    iintro ⟨H0, H1, H2, H3, H4, H5, HS0, HS1⟩
    isplitl [HS0 HS1 Hg]
    · isplitl [HS0 HS1]
      · iapply (scr1_close V c t)
        isplitl [HS0] <;> iassumption
      iexact Hg
    isplitl [Ho]; · iexact Ho
    isplitl [H0]; · iexact H0
    isplitl [H1]; · iexact H1
    isplitl [H2]; · iexact H2
    isplitl [H3]; · iexact H3
    isplitl [H4]; · iexact H4
    iexact H5
  · rw [show scr1 V c t.val = _ from if_neg h0]
    iintro ⟨⟨⟨%t', %ht', HS0, HS1⟩, Hg⟩, Ho, ⟨%d0, H0⟩, ⟨%d1, H1⟩, ⟨%d2, H2⟩, ⟨%d3, H3⟩, ⟨%d4, H4⟩, ⟨%d5, H5⟩⟩
    rw [iblk1_1_eq V c t' t (by omega), iblk1_2_eq V c t' t (by omega)]
    iapply (run1B c (grid1.coords t) _ _ _ _ _ _ _ _ _ _ _ _ _ _ _ _ (fun h => h0 ((hcond1 t).mp h)) (iblk1 V c 0 t) (iblk1 V c 1 t) (iblk1 V c 2 t) (iblk1 V c 3 t) Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [HS0]; · iexact HS0
    isplitl [HS1]; · iexact HS1
    iintro ⟨H0, H1, H2, H3, H4, H5, HS0, HS1⟩
    isplitl [HS0 HS1 Hg]
    · isplitl [HS0 HS1]
      · iapply (scr1_close V c t)
        isplitl [HS0] <;> iassumption
      iexact Hg
    isplitl [Ho]; · iexact Ho
    isplitl [H0]; · iexact H0
    isplitl [H1]; · iexact H1
    isplitl [H2]; · iexact H2
    isplitl [H3]; · iexact H3
    isplitl [H4]; · iexact H4
    iexact H5

theorem defs₀_row1 (t : Fin cfg1.N) :
    defs₀ (F := F) .tc cfg1.body (cfg1.bodyArgs t (cfg1.slots t)) = bodyAt1 t := by
  unfold defs₀; rw [Defs.onTc_tc]

/-- The pipeline's body obligation, at every point. -/
theorem body1 (c : Dev nD) : BodyObligation (dat1 V c) (defs₀ (F := F)) Variants.none () Set.univ := fun t => by
  rw [bigSep_W1, bigSep_W1, defs₀_row1]
  exact triple_restated (sound1 V c t) rfl .rfl fun _ => .rfl

variable (Vp : (c : Dev nD) → Valuation τ sig (Elt F))
variable (pdats : (p : Fin 3) → (c : Dev nD) → Dat τ (Elt F) Unit ℕ (UR sig nD τ) ℕ (cfgs p) c)

set_option maxHeartbeats 1000000 in
set_option backward.isDefEq.respectTransparency.types false in
/-- The region as a segment: entered with every unscoped buffer at `V`, left with them at `Vp`, the outputs' arrays as its points' write-backs make them. -/
def reg1 (hp : ∀ c, pdats 1 c = dat1 V c) (h4 : ∀ c, Vp c main_v2_0 = (dat1 V c).arrAt 4 cfg1.N) (h5 : ∀ c, Vp c main_v2_1 = (dat1 V c).arrAt 5 cfg1.N)
    (hne : ∀ c (b : Ref sig .tc), b ∉ ([main_v2_0, main_v2_1] : List (Ref sig .tc)) → Vp c b = V c b) :
    Pipeline.RegionSeg (pcfgs (F := F)) adm pdats () defs₀ Variants.none (fun _ => ∅) (fun _ _ => 0) 1 where
  win := launch₀1.win
  block_pos := launch₀1.block_pos
  stage_whole := launch₀1.stage_whole
  K := PEmpty
  osem k := k.elim
  ho := Pipeline.OwnSemFacts.none _
  hbody c := by
    have h := (body1 V c).loose
    rw [← hp c] at h
    exact h
  hwaits := Pipeline.hwaits_of_owed_zero _ _ _ _ (fun _ => ∅) (fun _ _ => 0) 1 fun c _ => by rw [hp c]; rfl
  pre c := iprop(unscopedBufs c (fun b => V c b) ∗ ∃ W, owes (c : Thread nD τ) (0 : CellTallies nD τ sig Unit) W)
  post c := iprop(unscopedBufs c (fun b => Vp c b) ∗ ∃ W, owes (c : Thread nD τ) (0 : CellTallies nD τ sig Unit) W)
  X _ := BI.emp
  Y _ := BI.emp
  Z c := Pipeline.unscopedRest (Ix := Unit) (Name := ℕ) (U := UR sig nD τ) (Lvl := ℕ) spec1 c (fun b => V c b)
  hentry c := by
    rw [Pipeline.ownSems0_none]
    have hsplit := Pipeline.arrays_of_unscopedBufs_shared (p := 1) (pcfgs (F := F)) adm pdats launch₀1.win launch₀1.sharedIn launch₀1.arr_whole c
      (fun w _ => by rw [hp c]; rfl) (fun b => V c b) (fun w => by rw [hp c]; exact A1 V c w)
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · rw [show (pdats 1 c).owesAt () 0 = (dat1 V c).owesAt () 0 from by rw [hp c]]
      unfold Pipeline.Dat.owesAt Pipeline.owesWithin
      icases HO with ⟨%W, HO⟩; iexists W; isplitr; · ipureintro; exact fun _ _ => Or.inl trivial
      iexact HO
    isplitr; · iempintro
    iexact Hrest
  hin c := by
    rw [hp c, show (dat1 V c).Φ 0 = iprop(scr1 V c 0 ∗ Pipeline.scopedRestBut (Ix := Unit) (Name := ℕ) (U := UR sig nD τ) (Lvl := ℕ) (Val := Elt F) spec1 c [cc1_scratch0, cc1_scratch1]) from rfl, show scr1 V c 0 = _ from if_pos rfl]
    have hs := scopedRest1_split (Ix := Unit) (Name := ℕ) (U := UR sig nD τ) (Lvl := ℕ) (Val := Elt F) c
    simp only [owns_whole]
    iintro ⟨-, -, Hr⟩
    ihave H := (Entails.of_eq hs) $$ Hr
    iexact H
  hout c := by
    rw [Pipeline.ownSems0_none, hp c, show (dat1 V c).Φ (Fin.last (Pipeline.pin (pcfgs (F := F)) adm 1).N) = iprop(scr1 V c grid1.N ∗ Pipeline.scopedRestBut (Ix := Unit) (Name := ℕ) (U := UR sig nD τ) (Lvl := ℕ) (Val := Elt F) spec1 c [cc1_scratch0, cc1_scratch1]) from rfl,
      show scr1 V c grid1.N = _ from if_pos (by rw [N_1])]
    have hs := scopedRest1_split (Ix := Unit) (Name := ℕ) (U := UR sig nD τ) (Lvl := ℕ) (Val := Elt F) c
    simp only [owns_whole]
    iintro Hr
    isplitr; · iempintro
    isplitr; · iempintro
    iapply (Entails.of_eq hs.symm)
    iexact Hr
  hexit c := by
    have hjoin := Pipeline.unscopedBufs_of_arrays_shared (p := 1) (pcfgs (F := F)) adm (Ix := Unit) (Name := ℕ) (U := UR sig nD τ) (Lvl := ℕ) launch₀1.win launch₀1.sharedIn launch₀1.arr_whole c
      pdats (fun w _ => by rw [hp c]; rfl) (fun b => V c b) (fun b => Vp c b) ((pdats 1 c).arrAt · cfg1.N)
      (fun w => by
        rw [hp c]
        fin_cases w
        · exact ((dat1 V c).arrAt_in 0 rfl _).trans (hne c main_v1_1 (by decide)).symm
        · exact ((dat1 V c).arrAt_in 1 rfl _).trans (hne c main_arg2 (by decide)).symm
        · exact ((dat1 V c).arrAt_in 2 rfl _).trans (hne c main_arg2 (by decide)).symm
        · exact ((dat1 V c).arrAt_in 3 rfl _).trans (hne c main_arg3 (by decide)).symm
        · exact (h4 c).symm
        · exact (h5 c).symm
        )
      (fun b hb => hne c b fun h => hb (by
        simp only [List.mem_cons, List.not_mem_nil, _root_.or_false] at h
        rcases h with h | h
        · exact h ▸ Finset.mem_image.mpr ⟨4, Finset.mem_univ _, rfl⟩
        · exact h ▸ Finset.mem_image.mpr ⟨5, Finset.mem_univ _, rfl⟩))
    have hO : (pdats 1 c).owesAt () (Fin.last cfg1.N) ⊢ (iprop(∃ W, owes (c : Thread nD τ) (0 : CellTallies nD τ sig Unit) W) : sProp 𝕄) := by
      rw [hp c]
      unfold Pipeline.Dat.owesAt Pipeline.owesWithin
      iintro ⟨%W, -, HO⟩; iexists W; iexact HO
    iintro ⟨Ha, HO, -, Hrest⟩
    imodintro
    isplitl [Ha Hrest]
    · iapply hjoin; isplitl [Ha] <;> iassumption
    iapply hO; iexact HO

end Cert.KernelIdeal.Hand

end
-- ==== Proof.Run2.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.Value
public import Idealize.ShloMosaic.Lib.Ring
public import Idealize.ShloMosaic.Lib.Tactic
public import Idealize.ShloMosaic.Lib.VecWindow
public import Idealize.ShloMosaic.Lib.WordCmp

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The body: every input stays and the output ends at its payload. -/
theorem run2 (c : Dev nD) (i : grid2.Coords) (arg2 : Memref sig .tc .vmem S512x1024 .f32) (harg2 : arg2.IsWhole) (arg3 : Memref sig .tc .vmem S512x5120 .bf16) (harg3 : arg3.IsWhole) (arg4 : Memref sig .tc .vmem S512x384 .bf16) (harg4 : arg4.IsWhole) (arg5 : Memref sig .tc .vmem S1x5120x1024 .bf16) (harg5 : arg5.IsWhole) (arg6 : Memref sig .tc .vmem S1x384x1024 .bf16) (harg6 : arg6.IsWhole) (arg7 : Memref sig .tc .vmem S512x1024 .f32) (harg7 : arg7.IsWhole)
    (x0 : Vec F S512x1024 .f32) (x1 : Vec F S512x5120 .bf16) (x2 : Vec F S512x384 .bf16) (x3 : Vec F S1x5120x1024 .bf16) (x4 : Vec F S1x384x1024 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (k2_pay1 x3 x4 x1 x2 x0)) -∗ K ⟨⟩))
      ⊢ wp frame (wpE (defs₀ (F := F)) Variants.none c none) E (cc2_matmul_residual i arg2 harg2 arg3 harg3 arg4 harg4 arg5 harg5 arg6 harg6 arg7 harg7) K := by
  simp only [cc2_matmul_residual_eq_skeleton]; unfold cc2_matmul_residual_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  obtain rfl := harg2.eq_unread hf0; obtain rfl := harg3.eq_unread hf1; obtain rfl := harg4.eq_unread hf2; obtain rfl := harg5.eq_unread hf3; obtain rfl := harg6.eq_unread hf4
  sl_exec
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  · iexists _; isplitr; swap; · iexact H5
    ipureintro
    refine (View.read_writes_full _ _ _ _ _).trans ?_
    show k2_pay1 _ _ _ _ _ = k2_pay1 x3 x4 x1 x2 x0
    exact (congr (congr (congr (congr (congrArg k2_pay1 ((View.readAt_full _ _ _).trans (Memref.IsWhole.read_unread _ _))) ((View.readAt_full _ _ _).trans (Memref.IsWhole.read_unread _ _))) ((View.readAt_full _ _ _).trans (Memref.IsWhole.read_unread _ _))) ((View.readAt_full _ _ _).trans (Memref.IsWhole.read_unread _ _))) ((View.readAt_full _ _ _).trans (Memref.IsWhole.read_unread _ _)))

end Cert.KernelIdeal.Hand

end
-- ==== Proof.Region2.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.Value
public import Idealize.ShloMosaic.Lib.Ring
public import Idealize.ShloMosaic.Lib.Tactic
public import Idealize.ShloMosaic.Lib.VecWindow
public import Idealize.ShloMosaic.Lib.WordCmp
public import proofs.«01_k».proof.Proof.Gen.KernelIdeal.Regions
public import proofs.«01_k».proof.Proof.Run2

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → Valuation τ sig (Elt F))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The region's proof data: each array at its entry contents, each input's buffer at its block, each output's at its payload, the scratch as the points leave it. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => k2_pay1 (iblk2 V c 3 t) (iblk2 V c 4 t) (iblk2 V c 1 t) (iblk2 V c 2 t) (iblk2 V c 0 t)
  Φ t := Pipeline.scopedRest (Ix := Unit) (Name := ℕ) (U := UR sig nD τ) (Lvl := ℕ) (Val := Elt F) spec2 c
  q w := fullShare
  owed _ := 0

theorem A2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by
  dsimp only [dat2]
theorem after2_1 (c : Dev nD) (t : Fin cfg2.N) : (dat2 V c).after 1 t = iblk2 V c 1 t := by
  dsimp only [dat2]
theorem after2_2 (c : Dev nD) (t : Fin cfg2.N) : (dat2 V c).after 2 t = iblk2 V c 2 t := by
  dsimp only [dat2]
theorem after2_3 (c : Dev nD) (t : Fin cfg2.N) : (dat2 V c).after 3 t = iblk2 V c 3 t := by
  dsimp only [dat2]
theorem after2_4 (c : Dev nD) (t : Fin cfg2.N) : (dat2 V c).after 4 t = iblk2 V c 4 t := by
  dsimp only [dat2]
theorem after2_5 (c : Dev nD) (t : Fin cfg2.N) : (dat2 V c).after 5 t = k2_pay1 (iblk2 V c 3 t) (iblk2 V c 4 t) (iblk2 V c 1 t) (iblk2 V c 2 t) (iblk2 V c 0 t) := by
  dsimp only [dat2]
theorem before2_0 (c : Dev nD) (t : Fin cfg2.N) (d) : (dat2 V c).before 0 t d = iblk2 V c 0 t :=
  ((dat2 V c).before_in_eq_fetched 0 rfl (fun _ => rfl) (fun _ _ _ => rfl) (fun t => by rw [after2_0]; unfold Dat.blockOf iblk2; rw [A2]; try rfl) t d).trans
    (by unfold Dat.fetched Dat.blockOf iblk2; rw [A2]; try rfl)
theorem before2_1 (c : Dev nD) (t : Fin cfg2.N) (d) : (dat2 V c).before 1 t d = iblk2 V c 1 t :=
  ((dat2 V c).before_in_eq_fetched 1 rfl (fun _ => rfl) (fun _ _ _ => rfl) (fun t => by rw [after2_1]; unfold Dat.blockOf iblk2; rw [A2]; try rfl) t d).trans
    (by unfold Dat.fetched Dat.blockOf iblk2; rw [A2]; try rfl)
theorem before2_2 (c : Dev nD) (t : Fin cfg2.N) (d) : (dat2 V c).before 2 t d = iblk2 V c 2 t :=
  ((dat2 V c).before_in_eq_fetched 2 rfl (fun _ => rfl) (fun _ _ _ => rfl) (fun t => by rw [after2_2]; unfold Dat.blockOf iblk2; rw [A2]; try rfl) t d).trans
    (by unfold Dat.fetched Dat.blockOf iblk2; rw [A2]; try rfl)
theorem before2_3 (c : Dev nD) (t : Fin cfg2.N) (d) : (dat2 V c).before 3 t d = iblk2 V c 3 t :=
  ((dat2 V c).before_in_eq_fetched 3 rfl (fun _ => rfl) (fun _ _ _ => rfl) (fun t => by rw [after2_3]; unfold Dat.blockOf iblk2; rw [A2]; try rfl) t d).trans
    (by unfold Dat.fetched Dat.blockOf iblk2; rw [A2]; try rfl)
theorem before2_4 (c : Dev nD) (t : Fin cfg2.N) (d) : (dat2 V c).before 4 t d = iblk2 V c 4 t :=
  ((dat2 V c).before_in_eq_fetched 4 rfl (fun _ => rfl) (fun _ _ _ => rfl) (fun t => by rw [after2_4]; unfold Dat.blockOf iblk2; rw [A2]; try rfl) t d).trans
    (by unfold Dat.fetched Dat.blockOf iblk2; rw [A2]; try rfl)
abbrev ms2_0 (t : Fin cfg2.N) : Memref sig .tc .vmem S512x1024 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S512x5120 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S512x384 .bf16 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1x5120x1024 .bf16 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S1x384x1024 .bf16 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S512x1024 .f32 := win2_5.stage (cfg2.slots t 5)
abbrev hs2_5 (t : Fin cfg2.N) : (ms2_5 t).IsWhole := hstage2_5 ((cfg2.slots t 5).cast nbuf2_5)

/-- What the body is given at a point. -/
def pre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d)))
/-- What the body leaves at a point. -/
def post2 (c : Dev nD) (t : Fin cfg2.N) : sProp 𝕄 :=
  iprop((dat2 V c).Φ t.succ ∗ (dat2 V c).owesAt () t.succ
    ∗ owns (c : Thread nD τ) (ms2_0 t) fullShare ((dat2 V c).after 0 t)
    ∗ owns (c : Thread nD τ) (ms2_1 t) fullShare ((dat2 V c).after 1 t)
    ∗ owns (c : Thread nD τ) (ms2_2 t) fullShare ((dat2 V c).after 2 t)
    ∗ owns (c : Thread nD τ) (ms2_3 t) fullShare ((dat2 V c).after 3 t)
    ∗ owns (c : Thread nD τ) (ms2_4 t) fullShare ((dat2 V c).after 4 t)
    ∗ owns (c : Thread nD τ) (ms2_5 t) fullShare ((dat2 V c).after 5 t))

set_option maxHeartbeats 4000000 in
/-- The body at any point. -/
theorem sound2 (c : Dev nD) (t : Fin cfg2.N) :
    pre2 V c t ⊢ wp frame (wpE (defs₀ (F := F)) Variants.none c none) Set.univ (bodyAt2 t) (fun _ => post2 V c t) := by
  unfold pre2 post2 bodyAt2
  simp only [before2_0, before2_1, before2_2, before2_3, before2_4]
  rw [show (dat2 V c).owesAt () t.succ = (dat2 V c).owesAt () t.castSucc from rfl,
    after2_0, after2_1, after2_2, after2_3, after2_4, after2_5]
  rw [show (dat2 V c).Φ t.castSucc = (dat2 V c).Φ t.succ from rfl]
  iintro ⟨HΦ, Ho, ⟨%d0, H0⟩, ⟨%d1, H1⟩, ⟨%d2, H2⟩, ⟨%d3, H3⟩, ⟨%d4, H4⟩, ⟨%d5, H5⟩⟩
  iapply (run2 c (grid2.coords t) _ _ _ _ _ _ _ _ _ _ _ _ (iblk2 V c 0 t) (iblk2 V c 1 t) (iblk2 V c 2 t) (iblk2 V c 3 t) (iblk2 V c 4 t) Set.univ _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem defs₀_row2 (t : Fin cfg2.N) :
    defs₀ (F := F) .tc cfg2.body (cfg2.bodyArgs t (cfg2.slots t)) = bodyAt2 t := by
  unfold defs₀; rw [Defs.onTc_tc]

/-- The pipeline's body obligation, at every point. -/
theorem body2 (c : Dev nD) : BodyObligation (dat2 V c) (defs₀ (F := F)) Variants.none () Set.univ := fun t => by
  rw [bigSep_W2, bigSep_W2, defs₀_row2]
  exact triple_restated (sound2 V c t) rfl .rfl fun _ => .rfl

variable (Vp : (c : Dev nD) → Valuation τ sig (Elt F))
variable (pdats : (p : Fin 3) → (c : Dev nD) → Dat τ (Elt F) Unit ℕ (UR sig nD τ) ℕ (cfgs p) c)

set_option maxHeartbeats 1000000 in
set_option backward.isDefEq.respectTransparency.types false in
/-- The region as a segment: entered with every unscoped buffer at `V`, left with them at `Vp`, the outputs' arrays as its points' write-backs make them. -/
def reg2 (hp : ∀ c, pdats 2 c = dat2 V c) (h5 : ∀ c, Vp c main_v5 = (dat2 V c).arrAt 5 cfg2.N)
    (hne : ∀ c (b : Ref sig .tc), b ∉ ([main_v5] : List (Ref sig .tc)) → Vp c b = V c b) :
    Pipeline.RegionSeg (pcfgs (F := F)) adm pdats () defs₀ Variants.none (fun _ => ∅) (fun _ _ => 0) 2 where
  win := launch2.win.to₀
  block_pos := launch2.block_pos
  stage_whole := launch2.stage_whole
  K := PEmpty
  osem k := k.elim
  ho := Pipeline.OwnSemFacts.none _
  hbody c := by
    have h := (body2 V c).loose
    rw [← hp c] at h
    exact h
  hwaits := Pipeline.hwaits_of_owed_zero _ _ _ _ (fun _ => ∅) (fun _ _ => 0) 2 fun c _ => by rw [hp c]; rfl
  pre c := iprop(unscopedBufs c (fun b => V c b) ∗ ∃ W, owes (c : Thread nD τ) (0 : CellTallies nD τ sig Unit) W)
  post c := iprop(unscopedBufs c (fun b => Vp c b) ∗ ∃ W, owes (c : Thread nD τ) (0 : CellTallies nD τ sig Unit) W)
  X _ := BI.emp
  Y _ := BI.emp
  Z c := Pipeline.unscopedRest (Ix := Unit) (Name := ℕ) (U := UR sig nD τ) (Lvl := ℕ) spec2 c (fun b => V c b)
  hentry c := by
    rw [Pipeline.ownSems0_none]
    have hsplit := Pipeline.arrays_of_unscopedBufs (p := 2) (pcfgs (F := F)) adm pdats launch2.win launch2.arr_whole c
      ((pdats 2 c).share_full fun _ => by rw [hp c]; rfl) (fun b => V c b) (fun w => by rw [hp c]; exact A2 V c w)
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · rw [show (pdats 2 c).owesAt () 0 = (dat2 V c).owesAt () 0 from by rw [hp c]]
      unfold Pipeline.Dat.owesAt Pipeline.owesWithin
      icases HO with ⟨%W, HO⟩; iexists W; isplitr; · ipureintro; exact fun _ _ => Or.inl trivial
      iexact HO
    isplitr; · iempintro
    iexact Hrest
  hin c := by
    rw [hp c, show (dat2 V c).Φ 0 = Pipeline.scopedRest (Ix := Unit) (Name := ℕ) (U := UR sig nD τ) (Lvl := ℕ) (Val := Elt F) spec2 c from rfl]
    iintro ⟨-, -, Hr⟩; iexact Hr
  hout c := by
    rw [Pipeline.ownSems0_none, hp c, show (dat2 V c).Φ (Fin.last (Pipeline.pin (pcfgs (F := F)) adm 2).N) = Pipeline.scopedRest (Ix := Unit) (Name := ℕ) (U := UR sig nD τ) (Lvl := ℕ) (Val := Elt F) spec2 c from rfl]
    iintro Hr
    isplitr; · iempintro
    isplitr; · iempintro
    iexact Hr
  hexit c := by
    have hjoin := Pipeline.unscopedBufs_of_arrays (p := 2) (pcfgs (F := F)) adm (Ix := Unit) (Name := ℕ) (U := UR sig nD τ) (Lvl := ℕ) launch2.win launch2.arr_whole c
      pdats ((pdats 2 c).share_full fun _ => by rw [hp c]; rfl) (fun b => V c b) (fun b => Vp c b) ((pdats 2 c).arrAt · cfg2.N)
      (fun w => by
        rw [hp c]
        fin_cases w
        · exact ((dat2 V c).arrAt_in 0 rfl _).trans (hne c main_arg0 (by decide)).symm
        · exact ((dat2 V c).arrAt_in 1 rfl _).trans (hne c main_v2_0 (by decide)).symm
        · exact ((dat2 V c).arrAt_in 2 rfl _).trans (hne c main_v1_0 (by decide)).symm
        · exact ((dat2 V c).arrAt_in 3 rfl _).trans (hne c main_v3 (by decide)).symm
        · exact ((dat2 V c).arrAt_in 4 rfl _).trans (hne c main_v4 (by decide)).symm
        · exact (h5 c).symm
        )
      (fun b hb => hne c b fun h => hb (by
        simp only [List.mem_cons, List.not_mem_nil, _root_.or_false] at h
        have h := h
        · exact h ▸ Finset.mem_image.mpr ⟨5, Finset.mem_univ _, rfl⟩))
    have hO : (pdats 2 c).owesAt () (Fin.last cfg2.N) ⊢ (iprop(∃ W, owes (c : Thread nD τ) (0 : CellTallies nD τ sig Unit) W) : sProp 𝕄) := by
      rw [hp c]
      unfold Pipeline.Dat.owesAt Pipeline.owesWithin
      iintro ⟨%W, -, HO⟩; iexists W; iexact HO
    iintro ⟨Ha, HO, -, Hrest⟩
    imodintro
    isplitl [Ha Hrest]
    · iapply hjoin; isplitl [Ha] <;> iassumption
    iapply hO; iexact HO

end Cert.KernelIdeal.Hand

end
-- ==== Proof.Main.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.Value
public import Idealize.ShloMosaic.Lib.Ring
public import Idealize.ShloMosaic.Lib.Tactic
public import Idealize.ShloMosaic.Lib.VecWindow
public import Idealize.ShloMosaic.Lib.WordCmp
public import proofs.«01_k».proof.Proof.Gen.KernelIdeal.Regions
public import proofs.«01_k».proof.Proof.Region0
public import proofs.«01_k».proof.Proof.Region1
public import proofs.«01_k».proof.Proof.Region2
public import Idealize.ShloMosaic.Lib.Pipeline.Kit

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Contents nothing reads. -/
def junk (r : Ref sig .tc) (c : Dev nD) : Buf (Elt F) ((c : Thread nD τ).loc r) := fun _ => Classical.arbitrary _

/-- What region 0 leaves in its outputs' arrays. -/
def outsA : Outs (F := F) := fun _ r c =>
  if h : r = main_v1_0 then h ▸ (dat0 (V1 m) c).arrAt 5 cfg0.N
  else if h : r = main_v1_1 then h ▸ (dat0 (V1 m) c).arrAt 6 cfg0.N
  else if h : r = main_v1_2 then h ▸ (dat0 (V1 m) c).arrAt 7 cfg0.N
  else junk r c
/-- What regions 0 and 1 leave in their outputs' arrays. -/
def outsB : Outs (F := F) := fun J r c =>
  if J = 2 then outsA m J r c
  else if h : r = main_v2_0 then h ▸ (dat1 (V2 m (outsA m)) c).arrAt 4 cfg1.N
  else if h : r = main_v2_1 then h ▸ (dat1 (V2 m (outsA m)) c).arrAt 5 cfg1.N
  else junk r c
/-- What every region leaves in its outputs' arrays. -/
def outs : Outs (F := F) := fun J r c =>
  if J = 5 then (if h : r = main_v5 then h ▸ (dat2 (V4 m (outsB m)) c).arrAt 5 cfg2.N else junk r c)
  else outsB m J r c

theorem outs_2 (r : Ref sig .tc) (c : Dev nD) : outs m 2 r c = outsA m 2 r c := rfl
theorem V2_outs : V2 m (outs m) = V2 m (outsA m) := rfl
theorem V4_outs : V4 m (outs m) = V4 m (outsB m) := rfl
theorem outs_v1_0 (c : Dev nD) : outs m 2 main_v1_0 c = (dat0 (V1 m) c).arrAt 5 cfg0.N := by
  rw [outs_2]; unfold outsA; rw [dif_pos rfl]
theorem outs_v1_1 (c : Dev nD) : outs m 2 main_v1_1 c = (dat0 (V1 m) c).arrAt 6 cfg0.N := by
  rw [outs_2]; unfold outsA; rw [dif_neg (by decide), dif_pos rfl]
theorem outs_v1_2 (c : Dev nD) : outs m 2 main_v1_2 c = (dat0 (V1 m) c).arrAt 7 cfg0.N := by
  rw [outs_2]; unfold outsA; rw [dif_neg (by decide), dif_neg (by decide), dif_pos rfl]
theorem outs_v2_0 (c : Dev nD) : outs m 3 main_v2_0 c = (dat1 (V2 m (outs m)) c).arrAt 4 cfg1.N := by
  rw [V2_outs]; unfold outs outsB; rw [if_neg (by decide), if_neg (by decide), dif_pos rfl]
theorem outs_v2_1 (c : Dev nD) : outs m 3 main_v2_1 c = (dat1 (V2 m (outs m)) c).arrAt 5 cfg1.N := by
  rw [V2_outs]; unfold outs outsB; rw [if_neg (by decide), if_neg (by decide), dif_neg (by decide), dif_pos rfl]
theorem outs_v5 (c : Dev nD) : outs m 5 main_v5 c = (dat2 (V4 m (outs m)) c).arrAt 5 cfg2.N := by
  rw [V4_outs]; unfold outs; rw [if_pos rfl, dif_pos rfl]

theorem V2_v1_0 (c : Dev nD) : V2 m (outs m) c main_v1_0 = (dat0 (V1 m) c).arrAt 5 cfg0.N := by
  rw [← outs_v1_0]
  simp only [V2]
  rw [Function.update_of_ne (StableHlo.devRef_ne_of_ne (by decide)), Function.update_of_ne (StableHlo.devRef_ne_of_ne (by decide)), Function.update_self]
theorem V2_v1_1 (c : Dev nD) : V2 m (outs m) c main_v1_1 = (dat0 (V1 m) c).arrAt 6 cfg0.N := by
  rw [← outs_v1_1]
  simp only [V2]
  rw [Function.update_of_ne (StableHlo.devRef_ne_of_ne (by decide)), Function.update_self]
theorem V2_v1_2 (c : Dev nD) : V2 m (outs m) c main_v1_2 = (dat0 (V1 m) c).arrAt 7 cfg0.N := by
  rw [← outs_v1_2]
  simp only [V2]
  rw [Function.update_self]
theorem V3_v2_0 (c : Dev nD) : V3 m (outs m) c main_v2_0 = (dat1 (V2 m (outs m)) c).arrAt 4 cfg1.N := by
  rw [← outs_v2_0]
  simp only [V3]
  rw [Function.update_of_ne (StableHlo.devRef_ne_of_ne (by decide)), Function.update_self]
theorem V3_v2_1 (c : Dev nD) : V3 m (outs m) c main_v2_1 = (dat1 (V2 m (outs m)) c).arrAt 5 cfg1.N := by
  rw [← outs_v2_1]
  simp only [V3]
  rw [Function.update_self]
theorem V5_v5 (c : Dev nD) : V5 m (outs m) c main_v5 = (dat2 (V4 m (outs m)) c).arrAt 5 cfg2.N := by
  rw [← outs_v5]
  simp only [V5]
  rw [Function.update_self]

/-- Each region's proof data, from the contents it is entered at. -/
def pdats : (p : Fin 3) → (c : Dev nD) → Dat τ (Elt F) Unit ℕ (UR sig nD τ) ℕ (cfgs p) c
  | ⟨0, _⟩ => fun c => dat0 (V1 m) c
  | ⟨1, _⟩ => fun c => dat1 (V2 m (outs m)) c
  | ⟨2, _⟩ => fun c => dat2 (V4 m (outs m)) c

def seg0' := reg0 (V1 m) (V2 m (outs m)) (pdats m) (fun _ => rfl) (V2_v1_0 m) (V2_v1_1 m) (V2_v1_2 m) (fun c b h => V2_of m (outs m) c b h)
def seg1' := reg1 (V2 m (outs m)) (V3 m (outs m)) (pdats m) (fun _ => rfl) (V3_v2_0 m) (V3_v2_1 m) (fun c b h => V3_of m (outs m) c b h)
def seg2' := reg2 (V4 m (outs m)) (V5 m (outs m)) (pdats m) (fun _ => rfl) (V5_v5 m) (fun c b h => V5_of m (outs m) c b h)

/-- What rides beside the buffers: the core owes nothing. -/
abbrev rest (_ : Fin 4) (c : Dev nD) : sProp 𝕄 := iprop(∃ W, owes (c : Thread nD τ) (0 : CellTallies nD τ sig Unit) W)

theorem held_eq (c : Dev nD) (W : Valuation τ sig (Elt F)) :
    (unscopedBufs c (fun b => W b) : sProp 𝕄) = StableHlo.held (c : Thread nD τ) (Pipeline.ucRefs τ sig) W :=
  Pipeline.unscopedBufs_held c W

theorem glue (c : Dev nD) (W : Valuation τ sig (Elt F)) :
    iprop(StableHlo.held (c : Thread nD τ) (Pipeline.ucRefs τ sig) W ∗ rest 0 c)
      ⊢ (iprop(unscopedBufs c (fun b => W b) ∗ ∃ W, owes (c : Thread nD τ) (0 : CellTallies nD τ sig Unit) W) : sProp 𝕄) := by
  rw [held_eq]
theorem glue' (c : Dev nD) (W : Valuation τ sig (Elt F)) :
    (iprop(unscopedBufs c (fun b => W b) ∗ ∃ W, owes (c : Thread nD τ) (0 : CellTallies nD τ sig Unit) W) : sProp 𝕄)
      ⊢ iprop(StableHlo.held (c : Thread nD τ) (Pipeline.ucRefs τ sig) W ∗ rest 0 c) := by
  rw [held_eq]

set_option maxHeartbeats 2000000 in
set_option backward.isDefEq.respectTransparency.types false in
/-- Every weakly fair execution of @main from memory `m` with zero counters terminates; at the end each argument is as launched, the result is what the last region's points write back, and every counter is zero. -/
theorem run_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_v5) = V5 m (outs m) c main_v5)
      ∧ r.2.sem = fun _ => 0) := by
  refine Pipeline.θ_run_regions_kit_dev_sems (pcfgs (F := F)) adm (pdats m) () cellOf_inj emb₁ defs₀ Variants.none (fun _ => ∅) (fun _ _ => 0) m ρ main
    (segs m (outs m) Variants.none (fun _ => ∅) (fun _ _ => 0) rest () (pdats m) (seg0' m) (seg1' m) (seg2' m))
    (fun c Q => by
      rewrite [main_chain c, Pipeline.Seg.run_eq_chain,
        show (segs m (outs m) Variants.none (fun _ => ∅) (fun _ _ => 0) rest () (pdats m) (seg0' m) (seg1' m) (seg2' m) c).map Pipeline.Seg.prog = [
          StableHlo.seq hostOps0,
          Prog.lift (.customCall (Pipeline.entry 0) ()),
          Prog.lift (.customCall (Pipeline.entry 1) ()),
          StableHlo.seq hostOps2,
          Prog.lift (.customCall (Pipeline.entry 2) ()) ] from rfl]
      dsimp (config := { failIfUnchanged := false }) only
      exact .rfl)
    (fun c => by simp only [segs, Pipeline.Seg.pipes_host, Pipeline.Seg.pipes_region, Pipeline.Seg.pipes_nil]; decide) (O₀ := 0) (hL := fun _ _ => rfl) (G := fun _ => iprop(emp))
    (u₀ := initOf (Pipeline.cells cfgs cellOf_inj) (Pipeline.launchToks cfgs cellOf_inj))
    (hu₀ := by
      iintro Hu
      imodintro
      isplitl [Hu]
      · iapply (show (ownU _ : sProp 𝕄) ⊢ BI.own (emb₁ (initOf (Pipeline.cells (Pipeline.pin (pcfgs (F := F)) adm) cellOf_inj) (Pipeline.launchToks (Pipeline.pin (pcfgs (F := F)) adm) cellOf_inj))) from .rfl); iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ rest 0 c))
    (Tₙ := fun c => StableHlo.held (c : Thread nD τ) (Pipeline.ucRefs τ sig) (V5 m (outs m) c))
    (hch := fun c => ⟨.rfl, glue c (V1 m c), .rfl, glue' c (V3 m (outs m) c), glue c (V4 m (outs m) c), glue' c (V5 m (outs m) c)⟩)
    (hinit := by
      refine Pipeline.initEach (fun _ => ∅) (fun _ _ => 0) fun c => ?_
      rw [show unscopedBufs c (fun b => m ((c : Thread nD τ).loc b)) = StableHlo.held (c : Thread nD τ) (Pipeline.ucRefs τ sig) (V0 m c) from held_eq c (V0 m c)]
      iintro ⟨⟨Hh, -, HO, -, -, -⟩, -⟩
      imodintro
      isplitl [Hh]; · iexact Hh
      iexists ∅; iexact HO)
    (QY := fun c s => s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3)
      ∧ s.mem ((c.tc : Thread nD τ).loc main_v5) = V5 m (outs m) c main_v5)
    (hfin := fun c s' => ?_) (hQ := fun _ h hz => ⟨h, funext fun g => hz g (.inr (regions_no_unscoped g.2))⟩)
  unfold StableHlo.held
  iintro ⟨Hh, HSI⟩
  ihave Hr := (pointsTo_read_all (Pipeline.ucRefs τ sig) (fun b => ((c : Thread nD τ).1, b)) (V5 m (outs m) c) s') $$ [Hh HSI]
  · isplitl [Hh] <;> iassumption
  icases Hr with ⟨%h, HSI⟩
  imodintro
  isplitr
  · ipureintro
    exact ⟨(h (Proc.devRef .tc main_arg0) (Finset.mem_filter.mpr ⟨StableHlo.devRef_mem_tcRefs main_arg0, by decide⟩)).trans (V5_main_arg0 m (outs m) c),
      (h (Proc.devRef .tc main_arg1) (Finset.mem_filter.mpr ⟨StableHlo.devRef_mem_tcRefs main_arg1, by decide⟩)).trans (V5_main_arg1 m (outs m) c),
      (h (Proc.devRef .tc main_arg2) (Finset.mem_filter.mpr ⟨StableHlo.devRef_mem_tcRefs main_arg2, by decide⟩)).trans (V5_main_arg2 m (outs m) c),
      (h (Proc.devRef .tc main_arg3) (Finset.mem_filter.mpr ⟨StableHlo.devRef_mem_tcRefs main_arg3, by decide⟩)).trans (V5_main_arg3 m (outs m) c),
      h (Proc.devRef .tc main_v5) (Finset.mem_filter.mpr ⟨StableHlo.devRef_mem_tcRefs main_v5, by decide⟩)⟩
  · iexact HSI

end Cert.KernelIdeal.Hand

end
-- ==== Proof.Pay.lean ====
module

public import proofs.«01_k».proof.Proof.Gen.KernelIdeal.Skeleton
public import proofs.«01_k».proof.Proof.Spec

@[expose] public section

noncomputable section

namespace Cert.KernelIdeal.Hand

open Cert.KernelIdeal Cert.KernelIdeal.Gen Cert.Hand
open Idealize.ShloMosaic Idealize.ShloMosaic.ValueIdx

/-- The cast gate columns of the tail call, at an index. -/
theorem k0_pay1_at (v : Vec Ideal S1x2048x384 .f32) (y : S2048x384.Idx) :
    k0_pay1 (F := Ideal) v y = v (ix3 (0 : Fin 1) (y 0) (y 1)) := by
  unfold k0_pay1
  simp only [shapeCast_self]
  exact squeeze_at (A := 2048) (B := 384) v _ y

/-- The cast up columns of the tail call, at an index. -/
theorem k0_pay2_at (v : Vec Ideal S1x2048x384 .f32) (y : S2048x384.Idx) :
    k0_pay2 (F := Ideal) v y = v (ix3 (0 : Fin 1) (y 0) (y 1)) := by
  unfold k0_pay2
  simp only [shapeCast_self]
  exact squeeze_at (A := 2048) (B := 384) v _ y

/-- The cast gate columns of the main call, at an index. -/
theorem k1_pay1_at (v : Vec Ideal S1x2048x512 .f32) (y : S2048x512.Idx) :
    k1_pay1 (F := Ideal) v y = v (ix3 (0 : Fin 1) (y 0) (y 1)) := by
  unfold k1_pay1
  simp only [shapeCast_self]
  exact squeeze_at (A := 2048) (B := 512) v _ y

/-- The cast up columns of the main call, at an index. -/
theorem k1_pay2_at (v : Vec Ideal S1x2048x512 .f32) (y : S2048x512.Idx) :
    k1_pay2 (F := Ideal) v y = v (ix3 (0 : Fin 1) (y 0) (y 1)) := by
  unfold k1_pay2
  simp only [shapeCast_self]
  exact squeeze_at (A := 2048) (B := 512) v _ y

/-- The cast rows of the output weight in the tail call, at an index. -/
theorem k0_pay4_at (v : Vec Ideal S1x48x2048 .f32) (y : S48x2048.Idx) :
    k0_pay4 (F := Ideal) v y = v (ix3 (0 : Fin 1) (y 0) (y 1)) := by
  unfold k0_pay4
  exact squeeze_at (A := 48) (B := 2048) v _ y

/-- The cast rows of the output weight in the main call, at an index. -/
theorem k1_pay3_at (v : Vec Ideal S1x64x2048 .f32) (y : S64x2048.Idx) :
    k1_pay3 (F := Ideal) v y = v (ix3 (0 : Fin 1) (y 0) (y 1)) := by
  unfold k1_pay3
  exact squeeze_at (A := 64) (B := 2048) v _ y

/-- The sum of a row's squares, spread over the row's one lane. -/
theorem rowsum_at (x : Vec Ideal S1024x2048 .f32) (i : S1024x1.Idx) :
    shapeCast S1024x1 (multiReduction (F := Ideal) .add [1] S1024 (mulf x x) 0x00000000#32 reduces_S1024x2048_S1024 (.inl rfl) rfl) shapeCasts_S1024_S1024x1 i
      = ∑ k : Fin 2048, x (ix2 (i 0) k) * x (ix2 (i 0) k) := by
  rw [shapeCast_apply _ shapeCasts_S1024_S1024x1 i (ix1 (i 0)) (by
    rw [Shape.rowMajor_val_one, Shape.rowMajor_val_two]
    have h1 : (i 1).val < 1 := (i 1).isLt
    show (i 0).val = (i 0).val * 1 + (i 1).val
    omega)]
  refine (Ideal.multiReduction_add_single (mulf x x) 0x00000000#32 reduces_S1024x2048_S1024 (.inl rfl) rfl (ix1 (i 0))).trans ?_
  refine Finset.sum_congr rfl fun k _ => ?_
  have e : reduces_S1024x2048_S1024.lift (ix1 (i 0)) k = ix2 (i 0) k := funext fun a => Fin.ext (by
    match a with | ⟨0, _⟩ => rfl | ⟨1, _⟩ => rfl)
  rw [e]; rfl

/-- The normalised rows of a block, at an index. -/
theorem k0_pay3_at (x : Vec Ideal S1024x2048 .f32) (w : Vec Ideal S1x2048 .f32) (y : S1024x2048.Idx) :
    k0_pay3 (F := Ideal) x w y = hnS (fun k => x (ix2 (y 0) k)) (fun k => w (ix2 (0 : Fin 1) k)) (y 1) := by
  unfold k0_pay3
  simp only [shapeCast_self, truncf_apply, mulf_apply]
  rw [broadcastTo_apply w broadcasts_S1x2048_S1024x2048 y (ix2 (0 : Fin 1) (y 1)) (fun a => by
    match a with | ⟨0, _⟩ => rfl | ⟨1, _⟩ => rfl)]
  rw [broadcastTo_apply _ broadcasts_S1024x1_S1024x2048 y (ix2 (y 0) (0 : Fin 1)) (fun a => by
    match a with | ⟨0, _⟩ => rfl | ⟨1, _⟩ => rfl)]
  show x y * Ideal.rsqrt (Ideal.div (shapeCast S1024x1 _ shapeCasts_S1024_S1024x1 _) _ + _) * _ = _
  rw [rowsum_at]
  conv_lhs => rw [eq_ix2 y]
  rfl

/-- The tail call's activations, at an index. -/
theorem k0_pay5_at (x : Vec Ideal S1024x2048 .f32) (w : Vec Ideal S1x2048 .f32) (a b : Vec Ideal S2048x384 .bf16) (y : S1024x384.Idx) :
    k0_pay5 (F := Ideal) x w a b y
      = glu (∑ k : Fin 2048, k0_pay3 (F := Ideal) x w (ix2 (y 0) k) * a (ix2 k (y 1)))
          (∑ k : Fin 2048, k0_pay3 (F := Ideal) x w (ix2 (y 0) k) * b (ix2 k (y 1))) := by
  have e := fun v => matmul_at (M := 1024) (K := 2048) (N := 384) (φ₁ := .bf16) (φ₂ := .bf16) (k0_pay3 (F := Ideal) x w) v y
  rw [← e a, ← e b]
  rfl

/-- The main call's activations, at an index. -/
theorem k1_pay4_at (x : Vec Ideal S1024x2048 .bf16) (a b : Vec Ideal S2048x512 .bf16) (y : S1024x512.Idx) :
    k1_pay4 (F := Ideal) x a b y
      = glu (∑ k : Fin 2048, x (ix2 (y 0) k) * a (ix2 k (y 1)))
          (∑ k : Fin 2048, x (ix2 (y 0) k) * b (ix2 k (y 1))) := by
  have e := fun v => matmul_at (M := 1024) (K := 2048) (N := 512) (φ₁ := .bf16) (φ₂ := .bf16) x v y
  rw [← e a, ← e b]
  unfold k1_pay4
  simp only [shapeCast_self]
  rfl

/-- The last call's block of the result, at an index. -/
theorem k2_pay1_at (wm : Vec Ideal S1x5120x1024 .bf16) (wt : Vec Ideal S1x384x1024 .bf16) (am : Vec Ideal S512x5120 .bf16)
    (at' : Vec Ideal S512x384 .bf16) (h : Vec Ideal S512x1024 .f32) (y : S512x1024.Idx) :
    k2_pay1 (F := Ideal) wm wt am at' h y
      = h y + half * ((∑ k : Fin 5120, am (ix2 (y 0) k) * wm (ix3 (0 : Fin 1) k (y 1)))
          + ∑ k : Fin 384, at' (ix2 (y 0) k) * wt (ix3 (0 : Fin 1) k (y 1))) := by
  have e1 := matmul_at (M := 512) (K := 5120) (N := 1024) (φ₁ := .bf16) (φ₂ := .bf16) am (shapeCast S5120x1024 wm shapeCasts_S1x5120x1024_S5120x1024) y
  have e2 := matmul_at (M := 512) (K := 384) (N := 1024) (φ₁ := .bf16) (φ₂ := .bf16) at' (shapeCast S384x1024 wt shapeCasts_S1x384x1024_S384x1024) y
  simp only [squeeze_at (A := 5120) (B := 1024) wm shapeCasts_S1x5120x1024_S5120x1024, squeeze_at (A := 384) (B := 1024) wt shapeCasts_S1x384x1024_S384x1024] at e1 e2
  have e1' : (∑ k : Fin 5120, am (ix2 (y 0) k) * wm (ix3 (0 : Fin 1) k (y 1))) = _ := e1.symm
  have e2' : (∑ k : Fin 384, at' (ix2 (y 0) k) * wt (ix3 (0 : Fin 1) k (y 1))) = _ := e2.symm
  rw [e1', e2']
  unfold k2_pay1
  simp only [shapeCast_self]
  rfl

end Cert.KernelIdeal.Hand

end
-- ==== Proof.Value0.lean ====
module

public import proofs.«01_k».proof.Proof.Region0
public import proofs.«01_k».proof.Proof.Pay

@[expose] public section

set_option maxRecDepth 16384

noncomputable section

namespace Cert.KernelIdeal.Hand

open Cert.KernelIdeal Cert.KernelIdeal.Gen Cert.Hand
open Idealize.ShloMosaic Idealize.ShloMosaic.TcCoe Idealize.ShloMosaic.ValueIdx Idealize.SL.Sem
open Idealize.ShloMosaic.Pipeline (Dat Cfg Window)

variable (V : (c : Dev nD) → Valuation τ sig (Elt Ideal))

/-- Where each window's block sits, at every point of the grid. -/
theorem where0 : ∀ t : Fin grid0.N, win0_0.index t (0 : Fin 2) = t.val ∧ win0_0.index t (1 : Fin 2) = 0 ∧ win0_1.index t (0 : Fin 3) = 0 ∧ win0_1.index t (1 : Fin 3) = 0 ∧ win0_1.index t (2 : Fin 3) = 5120 ∧ win0_2.index t (0 : Fin 3) = 0 ∧ win0_2.index t (1 : Fin 3) = 0 ∧ win0_2.index t (2 : Fin 3) = 10624 ∧ win0_3.index t (0 : Fin 2) = 0 ∧ win0_3.index t (1 : Fin 2) = 0 ∧ win0_4.index t (0 : Fin 3) = 0 ∧ win0_4.index t (1 : Fin 3) = 5120 + t.val * 48 ∧ win0_4.index t (2 : Fin 3) = 0 ∧ win0_5.index t (0 : Fin 2) = t.val ∧ win0_5.index t (1 : Fin 2) = 0 ∧ win0_6.index t (0 : Fin 2) = t.val ∧ win0_6.index t (1 : Fin 2) = 0 ∧ win0_7.index t (0 : Fin 2) = t.val ∧ win0_7.index t (1 : Fin 2) = 0 := by
  decide +kernel

/-- Window 0's block at a point, read off its array. -/
theorem iblk0_0_at (c : Dev nD) (t : Fin cfg0.N) (y : S1024x2048.Idx) (i : S8192x2048.Idx) (h0 : (i (0 : Fin 2)).val = t.val * 1024 + (y (0 : Fin 2)).val) (h1 : (i (1 : Fin 2)).val = 0 * 2048 + (y (1 : Fin 2)).val) :
    iblk0 V c 0 t y = (rd S8192x2048 (V c main_arg0)) i := by
  obtain ⟨e0_0, e0_1, e1_0, e1_1, e1_2, e2_0, e2_1, e2_2, e3_0, e3_1, e4_0, e4_1, e4_2, e5_0, e5_1, e6_0, e6_1, e7_0, e7_1⟩ := where0 t
  unfold iblk0
  show (rd S8192x2048 (V c main_arg0)) (((cfg0.win 0).blk t).view.emb y) = _
  refine congrArg ((rd S8192x2048 (V c main_arg0))) (funext fun a => Fin.ext ?_)
  exact (match a with
    | ⟨0, _⟩ => by show win0_0.index t (0 : Fin 2) * 1024 + 1 * (y (0 : Fin 2)).val = (i (0 : Fin 2)).val; rw [h0, e0_0]; omega
    | ⟨1, _⟩ => by show win0_0.index t (1 : Fin 2) * 2048 + 1 * (y (1 : Fin 2)).val = (i (1 : Fin 2)).val; rw [h1, e0_1]; omega)

/-- Window 1's block at a point, read off its array. -/
theorem iblk0_1_at (c : Dev nD) (t : Fin cfg0.N) (y : S1x2048x384.Idx) (i : S2x2048x11008.Idx) (h0 : (i (0 : Fin 3)).val = 0 + (y (0 : Fin 3)).val) (h1 : (i (1 : Fin 3)).val = 0 + (y (1 : Fin 3)).val) (h2 : (i (2 : Fin 3)).val = 5120 + (y (2 : Fin 3)).val) :
    iblk0 V c 1 t y = (rd S2x2048x11008 (V c main_arg2)) i := by
  obtain ⟨e0_0, e0_1, e1_0, e1_1, e1_2, e2_0, e2_1, e2_2, e3_0, e3_1, e4_0, e4_1, e4_2, e5_0, e5_1, e6_0, e6_1, e7_0, e7_1⟩ := where0 t
  unfold iblk0
  show (rd S2x2048x11008 (V c main_arg2)) (((cfg0.win 1).blk t).view.emb y) = _
  refine congrArg ((rd S2x2048x11008 (V c main_arg2))) (funext fun a => Fin.ext ?_)
  exact (match a with
    | ⟨0, _⟩ => by show win0_1.index t (0 : Fin 3) + 1 * (y (0 : Fin 3)).val = (i (0 : Fin 3)).val; rw [h0, e1_0]; omega
    | ⟨1, _⟩ => by show win0_1.index t (1 : Fin 3) + 1 * (y (1 : Fin 3)).val = (i (1 : Fin 3)).val; rw [h1, e1_1]; omega
    | ⟨2, _⟩ => by show win0_1.index t (2 : Fin 3) + 1 * (y (2 : Fin 3)).val = (i (2 : Fin 3)).val; rw [h2, e1_2]; omega)

/-- Window 2's block at a point, read off its array. -/
theorem iblk0_2_at (c : Dev nD) (t : Fin cfg0.N) (y : S1x2048x384.Idx) (i : S2x2048x11008.Idx) (h0 : (i (0 : Fin 3)).val = 0 + (y (0 : Fin 3)).val) (h1 : (i (1 : Fin 3)).val = 0 + (y (1 : Fin 3)).val) (h2 : (i (2 : Fin 3)).val = 10624 + (y (2 : Fin 3)).val) :
    iblk0 V c 2 t y = (rd S2x2048x11008 (V c main_arg2)) i := by
  obtain ⟨e0_0, e0_1, e1_0, e1_1, e1_2, e2_0, e2_1, e2_2, e3_0, e3_1, e4_0, e4_1, e4_2, e5_0, e5_1, e6_0, e6_1, e7_0, e7_1⟩ := where0 t
  unfold iblk0
  show (rd S2x2048x11008 (V c main_arg2)) (((cfg0.win 2).blk t).view.emb y) = _
  refine congrArg ((rd S2x2048x11008 (V c main_arg2))) (funext fun a => Fin.ext ?_)
  exact (match a with
    | ⟨0, _⟩ => by show win0_2.index t (0 : Fin 3) + 1 * (y (0 : Fin 3)).val = (i (0 : Fin 3)).val; rw [h0, e2_0]; omega
    | ⟨1, _⟩ => by show win0_2.index t (1 : Fin 3) + 1 * (y (1 : Fin 3)).val = (i (1 : Fin 3)).val; rw [h1, e2_1]; omega
    | ⟨2, _⟩ => by show win0_2.index t (2 : Fin 3) + 1 * (y (2 : Fin 3)).val = (i (2 : Fin 3)).val; rw [h2, e2_2]; omega)

/-- Window 3's block at a point, read off its array. -/
theorem iblk0_3_at (c : Dev nD) (t : Fin cfg0.N) (y : S1x2048.Idx) (i : S1x2048.Idx) (h0 : (i (0 : Fin 2)).val = 0 * 1 + (y (0 : Fin 2)).val) (h1 : (i (1 : Fin 2)).val = 0 * 2048 + (y (1 : Fin 2)).val) :
    iblk0 V c 3 t y = (rd S1x2048 (V c main_v0)) i := by
  obtain ⟨e0_0, e0_1, e1_0, e1_1, e1_2, e2_0, e2_1, e2_2, e3_0, e3_1, e4_0, e4_1, e4_2, e5_0, e5_1, e6_0, e6_1, e7_0, e7_1⟩ := where0 t
  unfold iblk0
  show (rd S1x2048 (V c main_v0)) (((cfg0.win 3).blk t).view.emb y) = _
  refine congrArg ((rd S1x2048 (V c main_v0))) (funext fun a => Fin.ext ?_)
  exact (match a with
    | ⟨0, _⟩ => by show win0_3.index t (0 : Fin 2) * 1 + 1 * (y (0 : Fin 2)).val = (i (0 : Fin 2)).val; rw [h0, e3_0]; omega
    | ⟨1, _⟩ => by show win0_3.index t (1 : Fin 2) * 2048 + 1 * (y (1 : Fin 2)).val = (i (1 : Fin 2)).val; rw [h1, e3_1]; omega)

/-- Window 4's block at a point, read off its array. -/
theorem iblk0_4_at (c : Dev nD) (t : Fin cfg0.N) (y : S1x48x2048.Idx) (i : S2x5504x2048.Idx) (h0 : (i (0 : Fin 3)).val = 0 + (y (0 : Fin 3)).val) (h1 : (i (1 : Fin 3)).val = 5120 + t.val * 48 + (y (1 : Fin 3)).val) (h2 : (i (2 : Fin 3)).val = 0 + (y (2 : Fin 3)).val) :
    iblk0 V c 4 t y = (rd S2x5504x2048 (V c main_arg3)) i := by
  obtain ⟨e0_0, e0_1, e1_0, e1_1, e1_2, e2_0, e2_1, e2_2, e3_0, e3_1, e4_0, e4_1, e4_2, e5_0, e5_1, e6_0, e6_1, e7_0, e7_1⟩ := where0 t
  unfold iblk0
  show (rd S2x5504x2048 (V c main_arg3)) (((cfg0.win 4).blk t).view.emb y) = _
  refine congrArg ((rd S2x5504x2048 (V c main_arg3))) (funext fun a => Fin.ext ?_)
  exact (match a with
    | ⟨0, _⟩ => by show win0_4.index t (0 : Fin 3) + 1 * (y (0 : Fin 3)).val = (i (0 : Fin 3)).val; rw [h0, e4_0]; omega
    | ⟨1, _⟩ => by show win0_4.index t (1 : Fin 3) + 1 * (y (1 : Fin 3)).val = (i (1 : Fin 3)).val; rw [h1, e4_1]; omega
    | ⟨2, _⟩ => by show win0_4.index t (2 : Fin 3) + 1 * (y (2 : Fin 3)).val = (i (2 : Fin 3)).val; rw [h2, e4_2]; omega)

/-- Every point writes output window 5 back. -/
theorem flush0_5_all : ∀ t : Fin cfg0.N, (cfg0.win 5).flush t = true :=
  (by decide +kernel : ∀ t : Fin grid0.N, win0_5.flush t = true)

/-- An index of the array is in a point's block iff each coordinate is in the block's range. -/
theorem mem0_5 (t : Fin cfg0.N) (i : S8192x384.Idx) :
    i ∈ ((cfg0.win 5).blk t).view.set ↔ ∀ a : Fin 2, win0_5.index t a * S1024x384.size a ≤ (i a).val ∧ (i a).val < win0_5.index t a * S1024x384.size a + S1024x384.size a := by
  show i ∈ ((View.whole main_v1_0).slice (win0_5.rect t)).set ↔ _
  rw [View.set_slice_whole, Rect.mem_set_unit]
  exact Iff.rfl

/-- Every index of output window 5's array is in the block of a point that writes back. -/
theorem covered0_5 (i : S8192x384.Idx) :
    ∃ t : Fin cfg0.N, (cfg0.win 5).flush t = true ∧ i ∈ ((cfg0.win 5).blk t).view.set := by
  have hi0 : (i 0).val < 8192 := (i 0).isLt
  have hi1 : (i 1).val < 384 := (i 1).isLt
  have hN : cfg0.N = 8 := by decide
  refine ⟨⟨(i 0).val / 1024, by rw [hN]; omega⟩, (flush0_5_all _), ?_⟩
  rw [mem0_5]
  obtain ⟨e0_0, e0_1, e1_0, e1_1, e1_2, e2_0, e2_1, e2_2, e3_0, e3_1, e4_0, e4_1, e4_2, e5_0, e5_1, e6_0, e6_1, e7_0, e7_1⟩ := where0 (⟨(i 0).val / 1024, by rw [hN]; omega⟩ : Fin cfg0.N)
  intro a
  match a with
  | ⟨0, _⟩ => show win0_5.index _ (0 : Fin 2) * 1024 ≤ (i 0).val ∧ (i 0).val < win0_5.index _ (0 : Fin 2) * 1024 + 1024; rw [e5_0]; dsimp only; omega
  | ⟨1, _⟩ => show win0_5.index _ (1 : Fin 2) * 384 ≤ (i 1).val ∧ (i 1).val < win0_5.index _ (1 : Fin 2) * 384 + 384; rw [e5_1]; dsimp only; omega

/-- The activations of the last 384 columns, as the region finds its arrays. -/
def G0_5 (c : Dev nD) : (⟨2, S8192x384.size⟩ : Shape).Idx → EReal := fun i =>
  glu (∑ k : Fin 2048, hnS (fun k => rd S8192x2048 (V c main_arg0) (ix2 (i 0) k)) (fun k => rd S1x2048 (V c main_v0) (ix2 (0 : Fin 1) k)) k
      * rd S2x2048x11008 (V c main_arg2) (ix3 (0 : Fin 2) k ⟨5120 + (i 1).val, by have := idx2_lt1 i; omega⟩))
    (∑ k : Fin 2048, hnS (fun k => rd S8192x2048 (V c main_arg0) (ix2 (i 0) k)) (fun k => rd S1x2048 (V c main_v0) (ix2 (0 : Fin 1) k)) k
      * rd S2x2048x11008 (V c main_arg2) (ix3 (0 : Fin 2) k ⟨10624 + (i 1).val, by have := idx2_lt1 i; omega⟩))

/-- What a point writes back to output window 5 is that function read through the block. -/
theorem flushed0_5 (c : Dev nD) (t : Fin cfg0.N) :
    (dat0 V c).flushed 5 t = ((cfg0.win 5).blk t).view.read (Elt Ideal) (G0_5 V c) := by
  obtain ⟨e0_0, e0_1, e1_0, e1_1, e1_2, e2_0, e2_1, e2_2, e3_0, e3_1, e4_0, e4_1, e4_2, e5_0, e5_1, e6_0, e6_1, e7_0, e7_1⟩ := where0 t
  refine funext fun (y : S1024x384.Idx) => ?_
  have q0 : ((((cfg0.win 5).blk t).view.emb y : S8192x384.Idx) 0).val = t.val * 1024 + (y 0).val := by
    show win0_5.index t (0 : Fin 2) * 1024 + 1 * (y 0).val = _
    rw [e5_0]; omega
  have q1 : ((((cfg0.win 5).blk t).view.emb y : S8192x384.Idx) 1).val = 0 * 384 + (y 1).val := by
    show win0_5.index t (1 : Fin 2) * 384 + 1 * (y 1).val = _
    rw [e5_1]; omega
  show (dat0 V c).after 5 t y = G0_5 V c (((cfg0.win 5).blk t).view.emb y)
  generalize (((cfg0.win 5).blk t).view.emb y : S8192x384.Idx) = i at q0 q1
  have b0 := idx2_lt0 y
  have b1 := idx2_lt1 y
  have hN : cfg0.N = 8 := by decide
  have ht : t.val < 8 := lt_of_lt_of_eq t.isLt hN
  rw [after0_5]
  rw [k0_pay5_at]
  have hx : ∀ k : Fin 2048, iblk0 V c 0 t (ix2 (y 0) k) = rd S8192x2048 (V c main_arg0) (ix2 (i 0) k) := fun k =>
    iblk0_0_at V c t _ _ (by rw [← q0]) (by show k.val = 0 * 2048 + k.val; omega)
  have hw : ∀ k : Fin 2048, iblk0 V c 3 t (ix2 (0 : Fin 1) k) = rd S1x2048 (V c main_v0) (ix2 (0 : Fin 1) k) := fun k =>
    iblk0_3_at V c t _ _ (by show 0 = 0 * 1 + 0; omega) (by show k.val = 0 * 2048 + k.val; omega)
  unfold G0_5
  refine congrArg₂ glu (Finset.sum_congr rfl fun k _ => ?_) (Finset.sum_congr rfl fun k _ => ?_)
  · rw [k0_pay3_at, k0_pay1_at]
    refine congrArg₂ (· * ·) (congrArg₂ (fun a b => hnS a b k) (funext hx) (funext hw)) (iblk0_1_at V c t _ _ ?_ ?_ ?_)
    · rfl
    · show k.val = 0 + k.val; omega
    · show 5120 + (i 1).val = 5120 + (y 1).val; omega
  · rw [k0_pay3_at, k0_pay2_at]
    refine congrArg₂ (· * ·) (congrArg₂ (fun a b => hnS a b k) (funext hx) (funext hw)) (iblk0_2_at V c t _ _ ?_ ?_ ?_)
    · rfl
    · show k.val = 0 + k.val; omega
    · show 10624 + (i 1).val = 10624 + (y 1).val; omega

/-- Output window 5's array at the region's exit. -/
theorem final0_5 (c : Dev nD) : (dat0 V c).arrAt 5 cfg0.N = G0_5 V c :=
  (dat0 V c).arrAt_eq_of_cover 5 _ (fun t _ => flushed0_5 V c t) covered0_5

/-- Every point writes output window 6 back. -/
theorem flush0_6_all : ∀ t : Fin cfg0.N, (cfg0.win 6).flush t = true :=
  (by decide +kernel : ∀ t : Fin grid0.N, win0_6.flush t = true)

/-- An index of the array is in a point's block iff each coordinate is in the block's range. -/
theorem mem0_6 (t : Fin cfg0.N) (i : S8192x2048.Idx) :
    i ∈ ((cfg0.win 6).blk t).view.set ↔ ∀ a : Fin 2, win0_6.index t a * S1024x2048.size a ≤ (i a).val ∧ (i a).val < win0_6.index t a * S1024x2048.size a + S1024x2048.size a := by
  show i ∈ ((View.whole main_v1_1).slice (win0_6.rect t)).set ↔ _
  rw [View.set_slice_whole, Rect.mem_set_unit]
  exact Iff.rfl

/-- Every index of output window 6's array is in the block of a point that writes back. -/
theorem covered0_6 (i : S8192x2048.Idx) :
    ∃ t : Fin cfg0.N, (cfg0.win 6).flush t = true ∧ i ∈ ((cfg0.win 6).blk t).view.set := by
  have hi0 : (i 0).val < 8192 := (i 0).isLt
  have hi1 : (i 1).val < 2048 := (i 1).isLt
  have hN : cfg0.N = 8 := by decide
  refine ⟨⟨(i 0).val / 1024, by rw [hN]; omega⟩, (flush0_6_all _), ?_⟩
  rw [mem0_6]
  obtain ⟨e0_0, e0_1, e1_0, e1_1, e1_2, e2_0, e2_1, e2_2, e3_0, e3_1, e4_0, e4_1, e4_2, e5_0, e5_1, e6_0, e6_1, e7_0, e7_1⟩ := where0 (⟨(i 0).val / 1024, by rw [hN]; omega⟩ : Fin cfg0.N)
  intro a
  match a with
  | ⟨0, _⟩ => show win0_6.index _ (0 : Fin 2) * 1024 ≤ (i 0).val ∧ (i 0).val < win0_6.index _ (0 : Fin 2) * 1024 + 1024; rw [e6_0]; dsimp only; omega
  | ⟨1, _⟩ => show win0_6.index _ (1 : Fin 2) * 2048 ≤ (i 1).val ∧ (i 1).val < win0_6.index _ (1 : Fin 2) * 2048 + 2048; rw [e6_1]; dsimp only; omega

/-- The normalised rows, as the region finds its arrays. -/
def G0_6 (c : Dev nD) : (⟨2, S8192x2048.size⟩ : Shape).Idx → EReal := fun i =>
  hnS (fun k => rd S8192x2048 (V c main_arg0) (ix2 (i 0) k)) (fun k => rd S1x2048 (V c main_v0) (ix2 (0 : Fin 1) k)) (i 1)

/-- What a point writes back to output window 6 is that function read through the block. -/
theorem flushed0_6 (c : Dev nD) (t : Fin cfg0.N) :
    (dat0 V c).flushed 6 t = ((cfg0.win 6).blk t).view.read (Elt Ideal) (G0_6 V c) := by
  obtain ⟨e0_0, e0_1, e1_0, e1_1, e1_2, e2_0, e2_1, e2_2, e3_0, e3_1, e4_0, e4_1, e4_2, e5_0, e5_1, e6_0, e6_1, e7_0, e7_1⟩ := where0 t
  refine funext fun (y : S1024x2048.Idx) => ?_
  have q0 : ((((cfg0.win 6).blk t).view.emb y : S8192x2048.Idx) 0).val = t.val * 1024 + (y 0).val := by
    show win0_6.index t (0 : Fin 2) * 1024 + 1 * (y 0).val = _
    rw [e6_0]; omega
  have q1 : ((((cfg0.win 6).blk t).view.emb y : S8192x2048.Idx) 1).val = 0 * 2048 + (y 1).val := by
    show win0_6.index t (1 : Fin 2) * 2048 + 1 * (y 1).val = _
    rw [e6_1]; omega
  show (dat0 V c).after 6 t y = G0_6 V c (((cfg0.win 6).blk t).view.emb y)
  generalize (((cfg0.win 6).blk t).view.emb y : S8192x2048.Idx) = i at q0 q1
  have b0 := idx2_lt0 y
  have b1 := idx2_lt1 y
  have hN : cfg0.N = 8 := by decide
  have ht : t.val < 8 := lt_of_lt_of_eq t.isLt hN
  rw [after0_6]
  rw [k0_pay3_at]
  have hx : ∀ k : Fin 2048, iblk0 V c 0 t (ix2 (y 0) k) = rd S8192x2048 (V c main_arg0) (ix2 (i 0) k) := fun k =>
    iblk0_0_at V c t _ _ (by rw [← q0]) (by show k.val = 0 * 2048 + k.val; omega)
  have hw : ∀ k : Fin 2048, iblk0 V c 3 t (ix2 (0 : Fin 1) k) = rd S1x2048 (V c main_v0) (ix2 (0 : Fin 1) k) := fun k =>
    iblk0_3_at V c t _ _ (by show 0 = 0 * 1 + 0; omega) (by show k.val = 0 * 2048 + k.val; omega)
  have h1 : (y 1 : Fin 2048) = i 1 := Fin.ext (by omega)
  unfold G0_6
  rw [funext hx, funext hw]
  exact congrArg (hnS _ _) h1

/-- Output window 6's array at the region's exit. -/
theorem final0_6 (c : Dev nD) : (dat0 V c).arrAt 6 cfg0.N = G0_6 V c :=
  (dat0 V c).arrAt_eq_of_cover 6 _ (fun t _ => flushed0_6 V c t) covered0_6

/-- Every point writes output window 7 back. -/
theorem flush0_7_all : ∀ t : Fin cfg0.N, (cfg0.win 7).flush t = true :=
  (by decide +kernel : ∀ t : Fin grid0.N, win0_7.flush t = true)

/-- An index of the array is in a point's block iff each coordinate is in the block's range. -/
theorem mem0_7 (t : Fin cfg0.N) (i : S384x2048.Idx) :
    i ∈ ((cfg0.win 7).blk t).view.set ↔ ∀ a : Fin 2, win0_7.index t a * S48x2048.size a ≤ (i a).val ∧ (i a).val < win0_7.index t a * S48x2048.size a + S48x2048.size a := by
  show i ∈ ((View.whole main_v1_2).slice (win0_7.rect t)).set ↔ _
  rw [View.set_slice_whole, Rect.mem_set_unit]
  exact Iff.rfl

/-- Every index of output window 7's array is in the block of a point that writes back. -/
theorem covered0_7 (i : S384x2048.Idx) :
    ∃ t : Fin cfg0.N, (cfg0.win 7).flush t = true ∧ i ∈ ((cfg0.win 7).blk t).view.set := by
  have hi0 : (i 0).val < 384 := (i 0).isLt
  have hi1 : (i 1).val < 2048 := (i 1).isLt
  have hN : cfg0.N = 8 := by decide
  refine ⟨⟨(i 0).val / 48, by rw [hN]; omega⟩, (flush0_7_all _), ?_⟩
  rw [mem0_7]
  obtain ⟨e0_0, e0_1, e1_0, e1_1, e1_2, e2_0, e2_1, e2_2, e3_0, e3_1, e4_0, e4_1, e4_2, e5_0, e5_1, e6_0, e6_1, e7_0, e7_1⟩ := where0 (⟨(i 0).val / 48, by rw [hN]; omega⟩ : Fin cfg0.N)
  intro a
  match a with
  | ⟨0, _⟩ => show win0_7.index _ (0 : Fin 2) * 48 ≤ (i 0).val ∧ (i 0).val < win0_7.index _ (0 : Fin 2) * 48 + 48; rw [e7_0]; dsimp only; omega
  | ⟨1, _⟩ => show win0_7.index _ (1 : Fin 2) * 2048 ≤ (i 1).val ∧ (i 1).val < win0_7.index _ (1 : Fin 2) * 2048 + 2048; rw [e7_1]; dsimp only; omega

/-- The last 384 rows of the output weight, as the region finds its arrays. -/
def G0_7 (c : Dev nD) : (⟨2, S384x2048.size⟩ : Shape).Idx → EReal := fun i =>
  rd S2x5504x2048 (V c main_arg3) (ix3 (0 : Fin 2) ⟨5120 + (i 0).val, by have := idx2_lt0 i; omega⟩ (i 1))

/-- What a point writes back to output window 7 is that function read through the block. -/
theorem flushed0_7 (c : Dev nD) (t : Fin cfg0.N) :
    (dat0 V c).flushed 7 t = ((cfg0.win 7).blk t).view.read (Elt Ideal) (G0_7 V c) := by
  obtain ⟨e0_0, e0_1, e1_0, e1_1, e1_2, e2_0, e2_1, e2_2, e3_0, e3_1, e4_0, e4_1, e4_2, e5_0, e5_1, e6_0, e6_1, e7_0, e7_1⟩ := where0 t
  refine funext fun (y : S48x2048.Idx) => ?_
  have q0 : ((((cfg0.win 7).blk t).view.emb y : S384x2048.Idx) 0).val = t.val * 48 + (y 0).val := by
    show win0_7.index t (0 : Fin 2) * 48 + 1 * (y 0).val = _
    rw [e7_0]; omega
  have q1 : ((((cfg0.win 7).blk t).view.emb y : S384x2048.Idx) 1).val = 0 * 2048 + (y 1).val := by
    show win0_7.index t (1 : Fin 2) * 2048 + 1 * (y 1).val = _
    rw [e7_1]; omega
  show (dat0 V c).after 7 t y = G0_7 V c (((cfg0.win 7).blk t).view.emb y)
  generalize (((cfg0.win 7).blk t).view.emb y : S384x2048.Idx) = i at q0 q1
  have b0 := idx2_lt0 y
  have b1 := idx2_lt1 y
  have hN : cfg0.N = 8 := by decide
  have ht : t.val < 8 := lt_of_lt_of_eq t.isLt hN
  rw [after0_7]
  rw [k0_pay4_at]
  unfold G0_7
  refine iblk0_4_at V c t _ _ ?_ ?_ ?_
  · rfl
  · show 5120 + (i 0).val = 5120 + t.val * 48 + (y 0).val; omega
  · show (i 1).val = 0 + (y 1).val; omega

/-- Output window 7's array at the region's exit. -/
theorem final0_7 (c : Dev nD) : (dat0 V c).arrAt 7 cfg0.N = G0_7 V c :=
  (dat0 V c).arrAt_eq_of_cover 7 _ (fun t _ => flushed0_7 V c t) covered0_7

end Cert.KernelIdeal.Hand

end
-- ==== Proof.Value1.lean ====
module

public import proofs.«01_k».proof.Proof.Region1
public import proofs.«01_k».proof.Proof.Pay

@[expose] public section

set_option maxRecDepth 16384

noncomputable section

namespace Cert.KernelIdeal.Hand

open Cert.KernelIdeal Cert.KernelIdeal.Gen Cert.Hand
open Idealize.ShloMosaic Idealize.ShloMosaic.TcCoe Idealize.ShloMosaic.ValueIdx Idealize.SL.Sem
open Idealize.ShloMosaic.Pipeline (Dat Cfg Window)

variable (V : (c : Dev nD) → Valuation τ sig (Elt Ideal))

/-- Where each window's block sits, at every point of the grid. -/
theorem where1 : ∀ t : Fin grid1.N, win1_0.index t (0 : Fin 2) = t.val % 8 ∧ win1_0.index t (1 : Fin 2) = 0 ∧ win1_1.index t (0 : Fin 3) = 0 ∧ win1_1.index t (1 : Fin 3) = 0 ∧ win1_1.index t (2 : Fin 3) = t.val / 8 * 512 ∧ win1_2.index t (0 : Fin 3) = 0 ∧ win1_2.index t (1 : Fin 3) = 0 ∧ win1_2.index t (2 : Fin 3) = 5504 + t.val / 8 * 512 ∧ win1_3.index t (0 : Fin 3) = 0 ∧ win1_3.index t (1 : Fin 3) = t.val * 64 ∧ win1_3.index t (2 : Fin 3) = 0 ∧ win1_4.index t (0 : Fin 2) = t.val % 8 ∧ win1_4.index t (1 : Fin 2) = t.val / 8 ∧ win1_5.index t (0 : Fin 2) = t.val ∧ win1_5.index t (1 : Fin 2) = 0 := by
  decide +kernel

/-- Window 0's block at a point, read off its array. -/
theorem iblk1_0_at (c : Dev nD) (t : Fin cfg1.N) (y : S1024x2048.Idx) (i : S8192x2048.Idx) (h0 : (i (0 : Fin 2)).val = t.val % 8 * 1024 + (y (0 : Fin 2)).val) (h1 : (i (1 : Fin 2)).val = 0 * 2048 + (y (1 : Fin 2)).val) :
    iblk1 V c 0 t y = (rd S8192x2048 (V c main_v1_1)) i := by
  obtain ⟨e0_0, e0_1, e1_0, e1_1, e1_2, e2_0, e2_1, e2_2, e3_0, e3_1, e3_2, e4_0, e4_1, e5_0, e5_1⟩ := where1 t
  unfold iblk1
  show (rd S8192x2048 (V c main_v1_1)) (((cfg1.win 0).blk t).view.emb y) = _
  refine congrArg ((rd S8192x2048 (V c main_v1_1))) (funext fun a => Fin.ext ?_)
  exact (match a with
    | ⟨0, _⟩ => by show win1_0.index t (0 : Fin 2) * 1024 + 1 * (y (0 : Fin 2)).val = (i (0 : Fin 2)).val; rw [h0, e0_0]; omega
    | ⟨1, _⟩ => by show win1_0.index t (1 : Fin 2) * 2048 + 1 * (y (1 : Fin 2)).val = (i (1 : Fin 2)).val; rw [h1, e0_1]; omega)

/-- Window 1's block at a point, read off its array. -/
theorem iblk1_1_at (c : Dev nD) (t : Fin cfg1.N) (y : S1x2048x512.Idx) (i : S2x2048x11008.Idx) (h0 : (i (0 : Fin 3)).val = 0 + (y (0 : Fin 3)).val) (h1 : (i (1 : Fin 3)).val = 0 + (y (1 : Fin 3)).val) (h2 : (i (2 : Fin 3)).val = t.val / 8 * 512 + (y (2 : Fin 3)).val) :
    iblk1 V c 1 t y = (rd S2x2048x11008 (V c main_arg2)) i := by
  obtain ⟨e0_0, e0_1, e1_0, e1_1, e1_2, e2_0, e2_1, e2_2, e3_0, e3_1, e3_2, e4_0, e4_1, e5_0, e5_1⟩ := where1 t
  unfold iblk1
  show (rd S2x2048x11008 (V c main_arg2)) (((cfg1.win 1).blk t).view.emb y) = _
  refine congrArg ((rd S2x2048x11008 (V c main_arg2))) (funext fun a => Fin.ext ?_)
  exact (match a with
    | ⟨0, _⟩ => by show win1_1.index t (0 : Fin 3) + 1 * (y (0 : Fin 3)).val = (i (0 : Fin 3)).val; rw [h0, e1_0]; omega
    | ⟨1, _⟩ => by show win1_1.index t (1 : Fin 3) + 1 * (y (1 : Fin 3)).val = (i (1 : Fin 3)).val; rw [h1, e1_1]; omega
    | ⟨2, _⟩ => by show win1_1.index t (2 : Fin 3) + 1 * (y (2 : Fin 3)).val = (i (2 : Fin 3)).val; rw [h2, e1_2]; omega)

/-- Window 2's block at a point, read off its array. -/
theorem iblk1_2_at (c : Dev nD) (t : Fin cfg1.N) (y : S1x2048x512.Idx) (i : S2x2048x11008.Idx) (h0 : (i (0 : Fin 3)).val = 0 + (y (0 : Fin 3)).val) (h1 : (i (1 : Fin 3)).val = 0 + (y (1 : Fin 3)).val) (h2 : (i (2 : Fin 3)).val = 5504 + t.val / 8 * 512 + (y (2 : Fin 3)).val) :
    iblk1 V c 2 t y = (rd S2x2048x11008 (V c main_arg2)) i := by
  obtain ⟨e0_0, e0_1, e1_0, e1_1, e1_2, e2_0, e2_1, e2_2, e3_0, e3_1, e3_2, e4_0, e4_1, e5_0, e5_1⟩ := where1 t
  unfold iblk1
  show (rd S2x2048x11008 (V c main_arg2)) (((cfg1.win 2).blk t).view.emb y) = _
  refine congrArg ((rd S2x2048x11008 (V c main_arg2))) (funext fun a => Fin.ext ?_)
  exact (match a with
    | ⟨0, _⟩ => by show win1_2.index t (0 : Fin 3) + 1 * (y (0 : Fin 3)).val = (i (0 : Fin 3)).val; rw [h0, e2_0]; omega
    | ⟨1, _⟩ => by show win1_2.index t (1 : Fin 3) + 1 * (y (1 : Fin 3)).val = (i (1 : Fin 3)).val; rw [h1, e2_1]; omega
    | ⟨2, _⟩ => by show win1_2.index t (2 : Fin 3) + 1 * (y (2 : Fin 3)).val = (i (2 : Fin 3)).val; rw [h2, e2_2]; omega)

/-- Window 3's block at a point, read off its array. -/
theorem iblk1_3_at (c : Dev nD) (t : Fin cfg1.N) (y : S1x64x2048.Idx) (i : S2x5504x2048.Idx) (h0 : (i (0 : Fin 3)).val = 0 + (y (0 : Fin 3)).val) (h1 : (i (1 : Fin 3)).val = t.val * 64 + (y (1 : Fin 3)).val) (h2 : (i (2 : Fin 3)).val = 0 + (y (2 : Fin 3)).val) :
    iblk1 V c 3 t y = (rd S2x5504x2048 (V c main_arg3)) i := by
  obtain ⟨e0_0, e0_1, e1_0, e1_1, e1_2, e2_0, e2_1, e2_2, e3_0, e3_1, e3_2, e4_0, e4_1, e5_0, e5_1⟩ := where1 t
  unfold iblk1
  show (rd S2x5504x2048 (V c main_arg3)) (((cfg1.win 3).blk t).view.emb y) = _
  refine congrArg ((rd S2x5504x2048 (V c main_arg3))) (funext fun a => Fin.ext ?_)
  exact (match a with
    | ⟨0, _⟩ => by show win1_3.index t (0 : Fin 3) + 1 * (y (0 : Fin 3)).val = (i (0 : Fin 3)).val; rw [h0, e3_0]; omega
    | ⟨1, _⟩ => by show win1_3.index t (1 : Fin 3) + 1 * (y (1 : Fin 3)).val = (i (1 : Fin 3)).val; rw [h1, e3_1]; omega
    | ⟨2, _⟩ => by show win1_3.index t (2 : Fin 3) + 1 * (y (2 : Fin 3)).val = (i (2 : Fin 3)).val; rw [h2, e3_2]; omega)

/-- Every point writes output window 4 back. -/
theorem flush1_4_all : ∀ t : Fin cfg1.N, (cfg1.win 4).flush t = true :=
  (by decide +kernel : ∀ t : Fin grid1.N, win1_4.flush t = true)

/-- An index of the array is in a point's block iff each coordinate is in the block's range. -/
theorem mem1_4 (t : Fin cfg1.N) (i : S8192x5120.Idx) :
    i ∈ ((cfg1.win 4).blk t).view.set ↔ ∀ a : Fin 2, win1_4.index t a * S1024x512.size a ≤ (i a).val ∧ (i a).val < win1_4.index t a * S1024x512.size a + S1024x512.size a := by
  show i ∈ ((View.whole main_v2_0).slice (win1_4.rect t)).set ↔ _
  rw [View.set_slice_whole, Rect.mem_set_unit]
  exact Iff.rfl

/-- Every index of output window 4's array is in the block of a point that writes back. -/
theorem covered1_4 (i : S8192x5120.Idx) :
    ∃ t : Fin cfg1.N, (cfg1.win 4).flush t = true ∧ i ∈ ((cfg1.win 4).blk t).view.set := by
  have hi0 : (i 0).val < 8192 := (i 0).isLt
  have hi1 : (i 1).val < 5120 := (i 1).isLt
  have hN : cfg1.N = 80 := by decide
  refine ⟨⟨(i 1).val / 512 * 8 + (i 0).val / 1024, by rw [hN]; omega⟩, (flush1_4_all _), ?_⟩
  rw [mem1_4]
  obtain ⟨e0_0, e0_1, e1_0, e1_1, e1_2, e2_0, e2_1, e2_2, e3_0, e3_1, e3_2, e4_0, e4_1, e5_0, e5_1⟩ := where1 (⟨(i 1).val / 512 * 8 + (i 0).val / 1024, by rw [hN]; omega⟩ : Fin cfg1.N)
  intro a
  match a with
  | ⟨0, _⟩ => show win1_4.index _ (0 : Fin 2) * 1024 ≤ (i 0).val ∧ (i 0).val < win1_4.index _ (0 : Fin 2) * 1024 + 1024; rw [e4_0]; dsimp only; omega
  | ⟨1, _⟩ => show win1_4.index _ (1 : Fin 2) * 512 ≤ (i 1).val ∧ (i 1).val < win1_4.index _ (1 : Fin 2) * 512 + 512; rw [e4_1]; dsimp only; omega

/-- The activations of the first 5120 columns, as the region finds its arrays. -/
def G1_4 (c : Dev nD) : (⟨2, S8192x5120.size⟩ : Shape).Idx → EReal := fun i =>
  glu (∑ k : Fin 2048, rd S8192x2048 (V c main_v1_1) (ix2 (i 0) k) * rd S2x2048x11008 (V c main_arg2) (ix3 (0 : Fin 2) k ⟨(i 1).val, by have := idx2_lt1 i; omega⟩))
    (∑ k : Fin 2048, rd S8192x2048 (V c main_v1_1) (ix2 (i 0) k) * rd S2x2048x11008 (V c main_arg2) (ix3 (0 : Fin 2) k ⟨5504 + (i 1).val, by have := idx2_lt1 i; omega⟩))

/-- What a point writes back to output window 4 is that function read through the block. -/
theorem flushed1_4 (c : Dev nD) (t : Fin cfg1.N) :
    (dat1 V c).flushed 4 t = ((cfg1.win 4).blk t).view.read (Elt Ideal) (G1_4 V c) := by
  obtain ⟨e0_0, e0_1, e1_0, e1_1, e1_2, e2_0, e2_1, e2_2, e3_0, e3_1, e3_2, e4_0, e4_1, e5_0, e5_1⟩ := where1 t
  refine funext fun (y : S1024x512.Idx) => ?_
  have q0 : ((((cfg1.win 4).blk t).view.emb y : S8192x5120.Idx) 0).val = t.val % 8 * 1024 + (y 0).val := by
    show win1_4.index t (0 : Fin 2) * 1024 + 1 * (y 0).val = _
    rw [e4_0]; omega
  have q1 : ((((cfg1.win 4).blk t).view.emb y : S8192x5120.Idx) 1).val = t.val / 8 * 512 + (y 1).val := by
    show win1_4.index t (1 : Fin 2) * 512 + 1 * (y 1).val = _
    rw [e4_1]; omega
  show (dat1 V c).after 4 t y = G1_4 V c (((cfg1.win 4).blk t).view.emb y)
  generalize (((cfg1.win 4).blk t).view.emb y : S8192x5120.Idx) = i at q0 q1
  have b0 := idx2_lt0 y
  have b1 := idx2_lt1 y
  have hN : cfg1.N = 80 := by decide
  have ht : t.val < 80 := lt_of_lt_of_eq t.isLt hN
  rw [after1_4]
  rw [k1_pay4_at]
  have hx : ∀ k : Fin 2048, iblk1 V c 0 t (ix2 (y 0) k) = rd S8192x2048 (V c main_v1_1) (ix2 (i 0) k) := fun k =>
    iblk1_0_at V c t _ _ (by rw [← q0]) (by show k.val = 0 * 2048 + k.val; omega)
  unfold G1_4
  refine congrArg₂ glu (Finset.sum_congr rfl fun k _ => ?_) (Finset.sum_congr rfl fun k _ => ?_)
  · rw [k1_pay1_at]
    refine congrArg₂ (· * ·) (hx k) (iblk1_1_at V c t _ _ ?_ ?_ ?_)
    · rfl
    · show k.val = 0 + k.val; omega
    · show (i 1).val = t.val / 8 * 512 + (y 1).val; omega
  · rw [k1_pay2_at]
    refine congrArg₂ (· * ·) (hx k) (iblk1_2_at V c t _ _ ?_ ?_ ?_)
    · rfl
    · show k.val = 0 + k.val; omega
    · show 5504 + (i 1).val = 5504 + t.val / 8 * 512 + (y 1).val; omega

/-- Output window 4's array at the region's exit. -/
theorem final1_4 (c : Dev nD) : (dat1 V c).arrAt 4 cfg1.N = G1_4 V c :=
  (dat1 V c).arrAt_eq_of_cover 4 _ (fun t _ => flushed1_4 V c t) covered1_4

/-- Every point writes output window 5 back. -/
theorem flush1_5_all : ∀ t : Fin cfg1.N, (cfg1.win 5).flush t = true :=
  (by decide +kernel : ∀ t : Fin grid1.N, win1_5.flush t = true)

/-- An index of the array is in a point's block iff each coordinate is in the block's range. -/
theorem mem1_5 (t : Fin cfg1.N) (i : S5120x2048.Idx) :
    i ∈ ((cfg1.win 5).blk t).view.set ↔ ∀ a : Fin 2, win1_5.index t a * S64x2048.size a ≤ (i a).val ∧ (i a).val < win1_5.index t a * S64x2048.size a + S64x2048.size a := by
  show i ∈ ((View.whole main_v2_1).slice (win1_5.rect t)).set ↔ _
  rw [View.set_slice_whole, Rect.mem_set_unit]
  exact Iff.rfl

/-- Every index of output window 5's array is in the block of a point that writes back. -/
theorem covered1_5 (i : S5120x2048.Idx) :
    ∃ t : Fin cfg1.N, (cfg1.win 5).flush t = true ∧ i ∈ ((cfg1.win 5).blk t).view.set := by
  have hi0 : (i 0).val < 5120 := (i 0).isLt
  have hi1 : (i 1).val < 2048 := (i 1).isLt
  have hN : cfg1.N = 80 := by decide
  refine ⟨⟨(i 0).val / 64, by rw [hN]; omega⟩, (flush1_5_all _), ?_⟩
  rw [mem1_5]
  obtain ⟨e0_0, e0_1, e1_0, e1_1, e1_2, e2_0, e2_1, e2_2, e3_0, e3_1, e3_2, e4_0, e4_1, e5_0, e5_1⟩ := where1 (⟨(i 0).val / 64, by rw [hN]; omega⟩ : Fin cfg1.N)
  intro a
  match a with
  | ⟨0, _⟩ => show win1_5.index _ (0 : Fin 2) * 64 ≤ (i 0).val ∧ (i 0).val < win1_5.index _ (0 : Fin 2) * 64 + 64; rw [e5_0]; dsimp only; omega
  | ⟨1, _⟩ => show win1_5.index _ (1 : Fin 2) * 2048 ≤ (i 1).val ∧ (i 1).val < win1_5.index _ (1 : Fin 2) * 2048 + 2048; rw [e5_1]; dsimp only; omega

/-- The first 5120 rows of the output weight, as the region finds its arrays. -/
def G1_5 (c : Dev nD) : (⟨2, S5120x2048.size⟩ : Shape).Idx → EReal := fun i =>
  rd S2x5504x2048 (V c main_arg3) (ix3 (0 : Fin 2) ⟨(i 0).val, by have := idx2_lt0 i; omega⟩ (i 1))

/-- What a point writes back to output window 5 is that function read through the block. -/
theorem flushed1_5 (c : Dev nD) (t : Fin cfg1.N) :
    (dat1 V c).flushed 5 t = ((cfg1.win 5).blk t).view.read (Elt Ideal) (G1_5 V c) := by
  obtain ⟨e0_0, e0_1, e1_0, e1_1, e1_2, e2_0, e2_1, e2_2, e3_0, e3_1, e3_2, e4_0, e4_1, e5_0, e5_1⟩ := where1 t
  refine funext fun (y : S64x2048.Idx) => ?_
  have q0 : ((((cfg1.win 5).blk t).view.emb y : S5120x2048.Idx) 0).val = t.val * 64 + (y 0).val := by
    show win1_5.index t (0 : Fin 2) * 64 + 1 * (y 0).val = _
    rw [e5_0]; omega
  have q1 : ((((cfg1.win 5).blk t).view.emb y : S5120x2048.Idx) 1).val = 0 * 2048 + (y 1).val := by
    show win1_5.index t (1 : Fin 2) * 2048 + 1 * (y 1).val = _
    rw [e5_1]; omega
  show (dat1 V c).after 5 t y = G1_5 V c (((cfg1.win 5).blk t).view.emb y)
  generalize (((cfg1.win 5).blk t).view.emb y : S5120x2048.Idx) = i at q0 q1
  have b0 := idx2_lt0 y
  have b1 := idx2_lt1 y
  have hN : cfg1.N = 80 := by decide
  have ht : t.val < 80 := lt_of_lt_of_eq t.isLt hN
  rw [after1_5]
  rw [k1_pay3_at]
  unfold G1_5
  refine iblk1_3_at V c t _ _ ?_ ?_ ?_
  · rfl
  · show (i 0).val = t.val * 64 + (y 0).val; omega
  · show (i 1).val = 0 + (y 1).val; omega

/-- Output window 5's array at the region's exit. -/
theorem final1_5 (c : Dev nD) : (dat1 V c).arrAt 5 cfg1.N = G1_5 V c :=
  (dat1 V c).arrAt_eq_of_cover 5 _ (fun t _ => flushed1_5 V c t) covered1_5

end Cert.KernelIdeal.Hand

end
-- ==== Proof.Value2.lean ====
module

public import proofs.«01_k».proof.Proof.Region2
public import proofs.«01_k».proof.Proof.Pay

@[expose] public section

set_option maxRecDepth 16384

noncomputable section

namespace Cert.KernelIdeal.Hand

open Cert.KernelIdeal Cert.KernelIdeal.Gen Cert.Hand
open Idealize.ShloMosaic Idealize.ShloMosaic.TcCoe Idealize.ShloMosaic.ValueIdx Idealize.SL.Sem
open Idealize.ShloMosaic.Pipeline (Dat Cfg Window)

variable (V : (c : Dev nD) → Valuation τ sig (Elt Ideal))

/-- Where each window's block sits, at every point of the grid. -/
theorem where2 : ∀ t : Fin grid2.N, win2_0.index t (0 : Fin 2) = t.val % 16 ∧ win2_0.index t (1 : Fin 2) = t.val / 16 ∧ win2_1.index t (0 : Fin 2) = t.val % 16 ∧ win2_1.index t (1 : Fin 2) = 0 ∧ win2_2.index t (0 : Fin 2) = t.val % 16 ∧ win2_2.index t (1 : Fin 2) = 0 ∧ win2_3.index t (0 : Fin 3) = 0 ∧ win2_3.index t (1 : Fin 3) = 0 ∧ win2_3.index t (2 : Fin 3) = t.val / 16 * 1024 ∧ win2_4.index t (0 : Fin 3) = 0 ∧ win2_4.index t (1 : Fin 3) = 0 ∧ win2_4.index t (2 : Fin 3) = t.val / 16 * 1024 ∧ win2_5.index t (0 : Fin 2) = t.val % 16 ∧ win2_5.index t (1 : Fin 2) = t.val / 16 := by
  decide +kernel

/-- Window 0's block at a point, read off its array. -/
theorem iblk2_0_at (c : Dev nD) (t : Fin cfg2.N) (y : S512x1024.Idx) (i : S8192x2048.Idx) (h0 : (i (0 : Fin 2)).val = t.val % 16 * 512 + (y (0 : Fin 2)).val) (h1 : (i (1 : Fin 2)).val = t.val / 16 * 1024 + (y (1 : Fin 2)).val) :
    iblk2 V c 0 t y = (rd S8192x2048 (V c main_arg0)) i := by
  obtain ⟨e0_0, e0_1, e1_0, e1_1, e2_0, e2_1, e3_0, e3_1, e3_2, e4_0, e4_1, e4_2, e5_0, e5_1⟩ := where2 t
  unfold iblk2
  show (rd S8192x2048 (V c main_arg0)) (((cfg2.win 0).blk t).view.emb y) = _
  refine congrArg ((rd S8192x2048 (V c main_arg0))) (funext fun a => Fin.ext ?_)
  exact (match a with
    | ⟨0, _⟩ => by show win2_0.index t (0 : Fin 2) * 512 + 1 * (y (0 : Fin 2)).val = (i (0 : Fin 2)).val; rw [h0, e0_0]; omega
    | ⟨1, _⟩ => by show win2_0.index t (1 : Fin 2) * 1024 + 1 * (y (1 : Fin 2)).val = (i (1 : Fin 2)).val; rw [h1, e0_1]; omega)

/-- Window 1's block at a point, read off its array. -/
theorem iblk2_1_at (c : Dev nD) (t : Fin cfg2.N) (y : S512x5120.Idx) (i : S8192x5120.Idx) (h0 : (i (0 : Fin 2)).val = t.val % 16 * 512 + (y (0 : Fin 2)).val) (h1 : (i (1 : Fin 2)).val = 0 * 5120 + (y (1 : Fin 2)).val) :
    iblk2 V c 1 t y = (rd S8192x5120 (V c main_v2_0)) i := by
  obtain ⟨e0_0, e0_1, e1_0, e1_1, e2_0, e2_1, e3_0, e3_1, e3_2, e4_0, e4_1, e4_2, e5_0, e5_1⟩ := where2 t
  unfold iblk2
  show (rd S8192x5120 (V c main_v2_0)) (((cfg2.win 1).blk t).view.emb y) = _
  refine congrArg ((rd S8192x5120 (V c main_v2_0))) (funext fun a => Fin.ext ?_)
  exact (match a with
    | ⟨0, _⟩ => by show win2_1.index t (0 : Fin 2) * 512 + 1 * (y (0 : Fin 2)).val = (i (0 : Fin 2)).val; rw [h0, e1_0]; omega
    | ⟨1, _⟩ => by show win2_1.index t (1 : Fin 2) * 5120 + 1 * (y (1 : Fin 2)).val = (i (1 : Fin 2)).val; rw [h1, e1_1]; omega)

/-- Window 2's block at a point, read off its array. -/
theorem iblk2_2_at (c : Dev nD) (t : Fin cfg2.N) (y : S512x384.Idx) (i : S8192x384.Idx) (h0 : (i (0 : Fin 2)).val = t.val % 16 * 512 + (y (0 : Fin 2)).val) (h1 : (i (1 : Fin 2)).val = 0 * 384 + (y (1 : Fin 2)).val) :
    iblk2 V c 2 t y = (rd S8192x384 (V c main_v1_0)) i := by
  obtain ⟨e0_0, e0_1, e1_0, e1_1, e2_0, e2_1, e3_0, e3_1, e3_2, e4_0, e4_1, e4_2, e5_0, e5_1⟩ := where2 t
  unfold iblk2
  show (rd S8192x384 (V c main_v1_0)) (((cfg2.win 2).blk t).view.emb y) = _
  refine congrArg ((rd S8192x384 (V c main_v1_0))) (funext fun a => Fin.ext ?_)
  exact (match a with
    | ⟨0, _⟩ => by show win2_2.index t (0 : Fin 2) * 512 + 1 * (y (0 : Fin 2)).val = (i (0 : Fin 2)).val; rw [h0, e2_0]; omega
    | ⟨1, _⟩ => by show win2_2.index t (1 : Fin 2) * 384 + 1 * (y (1 : Fin 2)).val = (i (1 : Fin 2)).val; rw [h1, e2_1]; omega)

/-- Window 3's block at a point, read off its array. -/
theorem iblk2_3_at (c : Dev nD) (t : Fin cfg2.N) (y : S1x5120x1024.Idx) (i : S1x5120x2048.Idx) (h0 : (i (0 : Fin 3)).val = 0 + (y (0 : Fin 3)).val) (h1 : (i (1 : Fin 3)).val = 0 + (y (1 : Fin 3)).val) (h2 : (i (2 : Fin 3)).val = t.val / 16 * 1024 + (y (2 : Fin 3)).val) :
    iblk2 V c 3 t y = (rd S1x5120x2048 (V c main_v3)) i := by
  obtain ⟨e0_0, e0_1, e1_0, e1_1, e2_0, e2_1, e3_0, e3_1, e3_2, e4_0, e4_1, e4_2, e5_0, e5_1⟩ := where2 t
  unfold iblk2
  show (rd S1x5120x2048 (V c main_v3)) (((cfg2.win 3).blk t).view.emb y) = _
  refine congrArg ((rd S1x5120x2048 (V c main_v3))) (funext fun a => Fin.ext ?_)
  exact (match a with
    | ⟨0, _⟩ => by show win2_3.index t (0 : Fin 3) + 1 * (y (0 : Fin 3)).val = (i (0 : Fin 3)).val; rw [h0, e3_0]; omega
    | ⟨1, _⟩ => by show win2_3.index t (1 : Fin 3) + 1 * (y (1 : Fin 3)).val = (i (1 : Fin 3)).val; rw [h1, e3_1]; omega
    | ⟨2, _⟩ => by show win2_3.index t (2 : Fin 3) + 1 * (y (2 : Fin 3)).val = (i (2 : Fin 3)).val; rw [h2, e3_2]; omega)

/-- Window 4's block at a point, read off its array. -/
theorem iblk2_4_at (c : Dev nD) (t : Fin cfg2.N) (y : S1x384x1024.Idx) (i : S1x384x2048.Idx) (h0 : (i (0 : Fin 3)).val = 0 + (y (0 : Fin 3)).val) (h1 : (i (1 : Fin 3)).val = 0 + (y (1 : Fin 3)).val) (h2 : (i (2 : Fin 3)).val = t.val / 16 * 1024 + (y (2 : Fin 3)).val) :
    iblk2 V c 4 t y = (rd S1x384x2048 (V c main_v4)) i := by
  obtain ⟨e0_0, e0_1, e1_0, e1_1, e2_0, e2_1, e3_0, e3_1, e3_2, e4_0, e4_1, e4_2, e5_0, e5_1⟩ := where2 t
  unfold iblk2
  show (rd S1x384x2048 (V c main_v4)) (((cfg2.win 4).blk t).view.emb y) = _
  refine congrArg ((rd S1x384x2048 (V c main_v4))) (funext fun a => Fin.ext ?_)
  exact (match a with
    | ⟨0, _⟩ => by show win2_4.index t (0 : Fin 3) + 1 * (y (0 : Fin 3)).val = (i (0 : Fin 3)).val; rw [h0, e4_0]; omega
    | ⟨1, _⟩ => by show win2_4.index t (1 : Fin 3) + 1 * (y (1 : Fin 3)).val = (i (1 : Fin 3)).val; rw [h1, e4_1]; omega
    | ⟨2, _⟩ => by show win2_4.index t (2 : Fin 3) + 1 * (y (2 : Fin 3)).val = (i (2 : Fin 3)).val; rw [h2, e4_2]; omega)

/-- Every point writes output window 5 back. -/
theorem flush2_5_all : ∀ t : Fin cfg2.N, (cfg2.win 5).flush t = true :=
  (by decide +kernel : ∀ t : Fin grid2.N, win2_5.flush t = true)

/-- An index of the array is in a point's block iff each coordinate is in the block's range. -/
theorem mem2_5 (t : Fin cfg2.N) (i : S8192x2048.Idx) :
    i ∈ ((cfg2.win 5).blk t).view.set ↔ ∀ a : Fin 2, win2_5.index t a * S512x1024.size a ≤ (i a).val ∧ (i a).val < win2_5.index t a * S512x1024.size a + S512x1024.size a := by
  show i ∈ ((View.whole main_v5).slice (win2_5.rect t)).set ↔ _
  rw [View.set_slice_whole, Rect.mem_set_unit]
  exact Iff.rfl

/-- Every index of output window 5's array is in the block of a point that writes back. -/
theorem covered2_5 (i : S8192x2048.Idx) :
    ∃ t : Fin cfg2.N, (cfg2.win 5).flush t = true ∧ i ∈ ((cfg2.win 5).blk t).view.set := by
  have hi0 : (i 0).val < 8192 := (i 0).isLt
  have hi1 : (i 1).val < 2048 := (i 1).isLt
  have hN : cfg2.N = 32 := by decide
  refine ⟨⟨(i 1).val / 1024 * 16 + (i 0).val / 512, by rw [hN]; omega⟩, (flush2_5_all _), ?_⟩
  rw [mem2_5]
  obtain ⟨e0_0, e0_1, e1_0, e1_1, e2_0, e2_1, e3_0, e3_1, e3_2, e4_0, e4_1, e4_2, e5_0, e5_1⟩ := where2 (⟨(i 1).val / 1024 * 16 + (i 0).val / 512, by rw [hN]; omega⟩ : Fin cfg2.N)
  intro a
  match a with
  | ⟨0, _⟩ => show win2_5.index _ (0 : Fin 2) * 512 ≤ (i 0).val ∧ (i 0).val < win2_5.index _ (0 : Fin 2) * 512 + 512; rw [e5_0]; dsimp only; omega
  | ⟨1, _⟩ => show win2_5.index _ (1 : Fin 2) * 1024 ≤ (i 1).val ∧ (i 1).val < win2_5.index _ (1 : Fin 2) * 1024 + 1024; rw [e5_1]; dsimp only; omega

/-- The stream with half of the projected activations added, as the region finds its arrays. -/
def G2_5 (c : Dev nD) : (⟨2, S8192x2048.size⟩ : Shape).Idx → EReal := fun i =>
  rd S8192x2048 (V c main_arg0) i + half * ((∑ k : Fin 5120, rd S8192x5120 (V c main_v2_0) (ix2 (i 0) k) * rd S1x5120x2048 (V c main_v3) (ix3 (0 : Fin 1) k (i 1)))
    + ∑ k : Fin 384, rd S8192x384 (V c main_v1_0) (ix2 (i 0) k) * rd S1x384x2048 (V c main_v4) (ix3 (0 : Fin 1) k (i 1)))

/-- What a point writes back to output window 5 is that function read through the block. -/
theorem flushed2_5 (c : Dev nD) (t : Fin cfg2.N) :
    (dat2 V c).flushed 5 t = ((cfg2.win 5).blk t).view.read (Elt Ideal) (G2_5 V c) := by
  obtain ⟨e0_0, e0_1, e1_0, e1_1, e2_0, e2_1, e3_0, e3_1, e3_2, e4_0, e4_1, e4_2, e5_0, e5_1⟩ := where2 t
  refine funext fun (y : S512x1024.Idx) => ?_
  have q0 : ((((cfg2.win 5).blk t).view.emb y : S8192x2048.Idx) 0).val = t.val % 16 * 512 + (y 0).val := by
    show win2_5.index t (0 : Fin 2) * 512 + 1 * (y 0).val = _
    rw [e5_0]; omega
  have q1 : ((((cfg2.win 5).blk t).view.emb y : S8192x2048.Idx) 1).val = t.val / 16 * 1024 + (y 1).val := by
    show win2_5.index t (1 : Fin 2) * 1024 + 1 * (y 1).val = _
    rw [e5_1]; omega
  show (dat2 V c).after 5 t y = G2_5 V c (((cfg2.win 5).blk t).view.emb y)
  generalize (((cfg2.win 5).blk t).view.emb y : S8192x2048.Idx) = i at q0 q1
  have b0 := idx2_lt0 y
  have b1 := idx2_lt1 y
  have hN : cfg2.N = 32 := by decide
  have ht : t.val < 32 := lt_of_lt_of_eq t.isLt hN
  rw [after2_5]
  rw [k2_pay1_at]
  unfold G2_5
  refine congrArg₂ (· + ·) (iblk2_0_at V c t y i q0 q1) (congrArg (half * ·) (congrArg₂ (· + ·) (Finset.sum_congr rfl fun k _ => ?_) (Finset.sum_congr rfl fun k _ => ?_)))
  · refine congrArg₂ (· * ·) (iblk2_1_at V c t _ _ ?_ ?_) (iblk2_3_at V c t _ _ ?_ ?_ ?_)
    · exact q0
    · show k.val = 0 * 5120 + k.val; omega
    · rfl
    · show k.val = 0 + k.val; omega
    · exact q1
  · refine congrArg₂ (· * ·) (iblk2_2_at V c t _ _ ?_ ?_) (iblk2_4_at V c t _ _ ?_ ?_ ?_)
    · exact q0
    · show k.val = 0 * 384 + k.val; omega
    · rfl
    · show k.val = 0 + k.val; omega
    · exact q1

/-- Output window 5's array at the region's exit. -/
theorem final2_5 (c : Dev nD) : (dat2 V c).arrAt 5 cfg2.N = G2_5 V c :=
  (dat2 V c).arrAt_eq_of_cover 5 _ (fun t _ => flushed2_5 V c t) covered2_5

end Cert.KernelIdeal.Hand

end
-- ==== Proof.KerValue.lean ====
module

public import proofs.«01_k».proof.Proof.Main
public import proofs.«01_k».proof.Proof.Value0
public import proofs.«01_k».proof.Proof.Value1
public import proofs.«01_k».proof.Proof.Value2

@[expose] public section

set_option maxRecDepth 16384

noncomputable section

namespace Cert.KernelIdeal.Hand

open Cert.KernelIdeal Cert.KernelIdeal.Gen Cert.Hand
open Idealize.ShloMosaic Idealize.ShloMosaic.TcCoe Idealize.ShloMosaic.ValueIdx Idealize.SL.Sem

variable (m : (ℓ : Loc nD τ sig) → Buf (Elt Ideal) ℓ) (c : Dev nD)

/-- The stream, as launched. -/
abbrev a0 : S8192x2048.Idx → EReal := m ((c : Thread nD τ).loc main_arg0)
/-- The norm's weights, as launched. -/
abbrev a1 : S2048.Idx → EReal := m ((c : Thread nD τ).loc main_arg1)
/-- The first weights, as launched. -/
abbrev a2 : S2x2048x11008.Idx → EReal := m ((c : Thread nD τ).loc main_arg2)
/-- The second weights, as launched. -/
abbrev a3 : S2x5504x2048.Idx → EReal := m ((c : Thread nD τ).loc main_arg3)

theorem V1_arg0 : rd S8192x2048 (V1 m c main_arg0) = a0 m c := (V1_of m c main_arg0 (by decide)).trans rfl
theorem V1_arg2 : rd S2x2048x11008 (V1 m c main_arg2) = a2 m c := (V1_of m c main_arg2 (by decide)).trans rfl
theorem V1_arg3 : rd S2x5504x2048 (V1 m c main_arg3) = a3 m c := (V1_of m c main_arg3 (by decide)).trans rfl
theorem V2_arg2 : rd S2x2048x11008 (V2 m (outs m) c main_arg2) = a2 m c := (V2_of m (outs m) c main_arg2 (by decide)).trans (V1_arg2 m c)
theorem V2_arg3 : rd S2x5504x2048 (V2 m (outs m) c main_arg3) = a3 m c := (V2_of m (outs m) c main_arg3 (by decide)).trans (V1_arg3 m c)
theorem V4_arg0 : rd S8192x2048 (V4 m (outs m) c main_arg0) = a0 m c :=
  (V4_of m (outs m) c main_arg0 (by decide)).trans <| (V3_of m (outs m) c main_arg0 (by decide)).trans <| (V2_of m (outs m) c main_arg0 (by decide)).trans (V1_arg0 m c)

/-- The norm's weights given a leading axis, as region 0 finds them. -/
theorem V1_v0 (k : Fin 2048) : rd S1x2048 (V1 m c main_v0) (ix2 (0 : Fin 1) k) = a1 m c (ix1 k) := by
  have e : V1 m c main_v0 = shapeCast S1x2048 (a1 m c) shapeCasts_S2048_S1x2048 := by
    simp only [V1, hostOps0]; after_results_simp <;> rfl
  refine (congrFun e _).trans (shapeCast_apply _ _ _ _ ?_)
  rw [Shape.rowMajor_val_two, Shape.rowMajor_val_one]
  show k.val = 0 * 2048 + k.val
  omega

/-- The normalised rows, as region 1 finds them. -/
theorem V2_hn (r : Fin 8192) (k : Fin 2048) : rd S8192x2048 (V2 m (outs m) c main_v1_1) (ix2 r k)
    = hnS (fun k => a0 m c (ix2 r k)) (fun k => a1 m c (ix1 k)) k := by
  refine (congrFun ((V2_v1_1 m c).trans (final0_6 (V1 m) c)) _).trans ?_
  unfold G0_6
  rw [V1_arg0, funext fun k => V1_v0 m c k]

/-- The activations of the last columns, as region 0 leaves them. -/
theorem V4_tail (r : Fin 8192) (j : Fin 384) : rd S8192x384 (V4 m (outs m) c main_v1_0) (ix2 r j)
    = act 0 (a0 m c) (a1 m c) (a2 m c) r ⟨5120 + j.val, by omega⟩ := by
  refine (congrFun ((V4_of m (outs m) c main_v1_0 (by decide)).trans ((V3_of m (outs m) c main_v1_0 (by decide)).trans
    ((V2_v1_0 m c).trans (final0_5 (V1 m) c)))) _).trans ?_
  unfold G0_5 act
  rw [V1_arg0, V1_arg2, funext fun k => V1_v0 m c k]
  refine congrArg₂ glu rfl (Finset.sum_congr rfl fun k _ => congrArg₂ (· * ·) rfl (congrArg (a2 m c) ?_))
  refine congrArg (ix3 (0 : Fin 2) k) (Fin.ext ?_)
  show 10624 + j.val = 5504 + (5120 + j.val)
  omega

/-- The activations of the first columns, as region 1 leaves them. -/
theorem V4_main (r : Fin 8192) (j : Fin 5120) : rd S8192x5120 (V4 m (outs m) c main_v2_0) (ix2 r j)
    = act 0 (a0 m c) (a1 m c) (a2 m c) r ⟨j.val, by omega⟩ := by
  refine (congrFun ((V4_of m (outs m) c main_v2_0 (by decide)).trans ((V3_v2_0 m c).trans (final1_4 (V2 m (outs m)) c))) _).trans ?_
  unfold G1_4 act
  rw [V2_arg2]
  refine congrArg₂ glu (Finset.sum_congr rfl fun k _ => congrArg₂ (· * ·) (V2_hn m c r k) rfl)
    (Finset.sum_congr rfl fun k _ => congrArg₂ (· * ·) (V2_hn m c r k) rfl)

/-- The first rows of the second weights, as region 2 finds them. -/
theorem V4_wmain (k : Fin 5120) (j : Fin 2048) : rd S1x5120x2048 (V4 m (outs m) c main_v3) (ix3 (0 : Fin 1) k j)
    = a3 m c (ix3 (0 : Fin 2) ⟨k.val, by omega⟩ j) := by
  have e : V4 m (outs m) c main_v3 = shapeCast S1x5120x2048 (rd S5120x2048 (V3 m (outs m) c main_v2_1)) shapeCasts_S5120x2048_S1x5120x2048 := by
    simp only [V4, hostOps2]; after_results_simp <;> rfl
  refine (congrFun e _).trans ((unsqueeze_at _ _ k j).trans ?_)
  refine (congrFun ((V3_v2_1 m c).trans (final1_5 (V2 m (outs m)) c)) _).trans ?_
  unfold G1_5
  rw [V2_arg3]

/-- The last rows of the second weights, as region 2 finds them. -/
theorem V4_wtail (k : Fin 384) (j : Fin 2048) : rd S1x384x2048 (V4 m (outs m) c main_v4) (ix3 (0 : Fin 1) k j)
    = a3 m c (ix3 (0 : Fin 2) ⟨5120 + k.val, by omega⟩ j) := by
  have e : V4 m (outs m) c main_v4 = shapeCast S1x384x2048 (rd S384x2048 (V3 m (outs m) c main_v1_2)) shapeCasts_S384x2048_S1x384x2048 := by
    simp only [V4, hostOps2]; after_results_simp <;> rfl
  refine (congrFun e _).trans ((unsqueeze_at _ _ k j).trans ?_)
  refine (congrFun ((V3_of m (outs m) c main_v1_2 (by decide)).trans ((V2_v1_2 m c).trans (final0_7 (V1 m) c))) _).trans ?_
  unfold G0_7
  rw [V1_arg3]

/-- The kernel's result is the half layer's formula. -/
theorem out_ker : V5 m (outs m) c main_v5 = swiglu 0 (a0 m c) (a1 m c) (a2 m c) (a3 m c) := by
  refine (V5_v5 m c).trans ((final2_5 (V4 m (outs m)) c).trans (funext fun i => ?_))
  unfold G2_5 swiglu
  rw [V4_arg0]
  refine congrArg (a0 m c i + ·) (congrArg (half * ·) ?_)
  refine Eq.trans ?_ (Fin.sum_univ_add (a := 5120) (b := 384) fun j : Fin 5504 => act 0 (a0 m c) (a1 m c) (a2 m c) (i 0) j * a3 m c (ix3 (0 : Fin 2) j (i 1))).symm
  refine congrArg₂ (· + ·) (Finset.sum_congr rfl fun k _ => congrArg₂ (· * ·) (V4_main m c (i 0) k) (V4_wmain m c k (i 1)))
    (Finset.sum_congr rfl fun k _ => congrArg₂ (· * ·) (V4_tail m c (i 0) k) (V4_wtail m c k (i 1)))

end Cert.KernelIdeal.Hand

end
-- ==== Proof.P2Run0.lean ====
module

public import proofs.«01_k».proof.Proof.Gen.Kernel2Ideal.Launch
public import proofs.«01_k».proof.Proof.Gen.Kernel2Ideal.Skeleton
public import proofs.«01_k».proof.Proof.Gen.Kernel2Ideal.Points
public import Idealize.ShloMosaic.Lib.Pipeline.FrameBody
public import Idealize.ShloMosaic.Lib.Pipeline.RegionsLoop
public import Idealize.ShloMosaic.Lib.Pipeline.Value
public import Idealize.ShloMosaic.Lib.Ring
public import Idealize.ShloMosaic.Lib.Tactic
public import Idealize.ShloMosaic.Lib.VecWindow
public import Idealize.ShloMosaic.Lib.WordCmp

@[expose] public section

set_option maxRecDepth 16384

noncomputable section

namespace Cert.Kernel2Ideal.Hand

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The condition of the body's branch, as the program states it. -/
abbrev cond0 (i : grid0.Coords) : Prop := (Scalar.cmpi .ne (Scalar.extui (Scalar.cmpi .eq (BitVec.ofNat 32 (i 0).val) 0#32)) 0#32) = 1#1

set_option maxHeartbeats 4000000 in
/-- The body where it casts the two weight blocks first: from any scratch contents, every output ends at its payload and the scratch at the cast blocks. -/
theorem run0A (c : Dev nD) (i : grid0.Coords) (arg2 : Memref sig .tc .vmem S256x2048 .f32) (harg2 : arg2.IsWhole) (arg3 : Memref sig .tc .vmem S1x1x256x256 .f32) (harg3 : arg3.IsWhole) (arg4 : Memref sig .tc .vmem S1x2048x2048 .f32) (harg4 : arg4.IsWhole) (arg5 : Memref sig .tc .vmem S1x256x2048 .f32) (harg5 : arg5.IsWhole) (arg6 : Memref sig .tc .vmem S1x2048 .f32) (harg6 : arg6.IsWhole) (arg7 : Memref sig .tc .vmem S1x2048 .f32) (harg7 : arg7.IsWhole) (arg8 : Memref sig .tc .vmem S1x2048 .f32) (harg8 : arg8.IsWhole) (arg9 : Memref sig .tc .vmem S256x2048 .f32) (harg9 : arg9.IsWhole) (arg10 : Memref sig .tc .vmem S256x2048 .bf16) (harg10 : arg10.IsWhole) (arg11 : Memref sig .tc .vmem S2048x2048 .bf16) (harg11 : arg11.IsWhole) (arg12 : Memref sig .tc .vmem S256x2048 .bf16) (harg12 : arg12.IsWhole) (hc0 : cond0 i)
    (x0 : Vec F S256x2048 .f32) (x1 : Vec F S1x1x256x256 .f32) (x2 : Vec F S1x2048x2048 .f32) (x3 : Vec F S1x256x2048 .f32) (x4 : Vec F S1x2048 .f32) (x5 : Vec F S1x2048 .f32) (x6 : Vec F S1x2048 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare (k0_pay1 x0 (k0_pay5 x0 x4 (k0_pay3 x2)) (k0_pay6 x1 (k0_pay4 x3)) (k0_pay7 x1 (k0_pay4 x3)) x5) ∗ owns (c : Thread nD τ) arg10 fullShare (k0_pay2 x0 (k0_pay5 x0 x4 (k0_pay3 x2)) (k0_pay6 x1 (k0_pay4 x3)) (k0_pay7 x1 (k0_pay4 x3)) x5 x6) ∗ owns (c : Thread nD τ) arg11 fullShare (k0_pay3 x2) ∗ owns (c : Thread nD τ) arg12 fullShare (k0_pay4 x3)) -∗ K ⟨⟩))
      ⊢ wp frame (wpE (defs₀ (F := F)) Variants.none c none) E (cc0_ple_add i arg2 harg2 arg3 harg3 arg4 harg4 arg5 harg5 arg6 harg6 arg7 harg7 arg8 harg8 arg9 harg9 arg10 harg10 arg11 harg11 arg12 harg12) K := by
  simp only [cc0_ple_add_eq_skeleton]; unfold cc0_ple_add_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
  sl_exec (disch := first | sl_exact hc0)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; swap; · iexact H7
    ipureintro
    refine (View.read_writes_full _ _ _ _ _).trans ?_
    show k0_pay1 _ (k0_pay5 _ _ _) (k0_pay6 _ _) (k0_pay7 _ _) _ = k0_pay1 x0 (k0_pay5 x0 x4 (k0_pay3 x2)) (k0_pay6 x1 (k0_pay4 x3)) (k0_pay7 x1 (k0_pay4 x3)) x5
    exact (congr (congr (congr (congr (congrArg k0_pay1 ((View.readAt_full _ _ _).trans (Memref.IsWhole.read_unread _ _))) (congr (congr (congrArg k0_pay5 ((View.readAt_full _ _ _).trans (Memref.IsWhole.read_unread _ _))) ((View.readAt_full _ _ _).trans (Memref.IsWhole.read_unread _ _))) ((View.readCov_full _ _ _ _ _).trans (congrArg k0_pay3 ((View.readAt_full _ _ _).trans (Memref.IsWhole.read_unread _ _)))))) (congr (congrArg k0_pay6 ((View.readAt_full _ _ _).trans (Memref.IsWhole.read_unread _ _))) ((View.readCov_full _ _ _ _ _).trans (congrArg k0_pay4 ((View.readAt_full _ _ _).trans (Memref.IsWhole.read_unread _ _)))))) (congr (congrArg k0_pay7 ((View.readAt_full _ _ _).trans (Memref.IsWhole.read_unread _ _))) ((View.readCov_full _ _ _ _ _).trans (congrArg k0_pay4 ((View.readAt_full _ _ _).trans (Memref.IsWhole.read_unread _ _)))))) ((View.readAt_full _ _ _).trans (Memref.IsWhole.read_unread _ _)))
  isplitl [H8]
  · iexists _; isplitr; swap; · iexact H8
    ipureintro
    refine (View.read_writes_full _ _ _ _ _).trans ?_
    show k0_pay2 _ (k0_pay5 _ _ _) (k0_pay6 _ _) (k0_pay7 _ _) _ _ = k0_pay2 x0 (k0_pay5 x0 x4 (k0_pay3 x2)) (k0_pay6 x1 (k0_pay4 x3)) (k0_pay7 x1 (k0_pay4 x3)) x5 x6
    exact (congr (congr (congr (congr (congr (congrArg k0_pay2 ((View.readAt_full _ _ _).trans (Memref.IsWhole.read_unread _ _))) (congr (congr (congrArg k0_pay5 ((View.readAt_full _ _ _).trans (Memref.IsWhole.read_unread _ _))) ((View.readAt_full _ _ _).trans (Memref.IsWhole.read_unread _ _))) ((View.readCov_full _ _ _ _ _).trans (congrArg k0_pay3 ((View.readAt_full _ _ _).trans (Memref.IsWhole.read_unread _ _)))))) (congr (congrArg k0_pay6 ((View.readAt_full _ _ _).trans (Memref.IsWhole.read_unread _ _))) ((View.readCov_full _ _ _ _ _).trans (congrArg k0_pay4 ((View.readAt_full _ _ _).trans (Memref.IsWhole.read_unread _ _)))))) (congr (congrArg k0_pay7 ((View.readAt_full _ _ _).trans (Memref.IsWhole.read_unread _ _))) ((View.readCov_full _ _ _ _ _).trans (congrArg k0_pay4 ((View.readAt_full _ _ _).trans (Memref.IsWhole.read_unread _ _)))))) ((View.readAt_full _ _ _).trans (Memref.IsWhole.read_unread _ _))) ((View.readAt_full _ _ _).trans (Memref.IsWhole.read_unread _ _)))
  isplitl [H9]
  · iexists _; isplitr; swap; · iexact H9
    ipureintro
    refine (View.read_writes_full _ _ _ _ _).trans ?_
    show k0_pay3 _ = k0_pay3 x2
    exact (congrArg k0_pay3 ((View.readAt_full _ _ _).trans (Memref.IsWhole.read_unread _ _)))
  · iexists _; isplitr; swap; · iexact H10
    ipureintro
    refine (View.read_writes_full _ _ _ _ _).trans ?_
    show k0_pay4 _ = k0_pay4 x3
    exact (congrArg k0_pay4 ((View.readAt_full _ _ _).trans (Memref.IsWhole.read_unread _ _)))

set_option maxHeartbeats 4000000 in
/-- The body where the scratch already holds the two cast blocks: every output ends at its payload and the scratch stays. -/
theorem run0B (c : Dev nD) (i : grid0.Coords) (arg2 : Memref sig .tc .vmem S256x2048 .f32) (harg2 : arg2.IsWhole) (arg3 : Memref sig .tc .vmem S1x1x256x256 .f32) (harg3 : arg3.IsWhole) (arg4 : Memref sig .tc .vmem S1x2048x2048 .f32) (harg4 : arg4.IsWhole) (arg5 : Memref sig .tc .vmem S1x256x2048 .f32) (harg5 : arg5.IsWhole) (arg6 : Memref sig .tc .vmem S1x2048 .f32) (harg6 : arg6.IsWhole) (arg7 : Memref sig .tc .vmem S1x2048 .f32) (harg7 : arg7.IsWhole) (arg8 : Memref sig .tc .vmem S1x2048 .f32) (harg8 : arg8.IsWhole) (arg9 : Memref sig .tc .vmem S256x2048 .f32) (harg9 : arg9.IsWhole) (arg10 : Memref sig .tc .vmem S256x2048 .bf16) (harg10 : arg10.IsWhole) (arg11 : Memref sig .tc .vmem S2048x2048 .bf16) (harg11 : arg11.IsWhole) (arg12 : Memref sig .tc .vmem S256x2048 .bf16) (harg12 : arg12.IsWhole) (hc0 : ¬cond0 i)
    (x0 : Vec F S256x2048 .f32) (x1 : Vec F S1x1x256x256 .f32) (x2 : Vec F S1x2048x2048 .f32) (x3 : Vec F S1x256x2048 .f32) (x4 : Vec F S1x2048 .f32) (x5 : Vec F S1x2048 .f32) (x6 : Vec F S1x2048 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ owns (c : Thread nD τ) arg11 fullShare (k0_pay3 x2) ∗ owns (c : Thread nD τ) arg12 fullShare (k0_pay4 x3)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare (k0_pay1 x0 (k0_pay5 x0 x4 (k0_pay3 x2)) (k0_pay6 x1 (k0_pay4 x3)) (k0_pay7 x1 (k0_pay4 x3)) x5) ∗ owns (c : Thread nD τ) arg10 fullShare (k0_pay2 x0 (k0_pay5 x0 x4 (k0_pay3 x2)) (k0_pay6 x1 (k0_pay4 x3)) (k0_pay7 x1 (k0_pay4 x3)) x5 x6) ∗ owns (c : Thread nD τ) arg11 fullShare (k0_pay3 x2) ∗ owns (c : Thread nD τ) arg12 fullShare (k0_pay4 x3)) -∗ K ⟨⟩))
      ⊢ wp frame (wpE (defs₀ (F := F)) Variants.none c none) E (cc0_ple_add i arg2 harg2 arg3 harg3 arg4 harg4 arg5 harg5 arg6 harg6 arg7 harg7 arg8 harg8 arg9 harg9 arg10 harg10 arg11 harg11 arg12 harg12) K := by
  simp only [cc0_ple_add_eq_skeleton]; unfold cc0_ple_add_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%f9, %hf9, H9⟩, ⟨%f10, %hf10, H10⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg11.eq_unread hf9; obtain rfl := harg12.eq_unread hf10
  sl_exec (disch := first | sl_exact hc0)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; swap; · iexact H7
    ipureintro
    refine (View.read_writes_full _ _ _ _ _).trans ?_
    show k0_pay1 _ (k0_pay5 _ _ _) (k0_pay6 _ _) (k0_pay7 _ _) _ = k0_pay1 x0 (k0_pay5 x0 x4 (k0_pay3 x2)) (k0_pay6 x1 (k0_pay4 x3)) (k0_pay7 x1 (k0_pay4 x3)) x5
    exact (congr (congr (congr (congr (congrArg k0_pay1 ((View.readAt_full _ _ _).trans (Memref.IsWhole.read_unread _ _))) (congr (congr (congrArg k0_pay5 ((View.readAt_full _ _ _).trans (Memref.IsWhole.read_unread _ _))) ((View.readAt_full _ _ _).trans (Memref.IsWhole.read_unread _ _))) ((View.readAt_full _ _ _).trans (Memref.IsWhole.read_unread _ _)))) (congr (congrArg k0_pay6 ((View.readAt_full _ _ _).trans (Memref.IsWhole.read_unread _ _))) ((View.readAt_full _ _ _).trans (Memref.IsWhole.read_unread _ _)))) (congr (congrArg k0_pay7 ((View.readAt_full _ _ _).trans (Memref.IsWhole.read_unread _ _))) ((View.readAt_full _ _ _).trans (Memref.IsWhole.read_unread _ _)))) ((View.readAt_full _ _ _).trans (Memref.IsWhole.read_unread _ _)))
  isplitl [H8]
  · iexists _; isplitr; swap; · iexact H8
    ipureintro
    refine (View.read_writes_full _ _ _ _ _).trans ?_
    show k0_pay2 _ (k0_pay5 _ _ _) (k0_pay6 _ _) (k0_pay7 _ _) _ _ = k0_pay2 x0 (k0_pay5 x0 x4 (k0_pay3 x2)) (k0_pay6 x1 (k0_pay4 x3)) (k0_pay7 x1 (k0_pay4 x3)) x5 x6
    exact (congr (congr (congr (congr (congr (congrArg k0_pay2 ((View.readAt_full _ _ _).trans (Memref.IsWhole.read_unread _ _))) (congr (congr (congrArg k0_pay5 ((View.readAt_full _ _ _).trans (Memref.IsWhole.read_unread _ _))) ((View.readAt_full _ _ _).trans (Memref.IsWhole.read_unread _ _))) ((View.readAt_full _ _ _).trans (Memref.IsWhole.read_unread _ _)))) (congr (congrArg k0_pay6 ((View.readAt_full _ _ _).trans (Memref.IsWhole.read_unread _ _))) ((View.readAt_full _ _ _).trans (Memref.IsWhole.read_unread _ _)))) (congr (congrArg k0_pay7 ((View.readAt_full _ _ _).trans (Memref.IsWhole.read_unread _ _))) ((View.readAt_full _ _ _).trans (Memref.IsWhole.read_unread _ _)))) ((View.readAt_full _ _ _).trans (Memref.IsWhole.read_unread _ _))) ((View.readAt_full _ _ _).trans (Memref.IsWhole.read_unread _ _)))
  isplitl [H9]
  · iexists _; isplitr; · ipureintro; exact harg11.read_unread _
    iexact H9
  · iexists _; isplitr; · ipureintro; exact harg12.read_unread _
    iexact H10

end Cert.Kernel2Ideal.Hand

end
-- ==== Proof.P2Region0.lean ====
module

public import proofs.«01_k».proof.Proof.Gen.Kernel2Ideal.Launch
public import proofs.«01_k».proof.Proof.Gen.Kernel2Ideal.Skeleton
public import proofs.«01_k».proof.Proof.Gen.Kernel2Ideal.Points
public import Idealize.ShloMosaic.Lib.Pipeline.FrameBody
public import Idealize.ShloMosaic.Lib.Pipeline.RegionsLoop
public import Idealize.ShloMosaic.Lib.Pipeline.Value
public import Idealize.ShloMosaic.Lib.Ring
public import Idealize.ShloMosaic.Lib.Tactic
public import Idealize.ShloMosaic.Lib.VecWindow
public import Idealize.ShloMosaic.Lib.WordCmp
public import proofs.«01_k».proof.Proof.Gen.Kernel2Ideal.Regions
public import proofs.«01_k».proof.Proof.P2Run0

@[expose] public section

set_option maxRecDepth 16384

noncomputable section

namespace Cert.Kernel2Ideal.Hand

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → Valuation τ sig (Elt F))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The scratch buffers before point `n`: anything where a weight block starts, and the block's two cast parts elsewhere. -/
def scr0 (c : Dev nD) (n : ℕ) : sProp 𝕄 :=
  if n % 32 = 0 then iprop((∃ d, owns (c : Thread nD τ) (Memref.whole cc0_scratch0) fullShare d) ∗ (∃ d, owns (c : Thread nD τ) (Memref.whole cc0_scratch1) fullShare d))
  else iprop(∃ t' : Fin cfg0.N, ⌜t'.val / 32 = n / 32⌝ ∗ owns (c : Thread nD τ) (Memref.whole cc0_scratch0) fullShare (k0_pay3 (iblk0 V c 2 t')) ∗ owns (c : Thread nD τ) (Memref.whole cc0_scratch1) fullShare (k0_pay4 (iblk0 V c 3 t')))

/-- What the scratch holds after point `t` is what the next point expects. -/
theorem scr0_close (c : Dev nD) (t : Fin cfg0.N) :
    iprop(owns (c : Thread nD τ) (Memref.whole cc0_scratch0) fullShare (k0_pay3 (iblk0 V c 2 t)) ∗ owns (c : Thread nD τ) (Memref.whole cc0_scratch1) fullShare (k0_pay4 (iblk0 V c 3 t)))
      ⊢ scr0 V c (t.val + 1) := by
  unfold scr0
  by_cases h : (t.val + 1) % 32 = 0
  · rw [if_pos h]
    iintro ⟨H0, H1⟩
    isplitl [H0]
    · iexists _; iexact H0
    iexists _; iexact H1
  · rw [if_neg h]
    iintro ⟨H0, H1⟩
    iexists t
    isplitr
    · ipureintro; omega
    isplitl [H0] <;> iassumption

/-- A weight window moves only with the block's number. -/
theorem index0_2 : ∀ t t' : Fin grid0.N, t.val / 32 = t'.val / 32 → ∀ a, win0_2.index t a = win0_2.index t' a := by
  decide +kernel

theorem iblk0_2_eq (c : Dev nD) (t t' : Fin cfg0.N) (h : t.val / 32 = t'.val / 32) : iblk0 V c 2 t = iblk0 V c 2 t' := by
  funext y
  refine congrArg (V c main_arg3) ?_
  funext a
  refine Fin.ext ?_
  have h1 := index0_2 t t' h
  fin_cases a
  · show win0_2.index t 0 * 1 + 1 * (y 0).val = win0_2.index t' 0 * 1 + 1 * (y 0).val
    rw [h1]
  · show win0_2.index t 1 * 2048 + 1 * (y 1).val = win0_2.index t' 1 * 2048 + 1 * (y 1).val
    rw [h1]
  · show win0_2.index t 2 * 2048 + 1 * (y 2).val = win0_2.index t' 2 * 2048 + 1 * (y 2).val
    rw [h1]

/-- A weight window moves only with the block's number. -/
theorem index0_3 : ∀ t t' : Fin grid0.N, t.val / 32 = t'.val / 32 → ∀ a, win0_3.index t a = win0_3.index t' a := by
  decide +kernel

theorem iblk0_3_eq (c : Dev nD) (t t' : Fin cfg0.N) (h : t.val / 32 = t'.val / 32) : iblk0 V c 3 t = iblk0 V c 3 t' := by
  funext y
  refine congrArg (V c main_arg4) ?_
  funext a
  refine Fin.ext ?_
  have h1 := index0_3 t t' h
  fin_cases a
  · show win0_3.index t 0 * 1 + 1 * (y 0).val = win0_3.index t' 0 * 1 + 1 * (y 0).val
    rw [h1]
  · show win0_3.index t 1 * 256 + 1 * (y 1).val = win0_3.index t' 1 * 256 + 1 * (y 1).val
    rw [h1]
  · show win0_3.index t 2 * 2048 + 1 * (y 2).val = win0_3.index t' 2 * 2048 + 1 * (y 2).val
    rw [h1]

/-- The body's branch is taken exactly where a weight block starts. -/
theorem hcond0 : ∀ t : Fin cfg0.N, cond0 (grid0.coords t) ↔ t.val % 32 = 0 :=
  (fun t => by
    have ht : t.val < 32 := lt_of_lt_of_eq t.isLt N_0
    have e1 : (grid0.coords t 0).val = t.val / 1 % 32 := Pipeline.Grid.coords_val t 0 (by decide) rfl
    simp only [cond0, e1]
    word_cmp
   : ∀ t : Fin grid0.N, cond0 (grid0.coords t) ↔ t.val % 32 = 0)

/-- The region's proof data: each array at its entry contents, each input's buffer at its block, each output's at its payload, the scratch as the points leave it. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => k0_pay1 (iblk0 V c 0 t) (k0_pay5 (iblk0 V c 0 t) (iblk0 V c 4 t) (k0_pay3 (iblk0 V c 2 t))) (k0_pay6 (iblk0 V c 1 t) (k0_pay4 (iblk0 V c 3 t))) (k0_pay7 (iblk0 V c 1 t) (k0_pay4 (iblk0 V c 3 t))) (iblk0 V c 5 t)
    | ⟨8, _⟩ => k0_pay2 (iblk0 V c 0 t) (k0_pay5 (iblk0 V c 0 t) (iblk0 V c 4 t) (k0_pay3 (iblk0 V c 2 t))) (k0_pay6 (iblk0 V c 1 t) (k0_pay4 (iblk0 V c 3 t))) (k0_pay7 (iblk0 V c 1 t) (k0_pay4 (iblk0 V c 3 t))) (iblk0 V c 5 t) (iblk0 V c 6 t)
  Φ t := iprop(scr0 V c t.val ∗ Pipeline.scopedRestBut (Ix := Unit) (Name := ℕ) (U := UR sig nD τ) (Lvl := ℕ) (Val := Elt F) spec0 c [cc0_scratch0, cc0_scratch1])
  q w := fullShare
  owed _ := 0

theorem A0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by
  dsimp only [dat0]
theorem after0_1 (c : Dev nD) (t : Fin cfg0.N) : (dat0 V c).after 1 t = iblk0 V c 1 t := by
  dsimp only [dat0]
theorem after0_2 (c : Dev nD) (t : Fin cfg0.N) : (dat0 V c).after 2 t = iblk0 V c 2 t := by
  dsimp only [dat0]
theorem after0_3 (c : Dev nD) (t : Fin cfg0.N) : (dat0 V c).after 3 t = iblk0 V c 3 t := by
  dsimp only [dat0]
theorem after0_4 (c : Dev nD) (t : Fin cfg0.N) : (dat0 V c).after 4 t = iblk0 V c 4 t := by
  dsimp only [dat0]
theorem after0_5 (c : Dev nD) (t : Fin cfg0.N) : (dat0 V c).after 5 t = iblk0 V c 5 t := by
  dsimp only [dat0]
theorem after0_6 (c : Dev nD) (t : Fin cfg0.N) : (dat0 V c).after 6 t = iblk0 V c 6 t := by
  dsimp only [dat0]
theorem after0_7 (c : Dev nD) (t : Fin cfg0.N) : (dat0 V c).after 7 t = k0_pay1 (iblk0 V c 0 t) (k0_pay5 (iblk0 V c 0 t) (iblk0 V c 4 t) (k0_pay3 (iblk0 V c 2 t))) (k0_pay6 (iblk0 V c 1 t) (k0_pay4 (iblk0 V c 3 t))) (k0_pay7 (iblk0 V c 1 t) (k0_pay4 (iblk0 V c 3 t))) (iblk0 V c 5 t) := by
  dsimp only [dat0]
theorem after0_8 (c : Dev nD) (t : Fin cfg0.N) : (dat0 V c).after 8 t = k0_pay2 (iblk0 V c 0 t) (k0_pay5 (iblk0 V c 0 t) (iblk0 V c 4 t) (k0_pay3 (iblk0 V c 2 t))) (k0_pay6 (iblk0 V c 1 t) (k0_pay4 (iblk0 V c 3 t))) (k0_pay7 (iblk0 V c 1 t) (k0_pay4 (iblk0 V c 3 t))) (iblk0 V c 5 t) (iblk0 V c 6 t) := by
  dsimp only [dat0]
theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A0]; try rfl) t d).trans
    (by unfold Dat.fetched Dat.blockOf iblk0; rw [A0]; try rfl)
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A0]; try rfl) t d).trans
    (by unfold Dat.fetched Dat.blockOf iblk0; rw [A0]; try rfl)
theorem before0_2 (c : Dev nD) (t : Fin cfg0.N) (d) : (dat0 V c).before 2 t d = iblk0 V c 2 t :=
  ((dat0 V c).before_in_eq_fetched 2 rfl (fun _ => rfl) (fun _ _ _ => rfl) (fun t => by rw [after0_2]; unfold Dat.blockOf iblk0; rw [A0]; try rfl) t d).trans
    (by unfold Dat.fetched Dat.blockOf iblk0; rw [A0]; try rfl)
theorem before0_3 (c : Dev nD) (t : Fin cfg0.N) (d) : (dat0 V c).before 3 t d = iblk0 V c 3 t :=
  ((dat0 V c).before_in_eq_fetched 3 rfl (fun _ => rfl) (fun _ _ _ => rfl) (fun t => by rw [after0_3]; unfold Dat.blockOf iblk0; rw [A0]; try rfl) t d).trans
    (by unfold Dat.fetched Dat.blockOf iblk0; rw [A0]; try rfl)
theorem before0_4 (c : Dev nD) (t : Fin cfg0.N) (d) : (dat0 V c).before 4 t d = iblk0 V c 4 t :=
  ((dat0 V c).before_in_eq_fetched 4 rfl (fun _ => rfl) (fun _ _ _ => rfl) (fun t => by rw [after0_4]; unfold Dat.blockOf iblk0; rw [A0]; try rfl) t d).trans
    (by unfold Dat.fetched Dat.blockOf iblk0; rw [A0]; try rfl)
theorem before0_5 (c : Dev nD) (t : Fin cfg0.N) (d) : (dat0 V c).before 5 t d = iblk0 V c 5 t :=
  ((dat0 V c).before_in_eq_fetched 5 rfl (fun _ => rfl) (fun _ _ _ => rfl) (fun t => by rw [after0_5]; unfold Dat.blockOf iblk0; rw [A0]; try rfl) t d).trans
    (by unfold Dat.fetched Dat.blockOf iblk0; rw [A0]; try rfl)
theorem before0_6 (c : Dev nD) (t : Fin cfg0.N) (d) : (dat0 V c).before 6 t d = iblk0 V c 6 t :=
  ((dat0 V c).before_in_eq_fetched 6 rfl (fun _ => rfl) (fun _ _ _ => rfl) (fun t => by rw [after0_6]; unfold Dat.blockOf iblk0; rw [A0]; try rfl) t d).trans
    (by unfold Dat.fetched Dat.blockOf iblk0; rw [A0]; try rfl)
abbrev ms0_0 (t : Fin cfg0.N) : Memref sig .tc .vmem S256x2048 .f32 := win0_0.stage (cfg0.slots t 0)
abbrev ms0_1 (t : Fin cfg0.N) : Memref sig .tc .vmem S1x1x256x256 .f32 := win0_1.stage (cfg0.slots t 1)
abbrev ms0_2 (t : Fin cfg0.N) : Memref sig .tc .vmem S1x2048x2048 .f32 := win0_2.stage (cfg0.slots t 2)
abbrev ms0_3 (t : Fin cfg0.N) : Memref sig .tc .vmem S1x256x2048 .f32 := win0_3.stage (cfg0.slots t 3)
abbrev ms0_4 (t : Fin cfg0.N) : Memref sig .tc .vmem S1x2048 .f32 := win0_4.stage (cfg0.slots t 4)
abbrev ms0_5 (t : Fin cfg0.N) : Memref sig .tc .vmem S1x2048 .f32 := win0_5.stage (cfg0.slots t 5)
abbrev ms0_6 (t : Fin cfg0.N) : Memref sig .tc .vmem S1x2048 .f32 := win0_6.stage (cfg0.slots t 6)
abbrev ms0_7 (t : Fin cfg0.N) : Memref sig .tc .vmem S256x2048 .f32 := win0_7.stage (cfg0.slots t 7)
abbrev ms0_8 (t : Fin cfg0.N) : Memref sig .tc .vmem S256x2048 .bf16 := win0_8.stage (cfg0.slots t 8)

/-- What the body is given at a point. -/
def pre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d))
    ∗ (∃ d, owns (c : Thread nD τ) (ms0_8 t) fullShare ((dat0 V c).before 8 t d)))
/-- What the body leaves at a point. -/
def post0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t)
    ∗ owns (c : Thread nD τ) (ms0_4 t) fullShare ((dat0 V c).after 4 t)
    ∗ owns (c : Thread nD τ) (ms0_5 t) fullShare ((dat0 V c).after 5 t)
    ∗ owns (c : Thread nD τ) (ms0_6 t) fullShare ((dat0 V c).after 6 t)
    ∗ owns (c : Thread nD τ) (ms0_7 t) fullShare ((dat0 V c).after 7 t)
    ∗ owns (c : Thread nD τ) (ms0_8 t) fullShare ((dat0 V c).after 8 t))

set_option maxHeartbeats 4000000 in
/-- The body at any point. -/
theorem sound0 (c : Dev nD) (t : Fin cfg0.N) :
    pre0 V c t ⊢ wp frame (wpE (defs₀ (F := F)) Variants.none c none) Set.univ (bodyAt0 t) (fun _ => post0 V c t) := by
  unfold pre0 post0 bodyAt0
  simp only [before0_0, before0_1, before0_2, before0_3, before0_4, before0_5, before0_6]
  rw [show (dat0 V c).owesAt () t.succ = (dat0 V c).owesAt () t.castSucc from rfl,
    after0_0, after0_1, after0_2, after0_3, after0_4, after0_5, after0_6, after0_7, after0_8]
  rw [show (dat0 V c).Φ t.castSucc = iprop(scr0 V c t.val ∗ Pipeline.scopedRestBut (Ix := Unit) (Name := ℕ) (U := UR sig nD τ) (Lvl := ℕ) (Val := Elt F) spec0 c [cc0_scratch0, cc0_scratch1]) from rfl,
    show (dat0 V c).Φ t.succ = iprop(scr0 V c (t.val + 1) ∗ Pipeline.scopedRestBut (Ix := Unit) (Name := ℕ) (U := UR sig nD τ) (Lvl := ℕ) (Val := Elt F) spec0 c [cc0_scratch0, cc0_scratch1]) from rfl]
  by_cases h0 : t.val % 32 = 0
  · rw [show scr0 V c t.val = _ from if_pos h0]
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (run0A c (grid0.coords t) _ _ _ _ _ _ _ _ _ _ _ _ _ _ _ _ _ _ _ _ _ _ ((hcond0 t).mpr h0) (iblk0 V c 0 t) (iblk0 V c 1 t) (iblk0 V c 2 t) (iblk0 V c 3 t) (iblk0 V c 4 t) (iblk0 V c 5 t) (iblk0 V c 6 t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [HS0]; · iexact HS0
    isplitl [HS1]; · iexact HS1
    iintro ⟨H0, H1, H2, H3, H4, H5, H6, H7, H8, HS0, HS1⟩
    isplitl [HS0 HS1 Hg]
    · isplitl [HS0 HS1]
      · iapply (scr0_close V c t)
        isplitl [HS0] <;> iassumption
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  · rw [show scr0 V c t.val = _ from if_neg h0]
    iintro ⟨⟨⟨%t', %ht', HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    rw [iblk0_2_eq V c t' t (by omega), iblk0_3_eq V c t' t (by omega)]
    iapply (run0B c (grid0.coords t) _ _ _ _ _ _ _ _ _ _ _ _ _ _ _ _ _ _ _ _ _ _ (fun h => h0 ((hcond0 t).mp h)) (iblk0 V c 0 t) (iblk0 V c 1 t) (iblk0 V c 2 t) (iblk0 V c 3 t) (iblk0 V c 4 t) (iblk0 V c 5 t) (iblk0 V c 6 t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [HS0]; · iexact HS0
    isplitl [HS1]; · iexact HS1
    iintro ⟨H0, H1, H2, H3, H4, H5, H6, H7, H8, HS0, HS1⟩
    isplitl [HS0 HS1 Hg]
    · isplitl [HS0 HS1]
      · iapply (scr0_close V c t)
        isplitl [HS0] <;> iassumption
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8

theorem defs₀_row0 (t : Fin cfg0.N) :
    defs₀ (F := F) .tc cfg0.body (cfg0.bodyArgs t (cfg0.slots t)) = bodyAt0 t := by
  unfold defs₀; rw [Defs.onTc_tc]

/-- The pipeline's body obligation, at every point. -/
theorem body0 (c : Dev nD) : BodyObligation (dat0 V c) (defs₀ (F := F)) Variants.none () Set.univ := fun t => by
  rw [bigSep_W0, bigSep_W0, defs₀_row0]
  exact triple_restated (sound0 V c t) rfl .rfl fun _ => .rfl

variable (Vp : (c : Dev nD) → Valuation τ sig (Elt F))
variable (pdats : (p : Fin 4) → (c : Dev nD) → Dat τ (Elt F) Unit ℕ (UR sig nD τ) ℕ (cfgs p) c)

set_option maxHeartbeats 2000000 in
set_option backward.isDefEq.respectTransparency.types false in
/-- The region as a segment: entered with every unscoped buffer at `V`, left with them at `Vp`, the outputs' arrays as its points' write-backs make them. -/
def reg0 (hp : ∀ c, pdats 0 c = dat0 V c) (h7 : ∀ c, Vp c main_v3_0 = (dat0 V c).arrAt 7 cfg0.N) (h8 : ∀ c, Vp c main_v3_1 = (dat0 V c).arrAt 8 cfg0.N)
    (hne : ∀ c (b : Ref sig .tc), b ∉ ([main_v3_0, main_v3_1] : List (Ref sig .tc)) → Vp c b = V c b) :
    Pipeline.RegionSeg (pcfgs (F := F)) adm pdats () defs₀ Variants.none (fun _ => ∅) (fun _ _ => 0) 0 where
  win := launch0.win.to₀
  block_pos := launch0.block_pos
  stage_whole := launch0.stage_whole
  K := PEmpty
  osem k := k.elim
  ho := Pipeline.OwnSemFacts.none _
  hbody c := by
    have h := (body0 V c).loose
    rw [← hp c] at h
    exact h
  hwaits := Pipeline.hwaits_of_owed_zero _ _ _ _ (fun _ => ∅) (fun _ _ => 0) 0 fun c _ => by rw [hp c]; rfl
  pre c := iprop(unscopedBufs c (fun b => V c b) ∗ ∃ W, owes (c : Thread nD τ) (0 : CellTallies nD τ sig Unit) W)
  post c := iprop(unscopedBufs c (fun b => Vp c b) ∗ ∃ W, owes (c : Thread nD τ) (0 : CellTallies nD τ sig Unit) W)
  X _ := BI.emp
  Y _ := BI.emp
  Z c := Pipeline.unscopedRest (Ix := Unit) (Name := ℕ) (U := UR sig nD τ) (Lvl := ℕ) spec0 c (fun b => V c b)
  hentry c := by
    rw [Pipeline.ownSems0_none]
    have hsplit := Pipeline.arrays_of_unscopedBufs (p := 0) (pcfgs (F := F)) adm pdats launch0.win launch0.arr_whole c
      ((pdats 0 c).share_full fun _ => by rw [hp c]; rfl) (fun b => V c b) (fun w => by rw [hp c]; exact A0 V c w)
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · rw [show (pdats 0 c).owesAt () 0 = (dat0 V c).owesAt () 0 from by rw [hp c]]
      unfold Pipeline.Dat.owesAt Pipeline.owesWithin
      icases HO with ⟨%W, HO⟩; iexists W; isplitr; · ipureintro; exact fun _ _ => Or.inl trivial
      iexact HO
    isplitr; · iempintro
    iexact Hrest
  hin c := by
    rw [hp c, show (dat0 V c).Φ 0 = iprop(scr0 V c 0 ∗ Pipeline.scopedRestBut (Ix := Unit) (Name := ℕ) (U := UR sig nD τ) (Lvl := ℕ) (Val := Elt F) spec0 c [cc0_scratch0, cc0_scratch1]) from rfl, show scr0 V c 0 = _ from if_pos rfl]
    have hs := scopedRest0_split (Ix := Unit) (Name := ℕ) (U := UR sig nD τ) (Lvl := ℕ) (Val := Elt F) c
    simp only [owns_whole]
    iintro ⟨-, -, Hr⟩
    ihave H := (Entails.of_eq hs) $$ Hr
    iexact H
  hout c := by
    rw [Pipeline.ownSems0_none, hp c, show (dat0 V c).Φ (Fin.last (Pipeline.pin (pcfgs (F := F)) adm 0).N) = iprop(scr0 V c grid0.N ∗ Pipeline.scopedRestBut (Ix := Unit) (Name := ℕ) (U := UR sig nD τ) (Lvl := ℕ) (Val := Elt F) spec0 c [cc0_scratch0, cc0_scratch1]) from rfl,
      show scr0 V c grid0.N = _ from if_pos (by rw [N_0])]
    have hs := scopedRest0_split (Ix := Unit) (Name := ℕ) (U := UR sig nD τ) (Lvl := ℕ) (Val := Elt F) c
    simp only [owns_whole]
    iintro Hr
    isplitr; · iempintro
    isplitr; · iempintro
    iapply (Entails.of_eq hs.symm)
    iexact Hr
  hexit c := by
    have hjoin := Pipeline.unscopedBufs_of_arrays (p := 0) (pcfgs (F := F)) adm (Ix := Unit) (Name := ℕ) (U := UR sig nD τ) (Lvl := ℕ) launch0.win launch0.arr_whole c
      pdats ((pdats 0 c).share_full fun _ => by rw [hp c]; rfl) (fun b => V c b) (fun b => Vp c b) ((pdats 0 c).arrAt · cfg0.N)
      (fun w => by
        rw [hp c]
        fin_cases w
        · exact ((dat0 V c).arrAt_in 0 rfl _).trans (hne c main_arg0 (by decide)).symm
        · exact ((dat0 V c).arrAt_in 1 rfl _).trans (hne c main_arg1 (by decide)).symm
        · exact ((dat0 V c).arrAt_in 2 rfl _).trans (hne c main_arg3 (by decide)).symm
        · exact ((dat0 V c).arrAt_in 3 rfl _).trans (hne c main_arg4 (by decide)).symm
        · exact ((dat0 V c).arrAt_in 4 rfl _).trans (hne c main_v0 (by decide)).symm
        · exact ((dat0 V c).arrAt_in 5 rfl _).trans (hne c main_v1 (by decide)).symm
        · exact ((dat0 V c).arrAt_in 6 rfl _).trans (hne c main_v2 (by decide)).symm
        · exact (h7 c).symm
        · exact (h8 c).symm
        )
      (fun b hb => hne c b fun h => hb (by
        simp only [List.mem_cons, List.not_mem_nil, _root_.or_false] at h
        rcases h with h | h
        · exact h ▸ Finset.mem_image.mpr ⟨7, Finset.mem_univ _, rfl⟩
        · exact h ▸ Finset.mem_image.mpr ⟨8, Finset.mem_univ _, rfl⟩))
    have hO : (pdats 0 c).owesAt () (Fin.last cfg0.N) ⊢ (iprop(∃ W, owes (c : Thread nD τ) (0 : CellTallies nD τ sig Unit) W) : sProp 𝕄) := by
      rw [hp c]
      unfold Pipeline.Dat.owesAt Pipeline.owesWithin
      iintro ⟨%W, -, HO⟩; iexists W; iexact HO
    iintro ⟨Ha, HO, -, Hrest⟩
    imodintro
    isplitl [Ha Hrest]
    · iapply hjoin; isplitl [Ha] <;> iassumption
    iapply hO; iexact HO

end Cert.Kernel2Ideal.Hand

end
-- ==== Proof.P2Run1.lean ====
module

public import proofs.«01_k».proof.Proof.Gen.Kernel2Ideal.Launch
public import proofs.«01_k».proof.Proof.Gen.Kernel2Ideal.Skeleton
public import proofs.«01_k».proof.Proof.Gen.Kernel2Ideal.Points
public import Idealize.ShloMosaic.Lib.Pipeline.FrameBody
public import Idealize.ShloMosaic.Lib.Pipeline.RegionsLoop
public import Idealize.ShloMosaic.Lib.Pipeline.Value
public import Idealize.ShloMosaic.Lib.Ring
public import Idealize.ShloMosaic.Lib.Tactic
public import Idealize.ShloMosaic.Lib.VecWindow
public import Idealize.ShloMosaic.Lib.WordCmp

@[expose] public section

set_option maxRecDepth 16384

noncomputable section

namespace Cert.Kernel2Ideal.Hand

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The condition of the body's branch, as the program states it. -/
abbrev cond1 (i : grid1.Coords) : Prop := (Scalar.cmpi .ne (Scalar.extui (Scalar.cmpi .eq (BitVec.ofNat 32 (i 1).val) 0#32)) 0#32) = 1#1

set_option maxHeartbeats 4000000 in
/-- The body where it casts the two weight blocks first: from any scratch contents, every output ends at its payload and the scratch at the cast blocks. -/
theorem run1A (c : Dev nD) (i : grid1.Coords) (arg2 : Memref sig .tc .vmem S1024x2048 .bf16) (harg2 : arg2.IsWhole) (arg3 : Memref sig .tc .vmem S1x2048x384 .f32) (harg3 : arg3.IsWhole) (arg4 : Memref sig .tc .vmem S1x2048x384 .f32) (harg4 : arg4.IsWhole) (arg5 : Memref sig .tc .vmem S1x48x2048 .f32) (harg5 : arg5.IsWhole) (arg6 : Memref sig .tc .vmem S1024x384 .bf16) (harg6 : arg6.IsWhole) (arg7 : Memref sig .tc .vmem S48x2048 .bf16) (harg7 : arg7.IsWhole) (arg8 : Memref sig .tc .vmem S2048x384 .bf16) (harg8 : arg8.IsWhole) (arg9 : Memref sig .tc .vmem S2048x384 .bf16) (harg9 : arg9.IsWhole) (hc0 : cond1 i)
    (x0 : Vec F S1024x2048 .bf16) (x1 : Vec F S1x2048x384 .f32) (x2 : Vec F S1x2048x384 .f32) (x3 : Vec F S1x48x2048 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (k1_pay4 x0 (k1_pay1 x1) (k1_pay2 x2)) ∗ owns (c : Thread nD τ) arg7 fullShare (k1_pay3 x3) ∗ owns (c : Thread nD τ) arg8 fullShare (k1_pay1 x1) ∗ owns (c : Thread nD τ) arg9 fullShare (k1_pay2 x2)) -∗ K ⟨⟩))
      ⊢ wp frame (wpE (defs₀ (F := F)) Variants.none c none) E (cc1_ffn_in i arg2 harg2 arg3 harg3 arg4 harg4 arg5 harg5 arg6 harg6 arg7 harg7 arg8 harg8 arg9 harg9) K := by
  simp only [cc1_ffn_in_eq_skeleton]; unfold cc1_ffn_in_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, Hk⟩
  obtain rfl := harg2.eq_unread hf0; obtain rfl := harg3.eq_unread hf1; obtain rfl := harg4.eq_unread hf2; obtain rfl := harg5.eq_unread hf3
  sl_exec (disch := first | sl_exact hc0)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; swap; · iexact H4
    ipureintro
    refine (View.read_writes_full _ _ _ _ _).trans ?_
    show k1_pay4 _ _ _ = k1_pay4 x0 (k1_pay1 x1) (k1_pay2 x2)
    exact (congr (congr (congrArg k1_pay4 ((View.readAt_full _ _ _).trans (Memref.IsWhole.read_unread _ _))) ((View.readCov_full _ _ _ _ _).trans (congrArg k1_pay1 ((View.readAt_full _ _ _).trans (Memref.IsWhole.read_unread _ _))))) ((View.readCov_full _ _ _ _ _).trans (congrArg k1_pay2 ((View.readAt_full _ _ _).trans (Memref.IsWhole.read_unread _ _)))))
  isplitl [H5]
  · iexists _; isplitr; swap; · iexact H5
    ipureintro
    refine (View.read_writes_full _ _ _ _ _).trans ?_
    show k1_pay3 _ = k1_pay3 x3
    exact (congrArg k1_pay3 ((View.readAt_full _ _ _).trans (Memref.IsWhole.read_unread _ _)))
  isplitl [H6]
  · iexists _; isplitr; swap; · iexact H6
    ipureintro
    refine (View.read_writes_full _ _ _ _ _).trans ?_
    show k1_pay1 _ = k1_pay1 x1
    exact (congrArg k1_pay1 ((View.readAt_full _ _ _).trans (Memref.IsWhole.read_unread _ _)))
  · iexists _; isplitr; swap; · iexact H7
    ipureintro
    refine (View.read_writes_full _ _ _ _ _).trans ?_
    show k1_pay2 _ = k1_pay2 x2
    exact (congrArg k1_pay2 ((View.readAt_full _ _ _).trans (Memref.IsWhole.read_unread _ _)))

set_option maxHeartbeats 4000000 in
/-- The body where the scratch already holds the two cast blocks: every output ends at its payload and the scratch stays. -/
theorem run1B (c : Dev nD) (i : grid1.Coords) (arg2 : Memref sig .tc .vmem S1024x2048 .bf16) (harg2 : arg2.IsWhole) (arg3 : Memref sig .tc .vmem S1x2048x384 .f32) (harg3 : arg3.IsWhole) (arg4 : Memref sig .tc .vmem S1x2048x384 .f32) (harg4 : arg4.IsWhole) (arg5 : Memref sig .tc .vmem S1x48x2048 .f32) (harg5 : arg5.IsWhole) (arg6 : Memref sig .tc .vmem S1024x384 .bf16) (harg6 : arg6.IsWhole) (arg7 : Memref sig .tc .vmem S48x2048 .bf16) (harg7 : arg7.IsWhole) (arg8 : Memref sig .tc .vmem S2048x384 .bf16) (harg8 : arg8.IsWhole) (arg9 : Memref sig .tc .vmem S2048x384 .bf16) (harg9 : arg9.IsWhole) (hc0 : ¬cond1 i)
    (x0 : Vec F S1024x2048 .bf16) (x1 : Vec F S1x2048x384 .f32) (x2 : Vec F S1x2048x384 .f32) (x3 : Vec F S1x48x2048 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ owns (c : Thread nD τ) arg8 fullShare (k1_pay1 x1) ∗ owns (c : Thread nD τ) arg9 fullShare (k1_pay2 x2)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (k1_pay4 x0 (k1_pay1 x1) (k1_pay2 x2)) ∗ owns (c : Thread nD τ) arg7 fullShare (k1_pay3 x3) ∗ owns (c : Thread nD τ) arg8 fullShare (k1_pay1 x1) ∗ owns (c : Thread nD τ) arg9 fullShare (k1_pay2 x2)) -∗ K ⟨⟩))
      ⊢ wp frame (wpE (defs₀ (F := F)) Variants.none c none) E (cc1_ffn_in i arg2 harg2 arg3 harg3 arg4 harg4 arg5 harg5 arg6 harg6 arg7 harg7 arg8 harg8 arg9 harg9) K := by
  simp only [cc1_ffn_in_eq_skeleton]; unfold cc1_ffn_in_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%f6, %hf6, H6⟩, ⟨%f7, %hf7, H7⟩, Hk⟩
  obtain rfl := harg2.eq_unread hf0; obtain rfl := harg3.eq_unread hf1; obtain rfl := harg4.eq_unread hf2; obtain rfl := harg5.eq_unread hf3; obtain rfl := harg8.eq_unread hf6; obtain rfl := harg9.eq_unread hf7
  sl_exec (disch := first | sl_exact hc0)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; swap; · iexact H4
    ipureintro
    refine (View.read_writes_full _ _ _ _ _).trans ?_
    show k1_pay4 _ _ _ = k1_pay4 x0 (k1_pay1 x1) (k1_pay2 x2)
    exact (congr (congr (congrArg k1_pay4 ((View.readAt_full _ _ _).trans (Memref.IsWhole.read_unread _ _))) ((View.readAt_full _ _ _).trans (Memref.IsWhole.read_unread _ _))) ((View.readAt_full _ _ _).trans (Memref.IsWhole.read_unread _ _)))
  isplitl [H5]
  · iexists _; isplitr; swap; · iexact H5
    ipureintro
    refine (View.read_writes_full _ _ _ _ _).trans ?_
    show k1_pay3 _ = k1_pay3 x3
    exact (congrArg k1_pay3 ((View.readAt_full _ _ _).trans (Memref.IsWhole.read_unread _ _)))
  isplitl [H6]
  · iexists _; isplitr; · ipureintro; exact harg8.read_unread _
    iexact H6
  · iexists _; isplitr; · ipureintro; exact harg9.read_unread _
    iexact H7

end Cert.Kernel2Ideal.Hand

end
-- ==== Proof.P2Region1.lean ====
module

public import proofs.«01_k».proof.Proof.Gen.Kernel2Ideal.Launch
public import proofs.«01_k».proof.Proof.Gen.Kernel2Ideal.Skeleton
public import proofs.«01_k».proof.Proof.Gen.Kernel2Ideal.Points
public import Idealize.ShloMosaic.Lib.Pipeline.FrameBody
public import Idealize.ShloMosaic.Lib.Pipeline.RegionsLoop
public import Idealize.ShloMosaic.Lib.Pipeline.Value
public import Idealize.ShloMosaic.Lib.Ring
public import Idealize.ShloMosaic.Lib.Tactic
public import Idealize.ShloMosaic.Lib.VecWindow
public import Idealize.ShloMosaic.Lib.WordCmp
public import proofs.«01_k».proof.Proof.Gen.Kernel2Ideal.Regions
public import proofs.«01_k».proof.Proof.P2Run1

@[expose] public section

set_option maxRecDepth 16384

noncomputable section

namespace Cert.Kernel2Ideal.Hand

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → Valuation τ sig (Elt F))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The scratch buffers before point `n`: anything where a weight block starts, and the block's two cast parts elsewhere. -/
def scr1 (c : Dev nD) (n : ℕ) : sProp 𝕄 :=
  if n % 8 = 0 then iprop((∃ d, owns (c : Thread nD τ) (Memref.whole cc1_scratch0) fullShare d) ∗ (∃ d, owns (c : Thread nD τ) (Memref.whole cc1_scratch1) fullShare d))
  else iprop(∃ t' : Fin cfg1.N, ⌜t'.val / 8 = n / 8⌝ ∗ owns (c : Thread nD τ) (Memref.whole cc1_scratch0) fullShare (k1_pay1 (iblk1 V c 1 t')) ∗ owns (c : Thread nD τ) (Memref.whole cc1_scratch1) fullShare (k1_pay2 (iblk1 V c 2 t')))

/-- What the scratch holds after point `t` is what the next point expects. -/
theorem scr1_close (c : Dev nD) (t : Fin cfg1.N) :
    iprop(owns (c : Thread nD τ) (Memref.whole cc1_scratch0) fullShare (k1_pay1 (iblk1 V c 1 t)) ∗ owns (c : Thread nD τ) (Memref.whole cc1_scratch1) fullShare (k1_pay2 (iblk1 V c 2 t)))
      ⊢ scr1 V c (t.val + 1) := by
  unfold scr1
  by_cases h : (t.val + 1) % 8 = 0
  · rw [if_pos h]
    iintro ⟨H0, H1⟩
    isplitl [H0]
    · iexists _; iexact H0
    iexists _; iexact H1
  · rw [if_neg h]
    iintro ⟨H0, H1⟩
    iexists t
    isplitr
    · ipureintro; omega
    isplitl [H0] <;> iassumption

/-- A weight window moves only with the block's number. -/
theorem index1_1 : ∀ t t' : Fin grid1.N, t.val / 8 = t'.val / 8 → ∀ a, win1_1.index t a = win1_1.index t' a := by
  decide +kernel

theorem iblk1_1_eq (c : Dev nD) (t t' : Fin cfg1.N) (h : t.val / 8 = t'.val / 8) : iblk1 V c 1 t = iblk1 V c 1 t' := by
  funext y
  refine congrArg (V c main_arg7) ?_
  funext a
  refine Fin.ext ?_
  have h1 := index1_1 t t' h
  fin_cases a
  · show win1_1.index t 0 + 1 * (y 0).val = win1_1.index t' 0 + 1 * (y 0).val
    rw [h1]
  · show win1_1.index t 1 + 1 * (y 1).val = win1_1.index t' 1 + 1 * (y 1).val
    rw [h1]
  · show win1_1.index t 2 + 1 * (y 2).val = win1_1.index t' 2 + 1 * (y 2).val
    rw [h1]

/-- A weight window moves only with the block's number. -/
theorem index1_2 : ∀ t t' : Fin grid1.N, t.val / 8 = t'.val / 8 → ∀ a, win1_2.index t a = win1_2.index t' a := by
  decide +kernel

theorem iblk1_2_eq (c : Dev nD) (t t' : Fin cfg1.N) (h : t.val / 8 = t'.val / 8) : iblk1 V c 2 t = iblk1 V c 2 t' := by
  funext y
  refine congrArg (V c main_arg7) ?_
  funext a
  refine Fin.ext ?_
  have h1 := index1_2 t t' h
  fin_cases a
  · show win1_2.index t 0 + 1 * (y 0).val = win1_2.index t' 0 + 1 * (y 0).val
    rw [h1]
  · show win1_2.index t 1 + 1 * (y 1).val = win1_2.index t' 1 + 1 * (y 1).val
    rw [h1]
  · show win1_2.index t 2 + 1 * (y 2).val = win1_2.index t' 2 + 1 * (y 2).val
    rw [h1]

/-- The body's branch is taken exactly where a weight block starts. -/
theorem hcond1 : ∀ t : Fin cfg1.N, cond1 (grid1.coords t) ↔ t.val % 8 = 0 :=
  (fun t => by
    have ht : t.val < 8 := lt_of_lt_of_eq t.isLt N_1
    have e1 : (grid1.coords t 1).val = t.val / 1 % 8 := Pipeline.Grid.coords_val t 1 (by decide) rfl
    simp only [cond1, e1]
    word_cmp
   : ∀ t : Fin grid1.N, cond1 (grid1.coords t) ↔ t.val % 8 = 0)

/-- The region's proof data: each array at its entry contents, each input's buffer at its block, each output's at its payload, the scratch as the points leave it. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => k1_pay4 (iblk1 V c 0 t) (k1_pay1 (iblk1 V c 1 t)) (k1_pay2 (iblk1 V c 2 t))
    | ⟨5, _⟩ => k1_pay3 (iblk1 V c 3 t)
  Φ t := iprop(scr1 V c t.val ∗ Pipeline.scopedRestBut (Ix := Unit) (Name := ℕ) (U := UR sig nD τ) (Lvl := ℕ) (Val := Elt F) spec1 c [cc1_scratch0, cc1_scratch1])
  q w := Pipeline.shareOf spec1 w
  owed _ := 0

theorem A1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by
  dsimp only [dat1]
theorem after1_1 (c : Dev nD) (t : Fin cfg1.N) : (dat1 V c).after 1 t = iblk1 V c 1 t := by
  dsimp only [dat1]
theorem after1_2 (c : Dev nD) (t : Fin cfg1.N) : (dat1 V c).after 2 t = iblk1 V c 2 t := by
  dsimp only [dat1]
theorem after1_3 (c : Dev nD) (t : Fin cfg1.N) : (dat1 V c).after 3 t = iblk1 V c 3 t := by
  dsimp only [dat1]
theorem after1_4 (c : Dev nD) (t : Fin cfg1.N) : (dat1 V c).after 4 t = k1_pay4 (iblk1 V c 0 t) (k1_pay1 (iblk1 V c 1 t)) (k1_pay2 (iblk1 V c 2 t)) := by
  dsimp only [dat1]
theorem after1_5 (c : Dev nD) (t : Fin cfg1.N) : (dat1 V c).after 5 t = k1_pay3 (iblk1 V c 3 t) := by
  dsimp only [dat1]
theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A1]; try rfl) t d).trans
    (by unfold Dat.fetched Dat.blockOf iblk1; rw [A1]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A1]; try rfl) t d).trans
    (by unfold Dat.fetched Dat.blockOf iblk1; rw [A1]; try rfl)
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A1]; try rfl) t d).trans
    (by unfold Dat.fetched Dat.blockOf iblk1; rw [A1]; try rfl)
theorem before1_3 (c : Dev nD) (t : Fin cfg1.N) (d) : (dat1 V c).before 3 t d = iblk1 V c 3 t :=
  ((dat1 V c).before_in_eq_fetched 3 rfl (fun _ => rfl) (fun _ _ _ => rfl) (fun t => by rw [after1_3]; unfold Dat.blockOf iblk1; rw [A1]; try rfl) t d).trans
    (by unfold Dat.fetched Dat.blockOf iblk1; rw [A1]; try rfl)
abbrev ms1_0 (t : Fin cfg1.N) : Memref sig .tc .vmem S1024x2048 .bf16 := win1_0.stage (cfg1.slots t 0)
abbrev ms1_1 (t : Fin cfg1.N) : Memref sig .tc .vmem S1x2048x384 .f32 := win1_1.stage (cfg1.slots t 1)
abbrev ms1_2 (t : Fin cfg1.N) : Memref sig .tc .vmem S1x2048x384 .f32 := win1_2.stage (cfg1.slots t 2)
abbrev ms1_3 (t : Fin cfg1.N) : Memref sig .tc .vmem S1x48x2048 .f32 := win1_3.stage (cfg1.slots t 3)
abbrev ms1_4 (t : Fin cfg1.N) : Memref sig .tc .vmem S1024x384 .bf16 := win1_4.stage (cfg1.slots t 4)
abbrev ms1_5 (t : Fin cfg1.N) : Memref sig .tc .vmem S48x2048 .bf16 := win1_5.stage (cfg1.slots t 5)

/-- What the body is given at a point. -/
def pre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))
/-- What the body leaves at a point. -/
def post1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t)
    ∗ owns (c : Thread nD τ) (ms1_5 t) fullShare ((dat1 V c).after 5 t))

set_option maxHeartbeats 4000000 in
/-- The body at any point. -/
theorem sound1 (c : Dev nD) (t : Fin cfg1.N) :
    pre1 V c t ⊢ wp frame (wpE (defs₀ (F := F)) Variants.none c none) Set.univ (bodyAt1 t) (fun _ => post1 V c t) := by
  unfold pre1 post1 bodyAt1
  simp only [before1_0, before1_1, before1_2, before1_3]
  rw [show (dat1 V c).owesAt () t.succ = (dat1 V c).owesAt () t.castSucc from rfl,
    after1_0, after1_1, after1_2, after1_3, after1_4, after1_5]
  rw [show (dat1 V c).Φ t.castSucc = iprop(scr1 V c t.val ∗ Pipeline.scopedRestBut (Ix := Unit) (Name := ℕ) (U := UR sig nD τ) (Lvl := ℕ) (Val := Elt F) spec1 c [cc1_scratch0, cc1_scratch1]) from rfl,
    show (dat1 V c).Φ t.succ = iprop(scr1 V c (t.val + 1) ∗ Pipeline.scopedRestBut (Ix := Unit) (Name := ℕ) (U := UR sig nD τ) (Lvl := ℕ) (Val := Elt F) spec1 c [cc1_scratch0, cc1_scratch1]) from rfl]
  by_cases h0 : t.val % 8 = 0
  · rw [show scr1 V c t.val = _ from if_pos h0]
    iintro ⟨⟨⟨HS0, HS1⟩, Hg⟩, Ho, ⟨%d0, H0⟩, ⟨%d1, H1⟩, ⟨%d2, H2⟩, ⟨%d3, H3⟩, ⟨%d4, H4⟩, ⟨%d5, H5⟩⟩
    iapply (run1A c (grid1.coords t) _ _ _ _ _ _ _ _ _ _ _ _ _ _ _ _ ((hcond1 t).mpr h0) (iblk1 V c 0 t) (iblk1 V c 1 t) (iblk1 V c 2 t) (iblk1 V c 3 t) Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [HS0]; · iexact HS0
    isplitl [HS1]; · iexact HS1
    iintro ⟨H0, H1, H2, H3, H4, H5, HS0, HS1⟩
    isplitl [HS0 HS1 Hg]
    · isplitl [HS0 HS1]
      · iapply (scr1_close V c t)
        isplitl [HS0] <;> iassumption
      iexact Hg
    isplitl [Ho]; · iexact Ho
    isplitl [H0]; · iexact H0
    isplitl [H1]; · iexact H1
    isplitl [H2]; · iexact H2
    isplitl [H3]; · iexact H3
    isplitl [H4]; · iexact H4
    iexact H5
  · rw [show scr1 V c t.val = _ from if_neg h0]
    iintro ⟨⟨⟨%t', %ht', HS0, HS1⟩, Hg⟩, Ho, ⟨%d0, H0⟩, ⟨%d1, H1⟩, ⟨%d2, H2⟩, ⟨%d3, H3⟩, ⟨%d4, H4⟩, ⟨%d5, H5⟩⟩
    rw [iblk1_1_eq V c t' t (by omega), iblk1_2_eq V c t' t (by omega)]
    iapply (run1B c (grid1.coords t) _ _ _ _ _ _ _ _ _ _ _ _ _ _ _ _ (fun h => h0 ((hcond1 t).mp h)) (iblk1 V c 0 t) (iblk1 V c 1 t) (iblk1 V c 2 t) (iblk1 V c 3 t) Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [HS0]; · iexact HS0
    isplitl [HS1]; · iexact HS1
    iintro ⟨H0, H1, H2, H3, H4, H5, HS0, HS1⟩
    isplitl [HS0 HS1 Hg]
    · isplitl [HS0 HS1]
      · iapply (scr1_close V c t)
        isplitl [HS0] <;> iassumption
      iexact Hg
    isplitl [Ho]; · iexact Ho
    isplitl [H0]; · iexact H0
    isplitl [H1]; · iexact H1
    isplitl [H2]; · iexact H2
    isplitl [H3]; · iexact H3
    isplitl [H4]; · iexact H4
    iexact H5

theorem defs₀_row1 (t : Fin cfg1.N) :
    defs₀ (F := F) .tc cfg1.body (cfg1.bodyArgs t (cfg1.slots t)) = bodyAt1 t := by
  unfold defs₀; rw [Defs.onTc_tc]

/-- The pipeline's body obligation, at every point. -/
theorem body1 (c : Dev nD) : BodyObligation (dat1 V c) (defs₀ (F := F)) Variants.none () Set.univ := fun t => by
  rw [bigSep_W1, bigSep_W1, defs₀_row1]
  exact triple_restated (sound1 V c t) rfl .rfl fun _ => .rfl

variable (Vp : (c : Dev nD) → Valuation τ sig (Elt F))
variable (pdats : (p : Fin 4) → (c : Dev nD) → Dat τ (Elt F) Unit ℕ (UR sig nD τ) ℕ (cfgs p) c)

set_option maxHeartbeats 2000000 in
set_option backward.isDefEq.respectTransparency.types false in
/-- The region as a segment: entered with every unscoped buffer at `V`, left with them at `Vp`, the outputs' arrays as its points' write-backs make them. -/
def reg1 (hp : ∀ c, pdats 1 c = dat1 V c) (h4 : ∀ c, Vp c main_v4_0 = (dat1 V c).arrAt 4 cfg1.N) (h5 : ∀ c, Vp c main_v4_1 = (dat1 V c).arrAt 5 cfg1.N)
    (hne : ∀ c (b : Ref sig .tc), b ∉ ([main_v4_0, main_v4_1] : List (Ref sig .tc)) → Vp c b = V c b) :
    Pipeline.RegionSeg (pcfgs (F := F)) adm pdats () defs₀ Variants.none (fun _ => ∅) (fun _ _ => 0) 1 where
  win := launch₀1.win
  block_pos := launch₀1.block_pos
  stage_whole := launch₀1.stage_whole
  K := PEmpty
  osem k := k.elim
  ho := Pipeline.OwnSemFacts.none _
  hbody c := by
    have h := (body1 V c).loose
    rw [← hp c] at h
    exact h
  hwaits := Pipeline.hwaits_of_owed_zero _ _ _ _ (fun _ => ∅) (fun _ _ => 0) 1 fun c _ => by rw [hp c]; rfl
  pre c := iprop(unscopedBufs c (fun b => V c b) ∗ ∃ W, owes (c : Thread nD τ) (0 : CellTallies nD τ sig Unit) W)
  post c := iprop(unscopedBufs c (fun b => Vp c b) ∗ ∃ W, owes (c : Thread nD τ) (0 : CellTallies nD τ sig Unit) W)
  X _ := BI.emp
  Y _ := BI.emp
  Z c := Pipeline.unscopedRest (Ix := Unit) (Name := ℕ) (U := UR sig nD τ) (Lvl := ℕ) spec1 c (fun b => V c b)
  hentry c := by
    rw [Pipeline.ownSems0_none]
    have hsplit := Pipeline.arrays_of_unscopedBufs_shared (p := 1) (pcfgs (F := F)) adm pdats launch₀1.win launch₀1.sharedIn launch₀1.arr_whole c
      (fun w _ => by rw [hp c]; rfl) (fun b => V c b) (fun w => by rw [hp c]; exact A1 V c w)
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · rw [show (pdats 1 c).owesAt () 0 = (dat1 V c).owesAt () 0 from by rw [hp c]]
      unfold Pipeline.Dat.owesAt Pipeline.owesWithin
      icases HO with ⟨%W, HO⟩; iexists W; isplitr; · ipureintro; exact fun _ _ => Or.inl trivial
      iexact HO
    isplitr; · iempintro
    iexact Hrest
  hin c := by
    rw [hp c, show (dat1 V c).Φ 0 = iprop(scr1 V c 0 ∗ Pipeline.scopedRestBut (Ix := Unit) (Name := ℕ) (U := UR sig nD τ) (Lvl := ℕ) (Val := Elt F) spec1 c [cc1_scratch0, cc1_scratch1]) from rfl, show scr1 V c 0 = _ from if_pos rfl]
    have hs := scopedRest1_split (Ix := Unit) (Name := ℕ) (U := UR sig nD τ) (Lvl := ℕ) (Val := Elt F) c
    simp only [owns_whole]
    iintro ⟨-, -, Hr⟩
    ihave H := (Entails.of_eq hs) $$ Hr
    iexact H
  hout c := by
    rw [Pipeline.ownSems0_none, hp c, show (dat1 V c).Φ (Fin.last (Pipeline.pin (pcfgs (F := F)) adm 1).N) = iprop(scr1 V c grid1.N ∗ Pipeline.scopedRestBut (Ix := Unit) (Name := ℕ) (U := UR sig nD τ) (Lvl := ℕ) (Val := Elt F) spec1 c [cc1_scratch0, cc1_scratch1]) from rfl,
      show scr1 V c grid1.N = _ from if_pos (by rw [N_1])]
    have hs := scopedRest1_split (Ix := Unit) (Name := ℕ) (U := UR sig nD τ) (Lvl := ℕ) (Val := Elt F) c
    simp only [owns_whole]
    iintro Hr
    isplitr; · iempintro
    isplitr; · iempintro
    iapply (Entails.of_eq hs.symm)
    iexact Hr
  hexit c := by
    have hjoin := Pipeline.unscopedBufs_of_arrays_shared (p := 1) (pcfgs (F := F)) adm (Ix := Unit) (Name := ℕ) (U := UR sig nD τ) (Lvl := ℕ) launch₀1.win launch₀1.sharedIn launch₀1.arr_whole c
      pdats (fun w _ => by rw [hp c]; rfl) (fun b => V c b) (fun b => Vp c b) ((pdats 1 c).arrAt · cfg1.N)
      (fun w => by
        rw [hp c]
        fin_cases w
        · exact ((dat1 V c).arrAt_in 0 rfl _).trans (hne c main_v3_1 (by decide)).symm
        · exact ((dat1 V c).arrAt_in 1 rfl _).trans (hne c main_arg7 (by decide)).symm
        · exact ((dat1 V c).arrAt_in 2 rfl _).trans (hne c main_arg7 (by decide)).symm
        · exact ((dat1 V c).arrAt_in 3 rfl _).trans (hne c main_arg8 (by decide)).symm
        · exact (h4 c).symm
        · exact (h5 c).symm
        )
      (fun b hb => hne c b fun h => hb (by
        simp only [List.mem_cons, List.not_mem_nil, _root_.or_false] at h
        rcases h with h | h
        · exact h ▸ Finset.mem_image.mpr ⟨4, Finset.mem_univ _, rfl⟩
        · exact h ▸ Finset.mem_image.mpr ⟨5, Finset.mem_univ _, rfl⟩))
    have hO : (pdats 1 c).owesAt () (Fin.last cfg1.N) ⊢ (iprop(∃ W, owes (c : Thread nD τ) (0 : CellTallies nD τ sig Unit) W) : sProp 𝕄) := by
      rw [hp c]
      unfold Pipeline.Dat.owesAt Pipeline.owesWithin
      iintro ⟨%W, -, HO⟩; iexists W; iexact HO
    iintro ⟨Ha, HO, -, Hrest⟩
    imodintro
    isplitl [Ha Hrest]
    · iapply hjoin; isplitl [Ha] <;> iassumption
    iapply hO; iexact HO

end Cert.Kernel2Ideal.Hand

end
-- ==== Proof.P2Run2.lean ====
module

public import proofs.«01_k».proof.Proof.Gen.Kernel2Ideal.Launch
public import proofs.«01_k».proof.Proof.Gen.Kernel2Ideal.Skeleton
public import proofs.«01_k».proof.Proof.Gen.Kernel2Ideal.Points
public import Idealize.ShloMosaic.Lib.Pipeline.FrameBody
public import Idealize.ShloMosaic.Lib.Pipeline.RegionsLoop
public import Idealize.ShloMosaic.Lib.Pipeline.Value
public import Idealize.ShloMosaic.Lib.Ring
public import Idealize.ShloMosaic.Lib.Tactic
public import Idealize.ShloMosaic.Lib.VecWindow
public import Idealize.ShloMosaic.Lib.WordCmp

@[expose] public section

set_option maxRecDepth 16384

noncomputable section

namespace Cert.Kernel2Ideal.Hand

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The condition of the body's branch, as the program states it. -/
abbrev cond2 (i : grid2.Coords) : Prop := (Scalar.cmpi .ne (Scalar.extui (Scalar.cmpi .eq (BitVec.ofNat 32 (i 1).val) 0#32)) 0#32) = 1#1

set_option maxHeartbeats 4000000 in
/-- The body where it casts the two weight blocks first: from any scratch contents, every output ends at its payload and the scratch at the cast blocks. -/
theorem run2A (c : Dev nD) (i : grid2.Coords) (arg2 : Memref sig .tc .vmem S1024x2048 .bf16) (harg2 : arg2.IsWhole) (arg3 : Memref sig .tc .vmem S1x2048x512 .f32) (harg3 : arg3.IsWhole) (arg4 : Memref sig .tc .vmem S1x2048x512 .f32) (harg4 : arg4.IsWhole) (arg5 : Memref sig .tc .vmem S1x64x2048 .f32) (harg5 : arg5.IsWhole) (arg6 : Memref sig .tc .vmem S1024x512 .bf16) (harg6 : arg6.IsWhole) (arg7 : Memref sig .tc .vmem S64x2048 .bf16) (harg7 : arg7.IsWhole) (arg8 : Memref sig .tc .vmem S2048x512 .bf16) (harg8 : arg8.IsWhole) (arg9 : Memref sig .tc .vmem S2048x512 .bf16) (harg9 : arg9.IsWhole) (hc0 : cond2 i)
    (x0 : Vec F S1024x2048 .bf16) (x1 : Vec F S1x2048x512 .f32) (x2 : Vec F S1x2048x512 .f32) (x3 : Vec F S1x64x2048 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (k2_pay4 x0 (k2_pay1 x1) (k2_pay2 x2)) ∗ owns (c : Thread nD τ) arg7 fullShare (k2_pay3 x3) ∗ owns (c : Thread nD τ) arg8 fullShare (k2_pay1 x1) ∗ owns (c : Thread nD τ) arg9 fullShare (k2_pay2 x2)) -∗ K ⟨⟩))
      ⊢ wp frame (wpE (defs₀ (F := F)) Variants.none c none) E (cc2_ffn_in i arg2 harg2 arg3 harg3 arg4 harg4 arg5 harg5 arg6 harg6 arg7 harg7 arg8 harg8 arg9 harg9) K := by
  simp only [cc2_ffn_in_eq_skeleton]; unfold cc2_ffn_in_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, Hk⟩
  obtain rfl := harg2.eq_unread hf0; obtain rfl := harg3.eq_unread hf1; obtain rfl := harg4.eq_unread hf2; obtain rfl := harg5.eq_unread hf3
  sl_exec (disch := first | sl_exact hc0)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; swap; · iexact H4
    ipureintro
    refine (View.read_writes_full _ _ _ _ _).trans ?_
    show k2_pay4 _ _ _ = k2_pay4 x0 (k2_pay1 x1) (k2_pay2 x2)
    exact (congr (congr (congrArg k2_pay4 ((View.readAt_full _ _ _).trans (Memref.IsWhole.read_unread _ _))) ((View.readCov_full _ _ _ _ _).trans (congrArg k2_pay1 ((View.readAt_full _ _ _).trans (Memref.IsWhole.read_unread _ _))))) ((View.readCov_full _ _ _ _ _).trans (congrArg k2_pay2 ((View.readAt_full _ _ _).trans (Memref.IsWhole.read_unread _ _)))))
  isplitl [H5]
  · iexists _; isplitr; swap; · iexact H5
    ipureintro
    refine (View.read_writes_full _ _ _ _ _).trans ?_
    show k2_pay3 _ = k2_pay3 x3
    exact (congrArg k2_pay3 ((View.readAt_full _ _ _).trans (Memref.IsWhole.read_unread _ _)))
  isplitl [H6]
  · iexists _; isplitr; swap; · iexact H6
    ipureintro
    refine (View.read_writes_full _ _ _ _ _).trans ?_
    show k2_pay1 _ = k2_pay1 x1
    exact (congrArg k2_pay1 ((View.readAt_full _ _ _).trans (Memref.IsWhole.read_unread _ _)))
  · iexists _; isplitr; swap; · iexact H7
    ipureintro
    refine (View.read_writes_full _ _ _ _ _).trans ?_
    show k2_pay2 _ = k2_pay2 x2
    exact (congrArg k2_pay2 ((View.readAt_full _ _ _).trans (Memref.IsWhole.read_unread _ _)))

set_option maxHeartbeats 4000000 in
/-- The body where the scratch already holds the two cast blocks: every output ends at its payload and the scratch stays. -/
theorem run2B (c : Dev nD) (i : grid2.Coords) (arg2 : Memref sig .tc .vmem S1024x2048 .bf16) (harg2 : arg2.IsWhole) (arg3 : Memref sig .tc .vmem S1x2048x512 .f32) (harg3 : arg3.IsWhole) (arg4 : Memref sig .tc .vmem S1x2048x512 .f32) (harg4 : arg4.IsWhole) (arg5 : Memref sig .tc .vmem S1x64x2048 .f32) (harg5 : arg5.IsWhole) (arg6 : Memref sig .tc .vmem S1024x512 .bf16) (harg6 : arg6.IsWhole) (arg7 : Memref sig .tc .vmem S64x2048 .bf16) (harg7 : arg7.IsWhole) (arg8 : Memref sig .tc .vmem S2048x512 .bf16) (harg8 : arg8.IsWhole) (arg9 : Memref sig .tc .vmem S2048x512 .bf16) (harg9 : arg9.IsWhole) (hc0 : ¬cond2 i)
    (x0 : Vec F S1024x2048 .bf16) (x1 : Vec F S1x2048x512 .f32) (x2 : Vec F S1x2048x512 .f32) (x3 : Vec F S1x64x2048 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ owns (c : Thread nD τ) arg8 fullShare (k2_pay1 x1) ∗ owns (c : Thread nD τ) arg9 fullShare (k2_pay2 x2)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (k2_pay4 x0 (k2_pay1 x1) (k2_pay2 x2)) ∗ owns (c : Thread nD τ) arg7 fullShare (k2_pay3 x3) ∗ owns (c : Thread nD τ) arg8 fullShare (k2_pay1 x1) ∗ owns (c : Thread nD τ) arg9 fullShare (k2_pay2 x2)) -∗ K ⟨⟩))
      ⊢ wp frame (wpE (defs₀ (F := F)) Variants.none c none) E (cc2_ffn_in i arg2 harg2 arg3 harg3 arg4 harg4 arg5 harg5 arg6 harg6 arg7 harg7 arg8 harg8 arg9 harg9) K := by
  simp only [cc2_ffn_in_eq_skeleton]; unfold cc2_ffn_in_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%f6, %hf6, H6⟩, ⟨%f7, %hf7, H7⟩, Hk⟩
  obtain rfl := harg2.eq_unread hf0; obtain rfl := harg3.eq_unread hf1; obtain rfl := harg4.eq_unread hf2; obtain rfl := harg5.eq_unread hf3; obtain rfl := harg8.eq_unread hf6; obtain rfl := harg9.eq_unread hf7
  sl_exec (disch := first | sl_exact hc0)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; swap; · iexact H4
    ipureintro
    refine (View.read_writes_full _ _ _ _ _).trans ?_
    show k2_pay4 _ _ _ = k2_pay4 x0 (k2_pay1 x1) (k2_pay2 x2)
    exact (congr (congr (congrArg k2_pay4 ((View.readAt_full _ _ _).trans (Memref.IsWhole.read_unread _ _))) ((View.readAt_full _ _ _).trans (Memref.IsWhole.read_unread _ _))) ((View.readAt_full _ _ _).trans (Memref.IsWhole.read_unread _ _)))
  isplitl [H5]
  · iexists _; isplitr; swap; · iexact H5
    ipureintro
    refine (View.read_writes_full _ _ _ _ _).trans ?_
    show k2_pay3 _ = k2_pay3 x3
    exact (congrArg k2_pay3 ((View.readAt_full _ _ _).trans (Memref.IsWhole.read_unread _ _)))
  isplitl [H6]
  · iexists _; isplitr; · ipureintro; exact harg8.read_unread _
    iexact H6
  · iexists _; isplitr; · ipureintro; exact harg9.read_unread _
    iexact H7

end Cert.Kernel2Ideal.Hand

end
-- ==== Proof.P2Region2.lean ====
module

public import proofs.«01_k».proof.Proof.Gen.Kernel2Ideal.Launch
public import proofs.«01_k».proof.Proof.Gen.Kernel2Ideal.Skeleton
public import proofs.«01_k».proof.Proof.Gen.Kernel2Ideal.Points
public import Idealize.ShloMosaic.Lib.Pipeline.FrameBody
public import Idealize.ShloMosaic.Lib.Pipeline.RegionsLoop
public import Idealize.ShloMosaic.Lib.Pipeline.Value
public import Idealize.ShloMosaic.Lib.Ring
public import Idealize.ShloMosaic.Lib.Tactic
public import Idealize.ShloMosaic.Lib.VecWindow
public import Idealize.ShloMosaic.Lib.WordCmp
public import proofs.«01_k».proof.Proof.Gen.Kernel2Ideal.Regions
public import proofs.«01_k».proof.Proof.P2Run2

@[expose] public section

set_option maxRecDepth 16384

noncomputable section

namespace Cert.Kernel2Ideal.Hand

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → Valuation τ sig (Elt F))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The scratch buffers before point `n`: anything where a weight block starts, and the block's two cast parts elsewhere. -/
def scr2 (c : Dev nD) (n : ℕ) : sProp 𝕄 :=
  if n % 8 = 0 then iprop((∃ d, owns (c : Thread nD τ) (Memref.whole cc2_scratch0) fullShare d) ∗ (∃ d, owns (c : Thread nD τ) (Memref.whole cc2_scratch1) fullShare d))
  else iprop(∃ t' : Fin cfg2.N, ⌜t'.val / 8 = n / 8⌝ ∗ owns (c : Thread nD τ) (Memref.whole cc2_scratch0) fullShare (k2_pay1 (iblk2 V c 1 t')) ∗ owns (c : Thread nD τ) (Memref.whole cc2_scratch1) fullShare (k2_pay2 (iblk2 V c 2 t')))

/-- What the scratch holds after point `t` is what the next point expects. -/
theorem scr2_close (c : Dev nD) (t : Fin cfg2.N) :
    iprop(owns (c : Thread nD τ) (Memref.whole cc2_scratch0) fullShare (k2_pay1 (iblk2 V c 1 t)) ∗ owns (c : Thread nD τ) (Memref.whole cc2_scratch1) fullShare (k2_pay2 (iblk2 V c 2 t)))
      ⊢ scr2 V c (t.val + 1) := by
  unfold scr2
  by_cases h : (t.val + 1) % 8 = 0
  · rw [if_pos h]
    iintro ⟨H0, H1⟩
    isplitl [H0]
    · iexists _; iexact H0
    iexists _; iexact H1
  · rw [if_neg h]
    iintro ⟨H0, H1⟩
    iexists t
    isplitr
    · ipureintro; omega
    isplitl [H0] <;> iassumption

/-- A weight window moves only with the block's number. -/
theorem index2_1 : ∀ t t' : Fin grid2.N, t.val / 8 = t'.val / 8 → ∀ a, win2_1.index t a = win2_1.index t' a := by
  decide +kernel

theorem iblk2_1_eq (c : Dev nD) (t t' : Fin cfg2.N) (h : t.val / 8 = t'.val / 8) : iblk2 V c 1 t = iblk2 V c 1 t' := by
  funext y
  refine congrArg (V c main_arg7) ?_
  funext a
  refine Fin.ext ?_
  have h1 := index2_1 t t' h
  fin_cases a
  · show win2_1.index t 0 + 1 * (y 0).val = win2_1.index t' 0 + 1 * (y 0).val
    rw [h1]
  · show win2_1.index t 1 + 1 * (y 1).val = win2_1.index t' 1 + 1 * (y 1).val
    rw [h1]
  · show win2_1.index t 2 + 1 * (y 2).val = win2_1.index t' 2 + 1 * (y 2).val
    rw [h1]

/-- A weight window moves only with the block's number. -/
theorem index2_2 : ∀ t t' : Fin grid2.N, t.val / 8 = t'.val / 8 → ∀ a, win2_2.index t a = win2_2.index t' a := by
  decide +kernel

theorem iblk2_2_eq (c : Dev nD) (t t' : Fin cfg2.N) (h : t.val / 8 = t'.val / 8) : iblk2 V c 2 t = iblk2 V c 2 t' := by
  funext y
  refine congrArg (V c main_arg7) ?_
  funext a
  refine Fin.ext ?_
  have h1 := index2_2 t t' h
  fin_cases a
  · show win2_2.index t 0 + 1 * (y 0).val = win2_2.index t' 0 + 1 * (y 0).val
    rw [h1]
  · show win2_2.index t 1 + 1 * (y 1).val = win2_2.index t' 1 + 1 * (y 1).val
    rw [h1]
  · show win2_2.index t 2 + 1 * (y 2).val = win2_2.index t' 2 + 1 * (y 2).val
    rw [h1]

/-- The body's branch is taken exactly where a weight block starts. -/
theorem hcond2 : ∀ t : Fin cfg2.N, cond2 (grid2.coords t) ↔ t.val % 8 = 0 :=
  (fun t => by
    have ht : t.val < 80 := lt_of_lt_of_eq t.isLt N_2
    have e1 : (grid2.coords t 1).val = t.val / 1 % 8 := Pipeline.Grid.coords_val t 1 (by decide) rfl
    simp only [cond2, e1]
    word_cmp
   : ∀ t : Fin grid2.N, cond2 (grid2.coords t) ↔ t.val % 8 = 0)

/-- The region's proof data: each array at its entry contents, each input's buffer at its block, each output's at its payload, the scratch as the points leave it. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => k2_pay4 (iblk2 V c 0 t) (k2_pay1 (iblk2 V c 1 t)) (k2_pay2 (iblk2 V c 2 t))
    | ⟨5, _⟩ => k2_pay3 (iblk2 V c 3 t)
  Φ t := iprop(scr2 V c t.val ∗ Pipeline.scopedRestBut (Ix := Unit) (Name := ℕ) (U := UR sig nD τ) (Lvl := ℕ) (Val := Elt F) spec2 c [cc2_scratch0, cc2_scratch1])
  q w := Pipeline.shareOf spec2 w
  owed _ := 0

theorem A2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by
  dsimp only [dat2]
theorem after2_1 (c : Dev nD) (t : Fin cfg2.N) : (dat2 V c).after 1 t = iblk2 V c 1 t := by
  dsimp only [dat2]
theorem after2_2 (c : Dev nD) (t : Fin cfg2.N) : (dat2 V c).after 2 t = iblk2 V c 2 t := by
  dsimp only [dat2]
theorem after2_3 (c : Dev nD) (t : Fin cfg2.N) : (dat2 V c).after 3 t = iblk2 V c 3 t := by
  dsimp only [dat2]
theorem after2_4 (c : Dev nD) (t : Fin cfg2.N) : (dat2 V c).after 4 t = k2_pay4 (iblk2 V c 0 t) (k2_pay1 (iblk2 V c 1 t)) (k2_pay2 (iblk2 V c 2 t)) := by
  dsimp only [dat2]
theorem after2_5 (c : Dev nD) (t : Fin cfg2.N) : (dat2 V c).after 5 t = k2_pay3 (iblk2 V c 3 t) := by
  dsimp only [dat2]
theorem before2_0 (c : Dev nD) (t : Fin cfg2.N) (d) : (dat2 V c).before 0 t d = iblk2 V c 0 t :=
  ((dat2 V c).before_in_eq_fetched 0 rfl (fun _ => rfl) (fun _ _ _ => rfl) (fun t => by rw [after2_0]; unfold Dat.blockOf iblk2; rw [A2]; try rfl) t d).trans
    (by unfold Dat.fetched Dat.blockOf iblk2; rw [A2]; try rfl)
theorem before2_1 (c : Dev nD) (t : Fin cfg2.N) (d) : (dat2 V c).before 1 t d = iblk2 V c 1 t :=
  ((dat2 V c).before_in_eq_fetched 1 rfl (fun _ => rfl) (fun _ _ _ => rfl) (fun t => by rw [after2_1]; unfold Dat.blockOf iblk2; rw [A2]; try rfl) t d).trans
    (by unfold Dat.fetched Dat.blockOf iblk2; rw [A2]; try rfl)
theorem before2_2 (c : Dev nD) (t : Fin cfg2.N) (d) : (dat2 V c).before 2 t d = iblk2 V c 2 t :=
  ((dat2 V c).before_in_eq_fetched 2 rfl (fun _ => rfl) (fun _ _ _ => rfl) (fun t => by rw [after2_2]; unfold Dat.blockOf iblk2; rw [A2]; try rfl) t d).trans
    (by unfold Dat.fetched Dat.blockOf iblk2; rw [A2]; try rfl)
theorem before2_3 (c : Dev nD) (t : Fin cfg2.N) (d) : (dat2 V c).before 3 t d = iblk2 V c 3 t :=
  ((dat2 V c).before_in_eq_fetched 3 rfl (fun _ => rfl) (fun _ _ _ => rfl) (fun t => by rw [after2_3]; unfold Dat.blockOf iblk2; rw [A2]; try rfl) t d).trans
    (by unfold Dat.fetched Dat.blockOf iblk2; rw [A2]; try rfl)
abbrev ms2_0 (t : Fin cfg2.N) : Memref sig .tc .vmem S1024x2048 .bf16 := win2_0.stage (cfg2.slots t 0)
abbrev ms2_1 (t : Fin cfg2.N) : Memref sig .tc .vmem S1x2048x512 .f32 := win2_1.stage (cfg2.slots t 1)
abbrev ms2_2 (t : Fin cfg2.N) : Memref sig .tc .vmem S1x2048x512 .f32 := win2_2.stage (cfg2.slots t 2)
abbrev ms2_3 (t : Fin cfg2.N) : Memref sig .tc .vmem S1x64x2048 .f32 := win2_3.stage (cfg2.slots t 3)
abbrev ms2_4 (t : Fin cfg2.N) : Memref sig .tc .vmem S1024x512 .bf16 := win2_4.stage (cfg2.slots t 4)
abbrev ms2_5 (t : Fin cfg2.N) : Memref sig .tc .vmem S64x2048 .bf16 := win2_5.stage (cfg2.slots t 5)

/-- What the body is given at a point. -/
def pre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d)))
/-- What the body leaves at a point. -/
def post2 (c : Dev nD) (t : Fin cfg2.N) : sProp 𝕄 :=
  iprop((dat2 V c).Φ t.succ ∗ (dat2 V c).owesAt () t.succ
    ∗ owns (c : Thread nD τ) (ms2_0 t) fullShare ((dat2 V c).after 0 t)
    ∗ owns (c : Thread nD τ) (ms2_1 t) fullShare ((dat2 V c).after 1 t)
    ∗ owns (c : Thread nD τ) (ms2_2 t) fullShare ((dat2 V c).after 2 t)
    ∗ owns (c : Thread nD τ) (ms2_3 t) fullShare ((dat2 V c).after 3 t)
    ∗ owns (c : Thread nD τ) (ms2_4 t) fullShare ((dat2 V c).after 4 t)
    ∗ owns (c : Thread nD τ) (ms2_5 t) fullShare ((dat2 V c).after 5 t))

set_option maxHeartbeats 4000000 in
/-- The body at any point. -/
theorem sound2 (c : Dev nD) (t : Fin cfg2.N) :
    pre2 V c t ⊢ wp frame (wpE (defs₀ (F := F)) Variants.none c none) Set.univ (bodyAt2 t) (fun _ => post2 V c t) := by
  unfold pre2 post2 bodyAt2
  simp only [before2_0, before2_1, before2_2, before2_3]
  rw [show (dat2 V c).owesAt () t.succ = (dat2 V c).owesAt () t.castSucc from rfl,
    after2_0, after2_1, after2_2, after2_3, after2_4, after2_5]
  rw [show (dat2 V c).Φ t.castSucc = iprop(scr2 V c t.val ∗ Pipeline.scopedRestBut (Ix := Unit) (Name := ℕ) (U := UR sig nD τ) (Lvl := ℕ) (Val := Elt F) spec2 c [cc2_scratch0, cc2_scratch1]) from rfl,
    show (dat2 V c).Φ t.succ = iprop(scr2 V c (t.val + 1) ∗ Pipeline.scopedRestBut (Ix := Unit) (Name := ℕ) (U := UR sig nD τ) (Lvl := ℕ) (Val := Elt F) spec2 c [cc2_scratch0, cc2_scratch1]) from rfl]
  by_cases h0 : t.val % 8 = 0
  · rw [show scr2 V c t.val = _ from if_pos h0]
    iintro ⟨⟨⟨HS0, HS1⟩, Hg⟩, Ho, ⟨%d0, H0⟩, ⟨%d1, H1⟩, ⟨%d2, H2⟩, ⟨%d3, H3⟩, ⟨%d4, H4⟩, ⟨%d5, H5⟩⟩
    iapply (run2A c (grid2.coords t) _ _ _ _ _ _ _ _ _ _ _ _ _ _ _ _ ((hcond2 t).mpr h0) (iblk2 V c 0 t) (iblk2 V c 1 t) (iblk2 V c 2 t) (iblk2 V c 3 t) Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [HS0]; · iexact HS0
    isplitl [HS1]; · iexact HS1
    iintro ⟨H0, H1, H2, H3, H4, H5, HS0, HS1⟩
    isplitl [HS0 HS1 Hg]
    · isplitl [HS0 HS1]
      · iapply (scr2_close V c t)
        isplitl [HS0] <;> iassumption
      iexact Hg
    isplitl [Ho]; · iexact Ho
    isplitl [H0]; · iexact H0
    isplitl [H1]; · iexact H1
    isplitl [H2]; · iexact H2
    isplitl [H3]; · iexact H3
    isplitl [H4]; · iexact H4
    iexact H5
  · rw [show scr2 V c t.val = _ from if_neg h0]
    iintro ⟨⟨⟨%t', %ht', HS0, HS1⟩, Hg⟩, Ho, ⟨%d0, H0⟩, ⟨%d1, H1⟩, ⟨%d2, H2⟩, ⟨%d3, H3⟩, ⟨%d4, H4⟩, ⟨%d5, H5⟩⟩
    rw [iblk2_1_eq V c t' t (by omega), iblk2_2_eq V c t' t (by omega)]
    iapply (run2B c (grid2.coords t) _ _ _ _ _ _ _ _ _ _ _ _ _ _ _ _ (fun h => h0 ((hcond2 t).mp h)) (iblk2 V c 0 t) (iblk2 V c 1 t) (iblk2 V c 2 t) (iblk2 V c 3 t) Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [HS0]; · iexact HS0
    isplitl [HS1]; · iexact HS1
    iintro ⟨H0, H1, H2, H3, H4, H5, HS0, HS1⟩
    isplitl [HS0 HS1 Hg]
    · isplitl [HS0 HS1]
      · iapply (scr2_close V c t)
        isplitl [HS0] <;> iassumption
      iexact Hg
    isplitl [Ho]; · iexact Ho
    isplitl [H0]; · iexact H0
    isplitl [H1]; · iexact H1
    isplitl [H2]; · iexact H2
    isplitl [H3]; · iexact H3
    isplitl [H4]; · iexact H4
    iexact H5

theorem defs₀_row2 (t : Fin cfg2.N) :
    defs₀ (F := F) .tc cfg2.body (cfg2.bodyArgs t (cfg2.slots t)) = bodyAt2 t := by
  unfold defs₀; rw [Defs.onTc_tc]

/-- The pipeline's body obligation, at every point. -/
theorem body2 (c : Dev nD) : BodyObligation (dat2 V c) (defs₀ (F := F)) Variants.none () Set.univ := fun t => by
  rw [bigSep_W2, bigSep_W2, defs₀_row2]
  exact triple_restated (sound2 V c t) rfl .rfl fun _ => .rfl

variable (Vp : (c : Dev nD) → Valuation τ sig (Elt F))
variable (pdats : (p : Fin 4) → (c : Dev nD) → Dat τ (Elt F) Unit ℕ (UR sig nD τ) ℕ (cfgs p) c)

set_option maxHeartbeats 2000000 in
set_option backward.isDefEq.respectTransparency.types false in
/-- The region as a segment: entered with every unscoped buffer at `V`, left with them at `Vp`, the outputs' arrays as its points' write-backs make them. -/
def reg2 (hp : ∀ c, pdats 2 c = dat2 V c) (h4 : ∀ c, Vp c main_v5_0 = (dat2 V c).arrAt 4 cfg2.N) (h5 : ∀ c, Vp c main_v5_1 = (dat2 V c).arrAt 5 cfg2.N)
    (hne : ∀ c (b : Ref sig .tc), b ∉ ([main_v5_0, main_v5_1] : List (Ref sig .tc)) → Vp c b = V c b) :
    Pipeline.RegionSeg (pcfgs (F := F)) adm pdats () defs₀ Variants.none (fun _ => ∅) (fun _ _ => 0) 2 where
  win := launch₀2.win
  block_pos := launch₀2.block_pos
  stage_whole := launch₀2.stage_whole
  K := PEmpty
  osem k := k.elim
  ho := Pipeline.OwnSemFacts.none _
  hbody c := by
    have h := (body2 V c).loose
    rw [← hp c] at h
    exact h
  hwaits := Pipeline.hwaits_of_owed_zero _ _ _ _ (fun _ => ∅) (fun _ _ => 0) 2 fun c _ => by rw [hp c]; rfl
  pre c := iprop(unscopedBufs c (fun b => V c b) ∗ ∃ W, owes (c : Thread nD τ) (0 : CellTallies nD τ sig Unit) W)
  post c := iprop(unscopedBufs c (fun b => Vp c b) ∗ ∃ W, owes (c : Thread nD τ) (0 : CellTallies nD τ sig Unit) W)
  X _ := BI.emp
  Y _ := BI.emp
  Z c := Pipeline.unscopedRest (Ix := Unit) (Name := ℕ) (U := UR sig nD τ) (Lvl := ℕ) spec2 c (fun b => V c b)
  hentry c := by
    rw [Pipeline.ownSems0_none]
    have hsplit := Pipeline.arrays_of_unscopedBufs_shared (p := 2) (pcfgs (F := F)) adm pdats launch₀2.win launch₀2.sharedIn launch₀2.arr_whole c
      (fun w _ => by rw [hp c]; rfl) (fun b => V c b) (fun w => by rw [hp c]; exact A2 V c w)
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · rw [show (pdats 2 c).owesAt () 0 = (dat2 V c).owesAt () 0 from by rw [hp c]]
      unfold Pipeline.Dat.owesAt Pipeline.owesWithin
      icases HO with ⟨%W, HO⟩; iexists W; isplitr; · ipureintro; exact fun _ _ => Or.inl trivial
      iexact HO
    isplitr; · iempintro
    iexact Hrest
  hin c := by
    rw [hp c, show (dat2 V c).Φ 0 = iprop(scr2 V c 0 ∗ Pipeline.scopedRestBut (Ix := Unit) (Name := ℕ) (U := UR sig nD τ) (Lvl := ℕ) (Val := Elt F) spec2 c [cc2_scratch0, cc2_scratch1]) from rfl, show scr2 V c 0 = _ from if_pos rfl]
    have hs := scopedRest2_split (Ix := Unit) (Name := ℕ) (U := UR sig nD τ) (Lvl := ℕ) (Val := Elt F) c
    simp only [owns_whole]
    iintro ⟨-, -, Hr⟩
    ihave H := (Entails.of_eq hs) $$ Hr
    iexact H
  hout c := by
    rw [Pipeline.ownSems0_none, hp c, show (dat2 V c).Φ (Fin.last (Pipeline.pin (pcfgs (F := F)) adm 2).N) = iprop(scr2 V c grid2.N ∗ Pipeline.scopedRestBut (Ix := Unit) (Name := ℕ) (U := UR sig nD τ) (Lvl := ℕ) (Val := Elt F) spec2 c [cc2_scratch0, cc2_scratch1]) from rfl,
      show scr2 V c grid2.N = _ from if_pos (by rw [N_2])]
    have hs := scopedRest2_split (Ix := Unit) (Name := ℕ) (U := UR sig nD τ) (Lvl := ℕ) (Val := Elt F) c
    simp only [owns_whole]
    iintro Hr
    isplitr; · iempintro
    isplitr; · iempintro
    iapply (Entails.of_eq hs.symm)
    iexact Hr
  hexit c := by
    have hjoin := Pipeline.unscopedBufs_of_arrays_shared (p := 2) (pcfgs (F := F)) adm (Ix := Unit) (Name := ℕ) (U := UR sig nD τ) (Lvl := ℕ) launch₀2.win launch₀2.sharedIn launch₀2.arr_whole c
      pdats (fun w _ => by rw [hp c]; rfl) (fun b => V c b) (fun b => Vp c b) ((pdats 2 c).arrAt · cfg2.N)
      (fun w => by
        rw [hp c]
        fin_cases w
        · exact ((dat2 V c).arrAt_in 0 rfl _).trans (hne c main_v3_1 (by decide)).symm
        · exact ((dat2 V c).arrAt_in 1 rfl _).trans (hne c main_arg7 (by decide)).symm
        · exact ((dat2 V c).arrAt_in 2 rfl _).trans (hne c main_arg7 (by decide)).symm
        · exact ((dat2 V c).arrAt_in 3 rfl _).trans (hne c main_arg8 (by decide)).symm
        · exact (h4 c).symm
        · exact (h5 c).symm
        )
      (fun b hb => hne c b fun h => hb (by
        simp only [List.mem_cons, List.not_mem_nil, _root_.or_false] at h
        rcases h with h | h
        · exact h ▸ Finset.mem_image.mpr ⟨4, Finset.mem_univ _, rfl⟩
        · exact h ▸ Finset.mem_image.mpr ⟨5, Finset.mem_univ _, rfl⟩))
    have hO : (pdats 2 c).owesAt () (Fin.last cfg2.N) ⊢ (iprop(∃ W, owes (c : Thread nD τ) (0 : CellTallies nD τ sig Unit) W) : sProp 𝕄) := by
      rw [hp c]
      unfold Pipeline.Dat.owesAt Pipeline.owesWithin
      iintro ⟨%W, -, HO⟩; iexists W; iexact HO
    iintro ⟨Ha, HO, -, Hrest⟩
    imodintro
    isplitl [Ha Hrest]
    · iapply hjoin; isplitl [Ha] <;> iassumption
    iapply hO; iexact HO

end Cert.Kernel2Ideal.Hand

end
-- ==== Proof.P2Run3.lean ====
module

public import proofs.«01_k».proof.Proof.Gen.Kernel2Ideal.Launch
public import proofs.«01_k».proof.Proof.Gen.Kernel2Ideal.Skeleton
public import proofs.«01_k».proof.Proof.Gen.Kernel2Ideal.Points
public import Idealize.ShloMosaic.Lib.Pipeline.FrameBody
public import Idealize.ShloMosaic.Lib.Pipeline.RegionsLoop
public import Idealize.ShloMosaic.Lib.Pipeline.Value
public import Idealize.ShloMosaic.Lib.Ring
public import Idealize.ShloMosaic.Lib.Tactic
public import Idealize.ShloMosaic.Lib.VecWindow
public import Idealize.ShloMosaic.Lib.WordCmp

@[expose] public section

set_option maxRecDepth 16384

noncomputable section

namespace Cert.Kernel2Ideal.Hand

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body: every input stays and the output ends at its payload. -/
theorem run3 (c : Dev nD) (i : grid3.Coords) (arg2 : Memref sig .tc .vmem S512x1024 .f32) (harg2 : arg2.IsWhole) (arg3 : Memref sig .tc .vmem S512x5120 .bf16) (harg3 : arg3.IsWhole) (arg4 : Memref sig .tc .vmem S512x384 .bf16) (harg4 : arg4.IsWhole) (arg5 : Memref sig .tc .vmem S1x5120x1024 .bf16) (harg5 : arg5.IsWhole) (arg6 : Memref sig .tc .vmem S1x384x1024 .bf16) (harg6 : arg6.IsWhole) (arg7 : Memref sig .tc .vmem S512x1024 .f32) (harg7 : arg7.IsWhole)
    (x0 : Vec F S512x1024 .f32) (x1 : Vec F S512x5120 .bf16) (x2 : Vec F S512x384 .bf16) (x3 : Vec F S1x5120x1024 .bf16) (x4 : Vec F S1x384x1024 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (k3_pay1 x3 x4 x1 x2 x0)) -∗ K ⟨⟩))
      ⊢ wp frame (wpE (defs₀ (F := F)) Variants.none c none) E (cc3_matmul_residual i arg2 harg2 arg3 harg3 arg4 harg4 arg5 harg5 arg6 harg6 arg7 harg7) K := by
  simp only [cc3_matmul_residual_eq_skeleton]; unfold cc3_matmul_residual_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  obtain rfl := harg2.eq_unread hf0; obtain rfl := harg3.eq_unread hf1; obtain rfl := harg4.eq_unread hf2; obtain rfl := harg5.eq_unread hf3; obtain rfl := harg6.eq_unread hf4
  sl_exec
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  · iexists _; isplitr; swap; · iexact H5
    ipureintro
    refine (View.read_writes_full _ _ _ _ _).trans ?_
    show k3_pay1 _ _ _ _ _ = k3_pay1 x3 x4 x1 x2 x0
    exact (congr (congr (congr (congr (congrArg k3_pay1 ((View.readAt_full _ _ _).trans (Memref.IsWhole.read_unread _ _))) ((View.readAt_full _ _ _).trans (Memref.IsWhole.read_unread _ _))) ((View.readAt_full _ _ _).trans (Memref.IsWhole.read_unread _ _))) ((View.readAt_full _ _ _).trans (Memref.IsWhole.read_unread _ _))) ((View.readAt_full _ _ _).trans (Memref.IsWhole.read_unread _ _)))

end Cert.Kernel2Ideal.Hand

end
-- ==== Proof.P2Region3.lean ====
module

public import proofs.«01_k».proof.Proof.Gen.Kernel2Ideal.Launch
public import proofs.«01_k».proof.Proof.Gen.Kernel2Ideal.Skeleton
public import proofs.«01_k».proof.Proof.Gen.Kernel2Ideal.Points
public import Idealize.ShloMosaic.Lib.Pipeline.FrameBody
public import Idealize.ShloMosaic.Lib.Pipeline.RegionsLoop
public import Idealize.ShloMosaic.Lib.Pipeline.Value
public import Idealize.ShloMosaic.Lib.Ring
public import Idealize.ShloMosaic.Lib.Tactic
public import Idealize.ShloMosaic.Lib.VecWindow
public import Idealize.ShloMosaic.Lib.WordCmp
public import proofs.«01_k».proof.Proof.Gen.Kernel2Ideal.Regions
public import proofs.«01_k».proof.Proof.P2Run3

@[expose] public section

set_option maxRecDepth 16384

noncomputable section

namespace Cert.Kernel2Ideal.Hand

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → Valuation τ sig (Elt F))

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The region's proof data: each array at its entry contents, each input's buffer at its block, each output's at its payload, the scratch as the points leave it. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => k3_pay1 (iblk3 V c 3 t) (iblk3 V c 4 t) (iblk3 V c 1 t) (iblk3 V c 2 t) (iblk3 V c 0 t)
  Φ t := Pipeline.scopedRest (Ix := Unit) (Name := ℕ) (U := UR sig nD τ) (Lvl := ℕ) (Val := Elt F) spec3 c
  q w := fullShare
  owed _ := 0

theorem A3 (c : Dev nD) (w : Fin cfg3.W) : (dat3 V c).A w = V c (Pipeline.arrRef spec3 w) := by
  dsimp only [dat3]
theorem after3_0 (c : Dev nD) (t : Fin cfg3.N) : (dat3 V c).after 0 t = iblk3 V c 0 t := by
  dsimp only [dat3]
theorem after3_1 (c : Dev nD) (t : Fin cfg3.N) : (dat3 V c).after 1 t = iblk3 V c 1 t := by
  dsimp only [dat3]
theorem after3_2 (c : Dev nD) (t : Fin cfg3.N) : (dat3 V c).after 2 t = iblk3 V c 2 t := by
  dsimp only [dat3]
theorem after3_3 (c : Dev nD) (t : Fin cfg3.N) : (dat3 V c).after 3 t = iblk3 V c 3 t := by
  dsimp only [dat3]
theorem after3_4 (c : Dev nD) (t : Fin cfg3.N) : (dat3 V c).after 4 t = iblk3 V c 4 t := by
  dsimp only [dat3]
theorem after3_5 (c : Dev nD) (t : Fin cfg3.N) : (dat3 V c).after 5 t = k3_pay1 (iblk3 V c 3 t) (iblk3 V c 4 t) (iblk3 V c 1 t) (iblk3 V c 2 t) (iblk3 V c 0 t) := by
  dsimp only [dat3]
theorem before3_0 (c : Dev nD) (t : Fin cfg3.N) (d) : (dat3 V c).before 0 t d = iblk3 V c 0 t :=
  ((dat3 V c).before_in_eq_fetched 0 rfl (fun _ => rfl) (fun _ _ _ => rfl) (fun t => by rw [after3_0]; unfold Dat.blockOf iblk3; rw [A3]; try rfl) t d).trans
    (by unfold Dat.fetched Dat.blockOf iblk3; rw [A3]; try rfl)
theorem before3_1 (c : Dev nD) (t : Fin cfg3.N) (d) : (dat3 V c).before 1 t d = iblk3 V c 1 t :=
  ((dat3 V c).before_in_eq_fetched 1 rfl (fun _ => rfl) (fun _ _ _ => rfl) (fun t => by rw [after3_1]; unfold Dat.blockOf iblk3; rw [A3]; try rfl) t d).trans
    (by unfold Dat.fetched Dat.blockOf iblk3; rw [A3]; try rfl)
theorem before3_2 (c : Dev nD) (t : Fin cfg3.N) (d) : (dat3 V c).before 2 t d = iblk3 V c 2 t :=
  ((dat3 V c).before_in_eq_fetched 2 rfl (fun _ => rfl) (fun _ _ _ => rfl) (fun t => by rw [after3_2]; unfold Dat.blockOf iblk3; rw [A3]; try rfl) t d).trans
    (by unfold Dat.fetched Dat.blockOf iblk3; rw [A3]; try rfl)
theorem before3_3 (c : Dev nD) (t : Fin cfg3.N) (d) : (dat3 V c).before 3 t d = iblk3 V c 3 t :=
  ((dat3 V c).before_in_eq_fetched 3 rfl (fun _ => rfl) (fun _ _ _ => rfl) (fun t => by rw [after3_3]; unfold Dat.blockOf iblk3; rw [A3]; try rfl) t d).trans
    (by unfold Dat.fetched Dat.blockOf iblk3; rw [A3]; try rfl)
theorem before3_4 (c : Dev nD) (t : Fin cfg3.N) (d) : (dat3 V c).before 4 t d = iblk3 V c 4 t :=
  ((dat3 V c).before_in_eq_fetched 4 rfl (fun _ => rfl) (fun _ _ _ => rfl) (fun t => by rw [after3_4]; unfold Dat.blockOf iblk3; rw [A3]; try rfl) t d).trans
    (by unfold Dat.fetched Dat.blockOf iblk3; rw [A3]; try rfl)
abbrev ms3_0 (t : Fin cfg3.N) : Memref sig .tc .vmem S512x1024 .f32 := win3_0.stage (cfg3.slots t 0)
abbrev ms3_1 (t : Fin cfg3.N) : Memref sig .tc .vmem S512x5120 .bf16 := win3_1.stage (cfg3.slots t 1)
abbrev ms3_2 (t : Fin cfg3.N) : Memref sig .tc .vmem S512x384 .bf16 := win3_2.stage (cfg3.slots t 2)
abbrev ms3_3 (t : Fin cfg3.N) : Memref sig .tc .vmem S1x5120x1024 .bf16 := win3_3.stage (cfg3.slots t 3)
abbrev ms3_4 (t : Fin cfg3.N) : Memref sig .tc .vmem S1x384x1024 .bf16 := win3_4.stage (cfg3.slots t 4)
abbrev ms3_5 (t : Fin cfg3.N) : Memref sig .tc .vmem S512x1024 .f32 := win3_5.stage (cfg3.slots t 5)

/-- What the body is given at a point. -/
def pre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d))
    ∗ (∃ d, owns (c : Thread nD τ) (ms3_4 t) fullShare ((dat3 V c).before 4 t d))
    ∗ (∃ d, owns (c : Thread nD τ) (ms3_5 t) fullShare ((dat3 V c).before 5 t d)))
/-- What the body leaves at a point. -/
def post3 (c : Dev nD) (t : Fin cfg3.N) : sProp 𝕄 :=
  iprop((dat3 V c).Φ t.succ ∗ (dat3 V c).owesAt () t.succ
    ∗ owns (c : Thread nD τ) (ms3_0 t) fullShare ((dat3 V c).after 0 t)
    ∗ owns (c : Thread nD τ) (ms3_1 t) fullShare ((dat3 V c).after 1 t)
    ∗ owns (c : Thread nD τ) (ms3_2 t) fullShare ((dat3 V c).after 2 t)
    ∗ owns (c : Thread nD τ) (ms3_3 t) fullShare ((dat3 V c).after 3 t)
    ∗ owns (c : Thread nD τ) (ms3_4 t) fullShare ((dat3 V c).after 4 t)
    ∗ owns (c : Thread nD τ) (ms3_5 t) fullShare ((dat3 V c).after 5 t))

set_option maxHeartbeats 4000000 in
/-- The body at any point. -/
theorem sound3 (c : Dev nD) (t : Fin cfg3.N) :
    pre3 V c t ⊢ wp frame (wpE (defs₀ (F := F)) Variants.none c none) Set.univ (bodyAt3 t) (fun _ => post3 V c t) := by
  unfold pre3 post3 bodyAt3
  simp only [before3_0, before3_1, before3_2, before3_3, before3_4]
  rw [show (dat3 V c).owesAt () t.succ = (dat3 V c).owesAt () t.castSucc from rfl,
    after3_0, after3_1, after3_2, after3_3, after3_4, after3_5]
  rw [show (dat3 V c).Φ t.castSucc = (dat3 V c).Φ t.succ from rfl]
  iintro ⟨HΦ, Ho, ⟨%d0, H0⟩, ⟨%d1, H1⟩, ⟨%d2, H2⟩, ⟨%d3, H3⟩, ⟨%d4, H4⟩, ⟨%d5, H5⟩⟩
  iapply (run3 c (grid3.coords t) _ _ _ _ _ _ _ _ _ _ _ _ (iblk3 V c 0 t) (iblk3 V c 1 t) (iblk3 V c 2 t) (iblk3 V c 3 t) (iblk3 V c 4 t) Set.univ _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem defs₀_row3 (t : Fin cfg3.N) :
    defs₀ (F := F) .tc cfg3.body (cfg3.bodyArgs t (cfg3.slots t)) = bodyAt3 t := by
  unfold defs₀; rw [Defs.onTc_tc]

/-- The pipeline's body obligation, at every point. -/
theorem body3 (c : Dev nD) : BodyObligation (dat3 V c) (defs₀ (F := F)) Variants.none () Set.univ := fun t => by
  rw [bigSep_W3, bigSep_W3, defs₀_row3]
  exact triple_restated (sound3 V c t) rfl .rfl fun _ => .rfl

variable (Vp : (c : Dev nD) → Valuation τ sig (Elt F))
variable (pdats : (p : Fin 4) → (c : Dev nD) → Dat τ (Elt F) Unit ℕ (UR sig nD τ) ℕ (cfgs p) c)

set_option maxHeartbeats 2000000 in
set_option backward.isDefEq.respectTransparency.types false in
/-- The region as a segment: entered with every unscoped buffer at `V`, left with them at `Vp`, the outputs' arrays as its points' write-backs make them. -/
def reg3 (hp : ∀ c, pdats 3 c = dat3 V c) (h5 : ∀ c, Vp c main_v8 = (dat3 V c).arrAt 5 cfg3.N)
    (hne : ∀ c (b : Ref sig .tc), b ∉ ([main_v8] : List (Ref sig .tc)) → Vp c b = V c b) :
    Pipeline.RegionSeg (pcfgs (F := F)) adm pdats () defs₀ Variants.none (fun _ => ∅) (fun _ _ => 0) 3 where
  win := launch3.win.to₀
  block_pos := launch3.block_pos
  stage_whole := launch3.stage_whole
  K := PEmpty
  osem k := k.elim
  ho := Pipeline.OwnSemFacts.none _
  hbody c := by
    have h := (body3 V c).loose
    rw [← hp c] at h
    exact h
  hwaits := Pipeline.hwaits_of_owed_zero _ _ _ _ (fun _ => ∅) (fun _ _ => 0) 3 fun c _ => by rw [hp c]; rfl
  pre c := iprop(unscopedBufs c (fun b => V c b) ∗ ∃ W, owes (c : Thread nD τ) (0 : CellTallies nD τ sig Unit) W)
  post c := iprop(unscopedBufs c (fun b => Vp c b) ∗ ∃ W, owes (c : Thread nD τ) (0 : CellTallies nD τ sig Unit) W)
  X _ := BI.emp
  Y _ := BI.emp
  Z c := Pipeline.unscopedRest (Ix := Unit) (Name := ℕ) (U := UR sig nD τ) (Lvl := ℕ) spec3 c (fun b => V c b)
  hentry c := by
    rw [Pipeline.ownSems0_none]
    have hsplit := Pipeline.arrays_of_unscopedBufs (p := 3) (pcfgs (F := F)) adm pdats launch3.win launch3.arr_whole c
      ((pdats 3 c).share_full fun _ => by rw [hp c]; rfl) (fun b => V c b) (fun w => by rw [hp c]; exact A3 V c w)
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · rw [show (pdats 3 c).owesAt () 0 = (dat3 V c).owesAt () 0 from by rw [hp c]]
      unfold Pipeline.Dat.owesAt Pipeline.owesWithin
      icases HO with ⟨%W, HO⟩; iexists W; isplitr; · ipureintro; exact fun _ _ => Or.inl trivial
      iexact HO
    isplitr; · iempintro
    iexact Hrest
  hin c := by
    rw [hp c, show (dat3 V c).Φ 0 = Pipeline.scopedRest (Ix := Unit) (Name := ℕ) (U := UR sig nD τ) (Lvl := ℕ) (Val := Elt F) spec3 c from rfl]
    iintro ⟨-, -, Hr⟩; iexact Hr
  hout c := by
    rw [Pipeline.ownSems0_none, hp c, show (dat3 V c).Φ (Fin.last (Pipeline.pin (pcfgs (F := F)) adm 3).N) = Pipeline.scopedRest (Ix := Unit) (Name := ℕ) (U := UR sig nD τ) (Lvl := ℕ) (Val := Elt F) spec3 c from rfl]
    iintro Hr
    isplitr; · iempintro
    isplitr; · iempintro
    iexact Hr
  hexit c := by
    have hjoin := Pipeline.unscopedBufs_of_arrays (p := 3) (pcfgs (F := F)) adm (Ix := Unit) (Name := ℕ) (U := UR sig nD τ) (Lvl := ℕ) launch3.win launch3.arr_whole c
      pdats ((pdats 3 c).share_full fun _ => by rw [hp c]; rfl) (fun b => V c b) (fun b => Vp c b) ((pdats 3 c).arrAt · cfg3.N)
      (fun w => by
        rw [hp c]
        fin_cases w
        · exact ((dat3 V c).arrAt_in 0 rfl _).trans (hne c main_v3_0 (by decide)).symm
        · exact ((dat3 V c).arrAt_in 1 rfl _).trans (hne c main_v5_0 (by decide)).symm
        · exact ((dat3 V c).arrAt_in 2 rfl _).trans (hne c main_v4_0 (by decide)).symm
        · exact ((dat3 V c).arrAt_in 3 rfl _).trans (hne c main_v6 (by decide)).symm
        · exact ((dat3 V c).arrAt_in 4 rfl _).trans (hne c main_v7 (by decide)).symm
        · exact (h5 c).symm
        )
      (fun b hb => hne c b fun h => hb (by
        simp only [List.mem_cons, List.not_mem_nil, _root_.or_false] at h
        have h := h
        · exact h ▸ Finset.mem_image.mpr ⟨5, Finset.mem_univ _, rfl⟩))
    have hO : (pdats 3 c).owesAt () (Fin.last cfg3.N) ⊢ (iprop(∃ W, owes (c : Thread nD τ) (0 : CellTallies nD τ sig Unit) W) : sProp 𝕄) := by
      rw [hp c]
      unfold Pipeline.Dat.owesAt Pipeline.owesWithin
      iintro ⟨%W, -, HO⟩; iexists W; iexact HO
    iintro ⟨Ha, HO, -, Hrest⟩
    imodintro
    isplitl [Ha Hrest]
    · iapply hjoin; isplitl [Ha] <;> iassumption
    iapply hO; iexact HO

end Cert.Kernel2Ideal.Hand

end
-- ==== Proof.P2Main.lean ====
module

public import proofs.«01_k».proof.Proof.Gen.Kernel2Ideal.Launch
public import proofs.«01_k».proof.Proof.Gen.Kernel2Ideal.Skeleton
public import proofs.«01_k».proof.Proof.Gen.Kernel2Ideal.Points
public import Idealize.ShloMosaic.Lib.Pipeline.FrameBody
public import Idealize.ShloMosaic.Lib.Pipeline.RegionsLoop
public import Idealize.ShloMosaic.Lib.Pipeline.Value
public import Idealize.ShloMosaic.Lib.Ring
public import Idealize.ShloMosaic.Lib.Tactic
public import Idealize.ShloMosaic.Lib.VecWindow
public import Idealize.ShloMosaic.Lib.WordCmp
public import proofs.«01_k».proof.Proof.Gen.Kernel2Ideal.Regions
public import proofs.«01_k».proof.Proof.P2Region0
public import proofs.«01_k».proof.Proof.P2Region1
public import proofs.«01_k».proof.Proof.P2Region2
public import proofs.«01_k».proof.Proof.P2Region3
public import Idealize.ShloMosaic.Lib.Pipeline.Kit

@[expose] public section

set_option maxRecDepth 16384

noncomputable section

namespace Cert.Kernel2Ideal.Hand

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Contents nothing reads. -/
def junk (r : Ref sig .tc) (c : Dev nD) : Buf (Elt F) ((c : Thread nD τ).loc r) := fun _ => Classical.arbitrary _

/-- What region 0 leaves in its outputs' arrays. -/
def outsA : Outs (F := F) := fun _ r c =>
    if h : r = main_v3_0 then h ▸ (dat0 (V1 m) c).arrAt 7 cfg0.N
    else if h : r = main_v3_1 then h ▸ (dat0 (V1 m) c).arrAt 8 cfg0.N
    else junk r c
/-- What the regions up to region 1 leave in their outputs' arrays. -/
def outsB : Outs (F := F) := fun J r c =>
  if J = 3 then
    if h : r = main_v4_0 then h ▸ (dat1 (V2 m (outsA m)) c).arrAt 4 cfg1.N
    else if h : r = main_v4_1 then h ▸ (dat1 (V2 m (outsA m)) c).arrAt 5 cfg1.N
    else junk r c
  else outsA m J r c
/-- What the regions up to region 2 leave in their outputs' arrays. -/
def outsC : Outs (F := F) := fun J r c =>
  if J = 4 then
    if h : r = main_v5_0 then h ▸ (dat2 (V3 m (outsB m)) c).arrAt 4 cfg2.N
    else if h : r = main_v5_1 then h ▸ (dat2 (V3 m (outsB m)) c).arrAt 5 cfg2.N
    else junk r c
  else outsB m J r c
/-- What the regions up to region 3 leave in their outputs' arrays. -/
def outs : Outs (F := F) := fun J r c =>
  if J = 6 then
    if h : r = main_v8 then h ▸ (dat3 (V5 m (outsC m)) c).arrAt 5 cfg3.N
    else junk r c
  else outsC m J r c

theorem outsB_2 (r : Ref sig .tc) (c : Dev nD) : outsB m 2 r c = outsA m 2 r c := by
  rw [show outsB m 2 r c = outsA m 2 r c from if_neg (by decide)]
theorem outsC_2 (r : Ref sig .tc) (c : Dev nD) : outsC m 2 r c = outsA m 2 r c := by
  rw [show outsC m 2 r c = outsB m 2 r c from if_neg (by decide), outsB_2]
theorem outs_2 (r : Ref sig .tc) (c : Dev nD) : outs m 2 r c = outsA m 2 r c := by
  rw [show outs m 2 r c = outsC m 2 r c from if_neg (by decide), outsC_2]
theorem outsC_3 (r : Ref sig .tc) (c : Dev nD) : outsC m 3 r c = outsB m 3 r c := by
  rw [show outsC m 3 r c = outsB m 3 r c from if_neg (by decide)]
theorem outs_3 (r : Ref sig .tc) (c : Dev nD) : outs m 3 r c = outsB m 3 r c := by
  rw [show outs m 3 r c = outsC m 3 r c from if_neg (by decide), outsC_3]
theorem outs_4 (r : Ref sig .tc) (c : Dev nD) : outs m 4 r c = outsC m 4 r c := by
  rw [show outs m 4 r c = outsC m 4 r c from if_neg (by decide)]
theorem V2_cong (o o' : Outs (F := F)) (h0 : ∀ r c, o 2 r c = o' 2 r c) : V2 m o = V2 m o' := funext fun c => by
  simp only [V2, h0]
theorem V2_outs : V2 m (outs m) = V2 m (outsA m) := V2_cong m _ _ (outs_2 m)
theorem V3_cong (o o' : Outs (F := F)) (h0 : ∀ r c, o 2 r c = o' 2 r c) (h1 : ∀ r c, o 3 r c = o' 3 r c) : V3 m o = V3 m o' := funext fun c => by
  simp only [V3, V2, h0, h1]
theorem V3_outs : V3 m (outs m) = V3 m (outsB m) := V3_cong m _ _ (fun r c => (outs_2 m r c).trans (outsB_2 m r c).symm) (outs_3 m)
theorem V5_cong (o o' : Outs (F := F)) (h0 : ∀ r c, o 2 r c = o' 2 r c) (h1 : ∀ r c, o 3 r c = o' 3 r c) (h2 : ∀ r c, o 4 r c = o' 4 r c) : V5 m o = V5 m o' := funext fun c => by
  simp only [V5, V4, V3, V2, h0, h1, h2]
theorem V5_outs : V5 m (outs m) = V5 m (outsC m) := V5_cong m _ _ (fun r c => (outs_2 m r c).trans (outsC_2 m r c).symm) (fun r c => (outs_3 m r c).trans (outsC_3 m r c).symm) (outs_4 m)
theorem outs_v3_0 (c : Dev nD) : outs m 2 main_v3_0 c = (dat0 (V1 m) c).arrAt 7 cfg0.N := by
  rw [outs_2]; unfold outsA; rw [dif_pos rfl]
theorem outs_v3_1 (c : Dev nD) : outs m 2 main_v3_1 c = (dat0 (V1 m) c).arrAt 8 cfg0.N := by
  rw [outs_2]; unfold outsA; rw [dif_neg (by decide), dif_pos rfl]
theorem outs_v4_0 (c : Dev nD) : outs m 3 main_v4_0 c = (dat1 (V2 m (outs m)) c).arrAt 4 cfg1.N := by
  rw [V2_outs, outs_3]; unfold outsB; rw [if_pos rfl, dif_pos rfl]
theorem outs_v4_1 (c : Dev nD) : outs m 3 main_v4_1 c = (dat1 (V2 m (outs m)) c).arrAt 5 cfg1.N := by
  rw [V2_outs, outs_3]; unfold outsB; rw [if_pos rfl, dif_neg (by decide), dif_pos rfl]
theorem outs_v5_0 (c : Dev nD) : outs m 4 main_v5_0 c = (dat2 (V3 m (outs m)) c).arrAt 4 cfg2.N := by
  rw [V3_outs, outs_4]; unfold outsC; rw [if_pos rfl, dif_pos rfl]
theorem outs_v5_1 (c : Dev nD) : outs m 4 main_v5_1 c = (dat2 (V3 m (outs m)) c).arrAt 5 cfg2.N := by
  rw [V3_outs, outs_4]; unfold outsC; rw [if_pos rfl, dif_neg (by decide), dif_pos rfl]
theorem outs_v8 (c : Dev nD) : outs m 6 main_v8 c = (dat3 (V5 m (outs m)) c).arrAt 5 cfg3.N := by
  rw [V5_outs]; unfold outs; rw [if_pos rfl, dif_pos rfl]
theorem V2_v3_0 (c : Dev nD) : V2 m (outs m) c main_v3_0 = (dat0 (V1 m) c).arrAt 7 cfg0.N := by
  rw [← outs_v3_0]
  simp only [V2]
  rw [Function.update_of_ne (StableHlo.devRef_ne_of_ne (by decide)), Function.update_self]
theorem V2_v3_1 (c : Dev nD) : V2 m (outs m) c main_v3_1 = (dat0 (V1 m) c).arrAt 8 cfg0.N := by
  rw [← outs_v3_1]
  simp only [V2]
  rw [Function.update_self]
theorem V3_v4_0 (c : Dev nD) : V3 m (outs m) c main_v4_0 = (dat1 (V2 m (outs m)) c).arrAt 4 cfg1.N := by
  rw [← outs_v4_0]
  simp only [V3]
  rw [Function.update_of_ne (StableHlo.devRef_ne_of_ne (by decide)), Function.update_self]
theorem V3_v4_1 (c : Dev nD) : V3 m (outs m) c main_v4_1 = (dat1 (V2 m (outs m)) c).arrAt 5 cfg1.N := by
  rw [← outs_v4_1]
  simp only [V3]
  rw [Function.update_self]
theorem V4_v5_0 (c : Dev nD) : V4 m (outs m) c main_v5_0 = (dat2 (V3 m (outs m)) c).arrAt 4 cfg2.N := by
  rw [← outs_v5_0]
  simp only [V4]
  rw [Function.update_of_ne (StableHlo.devRef_ne_of_ne (by decide)), Function.update_self]
theorem V4_v5_1 (c : Dev nD) : V4 m (outs m) c main_v5_1 = (dat2 (V3 m (outs m)) c).arrAt 5 cfg2.N := by
  rw [← outs_v5_1]
  simp only [V4]
  rw [Function.update_self]
theorem V6_v8 (c : Dev nD) : V6 m (outs m) c main_v8 = (dat3 (V5 m (outs m)) c).arrAt 5 cfg3.N := by
  rw [← outs_v8]
  simp only [V6]
  rw [Function.update_self]

/-- Each region's proof data, from the contents it is entered at. -/
def pdats : (p : Fin 4) → (c : Dev nD) → Dat τ (Elt F) Unit ℕ (UR sig nD τ) ℕ (cfgs p) c
  | ⟨0, _⟩ => fun c => dat0 (V1 m) c
  | ⟨1, _⟩ => fun c => dat1 (V2 m (outs m)) c
  | ⟨2, _⟩ => fun c => dat2 (V3 m (outs m)) c
  | ⟨3, _⟩ => fun c => dat3 (V5 m (outs m)) c

def seg0' := reg0 (V1 m) (V2 m (outs m)) (pdats m) (fun _ => rfl) (V2_v3_0 m) (V2_v3_1 m) (fun c b h => V2_of m (outs m) c b h)
def seg1' := reg1 (V2 m (outs m)) (V3 m (outs m)) (pdats m) (fun _ => rfl) (V3_v4_0 m) (V3_v4_1 m) (fun c b h => V3_of m (outs m) c b h)
def seg2' := reg2 (V3 m (outs m)) (V4 m (outs m)) (pdats m) (fun _ => rfl) (V4_v5_0 m) (V4_v5_1 m) (fun c b h => V4_of m (outs m) c b h)
def seg3' := reg3 (V5 m (outs m)) (V6 m (outs m)) (pdats m) (fun _ => rfl) (V6_v8 m) (fun c b h => V6_of m (outs m) c b h)

/-- What rides beside the buffers: the core owes nothing. -/
abbrev rest (_ : Fin 5) (c : Dev nD) : sProp 𝕄 := iprop(∃ W, owes (c : Thread nD τ) (0 : CellTallies nD τ sig Unit) W)

theorem held_eq (c : Dev nD) (W : Valuation τ sig (Elt F)) :
    (unscopedBufs c (fun b => W b) : sProp 𝕄) = StableHlo.held (c : Thread nD τ) (Pipeline.ucRefs τ sig) W :=
  Pipeline.unscopedBufs_held c W

theorem glue (c : Dev nD) (W : Valuation τ sig (Elt F)) :
    iprop(StableHlo.held (c : Thread nD τ) (Pipeline.ucRefs τ sig) W ∗ rest 0 c)
      ⊢ (iprop(unscopedBufs c (fun b => W b) ∗ ∃ W, owes (c : Thread nD τ) (0 : CellTallies nD τ sig Unit) W) : sProp 𝕄) := by
  rw [held_eq]
theorem glue' (c : Dev nD) (W : Valuation τ sig (Elt F)) :
    (iprop(unscopedBufs c (fun b => W b) ∗ ∃ W, owes (c : Thread nD τ) (0 : CellTallies nD τ sig Unit) W) : sProp 𝕄)
      ⊢ iprop(StableHlo.held (c : Thread nD τ) (Pipeline.ucRefs τ sig) W ∗ rest 0 c) := by
  rw [held_eq]

set_option maxHeartbeats 4000000 in
set_option backward.isDefEq.respectTransparency.types false in
/-- Every weakly fair execution of @main from memory `m` with zero counters terminates; at the end each argument is as launched, the result is what the program's last operation leaves, and every counter is zero. -/
theorem run_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_v8) = V6 m (outs m) c main_v8)
      ∧ r.2.sem = fun _ => 0) := by
  refine Pipeline.θ_run_regions_kit_dev_sems (pcfgs (F := F)) adm (pdats m) () cellOf_inj emb₁ defs₀ Variants.none (fun _ => ∅) (fun _ _ => 0) m ρ main
    (segs m (outs m) Variants.none (fun _ => ∅) (fun _ _ => 0) rest () (pdats m) (seg0' m) (seg1' m) (seg2' m) (seg3' m))
    (fun c Q => by
      rewrite [main_chain c, Pipeline.Seg.run_eq_chain,
        show (segs m (outs m) Variants.none (fun _ => ∅) (fun _ _ => 0) rest () (pdats m) (seg0' m) (seg1' m) (seg2' m) (seg3' m) c).map Pipeline.Seg.prog = [
          StableHlo.seq hostOps0,
          Prog.lift (.customCall (Pipeline.entry 0) ()),
          Prog.lift (.customCall (Pipeline.entry 1) ()),
          Prog.lift (.customCall (Pipeline.entry 2) ()),
          StableHlo.seq hostOps3,
          Prog.lift (.customCall (Pipeline.entry 3) ()) ] from rfl]
      dsimp (config := { failIfUnchanged := false }) only
      exact .rfl)
    (fun c => by simp only [segs, Pipeline.Seg.pipes_host, Pipeline.Seg.pipes_region, Pipeline.Seg.pipes_nil]; decide) (O₀ := 0) (hL := fun _ _ => rfl) (G := fun _ => iprop(emp))
    (u₀ := initOf (Pipeline.cells cfgs cellOf_inj) (Pipeline.launchToks cfgs cellOf_inj))
    (hu₀ := by
      iintro Hu
      imodintro
      isplitl [Hu]
      · iapply (show (ownU _ : sProp 𝕄) ⊢ BI.own (emb₁ (initOf (Pipeline.cells (Pipeline.pin (pcfgs (F := F)) adm) cellOf_inj) (Pipeline.launchToks (Pipeline.pin (pcfgs (F := F)) adm) cellOf_inj))) from .rfl); iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ rest 0 c))
    (Tₙ := fun c => StableHlo.held (c : Thread nD τ) (Pipeline.ucRefs τ sig) (V6 m (outs m) c))
    (hch := fun c => ⟨.rfl, glue c (V1 m c), .rfl, .rfl, glue' c (V4 m (outs m) c), glue c (V5 m (outs m) c), glue' c (V6 m (outs m) c)⟩)
    (hinit := by
      refine Pipeline.initEach (fun _ => ∅) (fun _ _ => 0) fun c => ?_
      rw [show unscopedBufs c (fun b => m ((c : Thread nD τ).loc b)) = StableHlo.held (c : Thread nD τ) (Pipeline.ucRefs τ sig) (V0 m c) from held_eq c (V0 m c)]
      iintro ⟨⟨Hh, -, HO, -, -, -⟩, -⟩
      imodintro
      isplitl [Hh]; · iexact Hh
      iexists ∅; iexact HO)
    (QY := fun c s => s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3)
      ∧ s.mem ((c.tc : Thread nD τ).loc main_arg4) = m ((c.tc : Thread nD τ).loc main_arg4)
      ∧ s.mem ((c.tc : Thread nD τ).loc main_arg5) = m ((c.tc : Thread nD τ).loc main_arg5)
      ∧ s.mem ((c.tc : Thread nD τ).loc main_arg6) = m ((c.tc : Thread nD τ).loc main_arg6)
      ∧ s.mem ((c.tc : Thread nD τ).loc main_arg7) = m ((c.tc : Thread nD τ).loc main_arg7)
      ∧ s.mem ((c.tc : Thread nD τ).loc main_arg8) = m ((c.tc : Thread nD τ).loc main_arg8)
      ∧ s.mem ((c.tc : Thread nD τ).loc main_v8) = V6 m (outs m) c main_v8)
    (hfin := fun c s' => ?_) (hQ := fun _ h hz => ⟨h, funext fun g => hz g (.inr (regions_no_unscoped g.2))⟩)
  unfold StableHlo.held
  iintro ⟨Hh, HSI⟩
  ihave Hr := (pointsTo_read_all (Pipeline.ucRefs τ sig) (fun b => ((c : Thread nD τ).1, b)) (V6 m (outs m) c) s') $$ [Hh HSI]
  · isplitl [Hh] <;> iassumption
  icases Hr with ⟨%h, HSI⟩
  imodintro
  isplitr
  · ipureintro
    exact ⟨(h (Proc.devRef .tc main_arg0) (Finset.mem_filter.mpr ⟨StableHlo.devRef_mem_tcRefs main_arg0, by decide⟩)).trans (V6_main_arg0 m (outs m) c),
      (h (Proc.devRef .tc main_arg1) (Finset.mem_filter.mpr ⟨StableHlo.devRef_mem_tcRefs main_arg1, by decide⟩)).trans (V6_main_arg1 m (outs m) c),
      (h (Proc.devRef .tc main_arg2) (Finset.mem_filter.mpr ⟨StableHlo.devRef_mem_tcRefs main_arg2, by decide⟩)).trans (V6_main_arg2 m (outs m) c),
      (h (Proc.devRef .tc main_arg3) (Finset.mem_filter.mpr ⟨StableHlo.devRef_mem_tcRefs main_arg3, by decide⟩)).trans (V6_main_arg3 m (outs m) c),
      (h (Proc.devRef .tc main_arg4) (Finset.mem_filter.mpr ⟨StableHlo.devRef_mem_tcRefs main_arg4, by decide⟩)).trans (V6_main_arg4 m (outs m) c),
      (h (Proc.devRef .tc main_arg5) (Finset.mem_filter.mpr ⟨StableHlo.devRef_mem_tcRefs main_arg5, by decide⟩)).trans (V6_main_arg5 m (outs m) c),
      (h (Proc.devRef .tc main_arg6) (Finset.mem_filter.mpr ⟨StableHlo.devRef_mem_tcRefs main_arg6, by decide⟩)).trans (V6_main_arg6 m (outs m) c),
      (h (Proc.devRef .tc main_arg7) (Finset.mem_filter.mpr ⟨StableHlo.devRef_mem_tcRefs main_arg7, by decide⟩)).trans (V6_main_arg7 m (outs m) c),
      (h (Proc.devRef .tc main_arg8) (Finset.mem_filter.mpr ⟨StableHlo.devRef_mem_tcRefs main_arg8, by decide⟩)).trans (V6_main_arg8 m (outs m) c),
      h (Proc.devRef .tc main_v8) (Finset.mem_filter.mpr ⟨StableHlo.devRef_mem_tcRefs main_v8, by decide⟩)⟩
  · iexact HSI

end Cert.Kernel2Ideal.Hand

end
-- ==== Proof.P2Pay.lean ====
module

public import proofs.«01_k».proof.Proof.Gen.Kernel2Ideal.Skeleton
public import proofs.«01_k».proof.Proof.Pay

@[expose] public section

noncomputable section

namespace Cert.Kernel2Ideal.Hand

open Cert.Kernel2Ideal Cert.Kernel2Ideal.Gen Cert.Hand
open Idealize.ShloMosaic Idealize.ShloMosaic.ValueIdx

/-- The cast gate columns of the tail call, at an index. -/
theorem k1_pay1_at (v : Vec Ideal S1x2048x384 .f32) (y : S2048x384.Idx) :
    k1_pay1 (F := Ideal) v y = v (ix3 (0 : Fin 1) (y 0) (y 1)) := Cert.KernelIdeal.Hand.k0_pay1_at v y

/-- The cast up columns of the tail call, at an index. -/
theorem k1_pay2_at (v : Vec Ideal S1x2048x384 .f32) (y : S2048x384.Idx) :
    k1_pay2 (F := Ideal) v y = v (ix3 (0 : Fin 1) (y 0) (y 1)) := Cert.KernelIdeal.Hand.k0_pay2_at v y

/-- The cast rows of the output weight in the tail call, at an index. -/
theorem k1_pay3_at (v : Vec Ideal S1x48x2048 .f32) (y : S48x2048.Idx) :
    k1_pay3 (F := Ideal) v y = v (ix3 (0 : Fin 1) (y 0) (y 1)) := Cert.KernelIdeal.Hand.k0_pay4_at v y

/-- The tail call's activations, at an index. -/
theorem k1_pay4_at (x : Vec Ideal S1024x2048 .bf16) (a b : Vec Ideal S2048x384 .bf16) (y : S1024x384.Idx) :
    k1_pay4 (F := Ideal) x a b y
      = glu (∑ k : Fin 2048, x (ix2 (y 0) k) * a (ix2 k (y 1)))
          (∑ k : Fin 2048, x (ix2 (y 0) k) * b (ix2 k (y 1))) := by
  have e := fun v => matmul_at (M := 1024) (K := 2048) (N := 384) (φ₁ := .bf16) (φ₂ := .bf16) x v y
  rw [← e a, ← e b]
  unfold k1_pay4
  simp only [shapeCast_self]
  rfl

/-- The cast gate columns of the main call, at an index. -/
theorem k2_pay1_at (v : Vec Ideal S1x2048x512 .f32) (y : S2048x512.Idx) :
    k2_pay1 (F := Ideal) v y = v (ix3 (0 : Fin 1) (y 0) (y 1)) := Cert.KernelIdeal.Hand.k1_pay1_at v y

/-- The cast up columns of the main call, at an index. -/
theorem k2_pay2_at (v : Vec Ideal S1x2048x512 .f32) (y : S2048x512.Idx) :
    k2_pay2 (F := Ideal) v y = v (ix3 (0 : Fin 1) (y 0) (y 1)) := Cert.KernelIdeal.Hand.k1_pay2_at v y

/-- The cast rows of the output weight in the main call, at an index. -/
theorem k2_pay3_at (v : Vec Ideal S1x64x2048 .f32) (y : S64x2048.Idx) :
    k2_pay3 (F := Ideal) v y = v (ix3 (0 : Fin 1) (y 0) (y 1)) := Cert.KernelIdeal.Hand.k1_pay3_at v y

/-- The main call's activations, at an index. -/
theorem k2_pay4_at (x : Vec Ideal S1024x2048 .bf16) (a b : Vec Ideal S2048x512 .bf16) (y : S1024x512.Idx) :
    k2_pay4 (F := Ideal) x a b y
      = glu (∑ k : Fin 2048, x (ix2 (y 0) k) * a (ix2 k (y 1)))
          (∑ k : Fin 2048, x (ix2 (y 0) k) * b (ix2 k (y 1))) := Cert.KernelIdeal.Hand.k1_pay4_at x a b y

/-- The residual call's block of the result, at an index. -/
theorem k3_pay1_at (wm : Vec Ideal S1x5120x1024 .bf16) (wt : Vec Ideal S1x384x1024 .bf16) (am : Vec Ideal S512x5120 .bf16)
    (at' : Vec Ideal S512x384 .bf16) (h : Vec Ideal S512x1024 .f32) (y : S512x1024.Idx) :
    k3_pay1 (F := Ideal) wm wt am at' h y
      = h y + half * ((∑ k : Fin 5120, am (ix2 (y 0) k) * wm (ix3 (0 : Fin 1) k (y 1)))
          + ∑ k : Fin 384, at' (ix2 (y 0) k) * wt (ix3 (0 : Fin 1) k (y 1))) := by
  have e : k3_pay1 (F := Ideal) wm wt am at' h y
      = Cert.KernelIdeal.Gen.k2_pay1 (F := Ideal) wm wt am at' (shapeCast S512x1024 h shapeCasts_S512x1024_S512x1024) y := rfl
  rw [shapeCast_self] at e
  exact e.trans (Cert.KernelIdeal.Hand.k2_pay1_at wm wt am at' h y)

/-- The sum of a row's squares in a block of 256 rows, spread over the row's one lane. -/
theorem rowsum_at (x : FVec Ideal S256x2048 .f32) (i : S256x1.Idx) :
    shapeCast S256x1 (multiReduction (F := Ideal) .add [1] S256 (mulf x x) 0x00000000#32 reduces_S256x2048_S256 (.inl rfl) rfl) shapeCasts_S256_S256x1 i
      = ∑ k : Fin 2048, x (ix2 (i 0) k) * x (ix2 (i 0) k) := by
  rw [shapeCast_apply _ shapeCasts_S256_S256x1 i (ix1 (i 0)) (by
    rw [Shape.rowMajor_val_one, Shape.rowMajor_val_two]
    have h1 : (i 1).val < 1 := (i 1).isLt
    show (i 0).val = (i 0).val * 1 + (i 1).val
    omega)]
  refine (Ideal.multiReduction_add_single (mulf x x) 0x00000000#32 reduces_S256x2048_S256 (.inl rfl) rfl (ix1 (i 0))).trans ?_
  refine Finset.sum_congr rfl fun k _ => ?_
  have e : reduces_S256x2048_S256.lift (ix1 (i 0)) k = ix2 (i 0) k := funext fun a => Fin.ext (by
    match a with | ⟨0, _⟩ => rfl | ⟨1, _⟩ => rfl)
  rw [e]; rfl

/-- The reciprocal root mean squares of a block's rows, as the program computes them. -/
def rmsB (x : FVec Ideal S256x2048 .f32) : FVec Ideal S256x1 .f32 :=
  rsqrt (addf (divf (shapeCast S256x1 (multiReduction (F := Ideal) .add [1] S256 (mulf x x) 0x00000000#32 reduces_S256x2048_S256 (.inl rfl) rfl) shapeCasts_S256_S256x1)
    (broadcast S256x1 (Scalar.ofBits .f32 0x45000000#32))) (broadcast S256x1 (Scalar.ofBits .f32 0x358637BD#32)))

theorem rmsB_at (x : FVec Ideal S256x2048 .f32) (i : S256x1.Idx) : rmsB x i = rms (fun k => x (ix2 (i 0) k)) := by
  unfold rmsB
  show Ideal.rsqrt (Ideal.div (shapeCast S256x1 _ shapeCasts_S256_S256x1 i) _ + _) = _
  rw [rowsum_at]
  rfl

/-- A column spread over a block's lanes, at an index. -/
theorem spread_at (v : FVec Ideal S256x1 .f32) (y : S256x2048.Idx) :
    broadcastTo S256x2048 v broadcasts_S256x1_S256x2048 y = v (ix2 (y 0) (0 : Fin 1)) :=
  broadcastTo_apply v broadcasts_S256x1_S256x2048 y (ix2 (y 0) (0 : Fin 1)) (fun a => by
    match a with | ⟨0, _⟩ => rfl | ⟨1, _⟩ => rfl)

/-- A row spread over a block's rows, at an index. -/
theorem row_at (w : FVec Ideal S1x2048 .f32) (y : S256x2048.Idx) :
    broadcastTo S256x2048 w broadcasts_S1x2048_S256x2048 y = w (ix2 (0 : Fin 1) (y 1)) :=
  broadcastTo_apply w broadcasts_S1x2048_S256x2048 y (ix2 (0 : Fin 1) (y 1)) (fun a => by
    match a with | ⟨0, _⟩ => rfl | ⟨1, _⟩ => rfl)

/-- The normalised rows of a block, as the program computes them. -/
def normB (x : FVec Ideal S256x2048 .f32) (w : Vec Ideal S1x2048 .f32) : FVec Ideal S256x2048 .f32 :=
  mulf (mulf x (broadcastTo S256x2048 (rmsB x) broadcasts_S256x1_S256x2048))
    (broadcastTo S256x2048 (shapeCast S1x2048 w shapeCasts_S1x2048_S1x2048) broadcasts_S1x2048_S256x2048)

theorem normB_at (x : FVec Ideal S256x2048 .f32) (w : Vec Ideal S1x2048 .f32) (y : S256x2048.Idx) :
    normB x w y = hnS (fun k => x (ix2 (y 0) k)) (fun k => w (ix2 (0 : Fin 1) k)) (y 1) := by
  unfold normB
  simp only [shapeCast_self, mulf_apply]
  rw [row_at, spread_at, rmsB_at]
  conv_lhs => rw [eq_ix2 y]
  rfl

/-- The cast gate weights, at an index. -/
theorem k0_pay3_at (v : Vec Ideal S1x2048x2048 .f32) (y : S2048x2048.Idx) :
    k0_pay3 (F := Ideal) v y = v (ix3 (0 : Fin 1) (y 0) (y 1)) := by
  unfold k0_pay3
  simp only [shapeCast_self]
  exact squeeze_at (A := 2048) (B := 2048) v _ y

/-- The cast embedding weights, at an index. -/
theorem k0_pay4_at (v : Vec Ideal S1x256x2048 .f32) (y : S256x2048.Idx) :
    k0_pay4 (F := Ideal) v y = v (ix3 (0 : Fin 1) (y 0) (y 1)) := by
  unfold k0_pay4
  simp only [shapeCast_self]
  exact squeeze_at (A := 256) (B := 2048) v _ y

/-- The gate of a block, at an index. -/
theorem k0_pay5_at (x : Vec Ideal S256x2048 .f32) (w : Vec Ideal S1x2048 .f32) (S : Vec Ideal S2048x2048 .bf16) (y : S256x2048.Idx) :
    k0_pay5 (F := Ideal) x w S y
      = Ideal.logistic (∑ k : Fin 2048, hnS (fun k => x (ix2 (y 0) k)) (fun k => w (ix2 (0 : Fin 1) k)) k * S (ix2 k (y 1))) := by
  have e := matmul_at (M := 256) (K := 2048) (N := 2048) (φ₁ := .bf16) (φ₂ := .bf16) (truncf .bf16 (normB x w) bitsLt_bf16_f32) S y
  refine Eq.trans (b := Ideal.logistic _) (congrArg Ideal.logistic e) (congrArg Ideal.logistic ?_)
  refine Finset.sum_congr rfl fun k _ => congrArg₂ (· * ·) ?_ rfl
  exact normB_at x w (ix2 (y 0) k)

/-- A block of embeddings viewed as a matrix, at an index. -/
theorem squeeze4_at (v : Vec Ideal S1x1x256x256 .f32) (y : S256x256.Idx) :
    shapeCast S256x256 v shapeCasts_S1x1x256x256_S256x256 y = v (ix4 (0 : Fin 1) (0 : Fin 1) (y 0) (y 1)) := by
  refine shapeCast_apply v _ y _ ?_
  rw [Shape.rowMajor_val_four, Shape.rowMajor_val_two]
  show ((0 * 1 + 0) * 256 + (y 0).val) * 256 + (y 1).val = (y 0).val * 256 + (y 1).val
  simp

/-- The projected embeddings of a block, at an index. -/
theorem k0_pay6_at (p : Vec Ideal S1x1x256x256 .f32) (S : Vec Ideal S256x2048 .bf16) (y : S256x2048.Idx) :
    k0_pay6 (F := Ideal) p S y = ∑ k : Fin 256, p (ix4 (0 : Fin 1) (0 : Fin 1) (y 0) k) * S (ix2 k (y 1)) := by
  have e := matmul_at (M := 256) (K := 256) (N := 2048) (φ₁ := .bf16) (φ₂ := .bf16)
    (truncf .bf16 (shapeCast S256x256 p shapeCasts_S1x1x256x256_S256x256) bitsLt_bf16_f32) S y
  refine Eq.trans (b := _) e ?_
  refine Finset.sum_congr rfl fun k _ => congrArg₂ (· * ·) ?_ rfl
  exact squeeze4_at p (ix2 (y 0) k)

/-- The stream's block with the gated normalised embeddings added, at an index. -/
theorem k0_pay1_at (x : Vec Ideal S256x2048 .f32) (p : Vec Ideal S1x1x256x256 .f32) (w w' : Vec Ideal S1x2048 .f32)
    (S : Vec Ideal S2048x2048 .bf16) (S' : Vec Ideal S256x2048 .bf16) (y : S256x2048.Idx) :
    k0_pay1 (F := Ideal) x (k0_pay5 x w S) (k0_pay6 p S') (k0_pay7 p S') w' y
      = x y + hnS (fun j => ∑ k : Fin 256, p (ix4 (0 : Fin 1) (0 : Fin 1) (y 0) k) * S' (ix2 k j)) (fun k => w' (ix2 (0 : Fin 1) k)) (y 1)
          * Ideal.logistic (∑ k : Fin 2048, hnS (fun k => x (ix2 (y 0) k)) (fun k => w (ix2 (0 : Fin 1) k)) k * S (ix2 k (y 1))) := by
  have e : k0_pay1 (F := Ideal) x (k0_pay5 x w S) (k0_pay6 p S') (k0_pay7 p S') w' y
      = x y + normB (k0_pay6 p S') w' y * k0_pay5 x w S y := rfl
  rw [e, normB_at, k0_pay5_at, funext fun j => k0_pay6_at p S' (ix2 (y 0) j)]

/-- The normalised rows of that block, at an index. -/
theorem k0_pay2_at (x g e r : FVec Ideal S256x2048 .f32) (w' w'' : Vec Ideal S1x2048 .f32) (y : S256x2048.Idx) :
    k0_pay2 (F := Ideal) x g e r w' w'' y
      = hnS (fun j => k0_pay1 (F := Ideal) x g e r w' (ix2 (y 0) j)) (fun k => w'' (ix2 (0 : Fin 1) k)) (y 1) :=
  Eq.trans (b := normB (k0_pay1 (F := Ideal) x g e r w') w'' y) rfl (normB_at _ _ _)

end Cert.Kernel2Ideal.Hand

end
-- ==== Proof.P2Value0.lean ====
module

public import proofs.«01_k».proof.Proof.P2Region0
public import proofs.«01_k».proof.Proof.P2Pay

@[expose] public section

set_option maxRecDepth 16384

noncomputable section

namespace Cert.Kernel2Ideal.Hand

open Cert.Kernel2Ideal Cert.Kernel2Ideal.Gen Cert.Hand
open Idealize.ShloMosaic Idealize.ShloMosaic.TcCoe Idealize.ShloMosaic.ValueIdx Idealize.SL.Sem
open Idealize.ShloMosaic.Pipeline (Dat Cfg Window)

variable (V : (c : Dev nD) → Valuation τ sig (Elt Ideal))

/-- Where each window's block sits, at every point of the grid. -/
theorem where0 : ∀ t : Fin grid0.N, win0_0.index t (0 : Fin 2) = t.val ∧ win0_0.index t (1 : Fin 2) = 0 ∧ win0_1.index t (0 : Fin 4) = 0 ∧ win0_1.index t (1 : Fin 4) = 0 ∧ win0_1.index t (2 : Fin 4) = t.val ∧ win0_1.index t (3 : Fin 4) = 0 ∧ win0_2.index t (0 : Fin 3) = 0 ∧ win0_2.index t (1 : Fin 3) = 0 ∧ win0_2.index t (2 : Fin 3) = 0 ∧ win0_3.index t (0 : Fin 3) = 0 ∧ win0_3.index t (1 : Fin 3) = 0 ∧ win0_3.index t (2 : Fin 3) = 0 ∧ win0_4.index t (0 : Fin 2) = 0 ∧ win0_4.index t (1 : Fin 2) = 0 ∧ win0_5.index t (0 : Fin 2) = 0 ∧ win0_5.index t (1 : Fin 2) = 0 ∧ win0_6.index t (0 : Fin 2) = 0 ∧ win0_6.index t (1 : Fin 2) = 0 ∧ win0_7.index t (0 : Fin 2) = t.val ∧ win0_7.index t (1 : Fin 2) = 0 ∧ win0_8.index t (0 : Fin 2) = t.val ∧ win0_8.index t (1 : Fin 2) = 0 := by
  decide +kernel

/-- Window 0's block at a point, read off its array. -/
theorem iblk0_0_at (c : Dev nD) (t : Fin cfg0.N) (y : S256x2048.Idx) (i : S8192x2048.Idx) (h0 : (i (0 : Fin 2)).val = t.val * 256 + (y (0 : Fin 2)).val) (h1 : (i (1 : Fin 2)).val = 0 * 2048 + (y (1 : Fin 2)).val) :
    iblk0 V c 0 t y = (rd S8192x2048 (V c main_arg0)) i := by
  obtain ⟨e0_0, e0_1, e1_0, e1_1, e1_2, e1_3, e2_0, e2_1, e2_2, e3_0, e3_1, e3_2, e4_0, e4_1, e5_0, e5_1, e6_0, e6_1, e7_0, e7_1, e8_0, e8_1⟩ := where0 t
  unfold iblk0
  show (rd S8192x2048 (V c main_arg0)) (((cfg0.win 0).blk t).view.emb y) = _
  refine congrArg ((rd S8192x2048 (V c main_arg0))) (funext fun a => Fin.ext ?_)
  exact (match a with
    | ⟨0, _⟩ => by show win0_0.index t (0 : Fin 2) * 256 + 1 * (y (0 : Fin 2)).val = (i (0 : Fin 2)).val; rw [h0, e0_0]; omega
    | ⟨1, _⟩ => by show win0_0.index t (1 : Fin 2) * 2048 + 1 * (y (1 : Fin 2)).val = (i (1 : Fin 2)).val; rw [h1, e0_1]; omega)

/-- Window 1's block at a point, read off its array. -/
theorem iblk0_1_at (c : Dev nD) (t : Fin cfg0.N) (y : S1x1x256x256.Idx) (i : S2x1x8192x256.Idx) (h0 : (i (0 : Fin 4)).val = 0 * 1 + (y (0 : Fin 4)).val) (h1 : (i (1 : Fin 4)).val = 0 * 1 + (y (1 : Fin 4)).val) (h2 : (i (2 : Fin 4)).val = t.val * 256 + (y (2 : Fin 4)).val) (h3 : (i (3 : Fin 4)).val = 0 * 256 + (y (3 : Fin 4)).val) :
    iblk0 V c 1 t y = (rd S2x1x8192x256 (V c main_arg1)) i := by
  obtain ⟨e0_0, e0_1, e1_0, e1_1, e1_2, e1_3, e2_0, e2_1, e2_2, e3_0, e3_1, e3_2, e4_0, e4_1, e5_0, e5_1, e6_0, e6_1, e7_0, e7_1, e8_0, e8_1⟩ := where0 t
  unfold iblk0
  show (rd S2x1x8192x256 (V c main_arg1)) (((cfg0.win 1).blk t).view.emb y) = _
  refine congrArg ((rd S2x1x8192x256 (V c main_arg1))) (funext fun a => Fin.ext ?_)
  exact (match a with
    | ⟨0, _⟩ => by show win0_1.index t (0 : Fin 4) * 1 + 1 * (y (0 : Fin 4)).val = (i (0 : Fin 4)).val; rw [h0, e1_0]; omega
    | ⟨1, _⟩ => by show win0_1.index t (1 : Fin 4) * 1 + 1 * (y (1 : Fin 4)).val = (i (1 : Fin 4)).val; rw [h1, e1_1]; omega
    | ⟨2, _⟩ => by show win0_1.index t (2 : Fin 4) * 256 + 1 * (y (2 : Fin 4)).val = (i (2 : Fin 4)).val; rw [h2, e1_2]; omega
    | ⟨3, _⟩ => by show win0_1.index t (3 : Fin 4) * 256 + 1 * (y (3 : Fin 4)).val = (i (3 : Fin 4)).val; rw [h3, e1_3]; omega)

/-- Window 2's block at a point, read off its array. -/
theorem iblk0_2_at (c : Dev nD) (t : Fin cfg0.N) (y : S1x2048x2048.Idx) (i : S2x2048x2048.Idx) (h0 : (i (0 : Fin 3)).val = 0 * 1 + (y (0 : Fin 3)).val) (h1 : (i (1 : Fin 3)).val = 0 * 2048 + (y (1 : Fin 3)).val) (h2 : (i (2 : Fin 3)).val = 0 * 2048 + (y (2 : Fin 3)).val) :
    iblk0 V c 2 t y = (rd S2x2048x2048 (V c main_arg3)) i := by
  obtain ⟨e0_0, e0_1, e1_0, e1_1, e1_2, e1_3, e2_0, e2_1, e2_2, e3_0, e3_1, e3_2, e4_0, e4_1, e5_0, e5_1, e6_0, e6_1, e7_0, e7_1, e8_0, e8_1⟩ := where0 t
  unfold iblk0
  show (rd S2x2048x2048 (V c main_arg3)) (((cfg0.win 2).blk t).view.emb y) = _
  refine congrArg ((rd S2x2048x2048 (V c main_arg3))) (funext fun a => Fin.ext ?_)
  exact (match a with
    | ⟨0, _⟩ => by show win0_2.index t (0 : Fin 3) * 1 + 1 * (y (0 : Fin 3)).val = (i (0 : Fin 3)).val; rw [h0, e2_0]; omega
    | ⟨1, _⟩ => by show win0_2.index t (1 : Fin 3) * 2048 + 1 * (y (1 : Fin 3)).val = (i (1 : Fin 3)).val; rw [h1, e2_1]; omega
    | ⟨2, _⟩ => by show win0_2.index t (2 : Fin 3) * 2048 + 1 * (y (2 : Fin 3)).val = (i (2 : Fin 3)).val; rw [h2, e2_2]; omega)

/-- Window 3's block at a point, read off its array. -/
theorem iblk0_3_at (c : Dev nD) (t : Fin cfg0.N) (y : S1x256x2048.Idx) (i : S2x256x2048.Idx) (h0 : (i (0 : Fin 3)).val = 0 * 1 + (y (0 : Fin 3)).val) (h1 : (i (1 : Fin 3)).val = 0 * 256 + (y (1 : Fin 3)).val) (h2 : (i (2 : Fin 3)).val = 0 * 2048 + (y (2 : Fin 3)).val) :
    iblk0 V c 3 t y = (rd S2x256x2048 (V c main_arg4)) i := by
  obtain ⟨e0_0, e0_1, e1_0, e1_1, e1_2, e1_3, e2_0, e2_1, e2_2, e3_0, e3_1, e3_2, e4_0, e4_1, e5_0, e5_1, e6_0, e6_1, e7_0, e7_1, e8_0, e8_1⟩ := where0 t
  unfold iblk0
  show (rd S2x256x2048 (V c main_arg4)) (((cfg0.win 3).blk t).view.emb y) = _
  refine congrArg ((rd S2x256x2048 (V c main_arg4))) (funext fun a => Fin.ext ?_)
  exact (match a with
    | ⟨0, _⟩ => by show win0_3.index t (0 : Fin 3) * 1 + 1 * (y (0 : Fin 3)).val = (i (0 : Fin 3)).val; rw [h0, e3_0]; omega
    | ⟨1, _⟩ => by show win0_3.index t (1 : Fin 3) * 256 + 1 * (y (1 : Fin 3)).val = (i (1 : Fin 3)).val; rw [h1, e3_1]; omega
    | ⟨2, _⟩ => by show win0_3.index t (2 : Fin 3) * 2048 + 1 * (y (2 : Fin 3)).val = (i (2 : Fin 3)).val; rw [h2, e3_2]; omega)

/-- Window 4's block at a point, read off its array. -/
theorem iblk0_4_at (c : Dev nD) (t : Fin cfg0.N) (y : S1x2048.Idx) (i : S1x2048.Idx) (h0 : (i (0 : Fin 2)).val = 0 * 1 + (y (0 : Fin 2)).val) (h1 : (i (1 : Fin 2)).val = 0 * 2048 + (y (1 : Fin 2)).val) :
    iblk0 V c 4 t y = (rd S1x2048 (V c main_v0)) i := by
  obtain ⟨e0_0, e0_1, e1_0, e1_1, e1_2, e1_3, e2_0, e2_1, e2_2, e3_0, e3_1, e3_2, e4_0, e4_1, e5_0, e5_1, e6_0, e6_1, e7_0, e7_1, e8_0, e8_1⟩ := where0 t
  unfold iblk0
  show (rd S1x2048 (V c main_v0)) (((cfg0.win 4).blk t).view.emb y) = _
  refine congrArg ((rd S1x2048 (V c main_v0))) (funext fun a => Fin.ext ?_)
  exact (match a with
    | ⟨0, _⟩ => by show win0_4.index t (0 : Fin 2) * 1 + 1 * (y (0 : Fin 2)).val = (i (0 : Fin 2)).val; rw [h0, e4_0]; omega
    | ⟨1, _⟩ => by show win0_4.index t (1 : Fin 2) * 2048 + 1 * (y (1 : Fin 2)).val = (i (1 : Fin 2)).val; rw [h1, e4_1]; omega)

/-- Window 5's block at a point, read off its array. -/
theorem iblk0_5_at (c : Dev nD) (t : Fin cfg0.N) (y : S1x2048.Idx) (i : S1x2048.Idx) (h0 : (i (0 : Fin 2)).val = 0 * 1 + (y (0 : Fin 2)).val) (h1 : (i (1 : Fin 2)).val = 0 * 2048 + (y (1 : Fin 2)).val) :
    iblk0 V c 5 t y = (rd S1x2048 (V c main_v1)) i := by
  obtain ⟨e0_0, e0_1, e1_0, e1_1, e1_2, e1_3, e2_0, e2_1, e2_2, e3_0, e3_1, e3_2, e4_0, e4_1, e5_0, e5_1, e6_0, e6_1, e7_0, e7_1, e8_0, e8_1⟩ := where0 t
  unfold iblk0
  show (rd S1x2048 (V c main_v1)) (((cfg0.win 5).blk t).view.emb y) = _
  refine congrArg ((rd S1x2048 (V c main_v1))) (funext fun a => Fin.ext ?_)
  exact (match a with
    | ⟨0, _⟩ => by show win0_5.index t (0 : Fin 2) * 1 + 1 * (y (0 : Fin 2)).val = (i (0 : Fin 2)).val; rw [h0, e5_0]; omega
    | ⟨1, _⟩ => by show win0_5.index t (1 : Fin 2) * 2048 + 1 * (y (1 : Fin 2)).val = (i (1 : Fin 2)).val; rw [h1, e5_1]; omega)

/-- Window 6's block at a point, read off its array. -/
theorem iblk0_6_at (c : Dev nD) (t : Fin cfg0.N) (y : S1x2048.Idx) (i : S1x2048.Idx) (h0 : (i (0 : Fin 2)).val = 0 * 1 + (y (0 : Fin 2)).val) (h1 : (i (1 : Fin 2)).val = 0 * 2048 + (y (1 : Fin 2)).val) :
    iblk0 V c 6 t y = (rd S1x2048 (V c main_v2)) i := by
  obtain ⟨e0_0, e0_1, e1_0, e1_1, e1_2, e1_3, e2_0, e2_1, e2_2, e3_0, e3_1, e3_2, e4_0, e4_1, e5_0, e5_1, e6_0, e6_1, e7_0, e7_1, e8_0, e8_1⟩ := where0 t
  unfold iblk0
  show (rd S1x2048 (V c main_v2)) (((cfg0.win 6).blk t).view.emb y) = _
  refine congrArg ((rd S1x2048 (V c main_v2))) (funext fun a => Fin.ext ?_)
  exact (match a with
    | ⟨0, _⟩ => by show win0_6.index t (0 : Fin 2) * 1 + 1 * (y (0 : Fin 2)).val = (i (0 : Fin 2)).val; rw [h0, e6_0]; omega
    | ⟨1, _⟩ => by show win0_6.index t (1 : Fin 2) * 2048 + 1 * (y (1 : Fin 2)).val = (i (1 : Fin 2)).val; rw [h1, e6_1]; omega)

/-- The stream with the gated normalised embeddings added, in a point's block: the formula over the blocks is the formula over the arrays. -/
theorem ple_blk0 (c : Dev nD) (t : Fin cfg0.N) (y : S256x2048.Idx) (i : S8192x2048.Idx)
    (q0 : (i 0).val = t.val * 256 + (y 0).val) (q1 : (i 1).val = 0 * 2048 + (y 1).val) :
    rd S256x2048 (iblk0 V c 0 t) y + hnS (fun j => ∑ k : Fin 256, rd S1x1x256x256 (iblk0 V c 1 t) (ix4 (0 : Fin 1) (0 : Fin 1) (y 0) k) * rd S256x2048 (k0_pay4 (iblk0 V c 3 t)) (ix2 k j)) (fun k => rd S1x2048 (iblk0 V c 5 t) (ix2 (0 : Fin 1) k)) (y 1)
        * Ideal.logistic (∑ k : Fin 2048, hnS (fun k => rd S256x2048 (iblk0 V c 0 t) (ix2 (y 0) k)) (fun k => rd S1x2048 (iblk0 V c 4 t) (ix2 (0 : Fin 1) k)) k * rd S2048x2048 (k0_pay3 (iblk0 V c 2 t)) (ix2 k (y 1)))
      = ple 0 (rd S8192x2048 (V c main_arg0)) (rd S2x1x8192x256 (V c main_arg1)) (fun k => rd S1x2048 (V c main_v0) (ix2 (0 : Fin 1) k)) (rd S2x2048x2048 (V c main_arg3)) (rd S2x256x2048 (V c main_arg4)) (fun k => rd S1x2048 (V c main_v1) (ix2 (0 : Fin 1) k)) i := by
  have hx : ∀ k : Fin 2048, iblk0 V c 0 t (ix2 (y 0) k) = rd S8192x2048 (V c main_arg0) (ix2 (i 0) k) := fun k =>
    iblk0_0_at V c t _ _ q0 (by show k.val = 0 * 2048 + k.val; omega)
  have h4 : ∀ k : Fin 2048, iblk0 V c 4 t (ix2 (0 : Fin 1) k) = rd S1x2048 (V c main_v0) (ix2 (0 : Fin 1) k) := fun k =>
    iblk0_4_at V c t _ _ (by show 0 = 0 * 1 + 0; omega) (by show k.val = 0 * 2048 + k.val; omega)
  have h5 : ∀ k : Fin 2048, iblk0 V c 5 t (ix2 (0 : Fin 1) k) = rd S1x2048 (V c main_v1) (ix2 (0 : Fin 1) k) := fun k =>
    iblk0_5_at V c t _ _ (by show 0 = 0 * 1 + 0; omega) (by show k.val = 0 * 2048 + k.val; omega)
  have h1 : (y 1 : Fin 2048) = i 1 := Fin.ext (by omega)
  unfold ple gate
  refine congrArg₂ (· + ·) (iblk0_0_at V c t y i q0 q1) (congrArg₂ (· * ·) ?_ (congrArg Ideal.logistic (Finset.sum_congr rfl fun k _ => ?_)))
  · rw [h1]
    refine congrArg₂ (fun a b => hnS a b (i 1)) (funext fun j => Finset.sum_congr rfl fun k _ => ?_) (funext h5)
    refine congrArg₂ (· * ·) (iblk0_1_at V c t _ _ ?_ ?_ ?_ ?_) ((k0_pay4_at _ _).trans (iblk0_3_at V c t _ _ ?_ ?_ ?_))
    · rfl
    · rfl
    · exact q0
    · show k.val = 0 * 256 + k.val; omega
    · rfl
    · show k.val = 0 * 256 + k.val; omega
    · show j.val = 0 * 2048 + j.val; omega
  · refine congrArg₂ (· * ·) (congrArg₂ (fun a b => hnS a b k) (funext hx) (funext h4)) ((k0_pay3_at _ _).trans (iblk0_2_at V c t _ _ ?_ ?_ ?_))
    · rfl
    · show k.val = 0 * 2048 + k.val; omega
    · show (i 1).val = 0 * 2048 + (y 1).val; omega

/-- Every point writes output window 7 back. -/
theorem flush0_7_all : ∀ t : Fin cfg0.N, (cfg0.win 7).flush t = true :=
  (by decide +kernel : ∀ t : Fin grid0.N, win0_7.flush t = true)

/-- An index of the array is in a point's block iff each coordinate is in the block's range. -/
theorem mem0_7 (t : Fin cfg0.N) (i : S8192x2048.Idx) :
    i ∈ ((cfg0.win 7).blk t).view.set ↔ ∀ a : Fin 2, win0_7.index t a * S256x2048.size a ≤ (i a).val ∧ (i a).val < win0_7.index t a * S256x2048.size a + S256x2048.size a := by
  show i ∈ ((View.whole main_v3_0).slice (win0_7.rect t)).set ↔ _
  rw [View.set_slice_whole, Rect.mem_set_unit]
  exact Iff.rfl

/-- Every index of output window 7's array is in the block of a point that writes back. -/
theorem covered0_7 (i : S8192x2048.Idx) :
    ∃ t : Fin cfg0.N, (cfg0.win 7).flush t = true ∧ i ∈ ((cfg0.win 7).blk t).view.set := by
  have hi0 : (i 0).val < 8192 := (i 0).isLt
  have hi1 : (i 1).val < 2048 := (i 1).isLt
  have hN : cfg0.N = 32 := by decide
  refine ⟨⟨(i 0).val / 256, by rw [hN]; omega⟩, (flush0_7_all _), ?_⟩
  rw [mem0_7]
  obtain ⟨e0_0, e0_1, e1_0, e1_1, e1_2, e1_3, e2_0, e2_1, e2_2, e3_0, e3_1, e3_2, e4_0, e4_1, e5_0, e5_1, e6_0, e6_1, e7_0, e7_1, e8_0, e8_1⟩ := where0 (⟨(i 0).val / 256, by rw [hN]; omega⟩ : Fin cfg0.N)
  intro a
  match a with
  | ⟨0, _⟩ => show win0_7.index _ (0 : Fin 2) * 256 ≤ (i 0).val ∧ (i 0).val < win0_7.index _ (0 : Fin 2) * 256 + 256; rw [e7_0]; dsimp only; omega
  | ⟨1, _⟩ => show win0_7.index _ (1 : Fin 2) * 2048 ≤ (i 1).val ∧ (i 1).val < win0_7.index _ (1 : Fin 2) * 2048 + 2048; rw [e7_1]; dsimp only; omega

/-- The stream with the gated normalised embeddings added, as the region finds its arrays. -/
def G0_7 (c : Dev nD) : (⟨2, S8192x2048.size⟩ : Shape).Idx → EReal := fun i =>
  ple 0 (rd S8192x2048 (V c main_arg0)) (rd S2x1x8192x256 (V c main_arg1)) (fun k => rd S1x2048 (V c main_v0) (ix2 (0 : Fin 1) k)) (rd S2x2048x2048 (V c main_arg3)) (rd S2x256x2048 (V c main_arg4)) (fun k => rd S1x2048 (V c main_v1) (ix2 (0 : Fin 1) k)) i

/-- What a point writes back to output window 7 is that function read through the block. -/
theorem flushed0_7 (c : Dev nD) (t : Fin cfg0.N) :
    (dat0 V c).flushed 7 t = ((cfg0.win 7).blk t).view.read (Elt Ideal) (G0_7 V c) := by
  obtain ⟨e0_0, e0_1, e1_0, e1_1, e1_2, e1_3, e2_0, e2_1, e2_2, e3_0, e3_1, e3_2, e4_0, e4_1, e5_0, e5_1, e6_0, e6_1, e7_0, e7_1, e8_0, e8_1⟩ := where0 t
  refine funext fun (y : S256x2048.Idx) => ?_
  have q0 : ((((cfg0.win 7).blk t).view.emb y : S8192x2048.Idx) 0).val = t.val * 256 + (y 0).val := by
    show win0_7.index t (0 : Fin 2) * 256 + 1 * (y 0).val = _
    rw [e7_0]; omega
  have q1 : ((((cfg0.win 7).blk t).view.emb y : S8192x2048.Idx) 1).val = 0 * 2048 + (y 1).val := by
    show win0_7.index t (1 : Fin 2) * 2048 + 1 * (y 1).val = _
    rw [e7_1]; omega
  show (dat0 V c).after 7 t y = G0_7 V c (((cfg0.win 7).blk t).view.emb y)
  generalize (((cfg0.win 7).blk t).view.emb y : S8192x2048.Idx) = i at q0 q1
  have b0 := idx2_lt0 y
  have b1 := idx2_lt1 y
  have hN : cfg0.N = 32 := by decide
  have ht : t.val < 32 := lt_of_lt_of_eq t.isLt hN
  rw [after0_7]
  rw [k0_pay1_at]
  unfold G0_7
  exact ple_blk0 V c t y i q0 q1

/-- Output window 7's array at the region's exit. -/
theorem final0_7 (c : Dev nD) : (dat0 V c).arrAt 7 cfg0.N = G0_7 V c :=
  (dat0 V c).arrAt_eq_of_cover 7 _ (fun t _ => flushed0_7 V c t) covered0_7

/-- Every point writes output window 8 back. -/
theorem flush0_8_all : ∀ t : Fin cfg0.N, (cfg0.win 8).flush t = true :=
  (by decide +kernel : ∀ t : Fin grid0.N, win0_8.flush t = true)

/-- An index of the array is in a point's block iff each coordinate is in the block's range. -/
theorem mem0_8 (t : Fin cfg0.N) (i : S8192x2048.Idx) :
    i ∈ ((cfg0.win 8).blk t).view.set ↔ ∀ a : Fin 2, win0_8.index t a * S256x2048.size a ≤ (i a).val ∧ (i a).val < win0_8.index t a * S256x2048.size a + S256x2048.size a := by
  show i ∈ ((View.whole main_v3_1).slice (win0_8.rect t)).set ↔ _
  rw [View.set_slice_whole, Rect.mem_set_unit]
  exact Iff.rfl

/-- Every index of output window 8's array is in the block of a point that writes back. -/
theorem covered0_8 (i : S8192x2048.Idx) :
    ∃ t : Fin cfg0.N, (cfg0.win 8).flush t = true ∧ i ∈ ((cfg0.win 8).blk t).view.set := by
  have hi0 : (i 0).val < 8192 := (i 0).isLt
  have hi1 : (i 1).val < 2048 := (i 1).isLt
  have hN : cfg0.N = 32 := by decide
  refine ⟨⟨(i 0).val / 256, by rw [hN]; omega⟩, (flush0_8_all _), ?_⟩
  rw [mem0_8]
  obtain ⟨e0_0, e0_1, e1_0, e1_1, e1_2, e1_3, e2_0, e2_1, e2_2, e3_0, e3_1, e3_2, e4_0, e4_1, e5_0, e5_1, e6_0, e6_1, e7_0, e7_1, e8_0, e8_1⟩ := where0 (⟨(i 0).val / 256, by rw [hN]; omega⟩ : Fin cfg0.N)
  intro a
  match a with
  | ⟨0, _⟩ => show win0_8.index _ (0 : Fin 2) * 256 ≤ (i 0).val ∧ (i 0).val < win0_8.index _ (0 : Fin 2) * 256 + 256; rw [e8_0]; dsimp only; omega
  | ⟨1, _⟩ => show win0_8.index _ (1 : Fin 2) * 2048 ≤ (i 1).val ∧ (i 1).val < win0_8.index _ (1 : Fin 2) * 2048 + 2048; rw [e8_1]; dsimp only; omega

/-- The normalised rows of that stream, as the region finds its arrays. -/
def G0_8 (c : Dev nD) : (⟨2, S8192x2048.size⟩ : Shape).Idx → EReal := fun i =>
  hnS (fun j => ple 0 (rd S8192x2048 (V c main_arg0)) (rd S2x1x8192x256 (V c main_arg1)) (fun k => rd S1x2048 (V c main_v0) (ix2 (0 : Fin 1) k)) (rd S2x2048x2048 (V c main_arg3)) (rd S2x256x2048 (V c main_arg4)) (fun k => rd S1x2048 (V c main_v1) (ix2 (0 : Fin 1) k)) (ix2 (i 0) j)) (fun k => rd S1x2048 (V c main_v2) (ix2 (0 : Fin 1) k)) (i 1)

/-- What a point writes back to output window 8 is that function read through the block. -/
theorem flushed0_8 (c : Dev nD) (t : Fin cfg0.N) :
    (dat0 V c).flushed 8 t = ((cfg0.win 8).blk t).view.read (Elt Ideal) (G0_8 V c) := by
  obtain ⟨e0_0, e0_1, e1_0, e1_1, e1_2, e1_3, e2_0, e2_1, e2_2, e3_0, e3_1, e3_2, e4_0, e4_1, e5_0, e5_1, e6_0, e6_1, e7_0, e7_1, e8_0, e8_1⟩ := where0 t
  refine funext fun (y : S256x2048.Idx) => ?_
  have q0 : ((((cfg0.win 8).blk t).view.emb y : S8192x2048.Idx) 0).val = t.val * 256 + (y 0).val := by
    show win0_8.index t (0 : Fin 2) * 256 + 1 * (y 0).val = _
    rw [e8_0]; omega
  have q1 : ((((cfg0.win 8).blk t).view.emb y : S8192x2048.Idx) 1).val = 0 * 2048 + (y 1).val := by
    show win0_8.index t (1 : Fin 2) * 2048 + 1 * (y 1).val = _
    rw [e8_1]; omega
  show (dat0 V c).after 8 t y = G0_8 V c (((cfg0.win 8).blk t).view.emb y)
  generalize (((cfg0.win 8).blk t).view.emb y : S8192x2048.Idx) = i at q0 q1
  have b0 := idx2_lt0 y
  have b1 := idx2_lt1 y
  have hN : cfg0.N = 32 := by decide
  have ht : t.val < 32 := lt_of_lt_of_eq t.isLt hN
  rw [after0_8]
  rw [k0_pay2_at]
  have h6 : ∀ k : Fin 2048, iblk0 V c 6 t (ix2 (0 : Fin 1) k) = rd S1x2048 (V c main_v2) (ix2 (0 : Fin 1) k) := fun k =>
    iblk0_6_at V c t _ _ (by show 0 = 0 * 1 + 0; omega) (by show k.val = 0 * 2048 + k.val; omega)
  have h1 : (y 1 : Fin 2048) = i 1 := Fin.ext (by omega)
  unfold G0_8
  rw [h1]
  refine congrArg₂ (fun a b => hnS a b (i 1)) (funext fun j => ?_) (funext h6)
  exact (k0_pay1_at _ _ _ _ _ _ _).trans (ple_blk0 V c t (ix2 (y 0) j) (ix2 (i 0) j) q0 (by show j.val = 0 * 2048 + j.val; omega))

/-- Output window 8's array at the region's exit. -/
theorem final0_8 (c : Dev nD) : (dat0 V c).arrAt 8 cfg0.N = G0_8 V c :=
  (dat0 V c).arrAt_eq_of_cover 8 _ (fun t _ => flushed0_8 V c t) covered0_8

end Cert.Kernel2Ideal.Hand

end
-- ==== Proof.P2Value1.lean ====
module

public import proofs.«01_k».proof.Proof.P2Region1
public import proofs.«01_k».proof.Proof.P2Pay

@[expose] public section

set_option maxRecDepth 16384

noncomputable section

namespace Cert.Kernel2Ideal.Hand

open Cert.Kernel2Ideal Cert.Kernel2Ideal.Gen Cert.Hand
open Idealize.ShloMosaic Idealize.ShloMosaic.TcCoe Idealize.ShloMosaic.ValueIdx Idealize.SL.Sem
open Idealize.ShloMosaic.Pipeline (Dat Cfg Window)

variable (V : (c : Dev nD) → Valuation τ sig (Elt Ideal))

/-- Where each window's block sits, at every point of the grid. -/
theorem where1 : ∀ t : Fin grid1.N, win1_0.index t (0 : Fin 2) = t.val ∧ win1_0.index t (1 : Fin 2) = 0 ∧ win1_1.index t (0 : Fin 3) = 1 ∧ win1_1.index t (1 : Fin 3) = 0 ∧ win1_1.index t (2 : Fin 3) = 5120 ∧ win1_2.index t (0 : Fin 3) = 1 ∧ win1_2.index t (1 : Fin 3) = 0 ∧ win1_2.index t (2 : Fin 3) = 10624 ∧ win1_3.index t (0 : Fin 3) = 1 ∧ win1_3.index t (1 : Fin 3) = 5120 + t.val * 48 ∧ win1_3.index t (2 : Fin 3) = 0 ∧ win1_4.index t (0 : Fin 2) = t.val ∧ win1_4.index t (1 : Fin 2) = 0 ∧ win1_5.index t (0 : Fin 2) = t.val ∧ win1_5.index t (1 : Fin 2) = 0 := by
  decide +kernel

/-- Window 0's block at a point, read off its array. -/
theorem iblk1_0_at (c : Dev nD) (t : Fin cfg1.N) (y : S1024x2048.Idx) (i : S8192x2048.Idx) (h0 : (i (0 : Fin 2)).val = t.val * 1024 + (y (0 : Fin 2)).val) (h1 : (i (1 : Fin 2)).val = 0 * 2048 + (y (1 : Fin 2)).val) :
    iblk1 V c 0 t y = (rd S8192x2048 (V c main_v3_1)) i := by
  obtain ⟨e0_0, e0_1, e1_0, e1_1, e1_2, e2_0, e2_1, e2_2, e3_0, e3_1, e3_2, e4_0, e4_1, e5_0, e5_1⟩ := where1 t
  unfold iblk1
  show (rd S8192x2048 (V c main_v3_1)) (((cfg1.win 0).blk t).view.emb y) = _
  refine congrArg ((rd S8192x2048 (V c main_v3_1))) (funext fun a => Fin.ext ?_)
  exact (match a with
    | ⟨0, _⟩ => by show win1_0.index t (0 : Fin 2) * 1024 + 1 * (y (0 : Fin 2)).val = (i (0 : Fin 2)).val; rw [h0, e0_0]; omega
    | ⟨1, _⟩ => by show win1_0.index t (1 : Fin 2) * 2048 + 1 * (y (1 : Fin 2)).val = (i (1 : Fin 2)).val; rw [h1, e0_1]; omega)

/-- Window 1's block at a point, read off its array. -/
theorem iblk1_1_at (c : Dev nD) (t : Fin cfg1.N) (y : S1x2048x384.Idx) (i : S2x2048x11008.Idx) (h0 : (i (0 : Fin 3)).val = 1 + (y (0 : Fin 3)).val) (h1 : (i (1 : Fin 3)).val = 0 + (y (1 : Fin 3)).val) (h2 : (i (2 : Fin 3)).val = 5120 + (y (2 : Fin 3)).val) :
    iblk1 V c 1 t y = (rd S2x2048x11008 (V c main_arg7)) i := by
  obtain ⟨e0_0, e0_1, e1_0, e1_1, e1_2, e2_0, e2_1, e2_2, e3_0, e3_1, e3_2, e4_0, e4_1, e5_0, e5_1⟩ := where1 t
  unfold iblk1
  show (rd S2x2048x11008 (V c main_arg7)) (((cfg1.win 1).blk t).view.emb y) = _
  refine congrArg ((rd S2x2048x11008 (V c main_arg7))) (funext fun a => Fin.ext ?_)
  exact (match a with
    | ⟨0, _⟩ => by show win1_1.index t (0 : Fin 3) + 1 * (y (0 : Fin 3)).val = (i (0 : Fin 3)).val; rw [h0, e1_0]; omega
    | ⟨1, _⟩ => by show win1_1.index t (1 : Fin 3) + 1 * (y (1 : Fin 3)).val = (i (1 : Fin 3)).val; rw [h1, e1_1]; omega
    | ⟨2, _⟩ => by show win1_1.index t (2 : Fin 3) + 1 * (y (2 : Fin 3)).val = (i (2 : Fin 3)).val; rw [h2, e1_2]; omega)

/-- Window 2's block at a point, read off its array. -/
theorem iblk1_2_at (c : Dev nD) (t : Fin cfg1.N) (y : S1x2048x384.Idx) (i : S2x2048x11008.Idx) (h0 : (i (0 : Fin 3)).val = 1 + (y (0 : Fin 3)).val) (h1 : (i (1 : Fin 3)).val = 0 + (y (1 : Fin 3)).val) (h2 : (i (2 : Fin 3)).val = 10624 + (y (2 : Fin 3)).val) :
    iblk1 V c 2 t y = (rd S2x2048x11008 (V c main_arg7)) i := by
  obtain ⟨e0_0, e0_1, e1_0, e1_1, e1_2, e2_0, e2_1, e2_2, e3_0, e3_1, e3_2, e4_0, e4_1, e5_0, e5_1⟩ := where1 t
  unfold iblk1
  show (rd S2x2048x11008 (V c main_arg7)) (((cfg1.win 2).blk t).view.emb y) = _
  refine congrArg ((rd S2x2048x11008 (V c main_arg7))) (funext fun a => Fin.ext ?_)
  exact (match a with
    | ⟨0, _⟩ => by show win1_2.index t (0 : Fin 3) + 1 * (y (0 : Fin 3)).val = (i (0 : Fin 3)).val; rw [h0, e2_0]; omega
    | ⟨1, _⟩ => by show win1_2.index t (1 : Fin 3) + 1 * (y (1 : Fin 3)).val = (i (1 : Fin 3)).val; rw [h1, e2_1]; omega
    | ⟨2, _⟩ => by show win1_2.index t (2 : Fin 3) + 1 * (y (2 : Fin 3)).val = (i (2 : Fin 3)).val; rw [h2, e2_2]; omega)

/-- Window 3's block at a point, read off its array. -/
theorem iblk1_3_at (c : Dev nD) (t : Fin cfg1.N) (y : S1x48x2048.Idx) (i : S2x5504x2048.Idx) (h0 : (i (0 : Fin 3)).val = 1 + (y (0 : Fin 3)).val) (h1 : (i (1 : Fin 3)).val = 5120 + t.val * 48 + (y (1 : Fin 3)).val) (h2 : (i (2 : Fin 3)).val = 0 + (y (2 : Fin 3)).val) :
    iblk1 V c 3 t y = (rd S2x5504x2048 (V c main_arg8)) i := by
  obtain ⟨e0_0, e0_1, e1_0, e1_1, e1_2, e2_0, e2_1, e2_2, e3_0, e3_1, e3_2, e4_0, e4_1, e5_0, e5_1⟩ := where1 t
  unfold iblk1
  show (rd S2x5504x2048 (V c main_arg8)) (((cfg1.win 3).blk t).view.emb y) = _
  refine congrArg ((rd S2x5504x2048 (V c main_arg8))) (funext fun a => Fin.ext ?_)
  exact (match a with
    | ⟨0, _⟩ => by show win1_3.index t (0 : Fin 3) + 1 * (y (0 : Fin 3)).val = (i (0 : Fin 3)).val; rw [h0, e3_0]; omega
    | ⟨1, _⟩ => by show win1_3.index t (1 : Fin 3) + 1 * (y (1 : Fin 3)).val = (i (1 : Fin 3)).val; rw [h1, e3_1]; omega
    | ⟨2, _⟩ => by show win1_3.index t (2 : Fin 3) + 1 * (y (2 : Fin 3)).val = (i (2 : Fin 3)).val; rw [h2, e3_2]; omega)

/-- Every point writes output window 4 back. -/
theorem flush1_4_all : ∀ t : Fin cfg1.N, (cfg1.win 4).flush t = true :=
  (by decide +kernel : ∀ t : Fin grid1.N, win1_4.flush t = true)

/-- An index of the array is in a point's block iff each coordinate is in the block's range. -/
theorem mem1_4 (t : Fin cfg1.N) (i : S8192x384.Idx) :
    i ∈ ((cfg1.win 4).blk t).view.set ↔ ∀ a : Fin 2, win1_4.index t a * S1024x384.size a ≤ (i a).val ∧ (i a).val < win1_4.index t a * S1024x384.size a + S1024x384.size a := by
  show i ∈ ((View.whole main_v4_0).slice (win1_4.rect t)).set ↔ _
  rw [View.set_slice_whole, Rect.mem_set_unit]
  exact Iff.rfl

/-- Every index of output window 4's array is in the block of a point that writes back. -/
theorem covered1_4 (i : S8192x384.Idx) :
    ∃ t : Fin cfg1.N, (cfg1.win 4).flush t = true ∧ i ∈ ((cfg1.win 4).blk t).view.set := by
  have hi0 : (i 0).val < 8192 := (i 0).isLt
  have hi1 : (i 1).val < 384 := (i 1).isLt
  have hN : cfg1.N = 8 := by decide
  refine ⟨⟨(i 0).val / 1024, by rw [hN]; omega⟩, (flush1_4_all _), ?_⟩
  rw [mem1_4]
  obtain ⟨e0_0, e0_1, e1_0, e1_1, e1_2, e2_0, e2_1, e2_2, e3_0, e3_1, e3_2, e4_0, e4_1, e5_0, e5_1⟩ := where1 (⟨(i 0).val / 1024, by rw [hN]; omega⟩ : Fin cfg1.N)
  intro a
  match a with
  | ⟨0, _⟩ => show win1_4.index _ (0 : Fin 2) * 1024 ≤ (i 0).val ∧ (i 0).val < win1_4.index _ (0 : Fin 2) * 1024 + 1024; rw [e4_0]; dsimp only; omega
  | ⟨1, _⟩ => show win1_4.index _ (1 : Fin 2) * 384 ≤ (i 1).val ∧ (i 1).val < win1_4.index _ (1 : Fin 2) * 384 + 384; rw [e4_1]; dsimp only; omega

/-- The activations of the last 384 columns, as the region finds its arrays. -/
def G1_4 (c : Dev nD) : (⟨2, S8192x384.size⟩ : Shape).Idx → EReal := fun i =>
  glu (∑ k : Fin 2048, rd S8192x2048 (V c main_v3_1) (ix2 (i 0) k) * rd S2x2048x11008 (V c main_arg7) (ix3 (1 : Fin 2) k ⟨5120 + (i 1).val, by have := idx2_lt1 i; omega⟩))
    (∑ k : Fin 2048, rd S8192x2048 (V c main_v3_1) (ix2 (i 0) k) * rd S2x2048x11008 (V c main_arg7) (ix3 (1 : Fin 2) k ⟨10624 + (i 1).val, by have := idx2_lt1 i; omega⟩))

/-- What a point writes back to output window 4 is that function read through the block. -/
theorem flushed1_4 (c : Dev nD) (t : Fin cfg1.N) :
    (dat1 V c).flushed 4 t = ((cfg1.win 4).blk t).view.read (Elt Ideal) (G1_4 V c) := by
  obtain ⟨e0_0, e0_1, e1_0, e1_1, e1_2, e2_0, e2_1, e2_2, e3_0, e3_1, e3_2, e4_0, e4_1, e5_0, e5_1⟩ := where1 t
  refine funext fun (y : S1024x384.Idx) => ?_
  have q0 : ((((cfg1.win 4).blk t).view.emb y : S8192x384.Idx) 0).val = t.val * 1024 + (y 0).val := by
    show win1_4.index t (0 : Fin 2) * 1024 + 1 * (y 0).val = _
    rw [e4_0]; omega
  have q1 : ((((cfg1.win 4).blk t).view.emb y : S8192x384.Idx) 1).val = 0 * 384 + (y 1).val := by
    show win1_4.index t (1 : Fin 2) * 384 + 1 * (y 1).val = _
    rw [e4_1]; omega
  show (dat1 V c).after 4 t y = G1_4 V c (((cfg1.win 4).blk t).view.emb y)
  generalize (((cfg1.win 4).blk t).view.emb y : S8192x384.Idx) = i at q0 q1
  have b0 := idx2_lt0 y
  have b1 := idx2_lt1 y
  have hN : cfg1.N = 8 := by decide
  have ht : t.val < 8 := lt_of_lt_of_eq t.isLt hN
  rw [after1_4]
  rw [k1_pay4_at]
  have hx : ∀ k : Fin 2048, iblk1 V c 0 t (ix2 (y 0) k) = rd S8192x2048 (V c main_v3_1) (ix2 (i 0) k) := fun k =>
    iblk1_0_at V c t _ _ (by rw [← q0]) (by show k.val = 0 * 2048 + k.val; omega)
  unfold G1_4
  refine congrArg₂ glu (Finset.sum_congr rfl fun k _ => ?_) (Finset.sum_congr rfl fun k _ => ?_)
  · rw [k1_pay1_at]
    refine congrArg₂ (· * ·) (hx k) (iblk1_1_at V c t _ _ ?_ ?_ ?_)
    · rfl
    · show k.val = 0 + k.val; omega
    · show 5120 + (i 1).val = 5120 + (y 1).val; omega
  · rw [k1_pay2_at]
    refine congrArg₂ (· * ·) (hx k) (iblk1_2_at V c t _ _ ?_ ?_ ?_)
    · rfl
    · show k.val = 0 + k.val; omega
    · show 10624 + (i 1).val = 10624 + (y 1).val; omega

/-- Output window 4's array at the region's exit. -/
theorem final1_4 (c : Dev nD) : (dat1 V c).arrAt 4 cfg1.N = G1_4 V c :=
  (dat1 V c).arrAt_eq_of_cover 4 _ (fun t _ => flushed1_4 V c t) covered1_4

/-- Every point writes output window 5 back. -/
theorem flush1_5_all : ∀ t : Fin cfg1.N, (cfg1.win 5).flush t = true :=
  (by decide +kernel : ∀ t : Fin grid1.N, win1_5.flush t = true)

/-- An index of the array is in a point's block iff each coordinate is in the block's range. -/
theorem mem1_5 (t : Fin cfg1.N) (i : S384x2048.Idx) :
    i ∈ ((cfg1.win 5).blk t).view.set ↔ ∀ a : Fin 2, win1_5.index t a * S48x2048.size a ≤ (i a).val ∧ (i a).val < win1_5.index t a * S48x2048.size a + S48x2048.size a := by
  show i ∈ ((View.whole main_v4_1).slice (win1_5.rect t)).set ↔ _
  rw [View.set_slice_whole, Rect.mem_set_unit]
  exact Iff.rfl

/-- Every index of output window 5's array is in the block of a point that writes back. -/
theorem covered1_5 (i : S384x2048.Idx) :
    ∃ t : Fin cfg1.N, (cfg1.win 5).flush t = true ∧ i ∈ ((cfg1.win 5).blk t).view.set := by
  have hi0 : (i 0).val < 384 := (i 0).isLt
  have hi1 : (i 1).val < 2048 := (i 1).isLt
  have hN : cfg1.N = 8 := by decide
  refine ⟨⟨(i 0).val / 48, by rw [hN]; omega⟩, (flush1_5_all _), ?_⟩
  rw [mem1_5]
  obtain ⟨e0_0, e0_1, e1_0, e1_1, e1_2, e2_0, e2_1, e2_2, e3_0, e3_1, e3_2, e4_0, e4_1, e5_0, e5_1⟩ := where1 (⟨(i 0).val / 48, by rw [hN]; omega⟩ : Fin cfg1.N)
  intro a
  match a with
  | ⟨0, _⟩ => show win1_5.index _ (0 : Fin 2) * 48 ≤ (i 0).val ∧ (i 0).val < win1_5.index _ (0 : Fin 2) * 48 + 48; rw [e5_0]; dsimp only; omega
  | ⟨1, _⟩ => show win1_5.index _ (1 : Fin 2) * 2048 ≤ (i 1).val ∧ (i 1).val < win1_5.index _ (1 : Fin 2) * 2048 + 2048; rw [e5_1]; dsimp only; omega

/-- The last 384 rows of the output weight, as the region finds its arrays. -/
def G1_5 (c : Dev nD) : (⟨2, S384x2048.size⟩ : Shape).Idx → EReal := fun i =>
  rd S2x5504x2048 (V c main_arg8) (ix3 (1 : Fin 2) ⟨5120 + (i 0).val, by have := idx2_lt0 i; omega⟩ (i 1))

/-- What a point writes back to output window 5 is that function read through the block. -/
theorem flushed1_5 (c : Dev nD) (t : Fin cfg1.N) :
    (dat1 V c).flushed 5 t = ((cfg1.win 5).blk t).view.read (Elt Ideal) (G1_5 V c) := by
  obtain ⟨e0_0, e0_1, e1_0, e1_1, e1_2, e2_0, e2_1, e2_2, e3_0, e3_1, e3_2, e4_0, e4_1, e5_0, e5_1⟩ := where1 t
  refine funext fun (y : S48x2048.Idx) => ?_
  have q0 : ((((cfg1.win 5).blk t).view.emb y : S384x2048.Idx) 0).val = t.val * 48 + (y 0).val := by
    show win1_5.index t (0 : Fin 2) * 48 + 1 * (y 0).val = _
    rw [e5_0]; omega
  have q1 : ((((cfg1.win 5).blk t).view.emb y : S384x2048.Idx) 1).val = 0 * 2048 + (y 1).val := by
    show win1_5.index t (1 : Fin 2) * 2048 + 1 * (y 1).val = _
    rw [e5_1]; omega
  show (dat1 V c).after 5 t y = G1_5 V c (((cfg1.win 5).blk t).view.emb y)
  generalize (((cfg1.win 5).blk t).view.emb y : S384x2048.Idx) = i at q0 q1
  have b0 := idx2_lt0 y
  have b1 := idx2_lt1 y
  have hN : cfg1.N = 8 := by decide
  have ht : t.val < 8 := lt_of_lt_of_eq t.isLt hN
  rw [after1_5]
  rw [k1_pay3_at]
  unfold G1_5
  refine iblk1_3_at V c t _ _ ?_ ?_ ?_
  · rfl
  · show 5120 + (i 0).val = 5120 + t.val * 48 + (y 0).val; omega
  · show (i 1).val = 0 + (y 1).val; omega

/-- Output window 5's array at the region's exit. -/
theorem final1_5 (c : Dev nD) : (dat1 V c).arrAt 5 cfg1.N = G1_5 V c :=
  (dat1 V c).arrAt_eq_of_cover 5 _ (fun t _ => flushed1_5 V c t) covered1_5

end Cert.Kernel2Ideal.Hand

end
-- ==== Proof.P2Value2.lean ====
module

public import proofs.«01_k».proof.Proof.P2Region2
public import proofs.«01_k».proof.Proof.P2Pay

@[expose] public section

set_option maxRecDepth 16384

noncomputable section

namespace Cert.Kernel2Ideal.Hand

open Cert.Kernel2Ideal Cert.Kernel2Ideal.Gen Cert.Hand
open Idealize.ShloMosaic Idealize.ShloMosaic.TcCoe Idealize.ShloMosaic.ValueIdx Idealize.SL.Sem
open Idealize.ShloMosaic.Pipeline (Dat Cfg Window)

variable (V : (c : Dev nD) → Valuation τ sig (Elt Ideal))

/-- Where each window's block sits, at every point of the grid. -/
theorem where2 : ∀ t : Fin grid2.N, win2_0.index t (0 : Fin 2) = t.val % 8 ∧ win2_0.index t (1 : Fin 2) = 0 ∧ win2_1.index t (0 : Fin 3) = 1 ∧ win2_1.index t (1 : Fin 3) = 0 ∧ win2_1.index t (2 : Fin 3) = t.val / 8 * 512 ∧ win2_2.index t (0 : Fin 3) = 1 ∧ win2_2.index t (1 : Fin 3) = 0 ∧ win2_2.index t (2 : Fin 3) = 5504 + t.val / 8 * 512 ∧ win2_3.index t (0 : Fin 3) = 1 ∧ win2_3.index t (1 : Fin 3) = t.val * 64 ∧ win2_3.index t (2 : Fin 3) = 0 ∧ win2_4.index t (0 : Fin 2) = t.val % 8 ∧ win2_4.index t (1 : Fin 2) = t.val / 8 ∧ win2_5.index t (0 : Fin 2) = t.val ∧ win2_5.index t (1 : Fin 2) = 0 := by
  decide +kernel

/-- Window 0's block at a point, read off its array. -/
theorem iblk2_0_at (c : Dev nD) (t : Fin cfg2.N) (y : S1024x2048.Idx) (i : S8192x2048.Idx) (h0 : (i (0 : Fin 2)).val = t.val % 8 * 1024 + (y (0 : Fin 2)).val) (h1 : (i (1 : Fin 2)).val = 0 * 2048 + (y (1 : Fin 2)).val) :
    iblk2 V c 0 t y = (rd S8192x2048 (V c main_v3_1)) i := by
  obtain ⟨e0_0, e0_1, e1_0, e1_1, e1_2, e2_0, e2_1, e2_2, e3_0, e3_1, e3_2, e4_0, e4_1, e5_0, e5_1⟩ := where2 t
  unfold iblk2
  show (rd S8192x2048 (V c main_v3_1)) (((cfg2.win 0).blk t).view.emb y) = _
  refine congrArg ((rd S8192x2048 (V c main_v3_1))) (funext fun a => Fin.ext ?_)
  exact (match a with
    | ⟨0, _⟩ => by show win2_0.index t (0 : Fin 2) * 1024 + 1 * (y (0 : Fin 2)).val = (i (0 : Fin 2)).val; rw [h0, e0_0]; omega
    | ⟨1, _⟩ => by show win2_0.index t (1 : Fin 2) * 2048 + 1 * (y (1 : Fin 2)).val = (i (1 : Fin 2)).val; rw [h1, e0_1]; omega)

/-- Window 1's block at a point, read off its array. -/
theorem iblk2_1_at (c : Dev nD) (t : Fin cfg2.N) (y : S1x2048x512.Idx) (i : S2x2048x11008.Idx) (h0 : (i (0 : Fin 3)).val = 1 + (y (0 : Fin 3)).val) (h1 : (i (1 : Fin 3)).val = 0 + (y (1 : Fin 3)).val) (h2 : (i (2 : Fin 3)).val = t.val / 8 * 512 + (y (2 : Fin 3)).val) :
    iblk2 V c 1 t y = (rd S2x2048x11008 (V c main_arg7)) i := by
  obtain ⟨e0_0, e0_1, e1_0, e1_1, e1_2, e2_0, e2_1, e2_2, e3_0, e3_1, e3_2, e4_0, e4_1, e5_0, e5_1⟩ := where2 t
  unfold iblk2
  show (rd S2x2048x11008 (V c main_arg7)) (((cfg2.win 1).blk t).view.emb y) = _
  refine congrArg ((rd S2x2048x11008 (V c main_arg7))) (funext fun a => Fin.ext ?_)
  exact (match a with
    | ⟨0, _⟩ => by show win2_1.index t (0 : Fin 3) + 1 * (y (0 : Fin 3)).val = (i (0 : Fin 3)).val; rw [h0, e1_0]; omega
    | ⟨1, _⟩ => by show win2_1.index t (1 : Fin 3) + 1 * (y (1 : Fin 3)).val = (i (1 : Fin 3)).val; rw [h1, e1_1]; omega
    | ⟨2, _⟩ => by show win2_1.index t (2 : Fin 3) + 1 * (y (2 : Fin 3)).val = (i (2 : Fin 3)).val; rw [h2, e1_2]; omega)

/-- Window 2's block at a point, read off its array. -/
theorem iblk2_2_at (c : Dev nD) (t : Fin cfg2.N) (y : S1x2048x512.Idx) (i : S2x2048x11008.Idx) (h0 : (i (0 : Fin 3)).val = 1 + (y (0 : Fin 3)).val) (h1 : (i (1 : Fin 3)).val = 0 + (y (1 : Fin 3)).val) (h2 : (i (2 : Fin 3)).val = 5504 + t.val / 8 * 512 + (y (2 : Fin 3)).val) :
    iblk2 V c 2 t y = (rd S2x2048x11008 (V c main_arg7)) i := by
  obtain ⟨e0_0, e0_1, e1_0, e1_1, e1_2, e2_0, e2_1, e2_2, e3_0, e3_1, e3_2, e4_0, e4_1, e5_0, e5_1⟩ := where2 t
  unfold iblk2
  show (rd S2x2048x11008 (V c main_arg7)) (((cfg2.win 2).blk t).view.emb y) = _
  refine congrArg ((rd S2x2048x11008 (V c main_arg7))) (funext fun a => Fin.ext ?_)
  exact (match a with
    | ⟨0, _⟩ => by show win2_2.index t (0 : Fin 3) + 1 * (y (0 : Fin 3)).val = (i (0 : Fin 3)).val; rw [h0, e2_0]; omega
    | ⟨1, _⟩ => by show win2_2.index t (1 : Fin 3) + 1 * (y (1 : Fin 3)).val = (i (1 : Fin 3)).val; rw [h1, e2_1]; omega
    | ⟨2, _⟩ => by show win2_2.index t (2 : Fin 3) + 1 * (y (2 : Fin 3)).val = (i (2 : Fin 3)).val; rw [h2, e2_2]; omega)

/-- Window 3's block at a point, read off its array. -/
theorem iblk2_3_at (c : Dev nD) (t : Fin cfg2.N) (y : S1x64x2048.Idx) (i : S2x5504x2048.Idx) (h0 : (i (0 : Fin 3)).val = 1 + (y (0 : Fin 3)).val) (h1 : (i (1 : Fin 3)).val = t.val * 64 + (y (1 : Fin 3)).val) (h2 : (i (2 : Fin 3)).val = 0 + (y (2 : Fin 3)).val) :
    iblk2 V c 3 t y = (rd S2x5504x2048 (V c main_arg8)) i := by
  obtain ⟨e0_0, e0_1, e1_0, e1_1, e1_2, e2_0, e2_1, e2_2, e3_0, e3_1, e3_2, e4_0, e4_1, e5_0, e5_1⟩ := where2 t
  unfold iblk2
  show (rd S2x5504x2048 (V c main_arg8)) (((cfg2.win 3).blk t).view.emb y) = _
  refine congrArg ((rd S2x5504x2048 (V c main_arg8))) (funext fun a => Fin.ext ?_)
  exact (match a with
    | ⟨0, _⟩ => by show win2_3.index t (0 : Fin 3) + 1 * (y (0 : Fin 3)).val = (i (0 : Fin 3)).val; rw [h0, e3_0]; omega
    | ⟨1, _⟩ => by show win2_3.index t (1 : Fin 3) + 1 * (y (1 : Fin 3)).val = (i (1 : Fin 3)).val; rw [h1, e3_1]; omega
    | ⟨2, _⟩ => by show win2_3.index t (2 : Fin 3) + 1 * (y (2 : Fin 3)).val = (i (2 : Fin 3)).val; rw [h2, e3_2]; omega)

/-- Every point writes output window 4 back. -/
theorem flush2_4_all : ∀ t : Fin cfg2.N, (cfg2.win 4).flush t = true :=
  (by decide +kernel : ∀ t : Fin grid2.N, win2_4.flush t = true)

/-- An index of the array is in a point's block iff each coordinate is in the block's range. -/
theorem mem2_4 (t : Fin cfg2.N) (i : S8192x5120.Idx) :
    i ∈ ((cfg2.win 4).blk t).view.set ↔ ∀ a : Fin 2, win2_4.index t a * S1024x512.size a ≤ (i a).val ∧ (i a).val < win2_4.index t a * S1024x512.size a + S1024x512.size a := by
  show i ∈ ((View.whole main_v5_0).slice (win2_4.rect t)).set ↔ _
  rw [View.set_slice_whole, Rect.mem_set_unit]
  exact Iff.rfl

/-- Every index of output window 4's array is in the block of a point that writes back. -/
theorem covered2_4 (i : S8192x5120.Idx) :
    ∃ t : Fin cfg2.N, (cfg2.win 4).flush t = true ∧ i ∈ ((cfg2.win 4).blk t).view.set := by
  have hi0 : (i 0).val < 8192 := (i 0).isLt
  have hi1 : (i 1).val < 5120 := (i 1).isLt
  have hN : cfg2.N = 80 := by decide
  refine ⟨⟨(i 1).val / 512 * 8 + (i 0).val / 1024, by rw [hN]; omega⟩, (flush2_4_all _), ?_⟩
  rw [mem2_4]
  obtain ⟨e0_0, e0_1, e1_0, e1_1, e1_2, e2_0, e2_1, e2_2, e3_0, e3_1, e3_2, e4_0, e4_1, e5_0, e5_1⟩ := where2 (⟨(i 1).val / 512 * 8 + (i 0).val / 1024, by rw [hN]; omega⟩ : Fin cfg2.N)
  intro a
  match a with
  | ⟨0, _⟩ => show win2_4.index _ (0 : Fin 2) * 1024 ≤ (i 0).val ∧ (i 0).val < win2_4.index _ (0 : Fin 2) * 1024 + 1024; rw [e4_0]; dsimp only; omega
  | ⟨1, _⟩ => show win2_4.index _ (1 : Fin 2) * 512 ≤ (i 1).val ∧ (i 1).val < win2_4.index _ (1 : Fin 2) * 512 + 512; rw [e4_1]; dsimp only; omega

/-- The activations of the first 5120 columns, as the region finds its arrays. -/
def G2_4 (c : Dev nD) : (⟨2, S8192x5120.size⟩ : Shape).Idx → EReal := fun i =>
  glu (∑ k : Fin 2048, rd S8192x2048 (V c main_v3_1) (ix2 (i 0) k) * rd S2x2048x11008 (V c main_arg7) (ix3 (1 : Fin 2) k ⟨(i 1).val, by have := idx2_lt1 i; omega⟩))
    (∑ k : Fin 2048, rd S8192x2048 (V c main_v3_1) (ix2 (i 0) k) * rd S2x2048x11008 (V c main_arg7) (ix3 (1 : Fin 2) k ⟨5504 + (i 1).val, by have := idx2_lt1 i; omega⟩))

/-- What a point writes back to output window 4 is that function read through the block. -/
theorem flushed2_4 (c : Dev nD) (t : Fin cfg2.N) :
    (dat2 V c).flushed 4 t = ((cfg2.win 4).blk t).view.read (Elt Ideal) (G2_4 V c) := by
  obtain ⟨e0_0, e0_1, e1_0, e1_1, e1_2, e2_0, e2_1, e2_2, e3_0, e3_1, e3_2, e4_0, e4_1, e5_0, e5_1⟩ := where2 t
  refine funext fun (y : S1024x512.Idx) => ?_
  have q0 : ((((cfg2.win 4).blk t).view.emb y : S8192x5120.Idx) 0).val = t.val % 8 * 1024 + (y 0).val := by
    show win2_4.index t (0 : Fin 2) * 1024 + 1 * (y 0).val = _
    rw [e4_0]; omega
  have q1 : ((((cfg2.win 4).blk t).view.emb y : S8192x5120.Idx) 1).val = t.val / 8 * 512 + (y 1).val := by
    show win2_4.index t (1 : Fin 2) * 512 + 1 * (y 1).val = _
    rw [e4_1]; omega
  show (dat2 V c).after 4 t y = G2_4 V c (((cfg2.win 4).blk t).view.emb y)
  generalize (((cfg2.win 4).blk t).view.emb y : S8192x5120.Idx) = i at q0 q1
  have b0 := idx2_lt0 y
  have b1 := idx2_lt1 y
  have hN : cfg2.N = 80 := by decide
  have ht : t.val < 80 := lt_of_lt_of_eq t.isLt hN
  rw [after2_4]
  rw [k2_pay4_at]
  have hx : ∀ k : Fin 2048, iblk2 V c 0 t (ix2 (y 0) k) = rd S8192x2048 (V c main_v3_1) (ix2 (i 0) k) := fun k =>
    iblk2_0_at V c t _ _ (by rw [← q0]) (by show k.val = 0 * 2048 + k.val; omega)
  unfold G2_4
  refine congrArg₂ glu (Finset.sum_congr rfl fun k _ => ?_) (Finset.sum_congr rfl fun k _ => ?_)
  · rw [k2_pay1_at]
    refine congrArg₂ (· * ·) (hx k) (iblk2_1_at V c t _ _ ?_ ?_ ?_)
    · rfl
    · show k.val = 0 + k.val; omega
    · show (i 1).val = t.val / 8 * 512 + (y 1).val; omega
  · rw [k2_pay2_at]
    refine congrArg₂ (· * ·) (hx k) (iblk2_2_at V c t _ _ ?_ ?_ ?_)
    · rfl
    · show k.val = 0 + k.val; omega
    · show 5504 + (i 1).val = 5504 + t.val / 8 * 512 + (y 1).val; omega

/-- Output window 4's array at the region's exit. -/
theorem final2_4 (c : Dev nD) : (dat2 V c).arrAt 4 cfg2.N = G2_4 V c :=
  (dat2 V c).arrAt_eq_of_cover 4 _ (fun t _ => flushed2_4 V c t) covered2_4

/-- Every point writes output window 5 back. -/
theorem flush2_5_all : ∀ t : Fin cfg2.N, (cfg2.win 5).flush t = true :=
  (by decide +kernel : ∀ t : Fin grid2.N, win2_5.flush t = true)

/-- An index of the array is in a point's block iff each coordinate is in the block's range. -/
theorem mem2_5 (t : Fin cfg2.N) (i : S5120x2048.Idx) :
    i ∈ ((cfg2.win 5).blk t).view.set ↔ ∀ a : Fin 2, win2_5.index t a * S64x2048.size a ≤ (i a).val ∧ (i a).val < win2_5.index t a * S64x2048.size a + S64x2048.size a := by
  show i ∈ ((View.whole main_v5_1).slice (win2_5.rect t)).set ↔ _
  rw [View.set_slice_whole, Rect.mem_set_unit]
  exact Iff.rfl

/-- Every index of output window 5's array is in the block of a point that writes back. -/
theorem covered2_5 (i : S5120x2048.Idx) :
    ∃ t : Fin cfg2.N, (cfg2.win 5).flush t = true ∧ i ∈ ((cfg2.win 5).blk t).view.set := by
  have hi0 : (i 0).val < 5120 := (i 0).isLt
  have hi1 : (i 1).val < 2048 := (i 1).isLt
  have hN : cfg2.N = 80 := by decide
  refine ⟨⟨(i 0).val / 64, by rw [hN]; omega⟩, (flush2_5_all _), ?_⟩
  rw [mem2_5]
  obtain ⟨e0_0, e0_1, e1_0, e1_1, e1_2, e2_0, e2_1, e2_2, e3_0, e3_1, e3_2, e4_0, e4_1, e5_0, e5_1⟩ := where2 (⟨(i 0).val / 64, by rw [hN]; omega⟩ : Fin cfg2.N)
  intro a
  match a with
  | ⟨0, _⟩ => show win2_5.index _ (0 : Fin 2) * 64 ≤ (i 0).val ∧ (i 0).val < win2_5.index _ (0 : Fin 2) * 64 + 64; rw [e5_0]; dsimp only; omega
  | ⟨1, _⟩ => show win2_5.index _ (1 : Fin 2) * 2048 ≤ (i 1).val ∧ (i 1).val < win2_5.index _ (1 : Fin 2) * 2048 + 2048; rw [e5_1]; dsimp only; omega

/-- The first 5120 rows of the output weight, as the region finds its arrays. -/
def G2_5 (c : Dev nD) : (⟨2, S5120x2048.size⟩ : Shape).Idx → EReal := fun i =>
  rd S2x5504x2048 (V c main_arg8) (ix3 (1 : Fin 2) ⟨(i 0).val, by have := idx2_lt0 i; omega⟩ (i 1))

/-- What a point writes back to output window 5 is that function read through the block. -/
theorem flushed2_5 (c : Dev nD) (t : Fin cfg2.N) :
    (dat2 V c).flushed 5 t = ((cfg2.win 5).blk t).view.read (Elt Ideal) (G2_5 V c) := by
  obtain ⟨e0_0, e0_1, e1_0, e1_1, e1_2, e2_0, e2_1, e2_2, e3_0, e3_1, e3_2, e4_0, e4_1, e5_0, e5_1⟩ := where2 t
  refine funext fun (y : S64x2048.Idx) => ?_
  have q0 : ((((cfg2.win 5).blk t).view.emb y : S5120x2048.Idx) 0).val = t.val * 64 + (y 0).val := by
    show win2_5.index t (0 : Fin 2) * 64 + 1 * (y 0).val = _
    rw [e5_0]; omega
  have q1 : ((((cfg2.win 5).blk t).view.emb y : S5120x2048.Idx) 1).val = 0 * 2048 + (y 1).val := by
    show win2_5.index t (1 : Fin 2) * 2048 + 1 * (y 1).val = _
    rw [e5_1]; omega
  show (dat2 V c).after 5 t y = G2_5 V c (((cfg2.win 5).blk t).view.emb y)
  generalize (((cfg2.win 5).blk t).view.emb y : S5120x2048.Idx) = i at q0 q1
  have b0 := idx2_lt0 y
  have b1 := idx2_lt1 y
  have hN : cfg2.N = 80 := by decide
  have ht : t.val < 80 := lt_of_lt_of_eq t.isLt hN
  rw [after2_5]
  rw [k2_pay3_at]
  unfold G2_5
  refine iblk2_3_at V c t _ _ ?_ ?_ ?_
  · rfl
  · show (i 0).val = t.val * 64 + (y 0).val; omega
  · show (i 1).val = 0 + (y 1).val; omega

/-- Output window 5's array at the region's exit. -/
theorem final2_5 (c : Dev nD) : (dat2 V c).arrAt 5 cfg2.N = G2_5 V c :=
  (dat2 V c).arrAt_eq_of_cover 5 _ (fun t _ => flushed2_5 V c t) covered2_5

end Cert.Kernel2Ideal.Hand

end
-- ==== Proof.P2Value3.lean ====
module

public import proofs.«01_k».proof.Proof.P2Region3
public import proofs.«01_k».proof.Proof.P2Pay

@[expose] public section

set_option maxRecDepth 16384

noncomputable section

namespace Cert.Kernel2Ideal.Hand

open Cert.Kernel2Ideal Cert.Kernel2Ideal.Gen Cert.Hand
open Idealize.ShloMosaic Idealize.ShloMosaic.TcCoe Idealize.ShloMosaic.ValueIdx Idealize.SL.Sem
open Idealize.ShloMosaic.Pipeline (Dat Cfg Window)

variable (V : (c : Dev nD) → Valuation τ sig (Elt Ideal))

/-- Where each window's block sits, at every point of the grid. -/
theorem where3 : ∀ t : Fin grid3.N, win3_0.index t (0 : Fin 2) = t.val % 16 ∧ win3_0.index t (1 : Fin 2) = t.val / 16 ∧ win3_1.index t (0 : Fin 2) = t.val % 16 ∧ win3_1.index t (1 : Fin 2) = 0 ∧ win3_2.index t (0 : Fin 2) = t.val % 16 ∧ win3_2.index t (1 : Fin 2) = 0 ∧ win3_3.index t (0 : Fin 3) = 0 ∧ win3_3.index t (1 : Fin 3) = 0 ∧ win3_3.index t (2 : Fin 3) = t.val / 16 * 1024 ∧ win3_4.index t (0 : Fin 3) = 0 ∧ win3_4.index t (1 : Fin 3) = 0 ∧ win3_4.index t (2 : Fin 3) = t.val / 16 * 1024 ∧ win3_5.index t (0 : Fin 2) = t.val % 16 ∧ win3_5.index t (1 : Fin 2) = t.val / 16 := by
  decide +kernel

/-- Window 0's block at a point, read off its array. -/
theorem iblk3_0_at (c : Dev nD) (t : Fin cfg3.N) (y : S512x1024.Idx) (i : S8192x2048.Idx) (h0 : (i (0 : Fin 2)).val = t.val % 16 * 512 + (y (0 : Fin 2)).val) (h1 : (i (1 : Fin 2)).val = t.val / 16 * 1024 + (y (1 : Fin 2)).val) :
    iblk3 V c 0 t y = (rd S8192x2048 (V c main_v3_0)) i := by
  obtain ⟨e0_0, e0_1, e1_0, e1_1, e2_0, e2_1, e3_0, e3_1, e3_2, e4_0, e4_1, e4_2, e5_0, e5_1⟩ := where3 t
  unfold iblk3
  show (rd S8192x2048 (V c main_v3_0)) (((cfg3.win 0).blk t).view.emb y) = _
  refine congrArg ((rd S8192x2048 (V c main_v3_0))) (funext fun a => Fin.ext ?_)
  exact (match a with
    | ⟨0, _⟩ => by show win3_0.index t (0 : Fin 2) * 512 + 1 * (y (0 : Fin 2)).val = (i (0 : Fin 2)).val; rw [h0, e0_0]; omega
    | ⟨1, _⟩ => by show win3_0.index t (1 : Fin 2) * 1024 + 1 * (y (1 : Fin 2)).val = (i (1 : Fin 2)).val; rw [h1, e0_1]; omega)

/-- Window 1's block at a point, read off its array. -/
theorem iblk3_1_at (c : Dev nD) (t : Fin cfg3.N) (y : S512x5120.Idx) (i : S8192x5120.Idx) (h0 : (i (0 : Fin 2)).val = t.val % 16 * 512 + (y (0 : Fin 2)).val) (h1 : (i (1 : Fin 2)).val = 0 * 5120 + (y (1 : Fin 2)).val) :
    iblk3 V c 1 t y = (rd S8192x5120 (V c main_v5_0)) i := by
  obtain ⟨e0_0, e0_1, e1_0, e1_1, e2_0, e2_1, e3_0, e3_1, e3_2, e4_0, e4_1, e4_2, e5_0, e5_1⟩ := where3 t
  unfold iblk3
  show (rd S8192x5120 (V c main_v5_0)) (((cfg3.win 1).blk t).view.emb y) = _
  refine congrArg ((rd S8192x5120 (V c main_v5_0))) (funext fun a => Fin.ext ?_)
  exact (match a with
    | ⟨0, _⟩ => by show win3_1.index t (0 : Fin 2) * 512 + 1 * (y (0 : Fin 2)).val = (i (0 : Fin 2)).val; rw [h0, e1_0]; omega
    | ⟨1, _⟩ => by show win3_1.index t (1 : Fin 2) * 5120 + 1 * (y (1 : Fin 2)).val = (i (1 : Fin 2)).val; rw [h1, e1_1]; omega)

/-- Window 2's block at a point, read off its array. -/
theorem iblk3_2_at (c : Dev nD) (t : Fin cfg3.N) (y : S512x384.Idx) (i : S8192x384.Idx) (h0 : (i (0 : Fin 2)).val = t.val % 16 * 512 + (y (0 : Fin 2)).val) (h1 : (i (1 : Fin 2)).val = 0 * 384 + (y (1 : Fin 2)).val) :
    iblk3 V c 2 t y = (rd S8192x384 (V c main_v4_0)) i := by
  obtain ⟨e0_0, e0_1, e1_0, e1_1, e2_0, e2_1, e3_0, e3_1, e3_2, e4_0, e4_1, e4_2, e5_0, e5_1⟩ := where3 t
  unfold iblk3
  show (rd S8192x384 (V c main_v4_0)) (((cfg3.win 2).blk t).view.emb y) = _
  refine congrArg ((rd S8192x384 (V c main_v4_0))) (funext fun a => Fin.ext ?_)
  exact (match a with
    | ⟨0, _⟩ => by show win3_2.index t (0 : Fin 2) * 512 + 1 * (y (0 : Fin 2)).val = (i (0 : Fin 2)).val; rw [h0, e2_0]; omega
    | ⟨1, _⟩ => by show win3_2.index t (1 : Fin 2) * 384 + 1 * (y (1 : Fin 2)).val = (i (1 : Fin 2)).val; rw [h1, e2_1]; omega)

/-- Window 3's block at a point, read off its array. -/
theorem iblk3_3_at (c : Dev nD) (t : Fin cfg3.N) (y : S1x5120x1024.Idx) (i : S1x5120x2048.Idx) (h0 : (i (0 : Fin 3)).val = 0 + (y (0 : Fin 3)).val) (h1 : (i (1 : Fin 3)).val = 0 + (y (1 : Fin 3)).val) (h2 : (i (2 : Fin 3)).val = t.val / 16 * 1024 + (y (2 : Fin 3)).val) :
    iblk3 V c 3 t y = (rd S1x5120x2048 (V c main_v6)) i := by
  obtain ⟨e0_0, e0_1, e1_0, e1_1, e2_0, e2_1, e3_0, e3_1, e3_2, e4_0, e4_1, e4_2, e5_0, e5_1⟩ := where3 t
  unfold iblk3
  show (rd S1x5120x2048 (V c main_v6)) (((cfg3.win 3).blk t).view.emb y) = _
  refine congrArg ((rd S1x5120x2048 (V c main_v6))) (funext fun a => Fin.ext ?_)
  exact (match a with
    | ⟨0, _⟩ => by show win3_3.index t (0 : Fin 3) + 1 * (y (0 : Fin 3)).val = (i (0 : Fin 3)).val; rw [h0, e3_0]; omega
    | ⟨1, _⟩ => by show win3_3.index t (1 : Fin 3) + 1 * (y (1 : Fin 3)).val = (i (1 : Fin 3)).val; rw [h1, e3_1]; omega
    | ⟨2, _⟩ => by show win3_3.index t (2 : Fin 3) + 1 * (y (2 : Fin 3)).val = (i (2 : Fin 3)).val; rw [h2, e3_2]; omega)

/-- Window 4's block at a point, read off its array. -/
theorem iblk3_4_at (c : Dev nD) (t : Fin cfg3.N) (y : S1x384x1024.Idx) (i : S1x384x2048.Idx) (h0 : (i (0 : Fin 3)).val = 0 + (y (0 : Fin 3)).val) (h1 : (i (1 : Fin 3)).val = 0 + (y (1 : Fin 3)).val) (h2 : (i (2 : Fin 3)).val = t.val / 16 * 1024 + (y (2 : Fin 3)).val) :
    iblk3 V c 4 t y = (rd S1x384x2048 (V c main_v7)) i := by
  obtain ⟨e0_0, e0_1, e1_0, e1_1, e2_0, e2_1, e3_0, e3_1, e3_2, e4_0, e4_1, e4_2, e5_0, e5_1⟩ := where3 t
  unfold iblk3
  show (rd S1x384x2048 (V c main_v7)) (((cfg3.win 4).blk t).view.emb y) = _
  refine congrArg ((rd S1x384x2048 (V c main_v7))) (funext fun a => Fin.ext ?_)
  exact (match a with
    | ⟨0, _⟩ => by show win3_4.index t (0 : Fin 3) + 1 * (y (0 : Fin 3)).val = (i (0 : Fin 3)).val; rw [h0, e4_0]; omega
    | ⟨1, _⟩ => by show win3_4.index t (1 : Fin 3) + 1 * (y (1 : Fin 3)).val = (i (1 : Fin 3)).val; rw [h1, e4_1]; omega
    | ⟨2, _⟩ => by show win3_4.index t (2 : Fin 3) + 1 * (y (2 : Fin 3)).val = (i (2 : Fin 3)).val; rw [h2, e4_2]; omega)

/-- Every point writes output window 5 back. -/
theorem flush3_5_all : ∀ t : Fin cfg3.N, (cfg3.win 5).flush t = true :=
  (by decide +kernel : ∀ t : Fin grid3.N, win3_5.flush t = true)

/-- An index of the array is in a point's block iff each coordinate is in the block's range. -/
theorem mem3_5 (t : Fin cfg3.N) (i : S8192x2048.Idx) :
    i ∈ ((cfg3.win 5).blk t).view.set ↔ ∀ a : Fin 2, win3_5.index t a * S512x1024.size a ≤ (i a).val ∧ (i a).val < win3_5.index t a * S512x1024.size a + S512x1024.size a := by
  show i ∈ ((View.whole main_v8).slice (win3_5.rect t)).set ↔ _
  rw [View.set_slice_whole, Rect.mem_set_unit]
  exact Iff.rfl

/-- Every index of output window 5's array is in the block of a point that writes back. -/
theorem covered3_5 (i : S8192x2048.Idx) :
    ∃ t : Fin cfg3.N, (cfg3.win 5).flush t = true ∧ i ∈ ((cfg3.win 5).blk t).view.set := by
  have hi0 : (i 0).val < 8192 := (i 0).isLt
  have hi1 : (i 1).val < 2048 := (i 1).isLt
  have hN : cfg3.N = 32 := by decide
  refine ⟨⟨(i 1).val / 1024 * 16 + (i 0).val / 512, by rw [hN]; omega⟩, (flush3_5_all _), ?_⟩
  rw [mem3_5]
  obtain ⟨e0_0, e0_1, e1_0, e1_1, e2_0, e2_1, e3_0, e3_1, e3_2, e4_0, e4_1, e4_2, e5_0, e5_1⟩ := where3 (⟨(i 1).val / 1024 * 16 + (i 0).val / 512, by rw [hN]; omega⟩ : Fin cfg3.N)
  intro a
  match a with
  | ⟨0, _⟩ => show win3_5.index _ (0 : Fin 2) * 512 ≤ (i 0).val ∧ (i 0).val < win3_5.index _ (0 : Fin 2) * 512 + 512; rw [e5_0]; dsimp only; omega
  | ⟨1, _⟩ => show win3_5.index _ (1 : Fin 2) * 1024 ≤ (i 1).val ∧ (i 1).val < win3_5.index _ (1 : Fin 2) * 1024 + 1024; rw [e5_1]; dsimp only; omega

/-- The stream with half of the projected activations added, as the region finds its arrays. -/
def G3_5 (c : Dev nD) : (⟨2, S8192x2048.size⟩ : Shape).Idx → EReal := fun i =>
  rd S8192x2048 (V c main_v3_0) i + half * ((∑ k : Fin 5120, rd S8192x5120 (V c main_v5_0) (ix2 (i 0) k) * rd S1x5120x2048 (V c main_v6) (ix3 (0 : Fin 1) k (i 1)))
    + ∑ k : Fin 384, rd S8192x384 (V c main_v4_0) (ix2 (i 0) k) * rd S1x384x2048 (V c main_v7) (ix3 (0 : Fin 1) k (i 1)))

/-- What a point writes back to output window 5 is that function read through the block. -/
theorem flushed3_5 (c : Dev nD) (t : Fin cfg3.N) :
    (dat3 V c).flushed 5 t = ((cfg3.win 5).blk t).view.read (Elt Ideal) (G3_5 V c) := by
  obtain ⟨e0_0, e0_1, e1_0, e1_1, e2_0, e2_1, e3_0, e3_1, e3_2, e4_0, e4_1, e4_2, e5_0, e5_1⟩ := where3 t
  refine funext fun (y : S512x1024.Idx) => ?_
  have q0 : ((((cfg3.win 5).blk t).view.emb y : S8192x2048.Idx) 0).val = t.val % 16 * 512 + (y 0).val := by
    show win3_5.index t (0 : Fin 2) * 512 + 1 * (y 0).val = _
    rw [e5_0]; omega
  have q1 : ((((cfg3.win 5).blk t).view.emb y : S8192x2048.Idx) 1).val = t.val / 16 * 1024 + (y 1).val := by
    show win3_5.index t (1 : Fin 2) * 1024 + 1 * (y 1).val = _
    rw [e5_1]; omega
  show (dat3 V c).after 5 t y = G3_5 V c (((cfg3.win 5).blk t).view.emb y)
  generalize (((cfg3.win 5).blk t).view.emb y : S8192x2048.Idx) = i at q0 q1
  have b0 := idx2_lt0 y
  have b1 := idx2_lt1 y
  have hN : cfg3.N = 32 := by decide
  have ht : t.val < 32 := lt_of_lt_of_eq t.isLt hN
  rw [after3_5]
  rw [k3_pay1_at]
  unfold G3_5
  refine congrArg₂ (· + ·) (iblk3_0_at V c t y i q0 q1) (congrArg (half * ·) (congrArg₂ (· + ·) (Finset.sum_congr rfl fun k _ => ?_) (Finset.sum_congr rfl fun k _ => ?_)))
  · refine congrArg₂ (· * ·) (iblk3_1_at V c t _ _ ?_ ?_) (iblk3_3_at V c t _ _ ?_ ?_ ?_)
    · exact q0
    · show k.val = 0 * 5120 + k.val; omega
    · rfl
    · show k.val = 0 + k.val; omega
    · exact q1
  · refine congrArg₂ (· * ·) (iblk3_2_at V c t _ _ ?_ ?_) (iblk3_4_at V c t _ _ ?_ ?_ ?_)
    · exact q0
    · show k.val = 0 * 384 + k.val; omega
    · rfl
    · show k.val = 0 + k.val; omega
    · exact q1

/-- Output window 5's array at the region's exit. -/
theorem final3_5 (c : Dev nD) : (dat3 V c).arrAt 5 cfg3.N = G3_5 V c :=
  (dat3 V c).arrAt_eq_of_cover 5 _ (fun t _ => flushed3_5 V c t) covered3_5

end Cert.Kernel2Ideal.Hand

end
-- ==== Proof.P2KerValue.lean ====
module

public import proofs.«01_k».proof.Proof.P2Main
public import proofs.«01_k».proof.Proof.P2Value0
public import proofs.«01_k».proof.Proof.P2Value1
public import proofs.«01_k».proof.Proof.P2Value2
public import proofs.«01_k».proof.Proof.P2Value3

@[expose] public section

set_option maxRecDepth 16384

noncomputable section

namespace Cert.Kernel2Ideal.Hand

open Cert.Kernel2Ideal Cert.Kernel2Ideal.Gen Cert.Hand
open Idealize.ShloMosaic Idealize.ShloMosaic.TcCoe Idealize.ShloMosaic.ValueIdx Idealize.SL.Sem

variable (m : (ℓ : Loc nD τ sig) → Buf (Elt Ideal) ℓ) (c : Dev nD)

/-- The stream, as launched. -/
abbrev a0 : S8192x2048.Idx → EReal := m ((c : Thread nD τ).loc main_arg0)
/-- The embeddings, as launched. -/
abbrev a1 : S2x1x8192x256.Idx → EReal := m ((c : Thread nD τ).loc main_arg1)
/-- The gate norm's weights, as launched. -/
abbrev a2 : S2048.Idx → EReal := m ((c : Thread nD τ).loc main_arg2)
/-- The gate's weights, as launched. -/
abbrev a3 : S2x2048x2048.Idx → EReal := m ((c : Thread nD τ).loc main_arg3)
/-- The projection's weights, as launched. -/
abbrev a4 : S2x256x2048.Idx → EReal := m ((c : Thread nD τ).loc main_arg4)
/-- The embedding norm's weights, as launched. -/
abbrev a5 : S2048.Idx → EReal := m ((c : Thread nD τ).loc main_arg5)
/-- The half layer norm's weights, as launched. -/
abbrev a6 : S2048.Idx → EReal := m ((c : Thread nD τ).loc main_arg6)
/-- The first weights, as launched. -/
abbrev a7 : S2x2048x11008.Idx → EReal := m ((c : Thread nD τ).loc main_arg7)
/-- The second weights, as launched. -/
abbrev a8 : S2x5504x2048.Idx → EReal := m ((c : Thread nD τ).loc main_arg8)

theorem V1_arg0 : rd S8192x2048 (V1 m c main_arg0) = a0 m c :=
  (V1_of m c main_arg0 (by decide)).trans rfl
theorem V1_arg1 : rd S2x1x8192x256 (V1 m c main_arg1) = a1 m c :=
  (V1_of m c main_arg1 (by decide)).trans rfl
theorem V1_arg3 : rd S2x2048x2048 (V1 m c main_arg3) = a3 m c :=
  (V1_of m c main_arg3 (by decide)).trans rfl
theorem V1_arg4 : rd S2x256x2048 (V1 m c main_arg4) = a4 m c :=
  (V1_of m c main_arg4 (by decide)).trans rfl
theorem V1_arg7 : rd S2x2048x11008 (V1 m c main_arg7) = a7 m c :=
  (V1_of m c main_arg7 (by decide)).trans rfl
theorem V1_arg8 : rd S2x5504x2048 (V1 m c main_arg8) = a8 m c :=
  (V1_of m c main_arg8 (by decide)).trans rfl
theorem V2_arg7 : rd S2x2048x11008 (V2 m (outs m) c main_arg7) = a7 m c :=
  (V2_of m (outs m) c main_arg7 (by decide)).trans <| (V1_of m c main_arg7 (by decide)).trans rfl
theorem V2_arg8 : rd S2x5504x2048 (V2 m (outs m) c main_arg8) = a8 m c :=
  (V2_of m (outs m) c main_arg8 (by decide)).trans <| (V1_of m c main_arg8 (by decide)).trans rfl
theorem V3_arg7 : rd S2x2048x11008 (V3 m (outs m) c main_arg7) = a7 m c :=
  (V3_of m (outs m) c main_arg7 (by decide)).trans <| (V2_of m (outs m) c main_arg7 (by decide)).trans <| (V1_of m c main_arg7 (by decide)).trans rfl
theorem V3_arg8 : rd S2x5504x2048 (V3 m (outs m) c main_arg8) = a8 m c :=
  (V3_of m (outs m) c main_arg8 (by decide)).trans <| (V2_of m (outs m) c main_arg8 (by decide)).trans <| (V1_of m c main_arg8 (by decide)).trans rfl

/-- The norms' weights given a leading axis, as region 0 finds them. -/
theorem V1_v0 (k : Fin 2048) : rd S1x2048 (V1 m c main_v0) (ix2 (0 : Fin 1) k) = a2 m c (ix1 k) := by
  have e : V1 m c main_v0 = shapeCast S1x2048 (a2 m c) shapeCasts_S2048_S1x2048 := by
    simp only [V1, hostOps0]; after_results_simp <;> rfl
  exact (congrFun e _).trans (lead_at _ _ k)
theorem V1_v1 (k : Fin 2048) : rd S1x2048 (V1 m c main_v1) (ix2 (0 : Fin 1) k) = a5 m c (ix1 k) := by
  have e : V1 m c main_v1 = shapeCast S1x2048 (a5 m c) shapeCasts_S2048_S1x2048 := by
    simp only [V1, hostOps0]; after_results_simp <;> rfl
  exact (congrFun e _).trans (lead_at _ _ k)
theorem V1_v2 (k : Fin 2048) : rd S1x2048 (V1 m c main_v2) (ix2 (0 : Fin 1) k) = a6 m c (ix1 k) := by
  have e : V1 m c main_v2 = shapeCast S1x2048 (a6 m c) shapeCasts_S2048_S1x2048 := by
    simp only [V1, hostOps0]; after_results_simp <;> rfl
  exact (congrFun e _).trans (lead_at _ _ k)

/-- The stream plus the gated embedding. -/
abbrev stream : S8192x2048.Idx → EReal :=
  ple 0 (a0 m c) (a1 m c) (fun k => a2 m c (ix1 k)) (a3 m c) (a4 m c) (fun k => a5 m c (ix1 k))

/-- The stream as region 0 leaves it. -/
theorem V5_stream : rd S8192x2048 (V5 m (outs m) c main_v3_0) = stream m c := by
  refine (V5_of m (outs m) c main_v3_0 (by decide)).trans ((V4_of m (outs m) c main_v3_0 (by decide)).trans ((V3_of m (outs m) c main_v3_0 (by decide)).trans
    ((V2_v3_0 m c).trans ((final0_7 (V1 m) c).trans (funext fun i => ?_)))))
  unfold G0_7
  rw [V1_arg0, V1_arg1, V1_arg3, V1_arg4, funext fun k => V1_v0 m c k, funext fun k => V1_v1 m c k]

/-- The stream's normalised rows, as region 1 finds them. -/
theorem V2_hn (r : Fin 8192) (k : Fin 2048) : rd S8192x2048 (V2 m (outs m) c main_v3_1) (ix2 r k)
    = hnS (fun k => stream m c (ix2 r k)) (fun k => a6 m c (ix1 k)) k := by
  refine (congrFun ((V2_v3_1 m c).trans (final0_8 (V1 m) c)) _).trans ?_
  unfold G0_8
  rw [V1_arg0, V1_arg1, V1_arg3, V1_arg4, funext fun k => V1_v0 m c k, funext fun k => V1_v1 m c k, funext fun k => V1_v2 m c k]

/-- The stream's normalised rows, as region 2 finds them. -/
theorem V3_hn (r : Fin 8192) (k : Fin 2048) : rd S8192x2048 (V3 m (outs m) c main_v3_1) (ix2 r k)
    = hnS (fun k => stream m c (ix2 r k)) (fun k => a6 m c (ix1 k)) k :=
  (congrFun (V3_of m (outs m) c main_v3_1 (by decide)) _).trans (V2_hn m c r k)

/-- The activations of the last columns. -/
theorem V5_tail (r : Fin 8192) (j : Fin 384) : rd S8192x384 (V5 m (outs m) c main_v4_0) (ix2 r j)
    = act 1 (stream m c) (a6 m c) (a7 m c) r ⟨5120 + j.val, by omega⟩ := by
  refine (congrFun ((V5_of m (outs m) c main_v4_0 (by decide)).trans ((V4_of m (outs m) c main_v4_0 (by decide)).trans ((V3_v4_0 m c).trans (final1_4 (V2 m (outs m)) c)))) _).trans ?_
  unfold G1_4 act
  rw [V2_arg7]
  have e : ∀ k : Fin 2048, ix3 (1 : Fin 2) k (⟨10624 + j.val, by omega⟩ : Fin 11008) = ix3 (1 : Fin 2) k (⟨5504 + (5120 + j.val), by omega⟩ : Fin 11008) :=
    fun k => congrArg (ix3 (1 : Fin 2) k) (Fin.ext (show 10624 + j.val = 5504 + (5120 + j.val) by omega))
  exact congrArg₂ glu (Finset.sum_congr rfl fun k _ => congrArg₂ (· * ·) (V2_hn m c r k) rfl)
    (Finset.sum_congr rfl fun k _ => congrArg₂ (· * ·) (V2_hn m c r k) (congrArg (a7 m c) (e k)))

/-- The activations of the first columns. -/
theorem V5_main (r : Fin 8192) (j : Fin 5120) : rd S8192x5120 (V5 m (outs m) c main_v5_0) (ix2 r j)
    = act 1 (stream m c) (a6 m c) (a7 m c) r ⟨j.val, by omega⟩ := by
  refine (congrFun ((V5_of m (outs m) c main_v5_0 (by decide)).trans ((V4_v5_0 m c).trans (final2_4 (V3 m (outs m)) c))) _).trans ?_
  unfold G2_4 act
  rw [V3_arg7]
  exact congrArg₂ glu (Finset.sum_congr rfl fun k _ => congrArg₂ (· * ·) (V3_hn m c r k) rfl)
    (Finset.sum_congr rfl fun k _ => congrArg₂ (· * ·) (V3_hn m c r k) rfl)

/-- The first rows of the second weights. -/
theorem V5_wmain (k : Fin 5120) (j : Fin 2048) : rd S1x5120x2048 (V5 m (outs m) c main_v6) (ix3 (0 : Fin 1) k j)
    = a8 m c (ix3 (1 : Fin 2) ⟨k.val, by omega⟩ j) := by
  have e : V5 m (outs m) c main_v6 = shapeCast S1x5120x2048 (rd S5120x2048 (V4 m (outs m) c main_v5_1)) shapeCasts_S5120x2048_S1x5120x2048 := by
    simp only [V5, hostOps3]; after_results_simp <;> rfl
  refine (congrFun e _).trans ((unsqueeze_at _ _ k j).trans ?_)
  refine (congrFun ((V4_v5_1 m c).trans (final2_5 (V3 m (outs m)) c)) _).trans ?_
  unfold G2_5
  rw [V3_arg8]

/-- The last rows of the second weights. -/
theorem V5_wtail (k : Fin 384) (j : Fin 2048) : rd S1x384x2048 (V5 m (outs m) c main_v7) (ix3 (0 : Fin 1) k j)
    = a8 m c (ix3 (1 : Fin 2) ⟨5120 + k.val, by omega⟩ j) := by
  have e : V5 m (outs m) c main_v7 = shapeCast S1x384x2048 (rd S384x2048 (V4 m (outs m) c main_v4_1)) shapeCasts_S384x2048_S1x384x2048 := by
    simp only [V5, hostOps3]; after_results_simp <;> rfl
  refine (congrFun e _).trans ((unsqueeze_at _ _ k j).trans ?_)
  refine (congrFun ((V4_of m (outs m) c main_v4_1 (by decide)).trans ((V3_v4_1 m c).trans (final1_5 (V2 m (outs m)) c))) _).trans ?_
  unfold G1_5
  rw [V2_arg8]

/-- The kernel's result: the half layer of the stream with the gated embedding. -/
theorem out_ker : V6 m (outs m) c main_v8 = swiglu 1 (stream m c) (a6 m c) (a7 m c) (a8 m c) := by
  refine (V6_v8 m c).trans ((final3_5 (V5 m (outs m)) c).trans (funext fun i => ?_))
  unfold G3_5 swiglu
  rw [V5_stream]
  refine congrArg (stream m c i + ·) (congrArg (half * ·) ?_)
  refine Eq.trans ?_ (Fin.sum_univ_add (a := 5120) (b := 384) fun j : Fin 5504 => act 1 (stream m c) (a6 m c) (a7 m c) (i 0) j * a8 m c (ix3 (1 : Fin 2) j (i 1))).symm
  exact congrArg₂ (· + ·) (Finset.sum_congr rfl fun k _ => congrArg₂ (· * ·) (V5_main m c (i 0) k) (V5_wmain m c k (i 1)))
    (Finset.sum_congr rfl fun k _ => congrArg₂ (· * ·) (V5_tail m c (i 0) k) (V5_wtail m c k (i 1)))

end Cert.Kernel2Ideal.Hand

end
-- ==== Proof.P3Run0.lean ====
module

public import proofs.«01_k».proof.Proof.Gen.Kernel3Ideal.Launch
public import proofs.«01_k».proof.Proof.Gen.Kernel3Ideal.Skeleton
public import proofs.«01_k».proof.Proof.Gen.Kernel3Ideal.Points
public import Idealize.ShloMosaic.Lib.Pipeline.FrameBody
public import Idealize.ShloMosaic.Lib.Pipeline.RegionsLoop
public import Idealize.ShloMosaic.Lib.Pipeline.Value
public import Idealize.ShloMosaic.Lib.Ring
public import Idealize.ShloMosaic.Lib.Tactic
public import Idealize.ShloMosaic.Lib.VecWindow
public import Idealize.ShloMosaic.Lib.WordCmp

@[expose] public section

set_option maxRecDepth 16384

noncomputable section

namespace Cert.Kernel3Ideal.Hand

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The condition of the body's branch, as the program states it. -/
abbrev cond0 (i : grid0.Coords) : Prop := (Scalar.cmpi .ne (Scalar.extui (Scalar.cmpi .eq (BitVec.ofNat 32 (i 1).val) 0#32)) 0#32) = 1#1

set_option maxHeartbeats 4000000 in
/-- The body where it casts the two weight blocks first: from any scratch contents, every output ends at its payload and the scratch at the cast blocks. -/
theorem run0A (c : Dev nD) (i : grid0.Coords) (arg2 : Memref sig .tc .vmem S1024x2048 .f32) (harg2 : arg2.IsWhole) (arg3 : Memref sig .tc .vmem S1x2048x384 .f32) (harg3 : arg3.IsWhole) (arg4 : Memref sig .tc .vmem S1x2048x384 .f32) (harg4 : arg4.IsWhole) (arg5 : Memref sig .tc .vmem S1x2048 .f32) (harg5 : arg5.IsWhole) (arg6 : Memref sig .tc .vmem S1x48x2048 .f32) (harg6 : arg6.IsWhole) (arg7 : Memref sig .tc .vmem S1024x384 .bf16) (harg7 : arg7.IsWhole) (arg8 : Memref sig .tc .vmem S1024x2048 .bf16) (harg8 : arg8.IsWhole) (arg9 : Memref sig .tc .vmem S48x2048 .bf16) (harg9 : arg9.IsWhole) (arg10 : Memref sig .tc .vmem S2048x384 .bf16) (harg10 : arg10.IsWhole) (arg11 : Memref sig .tc .vmem S2048x384 .bf16) (harg11 : arg11.IsWhole) (hc0 : cond0 i)
    (x0 : Vec F S1024x2048 .f32) (x1 : Vec F S1x2048x384 .f32) (x2 : Vec F S1x2048x384 .f32) (x3 : Vec F S1x2048 .f32) (x4 : Vec F S1x48x2048 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (k0_pay5 x0 x3 (k0_pay1 x1) (k0_pay2 x2)) ∗ owns (c : Thread nD τ) arg8 fullShare (k0_pay3 x0 x3) ∗ owns (c : Thread nD τ) arg9 fullShare (k0_pay4 x4) ∗ owns (c : Thread nD τ) arg10 fullShare (k0_pay1 x1) ∗ owns (c : Thread nD τ) arg11 fullShare (k0_pay2 x2)) -∗ K ⟨⟩))
      ⊢ wp frame (wpE (defs₀ (F := F)) Variants.none c none) E (cc0_ffn_in i arg2 harg2 arg3 harg3 arg4 harg4 arg5 harg5 arg6 harg6 arg7 harg7 arg8 harg8 arg9 harg9 arg10 harg10 arg11 harg11) K := by
  simp only [cc0_ffn_in_eq_skeleton]; unfold cc0_ffn_in_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, ⟨%d9, %f9, -, H9⟩, Hk⟩
  obtain rfl := harg2.eq_unread hf0; obtain rfl := harg3.eq_unread hf1; obtain rfl := harg4.eq_unread hf2; obtain rfl := harg5.eq_unread hf3; obtain rfl := harg6.eq_unread hf4
  sl_exec (disch := first | sl_exact hc0)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; swap; · iexact H5
    ipureintro
    refine (View.read_writes_full _ _ _ _ _).trans ?_
    show k0_pay5 _ _ _ _ = k0_pay5 x0 x3 (k0_pay1 x1) (k0_pay2 x2)
    exact (congr (congr (congr (congrArg k0_pay5 ((View.readAt_full _ _ _).trans (Memref.IsWhole.read_unread _ _))) ((View.readAt_full _ _ _).trans (Memref.IsWhole.read_unread _ _))) ((View.readCov_full _ _ _ _ _).trans (congrArg k0_pay1 ((View.readAt_full _ _ _).trans (Memref.IsWhole.read_unread _ _))))) ((View.readCov_full _ _ _ _ _).trans (congrArg k0_pay2 ((View.readAt_full _ _ _).trans (Memref.IsWhole.read_unread _ _)))))
  isplitl [H6]
  · iexists _; isplitr; swap; · iexact H6
    ipureintro
    refine (View.read_writes_full _ _ _ _ _).trans ?_
    show k0_pay3 _ _ = k0_pay3 x0 x3
    exact (congr (congrArg k0_pay3 ((View.readAt_full _ _ _).trans (Memref.IsWhole.read_unread _ _))) ((View.readAt_full _ _ _).trans (Memref.IsWhole.read_unread _ _)))
  isplitl [H7]
  · iexists _; isplitr; swap; · iexact H7
    ipureintro
    refine (View.read_writes_full _ _ _ _ _).trans ?_
    show k0_pay4 _ = k0_pay4 x4
    exact (congrArg k0_pay4 ((View.readAt_full _ _ _).trans (Memref.IsWhole.read_unread _ _)))
  isplitl [H8]
  · iexists _; isplitr; swap; · iexact H8
    ipureintro
    refine (View.read_writes_full _ _ _ _ _).trans ?_
    show k0_pay1 _ = k0_pay1 x1
    exact (congrArg k0_pay1 ((View.readAt_full _ _ _).trans (Memref.IsWhole.read_unread _ _)))
  · iexists _; isplitr; swap; · iexact H9
    ipureintro
    refine (View.read_writes_full _ _ _ _ _).trans ?_
    show k0_pay2 _ = k0_pay2 x2
    exact (congrArg k0_pay2 ((View.readAt_full _ _ _).trans (Memref.IsWhole.read_unread _ _)))

set_option maxHeartbeats 4000000 in
/-- The body where the scratch already holds the two cast blocks: every output ends at its payload and the scratch stays. -/
theorem run0B (c : Dev nD) (i : grid0.Coords) (arg2 : Memref sig .tc .vmem S1024x2048 .f32) (harg2 : arg2.IsWhole) (arg3 : Memref sig .tc .vmem S1x2048x384 .f32) (harg3 : arg3.IsWhole) (arg4 : Memref sig .tc .vmem S1x2048x384 .f32) (harg4 : arg4.IsWhole) (arg5 : Memref sig .tc .vmem S1x2048 .f32) (harg5 : arg5.IsWhole) (arg6 : Memref sig .tc .vmem S1x48x2048 .f32) (harg6 : arg6.IsWhole) (arg7 : Memref sig .tc .vmem S1024x384 .bf16) (harg7 : arg7.IsWhole) (arg8 : Memref sig .tc .vmem S1024x2048 .bf16) (harg8 : arg8.IsWhole) (arg9 : Memref sig .tc .vmem S48x2048 .bf16) (harg9 : arg9.IsWhole) (arg10 : Memref sig .tc .vmem S2048x384 .bf16) (harg10 : arg10.IsWhole) (arg11 : Memref sig .tc .vmem S2048x384 .bf16) (harg11 : arg11.IsWhole) (hc0 : ¬cond0 i)
    (x0 : Vec F S1024x2048 .f32) (x1 : Vec F S1x2048x384 .f32) (x2 : Vec F S1x2048x384 .f32) (x3 : Vec F S1x2048 .f32) (x4 : Vec F S1x48x2048 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d) ∗ owns (c : Thread nD τ) arg10 fullShare (k0_pay1 x1) ∗ owns (c : Thread nD τ) arg11 fullShare (k0_pay2 x2)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (k0_pay5 x0 x3 (k0_pay1 x1) (k0_pay2 x2)) ∗ owns (c : Thread nD τ) arg8 fullShare (k0_pay3 x0 x3) ∗ owns (c : Thread nD τ) arg9 fullShare (k0_pay4 x4) ∗ owns (c : Thread nD τ) arg10 fullShare (k0_pay1 x1) ∗ owns (c : Thread nD τ) arg11 fullShare (k0_pay2 x2)) -∗ K ⟨⟩))
      ⊢ wp frame (wpE (defs₀ (F := F)) Variants.none c none) E (cc0_ffn_in i arg2 harg2 arg3 harg3 arg4 harg4 arg5 harg5 arg6 harg6 arg7 harg7 arg8 harg8 arg9 harg9 arg10 harg10 arg11 harg11) K := by
  simp only [cc0_ffn_in_eq_skeleton]; unfold cc0_ffn_in_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%f8, %hf8, H8⟩, ⟨%f9, %hf9, H9⟩, Hk⟩
  obtain rfl := harg2.eq_unread hf0; obtain rfl := harg3.eq_unread hf1; obtain rfl := harg4.eq_unread hf2; obtain rfl := harg5.eq_unread hf3; obtain rfl := harg6.eq_unread hf4; obtain rfl := harg10.eq_unread hf8; obtain rfl := harg11.eq_unread hf9
  sl_exec (disch := first | sl_exact hc0)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; swap; · iexact H5
    ipureintro
    refine (View.read_writes_full _ _ _ _ _).trans ?_
    show k0_pay5 _ _ _ _ = k0_pay5 x0 x3 (k0_pay1 x1) (k0_pay2 x2)
    exact (congr (congr (congr (congrArg k0_pay5 ((View.readAt_full _ _ _).trans (Memref.IsWhole.read_unread _ _))) ((View.readAt_full _ _ _).trans (Memref.IsWhole.read_unread _ _))) ((View.readAt_full _ _ _).trans (Memref.IsWhole.read_unread _ _))) ((View.readAt_full _ _ _).trans (Memref.IsWhole.read_unread _ _)))
  isplitl [H6]
  · iexists _; isplitr; swap; · iexact H6
    ipureintro
    refine (View.read_writes_full _ _ _ _ _).trans ?_
    show k0_pay3 _ _ = k0_pay3 x0 x3
    exact (congr (congrArg k0_pay3 ((View.readAt_full _ _ _).trans (Memref.IsWhole.read_unread _ _))) ((View.readAt_full _ _ _).trans (Memref.IsWhole.read_unread _ _)))
  isplitl [H7]
  · iexists _; isplitr; swap; · iexact H7
    ipureintro
    refine (View.read_writes_full _ _ _ _ _).trans ?_
    show k0_pay4 _ = k0_pay4 x4
    exact (congrArg k0_pay4 ((View.readAt_full _ _ _).trans (Memref.IsWhole.read_unread _ _)))
  isplitl [H8]
  · iexists _; isplitr; · ipureintro; exact harg10.read_unread _
    iexact H8
  · iexists _; isplitr; · ipureintro; exact harg11.read_unread _
    iexact H9

end Cert.Kernel3Ideal.Hand

end
-- ==== Proof.P3Region0.lean ====
module

public import proofs.«01_k».proof.Proof.Gen.Kernel3Ideal.Launch
public import proofs.«01_k».proof.Proof.Gen.Kernel3Ideal.Skeleton
public import proofs.«01_k».proof.Proof.Gen.Kernel3Ideal.Points
public import Idealize.ShloMosaic.Lib.Pipeline.FrameBody
public import Idealize.ShloMosaic.Lib.Pipeline.RegionsLoop
public import Idealize.ShloMosaic.Lib.Pipeline.Value
public import Idealize.ShloMosaic.Lib.Ring
public import Idealize.ShloMosaic.Lib.Tactic
public import Idealize.ShloMosaic.Lib.VecWindow
public import Idealize.ShloMosaic.Lib.WordCmp
public import proofs.«01_k».proof.Proof.Gen.Kernel3Ideal.Regions
public import proofs.«01_k».proof.Proof.P3Run0

@[expose] public section

set_option maxRecDepth 16384

noncomputable section

namespace Cert.Kernel3Ideal.Hand

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → Valuation τ sig (Elt F))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The scratch buffers before point `n`: anything where a weight block starts, and the block's two cast parts elsewhere. -/
def scr0 (c : Dev nD) (n : ℕ) : sProp 𝕄 :=
  if n % 8 = 0 then iprop((∃ d, owns (c : Thread nD τ) (Memref.whole cc0_scratch0) fullShare d) ∗ (∃ d, owns (c : Thread nD τ) (Memref.whole cc0_scratch1) fullShare d))
  else iprop(∃ t' : Fin cfg0.N, ⌜t'.val / 8 = n / 8⌝ ∗ owns (c : Thread nD τ) (Memref.whole cc0_scratch0) fullShare (k0_pay1 (iblk0 V c 1 t')) ∗ owns (c : Thread nD τ) (Memref.whole cc0_scratch1) fullShare (k0_pay2 (iblk0 V c 2 t')))

/-- What the scratch holds after point `t` is what the next point expects. -/
theorem scr0_close (c : Dev nD) (t : Fin cfg0.N) :
    iprop(owns (c : Thread nD τ) (Memref.whole cc0_scratch0) fullShare (k0_pay1 (iblk0 V c 1 t)) ∗ owns (c : Thread nD τ) (Memref.whole cc0_scratch1) fullShare (k0_pay2 (iblk0 V c 2 t)))
      ⊢ scr0 V c (t.val + 1) := by
  unfold scr0
  by_cases h : (t.val + 1) % 8 = 0
  · rw [if_pos h]
    iintro ⟨H0, H1⟩
    isplitl [H0]
    · iexists _; iexact H0
    iexists _; iexact H1
  · rw [if_neg h]
    iintro ⟨H0, H1⟩
    iexists t
    isplitr
    · ipureintro; omega
    isplitl [H0] <;> iassumption

/-- A weight window moves only with the block's number. -/
theorem index0_1 : ∀ t t' : Fin grid0.N, t.val / 8 = t'.val / 8 → ∀ a, win0_1.index t a = win0_1.index t' a := by
  decide +kernel

theorem iblk0_1_eq (c : Dev nD) (t t' : Fin cfg0.N) (h : t.val / 8 = t'.val / 8) : iblk0 V c 1 t = iblk0 V c 1 t' := by
  funext y
  refine congrArg (V c main_arg2) ?_
  funext a
  refine Fin.ext ?_
  have h1 := index0_1 t t' h
  fin_cases a
  · show win0_1.index t 0 + 1 * (y 0).val = win0_1.index t' 0 + 1 * (y 0).val
    rw [h1]
  · show win0_1.index t 1 + 1 * (y 1).val = win0_1.index t' 1 + 1 * (y 1).val
    rw [h1]
  · show win0_1.index t 2 + 1 * (y 2).val = win0_1.index t' 2 + 1 * (y 2).val
    rw [h1]

/-- A weight window moves only with the block's number. -/
theorem index0_2 : ∀ t t' : Fin grid0.N, t.val / 8 = t'.val / 8 → ∀ a, win0_2.index t a = win0_2.index t' a := by
  decide +kernel

theorem iblk0_2_eq (c : Dev nD) (t t' : Fin cfg0.N) (h : t.val / 8 = t'.val / 8) : iblk0 V c 2 t = iblk0 V c 2 t' := by
  funext y
  refine congrArg (V c main_arg2) ?_
  funext a
  refine Fin.ext ?_
  have h1 := index0_2 t t' h
  fin_cases a
  · show win0_2.index t 0 + 1 * (y 0).val = win0_2.index t' 0 + 1 * (y 0).val
    rw [h1]
  · show win0_2.index t 1 + 1 * (y 1).val = win0_2.index t' 1 + 1 * (y 1).val
    rw [h1]
  · show win0_2.index t 2 + 1 * (y 2).val = win0_2.index t' 2 + 1 * (y 2).val
    rw [h1]

/-- The body's branch is taken exactly where a weight block starts. -/
theorem hcond0 : ∀ t : Fin cfg0.N, cond0 (grid0.coords t) ↔ t.val % 8 = 0 :=
  (fun t => by
    have ht : t.val < 8 := lt_of_lt_of_eq t.isLt N_0
    have e1 : (grid0.coords t 1).val = t.val / 1 % 8 := Pipeline.Grid.coords_val t 1 (by decide) rfl
    simp only [cond0, e1]
    word_cmp
   : ∀ t : Fin grid0.N, cond0 (grid0.coords t) ↔ t.val % 8 = 0)

/-- The region's proof data: each array at its entry contents, each input's buffer at its block, each output's at its payload, the scratch as the points leave it. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => k0_pay5 (iblk0 V c 0 t) (iblk0 V c 3 t) (k0_pay1 (iblk0 V c 1 t)) (k0_pay2 (iblk0 V c 2 t))
    | ⟨6, _⟩ => k0_pay3 (iblk0 V c 0 t) (iblk0 V c 3 t)
    | ⟨7, _⟩ => k0_pay4 (iblk0 V c 4 t)
  Φ t := iprop(scr0 V c t.val ∗ Pipeline.scopedRestBut (Ix := Unit) (Name := ℕ) (U := UR sig nD τ) (Lvl := ℕ) (Val := Elt F) spec0 c [cc0_scratch0, cc0_scratch1])
  q w := Pipeline.shareOf spec0 w
  owed _ := 0

theorem A0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by
  dsimp only [dat0]
theorem after0_1 (c : Dev nD) (t : Fin cfg0.N) : (dat0 V c).after 1 t = iblk0 V c 1 t := by
  dsimp only [dat0]
theorem after0_2 (c : Dev nD) (t : Fin cfg0.N) : (dat0 V c).after 2 t = iblk0 V c 2 t := by
  dsimp only [dat0]
theorem after0_3 (c : Dev nD) (t : Fin cfg0.N) : (dat0 V c).after 3 t = iblk0 V c 3 t := by
  dsimp only [dat0]
theorem after0_4 (c : Dev nD) (t : Fin cfg0.N) : (dat0 V c).after 4 t = iblk0 V c 4 t := by
  dsimp only [dat0]
theorem after0_5 (c : Dev nD) (t : Fin cfg0.N) : (dat0 V c).after 5 t = k0_pay5 (iblk0 V c 0 t) (iblk0 V c 3 t) (k0_pay1 (iblk0 V c 1 t)) (k0_pay2 (iblk0 V c 2 t)) := by
  dsimp only [dat0]
theorem after0_6 (c : Dev nD) (t : Fin cfg0.N) : (dat0 V c).after 6 t = k0_pay3 (iblk0 V c 0 t) (iblk0 V c 3 t) := by
  dsimp only [dat0]
theorem after0_7 (c : Dev nD) (t : Fin cfg0.N) : (dat0 V c).after 7 t = k0_pay4 (iblk0 V c 4 t) := by
  dsimp only [dat0]
theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A0]; try rfl) t d).trans
    (by unfold Dat.fetched Dat.blockOf iblk0; rw [A0]; try rfl)
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A0]; try rfl) t d).trans
    (by unfold Dat.fetched Dat.blockOf iblk0; rw [A0]; try rfl)
theorem before0_2 (c : Dev nD) (t : Fin cfg0.N) (d) : (dat0 V c).before 2 t d = iblk0 V c 2 t :=
  ((dat0 V c).before_in_eq_fetched 2 rfl (fun _ => rfl) (fun _ _ _ => rfl) (fun t => by rw [after0_2]; unfold Dat.blockOf iblk0; rw [A0]; try rfl) t d).trans
    (by unfold Dat.fetched Dat.blockOf iblk0; rw [A0]; try rfl)
theorem before0_3 (c : Dev nD) (t : Fin cfg0.N) (d) : (dat0 V c).before 3 t d = iblk0 V c 3 t :=
  ((dat0 V c).before_in_eq_fetched 3 rfl (fun _ => rfl) (fun _ _ _ => rfl) (fun t => by rw [after0_3]; unfold Dat.blockOf iblk0; rw [A0]; try rfl) t d).trans
    (by unfold Dat.fetched Dat.blockOf iblk0; rw [A0]; try rfl)
theorem before0_4 (c : Dev nD) (t : Fin cfg0.N) (d) : (dat0 V c).before 4 t d = iblk0 V c 4 t :=
  ((dat0 V c).before_in_eq_fetched 4 rfl (fun _ => rfl) (fun _ _ _ => rfl) (fun t => by rw [after0_4]; unfold Dat.blockOf iblk0; rw [A0]; try rfl) t d).trans
    (by unfold Dat.fetched Dat.blockOf iblk0; rw [A0]; try rfl)
abbrev ms0_0 (t : Fin cfg0.N) : Memref sig .tc .vmem S1024x2048 .f32 := win0_0.stage (cfg0.slots t 0)
abbrev ms0_1 (t : Fin cfg0.N) : Memref sig .tc .vmem S1x2048x384 .f32 := win0_1.stage (cfg0.slots t 1)
abbrev ms0_2 (t : Fin cfg0.N) : Memref sig .tc .vmem S1x2048x384 .f32 := win0_2.stage (cfg0.slots t 2)
abbrev ms0_3 (t : Fin cfg0.N) : Memref sig .tc .vmem S1x2048 .f32 := win0_3.stage (cfg0.slots t 3)
abbrev ms0_4 (t : Fin cfg0.N) : Memref sig .tc .vmem S1x48x2048 .f32 := win0_4.stage (cfg0.slots t 4)
abbrev ms0_5 (t : Fin cfg0.N) : Memref sig .tc .vmem S1024x384 .bf16 := win0_5.stage (cfg0.slots t 5)
abbrev ms0_6 (t : Fin cfg0.N) : Memref sig .tc .vmem S1024x2048 .bf16 := win0_6.stage (cfg0.slots t 6)
abbrev ms0_7 (t : Fin cfg0.N) : Memref sig .tc .vmem S48x2048 .bf16 := win0_7.stage (cfg0.slots t 7)

/-- What the body is given at a point. -/
def pre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d)))
/-- What the body leaves at a point. -/
def post0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t)
    ∗ owns (c : Thread nD τ) (ms0_4 t) fullShare ((dat0 V c).after 4 t)
    ∗ owns (c : Thread nD τ) (ms0_5 t) fullShare ((dat0 V c).after 5 t)
    ∗ owns (c : Thread nD τ) (ms0_6 t) fullShare ((dat0 V c).after 6 t)
    ∗ owns (c : Thread nD τ) (ms0_7 t) fullShare ((dat0 V c).after 7 t))

set_option maxHeartbeats 4000000 in
/-- The body at any point. -/
theorem sound0 (c : Dev nD) (t : Fin cfg0.N) :
    pre0 V c t ⊢ wp frame (wpE (defs₀ (F := F)) Variants.none c none) Set.univ (bodyAt0 t) (fun _ => post0 V c t) := by
  unfold pre0 post0 bodyAt0
  simp only [before0_0, before0_1, before0_2, before0_3, before0_4]
  rw [show (dat0 V c).owesAt () t.succ = (dat0 V c).owesAt () t.castSucc from rfl,
    after0_0, after0_1, after0_2, after0_3, after0_4, after0_5, after0_6, after0_7]
  rw [show (dat0 V c).Φ t.castSucc = iprop(scr0 V c t.val ∗ Pipeline.scopedRestBut (Ix := Unit) (Name := ℕ) (U := UR sig nD τ) (Lvl := ℕ) (Val := Elt F) spec0 c [cc0_scratch0, cc0_scratch1]) from rfl,
    show (dat0 V c).Φ t.succ = iprop(scr0 V c (t.val + 1) ∗ Pipeline.scopedRestBut (Ix := Unit) (Name := ℕ) (U := UR sig nD τ) (Lvl := ℕ) (Val := Elt F) spec0 c [cc0_scratch0, cc0_scratch1]) from rfl]
  by_cases h0 : t.val % 8 = 0
  · rw [show scr0 V c t.val = _ from if_pos h0]
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (run0A c (grid0.coords t) _ _ _ _ _ _ _ _ _ _ _ _ _ _ _ _ _ _ _ _ ((hcond0 t).mpr h0) (iblk0 V c 0 t) (iblk0 V c 1 t) (iblk0 V c 2 t) (iblk0 V c 3 t) (iblk0 V c 4 t) Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    isplitl [HS0]; · iexact HS0
    isplitl [HS1]; · iexact HS1
    iintro ⟨H0, H1, H2, H3, H4, H5, H6, H7, HS0, HS1⟩
    isplitl [HS0 HS1 Hg]
    · isplitl [HS0 HS1]
      · iapply (scr0_close V c t)
        isplitl [HS0] <;> iassumption
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · rw [show scr0 V c t.val = _ from if_neg h0]
    iintro ⟨⟨⟨%t', %ht', HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    rw [iblk0_1_eq V c t' t (by omega), iblk0_2_eq V c t' t (by omega)]
    iapply (run0B c (grid0.coords t) _ _ _ _ _ _ _ _ _ _ _ _ _ _ _ _ _ _ _ _ (fun h => h0 ((hcond0 t).mp h)) (iblk0 V c 0 t) (iblk0 V c 1 t) (iblk0 V c 2 t) (iblk0 V c 3 t) (iblk0 V c 4 t) Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    isplitl [HS0]; · iexact HS0
    isplitl [HS1]; · iexact HS1
    iintro ⟨H0, H1, H2, H3, H4, H5, H6, H7, HS0, HS1⟩
    isplitl [HS0 HS1 Hg]
    · isplitl [HS0 HS1]
      · iapply (scr0_close V c t)
        isplitl [HS0] <;> iassumption
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

theorem defs₀_row0 (t : Fin cfg0.N) :
    defs₀ (F := F) .tc cfg0.body (cfg0.bodyArgs t (cfg0.slots t)) = bodyAt0 t := by
  unfold defs₀; rw [Defs.onTc_tc]

/-- The pipeline's body obligation, at every point. -/
theorem body0 (c : Dev nD) : BodyObligation (dat0 V c) (defs₀ (F := F)) Variants.none () Set.univ := fun t => by
  rw [bigSep_W0, bigSep_W0, defs₀_row0]
  exact triple_restated (sound0 V c t) rfl .rfl fun _ => .rfl

variable (Vp : (c : Dev nD) → Valuation τ sig (Elt F))
variable (pdats : (p : Fin 4) → (c : Dev nD) → Dat τ (Elt F) Unit ℕ (UR sig nD τ) ℕ (cfgs p) c)

set_option maxHeartbeats 2000000 in
set_option backward.isDefEq.respectTransparency.types false in
/-- The region as a segment: entered with every unscoped buffer at `V`, left with them at `Vp`, the outputs' arrays as its points' write-backs make them. -/
def reg0 (hp : ∀ c, pdats 0 c = dat0 V c) (h5 : ∀ c, Vp c main_v1_0 = (dat0 V c).arrAt 5 cfg0.N) (h6 : ∀ c, Vp c main_v1_1 = (dat0 V c).arrAt 6 cfg0.N) (h7 : ∀ c, Vp c main_v1_2 = (dat0 V c).arrAt 7 cfg0.N)
    (hne : ∀ c (b : Ref sig .tc), b ∉ ([main_v1_0, main_v1_1, main_v1_2] : List (Ref sig .tc)) → Vp c b = V c b) :
    Pipeline.RegionSeg (pcfgs (F := F)) adm pdats () defs₀ Variants.none (fun _ => ∅) (fun _ _ => 0) 0 where
  win := launch₀0.win
  block_pos := launch₀0.block_pos
  stage_whole := launch₀0.stage_whole
  K := PEmpty
  osem k := k.elim
  ho := Pipeline.OwnSemFacts.none _
  hbody c := by
    have h := (body0 V c).loose
    rw [← hp c] at h
    exact h
  hwaits := Pipeline.hwaits_of_owed_zero _ _ _ _ (fun _ => ∅) (fun _ _ => 0) 0 fun c _ => by rw [hp c]; rfl
  pre c := iprop(unscopedBufs c (fun b => V c b) ∗ ∃ W, owes (c : Thread nD τ) (0 : CellTallies nD τ sig Unit) W)
  post c := iprop(unscopedBufs c (fun b => Vp c b) ∗ ∃ W, owes (c : Thread nD τ) (0 : CellTallies nD τ sig Unit) W)
  X _ := BI.emp
  Y _ := BI.emp
  Z c := Pipeline.unscopedRest (Ix := Unit) (Name := ℕ) (U := UR sig nD τ) (Lvl := ℕ) spec0 c (fun b => V c b)
  hentry c := by
    rw [Pipeline.ownSems0_none]
    have hsplit := Pipeline.arrays_of_unscopedBufs_shared (p := 0) (pcfgs (F := F)) adm pdats launch₀0.win launch₀0.sharedIn launch₀0.arr_whole c
      (fun w _ => by rw [hp c]; rfl) (fun b => V c b) (fun w => by rw [hp c]; exact A0 V c w)
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · rw [show (pdats 0 c).owesAt () 0 = (dat0 V c).owesAt () 0 from by rw [hp c]]
      unfold Pipeline.Dat.owesAt Pipeline.owesWithin
      icases HO with ⟨%W, HO⟩; iexists W; isplitr; · ipureintro; exact fun _ _ => Or.inl trivial
      iexact HO
    isplitr; · iempintro
    iexact Hrest
  hin c := by
    rw [hp c, show (dat0 V c).Φ 0 = iprop(scr0 V c 0 ∗ Pipeline.scopedRestBut (Ix := Unit) (Name := ℕ) (U := UR sig nD τ) (Lvl := ℕ) (Val := Elt F) spec0 c [cc0_scratch0, cc0_scratch1]) from rfl, show scr0 V c 0 = _ from if_pos rfl]
    have hs := scopedRest0_split (Ix := Unit) (Name := ℕ) (U := UR sig nD τ) (Lvl := ℕ) (Val := Elt F) c
    simp only [owns_whole]
    iintro ⟨-, -, Hr⟩
    ihave H := (Entails.of_eq hs) $$ Hr
    iexact H
  hout c := by
    rw [Pipeline.ownSems0_none, hp c, show (dat0 V c).Φ (Fin.last (Pipeline.pin (pcfgs (F := F)) adm 0).N) = iprop(scr0 V c grid0.N ∗ Pipeline.scopedRestBut (Ix := Unit) (Name := ℕ) (U := UR sig nD τ) (Lvl := ℕ) (Val := Elt F) spec0 c [cc0_scratch0, cc0_scratch1]) from rfl,
      show scr0 V c grid0.N = _ from if_pos (by rw [N_0])]
    have hs := scopedRest0_split (Ix := Unit) (Name := ℕ) (U := UR sig nD τ) (Lvl := ℕ) (Val := Elt F) c
    simp only [owns_whole]
    iintro Hr
    isplitr; · iempintro
    isplitr; · iempintro
    iapply (Entails.of_eq hs.symm)
    iexact Hr
  hexit c := by
    have hjoin := Pipeline.unscopedBufs_of_arrays_shared (p := 0) (pcfgs (F := F)) adm (Ix := Unit) (Name := ℕ) (U := UR sig nD τ) (Lvl := ℕ) launch₀0.win launch₀0.sharedIn launch₀0.arr_whole c
      pdats (fun w _ => by rw [hp c]; rfl) (fun b => V c b) (fun b => Vp c b) ((pdats 0 c).arrAt · cfg0.N)
      (fun w => by
        rw [hp c]
        fin_cases w
        · exact ((dat0 V c).arrAt_in 0 rfl _).trans (hne c main_arg0 (by decide)).symm
        · exact ((dat0 V c).arrAt_in 1 rfl _).trans (hne c main_arg2 (by decide)).symm
        · exact ((dat0 V c).arrAt_in 2 rfl _).trans (hne c main_arg2 (by decide)).symm
        · exact ((dat0 V c).arrAt_in 3 rfl _).trans (hne c main_v0 (by decide)).symm
        · exact ((dat0 V c).arrAt_in 4 rfl _).trans (hne c main_arg3 (by decide)).symm
        · exact (h5 c).symm
        · exact (h6 c).symm
        · exact (h7 c).symm
        )
      (fun b hb => hne c b fun h => hb (by
        simp only [List.mem_cons, List.not_mem_nil, _root_.or_false] at h
        rcases h with h | h | h
        · exact h ▸ Finset.mem_image.mpr ⟨5, Finset.mem_univ _, rfl⟩
        · exact h ▸ Finset.mem_image.mpr ⟨6, Finset.mem_univ _, rfl⟩
        · exact h ▸ Finset.mem_image.mpr ⟨7, Finset.mem_univ _, rfl⟩))
    have hO : (pdats 0 c).owesAt () (Fin.last cfg0.N) ⊢ (iprop(∃ W, owes (c : Thread nD τ) (0 : CellTallies nD τ sig Unit) W) : sProp 𝕄) := by
      rw [hp c]
      unfold Pipeline.Dat.owesAt Pipeline.owesWithin
      iintro ⟨%W, -, HO⟩; iexists W; iexact HO
    iintro ⟨Ha, HO, -, Hrest⟩
    imodintro
    isplitl [Ha Hrest]
    · iapply hjoin; isplitl [Ha] <;> iassumption
    iapply hO; iexact HO

end Cert.Kernel3Ideal.Hand

end
-- ==== Proof.P3Run1.lean ====
module

public import proofs.«01_k».proof.Proof.Gen.Kernel3Ideal.Launch
public import proofs.«01_k».proof.Proof.Gen.Kernel3Ideal.Skeleton
public import proofs.«01_k».proof.Proof.Gen.Kernel3Ideal.Points
public import Idealize.ShloMosaic.Lib.Pipeline.FrameBody
public import Idealize.ShloMosaic.Lib.Pipeline.RegionsLoop
public import Idealize.ShloMosaic.Lib.Pipeline.Value
public import Idealize.ShloMosaic.Lib.Ring
public import Idealize.ShloMosaic.Lib.Tactic
public import Idealize.ShloMosaic.Lib.VecWindow
public import Idealize.ShloMosaic.Lib.WordCmp

@[expose] public section

set_option maxRecDepth 16384

noncomputable section

namespace Cert.Kernel3Ideal.Hand

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The condition of the body's branch, as the program states it. -/
abbrev cond1 (i : grid1.Coords) : Prop := (Scalar.cmpi .ne (Scalar.extui (Scalar.cmpi .eq (BitVec.ofNat 32 (i 1).val) 0#32)) 0#32) = 1#1

set_option maxHeartbeats 4000000 in
/-- The body where it casts the two weight blocks first: from any scratch contents, every output ends at its payload and the scratch at the cast blocks. -/
theorem run1A (c : Dev nD) (i : grid1.Coords) (arg2 : Memref sig .tc .vmem S1024x2048 .bf16) (harg2 : arg2.IsWhole) (arg3 : Memref sig .tc .vmem S1x2048x512 .f32) (harg3 : arg3.IsWhole) (arg4 : Memref sig .tc .vmem S1x2048x512 .f32) (harg4 : arg4.IsWhole) (arg5 : Memref sig .tc .vmem S1x64x2048 .f32) (harg5 : arg5.IsWhole) (arg6 : Memref sig .tc .vmem S1024x512 .bf16) (harg6 : arg6.IsWhole) (arg7 : Memref sig .tc .vmem S64x2048 .bf16) (harg7 : arg7.IsWhole) (arg8 : Memref sig .tc .vmem S2048x512 .bf16) (harg8 : arg8.IsWhole) (arg9 : Memref sig .tc .vmem S2048x512 .bf16) (harg9 : arg9.IsWhole) (hc0 : cond1 i)
    (x0 : Vec F S1024x2048 .bf16) (x1 : Vec F S1x2048x512 .f32) (x2 : Vec F S1x2048x512 .f32) (x3 : Vec F S1x64x2048 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (k1_pay4 x0 (k1_pay1 x1) (k1_pay2 x2)) ∗ owns (c : Thread nD τ) arg7 fullShare (k1_pay3 x3) ∗ owns (c : Thread nD τ) arg8 fullShare (k1_pay1 x1) ∗ owns (c : Thread nD τ) arg9 fullShare (k1_pay2 x2)) -∗ K ⟨⟩))
      ⊢ wp frame (wpE (defs₀ (F := F)) Variants.none c none) E (cc1_ffn_in i arg2 harg2 arg3 harg3 arg4 harg4 arg5 harg5 arg6 harg6 arg7 harg7 arg8 harg8 arg9 harg9) K := by
  simp only [cc1_ffn_in_eq_skeleton]; unfold cc1_ffn_in_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, Hk⟩
  obtain rfl := harg2.eq_unread hf0; obtain rfl := harg3.eq_unread hf1; obtain rfl := harg4.eq_unread hf2; obtain rfl := harg5.eq_unread hf3
  sl_exec (disch := first | sl_exact hc0)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; swap; · iexact H4
    ipureintro
    refine (View.read_writes_full _ _ _ _ _).trans ?_
    show k1_pay4 _ _ _ = k1_pay4 x0 (k1_pay1 x1) (k1_pay2 x2)
    exact (congr (congr (congrArg k1_pay4 ((View.readAt_full _ _ _).trans (Memref.IsWhole.read_unread _ _))) ((View.readCov_full _ _ _ _ _).trans (congrArg k1_pay1 ((View.readAt_full _ _ _).trans (Memref.IsWhole.read_unread _ _))))) ((View.readCov_full _ _ _ _ _).trans (congrArg k1_pay2 ((View.readAt_full _ _ _).trans (Memref.IsWhole.read_unread _ _)))))
  isplitl [H5]
  · iexists _; isplitr; swap; · iexact H5
    ipureintro
    refine (View.read_writes_full _ _ _ _ _).trans ?_
    show k1_pay3 _ = k1_pay3 x3
    exact (congrArg k1_pay3 ((View.readAt_full _ _ _).trans (Memref.IsWhole.read_unread _ _)))
  isplitl [H6]
  · iexists _; isplitr; swap; · iexact H6
    ipureintro
    refine (View.read_writes_full _ _ _ _ _).trans ?_
    show k1_pay1 _ = k1_pay1 x1
    exact (congrArg k1_pay1 ((View.readAt_full _ _ _).trans (Memref.IsWhole.read_unread _ _)))
  · iexists _; isplitr; swap; · iexact H7
    ipureintro
    refine (View.read_writes_full _ _ _ _ _).trans ?_
    show k1_pay2 _ = k1_pay2 x2
    exact (congrArg k1_pay2 ((View.readAt_full _ _ _).trans (Memref.IsWhole.read_unread _ _)))

set_option maxHeartbeats 4000000 in
/-- The body where the scratch already holds the two cast blocks: every output ends at its payload and the scratch stays. -/
theorem run1B (c : Dev nD) (i : grid1.Coords) (arg2 : Memref sig .tc .vmem S1024x2048 .bf16) (harg2 : arg2.IsWhole) (arg3 : Memref sig .tc .vmem S1x2048x512 .f32) (harg3 : arg3.IsWhole) (arg4 : Memref sig .tc .vmem S1x2048x512 .f32) (harg4 : arg4.IsWhole) (arg5 : Memref sig .tc .vmem S1x64x2048 .f32) (harg5 : arg5.IsWhole) (arg6 : Memref sig .tc .vmem S1024x512 .bf16) (harg6 : arg6.IsWhole) (arg7 : Memref sig .tc .vmem S64x2048 .bf16) (harg7 : arg7.IsWhole) (arg8 : Memref sig .tc .vmem S2048x512 .bf16) (harg8 : arg8.IsWhole) (arg9 : Memref sig .tc .vmem S2048x512 .bf16) (harg9 : arg9.IsWhole) (hc0 : ¬cond1 i)
    (x0 : Vec F S1024x2048 .bf16) (x1 : Vec F S1x2048x512 .f32) (x2 : Vec F S1x2048x512 .f32) (x3 : Vec F S1x64x2048 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ owns (c : Thread nD τ) arg8 fullShare (k1_pay1 x1) ∗ owns (c : Thread nD τ) arg9 fullShare (k1_pay2 x2)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (k1_pay4 x0 (k1_pay1 x1) (k1_pay2 x2)) ∗ owns (c : Thread nD τ) arg7 fullShare (k1_pay3 x3) ∗ owns (c : Thread nD τ) arg8 fullShare (k1_pay1 x1) ∗ owns (c : Thread nD τ) arg9 fullShare (k1_pay2 x2)) -∗ K ⟨⟩))
      ⊢ wp frame (wpE (defs₀ (F := F)) Variants.none c none) E (cc1_ffn_in i arg2 harg2 arg3 harg3 arg4 harg4 arg5 harg5 arg6 harg6 arg7 harg7 arg8 harg8 arg9 harg9) K := by
  simp only [cc1_ffn_in_eq_skeleton]; unfold cc1_ffn_in_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%f6, %hf6, H6⟩, ⟨%f7, %hf7, H7⟩, Hk⟩
  obtain rfl := harg2.eq_unread hf0; obtain rfl := harg3.eq_unread hf1; obtain rfl := harg4.eq_unread hf2; obtain rfl := harg5.eq_unread hf3; obtain rfl := harg8.eq_unread hf6; obtain rfl := harg9.eq_unread hf7
  sl_exec (disch := first | sl_exact hc0)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; swap; · iexact H4
    ipureintro
    refine (View.read_writes_full _ _ _ _ _).trans ?_
    show k1_pay4 _ _ _ = k1_pay4 x0 (k1_pay1 x1) (k1_pay2 x2)
    exact (congr (congr (congrArg k1_pay4 ((View.readAt_full _ _ _).trans (Memref.IsWhole.read_unread _ _))) ((View.readAt_full _ _ _).trans (Memref.IsWhole.read_unread _ _))) ((View.readAt_full _ _ _).trans (Memref.IsWhole.read_unread _ _)))
  isplitl [H5]
  · iexists _; isplitr; swap; · iexact H5
    ipureintro
    refine (View.read_writes_full _ _ _ _ _).trans ?_
    show k1_pay3 _ = k1_pay3 x3
    exact (congrArg k1_pay3 ((View.readAt_full _ _ _).trans (Memref.IsWhole.read_unread _ _)))
  isplitl [H6]
  · iexists _; isplitr; · ipureintro; exact harg8.read_unread _
    iexact H6
  · iexists _; isplitr; · ipureintro; exact harg9.read_unread _
    iexact H7

end Cert.Kernel3Ideal.Hand

end
-- ==== Proof.P3Region1.lean ====
module

public import proofs.«01_k».proof.Proof.Gen.Kernel3Ideal.Launch
public import proofs.«01_k».proof.Proof.Gen.Kernel3Ideal.Skeleton
public import proofs.«01_k».proof.Proof.Gen.Kernel3Ideal.Points
public import Idealize.ShloMosaic.Lib.Pipeline.FrameBody
public import Idealize.ShloMosaic.Lib.Pipeline.RegionsLoop
public import Idealize.ShloMosaic.Lib.Pipeline.Value
public import Idealize.ShloMosaic.Lib.Ring
public import Idealize.ShloMosaic.Lib.Tactic
public import Idealize.ShloMosaic.Lib.VecWindow
public import Idealize.ShloMosaic.Lib.WordCmp
public import proofs.«01_k».proof.Proof.Gen.Kernel3Ideal.Regions
public import proofs.«01_k».proof.Proof.P3Run1

@[expose] public section

set_option maxRecDepth 16384

noncomputable section

namespace Cert.Kernel3Ideal.Hand

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → Valuation τ sig (Elt F))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The scratch buffers before point `n`: anything where a weight block starts, and the block's two cast parts elsewhere. -/
def scr1 (c : Dev nD) (n : ℕ) : sProp 𝕄 :=
  if n % 8 = 0 then iprop((∃ d, owns (c : Thread nD τ) (Memref.whole cc1_scratch0) fullShare d) ∗ (∃ d, owns (c : Thread nD τ) (Memref.whole cc1_scratch1) fullShare d))
  else iprop(∃ t' : Fin cfg1.N, ⌜t'.val / 8 = n / 8⌝ ∗ owns (c : Thread nD τ) (Memref.whole cc1_scratch0) fullShare (k1_pay1 (iblk1 V c 1 t')) ∗ owns (c : Thread nD τ) (Memref.whole cc1_scratch1) fullShare (k1_pay2 (iblk1 V c 2 t')))

/-- What the scratch holds after point `t` is what the next point expects. -/
theorem scr1_close (c : Dev nD) (t : Fin cfg1.N) :
    iprop(owns (c : Thread nD τ) (Memref.whole cc1_scratch0) fullShare (k1_pay1 (iblk1 V c 1 t)) ∗ owns (c : Thread nD τ) (Memref.whole cc1_scratch1) fullShare (k1_pay2 (iblk1 V c 2 t)))
      ⊢ scr1 V c (t.val + 1) := by
  unfold scr1
  by_cases h : (t.val + 1) % 8 = 0
  · rw [if_pos h]
    iintro ⟨H0, H1⟩
    isplitl [H0]
    · iexists _; iexact H0
    iexists _; iexact H1
  · rw [if_neg h]
    iintro ⟨H0, H1⟩
    iexists t
    isplitr
    · ipureintro; omega
    isplitl [H0] <;> iassumption

/-- A weight window moves only with the block's number. -/
theorem index1_1 : ∀ t t' : Fin grid1.N, t.val / 8 = t'.val / 8 → ∀ a, win1_1.index t a = win1_1.index t' a := by
  decide +kernel

theorem iblk1_1_eq (c : Dev nD) (t t' : Fin cfg1.N) (h : t.val / 8 = t'.val / 8) : iblk1 V c 1 t = iblk1 V c 1 t' := by
  funext y
  refine congrArg (V c main_arg2) ?_
  funext a
  refine Fin.ext ?_
  have h1 := index1_1 t t' h
  fin_cases a
  · show win1_1.index t 0 + 1 * (y 0).val = win1_1.index t' 0 + 1 * (y 0).val
    rw [h1]
  · show win1_1.index t 1 + 1 * (y 1).val = win1_1.index t' 1 + 1 * (y 1).val
    rw [h1]
  · show win1_1.index t 2 + 1 * (y 2).val = win1_1.index t' 2 + 1 * (y 2).val
    rw [h1]

/-- A weight window moves only with the block's number. -/
theorem index1_2 : ∀ t t' : Fin grid1.N, t.val / 8 = t'.val / 8 → ∀ a, win1_2.index t a = win1_2.index t' a := by
  decide +kernel

theorem iblk1_2_eq (c : Dev nD) (t t' : Fin cfg1.N) (h : t.val / 8 = t'.val / 8) : iblk1 V c 2 t = iblk1 V c 2 t' := by
  funext y
  refine congrArg (V c main_arg2) ?_
  funext a
  refine Fin.ext ?_
  have h1 := index1_2 t t' h
  fin_cases a
  · show win1_2.index t 0 + 1 * (y 0).val = win1_2.index t' 0 + 1 * (y 0).val
    rw [h1]
  · show win1_2.index t 1 + 1 * (y 1).val = win1_2.index t' 1 + 1 * (y 1).val
    rw [h1]
  · show win1_2.index t 2 + 1 * (y 2).val = win1_2.index t' 2 + 1 * (y 2).val
    rw [h1]

/-- The body's branch is taken exactly where a weight block starts. -/
theorem hcond1 : ∀ t : Fin cfg1.N, cond1 (grid1.coords t) ↔ t.val % 8 = 0 :=
  (fun t => by
    have ht : t.val < 80 := lt_of_lt_of_eq t.isLt N_1
    have e1 : (grid1.coords t 1).val = t.val / 1 % 8 := Pipeline.Grid.coords_val t 1 (by decide) rfl
    simp only [cond1, e1]
    word_cmp
   : ∀ t : Fin grid1.N, cond1 (grid1.coords t) ↔ t.val % 8 = 0)

/-- The region's proof data: each array at its entry contents, each input's buffer at its block, each output's at its payload, the scratch as the points leave it. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => k1_pay4 (iblk1 V c 0 t) (k1_pay1 (iblk1 V c 1 t)) (k1_pay2 (iblk1 V c 2 t))
    | ⟨5, _⟩ => k1_pay3 (iblk1 V c 3 t)
  Φ t := iprop(scr1 V c t.val ∗ Pipeline.scopedRestBut (Ix := Unit) (Name := ℕ) (U := UR sig nD τ) (Lvl := ℕ) (Val := Elt F) spec1 c [cc1_scratch0, cc1_scratch1])
  q w := Pipeline.shareOf spec1 w
  owed _ := 0

theorem A1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by
  dsimp only [dat1]
theorem after1_1 (c : Dev nD) (t : Fin cfg1.N) : (dat1 V c).after 1 t = iblk1 V c 1 t := by
  dsimp only [dat1]
theorem after1_2 (c : Dev nD) (t : Fin cfg1.N) : (dat1 V c).after 2 t = iblk1 V c 2 t := by
  dsimp only [dat1]
theorem after1_3 (c : Dev nD) (t : Fin cfg1.N) : (dat1 V c).after 3 t = iblk1 V c 3 t := by
  dsimp only [dat1]
theorem after1_4 (c : Dev nD) (t : Fin cfg1.N) : (dat1 V c).after 4 t = k1_pay4 (iblk1 V c 0 t) (k1_pay1 (iblk1 V c 1 t)) (k1_pay2 (iblk1 V c 2 t)) := by
  dsimp only [dat1]
theorem after1_5 (c : Dev nD) (t : Fin cfg1.N) : (dat1 V c).after 5 t = k1_pay3 (iblk1 V c 3 t) := by
  dsimp only [dat1]
theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A1]; try rfl) t d).trans
    (by unfold Dat.fetched Dat.blockOf iblk1; rw [A1]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A1]; try rfl) t d).trans
    (by unfold Dat.fetched Dat.blockOf iblk1; rw [A1]; try rfl)
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A1]; try rfl) t d).trans
    (by unfold Dat.fetched Dat.blockOf iblk1; rw [A1]; try rfl)
theorem before1_3 (c : Dev nD) (t : Fin cfg1.N) (d) : (dat1 V c).before 3 t d = iblk1 V c 3 t :=
  ((dat1 V c).before_in_eq_fetched 3 rfl (fun _ => rfl) (fun _ _ _ => rfl) (fun t => by rw [after1_3]; unfold Dat.blockOf iblk1; rw [A1]; try rfl) t d).trans
    (by unfold Dat.fetched Dat.blockOf iblk1; rw [A1]; try rfl)
abbrev ms1_0 (t : Fin cfg1.N) : Memref sig .tc .vmem S1024x2048 .bf16 := win1_0.stage (cfg1.slots t 0)
abbrev ms1_1 (t : Fin cfg1.N) : Memref sig .tc .vmem S1x2048x512 .f32 := win1_1.stage (cfg1.slots t 1)
abbrev ms1_2 (t : Fin cfg1.N) : Memref sig .tc .vmem S1x2048x512 .f32 := win1_2.stage (cfg1.slots t 2)
abbrev ms1_3 (t : Fin cfg1.N) : Memref sig .tc .vmem S1x64x2048 .f32 := win1_3.stage (cfg1.slots t 3)
abbrev ms1_4 (t : Fin cfg1.N) : Memref sig .tc .vmem S1024x512 .bf16 := win1_4.stage (cfg1.slots t 4)
abbrev ms1_5 (t : Fin cfg1.N) : Memref sig .tc .vmem S64x2048 .bf16 := win1_5.stage (cfg1.slots t 5)

/-- What the body is given at a point. -/
def pre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))
/-- What the body leaves at a point. -/
def post1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t)
    ∗ owns (c : Thread nD τ) (ms1_5 t) fullShare ((dat1 V c).after 5 t))

set_option maxHeartbeats 4000000 in
/-- The body at any point. -/
theorem sound1 (c : Dev nD) (t : Fin cfg1.N) :
    pre1 V c t ⊢ wp frame (wpE (defs₀ (F := F)) Variants.none c none) Set.univ (bodyAt1 t) (fun _ => post1 V c t) := by
  unfold pre1 post1 bodyAt1
  simp only [before1_0, before1_1, before1_2, before1_3]
  rw [show (dat1 V c).owesAt () t.succ = (dat1 V c).owesAt () t.castSucc from rfl,
    after1_0, after1_1, after1_2, after1_3, after1_4, after1_5]
  rw [show (dat1 V c).Φ t.castSucc = iprop(scr1 V c t.val ∗ Pipeline.scopedRestBut (Ix := Unit) (Name := ℕ) (U := UR sig nD τ) (Lvl := ℕ) (Val := Elt F) spec1 c [cc1_scratch0, cc1_scratch1]) from rfl,
    show (dat1 V c).Φ t.succ = iprop(scr1 V c (t.val + 1) ∗ Pipeline.scopedRestBut (Ix := Unit) (Name := ℕ) (U := UR sig nD τ) (Lvl := ℕ) (Val := Elt F) spec1 c [cc1_scratch0, cc1_scratch1]) from rfl]
  by_cases h0 : t.val % 8 = 0
  · rw [show scr1 V c t.val = _ from if_pos h0]
    iintro ⟨⟨⟨HS0, HS1⟩, Hg⟩, Ho, ⟨%d0, H0⟩, ⟨%d1, H1⟩, ⟨%d2, H2⟩, ⟨%d3, H3⟩, ⟨%d4, H4⟩, ⟨%d5, H5⟩⟩
    iapply (run1A c (grid1.coords t) _ _ _ _ _ _ _ _ _ _ _ _ _ _ _ _ ((hcond1 t).mpr h0) (iblk1 V c 0 t) (iblk1 V c 1 t) (iblk1 V c 2 t) (iblk1 V c 3 t) Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [HS0]; · iexact HS0
    isplitl [HS1]; · iexact HS1
    iintro ⟨H0, H1, H2, H3, H4, H5, HS0, HS1⟩
    isplitl [HS0 HS1 Hg]
    · isplitl [HS0 HS1]
      · iapply (scr1_close V c t)
        isplitl [HS0] <;> iassumption
      iexact Hg
    isplitl [Ho]; · iexact Ho
    isplitl [H0]; · iexact H0
    isplitl [H1]; · iexact H1
    isplitl [H2]; · iexact H2
    isplitl [H3]; · iexact H3
    isplitl [H4]; · iexact H4
    iexact H5
  · rw [show scr1 V c t.val = _ from if_neg h0]
    iintro ⟨⟨⟨%t', %ht', HS0, HS1⟩, Hg⟩, Ho, ⟨%d0, H0⟩, ⟨%d1, H1⟩, ⟨%d2, H2⟩, ⟨%d3, H3⟩, ⟨%d4, H4⟩, ⟨%d5, H5⟩⟩
    rw [iblk1_1_eq V c t' t (by omega), iblk1_2_eq V c t' t (by omega)]
    iapply (run1B c (grid1.coords t) _ _ _ _ _ _ _ _ _ _ _ _ _ _ _ _ (fun h => h0 ((hcond1 t).mp h)) (iblk1 V c 0 t) (iblk1 V c 1 t) (iblk1 V c 2 t) (iblk1 V c 3 t) Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [HS0]; · iexact HS0
    isplitl [HS1]; · iexact HS1
    iintro ⟨H0, H1, H2, H3, H4, H5, HS0, HS1⟩
    isplitl [HS0 HS1 Hg]
    · isplitl [HS0 HS1]
      · iapply (scr1_close V c t)
        isplitl [HS0] <;> iassumption
      iexact Hg
    isplitl [Ho]; · iexact Ho
    isplitl [H0]; · iexact H0
    isplitl [H1]; · iexact H1
    isplitl [H2]; · iexact H2
    isplitl [H3]; · iexact H3
    isplitl [H4]; · iexact H4
    iexact H5

theorem defs₀_row1 (t : Fin cfg1.N) :
    defs₀ (F := F) .tc cfg1.body (cfg1.bodyArgs t (cfg1.slots t)) = bodyAt1 t := by
  unfold defs₀; rw [Defs.onTc_tc]

/-- The pipeline's body obligation, at every point. -/
theorem body1 (c : Dev nD) : BodyObligation (dat1 V c) (defs₀ (F := F)) Variants.none () Set.univ := fun t => by
  rw [bigSep_W1, bigSep_W1, defs₀_row1]
  exact triple_restated (sound1 V c t) rfl .rfl fun _ => .rfl

variable (Vp : (c : Dev nD) → Valuation τ sig (Elt F))
variable (pdats : (p : Fin 4) → (c : Dev nD) → Dat τ (Elt F) Unit ℕ (UR sig nD τ) ℕ (cfgs p) c)

set_option maxHeartbeats 2000000 in
set_option backward.isDefEq.respectTransparency.types false in
/-- The region as a segment: entered with every unscoped buffer at `V`, left with them at `Vp`, the outputs' arrays as its points' write-backs make them. -/
def reg1 (hp : ∀ c, pdats 1 c = dat1 V c) (h4 : ∀ c, Vp c main_v2_0 = (dat1 V c).arrAt 4 cfg1.N) (h5 : ∀ c, Vp c main_v2_1 = (dat1 V c).arrAt 5 cfg1.N)
    (hne : ∀ c (b : Ref sig .tc), b ∉ ([main_v2_0, main_v2_1] : List (Ref sig .tc)) → Vp c b = V c b) :
    Pipeline.RegionSeg (pcfgs (F := F)) adm pdats () defs₀ Variants.none (fun _ => ∅) (fun _ _ => 0) 1 where
  win := launch₀1.win
  block_pos := launch₀1.block_pos
  stage_whole := launch₀1.stage_whole
  K := PEmpty
  osem k := k.elim
  ho := Pipeline.OwnSemFacts.none _
  hbody c := by
    have h := (body1 V c).loose
    rw [← hp c] at h
    exact h
  hwaits := Pipeline.hwaits_of_owed_zero _ _ _ _ (fun _ => ∅) (fun _ _ => 0) 1 fun c _ => by rw [hp c]; rfl
  pre c := iprop(unscopedBufs c (fun b => V c b) ∗ ∃ W, owes (c : Thread nD τ) (0 : CellTallies nD τ sig Unit) W)
  post c := iprop(unscopedBufs c (fun b => Vp c b) ∗ ∃ W, owes (c : Thread nD τ) (0 : CellTallies nD τ sig Unit) W)
  X _ := BI.emp
  Y _ := BI.emp
  Z c := Pipeline.unscopedRest (Ix := Unit) (Name := ℕ) (U := UR sig nD τ) (Lvl := ℕ) spec1 c (fun b => V c b)
  hentry c := by
    rw [Pipeline.ownSems0_none]
    have hsplit := Pipeline.arrays_of_unscopedBufs_shared (p := 1) (pcfgs (F := F)) adm pdats launch₀1.win launch₀1.sharedIn launch₀1.arr_whole c
      (fun w _ => by rw [hp c]; rfl) (fun b => V c b) (fun w => by rw [hp c]; exact A1 V c w)
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · rw [show (pdats 1 c).owesAt () 0 = (dat1 V c).owesAt () 0 from by rw [hp c]]
      unfold Pipeline.Dat.owesAt Pipeline.owesWithin
      icases HO with ⟨%W, HO⟩; iexists W; isplitr; · ipureintro; exact fun _ _ => Or.inl trivial
      iexact HO
    isplitr; · iempintro
    iexact Hrest
  hin c := by
    rw [hp c, show (dat1 V c).Φ 0 = iprop(scr1 V c 0 ∗ Pipeline.scopedRestBut (Ix := Unit) (Name := ℕ) (U := UR sig nD τ) (Lvl := ℕ) (Val := Elt F) spec1 c [cc1_scratch0, cc1_scratch1]) from rfl, show scr1 V c 0 = _ from if_pos rfl]
    have hs := scopedRest1_split (Ix := Unit) (Name := ℕ) (U := UR sig nD τ) (Lvl := ℕ) (Val := Elt F) c
    simp only [owns_whole]
    iintro ⟨-, -, Hr⟩
    ihave H := (Entails.of_eq hs) $$ Hr
    iexact H
  hout c := by
    rw [Pipeline.ownSems0_none, hp c, show (dat1 V c).Φ (Fin.last (Pipeline.pin (pcfgs (F := F)) adm 1).N) = iprop(scr1 V c grid1.N ∗ Pipeline.scopedRestBut (Ix := Unit) (Name := ℕ) (U := UR sig nD τ) (Lvl := ℕ) (Val := Elt F) spec1 c [cc1_scratch0, cc1_scratch1]) from rfl,
      show scr1 V c grid1.N = _ from if_pos (by rw [N_1])]
    have hs := scopedRest1_split (Ix := Unit) (Name := ℕ) (U := UR sig nD τ) (Lvl := ℕ) (Val := Elt F) c
    simp only [owns_whole]
    iintro Hr
    isplitr; · iempintro
    isplitr; · iempintro
    iapply (Entails.of_eq hs.symm)
    iexact Hr
  hexit c := by
    have hjoin := Pipeline.unscopedBufs_of_arrays_shared (p := 1) (pcfgs (F := F)) adm (Ix := Unit) (Name := ℕ) (U := UR sig nD τ) (Lvl := ℕ) launch₀1.win launch₀1.sharedIn launch₀1.arr_whole c
      pdats (fun w _ => by rw [hp c]; rfl) (fun b => V c b) (fun b => Vp c b) ((pdats 1 c).arrAt · cfg1.N)
      (fun w => by
        rw [hp c]
        fin_cases w
        · exact ((dat1 V c).arrAt_in 0 rfl _).trans (hne c main_v1_1 (by decide)).symm
        · exact ((dat1 V c).arrAt_in 1 rfl _).trans (hne c main_arg2 (by decide)).symm
        · exact ((dat1 V c).arrAt_in 2 rfl _).trans (hne c main_arg2 (by decide)).symm
        · exact ((dat1 V c).arrAt_in 3 rfl _).trans (hne c main_arg3 (by decide)).symm
        · exact (h4 c).symm
        · exact (h5 c).symm
        )
      (fun b hb => hne c b fun h => hb (by
        simp only [List.mem_cons, List.not_mem_nil, _root_.or_false] at h
        rcases h with h | h
        · exact h ▸ Finset.mem_image.mpr ⟨4, Finset.mem_univ _, rfl⟩
        · exact h ▸ Finset.mem_image.mpr ⟨5, Finset.mem_univ _, rfl⟩))
    have hO : (pdats 1 c).owesAt () (Fin.last cfg1.N) ⊢ (iprop(∃ W, owes (c : Thread nD τ) (0 : CellTallies nD τ sig Unit) W) : sProp 𝕄) := by
      rw [hp c]
      unfold Pipeline.Dat.owesAt Pipeline.owesWithin
      iintro ⟨%W, -, HO⟩; iexists W; iexact HO
    iintro ⟨Ha, HO, -, Hrest⟩
    imodintro
    isplitl [Ha Hrest]
    · iapply hjoin; isplitl [Ha] <;> iassumption
    iapply hO; iexact HO

end Cert.Kernel3Ideal.Hand

end
-- ==== Proof.P3Run2.lean ====
module

public import proofs.«01_k».proof.Proof.Gen.Kernel3Ideal.Launch
public import proofs.«01_k».proof.Proof.Gen.Kernel3Ideal.Skeleton
public import proofs.«01_k».proof.Proof.Gen.Kernel3Ideal.Points
public import Idealize.ShloMosaic.Lib.Pipeline.FrameBody
public import Idealize.ShloMosaic.Lib.Pipeline.RegionsLoop
public import Idealize.ShloMosaic.Lib.Pipeline.Value
public import Idealize.ShloMosaic.Lib.Ring
public import Idealize.ShloMosaic.Lib.Tactic
public import Idealize.ShloMosaic.Lib.VecWindow
public import Idealize.ShloMosaic.Lib.WordCmp

@[expose] public section

set_option maxRecDepth 16384

noncomputable section

namespace Cert.Kernel3Ideal.Hand

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body: every input stays and the output ends at its payload. -/
theorem run2 (c : Dev nD) (i : grid2.Coords) (arg2 : Memref sig .tc .vmem S512x1024 .f32) (harg2 : arg2.IsWhole) (arg3 : Memref sig .tc .vmem S512x5120 .bf16) (harg3 : arg3.IsWhole) (arg4 : Memref sig .tc .vmem S512x384 .bf16) (harg4 : arg4.IsWhole) (arg5 : Memref sig .tc .vmem S1x5120x1024 .bf16) (harg5 : arg5.IsWhole) (arg6 : Memref sig .tc .vmem S1x384x1024 .bf16) (harg6 : arg6.IsWhole) (arg7 : Memref sig .tc .vmem S512x1024 .f32) (harg7 : arg7.IsWhole)
    (x0 : Vec F S512x1024 .f32) (x1 : Vec F S512x5120 .bf16) (x2 : Vec F S512x384 .bf16) (x3 : Vec F S1x5120x1024 .bf16) (x4 : Vec F S1x384x1024 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (k2_pay1 x3 x4 x1 x2 x0)) -∗ K ⟨⟩))
      ⊢ wp frame (wpE (defs₀ (F := F)) Variants.none c none) E (cc2_matmul_residual i arg2 harg2 arg3 harg3 arg4 harg4 arg5 harg5 arg6 harg6 arg7 harg7) K := by
  simp only [cc2_matmul_residual_eq_skeleton]; unfold cc2_matmul_residual_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  obtain rfl := harg2.eq_unread hf0; obtain rfl := harg3.eq_unread hf1; obtain rfl := harg4.eq_unread hf2; obtain rfl := harg5.eq_unread hf3; obtain rfl := harg6.eq_unread hf4
  sl_exec
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  · iexists _; isplitr; swap; · iexact H5
    ipureintro
    refine (View.read_writes_full _ _ _ _ _).trans ?_
    show k2_pay1 _ _ _ _ _ = k2_pay1 x3 x4 x1 x2 x0
    exact (congr (congr (congr (congr (congrArg k2_pay1 ((View.readAt_full _ _ _).trans (Memref.IsWhole.read_unread _ _))) ((View.readAt_full _ _ _).trans (Memref.IsWhole.read_unread _ _))) ((View.readAt_full _ _ _).trans (Memref.IsWhole.read_unread _ _))) ((View.readAt_full _ _ _).trans (Memref.IsWhole.read_unread _ _))) ((View.readAt_full _ _ _).trans (Memref.IsWhole.read_unread _ _)))

end Cert.Kernel3Ideal.Hand

end
-- ==== Proof.P3Region2.lean ====
module

public import proofs.«01_k».proof.Proof.Gen.Kernel3Ideal.Launch
public import proofs.«01_k».proof.Proof.Gen.Kernel3Ideal.Skeleton
public import proofs.«01_k».proof.Proof.Gen.Kernel3Ideal.Points
public import Idealize.ShloMosaic.Lib.Pipeline.FrameBody
public import Idealize.ShloMosaic.Lib.Pipeline.RegionsLoop
public import Idealize.ShloMosaic.Lib.Pipeline.Value
public import Idealize.ShloMosaic.Lib.Ring
public import Idealize.ShloMosaic.Lib.Tactic
public import Idealize.ShloMosaic.Lib.VecWindow
public import Idealize.ShloMosaic.Lib.WordCmp
public import proofs.«01_k».proof.Proof.Gen.Kernel3Ideal.Regions
public import proofs.«01_k».proof.Proof.P3Run2

@[expose] public section

set_option maxRecDepth 16384

noncomputable section

namespace Cert.Kernel3Ideal.Hand

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → Valuation τ sig (Elt F))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The region's proof data: each array at its entry contents, each input's buffer at its block, each output's at its payload, the scratch as the points leave it. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => k2_pay1 (iblk2 V c 3 t) (iblk2 V c 4 t) (iblk2 V c 1 t) (iblk2 V c 2 t) (iblk2 V c 0 t)
  Φ t := Pipeline.scopedRest (Ix := Unit) (Name := ℕ) (U := UR sig nD τ) (Lvl := ℕ) (Val := Elt F) spec2 c
  q w := fullShare
  owed _ := 0

theorem A2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by
  dsimp only [dat2]
theorem after2_1 (c : Dev nD) (t : Fin cfg2.N) : (dat2 V c).after 1 t = iblk2 V c 1 t := by
  dsimp only [dat2]
theorem after2_2 (c : Dev nD) (t : Fin cfg2.N) : (dat2 V c).after 2 t = iblk2 V c 2 t := by
  dsimp only [dat2]
theorem after2_3 (c : Dev nD) (t : Fin cfg2.N) : (dat2 V c).after 3 t = iblk2 V c 3 t := by
  dsimp only [dat2]
theorem after2_4 (c : Dev nD) (t : Fin cfg2.N) : (dat2 V c).after 4 t = iblk2 V c 4 t := by
  dsimp only [dat2]
theorem after2_5 (c : Dev nD) (t : Fin cfg2.N) : (dat2 V c).after 5 t = k2_pay1 (iblk2 V c 3 t) (iblk2 V c 4 t) (iblk2 V c 1 t) (iblk2 V c 2 t) (iblk2 V c 0 t) := by
  dsimp only [dat2]
theorem before2_0 (c : Dev nD) (t : Fin cfg2.N) (d) : (dat2 V c).before 0 t d = iblk2 V c 0 t :=
  ((dat2 V c).before_in_eq_fetched 0 rfl (fun _ => rfl) (fun _ _ _ => rfl) (fun t => by rw [after2_0]; unfold Dat.blockOf iblk2; rw [A2]; try rfl) t d).trans
    (by unfold Dat.fetched Dat.blockOf iblk2; rw [A2]; try rfl)
theorem before2_1 (c : Dev nD) (t : Fin cfg2.N) (d) : (dat2 V c).before 1 t d = iblk2 V c 1 t :=
  ((dat2 V c).before_in_eq_fetched 1 rfl (fun _ => rfl) (fun _ _ _ => rfl) (fun t => by rw [after2_1]; unfold Dat.blockOf iblk2; rw [A2]; try rfl) t d).trans
    (by unfold Dat.fetched Dat.blockOf iblk2; rw [A2]; try rfl)
theorem before2_2 (c : Dev nD) (t : Fin cfg2.N) (d) : (dat2 V c).before 2 t d = iblk2 V c 2 t :=
  ((dat2 V c).before_in_eq_fetched 2 rfl (fun _ => rfl) (fun _ _ _ => rfl) (fun t => by rw [after2_2]; unfold Dat.blockOf iblk2; rw [A2]; try rfl) t d).trans
    (by unfold Dat.fetched Dat.blockOf iblk2; rw [A2]; try rfl)
theorem before2_3 (c : Dev nD) (t : Fin cfg2.N) (d) : (dat2 V c).before 3 t d = iblk2 V c 3 t :=
  ((dat2 V c).before_in_eq_fetched 3 rfl (fun _ => rfl) (fun _ _ _ => rfl) (fun t => by rw [after2_3]; unfold Dat.blockOf iblk2; rw [A2]; try rfl) t d).trans
    (by unfold Dat.fetched Dat.blockOf iblk2; rw [A2]; try rfl)
theorem before2_4 (c : Dev nD) (t : Fin cfg2.N) (d) : (dat2 V c).before 4 t d = iblk2 V c 4 t :=
  ((dat2 V c).before_in_eq_fetched 4 rfl (fun _ => rfl) (fun _ _ _ => rfl) (fun t => by rw [after2_4]; unfold Dat.blockOf iblk2; rw [A2]; try rfl) t d).trans
    (by unfold Dat.fetched Dat.blockOf iblk2; rw [A2]; try rfl)
abbrev ms2_0 (t : Fin cfg2.N) : Memref sig .tc .vmem S512x1024 .f32 := win2_0.stage (cfg2.slots t 0)
abbrev ms2_1 (t : Fin cfg2.N) : Memref sig .tc .vmem S512x5120 .bf16 := win2_1.stage (cfg2.slots t 1)
abbrev ms2_2 (t : Fin cfg2.N) : Memref sig .tc .vmem S512x384 .bf16 := win2_2.stage (cfg2.slots t 2)
abbrev ms2_3 (t : Fin cfg2.N) : Memref sig .tc .vmem S1x5120x1024 .bf16 := win2_3.stage (cfg2.slots t 3)
abbrev ms2_4 (t : Fin cfg2.N) : Memref sig .tc .vmem S1x384x1024 .bf16 := win2_4.stage (cfg2.slots t 4)
abbrev ms2_5 (t : Fin cfg2.N) : Memref sig .tc .vmem S512x1024 .f32 := win2_5.stage (cfg2.slots t 5)

/-- What the body is given at a point. -/
def pre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d)))
/-- What the body leaves at a point. -/
def post2 (c : Dev nD) (t : Fin cfg2.N) : sProp 𝕄 :=
  iprop((dat2 V c).Φ t.succ ∗ (dat2 V c).owesAt () t.succ
    ∗ owns (c : Thread nD τ) (ms2_0 t) fullShare ((dat2 V c).after 0 t)
    ∗ owns (c : Thread nD τ) (ms2_1 t) fullShare ((dat2 V c).after 1 t)
    ∗ owns (c : Thread nD τ) (ms2_2 t) fullShare ((dat2 V c).after 2 t)
    ∗ owns (c : Thread nD τ) (ms2_3 t) fullShare ((dat2 V c).after 3 t)
    ∗ owns (c : Thread nD τ) (ms2_4 t) fullShare ((dat2 V c).after 4 t)
    ∗ owns (c : Thread nD τ) (ms2_5 t) fullShare ((dat2 V c).after 5 t))

set_option maxHeartbeats 4000000 in
/-- The body at any point. -/
theorem sound2 (c : Dev nD) (t : Fin cfg2.N) :
    pre2 V c t ⊢ wp frame (wpE (defs₀ (F := F)) Variants.none c none) Set.univ (bodyAt2 t) (fun _ => post2 V c t) := by
  unfold pre2 post2 bodyAt2
  simp only [before2_0, before2_1, before2_2, before2_3, before2_4]
  rw [show (dat2 V c).owesAt () t.succ = (dat2 V c).owesAt () t.castSucc from rfl,
    after2_0, after2_1, after2_2, after2_3, after2_4, after2_5]
  rw [show (dat2 V c).Φ t.castSucc = (dat2 V c).Φ t.succ from rfl]
  iintro ⟨HΦ, Ho, ⟨%d0, H0⟩, ⟨%d1, H1⟩, ⟨%d2, H2⟩, ⟨%d3, H3⟩, ⟨%d4, H4⟩, ⟨%d5, H5⟩⟩
  iapply (run2 c (grid2.coords t) _ _ _ _ _ _ _ _ _ _ _ _ (iblk2 V c 0 t) (iblk2 V c 1 t) (iblk2 V c 2 t) (iblk2 V c 3 t) (iblk2 V c 4 t) Set.univ _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem defs₀_row2 (t : Fin cfg2.N) :
    defs₀ (F := F) .tc cfg2.body (cfg2.bodyArgs t (cfg2.slots t)) = bodyAt2 t := by
  unfold defs₀; rw [Defs.onTc_tc]

/-- The pipeline's body obligation, at every point. -/
theorem body2 (c : Dev nD) : BodyObligation (dat2 V c) (defs₀ (F := F)) Variants.none () Set.univ := fun t => by
  rw [bigSep_W2, bigSep_W2, defs₀_row2]
  exact triple_restated (sound2 V c t) rfl .rfl fun _ => .rfl

variable (Vp : (c : Dev nD) → Valuation τ sig (Elt F))
variable (pdats : (p : Fin 4) → (c : Dev nD) → Dat τ (Elt F) Unit ℕ (UR sig nD τ) ℕ (cfgs p) c)

set_option maxHeartbeats 2000000 in
set_option backward.isDefEq.respectTransparency.types false in
/-- The region as a segment: entered with every unscoped buffer at `V`, left with them at `Vp`, the outputs' arrays as its points' write-backs make them. -/
def reg2 (hp : ∀ c, pdats 2 c = dat2 V c) (h5 : ∀ c, Vp c main_v5 = (dat2 V c).arrAt 5 cfg2.N)
    (hne : ∀ c (b : Ref sig .tc), b ∉ ([main_v5] : List (Ref sig .tc)) → Vp c b = V c b) :
    Pipeline.RegionSeg (pcfgs (F := F)) adm pdats () defs₀ Variants.none (fun _ => ∅) (fun _ _ => 0) 2 where
  win := launch2.win.to₀
  block_pos := launch2.block_pos
  stage_whole := launch2.stage_whole
  K := PEmpty
  osem k := k.elim
  ho := Pipeline.OwnSemFacts.none _
  hbody c := by
    have h := (body2 V c).loose
    rw [← hp c] at h
    exact h
  hwaits := Pipeline.hwaits_of_owed_zero _ _ _ _ (fun _ => ∅) (fun _ _ => 0) 2 fun c _ => by rw [hp c]; rfl
  pre c := iprop(unscopedBufs c (fun b => V c b) ∗ ∃ W, owes (c : Thread nD τ) (0 : CellTallies nD τ sig Unit) W)
  post c := iprop(unscopedBufs c (fun b => Vp c b) ∗ ∃ W, owes (c : Thread nD τ) (0 : CellTallies nD τ sig Unit) W)
  X _ := BI.emp
  Y _ := BI.emp
  Z c := Pipeline.unscopedRest (Ix := Unit) (Name := ℕ) (U := UR sig nD τ) (Lvl := ℕ) spec2 c (fun b => V c b)
  hentry c := by
    rw [Pipeline.ownSems0_none]
    have hsplit := Pipeline.arrays_of_unscopedBufs (p := 2) (pcfgs (F := F)) adm pdats launch2.win launch2.arr_whole c
      ((pdats 2 c).share_full fun _ => by rw [hp c]; rfl) (fun b => V c b) (fun w => by rw [hp c]; exact A2 V c w)
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · rw [show (pdats 2 c).owesAt () 0 = (dat2 V c).owesAt () 0 from by rw [hp c]]
      unfold Pipeline.Dat.owesAt Pipeline.owesWithin
      icases HO with ⟨%W, HO⟩; iexists W; isplitr; · ipureintro; exact fun _ _ => Or.inl trivial
      iexact HO
    isplitr; · iempintro
    iexact Hrest
  hin c := by
    rw [hp c, show (dat2 V c).Φ 0 = Pipeline.scopedRest (Ix := Unit) (Name := ℕ) (U := UR sig nD τ) (Lvl := ℕ) (Val := Elt F) spec2 c from rfl]
    iintro ⟨-, -, Hr⟩; iexact Hr
  hout c := by
    rw [Pipeline.ownSems0_none, hp c, show (dat2 V c).Φ (Fin.last (Pipeline.pin (pcfgs (F := F)) adm 2).N) = Pipeline.scopedRest (Ix := Unit) (Name := ℕ) (U := UR sig nD τ) (Lvl := ℕ) (Val := Elt F) spec2 c from rfl]
    iintro Hr
    isplitr; · iempintro
    isplitr; · iempintro
    iexact Hr
  hexit c := by
    have hjoin := Pipeline.unscopedBufs_of_arrays (p := 2) (pcfgs (F := F)) adm (Ix := Unit) (Name := ℕ) (U := UR sig nD τ) (Lvl := ℕ) launch2.win launch2.arr_whole c
      pdats ((pdats 2 c).share_full fun _ => by rw [hp c]; rfl) (fun b => V c b) (fun b => Vp c b) ((pdats 2 c).arrAt · cfg2.N)
      (fun w => by
        rw [hp c]
        fin_cases w
        · exact ((dat2 V c).arrAt_in 0 rfl _).trans (hne c main_arg0 (by decide)).symm
        · exact ((dat2 V c).arrAt_in 1 rfl _).trans (hne c main_v2_0 (by decide)).symm
        · exact ((dat2 V c).arrAt_in 2 rfl _).trans (hne c main_v1_0 (by decide)).symm
        · exact ((dat2 V c).arrAt_in 3 rfl _).trans (hne c main_v3 (by decide)).symm
        · exact ((dat2 V c).arrAt_in 4 rfl _).trans (hne c main_v4 (by decide)).symm
        · exact (h5 c).symm
        )
      (fun b hb => hne c b fun h => hb (by
        simp only [List.mem_cons, List.not_mem_nil, _root_.or_false] at h
        have h := h
        · exact h ▸ Finset.mem_image.mpr ⟨5, Finset.mem_univ _, rfl⟩))
    have hO : (pdats 2 c).owesAt () (Fin.last cfg2.N) ⊢ (iprop(∃ W, owes (c : Thread nD τ) (0 : CellTallies nD τ sig Unit) W) : sProp 𝕄) := by
      rw [hp c]
      unfold Pipeline.Dat.owesAt Pipeline.owesWithin
      iintro ⟨%W, -, HO⟩; iexists W; iexact HO
    iintro ⟨Ha, HO, -, Hrest⟩
    imodintro
    isplitl [Ha Hrest]
    · iapply hjoin; isplitl [Ha] <;> iassumption
    iapply hO; iexact HO

end Cert.Kernel3Ideal.Hand

end
-- ==== Proof.P3Run3.lean ====
module

public import proofs.«01_k».proof.Proof.Gen.Kernel3Ideal.Launch
public import proofs.«01_k».proof.Proof.Gen.Kernel3Ideal.Skeleton
public import proofs.«01_k».proof.Proof.Gen.Kernel3Ideal.Points
public import Idealize.ShloMosaic.Lib.Pipeline.FrameBody
public import Idealize.ShloMosaic.Lib.Pipeline.RegionsLoop
public import Idealize.ShloMosaic.Lib.Pipeline.Value
public import Idealize.ShloMosaic.Lib.Ring
public import Idealize.ShloMosaic.Lib.Tactic
public import Idealize.ShloMosaic.Lib.VecWindow
public import Idealize.ShloMosaic.Lib.WordCmp

@[expose] public section

set_option maxRecDepth 16384

noncomputable section

namespace Cert.Kernel3Ideal.Hand

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The condition of the body's branch, as the program states it. -/
abbrev cond3 (i : grid3.Coords) : Prop := (Scalar.cmpi .ne (Scalar.extui (Scalar.cmpi .eq (BitVec.ofNat 32 (i 0).val) 0#32)) 0#32) = 1#1

set_option maxHeartbeats 4000000 in
/-- The body where it casts the two weight blocks first: from any scratch contents, every output ends at its payload and the scratch at the cast blocks. -/
theorem run3A (c : Dev nD) (i : grid3.Coords) (arg2 : Memref sig .tc .vmem S256x2048 .f32) (harg2 : arg2.IsWhole) (arg3 : Memref sig .tc .vmem S1x1x256x256 .f32) (harg3 : arg3.IsWhole) (arg4 : Memref sig .tc .vmem S1x2048x2048 .f32) (harg4 : arg4.IsWhole) (arg5 : Memref sig .tc .vmem S1x256x2048 .f32) (harg5 : arg5.IsWhole) (arg6 : Memref sig .tc .vmem S1x2048 .f32) (harg6 : arg6.IsWhole) (arg7 : Memref sig .tc .vmem S1x2048 .f32) (harg7 : arg7.IsWhole) (arg8 : Memref sig .tc .vmem S1x2048 .f32) (harg8 : arg8.IsWhole) (arg9 : Memref sig .tc .vmem S256x2048 .f32) (harg9 : arg9.IsWhole) (arg10 : Memref sig .tc .vmem S2048x2048 .bf16) (harg10 : arg10.IsWhole) (arg11 : Memref sig .tc .vmem S256x2048 .bf16) (harg11 : arg11.IsWhole) (hc0 : cond3 i)
    (x0 : Vec F S256x2048 .f32) (x1 : Vec F S1x1x256x256 .f32) (x2 : Vec F S1x2048x2048 .f32) (x3 : Vec F S1x256x2048 .f32) (x4 : Vec F S1x2048 .f32) (x5 : Vec F S1x2048 .f32) (x6 : Vec F S1x2048 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ (∃ d, owns (c : Thread nD τ) arg11 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare (k3_pay1 (k3_pay4 x0) (k3_pay5 x0 x4 (k3_pay2 x2)) (k3_pay6 x1 (k3_pay3 x3)) (k3_pay7 x1 (k3_pay3 x3)) x5 x6) ∗ owns (c : Thread nD τ) arg10 fullShare (k3_pay2 x2) ∗ owns (c : Thread nD τ) arg11 fullShare (k3_pay3 x3)) -∗ K ⟨⟩))
      ⊢ wp frame (wpE (defs₀ (F := F)) Variants.none c none) E (cc3_ple_add i arg2 harg2 arg3 harg3 arg4 harg4 arg5 harg5 arg6 harg6 arg7 harg7 arg8 harg8 arg9 harg9 arg10 harg10 arg11 harg11) K := by
  simp only [cc3_ple_add_eq_skeleton]; unfold cc3_ple_add_skel
  simp only [k3_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
  sl_exec (disch := first | sl_exact hc0)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; swap; · iexact H7
    ipureintro
    refine (View.read_writes_full _ _ _ _ _).trans ?_
    show k3_pay1 (k3_pay4 _) (k3_pay5 _ _ _) (k3_pay6 _ _) (k3_pay7 _ _) _ _ = k3_pay1 (k3_pay4 x0) (k3_pay5 x0 x4 (k3_pay2 x2)) (k3_pay6 x1 (k3_pay3 x3)) (k3_pay7 x1 (k3_pay3 x3)) x5 x6
    exact (congr (congr (congr (congr (congr (congrArg k3_pay1 (congrArg k3_pay4 ((View.readAt_full _ _ _).trans (Memref.IsWhole.read_unread _ _)))) (congr (congr (congrArg k3_pay5 ((View.readAt_full _ _ _).trans (Memref.IsWhole.read_unread _ _))) ((View.readAt_full _ _ _).trans (Memref.IsWhole.read_unread _ _))) ((View.readCov_full _ _ _ _ _).trans (congrArg k3_pay2 ((View.readAt_full _ _ _).trans (Memref.IsWhole.read_unread _ _)))))) (congr (congrArg k3_pay6 ((View.readAt_full _ _ _).trans (Memref.IsWhole.read_unread _ _))) ((View.readCov_full _ _ _ _ _).trans (congrArg k3_pay3 ((View.readAt_full _ _ _).trans (Memref.IsWhole.read_unread _ _)))))) (congr (congrArg k3_pay7 ((View.readAt_full _ _ _).trans (Memref.IsWhole.read_unread _ _))) ((View.readCov_full _ _ _ _ _).trans (congrArg k3_pay3 ((View.readAt_full _ _ _).trans (Memref.IsWhole.read_unread _ _)))))) ((View.readAt_full _ _ _).trans (Memref.IsWhole.read_unread _ _))) ((View.readAt_full _ _ _).trans (Memref.IsWhole.read_unread _ _)))
  isplitl [H8]
  · iexists _; isplitr; swap; · iexact H8
    ipureintro
    refine (View.read_writes_full _ _ _ _ _).trans ?_
    show k3_pay2 _ = k3_pay2 x2
    exact (congrArg k3_pay2 ((View.readAt_full _ _ _).trans (Memref.IsWhole.read_unread _ _)))
  · iexists _; isplitr; swap; · iexact H9
    ipureintro
    refine (View.read_writes_full _ _ _ _ _).trans ?_
    show k3_pay3 _ = k3_pay3 x3
    exact (congrArg k3_pay3 ((View.readAt_full _ _ _).trans (Memref.IsWhole.read_unread _ _)))

set_option maxHeartbeats 4000000 in
/-- The body where the scratch already holds the two cast blocks: every output ends at its payload and the scratch stays. -/
theorem run3B (c : Dev nD) (i : grid3.Coords) (arg2 : Memref sig .tc .vmem S256x2048 .f32) (harg2 : arg2.IsWhole) (arg3 : Memref sig .tc .vmem S1x1x256x256 .f32) (harg3 : arg3.IsWhole) (arg4 : Memref sig .tc .vmem S1x2048x2048 .f32) (harg4 : arg4.IsWhole) (arg5 : Memref sig .tc .vmem S1x256x2048 .f32) (harg5 : arg5.IsWhole) (arg6 : Memref sig .tc .vmem S1x2048 .f32) (harg6 : arg6.IsWhole) (arg7 : Memref sig .tc .vmem S1x2048 .f32) (harg7 : arg7.IsWhole) (arg8 : Memref sig .tc .vmem S1x2048 .f32) (harg8 : arg8.IsWhole) (arg9 : Memref sig .tc .vmem S256x2048 .f32) (harg9 : arg9.IsWhole) (arg10 : Memref sig .tc .vmem S2048x2048 .bf16) (harg10 : arg10.IsWhole) (arg11 : Memref sig .tc .vmem S256x2048 .bf16) (harg11 : arg11.IsWhole) (hc0 : ¬cond3 i)
    (x0 : Vec F S256x2048 .f32) (x1 : Vec F S1x1x256x256 .f32) (x2 : Vec F S1x2048x2048 .f32) (x3 : Vec F S1x256x2048 .f32) (x4 : Vec F S1x2048 .f32) (x5 : Vec F S1x2048 .f32) (x6 : Vec F S1x2048 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ owns (c : Thread nD τ) arg10 fullShare (k3_pay2 x2) ∗ owns (c : Thread nD τ) arg11 fullShare (k3_pay3 x3)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare (k3_pay1 (k3_pay4 x0) (k3_pay5 x0 x4 (k3_pay2 x2)) (k3_pay6 x1 (k3_pay3 x3)) (k3_pay7 x1 (k3_pay3 x3)) x5 x6) ∗ owns (c : Thread nD τ) arg10 fullShare (k3_pay2 x2) ∗ owns (c : Thread nD τ) arg11 fullShare (k3_pay3 x3)) -∗ K ⟨⟩))
      ⊢ wp frame (wpE (defs₀ (F := F)) Variants.none c none) E (cc3_ple_add i arg2 harg2 arg3 harg3 arg4 harg4 arg5 harg5 arg6 harg6 arg7 harg7 arg8 harg8 arg9 harg9 arg10 harg10 arg11 harg11) K := by
  simp only [cc3_ple_add_eq_skeleton]; unfold cc3_ple_add_skel
  simp only [k3_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%f9, %hf9, H9⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg10.eq_unread hf8; obtain rfl := harg11.eq_unread hf9
  sl_exec (disch := first | sl_exact hc0)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; swap; · iexact H7
    ipureintro
    refine (View.read_writes_full _ _ _ _ _).trans ?_
    show k3_pay1 (k3_pay4 _) (k3_pay5 _ _ _) (k3_pay6 _ _) (k3_pay7 _ _) _ _ = k3_pay1 (k3_pay4 x0) (k3_pay5 x0 x4 (k3_pay2 x2)) (k3_pay6 x1 (k3_pay3 x3)) (k3_pay7 x1 (k3_pay3 x3)) x5 x6
    exact (congr (congr (congr (congr (congr (congrArg k3_pay1 (congrArg k3_pay4 ((View.readAt_full _ _ _).trans (Memref.IsWhole.read_unread _ _)))) (congr (congr (congrArg k3_pay5 ((View.readAt_full _ _ _).trans (Memref.IsWhole.read_unread _ _))) ((View.readAt_full _ _ _).trans (Memref.IsWhole.read_unread _ _))) ((View.readAt_full _ _ _).trans (Memref.IsWhole.read_unread _ _)))) (congr (congrArg k3_pay6 ((View.readAt_full _ _ _).trans (Memref.IsWhole.read_unread _ _))) ((View.readAt_full _ _ _).trans (Memref.IsWhole.read_unread _ _)))) (congr (congrArg k3_pay7 ((View.readAt_full _ _ _).trans (Memref.IsWhole.read_unread _ _))) ((View.readAt_full _ _ _).trans (Memref.IsWhole.read_unread _ _)))) ((View.readAt_full _ _ _).trans (Memref.IsWhole.read_unread _ _))) ((View.readAt_full _ _ _).trans (Memref.IsWhole.read_unread _ _)))
  isplitl [H8]
  · iexists _; isplitr; · ipureintro; exact harg10.read_unread _
    iexact H8
  · iexists _; isplitr; · ipureintro; exact harg11.read_unread _
    iexact H9

end Cert.Kernel3Ideal.Hand

end
-- ==== Proof.P3Region3.lean ====
module

public import proofs.«01_k».proof.Proof.Gen.Kernel3Ideal.Launch
public import proofs.«01_k».proof.Proof.Gen.Kernel3Ideal.Skeleton
public import proofs.«01_k».proof.Proof.Gen.Kernel3Ideal.Points
public import Idealize.ShloMosaic.Lib.Pipeline.FrameBody
public import Idealize.ShloMosaic.Lib.Pipeline.RegionsLoop
public import Idealize.ShloMosaic.Lib.Pipeline.Value
public import Idealize.ShloMosaic.Lib.Ring
public import Idealize.ShloMosaic.Lib.Tactic
public import Idealize.ShloMosaic.Lib.VecWindow
public import Idealize.ShloMosaic.Lib.WordCmp
public import proofs.«01_k».proof.Proof.Gen.Kernel3Ideal.Regions
public import proofs.«01_k».proof.Proof.P3Run3

@[expose] public section

set_option maxRecDepth 16384

noncomputable section

namespace Cert.Kernel3Ideal.Hand

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → Valuation τ sig (Elt F))

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The scratch buffers before point `n`: anything where a weight block starts, and the block's two cast parts elsewhere. -/
def scr3 (c : Dev nD) (n : ℕ) : sProp 𝕄 :=
  if n % 32 = 0 then iprop((∃ d, owns (c : Thread nD τ) (Memref.whole cc3_scratch0) fullShare d) ∗ (∃ d, owns (c : Thread nD τ) (Memref.whole cc3_scratch1) fullShare d))
  else iprop(∃ t' : Fin cfg3.N, ⌜t'.val / 32 = n / 32⌝ ∗ owns (c : Thread nD τ) (Memref.whole cc3_scratch0) fullShare (k3_pay2 (iblk3 V c 2 t')) ∗ owns (c : Thread nD τ) (Memref.whole cc3_scratch1) fullShare (k3_pay3 (iblk3 V c 3 t')))

/-- What the scratch holds after point `t` is what the next point expects. -/
theorem scr3_close (c : Dev nD) (t : Fin cfg3.N) :
    iprop(owns (c : Thread nD τ) (Memref.whole cc3_scratch0) fullShare (k3_pay2 (iblk3 V c 2 t)) ∗ owns (c : Thread nD τ) (Memref.whole cc3_scratch1) fullShare (k3_pay3 (iblk3 V c 3 t)))
      ⊢ scr3 V c (t.val + 1) := by
  unfold scr3
  by_cases h : (t.val + 1) % 32 = 0
  · rw [if_pos h]
    iintro ⟨H0, H1⟩
    isplitl [H0]
    · iexists _; iexact H0
    iexists _; iexact H1
  · rw [if_neg h]
    iintro ⟨H0, H1⟩
    iexists t
    isplitr
    · ipureintro; omega
    isplitl [H0] <;> iassumption

/-- A weight window moves only with the block's number. -/
theorem index3_2 : ∀ t t' : Fin grid3.N, t.val / 32 = t'.val / 32 → ∀ a, win3_2.index t a = win3_2.index t' a := by
  decide +kernel

theorem iblk3_2_eq (c : Dev nD) (t t' : Fin cfg3.N) (h : t.val / 32 = t'.val / 32) : iblk3 V c 2 t = iblk3 V c 2 t' := by
  funext y
  refine congrArg (V c main_arg6) ?_
  funext a
  refine Fin.ext ?_
  have h1 := index3_2 t t' h
  fin_cases a
  · show win3_2.index t 0 * 1 + 1 * (y 0).val = win3_2.index t' 0 * 1 + 1 * (y 0).val
    rw [h1]
  · show win3_2.index t 1 * 2048 + 1 * (y 1).val = win3_2.index t' 1 * 2048 + 1 * (y 1).val
    rw [h1]
  · show win3_2.index t 2 * 2048 + 1 * (y 2).val = win3_2.index t' 2 * 2048 + 1 * (y 2).val
    rw [h1]

/-- A weight window moves only with the block's number. -/
theorem index3_3 : ∀ t t' : Fin grid3.N, t.val / 32 = t'.val / 32 → ∀ a, win3_3.index t a = win3_3.index t' a := by
  decide +kernel

theorem iblk3_3_eq (c : Dev nD) (t t' : Fin cfg3.N) (h : t.val / 32 = t'.val / 32) : iblk3 V c 3 t = iblk3 V c 3 t' := by
  funext y
  refine congrArg (V c main_arg7) ?_
  funext a
  refine Fin.ext ?_
  have h1 := index3_3 t t' h
  fin_cases a
  · show win3_3.index t 0 * 1 + 1 * (y 0).val = win3_3.index t' 0 * 1 + 1 * (y 0).val
    rw [h1]
  · show win3_3.index t 1 * 256 + 1 * (y 1).val = win3_3.index t' 1 * 256 + 1 * (y 1).val
    rw [h1]
  · show win3_3.index t 2 * 2048 + 1 * (y 2).val = win3_3.index t' 2 * 2048 + 1 * (y 2).val
    rw [h1]

/-- The body's branch is taken exactly where a weight block starts. -/
theorem hcond3 : ∀ t : Fin cfg3.N, cond3 (grid3.coords t) ↔ t.val % 32 = 0 :=
  (fun t => by
    have ht : t.val < 32 := lt_of_lt_of_eq t.isLt N_3
    have e1 : (grid3.coords t 0).val = t.val / 1 % 32 := Pipeline.Grid.coords_val t 0 (by decide) rfl
    simp only [cond3, e1]
    word_cmp
   : ∀ t : Fin grid3.N, cond3 (grid3.coords t) ↔ t.val % 32 = 0)

/-- The region's proof data: each array at its entry contents, each input's buffer at its block, each output's at its payload, the scratch as the points leave it. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => k3_pay1 (k3_pay4 (iblk3 V c 0 t)) (k3_pay5 (iblk3 V c 0 t) (iblk3 V c 4 t) (k3_pay2 (iblk3 V c 2 t))) (k3_pay6 (iblk3 V c 1 t) (k3_pay3 (iblk3 V c 3 t))) (k3_pay7 (iblk3 V c 1 t) (k3_pay3 (iblk3 V c 3 t))) (iblk3 V c 5 t) (iblk3 V c 6 t)
  Φ t := iprop(scr3 V c t.val ∗ Pipeline.scopedRestBut (Ix := Unit) (Name := ℕ) (U := UR sig nD τ) (Lvl := ℕ) (Val := Elt F) spec3 c [cc3_scratch0, cc3_scratch1])
  q w := fullShare
  owed _ := 0

theorem A3 (c : Dev nD) (w : Fin cfg3.W) : (dat3 V c).A w = V c (Pipeline.arrRef spec3 w) := by
  dsimp only [dat3]
theorem after3_0 (c : Dev nD) (t : Fin cfg3.N) : (dat3 V c).after 0 t = iblk3 V c 0 t := by
  dsimp only [dat3]
theorem after3_1 (c : Dev nD) (t : Fin cfg3.N) : (dat3 V c).after 1 t = iblk3 V c 1 t := by
  dsimp only [dat3]
theorem after3_2 (c : Dev nD) (t : Fin cfg3.N) : (dat3 V c).after 2 t = iblk3 V c 2 t := by
  dsimp only [dat3]
theorem after3_3 (c : Dev nD) (t : Fin cfg3.N) : (dat3 V c).after 3 t = iblk3 V c 3 t := by
  dsimp only [dat3]
theorem after3_4 (c : Dev nD) (t : Fin cfg3.N) : (dat3 V c).after 4 t = iblk3 V c 4 t := by
  dsimp only [dat3]
theorem after3_5 (c : Dev nD) (t : Fin cfg3.N) : (dat3 V c).after 5 t = iblk3 V c 5 t := by
  dsimp only [dat3]
theorem after3_6 (c : Dev nD) (t : Fin cfg3.N) : (dat3 V c).after 6 t = iblk3 V c 6 t := by
  dsimp only [dat3]
theorem after3_7 (c : Dev nD) (t : Fin cfg3.N) : (dat3 V c).after 7 t = k3_pay1 (k3_pay4 (iblk3 V c 0 t)) (k3_pay5 (iblk3 V c 0 t) (iblk3 V c 4 t) (k3_pay2 (iblk3 V c 2 t))) (k3_pay6 (iblk3 V c 1 t) (k3_pay3 (iblk3 V c 3 t))) (k3_pay7 (iblk3 V c 1 t) (k3_pay3 (iblk3 V c 3 t))) (iblk3 V c 5 t) (iblk3 V c 6 t) := by
  dsimp only [dat3]
theorem before3_0 (c : Dev nD) (t : Fin cfg3.N) (d) : (dat3 V c).before 0 t d = iblk3 V c 0 t :=
  ((dat3 V c).before_in_eq_fetched 0 rfl (fun _ => rfl) (fun _ _ _ => rfl) (fun t => by rw [after3_0]; unfold Dat.blockOf iblk3; rw [A3]; try rfl) t d).trans
    (by unfold Dat.fetched Dat.blockOf iblk3; rw [A3]; try rfl)
theorem before3_1 (c : Dev nD) (t : Fin cfg3.N) (d) : (dat3 V c).before 1 t d = iblk3 V c 1 t :=
  ((dat3 V c).before_in_eq_fetched 1 rfl (fun _ => rfl) (fun _ _ _ => rfl) (fun t => by rw [after3_1]; unfold Dat.blockOf iblk3; rw [A3]; try rfl) t d).trans
    (by unfold Dat.fetched Dat.blockOf iblk3; rw [A3]; try rfl)
theorem before3_2 (c : Dev nD) (t : Fin cfg3.N) (d) : (dat3 V c).before 2 t d = iblk3 V c 2 t :=
  ((dat3 V c).before_in_eq_fetched 2 rfl (fun _ => rfl) (fun _ _ _ => rfl) (fun t => by rw [after3_2]; unfold Dat.blockOf iblk3; rw [A3]; try rfl) t d).trans
    (by unfold Dat.fetched Dat.blockOf iblk3; rw [A3]; try rfl)
theorem before3_3 (c : Dev nD) (t : Fin cfg3.N) (d) : (dat3 V c).before 3 t d = iblk3 V c 3 t :=
  ((dat3 V c).before_in_eq_fetched 3 rfl (fun _ => rfl) (fun _ _ _ => rfl) (fun t => by rw [after3_3]; unfold Dat.blockOf iblk3; rw [A3]; try rfl) t d).trans
    (by unfold Dat.fetched Dat.blockOf iblk3; rw [A3]; try rfl)
theorem before3_4 (c : Dev nD) (t : Fin cfg3.N) (d) : (dat3 V c).before 4 t d = iblk3 V c 4 t :=
  ((dat3 V c).before_in_eq_fetched 4 rfl (fun _ => rfl) (fun _ _ _ => rfl) (fun t => by rw [after3_4]; unfold Dat.blockOf iblk3; rw [A3]; try rfl) t d).trans
    (by unfold Dat.fetched Dat.blockOf iblk3; rw [A3]; try rfl)
theorem before3_5 (c : Dev nD) (t : Fin cfg3.N) (d) : (dat3 V c).before 5 t d = iblk3 V c 5 t :=
  ((dat3 V c).before_in_eq_fetched 5 rfl (fun _ => rfl) (fun _ _ _ => rfl) (fun t => by rw [after3_5]; unfold Dat.blockOf iblk3; rw [A3]; try rfl) t d).trans
    (by unfold Dat.fetched Dat.blockOf iblk3; rw [A3]; try rfl)
theorem before3_6 (c : Dev nD) (t : Fin cfg3.N) (d) : (dat3 V c).before 6 t d = iblk3 V c 6 t :=
  ((dat3 V c).before_in_eq_fetched 6 rfl (fun _ => rfl) (fun _ _ _ => rfl) (fun t => by rw [after3_6]; unfold Dat.blockOf iblk3; rw [A3]; try rfl) t d).trans
    (by unfold Dat.fetched Dat.blockOf iblk3; rw [A3]; try rfl)
abbrev ms3_0 (t : Fin cfg3.N) : Memref sig .tc .vmem S256x2048 .f32 := win3_0.stage (cfg3.slots t 0)
abbrev ms3_1 (t : Fin cfg3.N) : Memref sig .tc .vmem S1x1x256x256 .f32 := win3_1.stage (cfg3.slots t 1)
abbrev ms3_2 (t : Fin cfg3.N) : Memref sig .tc .vmem S1x2048x2048 .f32 := win3_2.stage (cfg3.slots t 2)
abbrev ms3_3 (t : Fin cfg3.N) : Memref sig .tc .vmem S1x256x2048 .f32 := win3_3.stage (cfg3.slots t 3)
abbrev ms3_4 (t : Fin cfg3.N) : Memref sig .tc .vmem S1x2048 .f32 := win3_4.stage (cfg3.slots t 4)
abbrev ms3_5 (t : Fin cfg3.N) : Memref sig .tc .vmem S1x2048 .f32 := win3_5.stage (cfg3.slots t 5)
abbrev ms3_6 (t : Fin cfg3.N) : Memref sig .tc .vmem S1x2048 .f32 := win3_6.stage (cfg3.slots t 6)
abbrev ms3_7 (t : Fin cfg3.N) : Memref sig .tc .vmem S256x2048 .f32 := win3_7.stage (cfg3.slots t 7)

/-- What the body is given at a point. -/
def pre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d))
    ∗ (∃ d, owns (c : Thread nD τ) (ms3_4 t) fullShare ((dat3 V c).before 4 t d))
    ∗ (∃ d, owns (c : Thread nD τ) (ms3_5 t) fullShare ((dat3 V c).before 5 t d))
    ∗ (∃ d, owns (c : Thread nD τ) (ms3_6 t) fullShare ((dat3 V c).before 6 t d))
    ∗ (∃ d, owns (c : Thread nD τ) (ms3_7 t) fullShare ((dat3 V c).before 7 t d)))
/-- What the body leaves at a point. -/
def post3 (c : Dev nD) (t : Fin cfg3.N) : sProp 𝕄 :=
  iprop((dat3 V c).Φ t.succ ∗ (dat3 V c).owesAt () t.succ
    ∗ owns (c : Thread nD τ) (ms3_0 t) fullShare ((dat3 V c).after 0 t)
    ∗ owns (c : Thread nD τ) (ms3_1 t) fullShare ((dat3 V c).after 1 t)
    ∗ owns (c : Thread nD τ) (ms3_2 t) fullShare ((dat3 V c).after 2 t)
    ∗ owns (c : Thread nD τ) (ms3_3 t) fullShare ((dat3 V c).after 3 t)
    ∗ owns (c : Thread nD τ) (ms3_4 t) fullShare ((dat3 V c).after 4 t)
    ∗ owns (c : Thread nD τ) (ms3_5 t) fullShare ((dat3 V c).after 5 t)
    ∗ owns (c : Thread nD τ) (ms3_6 t) fullShare ((dat3 V c).after 6 t)
    ∗ owns (c : Thread nD τ) (ms3_7 t) fullShare ((dat3 V c).after 7 t))

set_option maxHeartbeats 4000000 in
/-- The body at any point. -/
theorem sound3 (c : Dev nD) (t : Fin cfg3.N) :
    pre3 V c t ⊢ wp frame (wpE (defs₀ (F := F)) Variants.none c none) Set.univ (bodyAt3 t) (fun _ => post3 V c t) := by
  unfold pre3 post3 bodyAt3
  simp only [before3_0, before3_1, before3_2, before3_3, before3_4, before3_5, before3_6]
  rw [show (dat3 V c).owesAt () t.succ = (dat3 V c).owesAt () t.castSucc from rfl,
    after3_0, after3_1, after3_2, after3_3, after3_4, after3_5, after3_6, after3_7]
  rw [show (dat3 V c).Φ t.castSucc = iprop(scr3 V c t.val ∗ Pipeline.scopedRestBut (Ix := Unit) (Name := ℕ) (U := UR sig nD τ) (Lvl := ℕ) (Val := Elt F) spec3 c [cc3_scratch0, cc3_scratch1]) from rfl,
    show (dat3 V c).Φ t.succ = iprop(scr3 V c (t.val + 1) ∗ Pipeline.scopedRestBut (Ix := Unit) (Name := ℕ) (U := UR sig nD τ) (Lvl := ℕ) (Val := Elt F) spec3 c [cc3_scratch0, cc3_scratch1]) from rfl]
  by_cases h0 : t.val % 32 = 0
  · rw [show scr3 V c t.val = _ from if_pos h0]
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (run3A c (grid3.coords t) _ _ _ _ _ _ _ _ _ _ _ _ _ _ _ _ _ _ _ _ ((hcond3 t).mpr h0) (iblk3 V c 0 t) (iblk3 V c 1 t) (iblk3 V c 2 t) (iblk3 V c 3 t) (iblk3 V c 4 t) (iblk3 V c 5 t) (iblk3 V c 6 t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [HS0]; · iexact HS0
    isplitl [HS1]; · iexact HS1
    iintro ⟨H0, H1, H2, H3, H4, H5, H6, H7, HS0, HS1⟩
    isplitl [HS0 HS1 Hg]
    · isplitl [HS0 HS1]
      · iapply (scr3_close V c t)
        isplitl [HS0] <;> iassumption
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · rw [show scr3 V c t.val = _ from if_neg h0]
    iintro ⟨⟨⟨%t', %ht', HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    rw [iblk3_2_eq V c t' t (by omega), iblk3_3_eq V c t' t (by omega)]
    iapply (run3B c (grid3.coords t) _ _ _ _ _ _ _ _ _ _ _ _ _ _ _ _ _ _ _ _ (fun h => h0 ((hcond3 t).mp h)) (iblk3 V c 0 t) (iblk3 V c 1 t) (iblk3 V c 2 t) (iblk3 V c 3 t) (iblk3 V c 4 t) (iblk3 V c 5 t) (iblk3 V c 6 t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [HS0]; · iexact HS0
    isplitl [HS1]; · iexact HS1
    iintro ⟨H0, H1, H2, H3, H4, H5, H6, H7, HS0, HS1⟩
    isplitl [HS0 HS1 Hg]
    · isplitl [HS0 HS1]
      · iapply (scr3_close V c t)
        isplitl [HS0] <;> iassumption
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

theorem defs₀_row3 (t : Fin cfg3.N) :
    defs₀ (F := F) .tc cfg3.body (cfg3.bodyArgs t (cfg3.slots t)) = bodyAt3 t := by
  unfold defs₀; rw [Defs.onTc_tc]

/-- The pipeline's body obligation, at every point. -/
theorem body3 (c : Dev nD) : BodyObligation (dat3 V c) (defs₀ (F := F)) Variants.none () Set.univ := fun t => by
  rw [bigSep_W3, bigSep_W3, defs₀_row3]
  exact triple_restated (sound3 V c t) rfl .rfl fun _ => .rfl

variable (Vp : (c : Dev nD) → Valuation τ sig (Elt F))
variable (pdats : (p : Fin 4) → (c : Dev nD) → Dat τ (Elt F) Unit ℕ (UR sig nD τ) ℕ (cfgs p) c)

set_option maxHeartbeats 2000000 in
set_option backward.isDefEq.respectTransparency.types false in
/-- The region as a segment: entered with every unscoped buffer at `V`, left with them at `Vp`, the outputs' arrays as its points' write-backs make them. -/
def reg3 (hp : ∀ c, pdats 3 c = dat3 V c) (h7 : ∀ c, Vp c main_v9 = (dat3 V c).arrAt 7 cfg3.N)
    (hne : ∀ c (b : Ref sig .tc), b ∉ ([main_v9] : List (Ref sig .tc)) → Vp c b = V c b) :
    Pipeline.RegionSeg (pcfgs (F := F)) adm pdats () defs₀ Variants.none (fun _ => ∅) (fun _ _ => 0) 3 where
  win := launch3.win.to₀
  block_pos := launch3.block_pos
  stage_whole := launch3.stage_whole
  K := PEmpty
  osem k := k.elim
  ho := Pipeline.OwnSemFacts.none _
  hbody c := by
    have h := (body3 V c).loose
    rw [← hp c] at h
    exact h
  hwaits := Pipeline.hwaits_of_owed_zero _ _ _ _ (fun _ => ∅) (fun _ _ => 0) 3 fun c _ => by rw [hp c]; rfl
  pre c := iprop(unscopedBufs c (fun b => V c b) ∗ ∃ W, owes (c : Thread nD τ) (0 : CellTallies nD τ sig Unit) W)
  post c := iprop(unscopedBufs c (fun b => Vp c b) ∗ ∃ W, owes (c : Thread nD τ) (0 : CellTallies nD τ sig Unit) W)
  X _ := BI.emp
  Y _ := BI.emp
  Z c := Pipeline.unscopedRest (Ix := Unit) (Name := ℕ) (U := UR sig nD τ) (Lvl := ℕ) spec3 c (fun b => V c b)
  hentry c := by
    rw [Pipeline.ownSems0_none]
    have hsplit := Pipeline.arrays_of_unscopedBufs (p := 3) (pcfgs (F := F)) adm pdats launch3.win launch3.arr_whole c
      ((pdats 3 c).share_full fun _ => by rw [hp c]; rfl) (fun b => V c b) (fun w => by rw [hp c]; exact A3 V c w)
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · rw [show (pdats 3 c).owesAt () 0 = (dat3 V c).owesAt () 0 from by rw [hp c]]
      unfold Pipeline.Dat.owesAt Pipeline.owesWithin
      icases HO with ⟨%W, HO⟩; iexists W; isplitr; · ipureintro; exact fun _ _ => Or.inl trivial
      iexact HO
    isplitr; · iempintro
    iexact Hrest
  hin c := by
    rw [hp c, show (dat3 V c).Φ 0 = iprop(scr3 V c 0 ∗ Pipeline.scopedRestBut (Ix := Unit) (Name := ℕ) (U := UR sig nD τ) (Lvl := ℕ) (Val := Elt F) spec3 c [cc3_scratch0, cc3_scratch1]) from rfl, show scr3 V c 0 = _ from if_pos rfl]
    have hs := scopedRest3_split (Ix := Unit) (Name := ℕ) (U := UR sig nD τ) (Lvl := ℕ) (Val := Elt F) c
    simp only [owns_whole]
    iintro ⟨-, -, Hr⟩
    ihave H := (Entails.of_eq hs) $$ Hr
    iexact H
  hout c := by
    rw [Pipeline.ownSems0_none, hp c, show (dat3 V c).Φ (Fin.last (Pipeline.pin (pcfgs (F := F)) adm 3).N) = iprop(scr3 V c grid3.N ∗ Pipeline.scopedRestBut (Ix := Unit) (Name := ℕ) (U := UR sig nD τ) (Lvl := ℕ) (Val := Elt F) spec3 c [cc3_scratch0, cc3_scratch1]) from rfl,
      show scr3 V c grid3.N = _ from if_pos (by rw [N_3])]
    have hs := scopedRest3_split (Ix := Unit) (Name := ℕ) (U := UR sig nD τ) (Lvl := ℕ) (Val := Elt F) c
    simp only [owns_whole]
    iintro Hr
    isplitr; · iempintro
    isplitr; · iempintro
    iapply (Entails.of_eq hs.symm)
    iexact Hr
  hexit c := by
    have hjoin := Pipeline.unscopedBufs_of_arrays (p := 3) (pcfgs (F := F)) adm (Ix := Unit) (Name := ℕ) (U := UR sig nD τ) (Lvl := ℕ) launch3.win launch3.arr_whole c
      pdats ((pdats 3 c).share_full fun _ => by rw [hp c]; rfl) (fun b => V c b) (fun b => Vp c b) ((pdats 3 c).arrAt · cfg3.N)
      (fun w => by
        rw [hp c]
        fin_cases w
        · exact ((dat3 V c).arrAt_in 0 rfl _).trans (hne c main_v5 (by decide)).symm
        · exact ((dat3 V c).arrAt_in 1 rfl _).trans (hne c main_arg4 (by decide)).symm
        · exact ((dat3 V c).arrAt_in 2 rfl _).trans (hne c main_arg6 (by decide)).symm
        · exact ((dat3 V c).arrAt_in 3 rfl _).trans (hne c main_arg7 (by decide)).symm
        · exact ((dat3 V c).arrAt_in 4 rfl _).trans (hne c main_v6 (by decide)).symm
        · exact ((dat3 V c).arrAt_in 5 rfl _).trans (hne c main_v7 (by decide)).symm
        · exact ((dat3 V c).arrAt_in 6 rfl _).trans (hne c main_v8 (by decide)).symm
        · exact (h7 c).symm
        )
      (fun b hb => hne c b fun h => hb (by
        simp only [List.mem_cons, List.not_mem_nil, _root_.or_false] at h
        have h := h
        · exact h ▸ Finset.mem_image.mpr ⟨7, Finset.mem_univ _, rfl⟩))
    have hO : (pdats 3 c).owesAt () (Fin.last cfg3.N) ⊢ (iprop(∃ W, owes (c : Thread nD τ) (0 : CellTallies nD τ sig Unit) W) : sProp 𝕄) := by
      rw [hp c]
      unfold Pipeline.Dat.owesAt Pipeline.owesWithin
      iintro ⟨%W, -, HO⟩; iexists W; iexact HO
    iintro ⟨Ha, HO, -, Hrest⟩
    imodintro
    isplitl [Ha Hrest]
    · iapply hjoin; isplitl [Ha] <;> iassumption
    iapply hO; iexact HO

end Cert.Kernel3Ideal.Hand

end
-- ==== Proof.P3Main.lean ====
module

public import proofs.«01_k».proof.Proof.Gen.Kernel3Ideal.Launch
public import proofs.«01_k».proof.Proof.Gen.Kernel3Ideal.Skeleton
public import proofs.«01_k».proof.Proof.Gen.Kernel3Ideal.Points
public import Idealize.ShloMosaic.Lib.Pipeline.FrameBody
public import Idealize.ShloMosaic.Lib.Pipeline.RegionsLoop
public import Idealize.ShloMosaic.Lib.Pipeline.Value
public import Idealize.ShloMosaic.Lib.Ring
public import Idealize.ShloMosaic.Lib.Tactic
public import Idealize.ShloMosaic.Lib.VecWindow
public import Idealize.ShloMosaic.Lib.WordCmp
public import proofs.«01_k».proof.Proof.Gen.Kernel3Ideal.Regions
public import proofs.«01_k».proof.Proof.P3Region0
public import proofs.«01_k».proof.Proof.P3Region1
public import proofs.«01_k».proof.Proof.P3Region2
public import proofs.«01_k».proof.Proof.P3Region3
public import Idealize.ShloMosaic.Lib.Pipeline.Kit

@[expose] public section

set_option maxRecDepth 16384

noncomputable section

namespace Cert.Kernel3Ideal.Hand

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Contents nothing reads. -/
def junk (r : Ref sig .tc) (c : Dev nD) : Buf (Elt F) ((c : Thread nD τ).loc r) := fun _ => Classical.arbitrary _

/-- What region 0 leaves in its outputs' arrays. -/
def outsA : Outs (F := F) := fun _ r c =>
    if h : r = main_v1_0 then h ▸ (dat0 (V1 m) c).arrAt 5 cfg0.N
    else if h : r = main_v1_1 then h ▸ (dat0 (V1 m) c).arrAt 6 cfg0.N
    else if h : r = main_v1_2 then h ▸ (dat0 (V1 m) c).arrAt 7 cfg0.N
    else junk r c
/-- What the regions up to region 1 leave in their outputs' arrays. -/
def outsB : Outs (F := F) := fun J r c =>
  if J = 3 then
    if h : r = main_v2_0 then h ▸ (dat1 (V2 m (outsA m)) c).arrAt 4 cfg1.N
    else if h : r = main_v2_1 then h ▸ (dat1 (V2 m (outsA m)) c).arrAt 5 cfg1.N
    else junk r c
  else outsA m J r c
/-- What the regions up to region 2 leave in their outputs' arrays. -/
def outsC : Outs (F := F) := fun J r c =>
  if J = 5 then
    if h : r = main_v5 then h ▸ (dat2 (V4 m (outsB m)) c).arrAt 5 cfg2.N
    else junk r c
  else outsB m J r c
/-- What the regions up to region 3 leave in their outputs' arrays. -/
def outs : Outs (F := F) := fun J r c =>
  if J = 7 then
    if h : r = main_v9 then h ▸ (dat3 (V6 m (outsC m)) c).arrAt 7 cfg3.N
    else junk r c
  else outsC m J r c

theorem outsB_2 (r : Ref sig .tc) (c : Dev nD) : outsB m 2 r c = outsA m 2 r c := by
  rw [show outsB m 2 r c = outsA m 2 r c from if_neg (by decide)]
theorem outsC_2 (r : Ref sig .tc) (c : Dev nD) : outsC m 2 r c = outsA m 2 r c := by
  rw [show outsC m 2 r c = outsB m 2 r c from if_neg (by decide), outsB_2]
theorem outs_2 (r : Ref sig .tc) (c : Dev nD) : outs m 2 r c = outsA m 2 r c := by
  rw [show outs m 2 r c = outsC m 2 r c from if_neg (by decide), outsC_2]
theorem outsC_3 (r : Ref sig .tc) (c : Dev nD) : outsC m 3 r c = outsB m 3 r c := by
  rw [show outsC m 3 r c = outsB m 3 r c from if_neg (by decide)]
theorem outs_3 (r : Ref sig .tc) (c : Dev nD) : outs m 3 r c = outsB m 3 r c := by
  rw [show outs m 3 r c = outsC m 3 r c from if_neg (by decide), outsC_3]
theorem outs_5 (r : Ref sig .tc) (c : Dev nD) : outs m 5 r c = outsC m 5 r c := by
  rw [show outs m 5 r c = outsC m 5 r c from if_neg (by decide)]
theorem V2_cong (o o' : Outs (F := F)) (h0 : ∀ r c, o 2 r c = o' 2 r c) : V2 m o = V2 m o' := funext fun c => by
  simp only [V2, h0]
theorem V2_outs : V2 m (outs m) = V2 m (outsA m) := V2_cong m _ _ (outs_2 m)
theorem V4_cong (o o' : Outs (F := F)) (h0 : ∀ r c, o 2 r c = o' 2 r c) (h1 : ∀ r c, o 3 r c = o' 3 r c) : V4 m o = V4 m o' := funext fun c => by
  simp only [V4, V3, V2, h0, h1]
theorem V4_outs : V4 m (outs m) = V4 m (outsB m) := V4_cong m _ _ (fun r c => (outs_2 m r c).trans (outsB_2 m r c).symm) (outs_3 m)
theorem V6_cong (o o' : Outs (F := F)) (h0 : ∀ r c, o 2 r c = o' 2 r c) (h1 : ∀ r c, o 3 r c = o' 3 r c) (h2 : ∀ r c, o 5 r c = o' 5 r c) : V6 m o = V6 m o' := funext fun c => by
  simp only [V6, V5, V4, V3, V2, h0, h1, h2]
theorem V6_outs : V6 m (outs m) = V6 m (outsC m) := V6_cong m _ _ (fun r c => (outs_2 m r c).trans (outsC_2 m r c).symm) (fun r c => (outs_3 m r c).trans (outsC_3 m r c).symm) (outs_5 m)
theorem outs_v1_0 (c : Dev nD) : outs m 2 main_v1_0 c = (dat0 (V1 m) c).arrAt 5 cfg0.N := by
  rw [outs_2]; unfold outsA; rw [dif_pos rfl]
theorem outs_v1_1 (c : Dev nD) : outs m 2 main_v1_1 c = (dat0 (V1 m) c).arrAt 6 cfg0.N := by
  rw [outs_2]; unfold outsA; rw [dif_neg (by decide), dif_pos rfl]
theorem outs_v1_2 (c : Dev nD) : outs m 2 main_v1_2 c = (dat0 (V1 m) c).arrAt 7 cfg0.N := by
  rw [outs_2]; unfold outsA; rw [dif_neg (by decide), dif_neg (by decide), dif_pos rfl]
theorem outs_v2_0 (c : Dev nD) : outs m 3 main_v2_0 c = (dat1 (V2 m (outs m)) c).arrAt 4 cfg1.N := by
  rw [V2_outs, outs_3]; unfold outsB; rw [if_pos rfl, dif_pos rfl]
theorem outs_v2_1 (c : Dev nD) : outs m 3 main_v2_1 c = (dat1 (V2 m (outs m)) c).arrAt 5 cfg1.N := by
  rw [V2_outs, outs_3]; unfold outsB; rw [if_pos rfl, dif_neg (by decide), dif_pos rfl]
theorem outs_v5 (c : Dev nD) : outs m 5 main_v5 c = (dat2 (V4 m (outs m)) c).arrAt 5 cfg2.N := by
  rw [V4_outs, outs_5]; unfold outsC; rw [if_pos rfl, dif_pos rfl]
theorem outs_v9 (c : Dev nD) : outs m 7 main_v9 c = (dat3 (V6 m (outs m)) c).arrAt 7 cfg3.N := by
  rw [V6_outs]; unfold outs; rw [if_pos rfl, dif_pos rfl]
theorem V2_v1_0 (c : Dev nD) : V2 m (outs m) c main_v1_0 = (dat0 (V1 m) c).arrAt 5 cfg0.N := by
  rw [← outs_v1_0]
  simp only [V2]
  rw [Function.update_of_ne (StableHlo.devRef_ne_of_ne (by decide)), Function.update_of_ne (StableHlo.devRef_ne_of_ne (by decide)), Function.update_self]
theorem V2_v1_1 (c : Dev nD) : V2 m (outs m) c main_v1_1 = (dat0 (V1 m) c).arrAt 6 cfg0.N := by
  rw [← outs_v1_1]
  simp only [V2]
  rw [Function.update_of_ne (StableHlo.devRef_ne_of_ne (by decide)), Function.update_self]
theorem V2_v1_2 (c : Dev nD) : V2 m (outs m) c main_v1_2 = (dat0 (V1 m) c).arrAt 7 cfg0.N := by
  rw [← outs_v1_2]
  simp only [V2]
  rw [Function.update_self]
theorem V3_v2_0 (c : Dev nD) : V3 m (outs m) c main_v2_0 = (dat1 (V2 m (outs m)) c).arrAt 4 cfg1.N := by
  rw [← outs_v2_0]
  simp only [V3]
  rw [Function.update_of_ne (StableHlo.devRef_ne_of_ne (by decide)), Function.update_self]
theorem V3_v2_1 (c : Dev nD) : V3 m (outs m) c main_v2_1 = (dat1 (V2 m (outs m)) c).arrAt 5 cfg1.N := by
  rw [← outs_v2_1]
  simp only [V3]
  rw [Function.update_self]
theorem V5_v5 (c : Dev nD) : V5 m (outs m) c main_v5 = (dat2 (V4 m (outs m)) c).arrAt 5 cfg2.N := by
  rw [← outs_v5]
  simp only [V5]
  rw [Function.update_self]
theorem V7_v9 (c : Dev nD) : V7 m (outs m) c main_v9 = (dat3 (V6 m (outs m)) c).arrAt 7 cfg3.N := by
  rw [← outs_v9]
  simp only [V7]
  rw [Function.update_self]

/-- Each region's proof data, from the contents it is entered at. -/
def pdats : (p : Fin 4) → (c : Dev nD) → Dat τ (Elt F) Unit ℕ (UR sig nD τ) ℕ (cfgs p) c
  | ⟨0, _⟩ => fun c => dat0 (V1 m) c
  | ⟨1, _⟩ => fun c => dat1 (V2 m (outs m)) c
  | ⟨2, _⟩ => fun c => dat2 (V4 m (outs m)) c
  | ⟨3, _⟩ => fun c => dat3 (V6 m (outs m)) c

def seg0' := reg0 (V1 m) (V2 m (outs m)) (pdats m) (fun _ => rfl) (V2_v1_0 m) (V2_v1_1 m) (V2_v1_2 m) (fun c b h => V2_of m (outs m) c b h)
def seg1' := reg1 (V2 m (outs m)) (V3 m (outs m)) (pdats m) (fun _ => rfl) (V3_v2_0 m) (V3_v2_1 m) (fun c b h => V3_of m (outs m) c b h)
def seg2' := reg2 (V4 m (outs m)) (V5 m (outs m)) (pdats m) (fun _ => rfl) (V5_v5 m) (fun c b h => V5_of m (outs m) c b h)
def seg3' := reg3 (V6 m (outs m)) (V7 m (outs m)) (pdats m) (fun _ => rfl) (V7_v9 m) (fun c b h => V7_of m (outs m) c b h)

/-- What rides beside the buffers: the core owes nothing. -/
abbrev rest (_ : Fin 5) (c : Dev nD) : sProp 𝕄 := iprop(∃ W, owes (c : Thread nD τ) (0 : CellTallies nD τ sig Unit) W)

theorem held_eq (c : Dev nD) (W : Valuation τ sig (Elt F)) :
    (unscopedBufs c (fun b => W b) : sProp 𝕄) = StableHlo.held (c : Thread nD τ) (Pipeline.ucRefs τ sig) W :=
  Pipeline.unscopedBufs_held c W

theorem glue (c : Dev nD) (W : Valuation τ sig (Elt F)) :
    iprop(StableHlo.held (c : Thread nD τ) (Pipeline.ucRefs τ sig) W ∗ rest 0 c)
      ⊢ (iprop(unscopedBufs c (fun b => W b) ∗ ∃ W, owes (c : Thread nD τ) (0 : CellTallies nD τ sig Unit) W) : sProp 𝕄) := by
  rw [held_eq]
theorem glue' (c : Dev nD) (W : Valuation τ sig (Elt F)) :
    (iprop(unscopedBufs c (fun b => W b) ∗ ∃ W, owes (c : Thread nD τ) (0 : CellTallies nD τ sig Unit) W) : sProp 𝕄)
      ⊢ iprop(StableHlo.held (c : Thread nD τ) (Pipeline.ucRefs τ sig) W ∗ rest 0 c) := by
  rw [held_eq]

set_option maxHeartbeats 4000000 in
set_option backward.isDefEq.respectTransparency.types false in
/-- Every weakly fair execution of @main from memory `m` with zero counters terminates; at the end each argument is as launched, the result is what the program's last operation leaves, and every counter is zero. -/
theorem run_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_v10) = V8 m (outs m) c main_v10)
      ∧ r.2.sem = fun _ => 0) := by
  refine Pipeline.θ_run_regions_kit_dev_sems (pcfgs (F := F)) adm (pdats m) () cellOf_inj emb₁ defs₀ Variants.none (fun _ => ∅) (fun _ _ => 0) m ρ main
    (segs m (outs m) Variants.none (fun _ => ∅) (fun _ _ => 0) rest () (pdats m) (seg0' m) (seg1' m) (seg2' m) (seg3' m))
    (fun c Q => by
      rewrite [main_chain c, Pipeline.Seg.run_eq_chain,
        show (segs m (outs m) Variants.none (fun _ => ∅) (fun _ _ => 0) rest () (pdats m) (seg0' m) (seg1' m) (seg2' m) (seg3' m) c).map Pipeline.Seg.prog = [
          StableHlo.seq hostOps0,
          Prog.lift (.customCall (Pipeline.entry 0) ()),
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4 ] from rfl]
      dsimp (config := { failIfUnchanged := false }) only
      exact .rfl)
    (fun c => by simp only [segs, Pipeline.Seg.pipes_host, Pipeline.Seg.pipes_region, Pipeline.Seg.pipes_nil]; decide) (O₀ := 0) (hL := fun _ _ => rfl) (G := fun _ => iprop(emp))
    (u₀ := initOf (Pipeline.cells cfgs cellOf_inj) (Pipeline.launchToks cfgs cellOf_inj))
    (hu₀ := by
      iintro Hu
      imodintro
      isplitl [Hu]
      · iapply (show (ownU _ : sProp 𝕄) ⊢ BI.own (emb₁ (initOf (Pipeline.cells (Pipeline.pin (pcfgs (F := F)) adm) cellOf_inj) (Pipeline.launchToks (Pipeline.pin (pcfgs (F := F)) adm) cellOf_inj))) from .rfl); iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ rest 0 c))
    (Tₙ := fun c => StableHlo.held (c : Thread nD τ) (Pipeline.ucRefs τ sig) (V8 m (outs m) c))
    (hch := fun c => ⟨.rfl, glue c (V1 m c), .rfl, glue' c (V3 m (outs m) c), glue c (V4 m (outs m) c), glue' c (V5 m (outs m) c), glue c (V6 m (outs m) c), glue' c (V7 m (outs m) c), .rfl⟩)
    (hinit := by
      refine Pipeline.initEach (fun _ => ∅) (fun _ _ => 0) fun c => ?_
      rw [show unscopedBufs c (fun b => m ((c : Thread nD τ).loc b)) = StableHlo.held (c : Thread nD τ) (Pipeline.ucRefs τ sig) (V0 m c) from held_eq c (V0 m c)]
      iintro ⟨⟨Hh, -, HO, -, -, -⟩, -⟩
      imodintro
      isplitl [Hh]; · iexact Hh
      iexists ∅; iexact HO)
    (QY := fun c s => s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3)
      ∧ s.mem ((c.tc : Thread nD τ).loc main_arg4) = m ((c.tc : Thread nD τ).loc main_arg4)
      ∧ s.mem ((c.tc : Thread nD τ).loc main_arg5) = m ((c.tc : Thread nD τ).loc main_arg5)
      ∧ s.mem ((c.tc : Thread nD τ).loc main_arg6) = m ((c.tc : Thread nD τ).loc main_arg6)
      ∧ s.mem ((c.tc : Thread nD τ).loc main_arg7) = m ((c.tc : Thread nD τ).loc main_arg7)
      ∧ s.mem ((c.tc : Thread nD τ).loc main_arg8) = m ((c.tc : Thread nD τ).loc main_arg8)
      ∧ s.mem ((c.tc : Thread nD τ).loc main_arg9) = m ((c.tc : Thread nD τ).loc main_arg9)
      ∧ s.mem ((c.tc : Thread nD τ).loc main_v10) = V8 m (outs m) c main_v10)
    (hfin := fun c s' => ?_) (hQ := fun _ h hz => ⟨h, funext fun g => hz g (.inr (regions_no_unscoped g.2))⟩)
  unfold StableHlo.held
  iintro ⟨Hh, HSI⟩
  ihave Hr := (pointsTo_read_all (Pipeline.ucRefs τ sig) (fun b => ((c : Thread nD τ).1, b)) (V8 m (outs m) c) s') $$ [Hh HSI]
  · isplitl [Hh] <;> iassumption
  icases Hr with ⟨%h, HSI⟩
  imodintro
  isplitr
  · ipureintro
    exact ⟨(h (Proc.devRef .tc main_arg0) (Finset.mem_filter.mpr ⟨StableHlo.devRef_mem_tcRefs main_arg0, by decide⟩)).trans (V8_main_arg0 m (outs m) c),
      (h (Proc.devRef .tc main_arg1) (Finset.mem_filter.mpr ⟨StableHlo.devRef_mem_tcRefs main_arg1, by decide⟩)).trans (V8_main_arg1 m (outs m) c),
      (h (Proc.devRef .tc main_arg2) (Finset.mem_filter.mpr ⟨StableHlo.devRef_mem_tcRefs main_arg2, by decide⟩)).trans (V8_main_arg2 m (outs m) c),
      (h (Proc.devRef .tc main_arg3) (Finset.mem_filter.mpr ⟨StableHlo.devRef_mem_tcRefs main_arg3, by decide⟩)).trans (V8_main_arg3 m (outs m) c),
      (h (Proc.devRef .tc main_arg4) (Finset.mem_filter.mpr ⟨StableHlo.devRef_mem_tcRefs main_arg4, by decide⟩)).trans (V8_main_arg4 m (outs m) c),
      (h (Proc.devRef .tc main_arg5) (Finset.mem_filter.mpr ⟨StableHlo.devRef_mem_tcRefs main_arg5, by decide⟩)).trans (V8_main_arg5 m (outs m) c),
      (h (Proc.devRef .tc main_arg6) (Finset.mem_filter.mpr ⟨StableHlo.devRef_mem_tcRefs main_arg6, by decide⟩)).trans (V8_main_arg6 m (outs m) c),
      (h (Proc.devRef .tc main_arg7) (Finset.mem_filter.mpr ⟨StableHlo.devRef_mem_tcRefs main_arg7, by decide⟩)).trans (V8_main_arg7 m (outs m) c),
      (h (Proc.devRef .tc main_arg8) (Finset.mem_filter.mpr ⟨StableHlo.devRef_mem_tcRefs main_arg8, by decide⟩)).trans (V8_main_arg8 m (outs m) c),
      (h (Proc.devRef .tc main_arg9) (Finset.mem_filter.mpr ⟨StableHlo.devRef_mem_tcRefs main_arg9, by decide⟩)).trans (V8_main_arg9 m (outs m) c),
      h (Proc.devRef .tc main_v10) (Finset.mem_filter.mpr ⟨StableHlo.devRef_mem_tcRefs main_v10, by decide⟩)⟩
  · iexact HSI

end Cert.Kernel3Ideal.Hand

end
-- ==== Proof.P3Pay.lean ====
module

public import proofs.«01_k».proof.Proof.Gen.Kernel3Ideal.Skeleton
public import proofs.«01_k».proof.Proof.P2Pay

@[expose] public section

noncomputable section

namespace Cert.Kernel3Ideal.Hand

open Cert.Kernel3Ideal Cert.Kernel3Ideal.Gen Cert.Hand
open Idealize.ShloMosaic Idealize.ShloMosaic.ValueIdx

/-- The cast gate columns of the tail call, at an index. -/
theorem k0_pay1_at (v : Vec Ideal S1x2048x384 .f32) (y : S2048x384.Idx) :
    k0_pay1 (F := Ideal) v y = v (ix3 (0 : Fin 1) (y 0) (y 1)) := Cert.KernelIdeal.Hand.k0_pay1_at v y

/-- The cast up columns of the tail call, at an index. -/
theorem k0_pay2_at (v : Vec Ideal S1x2048x384 .f32) (y : S2048x384.Idx) :
    k0_pay2 (F := Ideal) v y = v (ix3 (0 : Fin 1) (y 0) (y 1)) := Cert.KernelIdeal.Hand.k0_pay2_at v y

/-- The normalised rows of a block, at an index. -/
theorem k0_pay3_at (x : Vec Ideal S1024x2048 .f32) (w : Vec Ideal S1x2048 .f32) (y : S1024x2048.Idx) :
    k0_pay3 (F := Ideal) x w y = hnS (fun k => x (ix2 (y 0) k)) (fun k => w (ix2 (0 : Fin 1) k)) (y 1) :=
  Cert.KernelIdeal.Hand.k0_pay3_at x w y

/-- The cast rows of the output weight in the tail call, at an index. -/
theorem k0_pay4_at (v : Vec Ideal S1x48x2048 .f32) (y : S48x2048.Idx) :
    k0_pay4 (F := Ideal) v y = v (ix3 (0 : Fin 1) (y 0) (y 1)) := Cert.KernelIdeal.Hand.k0_pay4_at v y

/-- The tail call's activations, at an index. -/
theorem k0_pay5_at (x : Vec Ideal S1024x2048 .f32) (w : Vec Ideal S1x2048 .f32) (a b : Vec Ideal S2048x384 .bf16) (y : S1024x384.Idx) :
    k0_pay5 (F := Ideal) x w a b y
      = glu (∑ k : Fin 2048, k0_pay3 (F := Ideal) x w (ix2 (y 0) k) * a (ix2 k (y 1)))
          (∑ k : Fin 2048, k0_pay3 (F := Ideal) x w (ix2 (y 0) k) * b (ix2 k (y 1))) := Cert.KernelIdeal.Hand.k0_pay5_at x w a b y

/-- The cast gate columns of the main call, at an index. -/
theorem k1_pay1_at (v : Vec Ideal S1x2048x512 .f32) (y : S2048x512.Idx) :
    k1_pay1 (F := Ideal) v y = v (ix3 (0 : Fin 1) (y 0) (y 1)) := Cert.KernelIdeal.Hand.k1_pay1_at v y

/-- The cast up columns of the main call, at an index. -/
theorem k1_pay2_at (v : Vec Ideal S1x2048x512 .f32) (y : S2048x512.Idx) :
    k1_pay2 (F := Ideal) v y = v (ix3 (0 : Fin 1) (y 0) (y 1)) := Cert.KernelIdeal.Hand.k1_pay2_at v y

/-- The cast rows of the output weight in the main call, at an index. -/
theorem k1_pay3_at (v : Vec Ideal S1x64x2048 .f32) (y : S64x2048.Idx) :
    k1_pay3 (F := Ideal) v y = v (ix3 (0 : Fin 1) (y 0) (y 1)) := Cert.KernelIdeal.Hand.k1_pay3_at v y

/-- The main call's activations, at an index. -/
theorem k1_pay4_at (x : Vec Ideal S1024x2048 .bf16) (a b : Vec Ideal S2048x512 .bf16) (y : S1024x512.Idx) :
    k1_pay4 (F := Ideal) x a b y
      = glu (∑ k : Fin 2048, x (ix2 (y 0) k) * a (ix2 k (y 1)))
          (∑ k : Fin 2048, x (ix2 (y 0) k) * b (ix2 k (y 1))) := Cert.KernelIdeal.Hand.k1_pay4_at x a b y

/-- The residual call's block of the result, at an index. -/
theorem k2_pay1_at (wm : Vec Ideal S1x5120x1024 .bf16) (wt : Vec Ideal S1x384x1024 .bf16) (am : Vec Ideal S512x5120 .bf16)
    (at' : Vec Ideal S512x384 .bf16) (h : Vec Ideal S512x1024 .f32) (y : S512x1024.Idx) :
    k2_pay1 (F := Ideal) wm wt am at' h y
      = h y + half * ((∑ k : Fin 5120, am (ix2 (y 0) k) * wm (ix3 (0 : Fin 1) k (y 1)))
          + ∑ k : Fin 384, at' (ix2 (y 0) k) * wt (ix3 (0 : Fin 1) k (y 1))) := Cert.KernelIdeal.Hand.k2_pay1_at wm wt am at' h y

/-- The cast gate weights, at an index. -/
theorem k3_pay2_at (v : Vec Ideal S1x2048x2048 .f32) (y : S2048x2048.Idx) :
    k3_pay2 (F := Ideal) v y = v (ix3 (0 : Fin 1) (y 0) (y 1)) := Cert.Kernel2Ideal.Hand.k0_pay3_at v y

/-- The cast embedding weights, at an index. -/
theorem k3_pay3_at (v : Vec Ideal S1x256x2048 .f32) (y : S256x2048.Idx) :
    k3_pay3 (F := Ideal) v y = v (ix3 (0 : Fin 1) (y 0) (y 1)) := Cert.Kernel2Ideal.Hand.k0_pay4_at v y

theorem k3_pay4_eq (x : Vec Ideal S256x2048 .f32) : k3_pay4 (F := Ideal) x = x := by
  unfold k3_pay4
  exact shapeCast_self x _

/-- The normalised rows of a block of the stream with the gated normalised embeddings added, at an index. -/
theorem k3_pay1_at (x : Vec Ideal S256x2048 .f32) (p : Vec Ideal S1x1x256x256 .f32) (w w' w'' : Vec Ideal S1x2048 .f32)
    (S : Vec Ideal S2048x2048 .bf16) (S' : Vec Ideal S256x2048 .bf16) (y : S256x2048.Idx) :
    k3_pay1 (F := Ideal) (k3_pay4 x) (k3_pay5 x w S) (k3_pay6 p S') (k3_pay7 p S') w' w'' y
      = hnS (fun j => x (ix2 (y 0) j) + hnS (fun j => ∑ k : Fin 256, p (ix4 (0 : Fin 1) (0 : Fin 1) (y 0) k) * S' (ix2 k j)) (fun k => w' (ix2 (0 : Fin 1) k)) j
          * Ideal.logistic (∑ k : Fin 2048, hnS (fun k => x (ix2 (y 0) k)) (fun k => w (ix2 (0 : Fin 1) k)) k * S (ix2 k j)))
        (fun k => w'' (ix2 (0 : Fin 1) k)) (y 1) := by
  have e5 : k3_pay5 (F := Ideal) x w S = Cert.Kernel2Ideal.Gen.k0_pay5 (F := Ideal) x w S := by
    unfold k3_pay5
    rw [k3_pay4_eq]
    rfl
  rw [k3_pay4_eq, e5]
  refine Eq.trans (b := Cert.Kernel2Ideal.Gen.k0_pay2 (F := Ideal) x (Cert.Kernel2Ideal.Gen.k0_pay5 x w S) (Cert.Kernel2Ideal.Gen.k0_pay6 p S')
    (Cert.Kernel2Ideal.Gen.k0_pay7 p S') w' w'' y) rfl ?_
  refine (Cert.Kernel2Ideal.Hand.k0_pay2_at _ _ _ _ _ _ y).trans (congrArg (fun f => hnS f (fun k => w'' (ix2 (0 : Fin 1) k)) (y 1)) (funext fun j => ?_))
  exact Cert.Kernel2Ideal.Hand.k0_pay1_at x p w w' S S' (ix2 (y 0) j)

end Cert.Kernel3Ideal.Hand

end
-- ==== Proof.P3Value0.lean ====
module

public import proofs.«01_k».proof.Proof.P3Region0
public import proofs.«01_k».proof.Proof.P3Pay

@[expose] public section

set_option maxRecDepth 16384

noncomputable section

namespace Cert.Kernel3Ideal.Hand

open Cert.Kernel3Ideal Cert.Kernel3Ideal.Gen Cert.Hand
open Idealize.ShloMosaic Idealize.ShloMosaic.TcCoe Idealize.ShloMosaic.ValueIdx Idealize.SL.Sem
open Idealize.ShloMosaic.Pipeline (Dat Cfg Window)

variable (V : (c : Dev nD) → Valuation τ sig (Elt Ideal))

/-- Where each window's block sits, at every point of the grid. -/
theorem where0 : ∀ t : Fin grid0.N, win0_0.index t (0 : Fin 2) = t.val ∧ win0_0.index t (1 : Fin 2) = 0 ∧ win0_1.index t (0 : Fin 3) = 1 ∧ win0_1.index t (1 : Fin 3) = 0 ∧ win0_1.index t (2 : Fin 3) = 5120 ∧ win0_2.index t (0 : Fin 3) = 1 ∧ win0_2.index t (1 : Fin 3) = 0 ∧ win0_2.index t (2 : Fin 3) = 10624 ∧ win0_3.index t (0 : Fin 2) = 0 ∧ win0_3.index t (1 : Fin 2) = 0 ∧ win0_4.index t (0 : Fin 3) = 1 ∧ win0_4.index t (1 : Fin 3) = 5120 + t.val * 48 ∧ win0_4.index t (2 : Fin 3) = 0 ∧ win0_5.index t (0 : Fin 2) = t.val ∧ win0_5.index t (1 : Fin 2) = 0 ∧ win0_6.index t (0 : Fin 2) = t.val ∧ win0_6.index t (1 : Fin 2) = 0 ∧ win0_7.index t (0 : Fin 2) = t.val ∧ win0_7.index t (1 : Fin 2) = 0 := by
  decide +kernel

/-- Window 0's block at a point, read off its array. -/
theorem iblk0_0_at (c : Dev nD) (t : Fin cfg0.N) (y : S1024x2048.Idx) (i : S8192x2048.Idx) (h0 : (i (0 : Fin 2)).val = t.val * 1024 + (y (0 : Fin 2)).val) (h1 : (i (1 : Fin 2)).val = 0 * 2048 + (y (1 : Fin 2)).val) :
    iblk0 V c 0 t y = (rd S8192x2048 (V c main_arg0)) i := by
  obtain ⟨e0_0, e0_1, e1_0, e1_1, e1_2, e2_0, e2_1, e2_2, e3_0, e3_1, e4_0, e4_1, e4_2, e5_0, e5_1, e6_0, e6_1, e7_0, e7_1⟩ := where0 t
  unfold iblk0
  show (rd S8192x2048 (V c main_arg0)) (((cfg0.win 0).blk t).view.emb y) = _
  refine congrArg ((rd S8192x2048 (V c main_arg0))) (funext fun a => Fin.ext ?_)
  exact (match a with
    | ⟨0, _⟩ => by show win0_0.index t (0 : Fin 2) * 1024 + 1 * (y (0 : Fin 2)).val = (i (0 : Fin 2)).val; rw [h0, e0_0]; omega
    | ⟨1, _⟩ => by show win0_0.index t (1 : Fin 2) * 2048 + 1 * (y (1 : Fin 2)).val = (i (1 : Fin 2)).val; rw [h1, e0_1]; omega)

/-- Window 1's block at a point, read off its array. -/
theorem iblk0_1_at (c : Dev nD) (t : Fin cfg0.N) (y : S1x2048x384.Idx) (i : S2x2048x11008.Idx) (h0 : (i (0 : Fin 3)).val = 1 + (y (0 : Fin 3)).val) (h1 : (i (1 : Fin 3)).val = 0 + (y (1 : Fin 3)).val) (h2 : (i (2 : Fin 3)).val = 5120 + (y (2 : Fin 3)).val) :
    iblk0 V c 1 t y = (rd S2x2048x11008 (V c main_arg2)) i := by
  obtain ⟨e0_0, e0_1, e1_0, e1_1, e1_2, e2_0, e2_1, e2_2, e3_0, e3_1, e4_0, e4_1, e4_2, e5_0, e5_1, e6_0, e6_1, e7_0, e7_1⟩ := where0 t
  unfold iblk0
  show (rd S2x2048x11008 (V c main_arg2)) (((cfg0.win 1).blk t).view.emb y) = _
  refine congrArg ((rd S2x2048x11008 (V c main_arg2))) (funext fun a => Fin.ext ?_)
  exact (match a with
    | ⟨0, _⟩ => by show win0_1.index t (0 : Fin 3) + 1 * (y (0 : Fin 3)).val = (i (0 : Fin 3)).val; rw [h0, e1_0]; omega
    | ⟨1, _⟩ => by show win0_1.index t (1 : Fin 3) + 1 * (y (1 : Fin 3)).val = (i (1 : Fin 3)).val; rw [h1, e1_1]; omega
    | ⟨2, _⟩ => by show win0_1.index t (2 : Fin 3) + 1 * (y (2 : Fin 3)).val = (i (2 : Fin 3)).val; rw [h2, e1_2]; omega)

/-- Window 2's block at a point, read off its array. -/
theorem iblk0_2_at (c : Dev nD) (t : Fin cfg0.N) (y : S1x2048x384.Idx) (i : S2x2048x11008.Idx) (h0 : (i (0 : Fin 3)).val = 1 + (y (0 : Fin 3)).val) (h1 : (i (1 : Fin 3)).val = 0 + (y (1 : Fin 3)).val) (h2 : (i (2 : Fin 3)).val = 10624 + (y (2 : Fin 3)).val) :
    iblk0 V c 2 t y = (rd S2x2048x11008 (V c main_arg2)) i := by
  obtain ⟨e0_0, e0_1, e1_0, e1_1, e1_2, e2_0, e2_1, e2_2, e3_0, e3_1, e4_0, e4_1, e4_2, e5_0, e5_1, e6_0, e6_1, e7_0, e7_1⟩ := where0 t
  unfold iblk0
  show (rd S2x2048x11008 (V c main_arg2)) (((cfg0.win 2).blk t).view.emb y) = _
  refine congrArg ((rd S2x2048x11008 (V c main_arg2))) (funext fun a => Fin.ext ?_)
  exact (match a with
    | ⟨0, _⟩ => by show win0_2.index t (0 : Fin 3) + 1 * (y (0 : Fin 3)).val = (i (0 : Fin 3)).val; rw [h0, e2_0]; omega
    | ⟨1, _⟩ => by show win0_2.index t (1 : Fin 3) + 1 * (y (1 : Fin 3)).val = (i (1 : Fin 3)).val; rw [h1, e2_1]; omega
    | ⟨2, _⟩ => by show win0_2.index t (2 : Fin 3) + 1 * (y (2 : Fin 3)).val = (i (2 : Fin 3)).val; rw [h2, e2_2]; omega)

/-- Window 3's block at a point, read off its array. -/
theorem iblk0_3_at (c : Dev nD) (t : Fin cfg0.N) (y : S1x2048.Idx) (i : S1x2048.Idx) (h0 : (i (0 : Fin 2)).val = 0 * 1 + (y (0 : Fin 2)).val) (h1 : (i (1 : Fin 2)).val = 0 * 2048 + (y (1 : Fin 2)).val) :
    iblk0 V c 3 t y = (rd S1x2048 (V c main_v0)) i := by
  obtain ⟨e0_0, e0_1, e1_0, e1_1, e1_2, e2_0, e2_1, e2_2, e3_0, e3_1, e4_0, e4_1, e4_2, e5_0, e5_1, e6_0, e6_1, e7_0, e7_1⟩ := where0 t
  unfold iblk0
  show (rd S1x2048 (V c main_v0)) (((cfg0.win 3).blk t).view.emb y) = _
  refine congrArg ((rd S1x2048 (V c main_v0))) (funext fun a => Fin.ext ?_)
  exact (match a with
    | ⟨0, _⟩ => by show win0_3.index t (0 : Fin 2) * 1 + 1 * (y (0 : Fin 2)).val = (i (0 : Fin 2)).val; rw [h0, e3_0]; omega
    | ⟨1, _⟩ => by show win0_3.index t (1 : Fin 2) * 2048 + 1 * (y (1 : Fin 2)).val = (i (1 : Fin 2)).val; rw [h1, e3_1]; omega)

/-- Window 4's block at a point, read off its array. -/
theorem iblk0_4_at (c : Dev nD) (t : Fin cfg0.N) (y : S1x48x2048.Idx) (i : S2x5504x2048.Idx) (h0 : (i (0 : Fin 3)).val = 1 + (y (0 : Fin 3)).val) (h1 : (i (1 : Fin 3)).val = 5120 + t.val * 48 + (y (1 : Fin 3)).val) (h2 : (i (2 : Fin 3)).val = 0 + (y (2 : Fin 3)).val) :
    iblk0 V c 4 t y = (rd S2x5504x2048 (V c main_arg3)) i := by
  obtain ⟨e0_0, e0_1, e1_0, e1_1, e1_2, e2_0, e2_1, e2_2, e3_0, e3_1, e4_0, e4_1, e4_2, e5_0, e5_1, e6_0, e6_1, e7_0, e7_1⟩ := where0 t
  unfold iblk0
  show (rd S2x5504x2048 (V c main_arg3)) (((cfg0.win 4).blk t).view.emb y) = _
  refine congrArg ((rd S2x5504x2048 (V c main_arg3))) (funext fun a => Fin.ext ?_)
  exact (match a with
    | ⟨0, _⟩ => by show win0_4.index t (0 : Fin 3) + 1 * (y (0 : Fin 3)).val = (i (0 : Fin 3)).val; rw [h0, e4_0]; omega
    | ⟨1, _⟩ => by show win0_4.index t (1 : Fin 3) + 1 * (y (1 : Fin 3)).val = (i (1 : Fin 3)).val; rw [h1, e4_1]; omega
    | ⟨2, _⟩ => by show win0_4.index t (2 : Fin 3) + 1 * (y (2 : Fin 3)).val = (i (2 : Fin 3)).val; rw [h2, e4_2]; omega)

/-- Every point writes output window 5 back. -/
theorem flush0_5_all : ∀ t : Fin cfg0.N, (cfg0.win 5).flush t = true :=
  (by decide +kernel : ∀ t : Fin grid0.N, win0_5.flush t = true)

/-- An index of the array is in a point's block iff each coordinate is in the block's range. -/
theorem mem0_5 (t : Fin cfg0.N) (i : S8192x384.Idx) :
    i ∈ ((cfg0.win 5).blk t).view.set ↔ ∀ a : Fin 2, win0_5.index t a * S1024x384.size a ≤ (i a).val ∧ (i a).val < win0_5.index t a * S1024x384.size a + S1024x384.size a := by
  show i ∈ ((View.whole main_v1_0).slice (win0_5.rect t)).set ↔ _
  rw [View.set_slice_whole, Rect.mem_set_unit]
  exact Iff.rfl

/-- Every index of output window 5's array is in the block of a point that writes back. -/
theorem covered0_5 (i : S8192x384.Idx) :
    ∃ t : Fin cfg0.N, (cfg0.win 5).flush t = true ∧ i ∈ ((cfg0.win 5).blk t).view.set := by
  have hi0 : (i 0).val < 8192 := (i 0).isLt
  have hi1 : (i 1).val < 384 := (i 1).isLt
  have hN : cfg0.N = 8 := by decide
  refine ⟨⟨(i 0).val / 1024, by rw [hN]; omega⟩, (flush0_5_all _), ?_⟩
  rw [mem0_5]
  obtain ⟨e0_0, e0_1, e1_0, e1_1, e1_2, e2_0, e2_1, e2_2, e3_0, e3_1, e4_0, e4_1, e4_2, e5_0, e5_1, e6_0, e6_1, e7_0, e7_1⟩ := where0 (⟨(i 0).val / 1024, by rw [hN]; omega⟩ : Fin cfg0.N)
  intro a
  match a with
  | ⟨0, _⟩ => show win0_5.index _ (0 : Fin 2) * 1024 ≤ (i 0).val ∧ (i 0).val < win0_5.index _ (0 : Fin 2) * 1024 + 1024; rw [e5_0]; dsimp only; omega
  | ⟨1, _⟩ => show win0_5.index _ (1 : Fin 2) * 384 ≤ (i 1).val ∧ (i 1).val < win0_5.index _ (1 : Fin 2) * 384 + 384; rw [e5_1]; dsimp only; omega

/-- The activations of the last 384 columns, as the region finds its arrays. -/
def G0_5 (c : Dev nD) : (⟨2, S8192x384.size⟩ : Shape).Idx → EReal := fun i =>
  glu (∑ k : Fin 2048, hnS (fun k => rd S8192x2048 (V c main_arg0) (ix2 (i 0) k)) (fun k => rd S1x2048 (V c main_v0) (ix2 (0 : Fin 1) k)) k * rd S2x2048x11008 (V c main_arg2) (ix3 (1 : Fin 2) k ⟨5120 + (i 1).val, by have := idx2_lt1 i; omega⟩))
    (∑ k : Fin 2048, hnS (fun k => rd S8192x2048 (V c main_arg0) (ix2 (i 0) k)) (fun k => rd S1x2048 (V c main_v0) (ix2 (0 : Fin 1) k)) k * rd S2x2048x11008 (V c main_arg2) (ix3 (1 : Fin 2) k ⟨10624 + (i 1).val, by have := idx2_lt1 i; omega⟩))

/-- What a point writes back to output window 5 is that function read through the block. -/
theorem flushed0_5 (c : Dev nD) (t : Fin cfg0.N) :
    (dat0 V c).flushed 5 t = ((cfg0.win 5).blk t).view.read (Elt Ideal) (G0_5 V c) := by
  obtain ⟨e0_0, e0_1, e1_0, e1_1, e1_2, e2_0, e2_1, e2_2, e3_0, e3_1, e4_0, e4_1, e4_2, e5_0, e5_1, e6_0, e6_1, e7_0, e7_1⟩ := where0 t
  refine funext fun (y : S1024x384.Idx) => ?_
  have q0 : ((((cfg0.win 5).blk t).view.emb y : S8192x384.Idx) 0).val = t.val * 1024 + (y 0).val := by
    show win0_5.index t (0 : Fin 2) * 1024 + 1 * (y 0).val = _
    rw [e5_0]; omega
  have q1 : ((((cfg0.win 5).blk t).view.emb y : S8192x384.Idx) 1).val = 0 * 384 + (y 1).val := by
    show win0_5.index t (1 : Fin 2) * 384 + 1 * (y 1).val = _
    rw [e5_1]; omega
  show (dat0 V c).after 5 t y = G0_5 V c (((cfg0.win 5).blk t).view.emb y)
  generalize (((cfg0.win 5).blk t).view.emb y : S8192x384.Idx) = i at q0 q1
  have b0 := idx2_lt0 y
  have b1 := idx2_lt1 y
  have hN : cfg0.N = 8 := by decide
  have ht : t.val < 8 := lt_of_lt_of_eq t.isLt hN
  rw [after0_5]
  rw [k0_pay5_at]
  have hx : ∀ k : Fin 2048, iblk0 V c 0 t (ix2 (y 0) k) = rd S8192x2048 (V c main_arg0) (ix2 (i 0) k) := fun k =>
    iblk0_0_at V c t _ _ (by rw [← q0]) (by show k.val = 0 * 2048 + k.val; omega)
  have hw : ∀ k : Fin 2048, iblk0 V c 3 t (ix2 (0 : Fin 1) k) = rd S1x2048 (V c main_v0) (ix2 (0 : Fin 1) k) := fun k =>
    iblk0_3_at V c t _ _ (by show 0 = 0 * 1 + 0; omega) (by show k.val = 0 * 2048 + k.val; omega)
  unfold G0_5
  refine congrArg₂ glu (Finset.sum_congr rfl fun k _ => ?_) (Finset.sum_congr rfl fun k _ => ?_)
  · rw [k0_pay3_at, k0_pay1_at]
    refine congrArg₂ (· * ·) (congrArg₂ (fun a b => hnS a b k) (funext hx) (funext hw)) (iblk0_1_at V c t _ _ ?_ ?_ ?_)
    · rfl
    · show k.val = 0 + k.val; omega
    · show 5120 + (i 1).val = 5120 + (y 1).val; omega
  · rw [k0_pay3_at, k0_pay2_at]
    refine congrArg₂ (· * ·) (congrArg₂ (fun a b => hnS a b k) (funext hx) (funext hw)) (iblk0_2_at V c t _ _ ?_ ?_ ?_)
    · rfl
    · show k.val = 0 + k.val; omega
    · show 10624 + (i 1).val = 10624 + (y 1).val; omega

/-- Output window 5's array at the region's exit. -/
theorem final0_5 (c : Dev nD) : (dat0 V c).arrAt 5 cfg0.N = G0_5 V c :=
  (dat0 V c).arrAt_eq_of_cover 5 _ (fun t _ => flushed0_5 V c t) covered0_5

/-- Every point writes output window 6 back. -/
theorem flush0_6_all : ∀ t : Fin cfg0.N, (cfg0.win 6).flush t = true :=
  (by decide +kernel : ∀ t : Fin grid0.N, win0_6.flush t = true)

/-- An index of the array is in a point's block iff each coordinate is in the block's range. -/
theorem mem0_6 (t : Fin cfg0.N) (i : S8192x2048.Idx) :
    i ∈ ((cfg0.win 6).blk t).view.set ↔ ∀ a : Fin 2, win0_6.index t a * S1024x2048.size a ≤ (i a).val ∧ (i a).val < win0_6.index t a * S1024x2048.size a + S1024x2048.size a := by
  show i ∈ ((View.whole main_v1_1).slice (win0_6.rect t)).set ↔ _
  rw [View.set_slice_whole, Rect.mem_set_unit]
  exact Iff.rfl

/-- Every index of output window 6's array is in the block of a point that writes back. -/
theorem covered0_6 (i : S8192x2048.Idx) :
    ∃ t : Fin cfg0.N, (cfg0.win 6).flush t = true ∧ i ∈ ((cfg0.win 6).blk t).view.set := by
  have hi0 : (i 0).val < 8192 := (i 0).isLt
  have hi1 : (i 1).val < 2048 := (i 1).isLt
  have hN : cfg0.N = 8 := by decide
  refine ⟨⟨(i 0).val / 1024, by rw [hN]; omega⟩, (flush0_6_all _), ?_⟩
  rw [mem0_6]
  obtain ⟨e0_0, e0_1, e1_0, e1_1, e1_2, e2_0, e2_1, e2_2, e3_0, e3_1, e4_0, e4_1, e4_2, e5_0, e5_1, e6_0, e6_1, e7_0, e7_1⟩ := where0 (⟨(i 0).val / 1024, by rw [hN]; omega⟩ : Fin cfg0.N)
  intro a
  match a with
  | ⟨0, _⟩ => show win0_6.index _ (0 : Fin 2) * 1024 ≤ (i 0).val ∧ (i 0).val < win0_6.index _ (0 : Fin 2) * 1024 + 1024; rw [e6_0]; dsimp only; omega
  | ⟨1, _⟩ => show win0_6.index _ (1 : Fin 2) * 2048 ≤ (i 1).val ∧ (i 1).val < win0_6.index _ (1 : Fin 2) * 2048 + 2048; rw [e6_1]; dsimp only; omega

/-- The normalised rows, as the region finds its arrays. -/
def G0_6 (c : Dev nD) : (⟨2, S8192x2048.size⟩ : Shape).Idx → EReal := fun i =>
  hnS (fun k => rd S8192x2048 (V c main_arg0) (ix2 (i 0) k)) (fun k => rd S1x2048 (V c main_v0) (ix2 (0 : Fin 1) k)) (i 1)

/-- What a point writes back to output window 6 is that function read through the block. -/
theorem flushed0_6 (c : Dev nD) (t : Fin cfg0.N) :
    (dat0 V c).flushed 6 t = ((cfg0.win 6).blk t).view.read (Elt Ideal) (G0_6 V c) := by
  obtain ⟨e0_0, e0_1, e1_0, e1_1, e1_2, e2_0, e2_1, e2_2, e3_0, e3_1, e4_0, e4_1, e4_2, e5_0, e5_1, e6_0, e6_1, e7_0, e7_1⟩ := where0 t
  refine funext fun (y : S1024x2048.Idx) => ?_
  have q0 : ((((cfg0.win 6).blk t).view.emb y : S8192x2048.Idx) 0).val = t.val * 1024 + (y 0).val := by
    show win0_6.index t (0 : Fin 2) * 1024 + 1 * (y 0).val = _
    rw [e6_0]; omega
  have q1 : ((((cfg0.win 6).blk t).view.emb y : S8192x2048.Idx) 1).val = 0 * 2048 + (y 1).val := by
    show win0_6.index t (1 : Fin 2) * 2048 + 1 * (y 1).val = _
    rw [e6_1]; omega
  show (dat0 V c).after 6 t y = G0_6 V c (((cfg0.win 6).blk t).view.emb y)
  generalize (((cfg0.win 6).blk t).view.emb y : S8192x2048.Idx) = i at q0 q1
  have b0 := idx2_lt0 y
  have b1 := idx2_lt1 y
  have hN : cfg0.N = 8 := by decide
  have ht : t.val < 8 := lt_of_lt_of_eq t.isLt hN
  rw [after0_6]
  rw [k0_pay3_at]
  have hx : ∀ k : Fin 2048, iblk0 V c 0 t (ix2 (y 0) k) = rd S8192x2048 (V c main_arg0) (ix2 (i 0) k) := fun k =>
    iblk0_0_at V c t _ _ (by rw [← q0]) (by show k.val = 0 * 2048 + k.val; omega)
  have hw : ∀ k : Fin 2048, iblk0 V c 3 t (ix2 (0 : Fin 1) k) = rd S1x2048 (V c main_v0) (ix2 (0 : Fin 1) k) := fun k =>
    iblk0_3_at V c t _ _ (by show 0 = 0 * 1 + 0; omega) (by show k.val = 0 * 2048 + k.val; omega)
  have h1 : (y 1 : Fin 2048) = i 1 := Fin.ext (by omega)
  unfold G0_6
  rw [funext hx, funext hw]
  exact congrArg (hnS _ _) h1

/-- Output window 6's array at the region's exit. -/
theorem final0_6 (c : Dev nD) : (dat0 V c).arrAt 6 cfg0.N = G0_6 V c :=
  (dat0 V c).arrAt_eq_of_cover 6 _ (fun t _ => flushed0_6 V c t) covered0_6

/-- Every point writes output window 7 back. -/
theorem flush0_7_all : ∀ t : Fin cfg0.N, (cfg0.win 7).flush t = true :=
  (by decide +kernel : ∀ t : Fin grid0.N, win0_7.flush t = true)

/-- An index of the array is in a point's block iff each coordinate is in the block's range. -/
theorem mem0_7 (t : Fin cfg0.N) (i : S384x2048.Idx) :
    i ∈ ((cfg0.win 7).blk t).view.set ↔ ∀ a : Fin 2, win0_7.index t a * S48x2048.size a ≤ (i a).val ∧ (i a).val < win0_7.index t a * S48x2048.size a + S48x2048.size a := by
  show i ∈ ((View.whole main_v1_2).slice (win0_7.rect t)).set ↔ _
  rw [View.set_slice_whole, Rect.mem_set_unit]
  exact Iff.rfl

/-- Every index of output window 7's array is in the block of a point that writes back. -/
theorem covered0_7 (i : S384x2048.Idx) :
    ∃ t : Fin cfg0.N, (cfg0.win 7).flush t = true ∧ i ∈ ((cfg0.win 7).blk t).view.set := by
  have hi0 : (i 0).val < 384 := (i 0).isLt
  have hi1 : (i 1).val < 2048 := (i 1).isLt
  have hN : cfg0.N = 8 := by decide
  refine ⟨⟨(i 0).val / 48, by rw [hN]; omega⟩, (flush0_7_all _), ?_⟩
  rw [mem0_7]
  obtain ⟨e0_0, e0_1, e1_0, e1_1, e1_2, e2_0, e2_1, e2_2, e3_0, e3_1, e4_0, e4_1, e4_2, e5_0, e5_1, e6_0, e6_1, e7_0, e7_1⟩ := where0 (⟨(i 0).val / 48, by rw [hN]; omega⟩ : Fin cfg0.N)
  intro a
  match a with
  | ⟨0, _⟩ => show win0_7.index _ (0 : Fin 2) * 48 ≤ (i 0).val ∧ (i 0).val < win0_7.index _ (0 : Fin 2) * 48 + 48; rw [e7_0]; dsimp only; omega
  | ⟨1, _⟩ => show win0_7.index _ (1 : Fin 2) * 2048 ≤ (i 1).val ∧ (i 1).val < win0_7.index _ (1 : Fin 2) * 2048 + 2048; rw [e7_1]; dsimp only; omega

/-- The last 384 rows of the output weight, as the region finds its arrays. -/
def G0_7 (c : Dev nD) : (⟨2, S384x2048.size⟩ : Shape).Idx → EReal := fun i =>
  rd S2x5504x2048 (V c main_arg3) (ix3 (1 : Fin 2) ⟨5120 + (i 0).val, by have := idx2_lt0 i; omega⟩ (i 1))

/-- What a point writes back to output window 7 is that function read through the block. -/
theorem flushed0_7 (c : Dev nD) (t : Fin cfg0.N) :
    (dat0 V c).flushed 7 t = ((cfg0.win 7).blk t).view.read (Elt Ideal) (G0_7 V c) := by
  obtain ⟨e0_0, e0_1, e1_0, e1_1, e1_2, e2_0, e2_1, e2_2, e3_0, e3_1, e4_0, e4_1, e4_2, e5_0, e5_1, e6_0, e6_1, e7_0, e7_1⟩ := where0 t
  refine funext fun (y : S48x2048.Idx) => ?_
  have q0 : ((((cfg0.win 7).blk t).view.emb y : S384x2048.Idx) 0).val = t.val * 48 + (y 0).val := by
    show win0_7.index t (0 : Fin 2) * 48 + 1 * (y 0).val = _
    rw [e7_0]; omega
  have q1 : ((((cfg0.win 7).blk t).view.emb y : S384x2048.Idx) 1).val = 0 * 2048 + (y 1).val := by
    show win0_7.index t (1 : Fin 2) * 2048 + 1 * (y 1).val = _
    rw [e7_1]; omega
  show (dat0 V c).after 7 t y = G0_7 V c (((cfg0.win 7).blk t).view.emb y)
  generalize (((cfg0.win 7).blk t).view.emb y : S384x2048.Idx) = i at q0 q1
  have b0 := idx2_lt0 y
  have b1 := idx2_lt1 y
  have hN : cfg0.N = 8 := by decide
  have ht : t.val < 8 := lt_of_lt_of_eq t.isLt hN
  rw [after0_7]
  rw [k0_pay4_at]
  unfold G0_7
  refine iblk0_4_at V c t _ _ ?_ ?_ ?_
  · rfl
  · show 5120 + (i 0).val = 5120 + t.val * 48 + (y 0).val; omega
  · show (i 1).val = 0 + (y 1).val; omega

/-- Output window 7's array at the region's exit. -/
theorem final0_7 (c : Dev nD) : (dat0 V c).arrAt 7 cfg0.N = G0_7 V c :=
  (dat0 V c).arrAt_eq_of_cover 7 _ (fun t _ => flushed0_7 V c t) covered0_7

end Cert.Kernel3Ideal.Hand

end
-- ==== Proof.P3Value1.lean ====
module

public import proofs.«01_k».proof.Proof.P3Region1
public import proofs.«01_k».proof.Proof.P3Pay

@[expose] public section

set_option maxRecDepth 16384

noncomputable section

namespace Cert.Kernel3Ideal.Hand

open Cert.Kernel3Ideal Cert.Kernel3Ideal.Gen Cert.Hand
open Idealize.ShloMosaic Idealize.ShloMosaic.TcCoe Idealize.ShloMosaic.ValueIdx Idealize.SL.Sem
open Idealize.ShloMosaic.Pipeline (Dat Cfg Window)

variable (V : (c : Dev nD) → Valuation τ sig (Elt Ideal))

/-- Where each window's block sits, at every point of the grid. -/
theorem where1 : ∀ t : Fin grid1.N, win1_0.index t (0 : Fin 2) = t.val % 8 ∧ win1_0.index t (1 : Fin 2) = 0 ∧ win1_1.index t (0 : Fin 3) = 1 ∧ win1_1.index t (1 : Fin 3) = 0 ∧ win1_1.index t (2 : Fin 3) = t.val / 8 * 512 ∧ win1_2.index t (0 : Fin 3) = 1 ∧ win1_2.index t (1 : Fin 3) = 0 ∧ win1_2.index t (2 : Fin 3) = 5504 + t.val / 8 * 512 ∧ win1_3.index t (0 : Fin 3) = 1 ∧ win1_3.index t (1 : Fin 3) = t.val * 64 ∧ win1_3.index t (2 : Fin 3) = 0 ∧ win1_4.index t (0 : Fin 2) = t.val % 8 ∧ win1_4.index t (1 : Fin 2) = t.val / 8 ∧ win1_5.index t (0 : Fin 2) = t.val ∧ win1_5.index t (1 : Fin 2) = 0 := by
  decide +kernel

/-- Window 0's block at a point, read off its array. -/
theorem iblk1_0_at (c : Dev nD) (t : Fin cfg1.N) (y : S1024x2048.Idx) (i : S8192x2048.Idx) (h0 : (i (0 : Fin 2)).val = t.val % 8 * 1024 + (y (0 : Fin 2)).val) (h1 : (i (1 : Fin 2)).val = 0 * 2048 + (y (1 : Fin 2)).val) :
    iblk1 V c 0 t y = (rd S8192x2048 (V c main_v1_1)) i := by
  obtain ⟨e0_0, e0_1, e1_0, e1_1, e1_2, e2_0, e2_1, e2_2, e3_0, e3_1, e3_2, e4_0, e4_1, e5_0, e5_1⟩ := where1 t
  unfold iblk1
  show (rd S8192x2048 (V c main_v1_1)) (((cfg1.win 0).blk t).view.emb y) = _
  refine congrArg ((rd S8192x2048 (V c main_v1_1))) (funext fun a => Fin.ext ?_)
  exact (match a with
    | ⟨0, _⟩ => by show win1_0.index t (0 : Fin 2) * 1024 + 1 * (y (0 : Fin 2)).val = (i (0 : Fin 2)).val; rw [h0, e0_0]; omega
    | ⟨1, _⟩ => by show win1_0.index t (1 : Fin 2) * 2048 + 1 * (y (1 : Fin 2)).val = (i (1 : Fin 2)).val; rw [h1, e0_1]; omega)

/-- Window 1's block at a point, read off its array. -/
theorem iblk1_1_at (c : Dev nD) (t : Fin cfg1.N) (y : S1x2048x512.Idx) (i : S2x2048x11008.Idx) (h0 : (i (0 : Fin 3)).val = 1 + (y (0 : Fin 3)).val) (h1 : (i (1 : Fin 3)).val = 0 + (y (1 : Fin 3)).val) (h2 : (i (2 : Fin 3)).val = t.val / 8 * 512 + (y (2 : Fin 3)).val) :
    iblk1 V c 1 t y = (rd S2x2048x11008 (V c main_arg2)) i := by
  obtain ⟨e0_0, e0_1, e1_0, e1_1, e1_2, e2_0, e2_1, e2_2, e3_0, e3_1, e3_2, e4_0, e4_1, e5_0, e5_1⟩ := where1 t
  unfold iblk1
  show (rd S2x2048x11008 (V c main_arg2)) (((cfg1.win 1).blk t).view.emb y) = _
  refine congrArg ((rd S2x2048x11008 (V c main_arg2))) (funext fun a => Fin.ext ?_)
  exact (match a with
    | ⟨0, _⟩ => by show win1_1.index t (0 : Fin 3) + 1 * (y (0 : Fin 3)).val = (i (0 : Fin 3)).val; rw [h0, e1_0]; omega
    | ⟨1, _⟩ => by show win1_1.index t (1 : Fin 3) + 1 * (y (1 : Fin 3)).val = (i (1 : Fin 3)).val; rw [h1, e1_1]; omega
    | ⟨2, _⟩ => by show win1_1.index t (2 : Fin 3) + 1 * (y (2 : Fin 3)).val = (i (2 : Fin 3)).val; rw [h2, e1_2]; omega)

/-- Window 2's block at a point, read off its array. -/
theorem iblk1_2_at (c : Dev nD) (t : Fin cfg1.N) (y : S1x2048x512.Idx) (i : S2x2048x11008.Idx) (h0 : (i (0 : Fin 3)).val = 1 + (y (0 : Fin 3)).val) (h1 : (i (1 : Fin 3)).val = 0 + (y (1 : Fin 3)).val) (h2 : (i (2 : Fin 3)).val = 5504 + t.val / 8 * 512 + (y (2 : Fin 3)).val) :
    iblk1 V c 2 t y = (rd S2x2048x11008 (V c main_arg2)) i := by
  obtain ⟨e0_0, e0_1, e1_0, e1_1, e1_2, e2_0, e2_1, e2_2, e3_0, e3_1, e3_2, e4_0, e4_1, e5_0, e5_1⟩ := where1 t
  unfold iblk1
  show (rd S2x2048x11008 (V c main_arg2)) (((cfg1.win 2).blk t).view.emb y) = _
  refine congrArg ((rd S2x2048x11008 (V c main_arg2))) (funext fun a => Fin.ext ?_)
  exact (match a with
    | ⟨0, _⟩ => by show win1_2.index t (0 : Fin 3) + 1 * (y (0 : Fin 3)).val = (i (0 : Fin 3)).val; rw [h0, e2_0]; omega
    | ⟨1, _⟩ => by show win1_2.index t (1 : Fin 3) + 1 * (y (1 : Fin 3)).val = (i (1 : Fin 3)).val; rw [h1, e2_1]; omega
    | ⟨2, _⟩ => by show win1_2.index t (2 : Fin 3) + 1 * (y (2 : Fin 3)).val = (i (2 : Fin 3)).val; rw [h2, e2_2]; omega)

/-- Window 3's block at a point, read off its array. -/
theorem iblk1_3_at (c : Dev nD) (t : Fin cfg1.N) (y : S1x64x2048.Idx) (i : S2x5504x2048.Idx) (h0 : (i (0 : Fin 3)).val = 1 + (y (0 : Fin 3)).val) (h1 : (i (1 : Fin 3)).val = t.val * 64 + (y (1 : Fin 3)).val) (h2 : (i (2 : Fin 3)).val = 0 + (y (2 : Fin 3)).val) :
    iblk1 V c 3 t y = (rd S2x5504x2048 (V c main_arg3)) i := by
  obtain ⟨e0_0, e0_1, e1_0, e1_1, e1_2, e2_0, e2_1, e2_2, e3_0, e3_1, e3_2, e4_0, e4_1, e5_0, e5_1⟩ := where1 t
  unfold iblk1
  show (rd S2x5504x2048 (V c main_arg3)) (((cfg1.win 3).blk t).view.emb y) = _
  refine congrArg ((rd S2x5504x2048 (V c main_arg3))) (funext fun a => Fin.ext ?_)
  exact (match a with
    | ⟨0, _⟩ => by show win1_3.index t (0 : Fin 3) + 1 * (y (0 : Fin 3)).val = (i (0 : Fin 3)).val; rw [h0, e3_0]; omega
    | ⟨1, _⟩ => by show win1_3.index t (1 : Fin 3) + 1 * (y (1 : Fin 3)).val = (i (1 : Fin 3)).val; rw [h1, e3_1]; omega
    | ⟨2, _⟩ => by show win1_3.index t (2 : Fin 3) + 1 * (y (2 : Fin 3)).val = (i (2 : Fin 3)).val; rw [h2, e3_2]; omega)

/-- Every point writes output window 4 back. -/
theorem flush1_4_all : ∀ t : Fin cfg1.N, (cfg1.win 4).flush t = true :=
  (by decide +kernel : ∀ t : Fin grid1.N, win1_4.flush t = true)

/-- An index of the array is in a point's block iff each coordinate is in the block's range. -/
theorem mem1_4 (t : Fin cfg1.N) (i : S8192x5120.Idx) :
    i ∈ ((cfg1.win 4).blk t).view.set ↔ ∀ a : Fin 2, win1_4.index t a * S1024x512.size a ≤ (i a).val ∧ (i a).val < win1_4.index t a * S1024x512.size a + S1024x512.size a := by
  show i ∈ ((View.whole main_v2_0).slice (win1_4.rect t)).set ↔ _
  rw [View.set_slice_whole, Rect.mem_set_unit]
  exact Iff.rfl

/-- Every index of output window 4's array is in the block of a point that writes back. -/
theorem covered1_4 (i : S8192x5120.Idx) :
    ∃ t : Fin cfg1.N, (cfg1.win 4).flush t = true ∧ i ∈ ((cfg1.win 4).blk t).view.set := by
  have hi0 : (i 0).val < 8192 := (i 0).isLt
  have hi1 : (i 1).val < 5120 := (i 1).isLt
  have hN : cfg1.N = 80 := by decide
  refine ⟨⟨(i 1).val / 512 * 8 + (i 0).val / 1024, by rw [hN]; omega⟩, (flush1_4_all _), ?_⟩
  rw [mem1_4]
  obtain ⟨e0_0, e0_1, e1_0, e1_1, e1_2, e2_0, e2_1, e2_2, e3_0, e3_1, e3_2, e4_0, e4_1, e5_0, e5_1⟩ := where1 (⟨(i 1).val / 512 * 8 + (i 0).val / 1024, by rw [hN]; omega⟩ : Fin cfg1.N)
  intro a
  match a with
  | ⟨0, _⟩ => show win1_4.index _ (0 : Fin 2) * 1024 ≤ (i 0).val ∧ (i 0).val < win1_4.index _ (0 : Fin 2) * 1024 + 1024; rw [e4_0]; dsimp only; omega
  | ⟨1, _⟩ => show win1_4.index _ (1 : Fin 2) * 512 ≤ (i 1).val ∧ (i 1).val < win1_4.index _ (1 : Fin 2) * 512 + 512; rw [e4_1]; dsimp only; omega

/-- The activations of the first 5120 columns, as the region finds its arrays. -/
def G1_4 (c : Dev nD) : (⟨2, S8192x5120.size⟩ : Shape).Idx → EReal := fun i =>
  glu (∑ k : Fin 2048, rd S8192x2048 (V c main_v1_1) (ix2 (i 0) k) * rd S2x2048x11008 (V c main_arg2) (ix3 (1 : Fin 2) k ⟨(i 1).val, by have := idx2_lt1 i; omega⟩))
    (∑ k : Fin 2048, rd S8192x2048 (V c main_v1_1) (ix2 (i 0) k) * rd S2x2048x11008 (V c main_arg2) (ix3 (1 : Fin 2) k ⟨5504 + (i 1).val, by have := idx2_lt1 i; omega⟩))

/-- What a point writes back to output window 4 is that function read through the block. -/
theorem flushed1_4 (c : Dev nD) (t : Fin cfg1.N) :
    (dat1 V c).flushed 4 t = ((cfg1.win 4).blk t).view.read (Elt Ideal) (G1_4 V c) := by
  obtain ⟨e0_0, e0_1, e1_0, e1_1, e1_2, e2_0, e2_1, e2_2, e3_0, e3_1, e3_2, e4_0, e4_1, e5_0, e5_1⟩ := where1 t
  refine funext fun (y : S1024x512.Idx) => ?_
  have q0 : ((((cfg1.win 4).blk t).view.emb y : S8192x5120.Idx) 0).val = t.val % 8 * 1024 + (y 0).val := by
    show win1_4.index t (0 : Fin 2) * 1024 + 1 * (y 0).val = _
    rw [e4_0]; omega
  have q1 : ((((cfg1.win 4).blk t).view.emb y : S8192x5120.Idx) 1).val = t.val / 8 * 512 + (y 1).val := by
    show win1_4.index t (1 : Fin 2) * 512 + 1 * (y 1).val = _
    rw [e4_1]; omega
  show (dat1 V c).after 4 t y = G1_4 V c (((cfg1.win 4).blk t).view.emb y)
  generalize (((cfg1.win 4).blk t).view.emb y : S8192x5120.Idx) = i at q0 q1
  have b0 := idx2_lt0 y
  have b1 := idx2_lt1 y
  have hN : cfg1.N = 80 := by decide
  have ht : t.val < 80 := lt_of_lt_of_eq t.isLt hN
  rw [after1_4]
  rw [k1_pay4_at]
  have hx : ∀ k : Fin 2048, iblk1 V c 0 t (ix2 (y 0) k) = rd S8192x2048 (V c main_v1_1) (ix2 (i 0) k) := fun k =>
    iblk1_0_at V c t _ _ (by rw [← q0]) (by show k.val = 0 * 2048 + k.val; omega)
  unfold G1_4
  refine congrArg₂ glu (Finset.sum_congr rfl fun k _ => ?_) (Finset.sum_congr rfl fun k _ => ?_)
  · rw [k1_pay1_at]
    refine congrArg₂ (· * ·) (hx k) (iblk1_1_at V c t _ _ ?_ ?_ ?_)
    · rfl
    · show k.val = 0 + k.val; omega
    · show (i 1).val = t.val / 8 * 512 + (y 1).val; omega
  · rw [k1_pay2_at]
    refine congrArg₂ (· * ·) (hx k) (iblk1_2_at V c t _ _ ?_ ?_ ?_)
    · rfl
    · show k.val = 0 + k.val; omega
    · show 5504 + (i 1).val = 5504 + t.val / 8 * 512 + (y 1).val; omega

/-- Output window 4's array at the region's exit. -/
theorem final1_4 (c : Dev nD) : (dat1 V c).arrAt 4 cfg1.N = G1_4 V c :=
  (dat1 V c).arrAt_eq_of_cover 4 _ (fun t _ => flushed1_4 V c t) covered1_4

/-- Every point writes output window 5 back. -/
theorem flush1_5_all : ∀ t : Fin cfg1.N, (cfg1.win 5).flush t = true :=
  (by decide +kernel : ∀ t : Fin grid1.N, win1_5.flush t = true)

/-- An index of the array is in a point's block iff each coordinate is in the block's range. -/
theorem mem1_5 (t : Fin cfg1.N) (i : S5120x2048.Idx) :
    i ∈ ((cfg1.win 5).blk t).view.set ↔ ∀ a : Fin 2, win1_5.index t a * S64x2048.size a ≤ (i a).val ∧ (i a).val < win1_5.index t a * S64x2048.size a + S64x2048.size a := by
  show i ∈ ((View.whole main_v2_1).slice (win1_5.rect t)).set ↔ _
  rw [View.set_slice_whole, Rect.mem_set_unit]
  exact Iff.rfl

/-- Every index of output window 5's array is in the block of a point that writes back. -/
theorem covered1_5 (i : S5120x2048.Idx) :
    ∃ t : Fin cfg1.N, (cfg1.win 5).flush t = true ∧ i ∈ ((cfg1.win 5).blk t).view.set := by
  have hi0 : (i 0).val < 5120 := (i 0).isLt
  have hi1 : (i 1).val < 2048 := (i 1).isLt
  have hN : cfg1.N = 80 := by decide
  refine ⟨⟨(i 0).val / 64, by rw [hN]; omega⟩, (flush1_5_all _), ?_⟩
  rw [mem1_5]
  obtain ⟨e0_0, e0_1, e1_0, e1_1, e1_2, e2_0, e2_1, e2_2, e3_0, e3_1, e3_2, e4_0, e4_1, e5_0, e5_1⟩ := where1 (⟨(i 0).val / 64, by rw [hN]; omega⟩ : Fin cfg1.N)
  intro a
  match a with
  | ⟨0, _⟩ => show win1_5.index _ (0 : Fin 2) * 64 ≤ (i 0).val ∧ (i 0).val < win1_5.index _ (0 : Fin 2) * 64 + 64; rw [e5_0]; dsimp only; omega
  | ⟨1, _⟩ => show win1_5.index _ (1 : Fin 2) * 2048 ≤ (i 1).val ∧ (i 1).val < win1_5.index _ (1 : Fin 2) * 2048 + 2048; rw [e5_1]; dsimp only; omega

/-- The first 5120 rows of the output weight, as the region finds its arrays. -/
def G1_5 (c : Dev nD) : (⟨2, S5120x2048.size⟩ : Shape).Idx → EReal := fun i =>
  rd S2x5504x2048 (V c main_arg3) (ix3 (1 : Fin 2) ⟨(i 0).val, by have := idx2_lt0 i; omega⟩ (i 1))

/-- What a point writes back to output window 5 is that function read through the block. -/
theorem flushed1_5 (c : Dev nD) (t : Fin cfg1.N) :
    (dat1 V c).flushed 5 t = ((cfg1.win 5).blk t).view.read (Elt Ideal) (G1_5 V c) := by
  obtain ⟨e0_0, e0_1, e1_0, e1_1, e1_2, e2_0, e2_1, e2_2, e3_0, e3_1, e3_2, e4_0, e4_1, e5_0, e5_1⟩ := where1 t
  refine funext fun (y : S64x2048.Idx) => ?_
  have q0 : ((((cfg1.win 5).blk t).view.emb y : S5120x2048.Idx) 0).val = t.val * 64 + (y 0).val := by
    show win1_5.index t (0 : Fin 2) * 64 + 1 * (y 0).val = _
    rw [e5_0]; omega
  have q1 : ((((cfg1.win 5).blk t).view.emb y : S5120x2048.Idx) 1).val = 0 * 2048 + (y 1).val := by
    show win1_5.index t (1 : Fin 2) * 2048 + 1 * (y 1).val = _
    rw [e5_1]; omega
  show (dat1 V c).after 5 t y = G1_5 V c (((cfg1.win 5).blk t).view.emb y)
  generalize (((cfg1.win 5).blk t).view.emb y : S5120x2048.Idx) = i at q0 q1
  have b0 := idx2_lt0 y
  have b1 := idx2_lt1 y
  have hN : cfg1.N = 80 := by decide
  have ht : t.val < 80 := lt_of_lt_of_eq t.isLt hN
  rw [after1_5]
  rw [k1_pay3_at]
  unfold G1_5
  refine iblk1_3_at V c t _ _ ?_ ?_ ?_
  · rfl
  · show (i 0).val = t.val * 64 + (y 0).val; omega
  · show (i 1).val = 0 + (y 1).val; omega

/-- Output window 5's array at the region's exit. -/
theorem final1_5 (c : Dev nD) : (dat1 V c).arrAt 5 cfg1.N = G1_5 V c :=
  (dat1 V c).arrAt_eq_of_cover 5 _ (fun t _ => flushed1_5 V c t) covered1_5

end Cert.Kernel3Ideal.Hand

end
-- ==== Proof.P3Value2.lean ====
module

public import proofs.«01_k».proof.Proof.P3Region2
public import proofs.«01_k».proof.Proof.P3Pay

@[expose] public section

set_option maxRecDepth 16384

noncomputable section

namespace Cert.Kernel3Ideal.Hand

open Cert.Kernel3Ideal Cert.Kernel3Ideal.Gen Cert.Hand
open Idealize.ShloMosaic Idealize.ShloMosaic.TcCoe Idealize.ShloMosaic.ValueIdx Idealize.SL.Sem
open Idealize.ShloMosaic.Pipeline (Dat Cfg Window)

variable (V : (c : Dev nD) → Valuation τ sig (Elt Ideal))

/-- Where each window's block sits, at every point of the grid. -/
theorem where2 : ∀ t : Fin grid2.N, win2_0.index t (0 : Fin 2) = t.val % 16 ∧ win2_0.index t (1 : Fin 2) = t.val / 16 ∧ win2_1.index t (0 : Fin 2) = t.val % 16 ∧ win2_1.index t (1 : Fin 2) = 0 ∧ win2_2.index t (0 : Fin 2) = t.val % 16 ∧ win2_2.index t (1 : Fin 2) = 0 ∧ win2_3.index t (0 : Fin 3) = 0 ∧ win2_3.index t (1 : Fin 3) = 0 ∧ win2_3.index t (2 : Fin 3) = t.val / 16 * 1024 ∧ win2_4.index t (0 : Fin 3) = 0 ∧ win2_4.index t (1 : Fin 3) = 0 ∧ win2_4.index t (2 : Fin 3) = t.val / 16 * 1024 ∧ win2_5.index t (0 : Fin 2) = t.val % 16 ∧ win2_5.index t (1 : Fin 2) = t.val / 16 := by
  decide +kernel

/-- Window 0's block at a point, read off its array. -/
theorem iblk2_0_at (c : Dev nD) (t : Fin cfg2.N) (y : S512x1024.Idx) (i : S8192x2048.Idx) (h0 : (i (0 : Fin 2)).val = t.val % 16 * 512 + (y (0 : Fin 2)).val) (h1 : (i (1 : Fin 2)).val = t.val / 16 * 1024 + (y (1 : Fin 2)).val) :
    iblk2 V c 0 t y = (rd S8192x2048 (V c main_arg0)) i := by
  obtain ⟨e0_0, e0_1, e1_0, e1_1, e2_0, e2_1, e3_0, e3_1, e3_2, e4_0, e4_1, e4_2, e5_0, e5_1⟩ := where2 t
  unfold iblk2
  show (rd S8192x2048 (V c main_arg0)) (((cfg2.win 0).blk t).view.emb y) = _
  refine congrArg ((rd S8192x2048 (V c main_arg0))) (funext fun a => Fin.ext ?_)
  exact (match a with
    | ⟨0, _⟩ => by show win2_0.index t (0 : Fin 2) * 512 + 1 * (y (0 : Fin 2)).val = (i (0 : Fin 2)).val; rw [h0, e0_0]; omega
    | ⟨1, _⟩ => by show win2_0.index t (1 : Fin 2) * 1024 + 1 * (y (1 : Fin 2)).val = (i (1 : Fin 2)).val; rw [h1, e0_1]; omega)

/-- Window 1's block at a point, read off its array. -/
theorem iblk2_1_at (c : Dev nD) (t : Fin cfg2.N) (y : S512x5120.Idx) (i : S8192x5120.Idx) (h0 : (i (0 : Fin 2)).val = t.val % 16 * 512 + (y (0 : Fin 2)).val) (h1 : (i (1 : Fin 2)).val = 0 * 5120 + (y (1 : Fin 2)).val) :
    iblk2 V c 1 t y = (rd S8192x5120 (V c main_v2_0)) i := by
  obtain ⟨e0_0, e0_1, e1_0, e1_1, e2_0, e2_1, e3_0, e3_1, e3_2, e4_0, e4_1, e4_2, e5_0, e5_1⟩ := where2 t
  unfold iblk2
  show (rd S8192x5120 (V c main_v2_0)) (((cfg2.win 1).blk t).view.emb y) = _
  refine congrArg ((rd S8192x5120 (V c main_v2_0))) (funext fun a => Fin.ext ?_)
  exact (match a with
    | ⟨0, _⟩ => by show win2_1.index t (0 : Fin 2) * 512 + 1 * (y (0 : Fin 2)).val = (i (0 : Fin 2)).val; rw [h0, e1_0]; omega
    | ⟨1, _⟩ => by show win2_1.index t (1 : Fin 2) * 5120 + 1 * (y (1 : Fin 2)).val = (i (1 : Fin 2)).val; rw [h1, e1_1]; omega)

/-- Window 2's block at a point, read off its array. -/
theorem iblk2_2_at (c : Dev nD) (t : Fin cfg2.N) (y : S512x384.Idx) (i : S8192x384.Idx) (h0 : (i (0 : Fin 2)).val = t.val % 16 * 512 + (y (0 : Fin 2)).val) (h1 : (i (1 : Fin 2)).val = 0 * 384 + (y (1 : Fin 2)).val) :
    iblk2 V c 2 t y = (rd S8192x384 (V c main_v1_0)) i := by
  obtain ⟨e0_0, e0_1, e1_0, e1_1, e2_0, e2_1, e3_0, e3_1, e3_2, e4_0, e4_1, e4_2, e5_0, e5_1⟩ := where2 t
  unfold iblk2
  show (rd S8192x384 (V c main_v1_0)) (((cfg2.win 2).blk t).view.emb y) = _
  refine congrArg ((rd S8192x384 (V c main_v1_0))) (funext fun a => Fin.ext ?_)
  exact (match a with
    | ⟨0, _⟩ => by show win2_2.index t (0 : Fin 2) * 512 + 1 * (y (0 : Fin 2)).val = (i (0 : Fin 2)).val; rw [h0, e2_0]; omega
    | ⟨1, _⟩ => by show win2_2.index t (1 : Fin 2) * 384 + 1 * (y (1 : Fin 2)).val = (i (1 : Fin 2)).val; rw [h1, e2_1]; omega)

/-- Window 3's block at a point, read off its array. -/
theorem iblk2_3_at (c : Dev nD) (t : Fin cfg2.N) (y : S1x5120x1024.Idx) (i : S1x5120x2048.Idx) (h0 : (i (0 : Fin 3)).val = 0 + (y (0 : Fin 3)).val) (h1 : (i (1 : Fin 3)).val = 0 + (y (1 : Fin 3)).val) (h2 : (i (2 : Fin 3)).val = t.val / 16 * 1024 + (y (2 : Fin 3)).val) :
    iblk2 V c 3 t y = (rd S1x5120x2048 (V c main_v3)) i := by
  obtain ⟨e0_0, e0_1, e1_0, e1_1, e2_0, e2_1, e3_0, e3_1, e3_2, e4_0, e4_1, e4_2, e5_0, e5_1⟩ := where2 t
  unfold iblk2
  show (rd S1x5120x2048 (V c main_v3)) (((cfg2.win 3).blk t).view.emb y) = _
  refine congrArg ((rd S1x5120x2048 (V c main_v3))) (funext fun a => Fin.ext ?_)
  exact (match a with
    | ⟨0, _⟩ => by show win2_3.index t (0 : Fin 3) + 1 * (y (0 : Fin 3)).val = (i (0 : Fin 3)).val; rw [h0, e3_0]; omega
    | ⟨1, _⟩ => by show win2_3.index t (1 : Fin 3) + 1 * (y (1 : Fin 3)).val = (i (1 : Fin 3)).val; rw [h1, e3_1]; omega
    | ⟨2, _⟩ => by show win2_3.index t (2 : Fin 3) + 1 * (y (2 : Fin 3)).val = (i (2 : Fin 3)).val; rw [h2, e3_2]; omega)

/-- Window 4's block at a point, read off its array. -/
theorem iblk2_4_at (c : Dev nD) (t : Fin cfg2.N) (y : S1x384x1024.Idx) (i : S1x384x2048.Idx) (h0 : (i (0 : Fin 3)).val = 0 + (y (0 : Fin 3)).val) (h1 : (i (1 : Fin 3)).val = 0 + (y (1 : Fin 3)).val) (h2 : (i (2 : Fin 3)).val = t.val / 16 * 1024 + (y (2 : Fin 3)).val) :
    iblk2 V c 4 t y = (rd S1x384x2048 (V c main_v4)) i := by
  obtain ⟨e0_0, e0_1, e1_0, e1_1, e2_0, e2_1, e3_0, e3_1, e3_2, e4_0, e4_1, e4_2, e5_0, e5_1⟩ := where2 t
  unfold iblk2
  show (rd S1x384x2048 (V c main_v4)) (((cfg2.win 4).blk t).view.emb y) = _
  refine congrArg ((rd S1x384x2048 (V c main_v4))) (funext fun a => Fin.ext ?_)
  exact (match a with
    | ⟨0, _⟩ => by show win2_4.index t (0 : Fin 3) + 1 * (y (0 : Fin 3)).val = (i (0 : Fin 3)).val; rw [h0, e4_0]; omega
    | ⟨1, _⟩ => by show win2_4.index t (1 : Fin 3) + 1 * (y (1 : Fin 3)).val = (i (1 : Fin 3)).val; rw [h1, e4_1]; omega
    | ⟨2, _⟩ => by show win2_4.index t (2 : Fin 3) + 1 * (y (2 : Fin 3)).val = (i (2 : Fin 3)).val; rw [h2, e4_2]; omega)

/-- Every point writes output window 5 back. -/
theorem flush2_5_all : ∀ t : Fin cfg2.N, (cfg2.win 5).flush t = true :=
  (by decide +kernel : ∀ t : Fin grid2.N, win2_5.flush t = true)

/-- An index of the array is in a point's block iff each coordinate is in the block's range. -/
theorem mem2_5 (t : Fin cfg2.N) (i : S8192x2048.Idx) :
    i ∈ ((cfg2.win 5).blk t).view.set ↔ ∀ a : Fin 2, win2_5.index t a * S512x1024.size a ≤ (i a).val ∧ (i a).val < win2_5.index t a * S512x1024.size a + S512x1024.size a := by
  show i ∈ ((View.whole main_v5).slice (win2_5.rect t)).set ↔ _
  rw [View.set_slice_whole, Rect.mem_set_unit]
  exact Iff.rfl

/-- Every index of output window 5's array is in the block of a point that writes back. -/
theorem covered2_5 (i : S8192x2048.Idx) :
    ∃ t : Fin cfg2.N, (cfg2.win 5).flush t = true ∧ i ∈ ((cfg2.win 5).blk t).view.set := by
  have hi0 : (i 0).val < 8192 := (i 0).isLt
  have hi1 : (i 1).val < 2048 := (i 1).isLt
  have hN : cfg2.N = 32 := by decide
  refine ⟨⟨(i 1).val / 1024 * 16 + (i 0).val / 512, by rw [hN]; omega⟩, (flush2_5_all _), ?_⟩
  rw [mem2_5]
  obtain ⟨e0_0, e0_1, e1_0, e1_1, e2_0, e2_1, e3_0, e3_1, e3_2, e4_0, e4_1, e4_2, e5_0, e5_1⟩ := where2 (⟨(i 1).val / 1024 * 16 + (i 0).val / 512, by rw [hN]; omega⟩ : Fin cfg2.N)
  intro a
  match a with
  | ⟨0, _⟩ => show win2_5.index _ (0 : Fin 2) * 512 ≤ (i 0).val ∧ (i 0).val < win2_5.index _ (0 : Fin 2) * 512 + 512; rw [e5_0]; dsimp only; omega
  | ⟨1, _⟩ => show win2_5.index _ (1 : Fin 2) * 1024 ≤ (i 1).val ∧ (i 1).val < win2_5.index _ (1 : Fin 2) * 1024 + 1024; rw [e5_1]; dsimp only; omega

/-- The stream with half of the projected activations added, as the region finds its arrays. -/
def G2_5 (c : Dev nD) : (⟨2, S8192x2048.size⟩ : Shape).Idx → EReal := fun i =>
  rd S8192x2048 (V c main_arg0) i + half * ((∑ k : Fin 5120, rd S8192x5120 (V c main_v2_0) (ix2 (i 0) k) * rd S1x5120x2048 (V c main_v3) (ix3 (0 : Fin 1) k (i 1)))
    + ∑ k : Fin 384, rd S8192x384 (V c main_v1_0) (ix2 (i 0) k) * rd S1x384x2048 (V c main_v4) (ix3 (0 : Fin 1) k (i 1)))

/-- What a point writes back to output window 5 is that function read through the block. -/
theorem flushed2_5 (c : Dev nD) (t : Fin cfg2.N) :
    (dat2 V c).flushed 5 t = ((cfg2.win 5).blk t).view.read (Elt Ideal) (G2_5 V c) := by
  obtain ⟨e0_0, e0_1, e1_0, e1_1, e2_0, e2_1, e3_0, e3_1, e3_2, e4_0, e4_1, e4_2, e5_0, e5_1⟩ := where2 t
  refine funext fun (y : S512x1024.Idx) => ?_
  have q0 : ((((cfg2.win 5).blk t).view.emb y : S8192x2048.Idx) 0).val = t.val % 16 * 512 + (y 0).val := by
    show win2_5.index t (0 : Fin 2) * 512 + 1 * (y 0).val = _
    rw [e5_0]; omega
  have q1 : ((((cfg2.win 5).blk t).view.emb y : S8192x2048.Idx) 1).val = t.val / 16 * 1024 + (y 1).val := by
    show win2_5.index t (1 : Fin 2) * 1024 + 1 * (y 1).val = _
    rw [e5_1]; omega
  show (dat2 V c).after 5 t y = G2_5 V c (((cfg2.win 5).blk t).view.emb y)
  generalize (((cfg2.win 5).blk t).view.emb y : S8192x2048.Idx) = i at q0 q1
  have b0 := idx2_lt0 y
  have b1 := idx2_lt1 y
  have hN : cfg2.N = 32 := by decide
  have ht : t.val < 32 := lt_of_lt_of_eq t.isLt hN
  rw [after2_5]
  rw [k2_pay1_at]
  unfold G2_5
  refine congrArg₂ (· + ·) (iblk2_0_at V c t y i q0 q1) (congrArg (half * ·) (congrArg₂ (· + ·) (Finset.sum_congr rfl fun k _ => ?_) (Finset.sum_congr rfl fun k _ => ?_)))
  · refine congrArg₂ (· * ·) (iblk2_1_at V c t _ _ ?_ ?_) (iblk2_3_at V c t _ _ ?_ ?_ ?_)
    · exact q0
    · show k.val = 0 * 5120 + k.val; omega
    · rfl
    · show k.val = 0 + k.val; omega
    · exact q1
  · refine congrArg₂ (· * ·) (iblk2_2_at V c t _ _ ?_ ?_) (iblk2_4_at V c t _ _ ?_ ?_ ?_)
    · exact q0
    · show k.val = 0 * 384 + k.val; omega
    · rfl
    · show k.val = 0 + k.val; omega
    · exact q1

/-- Output window 5's array at the region's exit. -/
theorem final2_5 (c : Dev nD) : (dat2 V c).arrAt 5 cfg2.N = G2_5 V c :=
  (dat2 V c).arrAt_eq_of_cover 5 _ (fun t _ => flushed2_5 V c t) covered2_5

end Cert.Kernel3Ideal.Hand

end
-- ==== Proof.P3Value3.lean ====
module

public import proofs.«01_k».proof.Proof.P3Region3
public import proofs.«01_k».proof.Proof.P3Pay

@[expose] public section

set_option maxRecDepth 16384

noncomputable section

namespace Cert.Kernel3Ideal.Hand

open Cert.Kernel3Ideal Cert.Kernel3Ideal.Gen Cert.Hand
open Idealize.ShloMosaic Idealize.ShloMosaic.TcCoe Idealize.ShloMosaic.ValueIdx Idealize.SL.Sem
open Idealize.ShloMosaic.Pipeline (Dat Cfg Window)

variable (V : (c : Dev nD) → Valuation τ sig (Elt Ideal))

/-- Where each window's block sits, at every point of the grid. -/
theorem where3 : ∀ t : Fin grid3.N, win3_0.index t (0 : Fin 2) = t.val ∧ win3_0.index t (1 : Fin 2) = 0 ∧ win3_1.index t (0 : Fin 4) = 1 ∧ win3_1.index t (1 : Fin 4) = 0 ∧ win3_1.index t (2 : Fin 4) = t.val ∧ win3_1.index t (3 : Fin 4) = 0 ∧ win3_2.index t (0 : Fin 3) = 1 ∧ win3_2.index t (1 : Fin 3) = 0 ∧ win3_2.index t (2 : Fin 3) = 0 ∧ win3_3.index t (0 : Fin 3) = 1 ∧ win3_3.index t (1 : Fin 3) = 0 ∧ win3_3.index t (2 : Fin 3) = 0 ∧ win3_4.index t (0 : Fin 2) = 0 ∧ win3_4.index t (1 : Fin 2) = 0 ∧ win3_5.index t (0 : Fin 2) = 0 ∧ win3_5.index t (1 : Fin 2) = 0 ∧ win3_6.index t (0 : Fin 2) = 0 ∧ win3_6.index t (1 : Fin 2) = 0 ∧ win3_7.index t (0 : Fin 2) = t.val ∧ win3_7.index t (1 : Fin 2) = 0 := by
  decide +kernel

/-- Window 0's block at a point, read off its array. -/
theorem iblk3_0_at (c : Dev nD) (t : Fin cfg3.N) (y : S256x2048.Idx) (i : S8192x2048.Idx) (h0 : (i (0 : Fin 2)).val = t.val * 256 + (y (0 : Fin 2)).val) (h1 : (i (1 : Fin 2)).val = 0 * 2048 + (y (1 : Fin 2)).val) :
    iblk3 V c 0 t y = (rd S8192x2048 (V c main_v5)) i := by
  obtain ⟨e0_0, e0_1, e1_0, e1_1, e1_2, e1_3, e2_0, e2_1, e2_2, e3_0, e3_1, e3_2, e4_0, e4_1, e5_0, e5_1, e6_0, e6_1, e7_0, e7_1⟩ := where3 t
  unfold iblk3
  show (rd S8192x2048 (V c main_v5)) (((cfg3.win 0).blk t).view.emb y) = _
  refine congrArg ((rd S8192x2048 (V c main_v5))) (funext fun a => Fin.ext ?_)
  exact (match a with
    | ⟨0, _⟩ => by show win3_0.index t (0 : Fin 2) * 256 + 1 * (y (0 : Fin 2)).val = (i (0 : Fin 2)).val; rw [h0, e0_0]; omega
    | ⟨1, _⟩ => by show win3_0.index t (1 : Fin 2) * 2048 + 1 * (y (1 : Fin 2)).val = (i (1 : Fin 2)).val; rw [h1, e0_1]; omega)

/-- Window 1's block at a point, read off its array. -/
theorem iblk3_1_at (c : Dev nD) (t : Fin cfg3.N) (y : S1x1x256x256.Idx) (i : S2x1x8192x256.Idx) (h0 : (i (0 : Fin 4)).val = 1 * 1 + (y (0 : Fin 4)).val) (h1 : (i (1 : Fin 4)).val = 0 * 1 + (y (1 : Fin 4)).val) (h2 : (i (2 : Fin 4)).val = t.val * 256 + (y (2 : Fin 4)).val) (h3 : (i (3 : Fin 4)).val = 0 * 256 + (y (3 : Fin 4)).val) :
    iblk3 V c 1 t y = (rd S2x1x8192x256 (V c main_arg4)) i := by
  obtain ⟨e0_0, e0_1, e1_0, e1_1, e1_2, e1_3, e2_0, e2_1, e2_2, e3_0, e3_1, e3_2, e4_0, e4_1, e5_0, e5_1, e6_0, e6_1, e7_0, e7_1⟩ := where3 t
  unfold iblk3
  show (rd S2x1x8192x256 (V c main_arg4)) (((cfg3.win 1).blk t).view.emb y) = _
  refine congrArg ((rd S2x1x8192x256 (V c main_arg4))) (funext fun a => Fin.ext ?_)
  exact (match a with
    | ⟨0, _⟩ => by show win3_1.index t (0 : Fin 4) * 1 + 1 * (y (0 : Fin 4)).val = (i (0 : Fin 4)).val; rw [h0, e1_0]; omega
    | ⟨1, _⟩ => by show win3_1.index t (1 : Fin 4) * 1 + 1 * (y (1 : Fin 4)).val = (i (1 : Fin 4)).val; rw [h1, e1_1]; omega
    | ⟨2, _⟩ => by show win3_1.index t (2 : Fin 4) * 256 + 1 * (y (2 : Fin 4)).val = (i (2 : Fin 4)).val; rw [h2, e1_2]; omega
    | ⟨3, _⟩ => by show win3_1.index t (3 : Fin 4) * 256 + 1 * (y (3 : Fin 4)).val = (i (3 : Fin 4)).val; rw [h3, e1_3]; omega)

/-- Window 2's block at a point, read off its array. -/
theorem iblk3_2_at (c : Dev nD) (t : Fin cfg3.N) (y : S1x2048x2048.Idx) (i : S2x2048x2048.Idx) (h0 : (i (0 : Fin 3)).val = 1 * 1 + (y (0 : Fin 3)).val) (h1 : (i (1 : Fin 3)).val = 0 * 2048 + (y (1 : Fin 3)).val) (h2 : (i (2 : Fin 3)).val = 0 * 2048 + (y (2 : Fin 3)).val) :
    iblk3 V c 2 t y = (rd S2x2048x2048 (V c main_arg6)) i := by
  obtain ⟨e0_0, e0_1, e1_0, e1_1, e1_2, e1_3, e2_0, e2_1, e2_2, e3_0, e3_1, e3_2, e4_0, e4_1, e5_0, e5_1, e6_0, e6_1, e7_0, e7_1⟩ := where3 t
  unfold iblk3
  show (rd S2x2048x2048 (V c main_arg6)) (((cfg3.win 2).blk t).view.emb y) = _
  refine congrArg ((rd S2x2048x2048 (V c main_arg6))) (funext fun a => Fin.ext ?_)
  exact (match a with
    | ⟨0, _⟩ => by show win3_2.index t (0 : Fin 3) * 1 + 1 * (y (0 : Fin 3)).val = (i (0 : Fin 3)).val; rw [h0, e2_0]; omega
    | ⟨1, _⟩ => by show win3_2.index t (1 : Fin 3) * 2048 + 1 * (y (1 : Fin 3)).val = (i (1 : Fin 3)).val; rw [h1, e2_1]; omega
    | ⟨2, _⟩ => by show win3_2.index t (2 : Fin 3) * 2048 + 1 * (y (2 : Fin 3)).val = (i (2 : Fin 3)).val; rw [h2, e2_2]; omega)

/-- Window 3's block at a point, read off its array. -/
theorem iblk3_3_at (c : Dev nD) (t : Fin cfg3.N) (y : S1x256x2048.Idx) (i : S2x256x2048.Idx) (h0 : (i (0 : Fin 3)).val = 1 * 1 + (y (0 : Fin 3)).val) (h1 : (i (1 : Fin 3)).val = 0 * 256 + (y (1 : Fin 3)).val) (h2 : (i (2 : Fin 3)).val = 0 * 2048 + (y (2 : Fin 3)).val) :
    iblk3 V c 3 t y = (rd S2x256x2048 (V c main_arg7)) i := by
  obtain ⟨e0_0, e0_1, e1_0, e1_1, e1_2, e1_3, e2_0, e2_1, e2_2, e3_0, e3_1, e3_2, e4_0, e4_1, e5_0, e5_1, e6_0, e6_1, e7_0, e7_1⟩ := where3 t
  unfold iblk3
  show (rd S2x256x2048 (V c main_arg7)) (((cfg3.win 3).blk t).view.emb y) = _
  refine congrArg ((rd S2x256x2048 (V c main_arg7))) (funext fun a => Fin.ext ?_)
  exact (match a with
    | ⟨0, _⟩ => by show win3_3.index t (0 : Fin 3) * 1 + 1 * (y (0 : Fin 3)).val = (i (0 : Fin 3)).val; rw [h0, e3_0]; omega
    | ⟨1, _⟩ => by show win3_3.index t (1 : Fin 3) * 256 + 1 * (y (1 : Fin 3)).val = (i (1 : Fin 3)).val; rw [h1, e3_1]; omega
    | ⟨2, _⟩ => by show win3_3.index t (2 : Fin 3) * 2048 + 1 * (y (2 : Fin 3)).val = (i (2 : Fin 3)).val; rw [h2, e3_2]; omega)

/-- Window 4's block at a point, read off its array. -/
theorem iblk3_4_at (c : Dev nD) (t : Fin cfg3.N) (y : S1x2048.Idx) (i : S1x2048.Idx) (h0 : (i (0 : Fin 2)).val = 0 * 1 + (y (0 : Fin 2)).val) (h1 : (i (1 : Fin 2)).val = 0 * 2048 + (y (1 : Fin 2)).val) :
    iblk3 V c 4 t y = (rd S1x2048 (V c main_v6)) i := by
  obtain ⟨e0_0, e0_1, e1_0, e1_1, e1_2, e1_3, e2_0, e2_1, e2_2, e3_0, e3_1, e3_2, e4_0, e4_1, e5_0, e5_1, e6_0, e6_1, e7_0, e7_1⟩ := where3 t
  unfold iblk3
  show (rd S1x2048 (V c main_v6)) (((cfg3.win 4).blk t).view.emb y) = _
  refine congrArg ((rd S1x2048 (V c main_v6))) (funext fun a => Fin.ext ?_)
  exact (match a with
    | ⟨0, _⟩ => by show win3_4.index t (0 : Fin 2) * 1 + 1 * (y (0 : Fin 2)).val = (i (0 : Fin 2)).val; rw [h0, e4_0]; omega
    | ⟨1, _⟩ => by show win3_4.index t (1 : Fin 2) * 2048 + 1 * (y (1 : Fin 2)).val = (i (1 : Fin 2)).val; rw [h1, e4_1]; omega)

/-- Window 5's block at a point, read off its array. -/
theorem iblk3_5_at (c : Dev nD) (t : Fin cfg3.N) (y : S1x2048.Idx) (i : S1x2048.Idx) (h0 : (i (0 : Fin 2)).val = 0 * 1 + (y (0 : Fin 2)).val) (h1 : (i (1 : Fin 2)).val = 0 * 2048 + (y (1 : Fin 2)).val) :
    iblk3 V c 5 t y = (rd S1x2048 (V c main_v7)) i := by
  obtain ⟨e0_0, e0_1, e1_0, e1_1, e1_2, e1_3, e2_0, e2_1, e2_2, e3_0, e3_1, e3_2, e4_0, e4_1, e5_0, e5_1, e6_0, e6_1, e7_0, e7_1⟩ := where3 t
  unfold iblk3
  show (rd S1x2048 (V c main_v7)) (((cfg3.win 5).blk t).view.emb y) = _
  refine congrArg ((rd S1x2048 (V c main_v7))) (funext fun a => Fin.ext ?_)
  exact (match a with
    | ⟨0, _⟩ => by show win3_5.index t (0 : Fin 2) * 1 + 1 * (y (0 : Fin 2)).val = (i (0 : Fin 2)).val; rw [h0, e5_0]; omega
    | ⟨1, _⟩ => by show win3_5.index t (1 : Fin 2) * 2048 + 1 * (y (1 : Fin 2)).val = (i (1 : Fin 2)).val; rw [h1, e5_1]; omega)

/-- Window 6's block at a point, read off its array. -/
theorem iblk3_6_at (c : Dev nD) (t : Fin cfg3.N) (y : S1x2048.Idx) (i : S1x2048.Idx) (h0 : (i (0 : Fin 2)).val = 0 * 1 + (y (0 : Fin 2)).val) (h1 : (i (1 : Fin 2)).val = 0 * 2048 + (y (1 : Fin 2)).val) :
    iblk3 V c 6 t y = (rd S1x2048 (V c main_v8)) i := by
  obtain ⟨e0_0, e0_1, e1_0, e1_1, e1_2, e1_3, e2_0, e2_1, e2_2, e3_0, e3_1, e3_2, e4_0, e4_1, e5_0, e5_1, e6_0, e6_1, e7_0, e7_1⟩ := where3 t
  unfold iblk3
  show (rd S1x2048 (V c main_v8)) (((cfg3.win 6).blk t).view.emb y) = _
  refine congrArg ((rd S1x2048 (V c main_v8))) (funext fun a => Fin.ext ?_)
  exact (match a with
    | ⟨0, _⟩ => by show win3_6.index t (0 : Fin 2) * 1 + 1 * (y (0 : Fin 2)).val = (i (0 : Fin 2)).val; rw [h0, e6_0]; omega
    | ⟨1, _⟩ => by show win3_6.index t (1 : Fin 2) * 2048 + 1 * (y (1 : Fin 2)).val = (i (1 : Fin 2)).val; rw [h1, e6_1]; omega)

/-- The stream with the gated normalised embeddings added, in a point's block: the formula over the blocks is the formula over the arrays. -/
theorem ple_blk3 (c : Dev nD) (t : Fin cfg3.N) (y : S256x2048.Idx) (i : S8192x2048.Idx)
    (q0 : (i 0).val = t.val * 256 + (y 0).val) (q1 : (i 1).val = 0 * 2048 + (y 1).val) :
    rd S256x2048 (iblk3 V c 0 t) y + hnS (fun j => ∑ k : Fin 256, rd S1x1x256x256 (iblk3 V c 1 t) (ix4 (0 : Fin 1) (0 : Fin 1) (y 0) k) * rd S256x2048 (k3_pay3 (iblk3 V c 3 t)) (ix2 k j)) (fun k => rd S1x2048 (iblk3 V c 5 t) (ix2 (0 : Fin 1) k)) (y 1)
        * Ideal.logistic (∑ k : Fin 2048, hnS (fun k => rd S256x2048 (iblk3 V c 0 t) (ix2 (y 0) k)) (fun k => rd S1x2048 (iblk3 V c 4 t) (ix2 (0 : Fin 1) k)) k * rd S2048x2048 (k3_pay2 (iblk3 V c 2 t)) (ix2 k (y 1)))
      = ple 1 (rd S8192x2048 (V c main_v5)) (rd S2x1x8192x256 (V c main_arg4)) (fun k => rd S1x2048 (V c main_v6) (ix2 (0 : Fin 1) k)) (rd S2x2048x2048 (V c main_arg6)) (rd S2x256x2048 (V c main_arg7)) (fun k => rd S1x2048 (V c main_v7) (ix2 (0 : Fin 1) k)) i := by
  have hx : ∀ k : Fin 2048, iblk3 V c 0 t (ix2 (y 0) k) = rd S8192x2048 (V c main_v5) (ix2 (i 0) k) := fun k =>
    iblk3_0_at V c t _ _ q0 (by show k.val = 0 * 2048 + k.val; omega)
  have h4 : ∀ k : Fin 2048, iblk3 V c 4 t (ix2 (0 : Fin 1) k) = rd S1x2048 (V c main_v6) (ix2 (0 : Fin 1) k) := fun k =>
    iblk3_4_at V c t _ _ (by show 0 = 0 * 1 + 0; omega) (by show k.val = 0 * 2048 + k.val; omega)
  have h5 : ∀ k : Fin 2048, iblk3 V c 5 t (ix2 (0 : Fin 1) k) = rd S1x2048 (V c main_v7) (ix2 (0 : Fin 1) k) := fun k =>
    iblk3_5_at V c t _ _ (by show 0 = 0 * 1 + 0; omega) (by show k.val = 0 * 2048 + k.val; omega)
  have h1 : (y 1 : Fin 2048) = i 1 := Fin.ext (by omega)
  unfold ple gate
  refine congrArg₂ (· + ·) (iblk3_0_at V c t y i q0 q1) (congrArg₂ (· * ·) ?_ (congrArg Ideal.logistic (Finset.sum_congr rfl fun k _ => ?_)))
  · rw [h1]
    refine congrArg₂ (fun a b => hnS a b (i 1)) (funext fun j => Finset.sum_congr rfl fun k _ => ?_) (funext h5)
    refine congrArg₂ (· * ·) (iblk3_1_at V c t _ _ ?_ ?_ ?_ ?_) ((k3_pay3_at _ _).trans (iblk3_3_at V c t _ _ ?_ ?_ ?_))
    · rfl
    · rfl
    · exact q0
    · show k.val = 0 * 256 + k.val; omega
    · rfl
    · show k.val = 0 * 256 + k.val; omega
    · show j.val = 0 * 2048 + j.val; omega
  · refine congrArg₂ (· * ·) (congrArg₂ (fun a b => hnS a b k) (funext hx) (funext h4)) ((k3_pay2_at _ _).trans (iblk3_2_at V c t _ _ ?_ ?_ ?_))
    · rfl
    · show k.val = 0 * 2048 + k.val; omega
    · show (i 1).val = 0 * 2048 + (y 1).val; omega

/-- Every point writes output window 7 back. -/
theorem flush3_7_all : ∀ t : Fin cfg3.N, (cfg3.win 7).flush t = true :=
  (by decide +kernel : ∀ t : Fin grid3.N, win3_7.flush t = true)

/-- An index of the array is in a point's block iff each coordinate is in the block's range. -/
theorem mem3_7 (t : Fin cfg3.N) (i : S8192x2048.Idx) :
    i ∈ ((cfg3.win 7).blk t).view.set ↔ ∀ a : Fin 2, win3_7.index t a * S256x2048.size a ≤ (i a).val ∧ (i a).val < win3_7.index t a * S256x2048.size a + S256x2048.size a := by
  show i ∈ ((View.whole main_v9).slice (win3_7.rect t)).set ↔ _
  rw [View.set_slice_whole, Rect.mem_set_unit]
  exact Iff.rfl

/-- Every index of output window 7's array is in the block of a point that writes back. -/
theorem covered3_7 (i : S8192x2048.Idx) :
    ∃ t : Fin cfg3.N, (cfg3.win 7).flush t = true ∧ i ∈ ((cfg3.win 7).blk t).view.set := by
  have hi0 : (i 0).val < 8192 := (i 0).isLt
  have hi1 : (i 1).val < 2048 := (i 1).isLt
  have hN : cfg3.N = 32 := by decide
  refine ⟨⟨(i 0).val / 256, by rw [hN]; omega⟩, (flush3_7_all _), ?_⟩
  rw [mem3_7]
  obtain ⟨e0_0, e0_1, e1_0, e1_1, e1_2, e1_3, e2_0, e2_1, e2_2, e3_0, e3_1, e3_2, e4_0, e4_1, e5_0, e5_1, e6_0, e6_1, e7_0, e7_1⟩ := where3 (⟨(i 0).val / 256, by rw [hN]; omega⟩ : Fin cfg3.N)
  intro a
  match a with
  | ⟨0, _⟩ => show win3_7.index _ (0 : Fin 2) * 256 ≤ (i 0).val ∧ (i 0).val < win3_7.index _ (0 : Fin 2) * 256 + 256; rw [e7_0]; dsimp only; omega
  | ⟨1, _⟩ => show win3_7.index _ (1 : Fin 2) * 2048 ≤ (i 1).val ∧ (i 1).val < win3_7.index _ (1 : Fin 2) * 2048 + 2048; rw [e7_1]; dsimp only; omega

/-- The normalised rows of the stream with the gated normalised embeddings added, as the region finds its arrays. -/
def G3_7 (c : Dev nD) : (⟨2, S8192x2048.size⟩ : Shape).Idx → EReal := fun i =>
  hnS (fun j => ple 1 (rd S8192x2048 (V c main_v5)) (rd S2x1x8192x256 (V c main_arg4)) (fun k => rd S1x2048 (V c main_v6) (ix2 (0 : Fin 1) k)) (rd S2x2048x2048 (V c main_arg6)) (rd S2x256x2048 (V c main_arg7)) (fun k => rd S1x2048 (V c main_v7) (ix2 (0 : Fin 1) k)) (ix2 (i 0) j)) (fun k => rd S1x2048 (V c main_v8) (ix2 (0 : Fin 1) k)) (i 1)

/-- What a point writes back to output window 7 is that function read through the block. -/
theorem flushed3_7 (c : Dev nD) (t : Fin cfg3.N) :
    (dat3 V c).flushed 7 t = ((cfg3.win 7).blk t).view.read (Elt Ideal) (G3_7 V c) := by
  obtain ⟨e0_0, e0_1, e1_0, e1_1, e1_2, e1_3, e2_0, e2_1, e2_2, e3_0, e3_1, e3_2, e4_0, e4_1, e5_0, e5_1, e6_0, e6_1, e7_0, e7_1⟩ := where3 t
  refine funext fun (y : S256x2048.Idx) => ?_
  have q0 : ((((cfg3.win 7).blk t).view.emb y : S8192x2048.Idx) 0).val = t.val * 256 + (y 0).val := by
    show win3_7.index t (0 : Fin 2) * 256 + 1 * (y 0).val = _
    rw [e7_0]; omega
  have q1 : ((((cfg3.win 7).blk t).view.emb y : S8192x2048.Idx) 1).val = 0 * 2048 + (y 1).val := by
    show win3_7.index t (1 : Fin 2) * 2048 + 1 * (y 1).val = _
    rw [e7_1]; omega
  show (dat3 V c).after 7 t y = G3_7 V c (((cfg3.win 7).blk t).view.emb y)
  generalize (((cfg3.win 7).blk t).view.emb y : S8192x2048.Idx) = i at q0 q1
  have b0 := idx2_lt0 y
  have b1 := idx2_lt1 y
  have hN : cfg3.N = 32 := by decide
  have ht : t.val < 32 := lt_of_lt_of_eq t.isLt hN
  rw [after3_7]
  rw [k3_pay1_at]
  have h6 : ∀ k : Fin 2048, iblk3 V c 6 t (ix2 (0 : Fin 1) k) = rd S1x2048 (V c main_v8) (ix2 (0 : Fin 1) k) := fun k =>
    iblk3_6_at V c t _ _ (by show 0 = 0 * 1 + 0; omega) (by show k.val = 0 * 2048 + k.val; omega)
  have h1 : (y 1 : Fin 2048) = i 1 := Fin.ext (by omega)
  unfold G3_7
  rw [h1]
  refine congrArg₂ (fun a b => hnS a b (i 1)) (funext fun j => ?_) (funext h6)
  exact ple_blk3 V c t (ix2 (y 0) j) (ix2 (i 0) j) q0 (by show j.val = 0 * 2048 + j.val; omega)

/-- Output window 7's array at the region's exit. -/
theorem final3_7 (c : Dev nD) : (dat3 V c).arrAt 7 cfg3.N = G3_7 V c :=
  (dat3 V c).arrAt_eq_of_cover 7 _ (fun t _ => flushed3_7 V c t) covered3_7

end Cert.Kernel3Ideal.Hand

end
-- ==== Proof.P3KerValue.lean ====
module

public import proofs.«01_k».proof.Proof.P3Main
public import proofs.«01_k».proof.Proof.P3Value0
public import proofs.«01_k».proof.Proof.P3Value1
public import proofs.«01_k».proof.Proof.P3Value2
public import proofs.«01_k».proof.Proof.P3Value3

@[expose] public section

set_option maxRecDepth 16384

noncomputable section

namespace Cert.Kernel3Ideal.Hand

open Cert.Kernel3Ideal Cert.Kernel3Ideal.Gen Cert.Hand
open Idealize.ShloMosaic Idealize.ShloMosaic.TcCoe Idealize.ShloMosaic.ValueIdx Idealize.SL.Sem

variable (m : (ℓ : Loc nD τ sig) → Buf (Elt Ideal) ℓ) (c : Dev nD)

/-- The stream, as launched. -/
abbrev a0 : S8192x2048.Idx → EReal := m ((c : Thread nD τ).loc main_arg0)
/-- The half layer norm's weights, as launched. -/
abbrev a1 : S2048.Idx → EReal := m ((c : Thread nD τ).loc main_arg1)
/-- The first weights, as launched. -/
abbrev a2 : S2x2048x11008.Idx → EReal := m ((c : Thread nD τ).loc main_arg2)
/-- The second weights, as launched. -/
abbrev a3 : S2x5504x2048.Idx → EReal := m ((c : Thread nD τ).loc main_arg3)
/-- The embeddings, as launched. -/
abbrev a4 : S2x1x8192x256.Idx → EReal := m ((c : Thread nD τ).loc main_arg4)
/-- The gate norm's weights, as launched. -/
abbrev a5 : S2048.Idx → EReal := m ((c : Thread nD τ).loc main_arg5)
/-- The gate's weights, as launched. -/
abbrev a6 : S2x2048x2048.Idx → EReal := m ((c : Thread nD τ).loc main_arg6)
/-- The projection's weights, as launched. -/
abbrev a7 : S2x256x2048.Idx → EReal := m ((c : Thread nD τ).loc main_arg7)
/-- The embedding norm's weights, as launched. -/
abbrev a8 : S2048.Idx → EReal := m ((c : Thread nD τ).loc main_arg8)
/-- The final norm's weights, as launched. -/
abbrev a9 : S2048.Idx → EReal := m ((c : Thread nD τ).loc main_arg9)

theorem V1_arg0 : rd S8192x2048 (V1 m c main_arg0) = a0 m c :=
  (V1_of m c main_arg0 (by decide)).trans rfl
theorem V1_arg2 : rd S2x2048x11008 (V1 m c main_arg2) = a2 m c :=
  (V1_of m c main_arg2 (by decide)).trans rfl
theorem V1_arg3 : rd S2x5504x2048 (V1 m c main_arg3) = a3 m c :=
  (V1_of m c main_arg3 (by decide)).trans rfl
theorem V2_arg2 : rd S2x2048x11008 (V2 m (outs m) c main_arg2) = a2 m c :=
  (V2_of m (outs m) c main_arg2 (by decide)).trans <| (V1_of m c main_arg2 (by decide)).trans rfl
theorem V2_arg3 : rd S2x5504x2048 (V2 m (outs m) c main_arg3) = a3 m c :=
  (V2_of m (outs m) c main_arg3 (by decide)).trans <| (V1_of m c main_arg3 (by decide)).trans rfl
theorem V4_arg0 : rd S8192x2048 (V4 m (outs m) c main_arg0) = a0 m c :=
  (V4_of m (outs m) c main_arg0 (by decide)).trans <| (V3_of m (outs m) c main_arg0 (by decide)).trans <| (V2_of m (outs m) c main_arg0 (by decide)).trans <| (V1_of m c main_arg0 (by decide)).trans rfl
theorem V5_arg5 : rd S2048 (V5 m (outs m) c main_arg5) = a5 m c :=
  (V5_of m (outs m) c main_arg5 (by decide)).trans <| (V4_of m (outs m) c main_arg5 (by decide)).trans <| (V3_of m (outs m) c main_arg5 (by decide)).trans <| (V2_of m (outs m) c main_arg5 (by decide)).trans <| (V1_of m c main_arg5 (by decide)).trans rfl
theorem V5_arg8 : rd S2048 (V5 m (outs m) c main_arg8) = a8 m c :=
  (V5_of m (outs m) c main_arg8 (by decide)).trans <| (V4_of m (outs m) c main_arg8 (by decide)).trans <| (V3_of m (outs m) c main_arg8 (by decide)).trans <| (V2_of m (outs m) c main_arg8 (by decide)).trans <| (V1_of m c main_arg8 (by decide)).trans rfl
theorem V5_arg9 : rd S2048 (V5 m (outs m) c main_arg9) = a9 m c :=
  (V5_of m (outs m) c main_arg9 (by decide)).trans <| (V4_of m (outs m) c main_arg9 (by decide)).trans <| (V3_of m (outs m) c main_arg9 (by decide)).trans <| (V2_of m (outs m) c main_arg9 (by decide)).trans <| (V1_of m c main_arg9 (by decide)).trans rfl
theorem V6_arg4 : rd S2x1x8192x256 (V6 m (outs m) c main_arg4) = a4 m c :=
  (V6_of m (outs m) c main_arg4 (by decide)).trans <| (V5_of m (outs m) c main_arg4 (by decide)).trans <| (V4_of m (outs m) c main_arg4 (by decide)).trans <| (V3_of m (outs m) c main_arg4 (by decide)).trans <| (V2_of m (outs m) c main_arg4 (by decide)).trans <| (V1_of m c main_arg4 (by decide)).trans rfl
theorem V6_arg6 : rd S2x2048x2048 (V6 m (outs m) c main_arg6) = a6 m c :=
  (V6_of m (outs m) c main_arg6 (by decide)).trans <| (V5_of m (outs m) c main_arg6 (by decide)).trans <| (V4_of m (outs m) c main_arg6 (by decide)).trans <| (V3_of m (outs m) c main_arg6 (by decide)).trans <| (V2_of m (outs m) c main_arg6 (by decide)).trans <| (V1_of m c main_arg6 (by decide)).trans rfl
theorem V6_arg7 : rd S2x256x2048 (V6 m (outs m) c main_arg7) = a7 m c :=
  (V6_of m (outs m) c main_arg7 (by decide)).trans <| (V5_of m (outs m) c main_arg7 (by decide)).trans <| (V4_of m (outs m) c main_arg7 (by decide)).trans <| (V3_of m (outs m) c main_arg7 (by decide)).trans <| (V2_of m (outs m) c main_arg7 (by decide)).trans <| (V1_of m c main_arg7 (by decide)).trans rfl

/-- The norms' weights given a leading axis. -/
theorem V1_v0 (k : Fin 2048) : rd S1x2048 (V1 m c main_v0) (ix2 (0 : Fin 1) k) = a1 m c (ix1 k) := by
  have e : V1 m c main_v0 = shapeCast S1x2048 (a1 m c) shapeCasts_S2048_S1x2048 := by
    simp only [V1, hostOps0]; after_results_simp <;> rfl
  exact (congrFun e _).trans (lead_at _ _ k)
theorem V6_v6 (k : Fin 2048) : rd S1x2048 (V6 m (outs m) c main_v6) (ix2 (0 : Fin 1) k) = a5 m c (ix1 k) := by
  have e : V6 m (outs m) c main_v6 = shapeCast S1x2048 (rd S2048 (V5 m (outs m) c main_arg5)) shapeCasts_S2048_S1x2048 := by
    simp only [V6, hostOps3]; after_results_simp <;> rfl
  refine (congrFun e _).trans ((lead_at _ _ k).trans ?_)
  rw [V5_arg5]
theorem V6_v7 (k : Fin 2048) : rd S1x2048 (V6 m (outs m) c main_v7) (ix2 (0 : Fin 1) k) = a8 m c (ix1 k) := by
  have e : V6 m (outs m) c main_v7 = shapeCast S1x2048 (rd S2048 (V5 m (outs m) c main_arg8)) shapeCasts_S2048_S1x2048 := by
    simp only [V6, hostOps3]; after_results_simp <;> rfl
  refine (congrFun e _).trans ((lead_at _ _ k).trans ?_)
  rw [V5_arg8]
theorem V6_v8 (k : Fin 2048) : rd S1x2048 (V6 m (outs m) c main_v8) (ix2 (0 : Fin 1) k) = a9 m c (ix1 k) := by
  have e : V6 m (outs m) c main_v8 = shapeCast S1x2048 (rd S2048 (V5 m (outs m) c main_arg9)) shapeCasts_S2048_S1x2048 := by
    simp only [V6, hostOps3]; after_results_simp <;> rfl
  refine (congrFun e _).trans ((lead_at _ _ k).trans ?_)
  rw [V5_arg9]

/-- The normalised rows, as region 1 finds them. -/
theorem V2_hn (r : Fin 8192) (k : Fin 2048) : rd S8192x2048 (V2 m (outs m) c main_v1_1) (ix2 r k)
    = hnS (fun k => a0 m c (ix2 r k)) (fun k => a1 m c (ix1 k)) k := by
  refine (congrFun ((V2_v1_1 m c).trans (final0_6 (V1 m) c)) _).trans ?_
  unfold G0_6
  rw [V1_arg0, funext fun k => V1_v0 m c k]

/-- The activations of the last columns. -/
theorem V4_tail (r : Fin 8192) (j : Fin 384) : rd S8192x384 (V4 m (outs m) c main_v1_0) (ix2 r j)
    = act 1 (a0 m c) (a1 m c) (a2 m c) r ⟨5120 + j.val, by omega⟩ := by
  refine (congrFun ((V4_of m (outs m) c main_v1_0 (by decide)).trans ((V3_of m (outs m) c main_v1_0 (by decide)).trans ((V2_v1_0 m c).trans (final0_5 (V1 m) c)))) _).trans ?_
  unfold G0_5 act
  rw [V1_arg0, V1_arg2, funext fun k => V1_v0 m c k]
  have e : ∀ k : Fin 2048, ix3 (1 : Fin 2) k (⟨10624 + j.val, by omega⟩ : Fin 11008) = ix3 (1 : Fin 2) k (⟨5504 + (5120 + j.val), by omega⟩ : Fin 11008) :=
    fun k => congrArg (ix3 (1 : Fin 2) k) (Fin.ext (show 10624 + j.val = 5504 + (5120 + j.val) by omega))
  exact congrArg₂ glu (Finset.sum_congr rfl fun k _ => congrArg₂ (· * ·) (rfl) rfl)
    (Finset.sum_congr rfl fun k _ => congrArg₂ (· * ·) (rfl) (congrArg (a2 m c) (e k)))

/-- The activations of the first columns. -/
theorem V4_main (r : Fin 8192) (j : Fin 5120) : rd S8192x5120 (V4 m (outs m) c main_v2_0) (ix2 r j)
    = act 1 (a0 m c) (a1 m c) (a2 m c) r ⟨j.val, by omega⟩ := by
  refine (congrFun ((V4_of m (outs m) c main_v2_0 (by decide)).trans ((V3_v2_0 m c).trans (final1_4 (V2 m (outs m)) c))) _).trans ?_
  unfold G1_4 act
  rw [V2_arg2]
  exact congrArg₂ glu (Finset.sum_congr rfl fun k _ => congrArg₂ (· * ·) (V2_hn m c r k) rfl)
    (Finset.sum_congr rfl fun k _ => congrArg₂ (· * ·) (V2_hn m c r k) rfl)

/-- The first rows of the second weights. -/
theorem V4_wmain (k : Fin 5120) (j : Fin 2048) : rd S1x5120x2048 (V4 m (outs m) c main_v3) (ix3 (0 : Fin 1) k j)
    = a3 m c (ix3 (1 : Fin 2) ⟨k.val, by omega⟩ j) := by
  have e : V4 m (outs m) c main_v3 = shapeCast S1x5120x2048 (rd S5120x2048 (V3 m (outs m) c main_v2_1)) shapeCasts_S5120x2048_S1x5120x2048 := by
    simp only [V4, hostOps2]; after_results_simp <;> rfl
  refine (congrFun e _).trans ((unsqueeze_at _ _ k j).trans ?_)
  refine (congrFun ((V3_v2_1 m c).trans (final1_5 (V2 m (outs m)) c)) _).trans ?_
  unfold G1_5
  rw [V2_arg3]

/-- The last rows of the second weights. -/
theorem V4_wtail (k : Fin 384) (j : Fin 2048) : rd S1x384x2048 (V4 m (outs m) c main_v4) (ix3 (0 : Fin 1) k j)
    = a3 m c (ix3 (1 : Fin 2) ⟨5120 + k.val, by omega⟩ j) := by
  have e : V4 m (outs m) c main_v4 = shapeCast S1x384x2048 (rd S384x2048 (V3 m (outs m) c main_v1_2)) shapeCasts_S384x2048_S1x384x2048 := by
    simp only [V4, hostOps2]; after_results_simp <;> rfl
  refine (congrFun e _).trans ((unsqueeze_at _ _ k j).trans ?_)
  refine (congrFun ((V3_of m (outs m) c main_v1_2 (by decide)).trans ((V2_v1_2 m c).trans (final0_7 (V1 m) c))) _).trans ?_
  unfold G0_7
  rw [V1_arg3]

/-- The half layer's result, as region 2 leaves it. -/
theorem V5_half : V5 m (outs m) c main_v5 = swiglu 1 (a0 m c) (a1 m c) (a2 m c) (a3 m c) := by
  refine (V5_v5 m c).trans ((final2_5 (V4 m (outs m)) c).trans (funext fun i => ?_))
  unfold G2_5 swiglu
  rw [V4_arg0]
  refine congrArg (a0 m c i + ·) (congrArg (half * ·) ?_)
  refine Eq.trans ?_ (Fin.sum_univ_add (a := 5120) (b := 384) fun j : Fin 5504 => act 1 (a0 m c) (a1 m c) (a2 m c) (i 0) j * a3 m c (ix3 (1 : Fin 2) j (i 1))).symm
  exact congrArg₂ (· + ·) (Finset.sum_congr rfl fun k _ => congrArg₂ (· * ·) (V4_main m c (i 0) k) (V4_wmain m c k (i 1)))
    (Finset.sum_congr rfl fun k _ => congrArg₂ (· * ·) (V4_tail m c (i 0) k) (V4_wtail m c k (i 1)))

/-- The half layer's result, as region 3 finds it. -/
theorem V6_half : rd S8192x2048 (V6 m (outs m) c main_v5) = swiglu 1 (a0 m c) (a1 m c) (a2 m c) (a3 m c) :=
  (V6_of m (outs m) c main_v5 (by decide)).trans (V5_half m c)

/-- The kernel's result: the final norm of the stream with the half layer and the gated embedding. -/
abbrev result : S1x8192x2048.Idx → EReal := fun i =>
  hnS (fun j => ple 1 (swiglu 1 (a0 m c) (a1 m c) (a2 m c) (a3 m c)) (a4 m c) (fun k => a5 m c (ix1 k)) (a6 m c) (a7 m c)
    (fun k => a8 m c (ix1 k)) (ix2 (i 1) j)) (fun k => a9 m c (ix1 k)) (i 2)

/-- The kernel leaves that array in its result. -/
theorem out_ker : V8 m (outs m) c main_v10 = result m c := by
  have e : V8 m (outs m) c main_v10 = shapeCast S1x8192x2048 (rd S8192x2048 (V7 m (outs m) c main_v9)) shapeCasts_S8192x2048_S1x8192x2048 := by
    simp only [V8, hostOps4]; after_results_simp <;> rfl
  refine e.trans (funext fun (i : S1x8192x2048.Idx) => ?_)
  have hi : i = ix3 (0 : Fin 1) (i 1) (i 2) := (eq_ix3 i).trans (congrArg (fun z : Fin 1 => ix3 z (i 1) (i 2)) (Subsingleton.elim _ _))
  refine (congrArg _ hi).trans ((unsqueeze_at _ _ (i 1) (i 2)).trans ?_)
  refine (congrFun ((V7_v9 m c).trans (final3_7 (V6 m (outs m)) c)) _).trans ?_
  unfold G3_7
  rw [V6_half, V6_arg4, V6_arg6, V6_arg7, funext fun k => V6_v6 m c k, funext fun k => V6_v7 m c k, funext fun k => V6_v8 m c k]

end Cert.Kernel3Ideal.Hand

end
-- ==== Proof.P4RefValue.lean ====
module

public import proofs.«01_k».proof.Proof.Gen.Reference4Ideal.Read
public import proofs.«01_k».proof.Proof.Spec
public import Idealize.ShloMosaic.Lib.IdealHost
public import Idealize.ShloMosaic.Lib.Pipeline.Value

@[expose] public section

set_option maxRecDepth 16384

noncomputable section

namespace Cert.Reference4Ideal.Hand

open Cert.Reference4Ideal Cert.Reference4Ideal.Gen Cert.Reference4Ideal.Read Cert.Hand
open Idealize.ShloMosaic Idealize.ShloMosaic.TcCoe Idealize.ShloMosaic.ValueIdx

variable (x0 : (⟨S8192x2048, .f32⟩ : BufTy).Contents (Elt Ideal)) (x1 : (⟨S2048, .f32⟩ : BufTy).Contents (Elt Ideal)) (x2 : (⟨S1x2048x13344, .f32⟩ : BufTy).Contents (Elt Ideal))

/-- The root mean square of a row of the stream. -/
theorem rms_mix (i : S8192x1.Idx) : val_main_v7 (F := Ideal) x0 i = rms (fun k => rd S8192x2048 (x0) (ix2 (i 0) k)) := by
  rw [val_main_v7_apply, val_main_v6_apply, val_main_v4_apply, val_main_v5_apply, val_main_v3_apply, val_main_v2_apply, val_main_v1_apply,
    val_main_cst_apply, val_main_cst_0_apply, val_main_cst_1_apply]
  have e : ∀ k : Fin 2048, val_main_v0 (F := Ideal) x0 (idx_main_v1 (idx_main_v2 i) k)
      = rd S8192x2048 (x0) (ix2 (i 0) k) * rd S8192x2048 (x0) (ix2 (i 0) k) := fun k => by
    rw [val_main_v0_apply, show idx_main_v1 (idx_main_v2 i) k = ix2 (i 0) k from funext fun a => by match a with | ⟨0, _⟩ => rfl | ⟨1, _⟩ => rfl]
    rfl
  rw [Finset.sum_congr rfl fun k _ => e k]
  show Ideal.rsqrt (Ideal.div (Ideal.ofBits .f32 0x00000000#32 + _) _ + _) = _
  rw [Ideal.ofBits_zero_f32, zero_add]
  rfl

/-- The rows the mixers read. -/
theorem hn_mix (r : Fin 8192) (k : Fin 2048) : val_main_v12 (F := Ideal) x0 x1 (ix2 r k)
    = hnS (fun k => rd S8192x2048 (x0) (ix2 r k)) (fun k => rd S2048 x1 (ix1 k)) k := by
  rw [val_main_v12_apply, val_main_v9_apply, val_main_v8_apply, val_main_v11_apply, val_main_v10_apply, rms_mix]
  refine congrArg₂ (· * ·) rfl (congrArg x1 ?_)
  exact funext fun a => by match a with | ⟨0, _⟩ => rfl

/-- The reference's weights without their leading axis. -/
theorem wi_ref (k : Fin 2048) (j : Fin 13344) : val_main_v13 (F := Ideal) x2 (ix2 k j) = rd S1x2048x13344 x2 (ix3 (0 : Fin 1) k j) := by
  rw [val_main_v13_apply]
  refine congrArg x2 (funext fun a => Fin.ext ?_)
  have hk := k.isLt
  have hj := j.isLt
  match a with
  | ⟨0, _⟩ => rfl
  | ⟨1, _⟩ => show (k.val * 13344 + j.val) / 13344 % 2048 = k.val; omega
  | ⟨2, _⟩ => show (k.val * 13344 + j.val) % 13344 = j.val; omega

/-- The reference's product, before it is split. -/
theorem all_ref (r : Fin 8192) (j : Fin 13344) : val_main_v14 (F := Ideal) x0 x1 x2 (ix2 r j)
    = proj (rd S8192x2048 x0) (fun k => rd S2048 x1 (ix1 k)) (rd S1x2048x13344 x2) r j := by
  rw [val_main_v14_apply]
  refine Finset.sum_congr rfl fun k _ => congrArg₂ (· * ·) ?_ ?_
  · refine (congrArg (val_main_v12 (F := Ideal) x0 x1) ?_).trans (hn_mix x0 x1 r k)
    exact funext fun a => by match a with | ⟨0, _⟩ => rfl | ⟨1, _⟩ => rfl
  · refine (congrArg (val_main_v13 (F := Ideal) x2) ?_).trans (wi_ref x2 k j)
    exact funext fun a => by match a with | ⟨0, _⟩ => rfl | ⟨1, _⟩ => rfl

theorem z_ref (i : S8192x2048.Idx) : val_main_v15 (F := Ideal) x0 x1 x2 i = proj (rd S8192x2048 x0) (fun k => rd S2048 x1 (ix1 k)) (rd S1x2048x13344 x2) (i 0) ⟨(i 1).val, by have := idx2_lt1 i; omega⟩ :=
  (val_main_v15_apply x0 x1 x2 i).trans ((congrArg (val_main_v14 (F := Ideal) x0 x1 x2) (funext fun a => by match a with | ⟨0, _⟩ => rfl | ⟨1, _⟩ => rfl)).trans (all_ref x0 x1 x2 (i 0) ⟨(i 1).val, by have := idx2_lt1 i; omega⟩))
theorem xbc_ref (i : S8192x3072.Idx) : val_main_v16 (F := Ideal) x0 x1 x2 i = proj (rd S8192x2048 x0) (fun k => rd S2048 x1 (ix1 k)) (rd S1x2048x13344 x2) (i 0) ⟨2048 + (i 1).val, by have := idx2_lt1 i; omega⟩ :=
  (val_main_v16_apply x0 x1 x2 i).trans ((congrArg (val_main_v14 (F := Ideal) x0 x1 x2) (funext fun a => by match a with | ⟨0, _⟩ => rfl | ⟨1, _⟩ => rfl)).trans (all_ref x0 x1 x2 (i 0) ⟨2048 + (i 1).val, by have := idx2_lt1 i; omega⟩))
theorem steps_ref (i : S8192x32.Idx) : val_main_v17 (F := Ideal) x0 x1 x2 i = proj (rd S8192x2048 x0) (fun k => rd S2048 x1 (ix1 k)) (rd S1x2048x13344 x2) (i 0) ⟨5120 + (i 1).val, by have := idx2_lt1 i; omega⟩ :=
  (val_main_v17_apply x0 x1 x2 i).trans ((congrArg (val_main_v14 (F := Ideal) x0 x1 x2) (funext fun a => by match a with | ⟨0, _⟩ => rfl | ⟨1, _⟩ => rfl)).trans (all_ref x0 x1 x2 (i 0) ⟨5120 + (i 1).val, by have := idx2_lt1 i; omega⟩))
theorem q_ref (i : S8192x2048.Idx) : val_main_v18 (F := Ideal) x0 x1 x2 i = proj (rd S8192x2048 x0) (fun k => rd S2048 x1 (ix1 k)) (rd S1x2048x13344 x2) (i 0) ⟨5152 + (i 1).val, by have := idx2_lt1 i; omega⟩ :=
  (val_main_v18_apply x0 x1 x2 i).trans ((congrArg (val_main_v14 (F := Ideal) x0 x1 x2) (funext fun a => by match a with | ⟨0, _⟩ => rfl | ⟨1, _⟩ => rfl)).trans (all_ref x0 x1 x2 (i 0) ⟨5152 + (i 1).val, by have := idx2_lt1 i; omega⟩))
theorem forget_ref (i : S8192x2048.Idx) : val_main_v19 (F := Ideal) x0 x1 x2 i = proj (rd S8192x2048 x0) (fun k => rd S2048 x1 (ix1 k)) (rd S1x2048x13344 x2) (i 0) ⟨7200 + (i 1).val, by have := idx2_lt1 i; omega⟩ :=
  (val_main_v19_apply x0 x1 x2 i).trans ((congrArg (val_main_v14 (F := Ideal) x0 x1 x2) (funext fun a => by match a with | ⟨0, _⟩ => rfl | ⟨1, _⟩ => rfl)).trans (all_ref x0 x1 x2 (i 0) ⟨7200 + (i 1).val, by have := idx2_lt1 i; omega⟩))
theorem v_ref (i : S8192x2048.Idx) : val_main_v20 (F := Ideal) x0 x1 x2 i = proj (rd S8192x2048 x0) (fun k => rd S2048 x1 (ix1 k)) (rd S1x2048x13344 x2) (i 0) ⟨9248 + (i 1).val, by have := idx2_lt1 i; omega⟩ :=
  (val_main_v20_apply x0 x1 x2 i).trans ((congrArg (val_main_v14 (F := Ideal) x0 x1 x2) (funext fun a => by match a with | ⟨0, _⟩ => rfl | ⟨1, _⟩ => rfl)).trans (all_ref x0 x1 x2 (i 0) ⟨9248 + (i 1).val, by have := idx2_lt1 i; omega⟩))
theorem g_ref (i : S8192x2048.Idx) : val_main_v21 (F := Ideal) x0 x1 x2 i = proj (rd S8192x2048 x0) (fun k => rd S2048 x1 (ix1 k)) (rd S1x2048x13344 x2) (i 0) ⟨11296 + (i 1).val, by have := idx2_lt1 i; omega⟩ :=
  (val_main_v21_apply x0 x1 x2 i).trans ((congrArg (val_main_v14 (F := Ideal) x0 x1 x2) (funext fun a => by match a with | ⟨0, _⟩ => rfl | ⟨1, _⟩ => rfl)).trans (all_ref x0 x1 x2 (i 0) ⟨11296 + (i 1).val, by have := idx2_lt1 i; omega⟩))

/-- The reference's first result. -/
theorem proj_ref : val_main_v23 (F := Ideal) x0 x1 x2 = fun i : S8192x5120.Idx => proj (rd S8192x2048 x0) (fun k => rd S2048 x1 (ix1 k)) (rd S1x2048x13344 x2) (i 0) ⟨(i 1).val, by have := idx2_lt1 i; omega⟩ := by
  refine funext fun (i : S8192x5120.Idx) => (val_main_v23_apply x0 x1 x2 i).trans ?_
  show val_main_v22 (F := Ideal) x0 x1 x2 i = _
  have hi := idx2_lt1 i
  unfold val_main_v22
  by_cases h0 : (i 1).val < 2048
  · refine (concatenate_apply_piece 1 _ _ i 0 (by simp) S8192x2048 (val_main_v15 (F := Ideal) x0 x1 x2) rfl rfl 0 rfl (ix2 (i 0) (⟨(i 1).val - 0, by omega⟩ : Fin 2048)) (fun b hb => ?_) ?_).trans ((z_ref x0 x1 x2 _).trans ?_)
    · match b, hb with
      | ⟨0, _⟩, _ => rfl
      | ⟨1, _⟩, hb => exact absurd rfl hb
    · show 0 + ((i 1).val - 0) = (i 1).val; omega
    · exact congrArg (proj _ _ _ (i 0)) (Fin.ext (by simp only [ix2]; omega))
  · refine (concatenate_apply_piece 1 _ _ i 1 (by simp) S8192x3072 (val_main_v16 (F := Ideal) x0 x1 x2) rfl rfl 2048 rfl (ix2 (i 0) (⟨(i 1).val - 2048, by omega⟩ : Fin 3072)) (fun b hb => ?_) ?_).trans ((xbc_ref x0 x1 x2 _).trans ?_)
    · match b, hb with
      | ⟨0, _⟩, _ => rfl
      | ⟨1, _⟩, hb => exact absurd rfl hb
    · show 2048 + ((i 1).val - 2048) = (i 1).val; omega
    · exact congrArg (proj _ _ _ (i 0)) (Fin.ext (by simp only [ix2]; omega))

/-- The reference's third result. -/
theorem qvg_ref : val_main_v25 (F := Ideal) x0 x1 x2 = fun i : S8192x6144.Idx => proj (rd S8192x2048 x0) (fun k => rd S2048 x1 (ix1 k)) (rd S1x2048x13344 x2) (i 0) ⟨qcol (i 1).val, by have := idx2_lt1 i; unfold qcol; omega⟩ := by
  refine funext fun (i : S8192x6144.Idx) => (val_main_v25_apply x0 x1 x2 i).trans ?_
  show val_main_v24 (F := Ideal) x0 x1 x2 i = _
  have hi := idx2_lt1 i
  unfold val_main_v24
  by_cases h0 : (i 1).val < 2048
  · refine (concatenate_apply_piece 1 _ _ i 0 (by simp) S8192x2048 (val_main_v18 (F := Ideal) x0 x1 x2) rfl rfl 0 rfl (ix2 (i 0) (⟨(i 1).val - 0, by omega⟩ : Fin 2048)) (fun b hb => ?_) ?_).trans ((q_ref x0 x1 x2 _).trans ?_)
    · match b, hb with
      | ⟨0, _⟩, _ => rfl
      | ⟨1, _⟩, hb => exact absurd rfl hb
    · show 0 + ((i 1).val - 0) = (i 1).val; omega
    · exact congrArg (proj _ _ _ (i 0)) (Fin.ext (by simp only [ix2, qcol]; omega))
  by_cases h1 : (i 1).val < 4096
  · refine (concatenate_apply_piece 1 _ _ i 1 (by simp) S8192x2048 (val_main_v20 (F := Ideal) x0 x1 x2) rfl rfl 2048 rfl (ix2 (i 0) (⟨(i 1).val - 2048, by omega⟩ : Fin 2048)) (fun b hb => ?_) ?_).trans ((v_ref x0 x1 x2 _).trans ?_)
    · match b, hb with
      | ⟨0, _⟩, _ => rfl
      | ⟨1, _⟩, hb => exact absurd rfl hb
    · show 2048 + ((i 1).val - 2048) = (i 1).val; omega
    · exact congrArg (proj _ _ _ (i 0)) (Fin.ext (by simp only [ix2, qcol]; omega))
  · refine (concatenate_apply_piece 1 _ _ i 2 (by simp) S8192x2048 (val_main_v21 (F := Ideal) x0 x1 x2) rfl rfl 4096 rfl (ix2 (i 0) (⟨(i 1).val - 4096, by omega⟩ : Fin 2048)) (fun b hb => ?_) ?_).trans ((g_ref x0 x1 x2 _).trans ?_)
    · match b, hb with
      | ⟨0, _⟩, _ => rfl
      | ⟨1, _⟩, hb => exact absurd rfl hb
    · show 4096 + ((i 1).val - 4096) = (i 1).val; omega
    · exact congrArg (proj _ _ _ (i 0)) (Fin.ext (by simp only [ix2, qcol]; omega))

end Cert.Reference4Ideal.Hand

end
-- ==== Proof.P4Run0.lean ====
module

public import proofs.«01_k».proof.Proof.Gen.Kernel4Ideal.Launch
public import proofs.«01_k».proof.Proof.Gen.Kernel4Ideal.Skeleton
public import proofs.«01_k».proof.Proof.Gen.Kernel4Ideal.Points
public import Idealize.ShloMosaic.Lib.Pipeline.FrameBody
public import Idealize.ShloMosaic.Lib.Pipeline.RegionsLoop
public import Idealize.ShloMosaic.Lib.Pipeline.Value
public import Idealize.ShloMosaic.Lib.Ring
public import Idealize.ShloMosaic.Lib.Tactic
public import Idealize.ShloMosaic.Lib.VecWindow
public import Idealize.ShloMosaic.Lib.WordCmp

@[expose] public section

set_option maxRecDepth 16384

noncomputable section

namespace Cert.Kernel4Ideal.Hand

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The condition of the body's branch, as the program states it. -/
abbrev cond0 (i : grid0.Coords) : Prop := (Scalar.cmpi .ne (Scalar.extui (Scalar.cmpi .eq (BitVec.ofNat 32 (i 1).val) 0#32)) 0#32) = 1#1

set_option maxHeartbeats 4000000 in
/-- The body where it casts the weight block first: from any scratch contents, every output ends at its payload and the scratch at the cast block. -/
theorem run0A (c : Dev nD) (i : grid0.Coords) (arg2 : Memref sig .tc .vmem S1024x2048 .f32) (harg2 : arg2.IsWhole) (arg3 : Memref sig .tc .vmem S1x128x2048 .f32) (harg3 : arg3.IsWhole) (arg4 : Memref sig .tc .vmem S1x2048 .f32) (harg4 : arg4.IsWhole) (arg5 : Memref sig .tc .vmem S1024x128 .f32) (harg5 : arg5.IsWhole) (arg6 : Memref sig .tc .vmem S1024x2048 .bf16) (harg6 : arg6.IsWhole) (arg7 : Memref sig .tc .vmem S128x2048 .bf16) (harg7 : arg7.IsWhole) (hc0 : cond0 i)
    (x0 : Vec F S1024x2048 .f32) (x1 : Vec F S1x128x2048 .f32) (x2 : Vec F S1x2048 .f32) (E : Set ℕ) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg2 fullShare x0 ∗ owns (c : Thread nD τ) arg3 fullShare x1 ∗ owns (c : Thread nD τ) arg4 fullShare x2 ∗ owns (c : Thread nD τ) arg5 fullShare (k0_pay3 x0 x2 (k0_pay1 x1)) ∗ owns (c : Thread nD τ) arg6 fullShare (k0_pay2 x0 x2) ∗ owns (c : Thread nD τ) arg7 fullShare (k0_pay1 x1)) -∗ K ⟨⟩))
      ⊢ wp frame (wpE (defs₀ (F := F)) Variants.none c none) E (cc0_matmul_nt i arg2 harg2 arg3 harg3 arg4 harg4 arg5 harg5 arg6 harg6 arg7 harg7) K := by
  simp only [cc0_matmul_nt_eq_skeleton]; unfold cc0_matmul_nt_skel
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
  obtain rfl := harg2.eq_unread hf0; obtain rfl := harg3.eq_unread hf1; obtain rfl := harg4.eq_unread hf2
  sl_exec (disch := first | sl_exact hc0)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; swap; · iexact H3
    ipureintro
    refine (View.read_writes_full _ _ _ _ _).trans ?_
    show k0_pay3 _ _ _ = k0_pay3 x0 x2 (k0_pay1 x1)
    exact (congr (congr (congrArg k0_pay3 ((View.readAt_full _ _ _).trans (Memref.IsWhole.read_unread _ _))) ((View.readAt_full _ _ _).trans (Memref.IsWhole.read_unread _ _))) ((View.readCov_full _ _ _ _ _).trans (congrArg k0_pay1 ((View.readAt_full _ _ _).trans (Memref.IsWhole.read_unread _ _)))))
  isplitl [H4]
  · iexists _; isplitr; swap; · iexact H4
    ipureintro
    refine (View.read_writes_full _ _ _ _ _).trans ?_
    show k0_pay2 _ _ = k0_pay2 x0 x2
    exact (congr (congrArg k0_pay2 ((View.readAt_full _ _ _).trans (Memref.IsWhole.read_unread _ _))) ((View.readAt_full _ _ _).trans (Memref.IsWhole.read_unread _ _)))
  · iexists _; isplitr; swap; · iexact H5
    ipureintro
    refine (View.read_writes_full _ _ _ _ _).trans ?_
    show k0_pay1 _ = k0_pay1 x1
    exact (congrArg k0_pay1 ((View.readAt_full _ _ _).trans (Memref.IsWhole.read_unread _ _)))

set_option maxHeartbeats 4000000 in
/-- The body where the scratch already holds the cast block: every output ends at its payload and the scratch stays. -/
theorem run0B (c : Dev nD) (i : grid0.Coords) (arg2 : Memref sig .tc .vmem S1024x2048 .f32) (harg2 : arg2.IsWhole) (arg3 : Memref sig .tc .vmem S1x128x2048 .f32) (harg3 : arg3.IsWhole) (arg4 : Memref sig .tc .vmem S1x2048 .f32) (harg4 : arg4.IsWhole) (arg5 : Memref sig .tc .vmem S1024x128 .f32) (harg5 : arg5.IsWhole) (arg6 : Memref sig .tc .vmem S1024x2048 .bf16) (harg6 : arg6.IsWhole) (arg7 : Memref sig .tc .vmem S128x2048 .bf16) (harg7 : arg7.IsWhole) (hc0 : ¬cond0 i)
    (x0 : Vec F S1024x2048 .f32) (x1 : Vec F S1x128x2048 .f32) (x2 : Vec F S1x2048 .f32) (E : Set ℕ) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ owns (c : Thread nD τ) arg7 fullShare (k0_pay1 x1)
        ∗ (iprop(owns (c : Thread nD τ) arg2 fullShare x0 ∗ owns (c : Thread nD τ) arg3 fullShare x1 ∗ owns (c : Thread nD τ) arg4 fullShare x2 ∗ owns (c : Thread nD τ) arg5 fullShare (k0_pay3 x0 x2 (k0_pay1 x1)) ∗ owns (c : Thread nD τ) arg6 fullShare (k0_pay2 x0 x2) ∗ owns (c : Thread nD τ) arg7 fullShare (k0_pay1 x1)) -∗ K ⟨⟩))
      ⊢ wp frame (wpE (defs₀ (F := F)) Variants.none c none) E (cc0_matmul_nt i arg2 harg2 arg3 harg3 arg4 harg4 arg5 harg5 arg6 harg6 arg7 harg7) K := by
  simp only [cc0_matmul_nt_eq_skeleton]; unfold cc0_matmul_nt_skel
  unfold owns
  iintro ⟨⟨%f0, %hf0, H0⟩, ⟨%f1, %hf1, H1⟩, ⟨%f2, %hf2, H2⟩, ⟨%d3, %f3, -, H3⟩, ⟨%d4, %f4, -, H4⟩, ⟨%f5, %hf5, H5⟩, Hk⟩
  obtain rfl := harg2.eq_unread hf0; obtain rfl := harg3.eq_unread hf1; obtain rfl := harg4.eq_unread hf2; obtain rfl := harg7.eq_unread hf5
  sl_exec (disch := first | sl_exact hc0)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; swap; · iexact H3
    ipureintro
    refine (View.read_writes_full _ _ _ _ _).trans ?_
    show k0_pay3 _ _ _ = k0_pay3 x0 x2 (k0_pay1 x1)
    exact (congr (congr (congrArg k0_pay3 ((View.readAt_full _ _ _).trans (Memref.IsWhole.read_unread _ _))) ((View.readAt_full _ _ _).trans (Memref.IsWhole.read_unread _ _))) ((View.readAt_full _ _ _).trans (Memref.IsWhole.read_unread _ _)))
  isplitl [H4]
  · iexists _; isplitr; swap; · iexact H4
    ipureintro
    refine (View.read_writes_full _ _ _ _ _).trans ?_
    show k0_pay2 _ _ = k0_pay2 x0 x2
    exact (congr (congrArg k0_pay2 ((View.readAt_full _ _ _).trans (Memref.IsWhole.read_unread _ _))) ((View.readAt_full _ _ _).trans (Memref.IsWhole.read_unread _ _)))
  · iexists _; isplitr; · ipureintro; exact harg7.read_unread _
    iexact H5

end Cert.Kernel4Ideal.Hand

end
-- ==== Proof.P4Region0.lean ====
module

public import proofs.«01_k».proof.Proof.Gen.Kernel4Ideal.Launch
public import proofs.«01_k».proof.Proof.Gen.Kernel4Ideal.Skeleton
public import proofs.«01_k».proof.Proof.Gen.Kernel4Ideal.Points
public import Idealize.ShloMosaic.Lib.Pipeline.FrameBody
public import Idealize.ShloMosaic.Lib.Pipeline.RegionsLoop
public import Idealize.ShloMosaic.Lib.Pipeline.Value
public import Idealize.ShloMosaic.Lib.Ring
public import Idealize.ShloMosaic.Lib.Tactic
public import Idealize.ShloMosaic.Lib.VecWindow
public import Idealize.ShloMosaic.Lib.WordCmp
public import proofs.«01_k».proof.Proof.Gen.Kernel4Ideal.Regions
public import proofs.«01_k».proof.Proof.P4Run0

@[expose] public section

set_option maxRecDepth 16384

noncomputable section

namespace Cert.Kernel4Ideal.Hand

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → Valuation τ sig (Elt F))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The launch's scratch buffer split off the buffers the region may overwrite. -/
theorem split0 (c : Dev nD) :
    (Pipeline.scopedRest (Ix := Unit) (Name := ℕ) (U := UR sig nD τ) (Lvl := ℕ) (Val := Elt F) spec0 c : sProp 𝕄)
      = iprop((∃ f : Buf (Elt F) ((c : Thread nD τ).loc cc0_scratch0), ((c : Thread nD τ).loc cc0_scratch0) ↦{fullShare} f)
        ∗ Pipeline.scopedRestBut (Ix := Unit) (Name := ℕ) (U := UR sig nD τ) (Lvl := ℕ) (Val := Elt F) spec0 c [cc0_scratch0]) :=
  Pipeline.scopedRest_split_of_list spec0 c [cc0_scratch0] (by decide) (by decide)

/-- The scratch buffer before point `n`: anything where a weight block starts, and the block cast elsewhere. -/
def scr0 (c : Dev nD) (n : ℕ) : sProp 𝕄 :=
  if n % 8 = 0 then iprop(∃ d, owns (c : Thread nD τ) (Memref.whole cc0_scratch0) fullShare d)
  else iprop(∃ t' : Fin cfg0.N, ⌜t'.val / 8 = n / 8⌝ ∗ owns (c : Thread nD τ) (Memref.whole cc0_scratch0) fullShare (k0_pay1 (iblk0 V c 1 t')))

/-- What the scratch holds after point `t` is what the next point expects. -/
theorem scr0_close (c : Dev nD) (t : Fin cfg0.N) : owns (c : Thread nD τ) (Memref.whole cc0_scratch0) fullShare (k0_pay1 (iblk0 V c 1 t)) ⊢ scr0 V c (t.val + 1) := by
  unfold scr0
  by_cases h : (t.val + 1) % 8 = 0
  · rw [if_pos h]; iintro H; iexists _; iexact H
  · rw [if_neg h]; iintro H; iexists t
    isplitr; · ipureintro; omega
    iexact H

/-- A weight window moves only with the block's number. -/
theorem index0_1 : ∀ t t' : Fin grid0.N, t.val / 8 = t'.val / 8 → ∀ a, win0_1.index t a = win0_1.index t' a := by
  decide +kernel

theorem iblk0_1_eq (c : Dev nD) (t t' : Fin cfg0.N) (h : t.val / 8 = t'.val / 8) : iblk0 V c 1 t = iblk0 V c 1 t' := by
  funext y
  refine congrArg (V c main_v0) ?_
  funext a
  refine Fin.ext ?_
  have h1 := index0_1 t t' h
  fin_cases a
  · show win0_1.index t 0 + 1 * (y 0).val = win0_1.index t' 0 + 1 * (y 0).val
    rw [h1]
  · show win0_1.index t 1 + 1 * (y 1).val = win0_1.index t' 1 + 1 * (y 1).val
    rw [h1]
  · show win0_1.index t 2 + 1 * (y 2).val = win0_1.index t' 2 + 1 * (y 2).val
    rw [h1]

/-- The body's branch is taken exactly where a weight block starts. -/
theorem hcond0 : ∀ t : Fin cfg0.N, cond0 (grid0.coords t) ↔ t.val % 8 = 0 :=
  (fun t => by
    have ht : t.val < 8 := lt_of_lt_of_eq t.isLt N_0
    have e1 : (grid0.coords t 1).val = t.val / 1 % 8 := Pipeline.Grid.coords_val t 1 (by decide) rfl
    simp only [cond0, e1]
    word_cmp
   : ∀ t : Fin grid0.N, cond0 (grid0.coords t) ↔ t.val % 8 = 0)

/-- The region's proof data: each array at its entry contents, each input's buffer at its block, each output's at its payload, the scratch as the points leave it. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => k0_pay3 (iblk0 V c 0 t) (iblk0 V c 2 t) (k0_pay1 (iblk0 V c 1 t))
    | ⟨4, _⟩ => k0_pay2 (iblk0 V c 0 t) (iblk0 V c 2 t)
  Φ t := iprop(scr0 V c t.val ∗ Pipeline.scopedRestBut (Ix := Unit) (Name := ℕ) (U := UR sig nD τ) (Lvl := ℕ) (Val := Elt F) spec0 c [cc0_scratch0])
  q w := fullShare
  owed _ := 0

theorem A0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by
  dsimp only [dat0]
theorem after0_1 (c : Dev nD) (t : Fin cfg0.N) : (dat0 V c).after 1 t = iblk0 V c 1 t := by
  dsimp only [dat0]
theorem after0_2 (c : Dev nD) (t : Fin cfg0.N) : (dat0 V c).after 2 t = iblk0 V c 2 t := by
  dsimp only [dat0]
theorem after0_3 (c : Dev nD) (t : Fin cfg0.N) : (dat0 V c).after 3 t = k0_pay3 (iblk0 V c 0 t) (iblk0 V c 2 t) (k0_pay1 (iblk0 V c 1 t)) := by
  dsimp only [dat0]
theorem after0_4 (c : Dev nD) (t : Fin cfg0.N) : (dat0 V c).after 4 t = k0_pay2 (iblk0 V c 0 t) (iblk0 V c 2 t) := by
  dsimp only [dat0]
theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A0]; try rfl) t d).trans
    (by unfold Dat.fetched Dat.blockOf iblk0; rw [A0]; try rfl)
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A0]; try rfl) t d).trans
    (by unfold Dat.fetched Dat.blockOf iblk0; rw [A0]; try rfl)
theorem before0_2 (c : Dev nD) (t : Fin cfg0.N) (d) : (dat0 V c).before 2 t d = iblk0 V c 2 t :=
  ((dat0 V c).before_in_eq_fetched 2 rfl (fun _ => rfl) (fun _ _ _ => rfl) (fun t => by rw [after0_2]; unfold Dat.blockOf iblk0; rw [A0]; try rfl) t d).trans
    (by unfold Dat.fetched Dat.blockOf iblk0; rw [A0]; try rfl)
abbrev ms0_0 (t : Fin cfg0.N) : Memref sig .tc .vmem S1024x2048 .f32 := win0_0.stage (cfg0.slots t 0)
abbrev ms0_1 (t : Fin cfg0.N) : Memref sig .tc .vmem S1x128x2048 .f32 := win0_1.stage (cfg0.slots t 1)
abbrev ms0_2 (t : Fin cfg0.N) : Memref sig .tc .vmem S1x2048 .f32 := win0_2.stage (cfg0.slots t 2)
abbrev ms0_3 (t : Fin cfg0.N) : Memref sig .tc .vmem S1024x128 .f32 := win0_3.stage (cfg0.slots t 3)
abbrev ms0_4 (t : Fin cfg0.N) : Memref sig .tc .vmem S1024x2048 .bf16 := win0_4.stage (cfg0.slots t 4)

/-- What the body is given at a point. -/
def pre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d)))
/-- What the body leaves at a point. -/
def post0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t)
    ∗ owns (c : Thread nD τ) (ms0_4 t) fullShare ((dat0 V c).after 4 t))

set_option maxHeartbeats 4000000 in
/-- The body at any point. -/
theorem sound0 (c : Dev nD) (t : Fin cfg0.N) :
    pre0 V c t ⊢ wp frame (wpE (defs₀ (F := F)) Variants.none c none) Set.univ (bodyAt0 t) (fun _ => post0 V c t) := by
  unfold pre0 post0 bodyAt0
  simp only [before0_0, before0_1, before0_2]
  rw [show (dat0 V c).owesAt () t.succ = (dat0 V c).owesAt () t.castSucc from rfl,
    after0_0, after0_1, after0_2, after0_3, after0_4]
  rw [show (dat0 V c).Φ t.castSucc = iprop(scr0 V c t.val ∗ Pipeline.scopedRestBut (Ix := Unit) (Name := ℕ) (U := UR sig nD τ) (Lvl := ℕ) (Val := Elt F) spec0 c [cc0_scratch0]) from rfl,
    show (dat0 V c).Φ t.succ = iprop(scr0 V c (t.val + 1) ∗ Pipeline.scopedRestBut (Ix := Unit) (Name := ℕ) (U := UR sig nD τ) (Lvl := ℕ) (Val := Elt F) spec0 c [cc0_scratch0]) from rfl]
  by_cases h0 : t.val % 8 = 0
  · rw [show scr0 V c t.val = _ from if_pos h0]
    iintro ⟨⟨HS0, Hg⟩, Ho, ⟨%d0, H0⟩, ⟨%d1, H1⟩, ⟨%d2, H2⟩, ⟨%d3, H3⟩, ⟨%d4, H4⟩⟩
    iapply (run0A c (grid0.coords t) _ _ _ _ _ _ _ _ _ _ _ _ ((hcond0 t).mpr h0) (iblk0 V c 0 t) (iblk0 V c 1 t) (iblk0 V c 2 t) Set.univ _)
    isplitl [H0]; · iexact H0
    isplitl [H1]; · iexact H1
    isplitl [H2]; · iexact H2
    isplitl [H3]; · iexists _; iexact H3
    isplitl [H4]; · iexists _; iexact H4
    isplitl [HS0]; · iexact HS0
    iintro ⟨H0, H1, H2, H3, H4, HS0⟩
    isplitl [HS0 Hg]
    · isplitl [HS0]
      · iapply (scr0_close V c t); iexact HS0
      iexact Hg
    isplitl [Ho]; · iexact Ho
    isplitl [H0]; · iexact H0
    isplitl [H1]; · iexact H1
    isplitl [H2]; · iexact H2
    isplitl [H3]; · iexact H3
    iexact H4
  · rw [show scr0 V c t.val = _ from if_neg h0]
    iintro ⟨⟨⟨%t', %ht', HS0⟩, Hg⟩, Ho, ⟨%d0, H0⟩, ⟨%d1, H1⟩, ⟨%d2, H2⟩, ⟨%d3, H3⟩, ⟨%d4, H4⟩⟩
    rw [iblk0_1_eq V c t' t (by omega)]
    iapply (run0B c (grid0.coords t) _ _ _ _ _ _ _ _ _ _ _ _ (fun h => h0 ((hcond0 t).mp h)) (iblk0 V c 0 t) (iblk0 V c 1 t) (iblk0 V c 2 t) Set.univ _)
    isplitl [H0]; · iexact H0
    isplitl [H1]; · iexact H1
    isplitl [H2]; · iexact H2
    isplitl [H3]; · iexists _; iexact H3
    isplitl [H4]; · iexists _; iexact H4
    isplitl [HS0]; · iexact HS0
    iintro ⟨H0, H1, H2, H3, H4, HS0⟩
    isplitl [HS0 Hg]
    · isplitl [HS0]
      · iapply (scr0_close V c t); iexact HS0
      iexact Hg
    isplitl [Ho]; · iexact Ho
    isplitl [H0]; · iexact H0
    isplitl [H1]; · iexact H1
    isplitl [H2]; · iexact H2
    isplitl [H3]; · iexact H3
    iexact H4

theorem defs₀_row0 (t : Fin cfg0.N) :
    defs₀ (F := F) .tc cfg0.body (cfg0.bodyArgs t (cfg0.slots t)) = bodyAt0 t := by
  unfold defs₀; rw [Defs.onTc_tc]

/-- The pipeline's body obligation, at every point. -/
theorem body0 (c : Dev nD) : BodyObligation (dat0 V c) (defs₀ (F := F)) Variants.none () Set.univ := fun t => by
  rw [bigSep_W0, bigSep_W0, defs₀_row0]
  exact triple_restated (sound0 V c t) rfl .rfl fun _ => .rfl

variable (Vp : (c : Dev nD) → Valuation τ sig (Elt F))
variable (pdats : (p : Fin 4) → (c : Dev nD) → Dat τ (Elt F) Unit ℕ (UR sig nD τ) ℕ (cfgs p) c)

set_option maxHeartbeats 2000000 in
set_option backward.isDefEq.respectTransparency.types false in
/-- The region as a segment: entered with every unscoped buffer at `V`, left with them at `Vp`, the outputs' arrays as its points' write-backs make them. -/
def reg0 (hp : ∀ c, pdats 0 c = dat0 V c) (h3 : ∀ c, Vp c main_v2_0 = (dat0 V c).arrAt 3 cfg0.N) (h4 : ∀ c, Vp c main_v2_1 = (dat0 V c).arrAt 4 cfg0.N)
    (hne : ∀ c (b : Ref sig .tc), b ∉ ([main_v2_0, main_v2_1] : List (Ref sig .tc)) → Vp c b = V c b) :
    Pipeline.RegionSeg (pcfgs (F := F)) adm pdats () defs₀ Variants.none (fun _ => ∅) (fun _ _ => 0) 0 where
  win := launch0.win.to₀
  block_pos := launch0.block_pos
  stage_whole := launch0.stage_whole
  K := PEmpty
  osem k := k.elim
  ho := Pipeline.OwnSemFacts.none _
  hbody c := by
    have h := (body0 V c).loose
    rw [← hp c] at h
    exact h
  hwaits := Pipeline.hwaits_of_owed_zero _ _ _ _ (fun _ => ∅) (fun _ _ => 0) 0 fun c _ => by rw [hp c]; rfl
  pre c := iprop(unscopedBufs c (fun b => V c b) ∗ ∃ W, owes (c : Thread nD τ) (0 : CellTallies nD τ sig Unit) W)
  post c := iprop(unscopedBufs c (fun b => Vp c b) ∗ ∃ W, owes (c : Thread nD τ) (0 : CellTallies nD τ sig Unit) W)
  X _ := BI.emp
  Y _ := BI.emp
  Z c := Pipeline.unscopedRest (Ix := Unit) (Name := ℕ) (U := UR sig nD τ) (Lvl := ℕ) spec0 c (fun b => V c b)
  hentry c := by
    rw [Pipeline.ownSems0_none]
    have hsplit := Pipeline.arrays_of_unscopedBufs (p := 0) (pcfgs (F := F)) adm pdats launch0.win launch0.arr_whole c
      ((pdats 0 c).share_full fun _ => by rw [hp c]; rfl) (fun b => V c b) (fun w => by rw [hp c]; exact A0 V c w)
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · rw [show (pdats 0 c).owesAt () 0 = (dat0 V c).owesAt () 0 from by rw [hp c]]
      unfold Pipeline.Dat.owesAt Pipeline.owesWithin
      icases HO with ⟨%W, HO⟩; iexists W; isplitr; · ipureintro; exact fun _ _ => Or.inl trivial
      iexact HO
    isplitr; · iempintro
    iexact Hrest
  hin c := by
    rw [hp c, show (dat0 V c).Φ 0 = iprop(scr0 V c 0 ∗ Pipeline.scopedRestBut (Ix := Unit) (Name := ℕ) (U := UR sig nD τ) (Lvl := ℕ) (Val := Elt F) spec0 c [cc0_scratch0]) from rfl, show scr0 V c 0 = _ from if_pos rfl]
    have hs := split0 (F := F) c
    simp only [owns_whole]
    iintro ⟨-, -, Hr⟩
    ihave H := (Entails.of_eq hs) $$ Hr
    iexact H
  hout c := by
    rw [Pipeline.ownSems0_none, hp c, show (dat0 V c).Φ (Fin.last (Pipeline.pin (pcfgs (F := F)) adm 0).N) = iprop(scr0 V c grid0.N ∗ Pipeline.scopedRestBut (Ix := Unit) (Name := ℕ) (U := UR sig nD τ) (Lvl := ℕ) (Val := Elt F) spec0 c [cc0_scratch0]) from rfl,
      show scr0 V c grid0.N = _ from if_pos (by rw [N_0])]
    have hs := split0 (F := F) c
    simp only [owns_whole]
    iintro Hr
    isplitr; · iempintro
    isplitr; · iempintro
    iapply (Entails.of_eq hs.symm)
    iexact Hr
  hexit c := by
    have hjoin := Pipeline.unscopedBufs_of_arrays (p := 0) (pcfgs (F := F)) adm (Ix := Unit) (Name := ℕ) (U := UR sig nD τ) (Lvl := ℕ) launch0.win launch0.arr_whole c
      pdats ((pdats 0 c).share_full fun _ => by rw [hp c]; rfl) (fun b => V c b) (fun b => Vp c b) ((pdats 0 c).arrAt · cfg0.N)
      (fun w => by
        rw [hp c]
        fin_cases w
        · exact ((dat0 V c).arrAt_in 0 rfl _).trans (hne c main_arg0 (by decide)).symm
        · exact ((dat0 V c).arrAt_in 1 rfl _).trans (hne c main_v0 (by decide)).symm
        · exact ((dat0 V c).arrAt_in 2 rfl _).trans (hne c main_v1 (by decide)).symm
        · exact (h3 c).symm
        · exact (h4 c).symm
        )
      (fun b hb => hne c b fun h => hb (by
        simp only [List.mem_cons, List.not_mem_nil, _root_.or_false] at h
        rcases h with h | h
        · exact h ▸ Finset.mem_image.mpr ⟨3, Finset.mem_univ _, rfl⟩
        · exact h ▸ Finset.mem_image.mpr ⟨4, Finset.mem_univ _, rfl⟩))
    have hO : (pdats 0 c).owesAt () (Fin.last cfg0.N) ⊢ (iprop(∃ W, owes (c : Thread nD τ) (0 : CellTallies nD τ sig Unit) W) : sProp 𝕄) := by
      rw [hp c]
      unfold Pipeline.Dat.owesAt Pipeline.owesWithin
      iintro ⟨%W, -, HO⟩; iexists W; iexact HO
    iintro ⟨Ha, HO, -, Hrest⟩
    imodintro
    isplitl [Ha Hrest]
    · iapply hjoin; isplitl [Ha] <;> iassumption
    iapply hO; iexact HO

end Cert.Kernel4Ideal.Hand

end
-- ==== Proof.P4Run1.lean ====
module

public import proofs.«01_k».proof.Proof.Gen.Kernel4Ideal.Launch
public import proofs.«01_k».proof.Proof.Gen.Kernel4Ideal.Skeleton
public import proofs.«01_k».proof.Proof.Gen.Kernel4Ideal.Points
public import Idealize.ShloMosaic.Lib.Pipeline.FrameBody
public import Idealize.ShloMosaic.Lib.Pipeline.RegionsLoop
public import Idealize.ShloMosaic.Lib.Pipeline.Value
public import Idealize.ShloMosaic.Lib.Ring
public import Idealize.ShloMosaic.Lib.Tactic
public import Idealize.ShloMosaic.Lib.VecWindow
public import Idealize.ShloMosaic.Lib.WordCmp

@[expose] public section

set_option maxRecDepth 16384

noncomputable section

namespace Cert.Kernel4Ideal.Hand

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The condition of the body's branch, as the program states it. -/
abbrev cond1 (i : grid1.Coords) : Prop := (Scalar.cmpi .ne (Scalar.extui (Scalar.cmpi .eq (BitVec.ofNat 32 (i 1).val) 0#32)) 0#32) = 1#1

set_option maxHeartbeats 4000000 in
/-- The body where it casts the weight block first: from any scratch contents, every output ends at its payload and the scratch at the cast block. -/
theorem run1A (c : Dev nD) (i : grid1.Coords) (arg2 : Memref sig .tc .vmem S1024x2048 .bf16) (harg2 : arg2.IsWhole) (arg3 : Memref sig .tc .vmem S1x1024x2048 .f32) (harg3 : arg3.IsWhole) (arg4 : Memref sig .tc .vmem S1024x1024 .bf16) (harg4 : arg4.IsWhole) (arg5 : Memref sig .tc .vmem S1024x2048 .bf16) (harg5 : arg5.IsWhole) (hc0 : cond1 i)
    (x0 : Vec F S1024x2048 .bf16) (x1 : Vec F S1x1024x2048 .f32) (E : Set ℕ) (K : PUnit → sProp 𝕄) :
    iprop(owns (c : Thread nD τ) arg2 fullShare x0 ∗ owns (c : Thread nD τ) arg3 fullShare x1 ∗ (∃ d, owns (c : Thread nD τ) arg4 fullShare d) ∗ (∃ d, owns (c : Thread nD τ) arg5 fullShare d)
        ∗ (iprop(owns (c : Thread nD τ) arg2 fullShare x0 ∗ owns (c : Thread nD τ) arg3 fullShare x1 ∗ owns (c : Thread nD τ) arg4 fullShare (k1_pay2 x0 (k1_pay1 x1)) ∗ owns (c : Thread nD τ) arg5 fullShare (k1_pay1 x1)) -∗ K ⟨⟩))
      ⊢ wp frame (wpE (defs₀ (F := F)) Variants.none c none) E (cc1_matmul_nt i arg2 harg2 arg3 harg3 arg4 harg4 arg5 harg5) K := by
  simp only [cc1_matmul_nt_eq_skeleton]; unfold cc1_matmul_nt_skel
  unfold owns
  iintro ⟨⟨%f0, %hf0, H0⟩, ⟨%f1, %hf1, H1⟩, ⟨%d2, %f2, -, H2⟩, ⟨%d3, %f3, -, H3⟩, Hk⟩
  obtain rfl := harg2.eq_unread hf0; obtain rfl := harg3.eq_unread hf1
  sl_exec (disch := first | sl_exact hc0)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; swap; · iexact H2
    ipureintro
    refine (View.read_writes_full _ _ _ _ _).trans ?_
    show k1_pay2 _ _ = k1_pay2 x0 (k1_pay1 x1)
    exact (congr (congrArg k1_pay2 ((View.readAt_full _ _ _).trans (Memref.IsWhole.read_unread _ _))) ((View.readCov_full _ _ _ _ _).trans (congrArg k1_pay1 ((View.readAt_full _ _ _).trans (Memref.IsWhole.read_unread _ _)))))
  · iexists _; isplitr; swap; · iexact H3
    ipureintro
    refine (View.read_writes_full _ _ _ _ _).trans ?_
    show k1_pay1 _ = k1_pay1 x1
    exact (congrArg k1_pay1 ((View.readAt_full _ _ _).trans (Memref.IsWhole.read_unread _ _)))

set_option maxHeartbeats 4000000 in
/-- The body where the scratch already holds the cast block: every output ends at its payload and the scratch stays. -/
theorem run1B (c : Dev nD) (i : grid1.Coords) (arg2 : Memref sig .tc .vmem S1024x2048 .bf16) (harg2 : arg2.IsWhole) (arg3 : Memref sig .tc .vmem S1x1024x2048 .f32) (harg3 : arg3.IsWhole) (arg4 : Memref sig .tc .vmem S1024x1024 .bf16) (harg4 : arg4.IsWhole) (arg5 : Memref sig .tc .vmem S1024x2048 .bf16) (harg5 : arg5.IsWhole) (hc0 : ¬cond1 i)
    (x0 : Vec F S1024x2048 .bf16) (x1 : Vec F S1x1024x2048 .f32) (E : Set ℕ) (K : PUnit → sProp 𝕄) :
    iprop(owns (c : Thread nD τ) arg2 fullShare x0 ∗ owns (c : Thread nD τ) arg3 fullShare x1 ∗ (∃ d, owns (c : Thread nD τ) arg4 fullShare d) ∗ owns (c : Thread nD τ) arg5 fullShare (k1_pay1 x1)
        ∗ (iprop(owns (c : Thread nD τ) arg2 fullShare x0 ∗ owns (c : Thread nD τ) arg3 fullShare x1 ∗ owns (c : Thread nD τ) arg4 fullShare (k1_pay2 x0 (k1_pay1 x1)) ∗ owns (c : Thread nD τ) arg5 fullShare (k1_pay1 x1)) -∗ K ⟨⟩))
      ⊢ wp frame (wpE (defs₀ (F := F)) Variants.none c none) E (cc1_matmul_nt i arg2 harg2 arg3 harg3 arg4 harg4 arg5 harg5) K := by
  simp only [cc1_matmul_nt_eq_skeleton]; unfold cc1_matmul_nt_skel
  unfold owns
  iintro ⟨⟨%f0, %hf0, H0⟩, ⟨%f1, %hf1, H1⟩, ⟨%d2, %f2, -, H2⟩, ⟨%f3, %hf3, H3⟩, Hk⟩
  obtain rfl := harg2.eq_unread hf0; obtain rfl := harg3.eq_unread hf1; obtain rfl := harg5.eq_unread hf3
  sl_exec (disch := first | sl_exact hc0)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; swap; · iexact H2
    ipureintro
    refine (View.read_writes_full _ _ _ _ _).trans ?_
    show k1_pay2 _ _ = k1_pay2 x0 (k1_pay1 x1)
    exact (congr (congrArg k1_pay2 ((View.readAt_full _ _ _).trans (Memref.IsWhole.read_unread _ _))) ((View.readAt_full _ _ _).trans (Memref.IsWhole.read_unread _ _)))
  · iexists _; isplitr; · ipureintro; exact harg5.read_unread _
    iexact H3

end Cert.Kernel4Ideal.Hand

end
-- ==== Proof.P4Region1.lean ====
module

public import proofs.«01_k».proof.Proof.Gen.Kernel4Ideal.Launch
public import proofs.«01_k».proof.Proof.Gen.Kernel4Ideal.Skeleton
public import proofs.«01_k».proof.Proof.Gen.Kernel4Ideal.Points
public import Idealize.ShloMosaic.Lib.Pipeline.FrameBody
public import Idealize.ShloMosaic.Lib.Pipeline.RegionsLoop
public import Idealize.ShloMosaic.Lib.Pipeline.Value
public import Idealize.ShloMosaic.Lib.Ring
public import Idealize.ShloMosaic.Lib.Tactic
public import Idealize.ShloMosaic.Lib.VecWindow
public import Idealize.ShloMosaic.Lib.WordCmp
public import proofs.«01_k».proof.Proof.Gen.Kernel4Ideal.Regions
public import proofs.«01_k».proof.Proof.P4Run1

@[expose] public section

set_option maxRecDepth 16384

noncomputable section

namespace Cert.Kernel4Ideal.Hand

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → Valuation τ sig (Elt F))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The launch's scratch buffer split off the buffers the region may overwrite. -/
theorem split1 (c : Dev nD) :
    (Pipeline.scopedRest (Ix := Unit) (Name := ℕ) (U := UR sig nD τ) (Lvl := ℕ) (Val := Elt F) spec1 c : sProp 𝕄)
      = iprop((∃ f : Buf (Elt F) ((c : Thread nD τ).loc cc1_scratch0), ((c : Thread nD τ).loc cc1_scratch0) ↦{fullShare} f)
        ∗ Pipeline.scopedRestBut (Ix := Unit) (Name := ℕ) (U := UR sig nD τ) (Lvl := ℕ) (Val := Elt F) spec1 c [cc1_scratch0]) :=
  Pipeline.scopedRest_split_of_list spec1 c [cc1_scratch0] (by decide) (by decide)

/-- The scratch buffer before point `n`: anything where a weight block starts, and the block cast elsewhere. -/
def scr1 (c : Dev nD) (n : ℕ) : sProp 𝕄 :=
  if n % 8 = 0 then iprop(∃ d, owns (c : Thread nD τ) (Memref.whole cc1_scratch0) fullShare d)
  else iprop(∃ t' : Fin cfg1.N, ⌜t'.val / 8 = n / 8⌝ ∗ owns (c : Thread nD τ) (Memref.whole cc1_scratch0) fullShare (k1_pay1 (iblk1 V c 1 t')))

/-- What the scratch holds after point `t` is what the next point expects. -/
theorem scr1_close (c : Dev nD) (t : Fin cfg1.N) : owns (c : Thread nD τ) (Memref.whole cc1_scratch0) fullShare (k1_pay1 (iblk1 V c 1 t)) ⊢ scr1 V c (t.val + 1) := by
  unfold scr1
  by_cases h : (t.val + 1) % 8 = 0
  · rw [if_pos h]; iintro H; iexists _; iexact H
  · rw [if_neg h]; iintro H; iexists t
    isplitr; · ipureintro; omega
    iexact H

/-- A weight window moves only with the block's number. -/
theorem index1_1 : ∀ t t' : Fin grid1.N, t.val / 8 = t'.val / 8 → ∀ a, win1_1.index t a = win1_1.index t' a := by
  decide +kernel

theorem iblk1_1_eq (c : Dev nD) (t t' : Fin cfg1.N) (h : t.val / 8 = t'.val / 8) : iblk1 V c 1 t = iblk1 V c 1 t' := by
  funext y
  refine congrArg (V c main_v0) ?_
  funext a
  refine Fin.ext ?_
  have h1 := index1_1 t t' h
  fin_cases a
  · show win1_1.index t 0 + 1 * (y 0).val = win1_1.index t' 0 + 1 * (y 0).val
    rw [h1]
  · show win1_1.index t 1 + 1 * (y 1).val = win1_1.index t' 1 + 1 * (y 1).val
    rw [h1]
  · show win1_1.index t 2 + 1 * (y 2).val = win1_1.index t' 2 + 1 * (y 2).val
    rw [h1]

/-- The body's branch is taken exactly where a weight block starts. -/
theorem hcond1 : ∀ t : Fin cfg1.N, cond1 (grid1.coords t) ↔ t.val % 8 = 0 :=
  (fun t => by
    have ht : t.val < 40 := lt_of_lt_of_eq t.isLt N_1
    have e1 : (grid1.coords t 1).val = t.val / 1 % 8 := Pipeline.Grid.coords_val t 1 (by decide) rfl
    simp only [cond1, e1]
    word_cmp
   : ∀ t : Fin grid1.N, cond1 (grid1.coords t) ↔ t.val % 8 = 0)

/-- The region's proof data: each array at its entry contents, each input's buffer at its block, each output's at its payload, the scratch as the points leave it. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => k1_pay2 (iblk1 V c 0 t) (k1_pay1 (iblk1 V c 1 t))
  Φ t := iprop(scr1 V c t.val ∗ Pipeline.scopedRestBut (Ix := Unit) (Name := ℕ) (U := UR sig nD τ) (Lvl := ℕ) (Val := Elt F) spec1 c [cc1_scratch0])
  q w := fullShare
  owed _ := 0

theorem A1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by
  dsimp only [dat1]
theorem after1_1 (c : Dev nD) (t : Fin cfg1.N) : (dat1 V c).after 1 t = iblk1 V c 1 t := by
  dsimp only [dat1]
theorem after1_2 (c : Dev nD) (t : Fin cfg1.N) : (dat1 V c).after 2 t = k1_pay2 (iblk1 V c 0 t) (k1_pay1 (iblk1 V c 1 t)) := by
  dsimp only [dat1]
theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A1]; try rfl) t d).trans
    (by unfold Dat.fetched Dat.blockOf iblk1; rw [A1]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A1]; try rfl) t d).trans
    (by unfold Dat.fetched Dat.blockOf iblk1; rw [A1]; try rfl)
abbrev ms1_0 (t : Fin cfg1.N) : Memref sig .tc .vmem S1024x2048 .bf16 := win1_0.stage (cfg1.slots t 0)
abbrev ms1_1 (t : Fin cfg1.N) : Memref sig .tc .vmem S1x1024x2048 .f32 := win1_1.stage (cfg1.slots t 1)
abbrev ms1_2 (t : Fin cfg1.N) : Memref sig .tc .vmem S1024x1024 .bf16 := win1_2.stage (cfg1.slots t 2)

/-- What the body is given at a point. -/
def pre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))
/-- What the body leaves at a point. -/
def post1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t))

set_option maxHeartbeats 4000000 in
/-- The body at any point. -/
theorem sound1 (c : Dev nD) (t : Fin cfg1.N) :
    pre1 V c t ⊢ wp frame (wpE (defs₀ (F := F)) Variants.none c none) Set.univ (bodyAt1 t) (fun _ => post1 V c t) := by
  unfold pre1 post1 bodyAt1
  simp only [before1_0, before1_1]
  rw [show (dat1 V c).owesAt () t.succ = (dat1 V c).owesAt () t.castSucc from rfl,
    after1_0, after1_1, after1_2]
  rw [show (dat1 V c).Φ t.castSucc = iprop(scr1 V c t.val ∗ Pipeline.scopedRestBut (Ix := Unit) (Name := ℕ) (U := UR sig nD τ) (Lvl := ℕ) (Val := Elt F) spec1 c [cc1_scratch0]) from rfl,
    show (dat1 V c).Φ t.succ = iprop(scr1 V c (t.val + 1) ∗ Pipeline.scopedRestBut (Ix := Unit) (Name := ℕ) (U := UR sig nD τ) (Lvl := ℕ) (Val := Elt F) spec1 c [cc1_scratch0]) from rfl]
  by_cases h0 : t.val % 8 = 0
  · rw [show scr1 V c t.val = _ from if_pos h0]
    iintro ⟨⟨HS0, Hg⟩, Ho, ⟨%d0, H0⟩, ⟨%d1, H1⟩, ⟨%d2, H2⟩⟩
    iapply (run1A c (grid1.coords t) _ _ _ _ _ _ _ _ ((hcond1 t).mpr h0) (iblk1 V c 0 t) (iblk1 V c 1 t) Set.univ _)
    isplitl [H0]; · iexact H0
    isplitl [H1]; · iexact H1
    isplitl [H2]; · iexists _; iexact H2
    isplitl [HS0]; · iexact HS0
    iintro ⟨H0, H1, H2, HS0⟩
    isplitl [HS0 Hg]
    · isplitl [HS0]
      · iapply (scr1_close V c t); iexact HS0
      iexact Hg
    isplitl [Ho]; · iexact Ho
    isplitl [H0]; · iexact H0
    isplitl [H1]; · iexact H1
    iexact H2
  · rw [show scr1 V c t.val = _ from if_neg h0]
    iintro ⟨⟨⟨%t', %ht', HS0⟩, Hg⟩, Ho, ⟨%d0, H0⟩, ⟨%d1, H1⟩, ⟨%d2, H2⟩⟩
    rw [iblk1_1_eq V c t' t (by omega)]
    iapply (run1B c (grid1.coords t) _ _ _ _ _ _ _ _ (fun h => h0 ((hcond1 t).mp h)) (iblk1 V c 0 t) (iblk1 V c 1 t) Set.univ _)
    isplitl [H0]; · iexact H0
    isplitl [H1]; · iexact H1
    isplitl [H2]; · iexists _; iexact H2
    isplitl [HS0]; · iexact HS0
    iintro ⟨H0, H1, H2, HS0⟩
    isplitl [HS0 Hg]
    · isplitl [HS0]
      · iapply (scr1_close V c t); iexact HS0
      iexact Hg
    isplitl [Ho]; · iexact Ho
    isplitl [H0]; · iexact H0
    isplitl [H1]; · iexact H1
    iexact H2

theorem defs₀_row1 (t : Fin cfg1.N) :
    defs₀ (F := F) .tc cfg1.body (cfg1.bodyArgs t (cfg1.slots t)) = bodyAt1 t := by
  unfold defs₀; rw [Defs.onTc_tc]

/-- The pipeline's body obligation, at every point. -/
theorem body1 (c : Dev nD) : BodyObligation (dat1 V c) (defs₀ (F := F)) Variants.none () Set.univ := fun t => by
  rw [bigSep_W1, bigSep_W1, defs₀_row1]
  exact triple_restated (sound1 V c t) rfl .rfl fun _ => .rfl

variable (Vp : (c : Dev nD) → Valuation τ sig (Elt F))
variable (pdats : (p : Fin 4) → (c : Dev nD) → Dat τ (Elt F) Unit ℕ (UR sig nD τ) ℕ (cfgs p) c)

set_option maxHeartbeats 2000000 in
set_option backward.isDefEq.respectTransparency.types false in
/-- The region as a segment: entered with every unscoped buffer at `V`, left with them at `Vp`, the outputs' arrays as its points' write-backs make them. -/
def reg1 (hp : ∀ c, pdats 1 c = dat1 V c) (h2 : ∀ c, Vp c main_v3 = (dat1 V c).arrAt 2 cfg1.N)
    (hne : ∀ c (b : Ref sig .tc), b ∉ ([main_v3] : List (Ref sig .tc)) → Vp c b = V c b) :
    Pipeline.RegionSeg (pcfgs (F := F)) adm pdats () defs₀ Variants.none (fun _ => ∅) (fun _ _ => 0) 1 where
  win := launch1.win.to₀
  block_pos := launch1.block_pos
  stage_whole := launch1.stage_whole
  K := PEmpty
  osem k := k.elim
  ho := Pipeline.OwnSemFacts.none _
  hbody c := by
    have h := (body1 V c).loose
    rw [← hp c] at h
    exact h
  hwaits := Pipeline.hwaits_of_owed_zero _ _ _ _ (fun _ => ∅) (fun _ _ => 0) 1 fun c _ => by rw [hp c]; rfl
  pre c := iprop(unscopedBufs c (fun b => V c b) ∗ ∃ W, owes (c : Thread nD τ) (0 : CellTallies nD τ sig Unit) W)
  post c := iprop(unscopedBufs c (fun b => Vp c b) ∗ ∃ W, owes (c : Thread nD τ) (0 : CellTallies nD τ sig Unit) W)
  X _ := BI.emp
  Y _ := BI.emp
  Z c := Pipeline.unscopedRest (Ix := Unit) (Name := ℕ) (U := UR sig nD τ) (Lvl := ℕ) spec1 c (fun b => V c b)
  hentry c := by
    rw [Pipeline.ownSems0_none]
    have hsplit := Pipeline.arrays_of_unscopedBufs (p := 1) (pcfgs (F := F)) adm pdats launch1.win launch1.arr_whole c
      ((pdats 1 c).share_full fun _ => by rw [hp c]; rfl) (fun b => V c b) (fun w => by rw [hp c]; exact A1 V c w)
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · rw [show (pdats 1 c).owesAt () 0 = (dat1 V c).owesAt () 0 from by rw [hp c]]
      unfold Pipeline.Dat.owesAt Pipeline.owesWithin
      icases HO with ⟨%W, HO⟩; iexists W; isplitr; · ipureintro; exact fun _ _ => Or.inl trivial
      iexact HO
    isplitr; · iempintro
    iexact Hrest
  hin c := by
    rw [hp c, show (dat1 V c).Φ 0 = iprop(scr1 V c 0 ∗ Pipeline.scopedRestBut (Ix := Unit) (Name := ℕ) (U := UR sig nD τ) (Lvl := ℕ) (Val := Elt F) spec1 c [cc1_scratch0]) from rfl, show scr1 V c 0 = _ from if_pos rfl]
    have hs := split1 (F := F) c
    simp only [owns_whole]
    iintro ⟨-, -, Hr⟩
    ihave H := (Entails.of_eq hs) $$ Hr
    iexact H
  hout c := by
    rw [Pipeline.ownSems0_none, hp c, show (dat1 V c).Φ (Fin.last (Pipeline.pin (pcfgs (F := F)) adm 1).N) = iprop(scr1 V c grid1.N ∗ Pipeline.scopedRestBut (Ix := Unit) (Name := ℕ) (U := UR sig nD τ) (Lvl := ℕ) (Val := Elt F) spec1 c [cc1_scratch0]) from rfl,
      show scr1 V c grid1.N = _ from if_pos (by rw [N_1])]
    have hs := split1 (F := F) c
    simp only [owns_whole]
    iintro Hr
    isplitr; · iempintro
    isplitr; · iempintro
    iapply (Entails.of_eq hs.symm)
    iexact Hr
  hexit c := by
    have hjoin := Pipeline.unscopedBufs_of_arrays (p := 1) (pcfgs (F := F)) adm (Ix := Unit) (Name := ℕ) (U := UR sig nD τ) (Lvl := ℕ) launch1.win launch1.arr_whole c
      pdats ((pdats 1 c).share_full fun _ => by rw [hp c]; rfl) (fun b => V c b) (fun b => Vp c b) ((pdats 1 c).arrAt · cfg1.N)
      (fun w => by
        rw [hp c]
        fin_cases w
        · exact ((dat1 V c).arrAt_in 0 rfl _).trans (hne c main_v2_1 (by decide)).symm
        · exact ((dat1 V c).arrAt_in 1 rfl _).trans (hne c main_v0 (by decide)).symm
        · exact (h2 c).symm
        )
      (fun b hb => hne c b fun h => hb (by
        simp only [List.mem_cons, List.not_mem_nil, _root_.or_false] at h
        have h := h
        · exact h ▸ Finset.mem_image.mpr ⟨2, Finset.mem_univ _, rfl⟩))
    have hO : (pdats 1 c).owesAt () (Fin.last cfg1.N) ⊢ (iprop(∃ W, owes (c : Thread nD τ) (0 : CellTallies nD τ sig Unit) W) : sProp 𝕄) := by
      rw [hp c]
      unfold Pipeline.Dat.owesAt Pipeline.owesWithin
      iintro ⟨%W, -, HO⟩; iexists W; iexact HO
    iintro ⟨Ha, HO, -, Hrest⟩
    imodintro
    isplitl [Ha Hrest]
    · iapply hjoin; isplitl [Ha] <;> iassumption
    iapply hO; iexact HO

end Cert.Kernel4Ideal.Hand

end
-- ==== Proof.P4Run2.lean ====
module

public import proofs.«01_k».proof.Proof.Gen.Kernel4Ideal.Launch
public import proofs.«01_k».proof.Proof.Gen.Kernel4Ideal.Skeleton
public import proofs.«01_k».proof.Proof.Gen.Kernel4Ideal.Points
public import Idealize.ShloMosaic.Lib.Pipeline.FrameBody
public import Idealize.ShloMosaic.Lib.Pipeline.RegionsLoop
public import Idealize.ShloMosaic.Lib.Pipeline.Value
public import Idealize.ShloMosaic.Lib.Ring
public import Idealize.ShloMosaic.Lib.Tactic
public import Idealize.ShloMosaic.Lib.VecWindow
public import Idealize.ShloMosaic.Lib.WordCmp

@[expose] public section

set_option maxRecDepth 16384

noncomputable section

namespace Cert.Kernel4Ideal.Hand

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The condition of the body's branch, as the program states it. -/
abbrev cond2 (i : grid2.Coords) : Prop := (Scalar.cmpi .ne (Scalar.extui (Scalar.cmpi .eq (BitVec.ofNat 32 (i 1).val) 0#32)) 0#32) = 1#1

set_option maxHeartbeats 4000000 in
/-- The body where it casts the weight block first: from any scratch contents, every output ends at its payload and the scratch at the cast block. -/
theorem run2A (c : Dev nD) (i : grid2.Coords) (arg2 : Memref sig .tc .vmem S1024x2048 .bf16) (harg2 : arg2.IsWhole) (arg3 : Memref sig .tc .vmem S1x1024x2048 .f32) (harg3 : arg3.IsWhole) (arg4 : Memref sig .tc .vmem S1024x1024 .bf16) (harg4 : arg4.IsWhole) (arg5 : Memref sig .tc .vmem S1024x2048 .bf16) (harg5 : arg5.IsWhole) (hc0 : cond2 i)
    (x0 : Vec F S1024x2048 .bf16) (x1 : Vec F S1x1024x2048 .f32) (E : Set ℕ) (K : PUnit → sProp 𝕄) :
    iprop(owns (c : Thread nD τ) arg2 fullShare x0 ∗ owns (c : Thread nD τ) arg3 fullShare x1 ∗ (∃ d, owns (c : Thread nD τ) arg4 fullShare d) ∗ (∃ d, owns (c : Thread nD τ) arg5 fullShare d)
        ∗ (iprop(owns (c : Thread nD τ) arg2 fullShare x0 ∗ owns (c : Thread nD τ) arg3 fullShare x1 ∗ owns (c : Thread nD τ) arg4 fullShare (k2_pay2 x0 (k2_pay1 x1)) ∗ owns (c : Thread nD τ) arg5 fullShare (k2_pay1 x1)) -∗ K ⟨⟩))
      ⊢ wp frame (wpE (defs₀ (F := F)) Variants.none c none) E (cc2_matmul_nt i arg2 harg2 arg3 harg3 arg4 harg4 arg5 harg5) K := by
  simp only [cc2_matmul_nt_eq_skeleton]; unfold cc2_matmul_nt_skel
  unfold owns
  iintro ⟨⟨%f0, %hf0, H0⟩, ⟨%f1, %hf1, H1⟩, ⟨%d2, %f2, -, H2⟩, ⟨%d3, %f3, -, H3⟩, Hk⟩
  obtain rfl := harg2.eq_unread hf0; obtain rfl := harg3.eq_unread hf1
  sl_exec (disch := first | sl_exact hc0)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; swap; · iexact H2
    ipureintro
    refine (View.read_writes_full _ _ _ _ _).trans ?_
    show k2_pay2 _ _ = k2_pay2 x0 (k2_pay1 x1)
    exact (congr (congrArg k2_pay2 ((View.readAt_full _ _ _).trans (Memref.IsWhole.read_unread _ _))) ((View.readCov_full _ _ _ _ _).trans (congrArg k2_pay1 ((View.readAt_full _ _ _).trans (Memref.IsWhole.read_unread _ _)))))
  · iexists _; isplitr; swap; · iexact H3
    ipureintro
    refine (View.read_writes_full _ _ _ _ _).trans ?_
    show k2_pay1 _ = k2_pay1 x1
    exact (congrArg k2_pay1 ((View.readAt_full _ _ _).trans (Memref.IsWhole.read_unread _ _)))

set_option maxHeartbeats 4000000 in
/-- The body where the scratch already holds the cast block: every output ends at its payload and the scratch stays. -/
theorem run2B (c : Dev nD) (i : grid2.Coords) (arg2 : Memref sig .tc .vmem S1024x2048 .bf16) (harg2 : arg2.IsWhole) (arg3 : Memref sig .tc .vmem S1x1024x2048 .f32) (harg3 : arg3.IsWhole) (arg4 : Memref sig .tc .vmem S1024x1024 .bf16) (harg4 : arg4.IsWhole) (arg5 : Memref sig .tc .vmem S1024x2048 .bf16) (harg5 : arg5.IsWhole) (hc0 : ¬cond2 i)
    (x0 : Vec F S1024x2048 .bf16) (x1 : Vec F S1x1024x2048 .f32) (E : Set ℕ) (K : PUnit → sProp 𝕄) :
    iprop(owns (c : Thread nD τ) arg2 fullShare x0 ∗ owns (c : Thread nD τ) arg3 fullShare x1 ∗ (∃ d, owns (c : Thread nD τ) arg4 fullShare d) ∗ owns (c : Thread nD τ) arg5 fullShare (k2_pay1 x1)
        ∗ (iprop(owns (c : Thread nD τ) arg2 fullShare x0 ∗ owns (c : Thread nD τ) arg3 fullShare x1 ∗ owns (c : Thread nD τ) arg4 fullShare (k2_pay2 x0 (k2_pay1 x1)) ∗ owns (c : Thread nD τ) arg5 fullShare (k2_pay1 x1)) -∗ K ⟨⟩))
      ⊢ wp frame (wpE (defs₀ (F := F)) Variants.none c none) E (cc2_matmul_nt i arg2 harg2 arg3 harg3 arg4 harg4 arg5 harg5) K := by
  simp only [cc2_matmul_nt_eq_skeleton]; unfold cc2_matmul_nt_skel
  unfold owns
  iintro ⟨⟨%f0, %hf0, H0⟩, ⟨%f1, %hf1, H1⟩, ⟨%d2, %f2, -, H2⟩, ⟨%f3, %hf3, H3⟩, Hk⟩
  obtain rfl := harg2.eq_unread hf0; obtain rfl := harg3.eq_unread hf1; obtain rfl := harg5.eq_unread hf3
  sl_exec (disch := first | sl_exact hc0)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; swap; · iexact H2
    ipureintro
    refine (View.read_writes_full _ _ _ _ _).trans ?_
    show k2_pay2 _ _ = k2_pay2 x0 (k2_pay1 x1)
    exact (congr (congrArg k2_pay2 ((View.readAt_full _ _ _).trans (Memref.IsWhole.read_unread _ _))) ((View.readAt_full _ _ _).trans (Memref.IsWhole.read_unread _ _)))
  · iexists _; isplitr; · ipureintro; exact harg5.read_unread _
    iexact H3

end Cert.Kernel4Ideal.Hand

end
-- ==== Proof.P4Region2.lean ====
module

public import proofs.«01_k».proof.Proof.Gen.Kernel4Ideal.Launch
public import proofs.«01_k».proof.Proof.Gen.Kernel4Ideal.Skeleton
public import proofs.«01_k».proof.Proof.Gen.Kernel4Ideal.Points
public import Idealize.ShloMosaic.Lib.Pipeline.FrameBody
public import Idealize.ShloMosaic.Lib.Pipeline.RegionsLoop
public import Idealize.ShloMosaic.Lib.Pipeline.Value
public import Idealize.ShloMosaic.Lib.Ring
public import Idealize.ShloMosaic.Lib.Tactic
public import Idealize.ShloMosaic.Lib.VecWindow
public import Idealize.ShloMosaic.Lib.WordCmp
public import proofs.«01_k».proof.Proof.Gen.Kernel4Ideal.Regions
public import proofs.«01_k».proof.Proof.P4Run2

@[expose] public section

set_option maxRecDepth 16384

noncomputable section

namespace Cert.Kernel4Ideal.Hand

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → Valuation τ sig (Elt F))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The launch's scratch buffer split off the buffers the region may overwrite. -/
theorem split2 (c : Dev nD) :
    (Pipeline.scopedRest (Ix := Unit) (Name := ℕ) (U := UR sig nD τ) (Lvl := ℕ) (Val := Elt F) spec2 c : sProp 𝕄)
      = iprop((∃ f : Buf (Elt F) ((c : Thread nD τ).loc cc2_scratch0), ((c : Thread nD τ).loc cc2_scratch0) ↦{fullShare} f)
        ∗ Pipeline.scopedRestBut (Ix := Unit) (Name := ℕ) (U := UR sig nD τ) (Lvl := ℕ) (Val := Elt F) spec2 c [cc2_scratch0]) :=
  Pipeline.scopedRest_split_of_list spec2 c [cc2_scratch0] (by decide) (by decide)

/-- The scratch buffer before point `n`: anything where a weight block starts, and the block cast elsewhere. -/
def scr2 (c : Dev nD) (n : ℕ) : sProp 𝕄 :=
  if n % 8 = 0 then iprop(∃ d, owns (c : Thread nD τ) (Memref.whole cc2_scratch0) fullShare d)
  else iprop(∃ t' : Fin cfg2.N, ⌜t'.val / 8 = n / 8⌝ ∗ owns (c : Thread nD τ) (Memref.whole cc2_scratch0) fullShare (k2_pay1 (iblk2 V c 1 t')))

/-- What the scratch holds after point `t` is what the next point expects. -/
theorem scr2_close (c : Dev nD) (t : Fin cfg2.N) : owns (c : Thread nD τ) (Memref.whole cc2_scratch0) fullShare (k2_pay1 (iblk2 V c 1 t)) ⊢ scr2 V c (t.val + 1) := by
  unfold scr2
  by_cases h : (t.val + 1) % 8 = 0
  · rw [if_pos h]; iintro H; iexists _; iexact H
  · rw [if_neg h]; iintro H; iexists t
    isplitr; · ipureintro; omega
    iexact H

/-- A weight window moves only with the block's number. -/
theorem index2_1 : ∀ t t' : Fin grid2.N, t.val / 8 = t'.val / 8 → ∀ a, win2_1.index t a = win2_1.index t' a := by
  decide +kernel

theorem iblk2_1_eq (c : Dev nD) (t t' : Fin cfg2.N) (h : t.val / 8 = t'.val / 8) : iblk2 V c 1 t = iblk2 V c 1 t' := by
  funext y
  refine congrArg (V c main_v0) ?_
  funext a
  refine Fin.ext ?_
  have h1 := index2_1 t t' h
  fin_cases a
  · show win2_1.index t 0 + 1 * (y 0).val = win2_1.index t' 0 + 1 * (y 0).val
    rw [h1]
  · show win2_1.index t 1 + 1 * (y 1).val = win2_1.index t' 1 + 1 * (y 1).val
    rw [h1]
  · show win2_1.index t 2 + 1 * (y 2).val = win2_1.index t' 2 + 1 * (y 2).val
    rw [h1]

/-- The body's branch is taken exactly where a weight block starts. -/
theorem hcond2 : ∀ t : Fin cfg2.N, cond2 (grid2.coords t) ↔ t.val % 8 = 0 :=
  (fun t => by
    have ht : t.val < 48 := lt_of_lt_of_eq t.isLt N_2
    have e1 : (grid2.coords t 1).val = t.val / 1 % 8 := Pipeline.Grid.coords_val t 1 (by decide) rfl
    simp only [cond2, e1]
    word_cmp
   : ∀ t : Fin grid2.N, cond2 (grid2.coords t) ↔ t.val % 8 = 0)

/-- The region's proof data: each array at its entry contents, each input's buffer at its block, each output's at its payload, the scratch as the points leave it. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => k2_pay2 (iblk2 V c 0 t) (k2_pay1 (iblk2 V c 1 t))
  Φ t := iprop(scr2 V c t.val ∗ Pipeline.scopedRestBut (Ix := Unit) (Name := ℕ) (U := UR sig nD τ) (Lvl := ℕ) (Val := Elt F) spec2 c [cc2_scratch0])
  q w := fullShare
  owed _ := 0

theorem A2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by
  dsimp only [dat2]
theorem after2_1 (c : Dev nD) (t : Fin cfg2.N) : (dat2 V c).after 1 t = iblk2 V c 1 t := by
  dsimp only [dat2]
theorem after2_2 (c : Dev nD) (t : Fin cfg2.N) : (dat2 V c).after 2 t = k2_pay2 (iblk2 V c 0 t) (k2_pay1 (iblk2 V c 1 t)) := by
  dsimp only [dat2]
theorem before2_0 (c : Dev nD) (t : Fin cfg2.N) (d) : (dat2 V c).before 0 t d = iblk2 V c 0 t :=
  ((dat2 V c).before_in_eq_fetched 0 rfl (fun _ => rfl) (fun _ _ _ => rfl) (fun t => by rw [after2_0]; unfold Dat.blockOf iblk2; rw [A2]; try rfl) t d).trans
    (by unfold Dat.fetched Dat.blockOf iblk2; rw [A2]; try rfl)
theorem before2_1 (c : Dev nD) (t : Fin cfg2.N) (d) : (dat2 V c).before 1 t d = iblk2 V c 1 t :=
  ((dat2 V c).before_in_eq_fetched 1 rfl (fun _ => rfl) (fun _ _ _ => rfl) (fun t => by rw [after2_1]; unfold Dat.blockOf iblk2; rw [A2]; try rfl) t d).trans
    (by unfold Dat.fetched Dat.blockOf iblk2; rw [A2]; try rfl)
abbrev ms2_0 (t : Fin cfg2.N) : Memref sig .tc .vmem S1024x2048 .bf16 := win2_0.stage (cfg2.slots t 0)
abbrev ms2_1 (t : Fin cfg2.N) : Memref sig .tc .vmem S1x1024x2048 .f32 := win2_1.stage (cfg2.slots t 1)
abbrev ms2_2 (t : Fin cfg2.N) : Memref sig .tc .vmem S1024x1024 .bf16 := win2_2.stage (cfg2.slots t 2)

/-- What the body is given at a point. -/
def pre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d)))
/-- What the body leaves at a point. -/
def post2 (c : Dev nD) (t : Fin cfg2.N) : sProp 𝕄 :=
  iprop((dat2 V c).Φ t.succ ∗ (dat2 V c).owesAt () t.succ
    ∗ owns (c : Thread nD τ) (ms2_0 t) fullShare ((dat2 V c).after 0 t)
    ∗ owns (c : Thread nD τ) (ms2_1 t) fullShare ((dat2 V c).after 1 t)
    ∗ owns (c : Thread nD τ) (ms2_2 t) fullShare ((dat2 V c).after 2 t))

set_option maxHeartbeats 4000000 in
/-- The body at any point. -/
theorem sound2 (c : Dev nD) (t : Fin cfg2.N) :
    pre2 V c t ⊢ wp frame (wpE (defs₀ (F := F)) Variants.none c none) Set.univ (bodyAt2 t) (fun _ => post2 V c t) := by
  unfold pre2 post2 bodyAt2
  simp only [before2_0, before2_1]
  rw [show (dat2 V c).owesAt () t.succ = (dat2 V c).owesAt () t.castSucc from rfl,
    after2_0, after2_1, after2_2]
  rw [show (dat2 V c).Φ t.castSucc = iprop(scr2 V c t.val ∗ Pipeline.scopedRestBut (Ix := Unit) (Name := ℕ) (U := UR sig nD τ) (Lvl := ℕ) (Val := Elt F) spec2 c [cc2_scratch0]) from rfl,
    show (dat2 V c).Φ t.succ = iprop(scr2 V c (t.val + 1) ∗ Pipeline.scopedRestBut (Ix := Unit) (Name := ℕ) (U := UR sig nD τ) (Lvl := ℕ) (Val := Elt F) spec2 c [cc2_scratch0]) from rfl]
  by_cases h0 : t.val % 8 = 0
  · rw [show scr2 V c t.val = _ from if_pos h0]
    iintro ⟨⟨HS0, Hg⟩, Ho, ⟨%d0, H0⟩, ⟨%d1, H1⟩, ⟨%d2, H2⟩⟩
    iapply (run2A c (grid2.coords t) _ _ _ _ _ _ _ _ ((hcond2 t).mpr h0) (iblk2 V c 0 t) (iblk2 V c 1 t) Set.univ _)
    isplitl [H0]; · iexact H0
    isplitl [H1]; · iexact H1
    isplitl [H2]; · iexists _; iexact H2
    isplitl [HS0]; · iexact HS0
    iintro ⟨H0, H1, H2, HS0⟩
    isplitl [HS0 Hg]
    · isplitl [HS0]
      · iapply (scr2_close V c t); iexact HS0
      iexact Hg
    isplitl [Ho]; · iexact Ho
    isplitl [H0]; · iexact H0
    isplitl [H1]; · iexact H1
    iexact H2
  · rw [show scr2 V c t.val = _ from if_neg h0]
    iintro ⟨⟨⟨%t', %ht', HS0⟩, Hg⟩, Ho, ⟨%d0, H0⟩, ⟨%d1, H1⟩, ⟨%d2, H2⟩⟩
    rw [iblk2_1_eq V c t' t (by omega)]
    iapply (run2B c (grid2.coords t) _ _ _ _ _ _ _ _ (fun h => h0 ((hcond2 t).mp h)) (iblk2 V c 0 t) (iblk2 V c 1 t) Set.univ _)
    isplitl [H0]; · iexact H0
    isplitl [H1]; · iexact H1
    isplitl [H2]; · iexists _; iexact H2
    isplitl [HS0]; · iexact HS0
    iintro ⟨H0, H1, H2, HS0⟩
    isplitl [HS0 Hg]
    · isplitl [HS0]
      · iapply (scr2_close V c t); iexact HS0
      iexact Hg
    isplitl [Ho]; · iexact Ho
    isplitl [H0]; · iexact H0
    isplitl [H1]; · iexact H1
    iexact H2

theorem defs₀_row2 (t : Fin cfg2.N) :
    defs₀ (F := F) .tc cfg2.body (cfg2.bodyArgs t (cfg2.slots t)) = bodyAt2 t := by
  unfold defs₀; rw [Defs.onTc_tc]

/-- The pipeline's body obligation, at every point. -/
theorem body2 (c : Dev nD) : BodyObligation (dat2 V c) (defs₀ (F := F)) Variants.none () Set.univ := fun t => by
  rw [bigSep_W2, bigSep_W2, defs₀_row2]
  exact triple_restated (sound2 V c t) rfl .rfl fun _ => .rfl

variable (Vp : (c : Dev nD) → Valuation τ sig (Elt F))
variable (pdats : (p : Fin 4) → (c : Dev nD) → Dat τ (Elt F) Unit ℕ (UR sig nD τ) ℕ (cfgs p) c)

set_option maxHeartbeats 2000000 in
set_option backward.isDefEq.respectTransparency.types false in
/-- The region as a segment: entered with every unscoped buffer at `V`, left with them at `Vp`, the outputs' arrays as its points' write-backs make them. -/
def reg2 (hp : ∀ c, pdats 2 c = dat2 V c) (h2 : ∀ c, Vp c main_v4 = (dat2 V c).arrAt 2 cfg2.N)
    (hne : ∀ c (b : Ref sig .tc), b ∉ ([main_v4] : List (Ref sig .tc)) → Vp c b = V c b) :
    Pipeline.RegionSeg (pcfgs (F := F)) adm pdats () defs₀ Variants.none (fun _ => ∅) (fun _ _ => 0) 2 where
  win := launch2.win.to₀
  block_pos := launch2.block_pos
  stage_whole := launch2.stage_whole
  K := PEmpty
  osem k := k.elim
  ho := Pipeline.OwnSemFacts.none _
  hbody c := by
    have h := (body2 V c).loose
    rw [← hp c] at h
    exact h
  hwaits := Pipeline.hwaits_of_owed_zero _ _ _ _ (fun _ => ∅) (fun _ _ => 0) 2 fun c _ => by rw [hp c]; rfl
  pre c := iprop(unscopedBufs c (fun b => V c b) ∗ ∃ W, owes (c : Thread nD τ) (0 : CellTallies nD τ sig Unit) W)
  post c := iprop(unscopedBufs c (fun b => Vp c b) ∗ ∃ W, owes (c : Thread nD τ) (0 : CellTallies nD τ sig Unit) W)
  X _ := BI.emp
  Y _ := BI.emp
  Z c := Pipeline.unscopedRest (Ix := Unit) (Name := ℕ) (U := UR sig nD τ) (Lvl := ℕ) spec2 c (fun b => V c b)
  hentry c := by
    rw [Pipeline.ownSems0_none]
    have hsplit := Pipeline.arrays_of_unscopedBufs (p := 2) (pcfgs (F := F)) adm pdats launch2.win launch2.arr_whole c
      ((pdats 2 c).share_full fun _ => by rw [hp c]; rfl) (fun b => V c b) (fun w => by rw [hp c]; exact A2 V c w)
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · rw [show (pdats 2 c).owesAt () 0 = (dat2 V c).owesAt () 0 from by rw [hp c]]
      unfold Pipeline.Dat.owesAt Pipeline.owesWithin
      icases HO with ⟨%W, HO⟩; iexists W; isplitr; · ipureintro; exact fun _ _ => Or.inl trivial
      iexact HO
    isplitr; · iempintro
    iexact Hrest
  hin c := by
    rw [hp c, show (dat2 V c).Φ 0 = iprop(scr2 V c 0 ∗ Pipeline.scopedRestBut (Ix := Unit) (Name := ℕ) (U := UR sig nD τ) (Lvl := ℕ) (Val := Elt F) spec2 c [cc2_scratch0]) from rfl, show scr2 V c 0 = _ from if_pos rfl]
    have hs := split2 (F := F) c
    simp only [owns_whole]
    iintro ⟨-, -, Hr⟩
    ihave H := (Entails.of_eq hs) $$ Hr
    iexact H
  hout c := by
    rw [Pipeline.ownSems0_none, hp c, show (dat2 V c).Φ (Fin.last (Pipeline.pin (pcfgs (F := F)) adm 2).N) = iprop(scr2 V c grid2.N ∗ Pipeline.scopedRestBut (Ix := Unit) (Name := ℕ) (U := UR sig nD τ) (Lvl := ℕ) (Val := Elt F) spec2 c [cc2_scratch0]) from rfl,
      show scr2 V c grid2.N = _ from if_pos (by rw [N_2])]
    have hs := split2 (F := F) c
    simp only [owns_whole]
    iintro Hr
    isplitr; · iempintro
    isplitr; · iempintro
    iapply (Entails.of_eq hs.symm)
    iexact Hr
  hexit c := by
    have hjoin := Pipeline.unscopedBufs_of_arrays (p := 2) (pcfgs (F := F)) adm (Ix := Unit) (Name := ℕ) (U := UR sig nD τ) (Lvl := ℕ) launch2.win launch2.arr_whole c
      pdats ((pdats 2 c).share_full fun _ => by rw [hp c]; rfl) (fun b => V c b) (fun b => Vp c b) ((pdats 2 c).arrAt · cfg2.N)
      (fun w => by
        rw [hp c]
        fin_cases w
        · exact ((dat2 V c).arrAt_in 0 rfl _).trans (hne c main_v2_1 (by decide)).symm
        · exact ((dat2 V c).arrAt_in 1 rfl _).trans (hne c main_v0 (by decide)).symm
        · exact (h2 c).symm
        )
      (fun b hb => hne c b fun h => hb (by
        simp only [List.mem_cons, List.not_mem_nil, _root_.or_false] at h
        have h := h
        · exact h ▸ Finset.mem_image.mpr ⟨2, Finset.mem_univ _, rfl⟩))
    have hO : (pdats 2 c).owesAt () (Fin.last cfg2.N) ⊢ (iprop(∃ W, owes (c : Thread nD τ) (0 : CellTallies nD τ sig Unit) W) : sProp 𝕄) := by
      rw [hp c]
      unfold Pipeline.Dat.owesAt Pipeline.owesWithin
      iintro ⟨%W, -, HO⟩; iexists W; iexact HO
    iintro ⟨Ha, HO, -, Hrest⟩
    imodintro
    isplitl [Ha Hrest]
    · iapply hjoin; isplitl [Ha] <;> iassumption
    iapply hO; iexact HO

end Cert.Kernel4Ideal.Hand

end
-- ==== Proof.P4Run3.lean ====
module

public import proofs.«01_k».proof.Proof.Gen.Kernel4Ideal.Launch
public import proofs.«01_k».proof.Proof.Gen.Kernel4Ideal.Skeleton
public import proofs.«01_k».proof.Proof.Gen.Kernel4Ideal.Points
public import Idealize.ShloMosaic.Lib.Pipeline.FrameBody
public import Idealize.ShloMosaic.Lib.Pipeline.RegionsLoop
public import Idealize.ShloMosaic.Lib.Pipeline.Value
public import Idealize.ShloMosaic.Lib.Ring
public import Idealize.ShloMosaic.Lib.Tactic
public import Idealize.ShloMosaic.Lib.VecWindow
public import Idealize.ShloMosaic.Lib.WordCmp

@[expose] public section

set_option maxRecDepth 16384

noncomputable section

namespace Cert.Kernel4Ideal.Hand

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The condition of the body's branch, as the program states it. -/
abbrev cond3 (i : grid3.Coords) : Prop := (Scalar.cmpi .ne (Scalar.extui (Scalar.cmpi .eq (BitVec.ofNat 32 (i 1).val) 0#32)) 0#32) = 1#1

set_option maxHeartbeats 4000000 in
/-- The body where it casts the weight block first: from any scratch contents, every output ends at its payload and the scratch at the cast block. -/
theorem run3A (c : Dev nD) (i : grid3.Coords) (arg2 : Memref sig .tc .vmem S1024x2048 .bf16) (harg2 : arg2.IsWhole) (arg3 : Memref sig .tc .vmem S1x1024x2048 .f32) (harg3 : arg3.IsWhole) (arg4 : Memref sig .tc .vmem S1024x1024 .f32) (harg4 : arg4.IsWhole) (arg5 : Memref sig .tc .vmem S1024x2048 .bf16) (harg5 : arg5.IsWhole) (hc0 : cond3 i)
    (x0 : Vec F S1024x2048 .bf16) (x1 : Vec F S1x1024x2048 .f32) (E : Set ℕ) (K : PUnit → sProp 𝕄) :
    iprop(owns (c : Thread nD τ) arg2 fullShare x0 ∗ owns (c : Thread nD τ) arg3 fullShare x1 ∗ (∃ d, owns (c : Thread nD τ) arg4 fullShare d) ∗ (∃ d, owns (c : Thread nD τ) arg5 fullShare d)
        ∗ (iprop(owns (c : Thread nD τ) arg2 fullShare x0 ∗ owns (c : Thread nD τ) arg3 fullShare x1 ∗ owns (c : Thread nD τ) arg4 fullShare (k3_pay2 x0 (k3_pay1 x1)) ∗ owns (c : Thread nD τ) arg5 fullShare (k3_pay1 x1)) -∗ K ⟨⟩))
      ⊢ wp frame (wpE (defs₀ (F := F)) Variants.none c none) E (cc3_matmul_nt i arg2 harg2 arg3 harg3 arg4 harg4 arg5 harg5) K := by
  simp only [cc3_matmul_nt_eq_skeleton]; unfold cc3_matmul_nt_skel
  unfold owns
  iintro ⟨⟨%f0, %hf0, H0⟩, ⟨%f1, %hf1, H1⟩, ⟨%d2, %f2, -, H2⟩, ⟨%d3, %f3, -, H3⟩, Hk⟩
  obtain rfl := harg2.eq_unread hf0; obtain rfl := harg3.eq_unread hf1
  sl_exec (disch := first | sl_exact hc0)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; swap; · iexact H2
    ipureintro
    refine (View.read_writes_full _ _ _ _ _).trans ?_
    show k3_pay2 _ _ = k3_pay2 x0 (k3_pay1 x1)
    exact (congr (congrArg k3_pay2 ((View.readAt_full _ _ _).trans (Memref.IsWhole.read_unread _ _))) ((View.readCov_full _ _ _ _ _).trans (congrArg k3_pay1 ((View.readAt_full _ _ _).trans (Memref.IsWhole.read_unread _ _)))))
  · iexists _; isplitr; swap; · iexact H3
    ipureintro
    refine (View.read_writes_full _ _ _ _ _).trans ?_
    show k3_pay1 _ = k3_pay1 x1
    exact (congrArg k3_pay1 ((View.readAt_full _ _ _).trans (Memref.IsWhole.read_unread _ _)))

set_option maxHeartbeats 4000000 in
/-- The body where the scratch already holds the cast block: every output ends at its payload and the scratch stays. -/
theorem run3B (c : Dev nD) (i : grid3.Coords) (arg2 : Memref sig .tc .vmem S1024x2048 .bf16) (harg2 : arg2.IsWhole) (arg3 : Memref sig .tc .vmem S1x1024x2048 .f32) (harg3 : arg3.IsWhole) (arg4 : Memref sig .tc .vmem S1024x1024 .f32) (harg4 : arg4.IsWhole) (arg5 : Memref sig .tc .vmem S1024x2048 .bf16) (harg5 : arg5.IsWhole) (hc0 : ¬cond3 i)
    (x0 : Vec F S1024x2048 .bf16) (x1 : Vec F S1x1024x2048 .f32) (E : Set ℕ) (K : PUnit → sProp 𝕄) :
    iprop(owns (c : Thread nD τ) arg2 fullShare x0 ∗ owns (c : Thread nD τ) arg3 fullShare x1 ∗ (∃ d, owns (c : Thread nD τ) arg4 fullShare d) ∗ owns (c : Thread nD τ) arg5 fullShare (k3_pay1 x1)
        ∗ (iprop(owns (c : Thread nD τ) arg2 fullShare x0 ∗ owns (c : Thread nD τ) arg3 fullShare x1 ∗ owns (c : Thread nD τ) arg4 fullShare (k3_pay2 x0 (k3_pay1 x1)) ∗ owns (c : Thread nD τ) arg5 fullShare (k3_pay1 x1)) -∗ K ⟨⟩))
      ⊢ wp frame (wpE (defs₀ (F := F)) Variants.none c none) E (cc3_matmul_nt i arg2 harg2 arg3 harg3 arg4 harg4 arg5 harg5) K := by
  simp only [cc3_matmul_nt_eq_skeleton]; unfold cc3_matmul_nt_skel
  unfold owns
  iintro ⟨⟨%f0, %hf0, H0⟩, ⟨%f1, %hf1, H1⟩, ⟨%d2, %f2, -, H2⟩, ⟨%f3, %hf3, H3⟩, Hk⟩
  obtain rfl := harg2.eq_unread hf0; obtain rfl := harg3.eq_unread hf1; obtain rfl := harg5.eq_unread hf3
  sl_exec (disch := first | sl_exact hc0)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; swap; · iexact H2
    ipureintro
    refine (View.read_writes_full _ _ _ _ _).trans ?_
    show k3_pay2 _ _ = k3_pay2 x0 (k3_pay1 x1)
    exact (congr (congrArg k3_pay2 ((View.readAt_full _ _ _).trans (Memref.IsWhole.read_unread _ _))) ((View.readAt_full _ _ _).trans (Memref.IsWhole.read_unread _ _)))
  · iexists _; isplitr; · ipureintro; exact harg5.read_unread _
    iexact H3

end Cert.Kernel4Ideal.Hand

end
-- ==== Proof.P4Region3.lean ====
module

public import proofs.«01_k».proof.Proof.Gen.Kernel4Ideal.Launch
public import proofs.«01_k».proof.Proof.Gen.Kernel4Ideal.Skeleton
public import proofs.«01_k».proof.Proof.Gen.Kernel4Ideal.Points
public import Idealize.ShloMosaic.Lib.Pipeline.FrameBody
public import Idealize.ShloMosaic.Lib.Pipeline.RegionsLoop
public import Idealize.ShloMosaic.Lib.Pipeline.Value
public import Idealize.ShloMosaic.Lib.Ring
public import Idealize.ShloMosaic.Lib.Tactic
public import Idealize.ShloMosaic.Lib.VecWindow
public import Idealize.ShloMosaic.Lib.WordCmp
public import proofs.«01_k».proof.Proof.Gen.Kernel4Ideal.Regions
public import proofs.«01_k».proof.Proof.P4Run3

@[expose] public section

set_option maxRecDepth 16384

noncomputable section

namespace Cert.Kernel4Ideal.Hand

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → Valuation τ sig (Elt F))

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The launch's scratch buffer split off the buffers the region may overwrite. -/
theorem split3 (c : Dev nD) :
    (Pipeline.scopedRest (Ix := Unit) (Name := ℕ) (U := UR sig nD τ) (Lvl := ℕ) (Val := Elt F) spec3 c : sProp 𝕄)
      = iprop((∃ f : Buf (Elt F) ((c : Thread nD τ).loc cc3_scratch0), ((c : Thread nD τ).loc cc3_scratch0) ↦{fullShare} f)
        ∗ Pipeline.scopedRestBut (Ix := Unit) (Name := ℕ) (U := UR sig nD τ) (Lvl := ℕ) (Val := Elt F) spec3 c [cc3_scratch0]) :=
  Pipeline.scopedRest_split_of_list spec3 c [cc3_scratch0] (by decide) (by decide)

/-- The scratch buffer before point `n`: anything where a weight block starts, and the block cast elsewhere. -/
def scr3 (c : Dev nD) (n : ℕ) : sProp 𝕄 :=
  if n % 8 = 0 then iprop(∃ d, owns (c : Thread nD τ) (Memref.whole cc3_scratch0) fullShare d)
  else iprop(∃ t' : Fin cfg3.N, ⌜t'.val / 8 = n / 8⌝ ∗ owns (c : Thread nD τ) (Memref.whole cc3_scratch0) fullShare (k3_pay1 (iblk3 V c 1 t')))

/-- What the scratch holds after point `t` is what the next point expects. -/
theorem scr3_close (c : Dev nD) (t : Fin cfg3.N) : owns (c : Thread nD τ) (Memref.whole cc3_scratch0) fullShare (k3_pay1 (iblk3 V c 1 t)) ⊢ scr3 V c (t.val + 1) := by
  unfold scr3
  by_cases h : (t.val + 1) % 8 = 0
  · rw [if_pos h]; iintro H; iexists _; iexact H
  · rw [if_neg h]; iintro H; iexists t
    isplitr; · ipureintro; omega
    iexact H

/-- A weight window moves only with the block's number. -/
theorem index3_1 : ∀ t t' : Fin grid3.N, t.val / 8 = t'.val / 8 → ∀ a, win3_1.index t a = win3_1.index t' a := by
  decide +kernel

theorem iblk3_1_eq (c : Dev nD) (t t' : Fin cfg3.N) (h : t.val / 8 = t'.val / 8) : iblk3 V c 1 t = iblk3 V c 1 t' := by
  funext y
  refine congrArg (V c main_v0) ?_
  funext a
  refine Fin.ext ?_
  have h1 := index3_1 t t' h
  fin_cases a
  · show win3_1.index t 0 + 1 * (y 0).val = win3_1.index t' 0 + 1 * (y 0).val
    rw [h1]
  · show win3_1.index t 1 + 1 * (y 1).val = win3_1.index t' 1 + 1 * (y 1).val
    rw [h1]
  · show win3_1.index t 2 + 1 * (y 2).val = win3_1.index t' 2 + 1 * (y 2).val
    rw [h1]

/-- The body's branch is taken exactly where a weight block starts. -/
theorem hcond3 : ∀ t : Fin cfg3.N, cond3 (grid3.coords t) ↔ t.val % 8 = 0 :=
  (fun t => by
    have ht : t.val < 16 := lt_of_lt_of_eq t.isLt N_3
    have e1 : (grid3.coords t 1).val = t.val / 1 % 8 := Pipeline.Grid.coords_val t 1 (by decide) rfl
    simp only [cond3, e1]
    word_cmp
   : ∀ t : Fin grid3.N, cond3 (grid3.coords t) ↔ t.val % 8 = 0)

/-- The region's proof data: each array at its entry contents, each input's buffer at its block, each output's at its payload, the scratch as the points leave it. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => k3_pay2 (iblk3 V c 0 t) (k3_pay1 (iblk3 V c 1 t))
  Φ t := iprop(scr3 V c t.val ∗ Pipeline.scopedRestBut (Ix := Unit) (Name := ℕ) (U := UR sig nD τ) (Lvl := ℕ) (Val := Elt F) spec3 c [cc3_scratch0])
  q w := fullShare
  owed _ := 0

theorem A3 (c : Dev nD) (w : Fin cfg3.W) : (dat3 V c).A w = V c (Pipeline.arrRef spec3 w) := by
  dsimp only [dat3]
theorem after3_0 (c : Dev nD) (t : Fin cfg3.N) : (dat3 V c).after 0 t = iblk3 V c 0 t := by
  dsimp only [dat3]
theorem after3_1 (c : Dev nD) (t : Fin cfg3.N) : (dat3 V c).after 1 t = iblk3 V c 1 t := by
  dsimp only [dat3]
theorem after3_2 (c : Dev nD) (t : Fin cfg3.N) : (dat3 V c).after 2 t = k3_pay2 (iblk3 V c 0 t) (k3_pay1 (iblk3 V c 1 t)) := by
  dsimp only [dat3]
theorem before3_0 (c : Dev nD) (t : Fin cfg3.N) (d) : (dat3 V c).before 0 t d = iblk3 V c 0 t :=
  ((dat3 V c).before_in_eq_fetched 0 rfl (fun _ => rfl) (fun _ _ _ => rfl) (fun t => by rw [after3_0]; unfold Dat.blockOf iblk3; rw [A3]; try rfl) t d).trans
    (by unfold Dat.fetched Dat.blockOf iblk3; rw [A3]; try rfl)
theorem before3_1 (c : Dev nD) (t : Fin cfg3.N) (d) : (dat3 V c).before 1 t d = iblk3 V c 1 t :=
  ((dat3 V c).before_in_eq_fetched 1 rfl (fun _ => rfl) (fun _ _ _ => rfl) (fun t => by rw [after3_1]; unfold Dat.blockOf iblk3; rw [A3]; try rfl) t d).trans
    (by unfold Dat.fetched Dat.blockOf iblk3; rw [A3]; try rfl)
abbrev ms3_0 (t : Fin cfg3.N) : Memref sig .tc .vmem S1024x2048 .bf16 := win3_0.stage (cfg3.slots t 0)
abbrev ms3_1 (t : Fin cfg3.N) : Memref sig .tc .vmem S1x1024x2048 .f32 := win3_1.stage (cfg3.slots t 1)
abbrev ms3_2 (t : Fin cfg3.N) : Memref sig .tc .vmem S1024x1024 .f32 := win3_2.stage (cfg3.slots t 2)

/-- What the body is given at a point. -/
def pre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d)))
/-- What the body leaves at a point. -/
def post3 (c : Dev nD) (t : Fin cfg3.N) : sProp 𝕄 :=
  iprop((dat3 V c).Φ t.succ ∗ (dat3 V c).owesAt () t.succ
    ∗ owns (c : Thread nD τ) (ms3_0 t) fullShare ((dat3 V c).after 0 t)
    ∗ owns (c : Thread nD τ) (ms3_1 t) fullShare ((dat3 V c).after 1 t)
    ∗ owns (c : Thread nD τ) (ms3_2 t) fullShare ((dat3 V c).after 2 t))

set_option maxHeartbeats 4000000 in
/-- The body at any point. -/
theorem sound3 (c : Dev nD) (t : Fin cfg3.N) :
    pre3 V c t ⊢ wp frame (wpE (defs₀ (F := F)) Variants.none c none) Set.univ (bodyAt3 t) (fun _ => post3 V c t) := by
  unfold pre3 post3 bodyAt3
  simp only [before3_0, before3_1]
  rw [show (dat3 V c).owesAt () t.succ = (dat3 V c).owesAt () t.castSucc from rfl,
    after3_0, after3_1, after3_2]
  rw [show (dat3 V c).Φ t.castSucc = iprop(scr3 V c t.val ∗ Pipeline.scopedRestBut (Ix := Unit) (Name := ℕ) (U := UR sig nD τ) (Lvl := ℕ) (Val := Elt F) spec3 c [cc3_scratch0]) from rfl,
    show (dat3 V c).Φ t.succ = iprop(scr3 V c (t.val + 1) ∗ Pipeline.scopedRestBut (Ix := Unit) (Name := ℕ) (U := UR sig nD τ) (Lvl := ℕ) (Val := Elt F) spec3 c [cc3_scratch0]) from rfl]
  by_cases h0 : t.val % 8 = 0
  · rw [show scr3 V c t.val = _ from if_pos h0]
    iintro ⟨⟨HS0, Hg⟩, Ho, ⟨%d0, H0⟩, ⟨%d1, H1⟩, ⟨%d2, H2⟩⟩
    iapply (run3A c (grid3.coords t) _ _ _ _ _ _ _ _ ((hcond3 t).mpr h0) (iblk3 V c 0 t) (iblk3 V c 1 t) Set.univ _)
    isplitl [H0]; · iexact H0
    isplitl [H1]; · iexact H1
    isplitl [H2]; · iexists _; iexact H2
    isplitl [HS0]; · iexact HS0
    iintro ⟨H0, H1, H2, HS0⟩
    isplitl [HS0 Hg]
    · isplitl [HS0]
      · iapply (scr3_close V c t); iexact HS0
      iexact Hg
    isplitl [Ho]; · iexact Ho
    isplitl [H0]; · iexact H0
    isplitl [H1]; · iexact H1
    iexact H2
  · rw [show scr3 V c t.val = _ from if_neg h0]
    iintro ⟨⟨⟨%t', %ht', HS0⟩, Hg⟩, Ho, ⟨%d0, H0⟩, ⟨%d1, H1⟩, ⟨%d2, H2⟩⟩
    rw [iblk3_1_eq V c t' t (by omega)]
    iapply (run3B c (grid3.coords t) _ _ _ _ _ _ _ _ (fun h => h0 ((hcond3 t).mp h)) (iblk3 V c 0 t) (iblk3 V c 1 t) Set.univ _)
    isplitl [H0]; · iexact H0
    isplitl [H1]; · iexact H1
    isplitl [H2]; · iexists _; iexact H2
    isplitl [HS0]; · iexact HS0
    iintro ⟨H0, H1, H2, HS0⟩
    isplitl [HS0 Hg]
    · isplitl [HS0]
      · iapply (scr3_close V c t); iexact HS0
      iexact Hg
    isplitl [Ho]; · iexact Ho
    isplitl [H0]; · iexact H0
    isplitl [H1]; · iexact H1
    iexact H2

theorem defs₀_row3 (t : Fin cfg3.N) :
    defs₀ (F := F) .tc cfg3.body (cfg3.bodyArgs t (cfg3.slots t)) = bodyAt3 t := by
  unfold defs₀; rw [Defs.onTc_tc]

/-- The pipeline's body obligation, at every point. -/
theorem body3 (c : Dev nD) : BodyObligation (dat3 V c) (defs₀ (F := F)) Variants.none () Set.univ := fun t => by
  rw [bigSep_W3, bigSep_W3, defs₀_row3]
  exact triple_restated (sound3 V c t) rfl .rfl fun _ => .rfl

variable (Vp : (c : Dev nD) → Valuation τ sig (Elt F))
variable (pdats : (p : Fin 4) → (c : Dev nD) → Dat τ (Elt F) Unit ℕ (UR sig nD τ) ℕ (cfgs p) c)

set_option maxHeartbeats 2000000 in
set_option backward.isDefEq.respectTransparency.types false in
/-- The region as a segment: entered with every unscoped buffer at `V`, left with them at `Vp`, the outputs' arrays as its points' write-backs make them. -/
def reg3 (hp : ∀ c, pdats 3 c = dat3 V c) (h2 : ∀ c, Vp c main_v5 = (dat3 V c).arrAt 2 cfg3.N)
    (hne : ∀ c (b : Ref sig .tc), b ∉ ([main_v5] : List (Ref sig .tc)) → Vp c b = V c b) :
    Pipeline.RegionSeg (pcfgs (F := F)) adm pdats () defs₀ Variants.none (fun _ => ∅) (fun _ _ => 0) 3 where
  win := launch3.win.to₀
  block_pos := launch3.block_pos
  stage_whole := launch3.stage_whole
  K := PEmpty
  osem k := k.elim
  ho := Pipeline.OwnSemFacts.none _
  hbody c := by
    have h := (body3 V c).loose
    rw [← hp c] at h
    exact h
  hwaits := Pipeline.hwaits_of_owed_zero _ _ _ _ (fun _ => ∅) (fun _ _ => 0) 3 fun c _ => by rw [hp c]; rfl
  pre c := iprop(unscopedBufs c (fun b => V c b) ∗ ∃ W, owes (c : Thread nD τ) (0 : CellTallies nD τ sig Unit) W)
  post c := iprop(unscopedBufs c (fun b => Vp c b) ∗ ∃ W, owes (c : Thread nD τ) (0 : CellTallies nD τ sig Unit) W)
  X _ := BI.emp
  Y _ := BI.emp
  Z c := Pipeline.unscopedRest (Ix := Unit) (Name := ℕ) (U := UR sig nD τ) (Lvl := ℕ) spec3 c (fun b => V c b)
  hentry c := by
    rw [Pipeline.ownSems0_none]
    have hsplit := Pipeline.arrays_of_unscopedBufs (p := 3) (pcfgs (F := F)) adm pdats launch3.win launch3.arr_whole c
      ((pdats 3 c).share_full fun _ => by rw [hp c]; rfl) (fun b => V c b) (fun w => by rw [hp c]; exact A3 V c w)
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · rw [show (pdats 3 c).owesAt () 0 = (dat3 V c).owesAt () 0 from by rw [hp c]]
      unfold Pipeline.Dat.owesAt Pipeline.owesWithin
      icases HO with ⟨%W, HO⟩; iexists W; isplitr; · ipureintro; exact fun _ _ => Or.inl trivial
      iexact HO
    isplitr; · iempintro
    iexact Hrest
  hin c := by
    rw [hp c, show (dat3 V c).Φ 0 = iprop(scr3 V c 0 ∗ Pipeline.scopedRestBut (Ix := Unit) (Name := ℕ) (U := UR sig nD τ) (Lvl := ℕ) (Val := Elt F) spec3 c [cc3_scratch0]) from rfl, show scr3 V c 0 = _ from if_pos rfl]
    have hs := split3 (F := F) c
    simp only [owns_whole]
    iintro ⟨-, -, Hr⟩
    ihave H := (Entails.of_eq hs) $$ Hr
    iexact H
  hout c := by
    rw [Pipeline.ownSems0_none, hp c, show (dat3 V c).Φ (Fin.last (Pipeline.pin (pcfgs (F := F)) adm 3).N) = iprop(scr3 V c grid3.N ∗ Pipeline.scopedRestBut (Ix := Unit) (Name := ℕ) (U := UR sig nD τ) (Lvl := ℕ) (Val := Elt F) spec3 c [cc3_scratch0]) from rfl,
      show scr3 V c grid3.N = _ from if_pos (by rw [N_3])]
    have hs := split3 (F := F) c
    simp only [owns_whole]
    iintro Hr
    isplitr; · iempintro
    isplitr; · iempintro
    iapply (Entails.of_eq hs.symm)
    iexact Hr
  hexit c := by
    have hjoin := Pipeline.unscopedBufs_of_arrays (p := 3) (pcfgs (F := F)) adm (Ix := Unit) (Name := ℕ) (U := UR sig nD τ) (Lvl := ℕ) launch3.win launch3.arr_whole c
      pdats ((pdats 3 c).share_full fun _ => by rw [hp c]; rfl) (fun b => V c b) (fun b => Vp c b) ((pdats 3 c).arrAt · cfg3.N)
      (fun w => by
        rw [hp c]
        fin_cases w
        · exact ((dat3 V c).arrAt_in 0 rfl _).trans (hne c main_v2_1 (by decide)).symm
        · exact ((dat3 V c).arrAt_in 1 rfl _).trans (hne c main_v0 (by decide)).symm
        · exact (h2 c).symm
        )
      (fun b hb => hne c b fun h => hb (by
        simp only [List.mem_cons, List.not_mem_nil, _root_.or_false] at h
        have h := h
        · exact h ▸ Finset.mem_image.mpr ⟨2, Finset.mem_univ _, rfl⟩))
    have hO : (pdats 3 c).owesAt () (Fin.last cfg3.N) ⊢ (iprop(∃ W, owes (c : Thread nD τ) (0 : CellTallies nD τ sig Unit) W) : sProp 𝕄) := by
      rw [hp c]
      unfold Pipeline.Dat.owesAt Pipeline.owesWithin
      iintro ⟨%W, -, HO⟩; iexists W; iexact HO
    iintro ⟨Ha, HO, -, Hrest⟩
    imodintro
    isplitl [Ha Hrest]
    · iapply hjoin; isplitl [Ha] <;> iassumption
    iapply hO; iexact HO

end Cert.Kernel4Ideal.Hand

end
-- ==== Proof.P4Main.lean ====
module

public import proofs.«01_k».proof.Proof.Gen.Kernel4Ideal.Launch
public import proofs.«01_k».proof.Proof.Gen.Kernel4Ideal.Skeleton
public import proofs.«01_k».proof.Proof.Gen.Kernel4Ideal.Points
public import Idealize.ShloMosaic.Lib.Pipeline.FrameBody
public import Idealize.ShloMosaic.Lib.Pipeline.RegionsLoop
public import Idealize.ShloMosaic.Lib.Pipeline.Value
public import Idealize.ShloMosaic.Lib.Ring
public import Idealize.ShloMosaic.Lib.Tactic
public import Idealize.ShloMosaic.Lib.VecWindow
public import Idealize.ShloMosaic.Lib.WordCmp
public import proofs.«01_k».proof.Proof.Gen.Kernel4Ideal.Regions
public import proofs.«01_k».proof.Proof.P4Region0
public import proofs.«01_k».proof.Proof.P4Region1
public import proofs.«01_k».proof.Proof.P4Region2
public import proofs.«01_k».proof.Proof.P4Region3
public import Idealize.ShloMosaic.Lib.Pipeline.Kit

@[expose] public section

set_option maxRecDepth 16384

noncomputable section

namespace Cert.Kernel4Ideal.Hand

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Contents nothing reads. -/
def junk (r : Ref sig .tc) (c : Dev nD) : Buf (Elt F) ((c : Thread nD τ).loc r) := fun _ => Classical.arbitrary _

/-- What region 0 leaves in its outputs' arrays. -/
def outsA : Outs (F := F) := fun _ r c =>
    if h : r = main_v2_0 then h ▸ (dat0 (V1 m) c).arrAt 3 cfg0.N
    else if h : r = main_v2_1 then h ▸ (dat0 (V1 m) c).arrAt 4 cfg0.N
    else junk r c
/-- What the regions up to region 1 leave in their outputs' arrays. -/
def outsB : Outs (F := F) := fun J r c =>
  if J = 3 then
    if h : r = main_v3 then h ▸ (dat1 (V2 m (outsA m)) c).arrAt 2 cfg1.N
    else junk r c
  else outsA m J r c
/-- What the regions up to region 2 leave in their outputs' arrays. -/
def outsC : Outs (F := F) := fun J r c =>
  if J = 4 then
    if h : r = main_v4 then h ▸ (dat2 (V3 m (outsB m)) c).arrAt 2 cfg2.N
    else junk r c
  else outsB m J r c
/-- What the regions up to region 3 leave in their outputs' arrays. -/
def outs : Outs (F := F) := fun J r c =>
  if J = 5 then
    if h : r = main_v5 then h ▸ (dat3 (V4 m (outsC m)) c).arrAt 2 cfg3.N
    else junk r c
  else outsC m J r c

theorem outsB_2 (r : Ref sig .tc) (c : Dev nD) : outsB m 2 r c = outsA m 2 r c := by
  rw [show outsB m 2 r c = outsA m 2 r c from if_neg (by decide)]
theorem outsC_2 (r : Ref sig .tc) (c : Dev nD) : outsC m 2 r c = outsA m 2 r c := by
  rw [show outsC m 2 r c = outsB m 2 r c from if_neg (by decide), outsB_2]
theorem outs_2 (r : Ref sig .tc) (c : Dev nD) : outs m 2 r c = outsA m 2 r c := by
  rw [show outs m 2 r c = outsC m 2 r c from if_neg (by decide), outsC_2]
theorem outsC_3 (r : Ref sig .tc) (c : Dev nD) : outsC m 3 r c = outsB m 3 r c := by
  rw [show outsC m 3 r c = outsB m 3 r c from if_neg (by decide)]
theorem outs_3 (r : Ref sig .tc) (c : Dev nD) : outs m 3 r c = outsB m 3 r c := by
  rw [show outs m 3 r c = outsC m 3 r c from if_neg (by decide), outsC_3]
theorem outs_4 (r : Ref sig .tc) (c : Dev nD) : outs m 4 r c = outsC m 4 r c := by
  rw [show outs m 4 r c = outsC m 4 r c from if_neg (by decide)]
theorem V2_cong (o o' : Outs (F := F)) (h0 : ∀ r c, o 2 r c = o' 2 r c) : V2 m o = V2 m o' := funext fun c => by
  simp only [V2, h0]
theorem V2_outs : V2 m (outs m) = V2 m (outsA m) := V2_cong m _ _ (outs_2 m)
theorem V3_cong (o o' : Outs (F := F)) (h0 : ∀ r c, o 2 r c = o' 2 r c) (h1 : ∀ r c, o 3 r c = o' 3 r c) : V3 m o = V3 m o' := funext fun c => by
  simp only [V3, V2, h0, h1]
theorem V3_outs : V3 m (outs m) = V3 m (outsB m) := V3_cong m _ _ (fun r c => (outs_2 m r c).trans (outsB_2 m r c).symm) (outs_3 m)
theorem V4_cong (o o' : Outs (F := F)) (h0 : ∀ r c, o 2 r c = o' 2 r c) (h1 : ∀ r c, o 3 r c = o' 3 r c) (h2 : ∀ r c, o 4 r c = o' 4 r c) : V4 m o = V4 m o' := funext fun c => by
  simp only [V4, V3, V2, h0, h1, h2]
theorem V4_outs : V4 m (outs m) = V4 m (outsC m) := V4_cong m _ _ (fun r c => (outs_2 m r c).trans (outsC_2 m r c).symm) (fun r c => (outs_3 m r c).trans (outsC_3 m r c).symm) (outs_4 m)
theorem outs_v2_0 (c : Dev nD) : outs m 2 main_v2_0 c = (dat0 (V1 m) c).arrAt 3 cfg0.N := by
  rw [outs_2]; unfold outsA; rw [dif_pos rfl]
theorem outs_v2_1 (c : Dev nD) : outs m 2 main_v2_1 c = (dat0 (V1 m) c).arrAt 4 cfg0.N := by
  rw [outs_2]; unfold outsA; rw [dif_neg (by decide), dif_pos rfl]
theorem outs_v3 (c : Dev nD) : outs m 3 main_v3 c = (dat1 (V2 m (outs m)) c).arrAt 2 cfg1.N := by
  rw [V2_outs, outs_3]; unfold outsB; rw [if_pos rfl, dif_pos rfl]
theorem outs_v4 (c : Dev nD) : outs m 4 main_v4 c = (dat2 (V3 m (outs m)) c).arrAt 2 cfg2.N := by
  rw [V3_outs, outs_4]; unfold outsC; rw [if_pos rfl, dif_pos rfl]
theorem outs_v5 (c : Dev nD) : outs m 5 main_v5 c = (dat3 (V4 m (outs m)) c).arrAt 2 cfg3.N := by
  rw [V4_outs]; unfold outs; rw [if_pos rfl, dif_pos rfl]
theorem V2_v2_0 (c : Dev nD) : V2 m (outs m) c main_v2_0 = (dat0 (V1 m) c).arrAt 3 cfg0.N := by
  rw [← outs_v2_0]
  simp only [V2]
  rw [Function.update_of_ne (StableHlo.devRef_ne_of_ne (by decide)), Function.update_self]
theorem V2_v2_1 (c : Dev nD) : V2 m (outs m) c main_v2_1 = (dat0 (V1 m) c).arrAt 4 cfg0.N := by
  rw [← outs_v2_1]
  simp only [V2]
  rw [Function.update_self]
theorem V3_v3 (c : Dev nD) : V3 m (outs m) c main_v3 = (dat1 (V2 m (outs m)) c).arrAt 2 cfg1.N := by
  rw [← outs_v3]
  simp only [V3]
  rw [Function.update_self]
theorem V4_v4 (c : Dev nD) : V4 m (outs m) c main_v4 = (dat2 (V3 m (outs m)) c).arrAt 2 cfg2.N := by
  rw [← outs_v4]
  simp only [V4]
  rw [Function.update_self]
theorem V5_v5 (c : Dev nD) : V5 m (outs m) c main_v5 = (dat3 (V4 m (outs m)) c).arrAt 2 cfg3.N := by
  rw [← outs_v5]
  simp only [V5]
  rw [Function.update_self]

/-- Each region's proof data, from the contents it is entered at. -/
def pdats : (p : Fin 4) → (c : Dev nD) → Dat τ (Elt F) Unit ℕ (UR sig nD τ) ℕ (cfgs p) c
  | ⟨0, _⟩ => fun c => dat0 (V1 m) c
  | ⟨1, _⟩ => fun c => dat1 (V2 m (outs m)) c
  | ⟨2, _⟩ => fun c => dat2 (V3 m (outs m)) c
  | ⟨3, _⟩ => fun c => dat3 (V4 m (outs m)) c

def seg0' := reg0 (V1 m) (V2 m (outs m)) (pdats m) (fun _ => rfl) (V2_v2_0 m) (V2_v2_1 m) (fun c b h => V2_of m (outs m) c b h)
def seg1' := reg1 (V2 m (outs m)) (V3 m (outs m)) (pdats m) (fun _ => rfl) (V3_v3 m) (fun c b h => V3_of m (outs m) c b h)
def seg2' := reg2 (V3 m (outs m)) (V4 m (outs m)) (pdats m) (fun _ => rfl) (V4_v4 m) (fun c b h => V4_of m (outs m) c b h)
def seg3' := reg3 (V4 m (outs m)) (V5 m (outs m)) (pdats m) (fun _ => rfl) (V5_v5 m) (fun c b h => V5_of m (outs m) c b h)

/-- What rides beside the buffers: the core owes nothing. -/
abbrev rest (_ : Fin 5) (c : Dev nD) : sProp 𝕄 := iprop(∃ W, owes (c : Thread nD τ) (0 : CellTallies nD τ sig Unit) W)

theorem held_eq (c : Dev nD) (W : Valuation τ sig (Elt F)) :
    (unscopedBufs c (fun b => W b) : sProp 𝕄) = StableHlo.held (c : Thread nD τ) (Pipeline.ucRefs τ sig) W :=
  Pipeline.unscopedBufs_held c W

theorem glue (c : Dev nD) (W : Valuation τ sig (Elt F)) :
    iprop(StableHlo.held (c : Thread nD τ) (Pipeline.ucRefs τ sig) W ∗ rest 0 c)
      ⊢ (iprop(unscopedBufs c (fun b => W b) ∗ ∃ W, owes (c : Thread nD τ) (0 : CellTallies nD τ sig Unit) W) : sProp 𝕄) := by
  rw [held_eq]
theorem glue' (c : Dev nD) (W : Valuation τ sig (Elt F)) :
    (iprop(unscopedBufs c (fun b => W b) ∗ ∃ W, owes (c : Thread nD τ) (0 : CellTallies nD τ sig Unit) W) : sProp 𝕄)
      ⊢ iprop(StableHlo.held (c : Thread nD τ) (Pipeline.ucRefs τ sig) W ∗ rest 0 c) := by
  rw [held_eq]

set_option maxHeartbeats 4000000 in
set_option backward.isDefEq.respectTransparency.types false in
/-- Every weakly fair execution of @main from memory `m` with zero counters terminates; at the end each argument is as launched, the results are what the program's last operations leave, and every counter is zero. -/
theorem run_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_v3) = V6 m (outs m) c main_v3
      ∧ r.2.mem ((c.tc : Thread nD τ).loc main_v6) = V6 m (outs m) c main_v6
      ∧ r.2.mem ((c.tc : Thread nD τ).loc main_v4) = V6 m (outs m) c main_v4
      ∧ r.2.mem ((c.tc : Thread nD τ).loc main_v5) = V6 m (outs m) c main_v5)
      ∧ r.2.sem = fun _ => 0) := by
  refine Pipeline.θ_run_regions_kit_dev_sems (pcfgs (F := F)) adm (pdats m) () cellOf_inj emb₁ defs₀ Variants.none (fun _ => ∅) (fun _ _ => 0) m ρ main
    (segs m (outs m) Variants.none (fun _ => ∅) (fun _ _ => 0) rest () (pdats m) (seg0' m) (seg1' m) (seg2' m) (seg3' m))
    (fun c Q => by
      rewrite [main_chain c, Pipeline.Seg.run_eq_chain,
        show (segs m (outs m) Variants.none (fun _ => ∅) (fun _ _ => 0) rest () (pdats m) (seg0' m) (seg1' m) (seg2' m) (seg3' m) c).map Pipeline.Seg.prog = [
          StableHlo.seq hostOps0,
          Prog.lift (.customCall (Pipeline.entry 0) ()),
          Prog.lift (.customCall (Pipeline.entry 1) ()),
          Prog.lift (.customCall (Pipeline.entry 2) ()),
          Prog.lift (.customCall (Pipeline.entry 3) ()),
          StableHlo.seq hostOps4 ] from rfl]
      dsimp (config := { failIfUnchanged := false }) only
      exact .rfl)
    (fun c => by simp only [segs, Pipeline.Seg.pipes_host, Pipeline.Seg.pipes_region, Pipeline.Seg.pipes_nil]; decide) (O₀ := 0) (hL := fun _ _ => rfl) (G := fun _ => iprop(emp))
    (u₀ := initOf (Pipeline.cells cfgs cellOf_inj) (Pipeline.launchToks cfgs cellOf_inj))
    (hu₀ := by
      iintro Hu
      imodintro
      isplitl [Hu]
      · iapply (show (ownU _ : sProp 𝕄) ⊢ BI.own (emb₁ (initOf (Pipeline.cells (Pipeline.pin (pcfgs (F := F)) adm) cellOf_inj) (Pipeline.launchToks (Pipeline.pin (pcfgs (F := F)) adm) cellOf_inj))) from .rfl); iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ rest 0 c))
    (Tₙ := fun c => StableHlo.held (c : Thread nD τ) (Pipeline.ucRefs τ sig) (V6 m (outs m) c))
    (hch := fun c => ⟨.rfl, glue c (V1 m c), .rfl, .rfl, .rfl, glue' c (V5 m (outs m) c), .rfl⟩)
    (hinit := by
      refine Pipeline.initEach (fun _ => ∅) (fun _ _ => 0) fun c => ?_
      rw [show unscopedBufs c (fun b => m ((c : Thread nD τ).loc b)) = StableHlo.held (c : Thread nD τ) (Pipeline.ucRefs τ sig) (V0 m c) from held_eq c (V0 m c)]
      iintro ⟨⟨Hh, -, HO, -, -, -⟩, -⟩
      imodintro
      isplitl [Hh]; · iexact Hh
      iexists ∅; iexact HO)
    (QY := fun c s => s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_v3) = V6 m (outs m) c main_v3
      ∧ s.mem ((c.tc : Thread nD τ).loc main_v6) = V6 m (outs m) c main_v6
      ∧ s.mem ((c.tc : Thread nD τ).loc main_v4) = V6 m (outs m) c main_v4
      ∧ s.mem ((c.tc : Thread nD τ).loc main_v5) = V6 m (outs m) c main_v5)
    (hfin := fun c s' => ?_) (hQ := fun _ h hz => ⟨h, funext fun g => hz g (.inr (regions_no_unscoped g.2))⟩)
  unfold StableHlo.held
  iintro ⟨Hh, HSI⟩
  ihave Hr := (pointsTo_read_all (Pipeline.ucRefs τ sig) (fun b => ((c : Thread nD τ).1, b)) (V6 m (outs m) c) s') $$ [Hh HSI]
  · isplitl [Hh] <;> iassumption
  icases Hr with ⟨%h, HSI⟩
  imodintro
  isplitr
  · ipureintro
    exact ⟨(h (Proc.devRef .tc main_arg0) (Finset.mem_filter.mpr ⟨StableHlo.devRef_mem_tcRefs main_arg0, by decide⟩)).trans (V6_main_arg0 m (outs m) c),
      (h (Proc.devRef .tc main_arg1) (Finset.mem_filter.mpr ⟨StableHlo.devRef_mem_tcRefs main_arg1, by decide⟩)).trans (V6_main_arg1 m (outs m) c),
      (h (Proc.devRef .tc main_arg2) (Finset.mem_filter.mpr ⟨StableHlo.devRef_mem_tcRefs main_arg2, by decide⟩)).trans (V6_main_arg2 m (outs m) c),
      h (Proc.devRef .tc main_v3) (Finset.mem_filter.mpr ⟨StableHlo.devRef_mem_tcRefs main_v3, by decide⟩),
      h (Proc.devRef .tc main_v6) (Finset.mem_filter.mpr ⟨StableHlo.devRef_mem_tcRefs main_v6, by decide⟩),
      h (Proc.devRef .tc main_v4) (Finset.mem_filter.mpr ⟨StableHlo.devRef_mem_tcRefs main_v4, by decide⟩),
      h (Proc.devRef .tc main_v5) (Finset.mem_filter.mpr ⟨StableHlo.devRef_mem_tcRefs main_v5, by decide⟩)⟩
  · iexact HSI

end Cert.Kernel4Ideal.Hand

end
-- ==== Proof.P4Pay.lean ====
module

public import proofs.«01_k».proof.Proof.Gen.Kernel4Ideal.Skeleton
public import proofs.«01_k».proof.Proof.Pay

@[expose] public section

noncomputable section

namespace Cert.Kernel4Ideal.Hand

open Cert.Kernel4Ideal Cert.Kernel4Ideal.Gen Cert.Hand
open Idealize.ShloMosaic Idealize.ShloMosaic.ValueIdx

/-- The cast rows of the weights in the first call, at an index. -/
theorem k0_pay1_at (v : Vec Ideal S1x128x2048 .f32) (y : S128x2048.Idx) :
    k0_pay1 (F := Ideal) v y = v (ix3 (0 : Fin 1) (y 0) (y 1)) := by
  unfold k0_pay1
  simp only [shapeCast_self]
  exact squeeze_at (A := 128) (B := 2048) v _ y

/-- The normalised rows, at an index. -/
theorem k0_pay2_at (x : Vec Ideal S1024x2048 .f32) (w : Vec Ideal S1x2048 .f32) (y : S1024x2048.Idx) :
    k0_pay2 (F := Ideal) x w y = hnS (fun k => x (ix2 (y 0) k)) (fun k => w (ix2 (0 : Fin 1) k)) (y 1) :=
  Cert.KernelIdeal.Hand.k0_pay3_at x w y

/-- The first call's block of the result, at an index. -/
theorem k0_pay3_at (x : Vec Ideal S1024x2048 .f32) (w : Vec Ideal S1x2048 .f32) (a : Vec Ideal S128x2048 .bf16) (y : S1024x128.Idx) :
    k0_pay3 (F := Ideal) x w a y = ∑ k : Fin 2048, k0_pay2 (F := Ideal) x w (ix2 (y 0) k) * a (ix2 (y 1) k) :=
  matmul_nt_at (M := 1024) (K := 2048) (N := 128) (φ₁ := .bf16) (φ₂ := .bf16) (k0_pay2 (F := Ideal) x w) a y

/-- The cast rows of the weights in the second call, at an index. -/
theorem k1_pay1_at (v : Vec Ideal S1x1024x2048 .f32) (y : S1024x2048.Idx) :
    k1_pay1 (F := Ideal) v y = v (ix3 (0 : Fin 1) (y 0) (y 1)) := by
  unfold k1_pay1
  simp only [shapeCast_self]
  exact squeeze_at (A := 1024) (B := 2048) v _ y

/-- The second call's block of the result, at an index. -/
theorem k1_pay2_at (x a : Vec Ideal S1024x2048 .bf16) (y : S1024x1024.Idx) :
    k1_pay2 (F := Ideal) x a y = ∑ k : Fin 2048, x (ix2 (y 0) k) * a (ix2 (y 1) k) := by
  rw [← matmul_nt_at (M := 1024) (K := 2048) (N := 1024) (φ₁ := .bf16) (φ₂ := .bf16) x a y]
  unfold k1_pay2
  simp only [shapeCast_self]
  rfl

/-- The cast rows of the weights in the third call, at an index. -/
theorem k2_pay1_at (v : Vec Ideal S1x1024x2048 .f32) (y : S1024x2048.Idx) :
    k2_pay1 (F := Ideal) v y = v (ix3 (0 : Fin 1) (y 0) (y 1)) := k1_pay1_at v y

/-- The third call's block of the result, at an index. -/
theorem k2_pay2_at (x a : Vec Ideal S1024x2048 .bf16) (y : S1024x1024.Idx) :
    k2_pay2 (F := Ideal) x a y = ∑ k : Fin 2048, x (ix2 (y 0) k) * a (ix2 (y 1) k) := k1_pay2_at x a y

/-- The cast rows of the weights in the fourth call, at an index. -/
theorem k3_pay1_at (v : Vec Ideal S1x1024x2048 .f32) (y : S1024x2048.Idx) :
    k3_pay1 (F := Ideal) v y = v (ix3 (0 : Fin 1) (y 0) (y 1)) := k1_pay1_at v y

/-- The fourth call's block of the result, at an index. -/
theorem k3_pay2_at (x a : Vec Ideal S1024x2048 .bf16) (y : S1024x1024.Idx) :
    k3_pay2 (F := Ideal) x a y = ∑ k : Fin 2048, x (ix2 (y 0) k) * a (ix2 (y 1) k) := k1_pay2_at x a y

end Cert.Kernel4Ideal.Hand

end
-- ==== Proof.P4Value0.lean ====
module

public import proofs.«01_k».proof.Proof.P4Region0
public import proofs.«01_k».proof.Proof.P4Pay

@[expose] public section

set_option maxRecDepth 16384

noncomputable section

namespace Cert.Kernel4Ideal.Hand

open Cert.Kernel4Ideal Cert.Kernel4Ideal.Gen Cert.Hand
open Idealize.ShloMosaic Idealize.ShloMosaic.TcCoe Idealize.ShloMosaic.ValueIdx Idealize.SL.Sem
open Idealize.ShloMosaic.Pipeline (Dat Cfg Window)

variable (V : (c : Dev nD) → Valuation τ sig (Elt Ideal))

/-- Where each window's block sits, at every point of the grid. -/
theorem where0 : ∀ t : Fin cfg0.N, win0_0.index t (0 : Fin 2) = t.val ∧ win0_0.index t (1 : Fin 2) = 0 ∧ win0_1.index t (0 : Fin 3) = 0 ∧ win0_1.index t (1 : Fin 3) = 5120 ∧ win0_1.index t (2 : Fin 3) = 0 ∧ win0_2.index t (0 : Fin 2) = 0 ∧ win0_2.index t (1 : Fin 2) = 0 ∧ win0_3.index t (0 : Fin 2) = t.val ∧ win0_3.index t (1 : Fin 2) = 0 ∧ win0_4.index t (0 : Fin 2) = t.val ∧ win0_4.index t (1 : Fin 2) = 0 :=
  (by decide +kernel : ∀ t : Fin grid0.N, win0_0.index t (0 : Fin 2) = t.val ∧ win0_0.index t (1 : Fin 2) = 0 ∧ win0_1.index t (0 : Fin 3) = 0 ∧ win0_1.index t (1 : Fin 3) = 5120 ∧ win0_1.index t (2 : Fin 3) = 0 ∧ win0_2.index t (0 : Fin 2) = 0 ∧ win0_2.index t (1 : Fin 2) = 0 ∧ win0_3.index t (0 : Fin 2) = t.val ∧ win0_3.index t (1 : Fin 2) = 0 ∧ win0_4.index t (0 : Fin 2) = t.val ∧ win0_4.index t (1 : Fin 2) = 0)

/-- Window 0's block at a point, read off its array. -/
theorem iblk0_0_at (c : Dev nD) (t : Fin cfg0.N) (y : S1024x2048.Idx) (i : S8192x2048.Idx) (h0 : (i (0 : Fin 2)).val = t.val * 1024 + (y (0 : Fin 2)).val) (h1 : (i (1 : Fin 2)).val = 0 * 2048 + (y (1 : Fin 2)).val) :
    iblk0 V c 0 t y = (rd S8192x2048 (V c main_arg0)) i := by
  obtain ⟨e0_0, e0_1, e1_0, e1_1, e1_2, e2_0, e2_1, e3_0, e3_1, e4_0, e4_1⟩ := where0 t
  unfold iblk0
  show (rd S8192x2048 (V c main_arg0)) (((cfg0.win 0).blk t).view.emb y) = _
  refine congrArg ((rd S8192x2048 (V c main_arg0))) (funext fun a => Fin.ext ?_)
  exact (match a with
    | ⟨0, _⟩ => by show win0_0.index t (0 : Fin 2) * 1024 + 1 * (y (0 : Fin 2)).val = (i (0 : Fin 2)).val; rw [h0, e0_0]; omega
    | ⟨1, _⟩ => by show win0_0.index t (1 : Fin 2) * 2048 + 1 * (y (1 : Fin 2)).val = (i (1 : Fin 2)).val; rw [h1, e0_1]; omega)

/-- Window 1's block at a point, read off its array. -/
theorem iblk0_1_at (c : Dev nD) (t : Fin cfg0.N) (y : S1x128x2048.Idx) (i : S1x13344x2048.Idx) (h0 : (i (0 : Fin 3)).val = 0 + (y (0 : Fin 3)).val) (h1 : (i (1 : Fin 3)).val = 5120 + (y (1 : Fin 3)).val) (h2 : (i (2 : Fin 3)).val = 0 + (y (2 : Fin 3)).val) :
    iblk0 V c 1 t y = (rd S1x13344x2048 (V c main_v0)) i := by
  obtain ⟨e0_0, e0_1, e1_0, e1_1, e1_2, e2_0, e2_1, e3_0, e3_1, e4_0, e4_1⟩ := where0 t
  unfold iblk0
  show (rd S1x13344x2048 (V c main_v0)) (((cfg0.win 1).blk t).view.emb y) = _
  refine congrArg ((rd S1x13344x2048 (V c main_v0))) (funext fun a => Fin.ext ?_)
  exact (match a with
    | ⟨0, _⟩ => by show win0_1.index t (0 : Fin 3) + 1 * (y (0 : Fin 3)).val = (i (0 : Fin 3)).val; rw [h0, e1_0]; omega
    | ⟨1, _⟩ => by show win0_1.index t (1 : Fin 3) + 1 * (y (1 : Fin 3)).val = (i (1 : Fin 3)).val; rw [h1, e1_1]; omega
    | ⟨2, _⟩ => by show win0_1.index t (2 : Fin 3) + 1 * (y (2 : Fin 3)).val = (i (2 : Fin 3)).val; rw [h2, e1_2]; omega)

/-- Window 2's block at a point, read off its array. -/
theorem iblk0_2_at (c : Dev nD) (t : Fin cfg0.N) (y : S1x2048.Idx) (i : S1x2048.Idx) (h0 : (i (0 : Fin 2)).val = 0 * 1 + (y (0 : Fin 2)).val) (h1 : (i (1 : Fin 2)).val = 0 * 2048 + (y (1 : Fin 2)).val) :
    iblk0 V c 2 t y = (rd S1x2048 (V c main_v1)) i := by
  obtain ⟨e0_0, e0_1, e1_0, e1_1, e1_2, e2_0, e2_1, e3_0, e3_1, e4_0, e4_1⟩ := where0 t
  unfold iblk0
  show (rd S1x2048 (V c main_v1)) (((cfg0.win 2).blk t).view.emb y) = _
  refine congrArg ((rd S1x2048 (V c main_v1))) (funext fun a => Fin.ext ?_)
  exact (match a with
    | ⟨0, _⟩ => by show win0_2.index t (0 : Fin 2) * 1 + 1 * (y (0 : Fin 2)).val = (i (0 : Fin 2)).val; rw [h0, e2_0]; omega
    | ⟨1, _⟩ => by show win0_2.index t (1 : Fin 2) * 2048 + 1 * (y (1 : Fin 2)).val = (i (1 : Fin 2)).val; rw [h1, e2_1]; omega)

/-- Every point writes output window 3 back. -/
theorem flush0_3_all : ∀ t : Fin cfg0.N, (cfg0.win 3).flush t = true :=
  (by decide +kernel : ∀ t : Fin grid0.N, win0_3.flush t = true)

/-- An index of the array is in a point's block iff each coordinate is in the block's range. -/
theorem mem0_3 (t : Fin cfg0.N) (i : S8192x128.Idx) :
    i ∈ ((cfg0.win 3).blk t).view.set ↔ ∀ a : Fin 2, win0_3.index t a * S1024x128.size a ≤ (i a).val ∧ (i a).val < win0_3.index t a * S1024x128.size a + S1024x128.size a := by
  show i ∈ ((View.whole main_v2_0).slice (win0_3.rect t)).set ↔ _
  rw [View.set_slice_whole, Rect.mem_set_unit]
  exact Iff.rfl

/-- Every index of output window 3's array is in the block of a point that writes back. -/
theorem covered0_3 (i : S8192x128.Idx) :
    ∃ t : Fin cfg0.N, (cfg0.win 3).flush t = true ∧ i ∈ ((cfg0.win 3).blk t).view.set := by
  have hi0 : (i 0).val < 8192 := (i 0).isLt
  have hi1 : (i 1).val < 128 := (i 1).isLt
  have hN : cfg0.N = 8 := by decide
  refine ⟨⟨(i 0).val / 1024, by rw [hN]; omega⟩, (flush0_3_all _), ?_⟩
  rw [mem0_3]
  obtain ⟨e0_0, e0_1, e1_0, e1_1, e1_2, e2_0, e2_1, e3_0, e3_1, e4_0, e4_1⟩ := where0 ⟨(i 0).val / 1024, by rw [hN]; omega⟩
  intro a
  match a with
  | ⟨0, _⟩ => show win0_3.index _ (0 : Fin 2) * 1024 ≤ (i 0).val ∧ (i 0).val < win0_3.index _ (0 : Fin 2) * 1024 + 1024; rw [e3_0]; dsimp only; omega
  | ⟨1, _⟩ => show win0_3.index _ (1 : Fin 2) * 128 ≤ (i 1).val ∧ (i 1).val < win0_3.index _ (1 : Fin 2) * 128 + 128; rw [e3_1]; dsimp only; omega

/-- The time steps' columns and the 96 after them, as the region finds its arrays. -/
def G0_3 (c : Dev nD) : (⟨2, S8192x128.size⟩ : Shape).Idx → EReal := fun i =>
  ∑ k : Fin 2048, hnS (fun k => rd S8192x2048 (V c main_arg0) (ix2 (i 0) k)) (fun k => rd S1x2048 (V c main_v1) (ix2 (0 : Fin 1) k)) k * rd S1x13344x2048 (V c main_v0) (ix3 (0 : Fin 1) ⟨5120 + (i 1).val, by have := idx2_lt1 i; omega⟩ k)

/-- What a point writes back to output window 3 is that function read through the block. -/
theorem flushed0_3 (c : Dev nD) (t : Fin cfg0.N) :
    (dat0 V c).flushed 3 t = ((cfg0.win 3).blk t).view.read (Elt Ideal) (G0_3 V c) := by
  obtain ⟨e0_0, e0_1, e1_0, e1_1, e1_2, e2_0, e2_1, e3_0, e3_1, e4_0, e4_1⟩ := where0 t
  refine funext fun (y : S1024x128.Idx) => ?_
  have q0 : ((((cfg0.win 3).blk t).view.emb y : S8192x128.Idx) 0).val = t.val * 1024 + (y 0).val := by
    show win0_3.index t (0 : Fin 2) * 1024 + 1 * (y 0).val = _
    rw [e3_0]; omega
  have q1 : ((((cfg0.win 3).blk t).view.emb y : S8192x128.Idx) 1).val = 0 * 128 + (y 1).val := by
    show win0_3.index t (1 : Fin 2) * 128 + 1 * (y 1).val = _
    rw [e3_1]; omega
  show (dat0 V c).after 3 t y = G0_3 V c (((cfg0.win 3).blk t).view.emb y)
  generalize (((cfg0.win 3).blk t).view.emb y : S8192x128.Idx) = i at q0 q1
  have b0 := idx2_lt0 y
  have b1 := idx2_lt1 y
  have hN : cfg0.N = 8 := by decide
  have ht : t.val < 8 := lt_of_lt_of_eq t.isLt hN
  rw [after0_3]
  rw [k0_pay3_at]
  have hx : ∀ k : Fin 2048, iblk0 V c 0 t (ix2 (y 0) k) = rd S8192x2048 (V c main_arg0) (ix2 (i 0) k) := fun k =>
    iblk0_0_at V c t _ _ (by rw [← q0]) (by show k.val = 0 * 2048 + k.val; omega)
  have hw : ∀ k : Fin 2048, iblk0 V c 2 t (ix2 (0 : Fin 1) k) = rd S1x2048 (V c main_v1) (ix2 (0 : Fin 1) k) := fun k =>
    iblk0_2_at V c t _ _ (by show 0 = 0 * 1 + 0; omega) (by show k.val = 0 * 2048 + k.val; omega)
  unfold G0_3
  refine Finset.sum_congr (M := EReal) rfl fun k _ => ?_
  rw [k0_pay2_at, k0_pay1_at]
  refine congrArg₂ (· * ·) (congrArg₂ (fun a b => hnS a b k) (funext hx) (funext hw)) (iblk0_1_at V c t _ _ ?_ ?_ ?_)
  · rfl
  · show 5120 + (i 1).val = 5120 + (y 1).val; omega
  · show k.val = 0 + k.val; omega

/-- Output window 3's array at the region's exit. -/
theorem final0_3 (c : Dev nD) : (dat0 V c).arrAt 3 cfg0.N = G0_3 V c :=
  (dat0 V c).arrAt_eq_of_cover 3 _ (fun t _ => flushed0_3 V c t) covered0_3

/-- Every point writes output window 4 back. -/
theorem flush0_4_all : ∀ t : Fin cfg0.N, (cfg0.win 4).flush t = true :=
  (by decide +kernel : ∀ t : Fin grid0.N, win0_4.flush t = true)

/-- An index of the array is in a point's block iff each coordinate is in the block's range. -/
theorem mem0_4 (t : Fin cfg0.N) (i : S8192x2048.Idx) :
    i ∈ ((cfg0.win 4).blk t).view.set ↔ ∀ a : Fin 2, win0_4.index t a * S1024x2048.size a ≤ (i a).val ∧ (i a).val < win0_4.index t a * S1024x2048.size a + S1024x2048.size a := by
  show i ∈ ((View.whole main_v2_1).slice (win0_4.rect t)).set ↔ _
  rw [View.set_slice_whole, Rect.mem_set_unit]
  exact Iff.rfl

/-- Every index of output window 4's array is in the block of a point that writes back. -/
theorem covered0_4 (i : S8192x2048.Idx) :
    ∃ t : Fin cfg0.N, (cfg0.win 4).flush t = true ∧ i ∈ ((cfg0.win 4).blk t).view.set := by
  have hi0 : (i 0).val < 8192 := (i 0).isLt
  have hi1 : (i 1).val < 2048 := (i 1).isLt
  have hN : cfg0.N = 8 := by decide
  refine ⟨⟨(i 0).val / 1024, by rw [hN]; omega⟩, (flush0_4_all _), ?_⟩
  rw [mem0_4]
  obtain ⟨e0_0, e0_1, e1_0, e1_1, e1_2, e2_0, e2_1, e3_0, e3_1, e4_0, e4_1⟩ := where0 ⟨(i 0).val / 1024, by rw [hN]; omega⟩
  intro a
  match a with
  | ⟨0, _⟩ => show win0_4.index _ (0 : Fin 2) * 1024 ≤ (i 0).val ∧ (i 0).val < win0_4.index _ (0 : Fin 2) * 1024 + 1024; rw [e4_0]; dsimp only; omega
  | ⟨1, _⟩ => show win0_4.index _ (1 : Fin 2) * 2048 ≤ (i 1).val ∧ (i 1).val < win0_4.index _ (1 : Fin 2) * 2048 + 2048; rw [e4_1]; dsimp only; omega

/-- The normalised rows, as the region finds its arrays. -/
def G0_4 (c : Dev nD) : (⟨2, S8192x2048.size⟩ : Shape).Idx → EReal := fun i =>
  hnS (fun k => rd S8192x2048 (V c main_arg0) (ix2 (i 0) k)) (fun k => rd S1x2048 (V c main_v1) (ix2 (0 : Fin 1) k)) (i 1)

/-- What a point writes back to output window 4 is that function read through the block. -/
theorem flushed0_4 (c : Dev nD) (t : Fin cfg0.N) :
    (dat0 V c).flushed 4 t = ((cfg0.win 4).blk t).view.read (Elt Ideal) (G0_4 V c) := by
  obtain ⟨e0_0, e0_1, e1_0, e1_1, e1_2, e2_0, e2_1, e3_0, e3_1, e4_0, e4_1⟩ := where0 t
  refine funext fun (y : S1024x2048.Idx) => ?_
  have q0 : ((((cfg0.win 4).blk t).view.emb y : S8192x2048.Idx) 0).val = t.val * 1024 + (y 0).val := by
    show win0_4.index t (0 : Fin 2) * 1024 + 1 * (y 0).val = _
    rw [e4_0]; omega
  have q1 : ((((cfg0.win 4).blk t).view.emb y : S8192x2048.Idx) 1).val = 0 * 2048 + (y 1).val := by
    show win0_4.index t (1 : Fin 2) * 2048 + 1 * (y 1).val = _
    rw [e4_1]; omega
  show (dat0 V c).after 4 t y = G0_4 V c (((cfg0.win 4).blk t).view.emb y)
  generalize (((cfg0.win 4).blk t).view.emb y : S8192x2048.Idx) = i at q0 q1
  have b0 := idx2_lt0 y
  have b1 := idx2_lt1 y
  have hN : cfg0.N = 8 := by decide
  have ht : t.val < 8 := lt_of_lt_of_eq t.isLt hN
  rw [after0_4]
  rw [k0_pay2_at]
  have hx : ∀ k : Fin 2048, iblk0 V c 0 t (ix2 (y 0) k) = rd S8192x2048 (V c main_arg0) (ix2 (i 0) k) := fun k =>
    iblk0_0_at V c t _ _ (by rw [← q0]) (by show k.val = 0 * 2048 + k.val; omega)
  have hw : ∀ k : Fin 2048, iblk0 V c 2 t (ix2 (0 : Fin 1) k) = rd S1x2048 (V c main_v1) (ix2 (0 : Fin 1) k) := fun k =>
    iblk0_2_at V c t _ _ (by show 0 = 0 * 1 + 0; omega) (by show k.val = 0 * 2048 + k.val; omega)
  have h1 : (y 1 : Fin 2048) = i 1 := Fin.ext (by omega)
  unfold G0_4
  rw [funext hx, funext hw]
  exact congrArg (hnS _ _) h1

/-- Output window 4's array at the region's exit. -/
theorem final0_4 (c : Dev nD) : (dat0 V c).arrAt 4 cfg0.N = G0_4 V c :=
  (dat0 V c).arrAt_eq_of_cover 4 _ (fun t _ => flushed0_4 V c t) covered0_4

end Cert.Kernel4Ideal.Hand

end
-- ==== Proof.P4Value1.lean ====
module

public import proofs.«01_k».proof.Proof.P4Region1
public import proofs.«01_k».proof.Proof.P4Pay

@[expose] public section

set_option maxRecDepth 16384

noncomputable section

namespace Cert.Kernel4Ideal.Hand

open Cert.Kernel4Ideal Cert.Kernel4Ideal.Gen Cert.Hand
open Idealize.ShloMosaic Idealize.ShloMosaic.TcCoe Idealize.ShloMosaic.ValueIdx Idealize.SL.Sem
open Idealize.ShloMosaic.Pipeline (Dat Cfg Window)

variable (V : (c : Dev nD) → Valuation τ sig (Elt Ideal))

/-- Where each window's block sits, at every point of the grid. -/
theorem where1 : ∀ t : Fin cfg1.N, win1_0.index t (0 : Fin 2) = t.val % 8 ∧ win1_0.index t (1 : Fin 2) = 0 ∧ win1_1.index t (0 : Fin 3) = 0 ∧ win1_1.index t (1 : Fin 3) = t.val / 8 * 1024 ∧ win1_1.index t (2 : Fin 3) = 0 ∧ win1_2.index t (0 : Fin 2) = t.val % 8 ∧ win1_2.index t (1 : Fin 2) = t.val / 8 :=
  (by decide +kernel : ∀ t : Fin grid1.N, win1_0.index t (0 : Fin 2) = t.val % 8 ∧ win1_0.index t (1 : Fin 2) = 0 ∧ win1_1.index t (0 : Fin 3) = 0 ∧ win1_1.index t (1 : Fin 3) = t.val / 8 * 1024 ∧ win1_1.index t (2 : Fin 3) = 0 ∧ win1_2.index t (0 : Fin 2) = t.val % 8 ∧ win1_2.index t (1 : Fin 2) = t.val / 8)

/-- Window 0's block at a point, read off its array. -/
theorem iblk1_0_at (c : Dev nD) (t : Fin cfg1.N) (y : S1024x2048.Idx) (i : S8192x2048.Idx) (h0 : (i (0 : Fin 2)).val = t.val % 8 * 1024 + (y (0 : Fin 2)).val) (h1 : (i (1 : Fin 2)).val = 0 * 2048 + (y (1 : Fin 2)).val) :
    iblk1 V c 0 t y = (rd S8192x2048 (V c main_v2_1)) i := by
  obtain ⟨e0_0, e0_1, e1_0, e1_1, e1_2, e2_0, e2_1⟩ := where1 t
  unfold iblk1
  show (rd S8192x2048 (V c main_v2_1)) (((cfg1.win 0).blk t).view.emb y) = _
  refine congrArg ((rd S8192x2048 (V c main_v2_1))) (funext fun a => Fin.ext ?_)
  exact (match a with
    | ⟨0, _⟩ => by show win1_0.index t (0 : Fin 2) * 1024 + 1 * (y (0 : Fin 2)).val = (i (0 : Fin 2)).val; rw [h0, e0_0]; omega
    | ⟨1, _⟩ => by show win1_0.index t (1 : Fin 2) * 2048 + 1 * (y (1 : Fin 2)).val = (i (1 : Fin 2)).val; rw [h1, e0_1]; omega)

/-- Window 1's block at a point, read off its array. -/
theorem iblk1_1_at (c : Dev nD) (t : Fin cfg1.N) (y : S1x1024x2048.Idx) (i : S1x13344x2048.Idx) (h0 : (i (0 : Fin 3)).val = 0 + (y (0 : Fin 3)).val) (h1 : (i (1 : Fin 3)).val = t.val / 8 * 1024 + (y (1 : Fin 3)).val) (h2 : (i (2 : Fin 3)).val = 0 + (y (2 : Fin 3)).val) :
    iblk1 V c 1 t y = (rd S1x13344x2048 (V c main_v0)) i := by
  obtain ⟨e0_0, e0_1, e1_0, e1_1, e1_2, e2_0, e2_1⟩ := where1 t
  unfold iblk1
  show (rd S1x13344x2048 (V c main_v0)) (((cfg1.win 1).blk t).view.emb y) = _
  refine congrArg ((rd S1x13344x2048 (V c main_v0))) (funext fun a => Fin.ext ?_)
  exact (match a with
    | ⟨0, _⟩ => by show win1_1.index t (0 : Fin 3) + 1 * (y (0 : Fin 3)).val = (i (0 : Fin 3)).val; rw [h0, e1_0]; omega
    | ⟨1, _⟩ => by show win1_1.index t (1 : Fin 3) + 1 * (y (1 : Fin 3)).val = (i (1 : Fin 3)).val; rw [h1, e1_1]; omega
    | ⟨2, _⟩ => by show win1_1.index t (2 : Fin 3) + 1 * (y (2 : Fin 3)).val = (i (2 : Fin 3)).val; rw [h2, e1_2]; omega)

/-- Every point writes output window 2 back. -/
theorem flush1_2_all : ∀ t : Fin cfg1.N, (cfg1.win 2).flush t = true :=
  (by decide +kernel : ∀ t : Fin grid1.N, win1_2.flush t = true)

/-- An index of the array is in a point's block iff each coordinate is in the block's range. -/
theorem mem1_2 (t : Fin cfg1.N) (i : S8192x5120.Idx) :
    i ∈ ((cfg1.win 2).blk t).view.set ↔ ∀ a : Fin 2, win1_2.index t a * S1024x1024.size a ≤ (i a).val ∧ (i a).val < win1_2.index t a * S1024x1024.size a + S1024x1024.size a := by
  show i ∈ ((View.whole main_v3).slice (win1_2.rect t)).set ↔ _
  rw [View.set_slice_whole, Rect.mem_set_unit]
  exact Iff.rfl

/-- Every index of output window 2's array is in the block of a point that writes back. -/
theorem covered1_2 (i : S8192x5120.Idx) :
    ∃ t : Fin cfg1.N, (cfg1.win 2).flush t = true ∧ i ∈ ((cfg1.win 2).blk t).view.set := by
  have hi0 : (i 0).val < 8192 := (i 0).isLt
  have hi1 : (i 1).val < 5120 := (i 1).isLt
  have hN : cfg1.N = 40 := by decide
  refine ⟨⟨(i 1).val / 1024 * 8 + (i 0).val / 1024, by rw [hN]; omega⟩, (flush1_2_all _), ?_⟩
  rw [mem1_2]
  obtain ⟨e0_0, e0_1, e1_0, e1_1, e1_2, e2_0, e2_1⟩ := where1 ⟨(i 1).val / 1024 * 8 + (i 0).val / 1024, by rw [hN]; omega⟩
  intro a
  match a with
  | ⟨0, _⟩ => show win1_2.index _ (0 : Fin 2) * 1024 ≤ (i 0).val ∧ (i 0).val < win1_2.index _ (0 : Fin 2) * 1024 + 1024; rw [e2_0]; dsimp only; omega
  | ⟨1, _⟩ => show win1_2.index _ (1 : Fin 2) * 1024 ≤ (i 1).val ∧ (i 1).val < win1_2.index _ (1 : Fin 2) * 1024 + 1024; rw [e2_1]; dsimp only; omega

/-- The first 5120 columns of the product, as the region finds its arrays. -/
def G1_2 (c : Dev nD) : (⟨2, S8192x5120.size⟩ : Shape).Idx → EReal := fun i =>
  ∑ k : Fin 2048, rd S8192x2048 (V c main_v2_1) (ix2 (i 0) k) * rd S1x13344x2048 (V c main_v0) (ix3 (0 : Fin 1) ⟨(i 1).val, by have := idx2_lt1 i; omega⟩ k)

/-- What a point writes back to output window 2 is that function read through the block. -/
theorem flushed1_2 (c : Dev nD) (t : Fin cfg1.N) :
    (dat1 V c).flushed 2 t = ((cfg1.win 2).blk t).view.read (Elt Ideal) (G1_2 V c) := by
  obtain ⟨e0_0, e0_1, e1_0, e1_1, e1_2, e2_0, e2_1⟩ := where1 t
  refine funext fun (y : S1024x1024.Idx) => ?_
  have q0 : ((((cfg1.win 2).blk t).view.emb y : S8192x5120.Idx) 0).val = t.val % 8 * 1024 + (y 0).val := by
    show win1_2.index t (0 : Fin 2) * 1024 + 1 * (y 0).val = _
    rw [e2_0]; omega
  have q1 : ((((cfg1.win 2).blk t).view.emb y : S8192x5120.Idx) 1).val = t.val / 8 * 1024 + (y 1).val := by
    show win1_2.index t (1 : Fin 2) * 1024 + 1 * (y 1).val = _
    rw [e2_1]; omega
  show (dat1 V c).after 2 t y = G1_2 V c (((cfg1.win 2).blk t).view.emb y)
  generalize (((cfg1.win 2).blk t).view.emb y : S8192x5120.Idx) = i at q0 q1
  have b0 := idx2_lt0 y
  have b1 := idx2_lt1 y
  have hN : cfg1.N = 40 := by decide
  have ht : t.val < 40 := lt_of_lt_of_eq t.isLt hN
  rw [after1_2]
  rw [k1_pay2_at]
  have hx : ∀ k : Fin 2048, iblk1 V c 0 t (ix2 (y 0) k) = rd S8192x2048 (V c main_v2_1) (ix2 (i 0) k) := fun k =>
    iblk1_0_at V c t _ _ (by rw [← q0]) (by show k.val = 0 * 2048 + k.val; omega)
  unfold G1_2
  refine Finset.sum_congr (M := EReal) rfl fun k _ => ?_
  rw [k1_pay1_at]
  refine congrArg₂ (· * ·) (hx k) (iblk1_1_at V c t _ _ ?_ ?_ ?_)
  · rfl
  · show (i 1).val = t.val / 8 * 1024 + (y 1).val; omega
  · show k.val = 0 + k.val; omega

/-- Output window 2's array at the region's exit. -/
theorem final1_2 (c : Dev nD) : (dat1 V c).arrAt 2 cfg1.N = G1_2 V c :=
  (dat1 V c).arrAt_eq_of_cover 2 _ (fun t _ => flushed1_2 V c t) covered1_2

end Cert.Kernel4Ideal.Hand

end
-- ==== Proof.P4Value2.lean ====
module

public import proofs.«01_k».proof.Proof.P4Region2
public import proofs.«01_k».proof.Proof.P4Pay

@[expose] public section

set_option maxRecDepth 16384

noncomputable section

namespace Cert.Kernel4Ideal.Hand

open Cert.Kernel4Ideal Cert.Kernel4Ideal.Gen Cert.Hand
open Idealize.ShloMosaic Idealize.ShloMosaic.TcCoe Idealize.ShloMosaic.ValueIdx Idealize.SL.Sem
open Idealize.ShloMosaic.Pipeline (Dat Cfg Window)

variable (V : (c : Dev nD) → Valuation τ sig (Elt Ideal))

/-- Where each window's block sits, at every point of the grid. -/
theorem where2 : ∀ t : Fin cfg2.N, win2_0.index t (0 : Fin 2) = t.val % 8 ∧ win2_0.index t (1 : Fin 2) = 0 ∧ win2_1.index t (0 : Fin 3) = 0 ∧ win2_1.index t (1 : Fin 3) = 5152 + t.val / 8 * 1024 + (t.val / 8 / 2 + 1) / 2 * 2048 ∧ win2_1.index t (2 : Fin 3) = 0 ∧ win2_2.index t (0 : Fin 2) = t.val % 8 ∧ win2_2.index t (1 : Fin 2) = t.val / 8 :=
  (by decide +kernel : ∀ t : Fin grid2.N, win2_0.index t (0 : Fin 2) = t.val % 8 ∧ win2_0.index t (1 : Fin 2) = 0 ∧ win2_1.index t (0 : Fin 3) = 0 ∧ win2_1.index t (1 : Fin 3) = 5152 + t.val / 8 * 1024 + (t.val / 8 / 2 + 1) / 2 * 2048 ∧ win2_1.index t (2 : Fin 3) = 0 ∧ win2_2.index t (0 : Fin 2) = t.val % 8 ∧ win2_2.index t (1 : Fin 2) = t.val / 8)

/-- Window 0's block at a point, read off its array. -/
theorem iblk2_0_at (c : Dev nD) (t : Fin cfg2.N) (y : S1024x2048.Idx) (i : S8192x2048.Idx) (h0 : (i (0 : Fin 2)).val = t.val % 8 * 1024 + (y (0 : Fin 2)).val) (h1 : (i (1 : Fin 2)).val = 0 * 2048 + (y (1 : Fin 2)).val) :
    iblk2 V c 0 t y = (rd S8192x2048 (V c main_v2_1)) i := by
  obtain ⟨e0_0, e0_1, e1_0, e1_1, e1_2, e2_0, e2_1⟩ := where2 t
  unfold iblk2
  show (rd S8192x2048 (V c main_v2_1)) (((cfg2.win 0).blk t).view.emb y) = _
  refine congrArg ((rd S8192x2048 (V c main_v2_1))) (funext fun a => Fin.ext ?_)
  exact (match a with
    | ⟨0, _⟩ => by show win2_0.index t (0 : Fin 2) * 1024 + 1 * (y (0 : Fin 2)).val = (i (0 : Fin 2)).val; rw [h0, e0_0]; omega
    | ⟨1, _⟩ => by show win2_0.index t (1 : Fin 2) * 2048 + 1 * (y (1 : Fin 2)).val = (i (1 : Fin 2)).val; rw [h1, e0_1]; omega)

/-- Window 1's block at a point, read off its array. -/
theorem iblk2_1_at (c : Dev nD) (t : Fin cfg2.N) (y : S1x1024x2048.Idx) (i : S1x13344x2048.Idx) (h0 : (i (0 : Fin 3)).val = 0 + (y (0 : Fin 3)).val) (h1 : (i (1 : Fin 3)).val = 5152 + t.val / 8 * 1024 + (t.val / 8 / 2 + 1) / 2 * 2048 + (y (1 : Fin 3)).val) (h2 : (i (2 : Fin 3)).val = 0 + (y (2 : Fin 3)).val) :
    iblk2 V c 1 t y = (rd S1x13344x2048 (V c main_v0)) i := by
  obtain ⟨e0_0, e0_1, e1_0, e1_1, e1_2, e2_0, e2_1⟩ := where2 t
  unfold iblk2
  show (rd S1x13344x2048 (V c main_v0)) (((cfg2.win 1).blk t).view.emb y) = _
  refine congrArg ((rd S1x13344x2048 (V c main_v0))) (funext fun a => Fin.ext ?_)
  exact (match a with
    | ⟨0, _⟩ => by show win2_1.index t (0 : Fin 3) + 1 * (y (0 : Fin 3)).val = (i (0 : Fin 3)).val; rw [h0, e1_0]; omega
    | ⟨1, _⟩ => by show win2_1.index t (1 : Fin 3) + 1 * (y (1 : Fin 3)).val = (i (1 : Fin 3)).val; rw [h1, e1_1]; omega
    | ⟨2, _⟩ => by show win2_1.index t (2 : Fin 3) + 1 * (y (2 : Fin 3)).val = (i (2 : Fin 3)).val; rw [h2, e1_2]; omega)

/-- Every point writes output window 2 back. -/
theorem flush2_2_all : ∀ t : Fin cfg2.N, (cfg2.win 2).flush t = true :=
  (by decide +kernel : ∀ t : Fin grid2.N, win2_2.flush t = true)

/-- An index of the array is in a point's block iff each coordinate is in the block's range. -/
theorem mem2_2 (t : Fin cfg2.N) (i : S8192x6144.Idx) :
    i ∈ ((cfg2.win 2).blk t).view.set ↔ ∀ a : Fin 2, win2_2.index t a * S1024x1024.size a ≤ (i a).val ∧ (i a).val < win2_2.index t a * S1024x1024.size a + S1024x1024.size a := by
  show i ∈ ((View.whole main_v4).slice (win2_2.rect t)).set ↔ _
  rw [View.set_slice_whole, Rect.mem_set_unit]
  exact Iff.rfl

/-- Every index of output window 2's array is in the block of a point that writes back. -/
theorem covered2_2 (i : S8192x6144.Idx) :
    ∃ t : Fin cfg2.N, (cfg2.win 2).flush t = true ∧ i ∈ ((cfg2.win 2).blk t).view.set := by
  have hi0 : (i 0).val < 8192 := (i 0).isLt
  have hi1 : (i 1).val < 6144 := (i 1).isLt
  have hN : cfg2.N = 48 := by decide
  refine ⟨⟨(i 1).val / 1024 * 8 + (i 0).val / 1024, by rw [hN]; omega⟩, (flush2_2_all _), ?_⟩
  rw [mem2_2]
  obtain ⟨e0_0, e0_1, e1_0, e1_1, e1_2, e2_0, e2_1⟩ := where2 ⟨(i 1).val / 1024 * 8 + (i 0).val / 1024, by rw [hN]; omega⟩
  intro a
  match a with
  | ⟨0, _⟩ => show win2_2.index _ (0 : Fin 2) * 1024 ≤ (i 0).val ∧ (i 0).val < win2_2.index _ (0 : Fin 2) * 1024 + 1024; rw [e2_0]; dsimp only; omega
  | ⟨1, _⟩ => show win2_2.index _ (1 : Fin 2) * 1024 ≤ (i 1).val ∧ (i 1).val < win2_2.index _ (1 : Fin 2) * 1024 + 1024; rw [e2_1]; dsimp only; omega

/-- The columns of the queries, inputs and gates, as the region finds its arrays. -/
def G2_2 (c : Dev nD) : (⟨2, S8192x6144.size⟩ : Shape).Idx → EReal := fun i =>
  ∑ k : Fin 2048, rd S8192x2048 (V c main_v2_1) (ix2 (i 0) k) * rd S1x13344x2048 (V c main_v0) (ix3 (0 : Fin 1) ⟨qcol (i 1).val, by have := idx2_lt1 i; unfold qcol; omega⟩ k)

/-- What a point writes back to output window 2 is that function read through the block. -/
theorem flushed2_2 (c : Dev nD) (t : Fin cfg2.N) :
    (dat2 V c).flushed 2 t = ((cfg2.win 2).blk t).view.read (Elt Ideal) (G2_2 V c) := by
  obtain ⟨e0_0, e0_1, e1_0, e1_1, e1_2, e2_0, e2_1⟩ := where2 t
  refine funext fun (y : S1024x1024.Idx) => ?_
  have q0 : ((((cfg2.win 2).blk t).view.emb y : S8192x6144.Idx) 0).val = t.val % 8 * 1024 + (y 0).val := by
    show win2_2.index t (0 : Fin 2) * 1024 + 1 * (y 0).val = _
    rw [e2_0]; omega
  have q1 : ((((cfg2.win 2).blk t).view.emb y : S8192x6144.Idx) 1).val = t.val / 8 * 1024 + (y 1).val := by
    show win2_2.index t (1 : Fin 2) * 1024 + 1 * (y 1).val = _
    rw [e2_1]; omega
  show (dat2 V c).after 2 t y = G2_2 V c (((cfg2.win 2).blk t).view.emb y)
  generalize (((cfg2.win 2).blk t).view.emb y : S8192x6144.Idx) = i at q0 q1
  have b0 := idx2_lt0 y
  have b1 := idx2_lt1 y
  have hN : cfg2.N = 48 := by decide
  have ht : t.val < 48 := lt_of_lt_of_eq t.isLt hN
  rw [after2_2]
  rw [k2_pay2_at]
  have hx : ∀ k : Fin 2048, iblk2 V c 0 t (ix2 (y 0) k) = rd S8192x2048 (V c main_v2_1) (ix2 (i 0) k) := fun k =>
    iblk2_0_at V c t _ _ (by rw [← q0]) (by show k.val = 0 * 2048 + k.val; omega)
  unfold G2_2
  refine Finset.sum_congr (M := EReal) rfl fun k _ => ?_
  rw [k2_pay1_at]
  refine congrArg₂ (· * ·) (hx k) (iblk2_1_at V c t _ _ ?_ ?_ ?_)
  · rfl
  · show qcol (i 1).val = 5152 + t.val / 8 * 1024 + (t.val / 8 / 2 + 1) / 2 * 2048 + (y 1).val; unfold qcol; omega
  · show k.val = 0 + k.val; omega

/-- Output window 2's array at the region's exit. -/
theorem final2_2 (c : Dev nD) : (dat2 V c).arrAt 2 cfg2.N = G2_2 V c :=
  (dat2 V c).arrAt_eq_of_cover 2 _ (fun t _ => flushed2_2 V c t) covered2_2

end Cert.Kernel4Ideal.Hand

end
-- ==== Proof.P4Value3.lean ====
module

public import proofs.«01_k».proof.Proof.P4Region3
public import proofs.«01_k».proof.Proof.P4Pay

@[expose] public section

set_option maxRecDepth 16384

noncomputable section

namespace Cert.Kernel4Ideal.Hand

open Cert.Kernel4Ideal Cert.Kernel4Ideal.Gen Cert.Hand
open Idealize.ShloMosaic Idealize.ShloMosaic.TcCoe Idealize.ShloMosaic.ValueIdx Idealize.SL.Sem
open Idealize.ShloMosaic.Pipeline (Dat Cfg Window)

variable (V : (c : Dev nD) → Valuation τ sig (Elt Ideal))

/-- Where each window's block sits, at every point of the grid. -/
theorem where3 : ∀ t : Fin cfg3.N, win3_0.index t (0 : Fin 2) = t.val % 8 ∧ win3_0.index t (1 : Fin 2) = 0 ∧ win3_1.index t (0 : Fin 3) = 0 ∧ win3_1.index t (1 : Fin 3) = 7200 + t.val / 8 * 1024 ∧ win3_1.index t (2 : Fin 3) = 0 ∧ win3_2.index t (0 : Fin 2) = t.val % 8 ∧ win3_2.index t (1 : Fin 2) = t.val / 8 :=
  (by decide +kernel : ∀ t : Fin grid3.N, win3_0.index t (0 : Fin 2) = t.val % 8 ∧ win3_0.index t (1 : Fin 2) = 0 ∧ win3_1.index t (0 : Fin 3) = 0 ∧ win3_1.index t (1 : Fin 3) = 7200 + t.val / 8 * 1024 ∧ win3_1.index t (2 : Fin 3) = 0 ∧ win3_2.index t (0 : Fin 2) = t.val % 8 ∧ win3_2.index t (1 : Fin 2) = t.val / 8)

/-- Window 0's block at a point, read off its array. -/
theorem iblk3_0_at (c : Dev nD) (t : Fin cfg3.N) (y : S1024x2048.Idx) (i : S8192x2048.Idx) (h0 : (i (0 : Fin 2)).val = t.val % 8 * 1024 + (y (0 : Fin 2)).val) (h1 : (i (1 : Fin 2)).val = 0 * 2048 + (y (1 : Fin 2)).val) :
    iblk3 V c 0 t y = (rd S8192x2048 (V c main_v2_1)) i := by
  obtain ⟨e0_0, e0_1, e1_0, e1_1, e1_2, e2_0, e2_1⟩ := where3 t
  unfold iblk3
  show (rd S8192x2048 (V c main_v2_1)) (((cfg3.win 0).blk t).view.emb y) = _
  refine congrArg ((rd S8192x2048 (V c main_v2_1))) (funext fun a => Fin.ext ?_)
  exact (match a with
    | ⟨0, _⟩ => by show win3_0.index t (0 : Fin 2) * 1024 + 1 * (y (0 : Fin 2)).val = (i (0 : Fin 2)).val; rw [h0, e0_0]; omega
    | ⟨1, _⟩ => by show win3_0.index t (1 : Fin 2) * 2048 + 1 * (y (1 : Fin 2)).val = (i (1 : Fin 2)).val; rw [h1, e0_1]; omega)

/-- Window 1's block at a point, read off its array. -/
theorem iblk3_1_at (c : Dev nD) (t : Fin cfg3.N) (y : S1x1024x2048.Idx) (i : S1x13344x2048.Idx) (h0 : (i (0 : Fin 3)).val = 0 + (y (0 : Fin 3)).val) (h1 : (i (1 : Fin 3)).val = 7200 + t.val / 8 * 1024 + (y (1 : Fin 3)).val) (h2 : (i (2 : Fin 3)).val = 0 + (y (2 : Fin 3)).val) :
    iblk3 V c 1 t y = (rd S1x13344x2048 (V c main_v0)) i := by
  obtain ⟨e0_0, e0_1, e1_0, e1_1, e1_2, e2_0, e2_1⟩ := where3 t
  unfold iblk3
  show (rd S1x13344x2048 (V c main_v0)) (((cfg3.win 1).blk t).view.emb y) = _
  refine congrArg ((rd S1x13344x2048 (V c main_v0))) (funext fun a => Fin.ext ?_)
  exact (match a with
    | ⟨0, _⟩ => by show win3_1.index t (0 : Fin 3) + 1 * (y (0 : Fin 3)).val = (i (0 : Fin 3)).val; rw [h0, e1_0]; omega
    | ⟨1, _⟩ => by show win3_1.index t (1 : Fin 3) + 1 * (y (1 : Fin 3)).val = (i (1 : Fin 3)).val; rw [h1, e1_1]; omega
    | ⟨2, _⟩ => by show win3_1.index t (2 : Fin 3) + 1 * (y (2 : Fin 3)).val = (i (2 : Fin 3)).val; rw [h2, e1_2]; omega)

/-- Every point writes output window 2 back. -/
theorem flush3_2_all : ∀ t : Fin cfg3.N, (cfg3.win 2).flush t = true :=
  (by decide +kernel : ∀ t : Fin grid3.N, win3_2.flush t = true)

/-- An index of the array is in a point's block iff each coordinate is in the block's range. -/
theorem mem3_2 (t : Fin cfg3.N) (i : S8192x2048.Idx) :
    i ∈ ((cfg3.win 2).blk t).view.set ↔ ∀ a : Fin 2, win3_2.index t a * S1024x1024.size a ≤ (i a).val ∧ (i a).val < win3_2.index t a * S1024x1024.size a + S1024x1024.size a := by
  show i ∈ ((View.whole main_v5).slice (win3_2.rect t)).set ↔ _
  rw [View.set_slice_whole, Rect.mem_set_unit]
  exact Iff.rfl

/-- Every index of output window 2's array is in the block of a point that writes back. -/
theorem covered3_2 (i : S8192x2048.Idx) :
    ∃ t : Fin cfg3.N, (cfg3.win 2).flush t = true ∧ i ∈ ((cfg3.win 2).blk t).view.set := by
  have hi0 : (i 0).val < 8192 := (i 0).isLt
  have hi1 : (i 1).val < 2048 := (i 1).isLt
  have hN : cfg3.N = 16 := by decide
  refine ⟨⟨(i 1).val / 1024 * 8 + (i 0).val / 1024, by rw [hN]; omega⟩, (flush3_2_all _), ?_⟩
  rw [mem3_2]
  obtain ⟨e0_0, e0_1, e1_0, e1_1, e1_2, e2_0, e2_1⟩ := where3 ⟨(i 1).val / 1024 * 8 + (i 0).val / 1024, by rw [hN]; omega⟩
  intro a
  match a with
  | ⟨0, _⟩ => show win3_2.index _ (0 : Fin 2) * 1024 ≤ (i 0).val ∧ (i 0).val < win3_2.index _ (0 : Fin 2) * 1024 + 1024; rw [e2_0]; dsimp only; omega
  | ⟨1, _⟩ => show win3_2.index _ (1 : Fin 2) * 1024 ≤ (i 1).val ∧ (i 1).val < win3_2.index _ (1 : Fin 2) * 1024 + 1024; rw [e2_1]; dsimp only; omega

/-- The columns of the forget gates, as the region finds its arrays. -/
def G3_2 (c : Dev nD) : (⟨2, S8192x2048.size⟩ : Shape).Idx → EReal := fun i =>
  ∑ k : Fin 2048, rd S8192x2048 (V c main_v2_1) (ix2 (i 0) k) * rd S1x13344x2048 (V c main_v0) (ix3 (0 : Fin 1) ⟨7200 + (i 1).val, by have := idx2_lt1 i; omega⟩ k)

/-- What a point writes back to output window 2 is that function read through the block. -/
theorem flushed3_2 (c : Dev nD) (t : Fin cfg3.N) :
    (dat3 V c).flushed 2 t = ((cfg3.win 2).blk t).view.read (Elt Ideal) (G3_2 V c) := by
  obtain ⟨e0_0, e0_1, e1_0, e1_1, e1_2, e2_0, e2_1⟩ := where3 t
  refine funext fun (y : S1024x1024.Idx) => ?_
  have q0 : ((((cfg3.win 2).blk t).view.emb y : S8192x2048.Idx) 0).val = t.val % 8 * 1024 + (y 0).val := by
    show win3_2.index t (0 : Fin 2) * 1024 + 1 * (y 0).val = _
    rw [e2_0]; omega
  have q1 : ((((cfg3.win 2).blk t).view.emb y : S8192x2048.Idx) 1).val = t.val / 8 * 1024 + (y 1).val := by
    show win3_2.index t (1 : Fin 2) * 1024 + 1 * (y 1).val = _
    rw [e2_1]; omega
  show (dat3 V c).after 2 t y = G3_2 V c (((cfg3.win 2).blk t).view.emb y)
  generalize (((cfg3.win 2).blk t).view.emb y : S8192x2048.Idx) = i at q0 q1
  have b0 := idx2_lt0 y
  have b1 := idx2_lt1 y
  have hN : cfg3.N = 16 := by decide
  have ht : t.val < 16 := lt_of_lt_of_eq t.isLt hN
  rw [after3_2]
  rw [k3_pay2_at]
  have hx : ∀ k : Fin 2048, iblk3 V c 0 t (ix2 (y 0) k) = rd S8192x2048 (V c main_v2_1) (ix2 (i 0) k) := fun k =>
    iblk3_0_at V c t _ _ (by rw [← q0]) (by show k.val = 0 * 2048 + k.val; omega)
  unfold G3_2
  refine Finset.sum_congr (M := EReal) rfl fun k _ => ?_
  rw [k3_pay1_at]
  refine congrArg₂ (· * ·) (hx k) (iblk3_1_at V c t _ _ ?_ ?_ ?_)
  · rfl
  · show 7200 + (i 1).val = 7200 + t.val / 8 * 1024 + (y 1).val; omega
  · show k.val = 0 + k.val; omega

/-- Output window 2's array at the region's exit. -/
theorem final3_2 (c : Dev nD) : (dat3 V c).arrAt 2 cfg3.N = G3_2 V c :=
  (dat3 V c).arrAt_eq_of_cover 2 _ (fun t _ => flushed3_2 V c t) covered3_2

end Cert.Kernel4Ideal.Hand

end
-- ==== Proof.P4KerValue.lean ====
module

public import proofs.«01_k».proof.Proof.P4Main
public import proofs.«01_k».proof.Proof.P4Value0
public import proofs.«01_k».proof.Proof.P4Value1
public import proofs.«01_k».proof.Proof.P4Value2
public import proofs.«01_k».proof.Proof.P4Value3

@[expose] public section

set_option maxRecDepth 16384

noncomputable section

namespace Cert.Kernel4Ideal.Hand

open Cert.Kernel4Ideal Cert.Kernel4Ideal.Gen Cert.Hand
open Idealize.ShloMosaic Idealize.ShloMosaic.TcCoe Idealize.ShloMosaic.ValueIdx Idealize.SL.Sem

variable (m : (ℓ : Loc nD τ sig) → Buf (Elt Ideal) ℓ) (c : Dev nD)

/-- The stream, as launched. -/
abbrev a0 : S8192x2048.Idx → EReal := m ((c : Thread nD τ).loc main_arg0)
/-- The mixer norm's weights, as launched. -/
abbrev a1 : S2048.Idx → EReal := m ((c : Thread nD τ).loc main_arg1)
/-- The mixers' first weights, as launched. -/
abbrev a2 : S1x2048x13344.Idx → EReal := m ((c : Thread nD τ).loc main_arg2)

theorem V1_arg0 : rd S8192x2048 (V1 m c main_arg0) = a0 m c :=
  (V1_of m c main_arg0 (by decide)).trans rfl

/-- The norm's weights given a leading axis, as region 0 finds them. -/
theorem V1_v1 (k : Fin 2048) : rd S1x2048 (V1 m c main_v1) (ix2 (0 : Fin 1) k) = a1 m c (ix1 k) := by
  have e : V1 m c main_v1 = shapeCast S1x2048 (a1 m c) shapeCasts_S2048_S1x2048 := by
    simp only [V1, hostOps0]; after_results_simp <;> rfl
  exact (congrFun e _).trans (lead_at _ _ k)

/-- The transposed weights, as region 0 finds them. -/
theorem V1_wt (j : Fin 13344) (k : Fin 2048) : rd S1x13344x2048 (V1 m c main_v0) (ix3 (0 : Fin 1) j k) = a2 m c (ix3 (0 : Fin 1) k j) := by
  have e : V1 m c main_v0 = transpose S1x13344x2048 [0, 2, 1] (a2 m c) transposes_S1x2048x13344_S1x13344x2048_0_2_1 := by
    simp only [V1, hostOps0]; after_results_simp <;> rfl
  refine (congrFun e _).trans (transpose_apply _ _ _ _ _ fun b => ?_)
  match b with
  | ⟨0, _⟩ => rfl
  | ⟨1, _⟩ => rfl
  | ⟨2, _⟩ => rfl
theorem V2_wt (j : Fin 13344) (k : Fin 2048) : rd S1x13344x2048 (V2 m (outs m) c main_v0) (ix3 (0 : Fin 1) j k) = a2 m c (ix3 (0 : Fin 1) k j) :=
  (congrFun (V2_of m (outs m) c main_v0 (by decide)) _).trans (V1_wt m c j k)
theorem V3_wt (j : Fin 13344) (k : Fin 2048) : rd S1x13344x2048 (V3 m (outs m) c main_v0) (ix3 (0 : Fin 1) j k) = a2 m c (ix3 (0 : Fin 1) k j) :=
  (congrFun (V3_of m (outs m) c main_v0 (by decide)) _).trans (V2_wt m c j k)
theorem V4_wt (j : Fin 13344) (k : Fin 2048) : rd S1x13344x2048 (V4 m (outs m) c main_v0) (ix3 (0 : Fin 1) j k) = a2 m c (ix3 (0 : Fin 1) k j) :=
  (congrFun (V4_of m (outs m) c main_v0 (by decide)) _).trans (V3_wt m c j k)

/-- The normalised rows, as region 1 finds them. -/
theorem V2_hn (r : Fin 8192) (k : Fin 2048) : rd S8192x2048 (V2 m (outs m) c main_v2_1) (ix2 r k)
    = hnS (fun k => a0 m c (ix2 r k)) (fun k => a1 m c (ix1 k)) k := by
  refine (congrFun ((V2_v2_1 m c).trans (final0_4 (V1 m) c)) _).trans ?_
  unfold G0_4
  rw [V1_arg0, funext fun k => V1_v1 m c k]
theorem V3_hn (r : Fin 8192) (k : Fin 2048) : rd S8192x2048 (V3 m (outs m) c main_v2_1) (ix2 r k)
    = hnS (fun k => a0 m c (ix2 r k)) (fun k => a1 m c (ix1 k)) k :=
  (congrFun (V3_of m (outs m) c main_v2_1 (by decide)) _).trans (V2_hn m c r k)
theorem V4_hn (r : Fin 8192) (k : Fin 2048) : rd S8192x2048 (V4 m (outs m) c main_v2_1) (ix2 r k)
    = hnS (fun k => a0 m c (ix2 r k)) (fun k => a1 m c (ix1 k)) k :=
  (congrFun (V4_of m (outs m) c main_v2_1 (by decide)) _).trans (V3_hn m c r k)

/-- The kernel's first result: the first 5120 columns of the product. -/
theorem proj_ker : rd S8192x5120 (V6 m (outs m) c main_v3) = fun i => proj (a0 m c) (fun k => a1 m c (ix1 k)) (a2 m c) (i 0) ⟨(i 1).val, by have := idx2_lt1 i; omega⟩ := by
  refine ((V6_of m (outs m) c main_v3 (by decide)).trans ((V5_of m (outs m) c main_v3 (by decide)).trans ((V4_of m (outs m) c main_v3 (by decide)).trans ((V3_v3 m c).trans (final1_2 (V2 m (outs m)) c))))).trans (funext fun i => ?_)
  unfold G1_2 proj
  exact Finset.sum_congr rfl fun k _ => congrArg₂ (· * ·) (V2_hn m c (i 0) k) (V2_wt m c _ k)

/-- The kernel's third result: the columns of the queries, inputs and gates. -/
theorem qvg_ker : rd S8192x6144 (V6 m (outs m) c main_v4) = fun i => proj (a0 m c) (fun k => a1 m c (ix1 k)) (a2 m c) (i 0) ⟨qcol (i 1).val, by have := idx2_lt1 i; unfold qcol; omega⟩ := by
  refine ((V6_of m (outs m) c main_v4 (by decide)).trans ((V5_of m (outs m) c main_v4 (by decide)).trans ((V4_v4 m c).trans (final2_2 (V3 m (outs m)) c)))).trans (funext fun i => ?_)
  unfold G2_2 proj
  exact Finset.sum_congr rfl fun k _ => congrArg₂ (· * ·) (V3_hn m c (i 0) k) (V3_wt m c _ k)

/-- The kernel's fourth result: the columns of the forget gates. -/
theorem forget_ker : rd S8192x2048 (V6 m (outs m) c main_v5) = fun i => proj (a0 m c) (fun k => a1 m c (ix1 k)) (a2 m c) (i 0) ⟨7200 + (i 1).val, by have := idx2_lt1 i; omega⟩ := by
  refine ((V6_of m (outs m) c main_v5 (by decide)).trans ((V5_v5 m c).trans (final3_2 (V4 m (outs m)) c))).trans (funext fun i => ?_)
  unfold G3_2 proj
  exact Finset.sum_congr rfl fun k _ => congrArg₂ (· * ·) (V4_hn m c (i 0) k) (V4_wt m c _ k)

/-- The kernel's second result: the columns of the time steps. -/
theorem steps_ker : rd S8192x32 (V6 m (outs m) c main_v6) = fun i => proj (a0 m c) (fun k => a1 m c (ix1 k)) (a2 m c) (i 0) ⟨5120 + (i 1).val, by have := idx2_lt1 i; omega⟩ := by
  have e : V6 m (outs m) c main_v6 = extractStridedSlice S8192x32 ![0, 0] (rd S8192x128 (V5 m (outs m) c main_v2_0)) slices_S8192x128_S8192x32_0_0 := by
    simp only [V6, hostOps4]; after_results_simp <;> rfl
  refine e.trans (funext fun (i : S8192x32.Idx) => ?_)
  have hi := idx2_lt1 i
  refine (extractStridedSlice_apply _ _ _ i (ix2 (i 0) (⟨(i 1).val, by omega⟩ : Fin 128)) fun a => ?_).trans ?_
  · match a with
    | ⟨0, _⟩ => show (i 0).val = 0 + (i 0).val; omega
    | ⟨1, _⟩ => show (i 1).val = 0 + (i 1).val; omega
  refine (congrFun ((V5_of m (outs m) c main_v2_0 (by decide)).trans ((V4_of m (outs m) c main_v2_0 (by decide)).trans ((V3_of m (outs m) c main_v2_0 (by decide)).trans ((V2_v2_0 m c).trans (final0_3 (V1 m) c))))) _).trans ?_
  unfold G0_3 proj
  rw [V1_arg0, funext fun k => V1_v1 m c k]
  exact Finset.sum_congr (M := EReal) rfl fun k _ => congrArg (_ * ·) (V1_wt m c _ k)

end Cert.Kernel4Ideal.Hand

end
-- ==== Proof.P5Spec.lean ====
module

public import proofs.«01_k».proof.Proof.Spec
public import Idealize.ShloMosaic.Lib.WordCmp

@[expose] public section

/-! # What the fifth program computes

The two output projections added to the stream, and the columns of the queries, keys and values with the queries scaled. -/

noncomputable section

namespace Cert.Hand

open Idealize.ShloMosaic Idealize.ShloMosaic.ValueIdx

/-- The stream plus two mixers' rows, side by side, times the mixers' output weights. -/
def mix (h a b : (⟨2, ![8192, 2048]⟩ : Shape).Idx → EReal) (w : (⟨3, ![1, 4096, 2048]⟩ : Shape).Idx → EReal) :
    (⟨2, ![8192, 2048]⟩ : Shape).Idx → EReal := fun i =>
  h i + ((∑ k : Fin 2048, a (ix2 (i 0) k) * w (ix3 (0 : Fin 1) ⟨k.val, by omega⟩ (i 1)))
    + ∑ k : Fin 2048, b (ix2 (i 0) k) * w (ix3 (0 : Fin 1) ⟨2048 + k.val, by omega⟩ (i 1)))

/-- The stream plus the attention's rows times its output weights. -/
def fox (h o : (⟨2, ![8192, 2048]⟩ : Shape).Idx → EReal) (w : (⟨3, ![1, 2048, 2048]⟩ : Shape).Idx → EReal) :
    (⟨2, ![8192, 2048]⟩ : Shape).Idx → EReal := fun i =>
  h i + ∑ k : Fin 2048, o (ix2 (i 0) k) * w (ix3 (0 : Fin 1) k (i 1))

/-- The factor of a column: the queries' scale in the first 2048 columns, one after them. -/
def fscale (j : ℕ) : EReal := if j < 2048 then Ideal.ofBits .f32 0x3E0293EE#32 else 1

/-- The queries, keys and values before the attention, the queries scaled. -/
def qkv (x : (⟨2, ![8192, 2048]⟩ : Shape).Idx → EReal) (w : (⟨3, ![1, 2048, 6160]⟩ : Shape).Idx → EReal) :
    (⟨2, ![8192, 6144]⟩ : Shape).Idx → EReal := fun i =>
  (∑ k : Fin 2048, x (ix2 (i 0) k) * w (ix3 (0 : Fin 1) k ⟨(i 1).val, by have := idx2_lt1 i; omega⟩)) * fscale (i 1).val

/-- The kernel's choice of the factor, by the block's number. -/
theorem scale_at : ∀ (n : Fin 6) (a b : EReal),
    Scalar.select (Scalar.cmpi .slt (BitVec.ofNat 32 n.val) 2#32) a b = if n.val < 2 then a else b := by
  intro n a b
  fin_cases n <;> rfl

end Cert.Hand

end
-- ==== Proof.P5RefValue.lean ====
module

public import proofs.«01_k».proof.Proof.Gen.Reference5Ideal.Read
public import proofs.«01_k».proof.Proof.P5Spec
public import Idealize.ShloMosaic.Lib.IdealHost
public import Idealize.ShloMosaic.Lib.Pipeline.Value

@[expose] public section

set_option maxRecDepth 16384

noncomputable section

namespace Cert.Reference5Ideal.Hand

open Cert.Reference5Ideal Cert.Reference5Ideal.Gen Cert.Reference5Ideal.Read Cert.Hand
open Idealize.ShloMosaic Idealize.ShloMosaic.TcCoe Idealize.ShloMosaic.ValueIdx

variable (x0 : (⟨S8192x2048, .f32⟩ : BufTy).Contents (Elt Ideal)) (x1 : (⟨S8192x2048, .bf16⟩ : BufTy).Contents (Elt Ideal)) (x2 : (⟨S8192x2048, .bf16⟩ : BufTy).Contents (Elt Ideal)) (x3 : (⟨S1x4096x2048, .f32⟩ : BufTy).Contents (Elt Ideal)) (x4 : (⟨S8192x2048, .bf16⟩ : BufTy).Contents (Elt Ideal)) (x5 : (⟨S1x2048x6160, .f32⟩ : BufTy).Contents (Elt Ideal)) (x6 : (⟨S8192x2048, .f32⟩ : BufTy).Contents (Elt Ideal)) (x7 : (⟨S8192x2048, .bf16⟩ : BufTy).Contents (Elt Ideal)) (x8 : (⟨S1x2048x2048, .f32⟩ : BufTy).Contents (Elt Ideal))

/-- The mixers' output weights without their leading axis. -/
theorem wmix_ref (k : Fin 4096) (j : Fin 2048) : val_main_v2 (F := Ideal) x3 (ix2 k j) = rd S1x4096x2048 x3 (ix3 (0 : Fin 1) k j) := by
  rw [val_main_v2_apply]
  refine congrArg x3 (funext fun a => Fin.ext ?_)
  have hk := k.isLt
  have hj := j.isLt
  match a with
  | ⟨0, _⟩ => rfl
  | ⟨1, _⟩ => show (k.val * 2048 + j.val) / 2048 % 4096 = k.val; omega
  | ⟨2, _⟩ => show (k.val * 2048 + j.val) % 2048 = j.val; omega

/-- The attention's first weights without their leading axis. -/
theorem wqkv_ref (k : Fin 2048) (j : Fin 6160) : val_main_v6 (F := Ideal) x5 (ix2 k j) = rd S1x2048x6160 x5 (ix3 (0 : Fin 1) k j) := by
  rw [val_main_v6_apply]
  refine congrArg x5 (funext fun a => Fin.ext ?_)
  have hk := k.isLt
  have hj := j.isLt
  match a with
  | ⟨0, _⟩ => rfl
  | ⟨1, _⟩ => show (k.val * 6160 + j.val) / 6160 % 2048 = k.val; omega
  | ⟨2, _⟩ => show (k.val * 6160 + j.val) % 6160 = j.val; omega

/-- The attention's output weights without their leading axis. -/
theorem wfox_ref (k : Fin 2048) (j : Fin 2048) : val_main_v17 (F := Ideal) x8 (ix2 k j) = rd S1x2048x2048 x8 (ix3 (0 : Fin 1) k j) := by
  rw [val_main_v17_apply]
  refine congrArg x8 (funext fun a => Fin.ext ?_)
  have hk := k.isLt
  have hj := j.isLt
  match a with
  | ⟨0, _⟩ => rfl
  | ⟨1, _⟩ => show (k.val * 2048 + j.val) / 2048 % 2048 = k.val; omega
  | ⟨2, _⟩ => show (k.val * 2048 + j.val) % 2048 = j.val; omega

/-- The joined rows' first half is the first mixer's. -/
theorem left_ref (r : Fin 8192) (k : Fin 2048) : val_main_v1 (F := Ideal) x1 x2 (ix2 r (⟨0 + k.val, by omega⟩ : Fin 4096)) = rd S8192x2048 x1 (ix2 r k) := by
  refine (val_main_v1_apply x1 x2 _).trans ?_
  show val_main_v0 (F := Ideal) x1 x2 (ix2 r (⟨0 + k.val, by omega⟩ : Fin 4096)) = _
  unfold val_main_v0
  refine concatenate_apply_piece 1 [⟨S8192x2048, x1⟩, ⟨S8192x2048, x2⟩] concatenates_S8192x2048_S8192x2048_S8192x4096_d1 (ix2 r (⟨0 + k.val, by omega⟩ : Fin 4096)) 0 (by simp) S8192x2048 x1 rfl rfl 0 rfl (ix2 r k) (fun b hb => ?_) ?_
  · match b, hb with
    | ⟨0, _⟩, _ => rfl
    | ⟨1, _⟩, hb => exact absurd rfl hb
  · show 0 + k.val = 0 + k.val; rfl

/-- The joined rows' second half is the second mixer's. -/
theorem right_ref (r : Fin 8192) (k : Fin 2048) : val_main_v1 (F := Ideal) x1 x2 (ix2 r (⟨2048 + k.val, by omega⟩ : Fin 4096)) = rd S8192x2048 x2 (ix2 r k) := by
  refine (val_main_v1_apply x1 x2 _).trans ?_
  show val_main_v0 (F := Ideal) x1 x2 (ix2 r (⟨2048 + k.val, by omega⟩ : Fin 4096)) = _
  unfold val_main_v0
  refine concatenate_apply_piece 1 [⟨S8192x2048, x1⟩, ⟨S8192x2048, x2⟩] concatenates_S8192x2048_S8192x2048_S8192x4096_d1 (ix2 r (⟨2048 + k.val, by omega⟩ : Fin 4096)) 1 (by simp) S8192x2048 x2 rfl rfl 2048 rfl (ix2 r k) (fun b hb => ?_) ?_
  · match b, hb with
    | ⟨0, _⟩, _ => rfl
    | ⟨1, _⟩, hb => exact absurd rfl hb
  · show 2048 + k.val = 2048 + k.val; rfl

/-- The reference's first result. -/
theorem mix_ref : val_main_v4 (F := Ideal) x0 x1 x2 x3 = mix (rd S8192x2048 x0) (rd S8192x2048 x1) (rd S8192x2048 x2) (rd S1x4096x2048 x3) := by
  refine funext fun (i : S8192x2048.Idx) => ?_
  rw [val_main_v4_apply, val_main_v3_apply]
  unfold mix
  refine congrArg₂ (· + ·) rfl ((Fin.sum_univ_add (M := EReal) (a := 2048) (b := 2048) _).trans
    (congrArg₂ (· + ·) (Finset.sum_congr (M := EReal) rfl fun k _ => ?_) (Finset.sum_congr (M := EReal) rfl fun k _ => ?_)))
  · refine congrArg₂ (· * ·) ((congrArg (val_main_v1 (F := Ideal) x1 x2) (?_ : _ = ix2 (i 0) (⟨0 + k.val, by omega⟩ : Fin 4096))).trans (left_ref x1 x2 (i 0) k))
      ((congrArg (val_main_v2 (F := Ideal) x3) (?_ : _ = ix2 (⟨k.val, by omega⟩ : Fin 4096) (i 1))).trans (wmix_ref x3 _ _))
    · exact funext fun a => Fin.ext (by match a with | ⟨0, _⟩ => rfl | ⟨1, _⟩ => show k.val = 0 + k.val; omega)
    · exact funext fun a => Fin.ext (by match a with | ⟨0, _⟩ => rfl | ⟨1, _⟩ => rfl)
  · refine congrArg₂ (· * ·) ((congrArg (val_main_v1 (F := Ideal) x1 x2) (?_ : _ = ix2 (i 0) (⟨2048 + k.val, by omega⟩ : Fin 4096))).trans (right_ref x1 x2 (i 0) k))
      ((congrArg (val_main_v2 (F := Ideal) x3) (?_ : _ = ix2 (⟨2048 + k.val, by omega⟩ : Fin 4096) (i 1))).trans (wmix_ref x3 _ _))
    · exact funext fun a => Fin.ext (by match a with | ⟨0, _⟩ => rfl | ⟨1, _⟩ => rfl)
    · exact funext fun a => Fin.ext (by match a with | ⟨0, _⟩ => rfl | ⟨1, _⟩ => rfl)

/-- The reference's third result. -/
theorem fox_ref : val_main_v19 (F := Ideal) x6 x7 x8 = fox (rd S8192x2048 x6) (rd S8192x2048 x7) (rd S1x2048x2048 x8) := by
  refine funext fun (i : S8192x2048.Idx) => ?_
  rw [val_main_v19_apply, val_main_v18_apply]
  unfold fox
  refine congrArg₂ (· + ·) rfl (Finset.sum_congr (M := EReal) rfl fun k _ => ?_)
  refine congrArg₂ (· * ·) ((val_main_v16_apply x7 _).trans (congrArg (rd S8192x2048 x7) (?_ : _ = ix2 (i 0) k)))
    ((congrArg (val_main_v17 (F := Ideal) x8) (?_ : _ = ix2 k (i 1))).trans (wfox_ref x8 _ _))
  · exact funext fun a => Fin.ext (by match a with | ⟨0, _⟩ => rfl | ⟨1, _⟩ => rfl)
  · exact funext fun a => Fin.ext (by match a with | ⟨0, _⟩ => rfl | ⟨1, _⟩ => rfl)

/-- The reference's product, before it is split. -/
theorem all_ref (r : Fin 8192) (j : Fin 6160) : val_main_v7 (F := Ideal) x4 x5 (ix2 r j)
    = ∑ k : Fin 2048, rd S8192x2048 x4 (ix2 r k) * rd S1x2048x6160 x5 (ix3 (0 : Fin 1) k j) := by
  rw [val_main_v7_apply]
  refine Finset.sum_congr (M := EReal) rfl fun k _ => ?_
  refine congrArg₂ (· * ·) ((val_main_v5_apply x4 _).trans (congrArg (rd S8192x2048 x4) (?_ : _ = ix2 r k)))
    ((congrArg (val_main_v6 (F := Ideal) x5) (?_ : _ = ix2 k j)).trans (wqkv_ref x5 _ _))
  · exact funext fun a => Fin.ext (by match a with | ⟨0, _⟩ => rfl | ⟨1, _⟩ => rfl)
  · exact funext fun a => Fin.ext (by match a with | ⟨0, _⟩ => rfl | ⟨1, _⟩ => rfl)

/-- The reference's queries before their scale. -/
theorem q_ref (i : S8192x2048.Idx) : val_main_v8 (F := Ideal) x4 x5 i
    = ∑ k : Fin 2048, rd S8192x2048 x4 (ix2 (i 0) k) * rd S1x2048x6160 x5 (ix3 (0 : Fin 1) k ⟨0 + (i 1).val, by have := idx2_lt1 i; omega⟩) :=
  (val_main_v8_apply x4 x5 i).trans ((congrArg (val_main_v7 (F := Ideal) x4 x5) (funext fun a => Fin.ext (by
    match a with
    | ⟨0, _⟩ => rfl
    | ⟨1, _⟩ => show (i 1).val = 0 + (i 1).val; omega) : _ = ix2 (i 0) (⟨0 + (i 1).val, by have := idx2_lt1 i; omega⟩ : Fin 6160))).trans (all_ref x4 x5 (i 0) _))

/-- The reference's keys. -/
theorem k_ref (i : S8192x2048.Idx) : val_main_v9 (F := Ideal) x4 x5 i
    = ∑ k : Fin 2048, rd S8192x2048 x4 (ix2 (i 0) k) * rd S1x2048x6160 x5 (ix3 (0 : Fin 1) k ⟨2048 + (i 1).val, by have := idx2_lt1 i; omega⟩) :=
  (val_main_v9_apply x4 x5 i).trans ((congrArg (val_main_v7 (F := Ideal) x4 x5) (funext fun a => Fin.ext (by
    match a with
    | ⟨0, _⟩ => rfl
    | ⟨1, _⟩ => rfl) : _ = ix2 (i 0) (⟨2048 + (i 1).val, by have := idx2_lt1 i; omega⟩ : Fin 6160))).trans (all_ref x4 x5 (i 0) _))

/-- The reference's values. -/
theorem v_ref (i : S8192x2048.Idx) : val_main_v10 (F := Ideal) x4 x5 i
    = ∑ k : Fin 2048, rd S8192x2048 x4 (ix2 (i 0) k) * rd S1x2048x6160 x5 (ix3 (0 : Fin 1) k ⟨4096 + (i 1).val, by have := idx2_lt1 i; omega⟩) :=
  (val_main_v10_apply x4 x5 i).trans ((congrArg (val_main_v7 (F := Ideal) x4 x5) (funext fun a => Fin.ext (by
    match a with
    | ⟨0, _⟩ => rfl
    | ⟨1, _⟩ => rfl) : _ = ix2 (i 0) (⟨4096 + (i 1).val, by have := idx2_lt1 i; omega⟩ : Fin 6160))).trans (all_ref x4 x5 (i 0) _))

/-- The reference's scaled queries. -/
theorem qs_ref (i : S8192x2048.Idx) : val_main_v13 (F := Ideal) x4 x5 i
    = (∑ k : Fin 2048, rd S8192x2048 x4 (ix2 (i 0) k) * rd S1x2048x6160 x5 (ix3 (0 : Fin 1) k ⟨0 + (i 1).val, by have := idx2_lt1 i; omega⟩)) * Ideal.ofBits .f32 0x3E0293EE#32 := by
  rw [val_main_v13_apply, val_main_v12_apply, val_main_cst_apply, q_ref]
  rfl

/-- One column of the joined array, read off one of the three pieces. -/
theorem col_ref (i : S8192x6144.Idx) (pre : ℕ) (j : Fin 2048) (h : pre + j.val = (i 1).val) (f : EReal) (hf : fscale (i 1).val = f) :
    (∑ k : Fin 2048, rd S8192x2048 x4 (ix2 (i 0) k) * rd S1x2048x6160 x5 (ix3 (0 : Fin 1) k ⟨pre + j.val, by have := idx2_lt1 i; omega⟩)) * f
      = qkv (rd S8192x2048 x4) (rd S1x2048x6160 x5) i := by
  unfold qkv
  subst hf
  refine congrArg (· * _) (Finset.sum_congr (M := EReal) rfl fun k _ => congrArg (_ * ·) (congrArg (rd S1x2048x6160 x5) ?_))
  exact congrArg (ix3 (0 : Fin 1) k) (Fin.ext h)

/-- The reference's second result. -/
theorem qkv_ref : val_main_v15 (F := Ideal) x4 x5 = qkv (rd S8192x2048 x4) (rd S1x2048x6160 x5) := by
  refine funext fun (i : S8192x6144.Idx) => (val_main_v15_apply x4 x5 i).trans ?_
  show val_main_v14 (F := Ideal) x4 x5 i = _
  have hi := idx2_lt1 i
  unfold val_main_v14
  by_cases h0 : (i 1).val < 2048
  · refine (concatenate_apply_piece 1 _ _ i 0 (by simp) S8192x2048 (val_main_v13 (F := Ideal) x4 x5) rfl rfl 0 rfl (ix2 (i 0) (⟨(i 1).val - 0, by omega⟩ : Fin 2048)) (fun b hb => ?_) ?_).trans ((qs_ref x4 x5 _).trans (col_ref x4 x5 i 0 ⟨(i 1).val - 0, by omega⟩ (by show 0 + ((i 1).val - 0) = (i 1).val; omega) _ (if_pos h0)))
    · match b, hb with
      | ⟨0, _⟩, _ => rfl
      | ⟨1, _⟩, hb => exact absurd rfl hb
    · show 0 + ((i 1).val - 0) = (i 1).val; omega
  by_cases h1 : (i 1).val < 4096
  · refine (concatenate_apply_piece 1 _ _ i 1 (by simp) S8192x2048 (val_main_v9 (F := Ideal) x4 x5) rfl rfl 2048 rfl (ix2 (i 0) (⟨(i 1).val - 2048, by omega⟩ : Fin 2048)) (fun b hb => ?_) ?_).trans ((k_ref x4 x5 _).trans ((mul_one _).symm.trans (col_ref x4 x5 i 2048 ⟨(i 1).val - 2048, by omega⟩ (by show 2048 + ((i 1).val - 2048) = (i 1).val; omega) _ (if_neg h0))))
    · match b, hb with
      | ⟨0, _⟩, _ => rfl
      | ⟨1, _⟩, hb => exact absurd rfl hb
    · show 2048 + ((i 1).val - 2048) = (i 1).val; omega
  · refine (concatenate_apply_piece 1 _ _ i 2 (by simp) S8192x2048 (val_main_v10 (F := Ideal) x4 x5) rfl rfl 4096 rfl (ix2 (i 0) (⟨(i 1).val - 4096, by omega⟩ : Fin 2048)) (fun b hb => ?_) ?_).trans ((v_ref x4 x5 _).trans ((mul_one _).symm.trans (col_ref x4 x5 i 4096 ⟨(i 1).val - 4096, by omega⟩ (by show 4096 + ((i 1).val - 4096) = (i 1).val; omega) _ (if_neg h0))))
    · match b, hb with
      | ⟨0, _⟩, _ => rfl
      | ⟨1, _⟩, hb => exact absurd rfl hb
    · show 4096 + ((i 1).val - 4096) = (i 1).val; omega

end Cert.Reference5Ideal.Hand

end
-- ==== Proof.P5Run0.lean ====
module

public import proofs.«01_k».proof.Proof.Gen.Kernel5Ideal.Launch
public import proofs.«01_k».proof.Proof.Gen.Kernel5Ideal.Skeleton
public import proofs.«01_k».proof.Proof.Gen.Kernel5Ideal.Points
public import Idealize.ShloMosaic.Lib.Pipeline.FrameBody
public import Idealize.ShloMosaic.Lib.Pipeline.RegionsLoop
public import Idealize.ShloMosaic.Lib.Pipeline.Value
public import Idealize.ShloMosaic.Lib.Ring
public import Idealize.ShloMosaic.Lib.Tactic
public import Idealize.ShloMosaic.Lib.VecWindow
public import Idealize.ShloMosaic.Lib.WordCmp

@[expose] public section

set_option maxRecDepth 16384

noncomputable section

namespace Cert.Kernel5Ideal.Hand

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The condition of the body's branch, as the program states it. -/
abbrev cond0 (i : grid0.Coords) : Prop := (Scalar.cmpi .ne (Scalar.extui (Scalar.cmpi .eq (BitVec.ofNat 32 (i 1).val) 0#32)) 0#32) = 1#1

set_option maxHeartbeats 4000000 in
/-- The body where it casts its weight blocks first: from any scratch contents, every output ends at its payload and the scratch at the cast blocks. -/
theorem run0A (c : Dev nD) (i : grid0.Coords) (arg2 : Memref sig .tc .vmem S512x1024 .f32) (harg2 : arg2.IsWhole) (arg3 : Memref sig .tc .vmem S512x2048 .bf16) (harg3 : arg3.IsWhole) (arg4 : Memref sig .tc .vmem S512x2048 .bf16) (harg4 : arg4.IsWhole) (arg5 : Memref sig .tc .vmem S1x2048x1024 .f32) (harg5 : arg5.IsWhole) (arg6 : Memref sig .tc .vmem S1x2048x1024 .f32) (harg6 : arg6.IsWhole) (arg7 : Memref sig .tc .vmem S512x1024 .f32) (harg7 : arg7.IsWhole) (arg8 : Memref sig .tc .vmem S2048x1024 .bf16) (harg8 : arg8.IsWhole) (arg9 : Memref sig .tc .vmem S2048x1024 .bf16) (harg9 : arg9.IsWhole) (hc0 : cond0 i)
    (x0 : Vec F S512x1024 .f32) (x1 : Vec F S512x2048 .bf16) (x2 : Vec F S512x2048 .bf16) (x3 : Vec F S1x2048x1024 .f32) (x4 : Vec F S1x2048x1024 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (k0_pay3 (k0_pay1 x3) (k0_pay2 x4) x1 x2 x0) ∗ owns (c : Thread nD τ) arg8 fullShare (k0_pay1 x3) ∗ owns (c : Thread nD τ) arg9 fullShare (k0_pay2 x4)) -∗ K ⟨⟩))
      ⊢ wp frame (wpE (defs₀ (F := F)) Variants.none c none) E (cc0_matmul_residual i arg2 harg2 arg3 harg3 arg4 harg4 arg5 harg5 arg6 harg6 arg7 harg7 arg8 harg8 arg9 harg9) K := by
  simp only [cc0_matmul_residual_eq_skeleton]; unfold cc0_matmul_residual_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, Hk⟩
  obtain rfl := harg2.eq_unread hf0; obtain rfl := harg3.eq_unread hf1; obtain rfl := harg4.eq_unread hf2; obtain rfl := harg5.eq_unread hf3; obtain rfl := harg6.eq_unread hf4
  sl_exec (disch := first | sl_exact hc0)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; swap; · iexact H5
    ipureintro
    refine (View.read_writes_full _ _ _ _ _).trans ?_
    show k0_pay3 _ _ _ _ _ = k0_pay3 (k0_pay1 x3) (k0_pay2 x4) x1 x2 x0
    exact (congr (congr (congr (congr (congrArg (k0_pay3) ((View.readCov_full _ _ _ _ _).trans (congrArg (k0_pay1) ((View.readAt_full _ _ _).trans (Memref.IsWhole.read_unread _ _))))) ((View.readCov_full _ _ _ _ _).trans (congrArg (k0_pay2) ((View.readAt_full _ _ _).trans (Memref.IsWhole.read_unread _ _))))) ((View.readAt_full _ _ _).trans (Memref.IsWhole.read_unread _ _))) ((View.readAt_full _ _ _).trans (Memref.IsWhole.read_unread _ _))) ((View.readAt_full _ _ _).trans (Memref.IsWhole.read_unread _ _)))
  isplitl [H6]
  · iexists _; isplitr; swap; · iexact H6
    ipureintro
    refine (View.read_writes_full _ _ _ _ _).trans ?_
    show k0_pay1 _ = k0_pay1 x3
    exact (congrArg (k0_pay1) ((View.readAt_full _ _ _).trans (Memref.IsWhole.read_unread _ _)))
  · iexists _; isplitr; swap; · iexact H7
    ipureintro
    refine (View.read_writes_full _ _ _ _ _).trans ?_
    show k0_pay2 _ = k0_pay2 x4
    exact (congrArg (k0_pay2) ((View.readAt_full _ _ _).trans (Memref.IsWhole.read_unread _ _)))

set_option maxHeartbeats 4000000 in
/-- The body where the scratch already holds the cast blocks: every output ends at its payload and the scratch stays. -/
theorem run0B (c : Dev nD) (i : grid0.Coords) (arg2 : Memref sig .tc .vmem S512x1024 .f32) (harg2 : arg2.IsWhole) (arg3 : Memref sig .tc .vmem S512x2048 .bf16) (harg3 : arg3.IsWhole) (arg4 : Memref sig .tc .vmem S512x2048 .bf16) (harg4 : arg4.IsWhole) (arg5 : Memref sig .tc .vmem S1x2048x1024 .f32) (harg5 : arg5.IsWhole) (arg6 : Memref sig .tc .vmem S1x2048x1024 .f32) (harg6 : arg6.IsWhole) (arg7 : Memref sig .tc .vmem S512x1024 .f32) (harg7 : arg7.IsWhole) (arg8 : Memref sig .tc .vmem S2048x1024 .bf16) (harg8 : arg8.IsWhole) (arg9 : Memref sig .tc .vmem S2048x1024 .bf16) (harg9 : arg9.IsWhole) (hc0 : ¬cond0 i)
    (x0 : Vec F S512x1024 .f32) (x1 : Vec F S512x2048 .bf16) (x2 : Vec F S512x2048 .bf16) (x3 : Vec F S1x2048x1024 .f32) (x4 : Vec F S1x2048x1024 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare (k0_pay1 x3) ∗ owns (c : Thread nD τ) arg9 fullShare (k0_pay2 x4)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (k0_pay3 (k0_pay1 x3) (k0_pay2 x4) x1 x2 x0) ∗ owns (c : Thread nD τ) arg8 fullShare (k0_pay1 x3) ∗ owns (c : Thread nD τ) arg9 fullShare (k0_pay2 x4)) -∗ K ⟨⟩))
      ⊢ wp frame (wpE (defs₀ (F := F)) Variants.none c none) E (cc0_matmul_residual i arg2 harg2 arg3 harg3 arg4 harg4 arg5 harg5 arg6 harg6 arg7 harg7 arg8 harg8 arg9 harg9) K := by
  simp only [cc0_matmul_residual_eq_skeleton]; unfold cc0_matmul_residual_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%f7, %hf7, H7⟩, Hk⟩
  obtain rfl := harg2.eq_unread hf0; obtain rfl := harg3.eq_unread hf1; obtain rfl := harg4.eq_unread hf2; obtain rfl := harg5.eq_unread hf3; obtain rfl := harg6.eq_unread hf4; obtain rfl := harg8.eq_unread hf6; obtain rfl := harg9.eq_unread hf7
  sl_exec (disch := first | sl_exact hc0)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; swap; · iexact H5
    ipureintro
    refine (View.read_writes_full _ _ _ _ _).trans ?_
    show k0_pay3 _ _ _ _ _ = k0_pay3 (k0_pay1 x3) (k0_pay2 x4) x1 x2 x0
    exact (congr (congr (congr (congr (congrArg (k0_pay3) ((View.readAt_full _ _ _).trans (Memref.IsWhole.read_unread _ _))) ((View.readAt_full _ _ _).trans (Memref.IsWhole.read_unread _ _))) ((View.readAt_full _ _ _).trans (Memref.IsWhole.read_unread _ _))) ((View.readAt_full _ _ _).trans (Memref.IsWhole.read_unread _ _))) ((View.readAt_full _ _ _).trans (Memref.IsWhole.read_unread _ _)))
  isplitl [H6]
  · iexists _; isplitr; · ipureintro; exact harg8.read_unread _
    iexact H6
  · iexists _; isplitr; · ipureintro; exact harg9.read_unread _
    iexact H7

end Cert.Kernel5Ideal.Hand

end
-- ==== Proof.P5Region0.lean ====
module

public import proofs.«01_k».proof.Proof.Gen.Kernel5Ideal.Launch
public import proofs.«01_k».proof.Proof.Gen.Kernel5Ideal.Skeleton
public import proofs.«01_k».proof.Proof.Gen.Kernel5Ideal.Points
public import Idealize.ShloMosaic.Lib.Pipeline.FrameBody
public import Idealize.ShloMosaic.Lib.Pipeline.RegionsLoop
public import Idealize.ShloMosaic.Lib.Pipeline.Value
public import Idealize.ShloMosaic.Lib.Ring
public import Idealize.ShloMosaic.Lib.Tactic
public import Idealize.ShloMosaic.Lib.VecWindow
public import Idealize.ShloMosaic.Lib.WordCmp
public import proofs.«01_k».proof.Proof.Gen.Kernel5Ideal.Regions
public import proofs.«01_k».proof.Proof.P5Run0

@[expose] public section

set_option maxRecDepth 16384

noncomputable section

namespace Cert.Kernel5Ideal.Hand

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → Valuation τ sig (Elt F))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The launch's scratch split off the buffers the region may overwrite. -/
theorem split0 (c : Dev nD) :
    (Pipeline.scopedRest (Ix := Unit) (Name := ℕ) (U := UR sig nD τ) (Lvl := ℕ) (Val := Elt F) spec0 c : sProp 𝕄)
      = iprop(iprop((∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f))
        ∗ Pipeline.scopedRestBut (Ix := Unit) (Name := ℕ) (U := UR sig nD τ) (Lvl := ℕ) (Val := Elt F) spec0 c [cc0_scratch0, cc0_scratch1]) :=
  Pipeline.scopedRest_split_of_list spec0 c [cc0_scratch0, cc0_scratch1] (by decide) (by decide)

/-- The scratch before point `n`: anything where a weight block starts, and the weights cast elsewhere. -/
def scr0 (c : Dev nD) (n : ℕ) : sProp 𝕄 :=
  if n % 16 = 0 then iprop((∃ d, owns (c : Thread nD τ) (Memref.whole cc0_scratch0) fullShare d) ∗ (∃ d, owns (c : Thread nD τ) (Memref.whole cc0_scratch1) fullShare d))
  else iprop(∃ t' : Fin cfg0.N, ⌜t'.val / 16 = n / 16⌝ ∗ owns (c : Thread nD τ) (Memref.whole cc0_scratch0) fullShare (k0_pay1 (iblk0 V c 3 t')) ∗ owns (c : Thread nD τ) (Memref.whole cc0_scratch1) fullShare (k0_pay2 (iblk0 V c 4 t')))

/-- What the scratch holds after point `t` is what the next point expects. -/
theorem scr0_close (c : Dev nD) (t : Fin cfg0.N) : iprop(owns (c : Thread nD τ) (Memref.whole cc0_scratch0) fullShare (k0_pay1 (iblk0 V c 3 t)) ∗ owns (c : Thread nD τ) (Memref.whole cc0_scratch1) fullShare (k0_pay2 (iblk0 V c 4 t))) ⊢ scr0 V c (t.val + 1) := by
  unfold scr0
  by_cases h : (t.val + 1) % 16 = 0
  · rw [if_pos h]; iintro ⟨H0, H1⟩
    isplitl [H0]
    · iexists _; iexact H0
    iexists _; iexact H1
  · rw [if_neg h]; iintro ⟨H0, H1⟩; iexists t
    isplitr; · ipureintro; omega
    isplitl [H0] <;> iassumption

/-- A weight window moves only with the block's number. -/
theorem index0_3 : ∀ t t' : Fin grid0.N, t.val / 16 = t'.val / 16 → ∀ a, win0_3.index t a = win0_3.index t' a := by
  decide +kernel

theorem iblk0_3_eq (c : Dev nD) (t t' : Fin cfg0.N) (h : t.val / 16 = t'.val / 16) : iblk0 V c 3 t = iblk0 V c 3 t' := by
  funext y
  refine congrArg (V c main_arg3) ?_
  funext a
  refine Fin.ext ?_
  have h1 := index0_3 t t' h
  fin_cases a
  · show win0_3.index t 0 + 1 * (y 0).val = win0_3.index t' 0 + 1 * (y 0).val
    rw [h1]
  · show win0_3.index t 1 + 1 * (y 1).val = win0_3.index t' 1 + 1 * (y 1).val
    rw [h1]
  · show win0_3.index t 2 + 1 * (y 2).val = win0_3.index t' 2 + 1 * (y 2).val
    rw [h1]

/-- A weight window moves only with the block's number. -/
theorem index0_4 : ∀ t t' : Fin grid0.N, t.val / 16 = t'.val / 16 → ∀ a, win0_4.index t a = win0_4.index t' a := by
  decide +kernel

theorem iblk0_4_eq (c : Dev nD) (t t' : Fin cfg0.N) (h : t.val / 16 = t'.val / 16) : iblk0 V c 4 t = iblk0 V c 4 t' := by
  funext y
  refine congrArg (V c main_arg3) ?_
  funext a
  refine Fin.ext ?_
  have h1 := index0_4 t t' h
  fin_cases a
  · show win0_4.index t 0 + 1 * (y 0).val = win0_4.index t' 0 + 1 * (y 0).val
    rw [h1]
  · show win0_4.index t 1 + 1 * (y 1).val = win0_4.index t' 1 + 1 * (y 1).val
    rw [h1]
  · show win0_4.index t 2 + 1 * (y 2).val = win0_4.index t' 2 + 1 * (y 2).val
    rw [h1]

/-- The body's branch is taken exactly where a weight block starts. -/
theorem hcond0 : ∀ t : Fin cfg0.N, cond0 (grid0.coords t) ↔ t.val % 16 = 0 :=
  (fun t => by
    have ht : t.val < 32 := lt_of_lt_of_eq t.isLt N_0
    have e1 : (grid0.coords t 1).val = t.val / 1 % 16 := Pipeline.Grid.coords_val t 1 (by decide) rfl
    simp only [cond0, e1]
    word_cmp
   : ∀ t : Fin grid0.N, cond0 (grid0.coords t) ↔ t.val % 16 = 0)

/-- The region's proof data: each array at its entry contents, each input's buffer at its block, each output's at its payload, the scratch as the points leave it. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => k0_pay3 (k0_pay1 (iblk0 V c 3 t)) (k0_pay2 (iblk0 V c 4 t)) (iblk0 V c 1 t) (iblk0 V c 2 t) (iblk0 V c 0 t)
  Φ t := iprop(scr0 V c t.val ∗ Pipeline.scopedRestBut (Ix := Unit) (Name := ℕ) (U := UR sig nD τ) (Lvl := ℕ) (Val := Elt F) spec0 c [cc0_scratch0, cc0_scratch1])
  q w := Pipeline.shareOf spec0 w
  owed _ := 0

theorem A0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by
  dsimp only [dat0]
theorem after0_1 (c : Dev nD) (t : Fin cfg0.N) : (dat0 V c).after 1 t = iblk0 V c 1 t := by
  dsimp only [dat0]
theorem after0_2 (c : Dev nD) (t : Fin cfg0.N) : (dat0 V c).after 2 t = iblk0 V c 2 t := by
  dsimp only [dat0]
theorem after0_3 (c : Dev nD) (t : Fin cfg0.N) : (dat0 V c).after 3 t = iblk0 V c 3 t := by
  dsimp only [dat0]
theorem after0_4 (c : Dev nD) (t : Fin cfg0.N) : (dat0 V c).after 4 t = iblk0 V c 4 t := by
  dsimp only [dat0]
theorem after0_5 (c : Dev nD) (t : Fin cfg0.N) : (dat0 V c).after 5 t = k0_pay3 (k0_pay1 (iblk0 V c 3 t)) (k0_pay2 (iblk0 V c 4 t)) (iblk0 V c 1 t) (iblk0 V c 2 t) (iblk0 V c 0 t) := by
  dsimp only [dat0]
theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A0]; try rfl) t d).trans
    (by unfold Dat.fetched Dat.blockOf iblk0; rw [A0]; try rfl)
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A0]; try rfl) t d).trans
    (by unfold Dat.fetched Dat.blockOf iblk0; rw [A0]; try rfl)
theorem before0_2 (c : Dev nD) (t : Fin cfg0.N) (d) : (dat0 V c).before 2 t d = iblk0 V c 2 t :=
  ((dat0 V c).before_in_eq_fetched 2 rfl (fun _ => rfl) (fun _ _ _ => rfl) (fun t => by rw [after0_2]; unfold Dat.blockOf iblk0; rw [A0]; try rfl) t d).trans
    (by unfold Dat.fetched Dat.blockOf iblk0; rw [A0]; try rfl)
theorem before0_3 (c : Dev nD) (t : Fin cfg0.N) (d) : (dat0 V c).before 3 t d = iblk0 V c 3 t :=
  ((dat0 V c).before_in_eq_fetched 3 rfl (fun _ => rfl) (fun _ _ _ => rfl) (fun t => by rw [after0_3]; unfold Dat.blockOf iblk0; rw [A0]; try rfl) t d).trans
    (by unfold Dat.fetched Dat.blockOf iblk0; rw [A0]; try rfl)
theorem before0_4 (c : Dev nD) (t : Fin cfg0.N) (d) : (dat0 V c).before 4 t d = iblk0 V c 4 t :=
  ((dat0 V c).before_in_eq_fetched 4 rfl (fun _ => rfl) (fun _ _ _ => rfl) (fun t => by rw [after0_4]; unfold Dat.blockOf iblk0; rw [A0]; try rfl) t d).trans
    (by unfold Dat.fetched Dat.blockOf iblk0; rw [A0]; try rfl)
abbrev ms0_0 (t : Fin cfg0.N) : Memref sig .tc .vmem S512x1024 .f32 := win0_0.stage (cfg0.slots t 0)
abbrev ms0_1 (t : Fin cfg0.N) : Memref sig .tc .vmem S512x2048 .bf16 := win0_1.stage (cfg0.slots t 1)
abbrev ms0_2 (t : Fin cfg0.N) : Memref sig .tc .vmem S512x2048 .bf16 := win0_2.stage (cfg0.slots t 2)
abbrev ms0_3 (t : Fin cfg0.N) : Memref sig .tc .vmem S1x2048x1024 .f32 := win0_3.stage (cfg0.slots t 3)
abbrev ms0_4 (t : Fin cfg0.N) : Memref sig .tc .vmem S1x2048x1024 .f32 := win0_4.stage (cfg0.slots t 4)
abbrev ms0_5 (t : Fin cfg0.N) : Memref sig .tc .vmem S512x1024 .f32 := win0_5.stage (cfg0.slots t 5)

/-- What the body is given at a point. -/
def pre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d)))
/-- What the body leaves at a point. -/
def post0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t)
    ∗ owns (c : Thread nD τ) (ms0_4 t) fullShare ((dat0 V c).after 4 t)
    ∗ owns (c : Thread nD τ) (ms0_5 t) fullShare ((dat0 V c).after 5 t))

set_option maxHeartbeats 4000000 in
/-- The body at any point. -/
theorem sound0 (c : Dev nD) (t : Fin cfg0.N) :
    pre0 V c t ⊢ wp frame (wpE (defs₀ (F := F)) Variants.none c none) Set.univ (bodyAt0 t) (fun _ => post0 V c t) := by
  unfold pre0 post0 bodyAt0
  simp only [before0_0, before0_1, before0_2, before0_3, before0_4]
  rw [show (dat0 V c).owesAt () t.succ = (dat0 V c).owesAt () t.castSucc from rfl,
    after0_0, after0_1, after0_2, after0_3, after0_4, after0_5]
  rw [show (dat0 V c).Φ t.castSucc = iprop(scr0 V c t.val ∗ Pipeline.scopedRestBut (Ix := Unit) (Name := ℕ) (U := UR sig nD τ) (Lvl := ℕ) (Val := Elt F) spec0 c [cc0_scratch0, cc0_scratch1]) from rfl,
    show (dat0 V c).Φ t.succ = iprop(scr0 V c (t.val + 1) ∗ Pipeline.scopedRestBut (Ix := Unit) (Name := ℕ) (U := UR sig nD τ) (Lvl := ℕ) (Val := Elt F) spec0 c [cc0_scratch0, cc0_scratch1]) from rfl]
  by_cases h0 : t.val % 16 = 0
  · rw [show scr0 V c t.val = _ from if_pos h0]
    iintro ⟨⟨⟨HS0, HS1⟩, Hg⟩, Ho, ⟨%d0, H0⟩, ⟨%d1, H1⟩, ⟨%d2, H2⟩, ⟨%d3, H3⟩, ⟨%d4, H4⟩, ⟨%d5, H5⟩⟩
    iapply (run0A c (grid0.coords t) _ _ _ _ _ _ _ _ _ _ _ _ _ _ _ _ ((hcond0 t).mpr h0) (iblk0 V c 0 t) (iblk0 V c 1 t) (iblk0 V c 2 t) (iblk0 V c 3 t) (iblk0 V c 4 t) Set.univ _)
    isplitl [H0]; · iexact H0
    isplitl [H1]; · iexact H1
    isplitl [H2]; · iexact H2
    isplitl [H3]; · iexact H3
    isplitl [H4]; · iexact H4
    isplitl [H5]; · iexists _; iexact H5
    isplitl [HS0]; · iexact HS0
    isplitl [HS1]; · iexact HS1
    iintro ⟨H0, H1, H2, H3, H4, H5, HS0, HS1⟩
    isplitl [HS0 HS1 Hg]
    · isplitl [HS0 HS1]
      · iapply (scr0_close V c t)
        isplitl [HS0] <;> iassumption
      iexact Hg
    isplitl [Ho]; · iexact Ho
    isplitl [H0]; · iexact H0
    isplitl [H1]; · iexact H1
    isplitl [H2]; · iexact H2
    isplitl [H3]; · iexact H3
    isplitl [H4]; · iexact H4
    iexact H5
  · rw [show scr0 V c t.val = _ from if_neg h0]
    iintro ⟨⟨⟨%t', %ht', HS0, HS1⟩, Hg⟩, Ho, ⟨%d0, H0⟩, ⟨%d1, H1⟩, ⟨%d2, H2⟩, ⟨%d3, H3⟩, ⟨%d4, H4⟩, ⟨%d5, H5⟩⟩
    rw [iblk0_3_eq V c t' t (by omega), iblk0_4_eq V c t' t (by omega)]
    iapply (run0B c (grid0.coords t) _ _ _ _ _ _ _ _ _ _ _ _ _ _ _ _ (fun h => h0 ((hcond0 t).mp h)) (iblk0 V c 0 t) (iblk0 V c 1 t) (iblk0 V c 2 t) (iblk0 V c 3 t) (iblk0 V c 4 t) Set.univ _)
    isplitl [H0]; · iexact H0
    isplitl [H1]; · iexact H1
    isplitl [H2]; · iexact H2
    isplitl [H3]; · iexact H3
    isplitl [H4]; · iexact H4
    isplitl [H5]; · iexists _; iexact H5
    isplitl [HS0]; · iexact HS0
    isplitl [HS1]; · iexact HS1
    iintro ⟨H0, H1, H2, H3, H4, H5, HS0, HS1⟩
    isplitl [HS0 HS1 Hg]
    · isplitl [HS0 HS1]
      · iapply (scr0_close V c t)
        isplitl [HS0] <;> iassumption
      iexact Hg
    isplitl [Ho]; · iexact Ho
    isplitl [H0]; · iexact H0
    isplitl [H1]; · iexact H1
    isplitl [H2]; · iexact H2
    isplitl [H3]; · iexact H3
    isplitl [H4]; · iexact H4
    iexact H5

theorem defs₀_row0 (t : Fin cfg0.N) :
    defs₀ (F := F) .tc cfg0.body (cfg0.bodyArgs t (cfg0.slots t)) = bodyAt0 t := by
  unfold defs₀; rw [Defs.onTc_tc]

/-- The pipeline's body obligation, at every point. -/
theorem body0 (c : Dev nD) : BodyObligation (dat0 V c) (defs₀ (F := F)) Variants.none () Set.univ := fun t => by
  rw [bigSep_W0, bigSep_W0, defs₀_row0]
  exact triple_restated (sound0 V c t) rfl .rfl fun _ => .rfl

variable (Vp : (c : Dev nD) → Valuation τ sig (Elt F))
variable (pdats : (p : Fin 3) → (c : Dev nD) → Dat τ (Elt F) Unit ℕ (UR sig nD τ) ℕ (cfgs p) c)

set_option maxHeartbeats 2000000 in
set_option backward.isDefEq.respectTransparency.types false in
/-- The region as a segment: entered with every unscoped buffer at `V`, left with them at `Vp`, the outputs' arrays as its points' write-backs make them. -/
def reg0 (hp : ∀ c, pdats 0 c = dat0 V c) (h5 : ∀ c, Vp c main_v0 = (dat0 V c).arrAt 5 cfg0.N)
    (hne : ∀ c (b : Ref sig .tc), b ∉ ([main_v0] : List (Ref sig .tc)) → Vp c b = V c b) :
    Pipeline.RegionSeg (pcfgs (F := F)) adm pdats () defs₀ Variants.none (fun _ => ∅) (fun _ _ => 0) 0 where
  win := launch₀0.win
  block_pos := launch₀0.block_pos
  stage_whole := launch₀0.stage_whole
  K := PEmpty
  osem k := k.elim
  ho := Pipeline.OwnSemFacts.none _
  hbody c := by
    have h := (body0 V c).loose
    rw [← hp c] at h
    exact h
  hwaits := Pipeline.hwaits_of_owed_zero _ _ _ _ (fun _ => ∅) (fun _ _ => 0) 0 fun c _ => by rw [hp c]; rfl
  pre c := iprop(unscopedBufs c (fun b => V c b) ∗ ∃ W, owes (c : Thread nD τ) (0 : CellTallies nD τ sig Unit) W)
  post c := iprop(unscopedBufs c (fun b => Vp c b) ∗ ∃ W, owes (c : Thread nD τ) (0 : CellTallies nD τ sig Unit) W)
  X _ := BI.emp
  Y _ := BI.emp
  Z c := Pipeline.unscopedRest (Ix := Unit) (Name := ℕ) (U := UR sig nD τ) (Lvl := ℕ) spec0 c (fun b => V c b)
  hentry c := by
    rw [Pipeline.ownSems0_none]
    have hsplit := Pipeline.arrays_of_unscopedBufs_shared (p := 0) (pcfgs (F := F)) adm pdats launch₀0.win launch₀0.sharedIn launch₀0.arr_whole c
      (fun w _ => by rw [hp c]; rfl) (fun b => V c b) (fun w => by rw [hp c]; exact A0 V c w)
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · rw [show (pdats 0 c).owesAt () 0 = (dat0 V c).owesAt () 0 from by rw [hp c]]
      unfold Pipeline.Dat.owesAt Pipeline.owesWithin
      icases HO with ⟨%W, HO⟩; iexists W; isplitr; · ipureintro; exact fun _ _ => Or.inl trivial
      iexact HO
    isplitr; · iempintro
    iexact Hrest
  hin c := by
    rw [hp c, show (dat0 V c).Φ 0 = iprop(scr0 V c 0 ∗ Pipeline.scopedRestBut (Ix := Unit) (Name := ℕ) (U := UR sig nD τ) (Lvl := ℕ) (Val := Elt F) spec0 c [cc0_scratch0, cc0_scratch1]) from rfl, show scr0 V c 0 = _ from if_pos rfl]
    have hs := split0 (F := F) c
    simp only [owns_whole]
    iintro ⟨-, -, Hr⟩
    ihave H := (Entails.of_eq hs) $$ Hr
    iexact H
  hout c := by
    rw [Pipeline.ownSems0_none, hp c, show (dat0 V c).Φ (Fin.last (Pipeline.pin (pcfgs (F := F)) adm 0).N) = iprop(scr0 V c grid0.N ∗ Pipeline.scopedRestBut (Ix := Unit) (Name := ℕ) (U := UR sig nD τ) (Lvl := ℕ) (Val := Elt F) spec0 c [cc0_scratch0, cc0_scratch1]) from rfl,
      show scr0 V c grid0.N = _ from if_pos (by rw [N_0])]
    have hs := split0 (F := F) c
    simp only [owns_whole]
    iintro Hr
    isplitr; · iempintro
    isplitr; · iempintro
    iapply (Entails.of_eq hs.symm)
    iexact Hr
  hexit c := by
    have hjoin := Pipeline.unscopedBufs_of_arrays_shared (p := 0) (pcfgs (F := F)) adm (Ix := Unit) (Name := ℕ) (U := UR sig nD τ) (Lvl := ℕ) launch₀0.win launch₀0.sharedIn launch₀0.arr_whole c
      pdats (fun w _ => by rw [hp c]; rfl) (fun b => V c b) (fun b => Vp c b) ((pdats 0 c).arrAt · cfg0.N)
      (fun w => by
        rw [hp c]
        fin_cases w
        · exact ((dat0 V c).arrAt_in 0 rfl _).trans (hne c main_arg0 (by decide)).symm
        · exact ((dat0 V c).arrAt_in 1 rfl _).trans (hne c main_arg1 (by decide)).symm
        · exact ((dat0 V c).arrAt_in 2 rfl _).trans (hne c main_arg2 (by decide)).symm
        · exact ((dat0 V c).arrAt_in 3 rfl _).trans (hne c main_arg3 (by decide)).symm
        · exact ((dat0 V c).arrAt_in 4 rfl _).trans (hne c main_arg3 (by decide)).symm
        · exact (h5 c).symm
        )
      (fun b hb => hne c b fun h => hb (by
        simp only [List.mem_cons, List.not_mem_nil, _root_.or_false] at h
        have h := h
        · exact h ▸ Finset.mem_image.mpr ⟨5, Finset.mem_univ _, rfl⟩))
    have hO : (pdats 0 c).owesAt () (Fin.last cfg0.N) ⊢ (iprop(∃ W, owes (c : Thread nD τ) (0 : CellTallies nD τ sig Unit) W) : sProp 𝕄) := by
      rw [hp c]
      unfold Pipeline.Dat.owesAt Pipeline.owesWithin
      iintro ⟨%W, -, HO⟩; iexists W; iexact HO
    iintro ⟨Ha, HO, -, Hrest⟩
    imodintro
    isplitl [Ha Hrest]
    · iapply hjoin; isplitl [Ha] <;> iassumption
    iapply hO; iexact HO

end Cert.Kernel5Ideal.Hand

end
-- ==== Proof.P5Run1.lean ====
module

public import proofs.«01_k».proof.Proof.Gen.Kernel5Ideal.Launch
public import proofs.«01_k».proof.Proof.Gen.Kernel5Ideal.Skeleton
public import proofs.«01_k».proof.Proof.Gen.Kernel5Ideal.Points
public import Idealize.ShloMosaic.Lib.Pipeline.FrameBody
public import Idealize.ShloMosaic.Lib.Pipeline.RegionsLoop
public import Idealize.ShloMosaic.Lib.Pipeline.Value
public import Idealize.ShloMosaic.Lib.Ring
public import Idealize.ShloMosaic.Lib.Tactic
public import Idealize.ShloMosaic.Lib.VecWindow
public import Idealize.ShloMosaic.Lib.WordCmp

@[expose] public section

set_option maxRecDepth 16384

noncomputable section

namespace Cert.Kernel5Ideal.Hand

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The condition of the body's branch, as the program states it. -/
abbrev cond1 (i : grid1.Coords) : Prop := (Scalar.cmpi .ne (Scalar.extui (Scalar.cmpi .eq (BitVec.ofNat 32 (i 1).val) 0#32)) 0#32) = 1#1

set_option maxHeartbeats 4000000 in
/-- The body where it casts its weight blocks first: from any scratch contents, every output ends at its payload and the scratch at the cast blocks. -/
theorem run1A (c : Dev nD) (i : grid1.Coords) (arg2 : Memref sig .tc .vmem S1024x2048 .bf16) (harg2 : arg2.IsWhole) (arg3 : Memref sig .tc .vmem S1x1024x2048 .f32) (harg3 : arg3.IsWhole) (arg4 : Memref sig .tc .vmem S1024x1024 .bf16) (harg4 : arg4.IsWhole) (arg5 : Memref sig .tc .vmem S1024x2048 .bf16) (harg5 : arg5.IsWhole) (hc0 : cond1 i)
    (x0 : Vec F S1024x2048 .bf16) (x1 : Vec F S1x1024x2048 .f32) (E : Set ℕ) (K : PUnit → sProp 𝕄) :
    iprop(owns (c : Thread nD τ) arg2 fullShare x0 ∗ owns (c : Thread nD τ) arg3 fullShare x1 ∗ (∃ d, owns (c : Thread nD τ) arg4 fullShare d) ∗ (∃ d, owns (c : Thread nD τ) arg5 fullShare d)
        ∗ (iprop(owns (c : Thread nD τ) arg2 fullShare x0 ∗ owns (c : Thread nD τ) arg3 fullShare x1 ∗ owns (c : Thread nD τ) arg4 fullShare (k1_pay2 i x0 (k1_pay1 x1)) ∗ owns (c : Thread nD τ) arg5 fullShare (k1_pay1 x1)) -∗ K ⟨⟩))
      ⊢ wp frame (wpE (defs₀ (F := F)) Variants.none c none) E (cc1_matmul_nt i arg2 harg2 arg3 harg3 arg4 harg4 arg5 harg5) K := by
  simp only [cc1_matmul_nt_eq_skeleton]; unfold cc1_matmul_nt_skel
  unfold owns
  iintro ⟨⟨%f0, %hf0, H0⟩, ⟨%f1, %hf1, H1⟩, ⟨%d2, %f2, -, H2⟩, ⟨%d3, %f3, -, H3⟩, Hk⟩
  obtain rfl := harg2.eq_unread hf0; obtain rfl := harg3.eq_unread hf1
  sl_exec (disch := first | sl_exact hc0)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; swap; · iexact H2
    ipureintro
    refine (View.read_writes_full _ _ _ _ _).trans ?_
    show k1_pay2 i _ _ = k1_pay2 i x0 (k1_pay1 x1)
    exact (congr (congrArg (k1_pay2 i) ((View.readAt_full _ _ _).trans (Memref.IsWhole.read_unread _ _))) ((View.readCov_full _ _ _ _ _).trans (congrArg (k1_pay1) ((View.readAt_full _ _ _).trans (Memref.IsWhole.read_unread _ _)))))
  · iexists _; isplitr; swap; · iexact H3
    ipureintro
    refine (View.read_writes_full _ _ _ _ _).trans ?_
    show k1_pay1 _ = k1_pay1 x1
    exact (congrArg (k1_pay1) ((View.readAt_full _ _ _).trans (Memref.IsWhole.read_unread _ _)))

set_option maxHeartbeats 4000000 in
/-- The body where the scratch already holds the cast blocks: every output ends at its payload and the scratch stays. -/
theorem run1B (c : Dev nD) (i : grid1.Coords) (arg2 : Memref sig .tc .vmem S1024x2048 .bf16) (harg2 : arg2.IsWhole) (arg3 : Memref sig .tc .vmem S1x1024x2048 .f32) (harg3 : arg3.IsWhole) (arg4 : Memref sig .tc .vmem S1024x1024 .bf16) (harg4 : arg4.IsWhole) (arg5 : Memref sig .tc .vmem S1024x2048 .bf16) (harg5 : arg5.IsWhole) (hc0 : ¬cond1 i)
    (x0 : Vec F S1024x2048 .bf16) (x1 : Vec F S1x1024x2048 .f32) (E : Set ℕ) (K : PUnit → sProp 𝕄) :
    iprop(owns (c : Thread nD τ) arg2 fullShare x0 ∗ owns (c : Thread nD τ) arg3 fullShare x1 ∗ (∃ d, owns (c : Thread nD τ) arg4 fullShare d) ∗ owns (c : Thread nD τ) arg5 fullShare (k1_pay1 x1)
        ∗ (iprop(owns (c : Thread nD τ) arg2 fullShare x0 ∗ owns (c : Thread nD τ) arg3 fullShare x1 ∗ owns (c : Thread nD τ) arg4 fullShare (k1_pay2 i x0 (k1_pay1 x1)) ∗ owns (c : Thread nD τ) arg5 fullShare (k1_pay1 x1)) -∗ K ⟨⟩))
      ⊢ wp frame (wpE (defs₀ (F := F)) Variants.none c none) E (cc1_matmul_nt i arg2 harg2 arg3 harg3 arg4 harg4 arg5 harg5) K := by
  simp only [cc1_matmul_nt_eq_skeleton]; unfold cc1_matmul_nt_skel
  unfold owns
  iintro ⟨⟨%f0, %hf0, H0⟩, ⟨%f1, %hf1, H1⟩, ⟨%d2, %f2, -, H2⟩, ⟨%f3, %hf3, H3⟩, Hk⟩
  obtain rfl := harg2.eq_unread hf0; obtain rfl := harg3.eq_unread hf1; obtain rfl := harg5.eq_unread hf3
  sl_exec (disch := first | sl_exact hc0)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; swap; · iexact H2
    ipureintro
    refine (View.read_writes_full _ _ _ _ _).trans ?_
    show k1_pay2 i _ _ = k1_pay2 i x0 (k1_pay1 x1)
    exact (congr (congrArg (k1_pay2 i) ((View.readAt_full _ _ _).trans (Memref.IsWhole.read_unread _ _))) ((View.readAt_full _ _ _).trans (Memref.IsWhole.read_unread _ _)))
  · iexists _; isplitr; · ipureintro; exact harg5.read_unread _
    iexact H3

end Cert.Kernel5Ideal.Hand

end
-- ==== Proof.P5Region1.lean ====
module

public import proofs.«01_k».proof.Proof.Gen.Kernel5Ideal.Launch
public import proofs.«01_k».proof.Proof.Gen.Kernel5Ideal.Skeleton
public import proofs.«01_k».proof.Proof.Gen.Kernel5Ideal.Points
public import Idealize.ShloMosaic.Lib.Pipeline.FrameBody
public import Idealize.ShloMosaic.Lib.Pipeline.RegionsLoop
public import Idealize.ShloMosaic.Lib.Pipeline.Value
public import Idealize.ShloMosaic.Lib.Ring
public import Idealize.ShloMosaic.Lib.Tactic
public import Idealize.ShloMosaic.Lib.VecWindow
public import Idealize.ShloMosaic.Lib.WordCmp
public import proofs.«01_k».proof.Proof.Gen.Kernel5Ideal.Regions
public import proofs.«01_k».proof.Proof.P5Run1

@[expose] public section

set_option maxRecDepth 16384

noncomputable section

namespace Cert.Kernel5Ideal.Hand

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → Valuation τ sig (Elt F))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The launch's scratch split off the buffers the region may overwrite. -/
theorem split1 (c : Dev nD) :
    (Pipeline.scopedRest (Ix := Unit) (Name := ℕ) (U := UR sig nD τ) (Lvl := ℕ) (Val := Elt F) spec1 c : sProp 𝕄)
      = iprop((∃ f : Buf (Elt F) ((c : Thread nD τ).loc cc1_scratch0), ((c : Thread nD τ).loc cc1_scratch0) ↦{fullShare} f)
        ∗ Pipeline.scopedRestBut (Ix := Unit) (Name := ℕ) (U := UR sig nD τ) (Lvl := ℕ) (Val := Elt F) spec1 c [cc1_scratch0]) :=
  Pipeline.scopedRest_split_of_list spec1 c [cc1_scratch0] (by decide) (by decide)

/-- The scratch before point `n`: anything where a weight block starts, and the weights cast elsewhere. -/
def scr1 (c : Dev nD) (n : ℕ) : sProp 𝕄 :=
  if n % 8 = 0 then iprop((∃ d, owns (c : Thread nD τ) (Memref.whole cc1_scratch0) fullShare d))
  else iprop(∃ t' : Fin cfg1.N, ⌜t'.val / 8 = n / 8⌝ ∗ owns (c : Thread nD τ) (Memref.whole cc1_scratch0) fullShare (k1_pay1 (iblk1 V c 1 t')))

/-- What the scratch holds after point `t` is what the next point expects. -/
theorem scr1_close (c : Dev nD) (t : Fin cfg1.N) : iprop(owns (c : Thread nD τ) (Memref.whole cc1_scratch0) fullShare (k1_pay1 (iblk1 V c 1 t))) ⊢ scr1 V c (t.val + 1) := by
  unfold scr1
  by_cases h : (t.val + 1) % 8 = 0
  · rw [if_pos h]; iintro H; iexists _; iexact H
  · rw [if_neg h]; iintro H; iexists t
    isplitr; · ipureintro; omega
    iexact H

/-- A weight window moves only with the block's number. -/
theorem index1_1 : ∀ t t' : Fin grid1.N, t.val / 8 = t'.val / 8 → ∀ a, win1_1.index t a = win1_1.index t' a := by
  decide +kernel

theorem iblk1_1_eq (c : Dev nD) (t t' : Fin cfg1.N) (h : t.val / 8 = t'.val / 8) : iblk1 V c 1 t = iblk1 V c 1 t' := by
  funext y
  refine congrArg (V c main_v1) ?_
  funext a
  refine Fin.ext ?_
  have h1 := index1_1 t t' h
  fin_cases a
  · show win1_1.index t 0 + 1 * (y 0).val = win1_1.index t' 0 + 1 * (y 0).val
    rw [h1]
  · show win1_1.index t 1 + 1 * (y 1).val = win1_1.index t' 1 + 1 * (y 1).val
    rw [h1]
  · show win1_1.index t 2 + 1 * (y 2).val = win1_1.index t' 2 + 1 * (y 2).val
    rw [h1]

/-- The body's branch is taken exactly where a weight block starts. -/
theorem hcond1 : ∀ t : Fin cfg1.N, cond1 (grid1.coords t) ↔ t.val % 8 = 0 :=
  (fun t => by
    have ht : t.val < 48 := lt_of_lt_of_eq t.isLt N_1
    have e1 : (grid1.coords t 1).val = t.val / 1 % 8 := Pipeline.Grid.coords_val t 1 (by decide) rfl
    simp only [cond1, e1]
    word_cmp
   : ∀ t : Fin grid1.N, cond1 (grid1.coords t) ↔ t.val % 8 = 0)

/-- The region's proof data: each array at its entry contents, each input's buffer at its block, each output's at its payload, the scratch as the points leave it. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => k1_pay2 (grid1.coords t) (iblk1 V c 0 t) (k1_pay1 (iblk1 V c 1 t))
  Φ t := iprop(scr1 V c t.val ∗ Pipeline.scopedRestBut (Ix := Unit) (Name := ℕ) (U := UR sig nD τ) (Lvl := ℕ) (Val := Elt F) spec1 c [cc1_scratch0])
  q w := fullShare
  owed _ := 0

theorem A1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by
  dsimp only [dat1]
theorem after1_1 (c : Dev nD) (t : Fin cfg1.N) : (dat1 V c).after 1 t = iblk1 V c 1 t := by
  dsimp only [dat1]
theorem after1_2 (c : Dev nD) (t : Fin cfg1.N) : (dat1 V c).after 2 t = k1_pay2 (grid1.coords t) (iblk1 V c 0 t) (k1_pay1 (iblk1 V c 1 t)) := by
  dsimp only [dat1]
theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A1]; try rfl) t d).trans
    (by unfold Dat.fetched Dat.blockOf iblk1; rw [A1]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A1]; try rfl) t d).trans
    (by unfold Dat.fetched Dat.blockOf iblk1; rw [A1]; try rfl)
abbrev ms1_0 (t : Fin cfg1.N) : Memref sig .tc .vmem S1024x2048 .bf16 := win1_0.stage (cfg1.slots t 0)
abbrev ms1_1 (t : Fin cfg1.N) : Memref sig .tc .vmem S1x1024x2048 .f32 := win1_1.stage (cfg1.slots t 1)
abbrev ms1_2 (t : Fin cfg1.N) : Memref sig .tc .vmem S1024x1024 .bf16 := win1_2.stage (cfg1.slots t 2)

/-- What the body is given at a point. -/
def pre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))
/-- What the body leaves at a point. -/
def post1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t))

set_option maxHeartbeats 4000000 in
/-- The body at any point. -/
theorem sound1 (c : Dev nD) (t : Fin cfg1.N) :
    pre1 V c t ⊢ wp frame (wpE (defs₀ (F := F)) Variants.none c none) Set.univ (bodyAt1 t) (fun _ => post1 V c t) := by
  unfold pre1 post1 bodyAt1
  simp only [before1_0, before1_1]
  rw [show (dat1 V c).owesAt () t.succ = (dat1 V c).owesAt () t.castSucc from rfl,
    after1_0, after1_1, after1_2]
  rw [show (dat1 V c).Φ t.castSucc = iprop(scr1 V c t.val ∗ Pipeline.scopedRestBut (Ix := Unit) (Name := ℕ) (U := UR sig nD τ) (Lvl := ℕ) (Val := Elt F) spec1 c [cc1_scratch0]) from rfl,
    show (dat1 V c).Φ t.succ = iprop(scr1 V c (t.val + 1) ∗ Pipeline.scopedRestBut (Ix := Unit) (Name := ℕ) (U := UR sig nD τ) (Lvl := ℕ) (Val := Elt F) spec1 c [cc1_scratch0]) from rfl]
  by_cases h0 : t.val % 8 = 0
  · rw [show scr1 V c t.val = _ from if_pos h0]
    iintro ⟨⟨HS0, Hg⟩, Ho, ⟨%d0, H0⟩, ⟨%d1, H1⟩, ⟨%d2, H2⟩⟩
    iapply (run1A c (grid1.coords t) _ _ _ _ _ _ _ _ ((hcond1 t).mpr h0) (iblk1 V c 0 t) (iblk1 V c 1 t) Set.univ _)
    isplitl [H0]; · iexact H0
    isplitl [H1]; · iexact H1
    isplitl [H2]; · iexists _; iexact H2
    isplitl [HS0]; · iexact HS0
    iintro ⟨H0, H1, H2, HS0⟩
    isplitl [HS0 Hg]
    · isplitl [HS0]
      · iapply (scr1_close V c t); iexact HS0
      iexact Hg
    isplitl [Ho]; · iexact Ho
    isplitl [H0]; · iexact H0
    isplitl [H1]; · iexact H1
    iexact H2
  · rw [show scr1 V c t.val = _ from if_neg h0]
    iintro ⟨⟨⟨%t', %ht', HS0⟩, Hg⟩, Ho, ⟨%d0, H0⟩, ⟨%d1, H1⟩, ⟨%d2, H2⟩⟩
    rw [iblk1_1_eq V c t' t (by omega)]
    iapply (run1B c (grid1.coords t) _ _ _ _ _ _ _ _ (fun h => h0 ((hcond1 t).mp h)) (iblk1 V c 0 t) (iblk1 V c 1 t) Set.univ _)
    isplitl [H0]; · iexact H0
    isplitl [H1]; · iexact H1
    isplitl [H2]; · iexists _; iexact H2
    isplitl [HS0]; · iexact HS0
    iintro ⟨H0, H1, H2, HS0⟩
    isplitl [HS0 Hg]
    · isplitl [HS0]
      · iapply (scr1_close V c t); iexact HS0
      iexact Hg
    isplitl [Ho]; · iexact Ho
    isplitl [H0]; · iexact H0
    isplitl [H1]; · iexact H1
    iexact H2

theorem defs₀_row1 (t : Fin cfg1.N) :
    defs₀ (F := F) .tc cfg1.body (cfg1.bodyArgs t (cfg1.slots t)) = bodyAt1 t := by
  unfold defs₀; rw [Defs.onTc_tc]

/-- The pipeline's body obligation, at every point. -/
theorem body1 (c : Dev nD) : BodyObligation (dat1 V c) (defs₀ (F := F)) Variants.none () Set.univ := fun t => by
  rw [bigSep_W1, bigSep_W1, defs₀_row1]
  exact triple_restated (sound1 V c t) rfl .rfl fun _ => .rfl

variable (Vp : (c : Dev nD) → Valuation τ sig (Elt F))
variable (pdats : (p : Fin 3) → (c : Dev nD) → Dat τ (Elt F) Unit ℕ (UR sig nD τ) ℕ (cfgs p) c)

set_option maxHeartbeats 2000000 in
set_option backward.isDefEq.respectTransparency.types false in
/-- The region as a segment: entered with every unscoped buffer at `V`, left with them at `Vp`, the outputs' arrays as its points' write-backs make them. -/
def reg1 (hp : ∀ c, pdats 1 c = dat1 V c) (h2 : ∀ c, Vp c main_v2 = (dat1 V c).arrAt 2 cfg1.N)
    (hne : ∀ c (b : Ref sig .tc), b ∉ ([main_v2] : List (Ref sig .tc)) → Vp c b = V c b) :
    Pipeline.RegionSeg (pcfgs (F := F)) adm pdats () defs₀ Variants.none (fun _ => ∅) (fun _ _ => 0) 1 where
  win := launch1.win.to₀
  block_pos := launch1.block_pos
  stage_whole := launch1.stage_whole
  K := PEmpty
  osem k := k.elim
  ho := Pipeline.OwnSemFacts.none _
  hbody c := by
    have h := (body1 V c).loose
    rw [← hp c] at h
    exact h
  hwaits := Pipeline.hwaits_of_owed_zero _ _ _ _ (fun _ => ∅) (fun _ _ => 0) 1 fun c _ => by rw [hp c]; rfl
  pre c := iprop(unscopedBufs c (fun b => V c b) ∗ ∃ W, owes (c : Thread nD τ) (0 : CellTallies nD τ sig Unit) W)
  post c := iprop(unscopedBufs c (fun b => Vp c b) ∗ ∃ W, owes (c : Thread nD τ) (0 : CellTallies nD τ sig Unit) W)
  X _ := BI.emp
  Y _ := BI.emp
  Z c := Pipeline.unscopedRest (Ix := Unit) (Name := ℕ) (U := UR sig nD τ) (Lvl := ℕ) spec1 c (fun b => V c b)
  hentry c := by
    rw [Pipeline.ownSems0_none]
    have hsplit := Pipeline.arrays_of_unscopedBufs (p := 1) (pcfgs (F := F)) adm pdats launch1.win launch1.arr_whole c
      ((pdats 1 c).share_full fun _ => by rw [hp c]; rfl) (fun b => V c b) (fun w => by rw [hp c]; exact A1 V c w)
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · rw [show (pdats 1 c).owesAt () 0 = (dat1 V c).owesAt () 0 from by rw [hp c]]
      unfold Pipeline.Dat.owesAt Pipeline.owesWithin
      icases HO with ⟨%W, HO⟩; iexists W; isplitr; · ipureintro; exact fun _ _ => Or.inl trivial
      iexact HO
    isplitr; · iempintro
    iexact Hrest
  hin c := by
    rw [hp c, show (dat1 V c).Φ 0 = iprop(scr1 V c 0 ∗ Pipeline.scopedRestBut (Ix := Unit) (Name := ℕ) (U := UR sig nD τ) (Lvl := ℕ) (Val := Elt F) spec1 c [cc1_scratch0]) from rfl, show scr1 V c 0 = _ from if_pos rfl]
    have hs := split1 (F := F) c
    simp only [owns_whole]
    iintro ⟨-, -, Hr⟩
    ihave H := (Entails.of_eq hs) $$ Hr
    iexact H
  hout c := by
    rw [Pipeline.ownSems0_none, hp c, show (dat1 V c).Φ (Fin.last (Pipeline.pin (pcfgs (F := F)) adm 1).N) = iprop(scr1 V c grid1.N ∗ Pipeline.scopedRestBut (Ix := Unit) (Name := ℕ) (U := UR sig nD τ) (Lvl := ℕ) (Val := Elt F) spec1 c [cc1_scratch0]) from rfl,
      show scr1 V c grid1.N = _ from if_pos (by rw [N_1])]
    have hs := split1 (F := F) c
    simp only [owns_whole]
    iintro Hr
    isplitr; · iempintro
    isplitr; · iempintro
    iapply (Entails.of_eq hs.symm)
    iexact Hr
  hexit c := by
    have hjoin := Pipeline.unscopedBufs_of_arrays (p := 1) (pcfgs (F := F)) adm (Ix := Unit) (Name := ℕ) (U := UR sig nD τ) (Lvl := ℕ) launch1.win launch1.arr_whole c
      pdats ((pdats 1 c).share_full fun _ => by rw [hp c]; rfl) (fun b => V c b) (fun b => Vp c b) ((pdats 1 c).arrAt · cfg1.N)
      (fun w => by
        rw [hp c]
        fin_cases w
        · exact ((dat1 V c).arrAt_in 0 rfl _).trans (hne c main_arg4 (by decide)).symm
        · exact ((dat1 V c).arrAt_in 1 rfl _).trans (hne c main_v1 (by decide)).symm
        · exact (h2 c).symm
        )
      (fun b hb => hne c b fun h => hb (by
        simp only [List.mem_cons, List.not_mem_nil, _root_.or_false] at h
        have h := h
        · exact h ▸ Finset.mem_image.mpr ⟨2, Finset.mem_univ _, rfl⟩))
    have hO : (pdats 1 c).owesAt () (Fin.last cfg1.N) ⊢ (iprop(∃ W, owes (c : Thread nD τ) (0 : CellTallies nD τ sig Unit) W) : sProp 𝕄) := by
      rw [hp c]
      unfold Pipeline.Dat.owesAt Pipeline.owesWithin
      iintro ⟨%W, -, HO⟩; iexists W; iexact HO
    iintro ⟨Ha, HO, -, Hrest⟩
    imodintro
    isplitl [Ha Hrest]
    · iapply hjoin; isplitl [Ha] <;> iassumption
    iapply hO; iexact HO

end Cert.Kernel5Ideal.Hand

end
-- ==== Proof.P5Run2.lean ====
module

public import proofs.«01_k».proof.Proof.Gen.Kernel5Ideal.Launch
public import proofs.«01_k».proof.Proof.Gen.Kernel5Ideal.Skeleton
public import proofs.«01_k».proof.Proof.Gen.Kernel5Ideal.Points
public import Idealize.ShloMosaic.Lib.Pipeline.FrameBody
public import Idealize.ShloMosaic.Lib.Pipeline.RegionsLoop
public import Idealize.ShloMosaic.Lib.Pipeline.Value
public import Idealize.ShloMosaic.Lib.Ring
public import Idealize.ShloMosaic.Lib.Tactic
public import Idealize.ShloMosaic.Lib.VecWindow
public import Idealize.ShloMosaic.Lib.WordCmp

@[expose] public section

set_option maxRecDepth 16384

noncomputable section

namespace Cert.Kernel5Ideal.Hand

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The condition of the body's branch, as the program states it. -/
abbrev cond2 (i : grid2.Coords) : Prop := (Scalar.cmpi .ne (Scalar.extui (Scalar.cmpi .eq (BitVec.ofNat 32 (i 1).val) 0#32)) 0#32) = 1#1

set_option maxHeartbeats 4000000 in
/-- The body where it casts its weight blocks first: from any scratch contents, every output ends at its payload and the scratch at the cast blocks. -/
theorem run2A (c : Dev nD) (i : grid2.Coords) (arg2 : Memref sig .tc .vmem S1024x1024 .f32) (harg2 : arg2.IsWhole) (arg3 : Memref sig .tc .vmem S1024x2048 .bf16) (harg3 : arg3.IsWhole) (arg4 : Memref sig .tc .vmem S1x2048x1024 .f32) (harg4 : arg4.IsWhole) (arg5 : Memref sig .tc .vmem S1024x1024 .f32) (harg5 : arg5.IsWhole) (arg6 : Memref sig .tc .vmem S2048x1024 .bf16) (harg6 : arg6.IsWhole) (hc0 : cond2 i)
    (x0 : Vec F S1024x1024 .f32) (x1 : Vec F S1024x2048 .bf16) (x2 : Vec F S1x2048x1024 .f32) (E : Set ℕ) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d)
        ∗ (iprop(owns (c : Thread nD τ) arg2 fullShare x0 ∗ owns (c : Thread nD τ) arg3 fullShare x1 ∗ owns (c : Thread nD τ) arg4 fullShare x2 ∗ owns (c : Thread nD τ) arg5 fullShare (k2_pay2 (k2_pay1 x2) x1 x0) ∗ owns (c : Thread nD τ) arg6 fullShare (k2_pay1 x2)) -∗ K ⟨⟩))
      ⊢ wp frame (wpE (defs₀ (F := F)) Variants.none c none) E (cc2_matmul_residual i arg2 harg2 arg3 harg3 arg4 harg4 arg5 harg5 arg6 harg6) K := by
  simp only [cc2_matmul_residual_eq_skeleton]; unfold cc2_matmul_residual_skel
  unfold owns
  iintro ⟨⟨%f0, %hf0, H0⟩, ⟨%f1, %hf1, H1⟩, ⟨%f2, %hf2, H2⟩, ⟨%d3, %f3, -, H3⟩, ⟨%d4, %f4, -, H4⟩, Hk⟩
  obtain rfl := harg2.eq_unread hf0; obtain rfl := harg3.eq_unread hf1; obtain rfl := harg4.eq_unread hf2
  sl_exec (disch := first | sl_exact hc0)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; swap; · iexact H3
    ipureintro
    refine (View.read_writes_full _ _ _ _ _).trans ?_
    show k2_pay2 _ _ _ = k2_pay2 (k2_pay1 x2) x1 x0
    exact (congr (congr (congrArg (k2_pay2) ((View.readCov_full _ _ _ _ _).trans (congrArg (k2_pay1) ((View.readAt_full _ _ _).trans (Memref.IsWhole.read_unread _ _))))) ((View.readAt_full _ _ _).trans (Memref.IsWhole.read_unread _ _))) ((View.readAt_full _ _ _).trans (Memref.IsWhole.read_unread _ _)))
  · iexists _; isplitr; swap; · iexact H4
    ipureintro
    refine (View.read_writes_full _ _ _ _ _).trans ?_
    show k2_pay1 _ = k2_pay1 x2
    exact (congrArg (k2_pay1) ((View.readAt_full _ _ _).trans (Memref.IsWhole.read_unread _ _)))

set_option maxHeartbeats 4000000 in
/-- The body where the scratch already holds the cast blocks: every output ends at its payload and the scratch stays. -/
theorem run2B (c : Dev nD) (i : grid2.Coords) (arg2 : Memref sig .tc .vmem S1024x1024 .f32) (harg2 : arg2.IsWhole) (arg3 : Memref sig .tc .vmem S1024x2048 .bf16) (harg3 : arg3.IsWhole) (arg4 : Memref sig .tc .vmem S1x2048x1024 .f32) (harg4 : arg4.IsWhole) (arg5 : Memref sig .tc .vmem S1024x1024 .f32) (harg5 : arg5.IsWhole) (arg6 : Memref sig .tc .vmem S2048x1024 .bf16) (harg6 : arg6.IsWhole) (hc0 : ¬cond2 i)
    (x0 : Vec F S1024x1024 .f32) (x1 : Vec F S1024x2048 .bf16) (x2 : Vec F S1x2048x1024 .f32) (E : Set ℕ) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare (k2_pay1 x2)
        ∗ (iprop(owns (c : Thread nD τ) arg2 fullShare x0 ∗ owns (c : Thread nD τ) arg3 fullShare x1 ∗ owns (c : Thread nD τ) arg4 fullShare x2 ∗ owns (c : Thread nD τ) arg5 fullShare (k2_pay2 (k2_pay1 x2) x1 x0) ∗ owns (c : Thread nD τ) arg6 fullShare (k2_pay1 x2)) -∗ K ⟨⟩))
      ⊢ wp frame (wpE (defs₀ (F := F)) Variants.none c none) E (cc2_matmul_residual i arg2 harg2 arg3 harg3 arg4 harg4 arg5 harg5 arg6 harg6) K := by
  simp only [cc2_matmul_residual_eq_skeleton]; unfold cc2_matmul_residual_skel
  unfold owns
  iintro ⟨⟨%f0, %hf0, H0⟩, ⟨%f1, %hf1, H1⟩, ⟨%f2, %hf2, H2⟩, ⟨%d3, %f3, -, H3⟩, ⟨%f4, %hf4, H4⟩, Hk⟩
  obtain rfl := harg2.eq_unread hf0; obtain rfl := harg3.eq_unread hf1; obtain rfl := harg4.eq_unread hf2; obtain rfl := harg6.eq_unread hf4
  sl_exec (disch := first | sl_exact hc0)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; swap; · iexact H3
    ipureintro
    refine (View.read_writes_full _ _ _ _ _).trans ?_
    show k2_pay2 _ _ _ = k2_pay2 (k2_pay1 x2) x1 x0
    exact (congr (congr (congrArg (k2_pay2) ((View.readAt_full _ _ _).trans (Memref.IsWhole.read_unread _ _))) ((View.readAt_full _ _ _).trans (Memref.IsWhole.read_unread _ _))) ((View.readAt_full _ _ _).trans (Memref.IsWhole.read_unread _ _)))
  · iexists _; isplitr; · ipureintro; exact harg6.read_unread _
    iexact H4

end Cert.Kernel5Ideal.Hand

end
-- ==== Proof.P5Region2.lean ====
module

public import proofs.«01_k».proof.Proof.Gen.Kernel5Ideal.Launch
public import proofs.«01_k».proof.Proof.Gen.Kernel5Ideal.Skeleton
public import proofs.«01_k».proof.Proof.Gen.Kernel5Ideal.Points
public import Idealize.ShloMosaic.Lib.Pipeline.FrameBody
public import Idealize.ShloMosaic.Lib.Pipeline.RegionsLoop
public import Idealize.ShloMosaic.Lib.Pipeline.Value
public import Idealize.ShloMosaic.Lib.Ring
public import Idealize.ShloMosaic.Lib.Tactic
public import Idealize.ShloMosaic.Lib.VecWindow
public import Idealize.ShloMosaic.Lib.WordCmp
public import proofs.«01_k».proof.Proof.Gen.Kernel5Ideal.Regions
public import proofs.«01_k».proof.Proof.P5Run2

@[expose] public section

set_option maxRecDepth 16384

noncomputable section

namespace Cert.Kernel5Ideal.Hand

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → Valuation τ sig (Elt F))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The launch's scratch split off the buffers the region may overwrite. -/
theorem split2 (c : Dev nD) :
    (Pipeline.scopedRest (Ix := Unit) (Name := ℕ) (U := UR sig nD τ) (Lvl := ℕ) (Val := Elt F) spec2 c : sProp 𝕄)
      = iprop((∃ f : Buf (Elt F) ((c : Thread nD τ).loc cc2_scratch0), ((c : Thread nD τ).loc cc2_scratch0) ↦{fullShare} f)
        ∗ Pipeline.scopedRestBut (Ix := Unit) (Name := ℕ) (U := UR sig nD τ) (Lvl := ℕ) (Val := Elt F) spec2 c [cc2_scratch0]) :=
  Pipeline.scopedRest_split_of_list spec2 c [cc2_scratch0] (by decide) (by decide)

/-- The scratch before point `n`: anything where a weight block starts, and the weights cast elsewhere. -/
def scr2 (c : Dev nD) (n : ℕ) : sProp 𝕄 :=
  if n % 8 = 0 then iprop((∃ d, owns (c : Thread nD τ) (Memref.whole cc2_scratch0) fullShare d))
  else iprop(∃ t' : Fin cfg2.N, ⌜t'.val / 8 = n / 8⌝ ∗ owns (c : Thread nD τ) (Memref.whole cc2_scratch0) fullShare (k2_pay1 (iblk2 V c 2 t')))

/-- What the scratch holds after point `t` is what the next point expects. -/
theorem scr2_close (c : Dev nD) (t : Fin cfg2.N) : iprop(owns (c : Thread nD τ) (Memref.whole cc2_scratch0) fullShare (k2_pay1 (iblk2 V c 2 t))) ⊢ scr2 V c (t.val + 1) := by
  unfold scr2
  by_cases h : (t.val + 1) % 8 = 0
  · rw [if_pos h]; iintro H; iexists _; iexact H
  · rw [if_neg h]; iintro H; iexists t
    isplitr; · ipureintro; omega
    iexact H

/-- A weight window moves only with the block's number. -/
theorem index2_2 : ∀ t t' : Fin grid2.N, t.val / 8 = t'.val / 8 → ∀ a, win2_2.index t a = win2_2.index t' a := by
  decide +kernel

theorem iblk2_2_eq (c : Dev nD) (t t' : Fin cfg2.N) (h : t.val / 8 = t'.val / 8) : iblk2 V c 2 t = iblk2 V c 2 t' := by
  funext y
  refine congrArg (V c main_arg8) ?_
  funext a
  refine Fin.ext ?_
  have h1 := index2_2 t t' h
  fin_cases a
  · show win2_2.index t 0 + 1 * (y 0).val = win2_2.index t' 0 + 1 * (y 0).val
    rw [h1]
  · show win2_2.index t 1 + 1 * (y 1).val = win2_2.index t' 1 + 1 * (y 1).val
    rw [h1]
  · show win2_2.index t 2 + 1 * (y 2).val = win2_2.index t' 2 + 1 * (y 2).val
    rw [h1]

/-- The body's branch is taken exactly where a weight block starts. -/
theorem hcond2 : ∀ t : Fin cfg2.N, cond2 (grid2.coords t) ↔ t.val % 8 = 0 :=
  (fun t => by
    have ht : t.val < 16 := lt_of_lt_of_eq t.isLt N_2
    have e1 : (grid2.coords t 1).val = t.val / 1 % 8 := Pipeline.Grid.coords_val t 1 (by decide) rfl
    simp only [cond2, e1]
    word_cmp
   : ∀ t : Fin grid2.N, cond2 (grid2.coords t) ↔ t.val % 8 = 0)

/-- The region's proof data: each array at its entry contents, each input's buffer at its block, each output's at its payload, the scratch as the points leave it. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => k2_pay2 (k2_pay1 (iblk2 V c 2 t)) (iblk2 V c 1 t) (iblk2 V c 0 t)
  Φ t := iprop(scr2 V c t.val ∗ Pipeline.scopedRestBut (Ix := Unit) (Name := ℕ) (U := UR sig nD τ) (Lvl := ℕ) (Val := Elt F) spec2 c [cc2_scratch0])
  q w := fullShare
  owed _ := 0

theorem A2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by
  dsimp only [dat2]
theorem after2_1 (c : Dev nD) (t : Fin cfg2.N) : (dat2 V c).after 1 t = iblk2 V c 1 t := by
  dsimp only [dat2]
theorem after2_2 (c : Dev nD) (t : Fin cfg2.N) : (dat2 V c).after 2 t = iblk2 V c 2 t := by
  dsimp only [dat2]
theorem after2_3 (c : Dev nD) (t : Fin cfg2.N) : (dat2 V c).after 3 t = k2_pay2 (k2_pay1 (iblk2 V c 2 t)) (iblk2 V c 1 t) (iblk2 V c 0 t) := by
  dsimp only [dat2]
theorem before2_0 (c : Dev nD) (t : Fin cfg2.N) (d) : (dat2 V c).before 0 t d = iblk2 V c 0 t :=
  ((dat2 V c).before_in_eq_fetched 0 rfl (fun _ => rfl) (fun _ _ _ => rfl) (fun t => by rw [after2_0]; unfold Dat.blockOf iblk2; rw [A2]; try rfl) t d).trans
    (by unfold Dat.fetched Dat.blockOf iblk2; rw [A2]; try rfl)
theorem before2_1 (c : Dev nD) (t : Fin cfg2.N) (d) : (dat2 V c).before 1 t d = iblk2 V c 1 t :=
  ((dat2 V c).before_in_eq_fetched 1 rfl (fun _ => rfl) (fun _ _ _ => rfl) (fun t => by rw [after2_1]; unfold Dat.blockOf iblk2; rw [A2]; try rfl) t d).trans
    (by unfold Dat.fetched Dat.blockOf iblk2; rw [A2]; try rfl)
theorem before2_2 (c : Dev nD) (t : Fin cfg2.N) (d) : (dat2 V c).before 2 t d = iblk2 V c 2 t :=
  ((dat2 V c).before_in_eq_fetched 2 rfl (fun _ => rfl) (fun _ _ _ => rfl) (fun t => by rw [after2_2]; unfold Dat.blockOf iblk2; rw [A2]; try rfl) t d).trans
    (by unfold Dat.fetched Dat.blockOf iblk2; rw [A2]; try rfl)
abbrev ms2_0 (t : Fin cfg2.N) : Memref sig .tc .vmem S1024x1024 .f32 := win2_0.stage (cfg2.slots t 0)
abbrev ms2_1 (t : Fin cfg2.N) : Memref sig .tc .vmem S1024x2048 .bf16 := win2_1.stage (cfg2.slots t 1)
abbrev ms2_2 (t : Fin cfg2.N) : Memref sig .tc .vmem S1x2048x1024 .f32 := win2_2.stage (cfg2.slots t 2)
abbrev ms2_3 (t : Fin cfg2.N) : Memref sig .tc .vmem S1024x1024 .f32 := win2_3.stage (cfg2.slots t 3)

/-- What the body is given at a point. -/
def pre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d)))
/-- What the body leaves at a point. -/
def post2 (c : Dev nD) (t : Fin cfg2.N) : sProp 𝕄 :=
  iprop((dat2 V c).Φ t.succ ∗ (dat2 V c).owesAt () t.succ
    ∗ owns (c : Thread nD τ) (ms2_0 t) fullShare ((dat2 V c).after 0 t)
    ∗ owns (c : Thread nD τ) (ms2_1 t) fullShare ((dat2 V c).after 1 t)
    ∗ owns (c : Thread nD τ) (ms2_2 t) fullShare ((dat2 V c).after 2 t)
    ∗ owns (c : Thread nD τ) (ms2_3 t) fullShare ((dat2 V c).after 3 t))

set_option maxHeartbeats 4000000 in
/-- The body at any point. -/
theorem sound2 (c : Dev nD) (t : Fin cfg2.N) :
    pre2 V c t ⊢ wp frame (wpE (defs₀ (F := F)) Variants.none c none) Set.univ (bodyAt2 t) (fun _ => post2 V c t) := by
  unfold pre2 post2 bodyAt2
  simp only [before2_0, before2_1, before2_2]
  rw [show (dat2 V c).owesAt () t.succ = (dat2 V c).owesAt () t.castSucc from rfl,
    after2_0, after2_1, after2_2, after2_3]
  rw [show (dat2 V c).Φ t.castSucc = iprop(scr2 V c t.val ∗ Pipeline.scopedRestBut (Ix := Unit) (Name := ℕ) (U := UR sig nD τ) (Lvl := ℕ) (Val := Elt F) spec2 c [cc2_scratch0]) from rfl,
    show (dat2 V c).Φ t.succ = iprop(scr2 V c (t.val + 1) ∗ Pipeline.scopedRestBut (Ix := Unit) (Name := ℕ) (U := UR sig nD τ) (Lvl := ℕ) (Val := Elt F) spec2 c [cc2_scratch0]) from rfl]
  by_cases h0 : t.val % 8 = 0
  · rw [show scr2 V c t.val = _ from if_pos h0]
    iintro ⟨⟨HS0, Hg⟩, Ho, ⟨%d0, H0⟩, ⟨%d1, H1⟩, ⟨%d2, H2⟩, ⟨%d3, H3⟩⟩
    iapply (run2A c (grid2.coords t) _ _ _ _ _ _ _ _ _ _ ((hcond2 t).mpr h0) (iblk2 V c 0 t) (iblk2 V c 1 t) (iblk2 V c 2 t) Set.univ _)
    isplitl [H0]; · iexact H0
    isplitl [H1]; · iexact H1
    isplitl [H2]; · iexact H2
    isplitl [H3]; · iexists _; iexact H3
    isplitl [HS0]; · iexact HS0
    iintro ⟨H0, H1, H2, H3, HS0⟩
    isplitl [HS0 Hg]
    · isplitl [HS0]
      · iapply (scr2_close V c t); iexact HS0
      iexact Hg
    isplitl [Ho]; · iexact Ho
    isplitl [H0]; · iexact H0
    isplitl [H1]; · iexact H1
    isplitl [H2]; · iexact H2
    iexact H3
  · rw [show scr2 V c t.val = _ from if_neg h0]
    iintro ⟨⟨⟨%t', %ht', HS0⟩, Hg⟩, Ho, ⟨%d0, H0⟩, ⟨%d1, H1⟩, ⟨%d2, H2⟩, ⟨%d3, H3⟩⟩
    rw [iblk2_2_eq V c t' t (by omega)]
    iapply (run2B c (grid2.coords t) _ _ _ _ _ _ _ _ _ _ (fun h => h0 ((hcond2 t).mp h)) (iblk2 V c 0 t) (iblk2 V c 1 t) (iblk2 V c 2 t) Set.univ _)
    isplitl [H0]; · iexact H0
    isplitl [H1]; · iexact H1
    isplitl [H2]; · iexact H2
    isplitl [H3]; · iexists _; iexact H3
    isplitl [HS0]; · iexact HS0
    iintro ⟨H0, H1, H2, H3, HS0⟩
    isplitl [HS0 Hg]
    · isplitl [HS0]
      · iapply (scr2_close V c t); iexact HS0
      iexact Hg
    isplitl [Ho]; · iexact Ho
    isplitl [H0]; · iexact H0
    isplitl [H1]; · iexact H1
    isplitl [H2]; · iexact H2
    iexact H3

theorem defs₀_row2 (t : Fin cfg2.N) :
    defs₀ (F := F) .tc cfg2.body (cfg2.bodyArgs t (cfg2.slots t)) = bodyAt2 t := by
  unfold defs₀; rw [Defs.onTc_tc]

/-- The pipeline's body obligation, at every point. -/
theorem body2 (c : Dev nD) : BodyObligation (dat2 V c) (defs₀ (F := F)) Variants.none () Set.univ := fun t => by
  rw [bigSep_W2, bigSep_W2, defs₀_row2]
  exact triple_restated (sound2 V c t) rfl .rfl fun _ => .rfl

variable (Vp : (c : Dev nD) → Valuation τ sig (Elt F))
variable (pdats : (p : Fin 3) → (c : Dev nD) → Dat τ (Elt F) Unit ℕ (UR sig nD τ) ℕ (cfgs p) c)

set_option maxHeartbeats 2000000 in
set_option backward.isDefEq.respectTransparency.types false in
/-- The region as a segment: entered with every unscoped buffer at `V`, left with them at `Vp`, the outputs' arrays as its points' write-backs make them. -/
def reg2 (hp : ∀ c, pdats 2 c = dat2 V c) (h3 : ∀ c, Vp c main_v3 = (dat2 V c).arrAt 3 cfg2.N)
    (hne : ∀ c (b : Ref sig .tc), b ∉ ([main_v3] : List (Ref sig .tc)) → Vp c b = V c b) :
    Pipeline.RegionSeg (pcfgs (F := F)) adm pdats () defs₀ Variants.none (fun _ => ∅) (fun _ _ => 0) 2 where
  win := launch2.win.to₀
  block_pos := launch2.block_pos
  stage_whole := launch2.stage_whole
  K := PEmpty
  osem k := k.elim
  ho := Pipeline.OwnSemFacts.none _
  hbody c := by
    have h := (body2 V c).loose
    rw [← hp c] at h
    exact h
  hwaits := Pipeline.hwaits_of_owed_zero _ _ _ _ (fun _ => ∅) (fun _ _ => 0) 2 fun c _ => by rw [hp c]; rfl
  pre c := iprop(unscopedBufs c (fun b => V c b) ∗ ∃ W, owes (c : Thread nD τ) (0 : CellTallies nD τ sig Unit) W)
  post c := iprop(unscopedBufs c (fun b => Vp c b) ∗ ∃ W, owes (c : Thread nD τ) (0 : CellTallies nD τ sig Unit) W)
  X _ := BI.emp
  Y _ := BI.emp
  Z c := Pipeline.unscopedRest (Ix := Unit) (Name := ℕ) (U := UR sig nD τ) (Lvl := ℕ) spec2 c (fun b => V c b)
  hentry c := by
    rw [Pipeline.ownSems0_none]
    have hsplit := Pipeline.arrays_of_unscopedBufs (p := 2) (pcfgs (F := F)) adm pdats launch2.win launch2.arr_whole c
      ((pdats 2 c).share_full fun _ => by rw [hp c]; rfl) (fun b => V c b) (fun w => by rw [hp c]; exact A2 V c w)
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · rw [show (pdats 2 c).owesAt () 0 = (dat2 V c).owesAt () 0 from by rw [hp c]]
      unfold Pipeline.Dat.owesAt Pipeline.owesWithin
      icases HO with ⟨%W, HO⟩; iexists W; isplitr; · ipureintro; exact fun _ _ => Or.inl trivial
      iexact HO
    isplitr; · iempintro
    iexact Hrest
  hin c := by
    rw [hp c, show (dat2 V c).Φ 0 = iprop(scr2 V c 0 ∗ Pipeline.scopedRestBut (Ix := Unit) (Name := ℕ) (U := UR sig nD τ) (Lvl := ℕ) (Val := Elt F) spec2 c [cc2_scratch0]) from rfl, show scr2 V c 0 = _ from if_pos rfl]
    have hs := split2 (F := F) c
    simp only [owns_whole]
    iintro ⟨-, -, Hr⟩
    ihave H := (Entails.of_eq hs) $$ Hr
    iexact H
  hout c := by
    rw [Pipeline.ownSems0_none, hp c, show (dat2 V c).Φ (Fin.last (Pipeline.pin (pcfgs (F := F)) adm 2).N) = iprop(scr2 V c grid2.N ∗ Pipeline.scopedRestBut (Ix := Unit) (Name := ℕ) (U := UR sig nD τ) (Lvl := ℕ) (Val := Elt F) spec2 c [cc2_scratch0]) from rfl,
      show scr2 V c grid2.N = _ from if_pos (by rw [N_2])]
    have hs := split2 (F := F) c
    simp only [owns_whole]
    iintro Hr
    isplitr; · iempintro
    isplitr; · iempintro
    iapply (Entails.of_eq hs.symm)
    iexact Hr
  hexit c := by
    have hjoin := Pipeline.unscopedBufs_of_arrays (p := 2) (pcfgs (F := F)) adm (Ix := Unit) (Name := ℕ) (U := UR sig nD τ) (Lvl := ℕ) launch2.win launch2.arr_whole c
      pdats ((pdats 2 c).share_full fun _ => by rw [hp c]; rfl) (fun b => V c b) (fun b => Vp c b) ((pdats 2 c).arrAt · cfg2.N)
      (fun w => by
        rw [hp c]
        fin_cases w
        · exact ((dat2 V c).arrAt_in 0 rfl _).trans (hne c main_arg6 (by decide)).symm
        · exact ((dat2 V c).arrAt_in 1 rfl _).trans (hne c main_arg7 (by decide)).symm
        · exact ((dat2 V c).arrAt_in 2 rfl _).trans (hne c main_arg8 (by decide)).symm
        · exact (h3 c).symm
        )
      (fun b hb => hne c b fun h => hb (by
        simp only [List.mem_cons, List.not_mem_nil, _root_.or_false] at h
        have h := h
        · exact h ▸ Finset.mem_image.mpr ⟨3, Finset.mem_univ _, rfl⟩))
    have hO : (pdats 2 c).owesAt () (Fin.last cfg2.N) ⊢ (iprop(∃ W, owes (c : Thread nD τ) (0 : CellTallies nD τ sig Unit) W) : sProp 𝕄) := by
      rw [hp c]
      unfold Pipeline.Dat.owesAt Pipeline.owesWithin
      iintro ⟨%W, -, HO⟩; iexists W; iexact HO
    iintro ⟨Ha, HO, -, Hrest⟩
    imodintro
    isplitl [Ha Hrest]
    · iapply hjoin; isplitl [Ha] <;> iassumption
    iapply hO; iexact HO

end Cert.Kernel5Ideal.Hand

end
-- ==== Proof.P5Main.lean ====
module

public import proofs.«01_k».proof.Proof.Gen.Kernel5Ideal.Launch
public import proofs.«01_k».proof.Proof.Gen.Kernel5Ideal.Skeleton
public import proofs.«01_k».proof.Proof.Gen.Kernel5Ideal.Points
public import Idealize.ShloMosaic.Lib.Pipeline.FrameBody
public import Idealize.ShloMosaic.Lib.Pipeline.RegionsLoop
public import Idealize.ShloMosaic.Lib.Pipeline.Value
public import Idealize.ShloMosaic.Lib.Ring
public import Idealize.ShloMosaic.Lib.Tactic
public import Idealize.ShloMosaic.Lib.VecWindow
public import Idealize.ShloMosaic.Lib.WordCmp
public import proofs.«01_k».proof.Proof.Gen.Kernel5Ideal.Regions
public import proofs.«01_k».proof.Proof.P5Region0
public import proofs.«01_k».proof.Proof.P5Region1
public import proofs.«01_k».proof.Proof.P5Region2
public import Idealize.ShloMosaic.Lib.Pipeline.Kit

@[expose] public section

set_option maxRecDepth 16384

noncomputable section

namespace Cert.Kernel5Ideal.Hand

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Contents nothing reads. -/
def junk (r : Ref sig .tc) (c : Dev nD) : Buf (Elt F) ((c : Thread nD τ).loc r) := fun _ => Classical.arbitrary _

/-- What region 0 leaves in its outputs' arrays. -/
def outsA : Outs (F := F) := fun _ r c =>
    if h : r = main_v0 then h ▸ (dat0 (V0 m) c).arrAt 5 cfg0.N
    else junk r c
/-- What the regions up to region 1 leave in their outputs' arrays. -/
def outsB : Outs (F := F) := fun J r c =>
  if J = 3 then
    if h : r = main_v2 then h ▸ (dat1 (V2 m (outsA m)) c).arrAt 2 cfg1.N
    else junk r c
  else outsA m J r c
/-- What the regions up to region 2 leave in their outputs' arrays. -/
def outs : Outs (F := F) := fun J r c =>
  if J = 4 then
    if h : r = main_v3 then h ▸ (dat2 (V3 m (outsB m)) c).arrAt 3 cfg2.N
    else junk r c
  else outsB m J r c

theorem outsB_1 (r : Ref sig .tc) (c : Dev nD) : outsB m 1 r c = outsA m 1 r c := by
  rw [show outsB m 1 r c = outsA m 1 r c from if_neg (by decide)]
theorem outs_1 (r : Ref sig .tc) (c : Dev nD) : outs m 1 r c = outsA m 1 r c := by
  rw [show outs m 1 r c = outsB m 1 r c from if_neg (by decide), outsB_1]
theorem outs_3 (r : Ref sig .tc) (c : Dev nD) : outs m 3 r c = outsB m 3 r c := by
  rw [show outs m 3 r c = outsB m 3 r c from if_neg (by decide)]
theorem V2_cong (o o' : Outs (F := F)) (h0 : ∀ r c, o 1 r c = o' 1 r c) : V2 m o = V2 m o' := funext fun c => by
  simp only [V2, V1, h0]
theorem V2_outs : V2 m (outs m) = V2 m (outsA m) := V2_cong m _ _ (outs_1 m)
theorem V3_cong (o o' : Outs (F := F)) (h0 : ∀ r c, o 1 r c = o' 1 r c) (h1 : ∀ r c, o 3 r c = o' 3 r c) : V3 m o = V3 m o' := funext fun c => by
  simp only [V3, V2, V1, h0, h1]
theorem V3_outs : V3 m (outs m) = V3 m (outsB m) := V3_cong m _ _ (fun r c => (outs_1 m r c).trans (outsB_1 m r c).symm) (outs_3 m)
theorem outs_v0 (c : Dev nD) : outs m 1 main_v0 c = (dat0 (V0 m) c).arrAt 5 cfg0.N := by
  rw [outs_1]; unfold outsA; rw [dif_pos rfl]
theorem outs_v2 (c : Dev nD) : outs m 3 main_v2 c = (dat1 (V2 m (outs m)) c).arrAt 2 cfg1.N := by
  rw [V2_outs, outs_3]; unfold outsB; rw [if_pos rfl, dif_pos rfl]
theorem outs_v3 (c : Dev nD) : outs m 4 main_v3 c = (dat2 (V3 m (outs m)) c).arrAt 3 cfg2.N := by
  rw [V3_outs]; unfold outs; rw [if_pos rfl, dif_pos rfl]
theorem V1_v0 (c : Dev nD) : V1 m (outs m) c main_v0 = (dat0 (V0 m) c).arrAt 5 cfg0.N := by
  rw [← outs_v0]
  simp only [V1]
  rw [Function.update_self]
theorem V3_v2 (c : Dev nD) : V3 m (outs m) c main_v2 = (dat1 (V2 m (outs m)) c).arrAt 2 cfg1.N := by
  rw [← outs_v2]
  simp only [V3]
  rw [Function.update_self]
theorem V4_v3 (c : Dev nD) : V4 m (outs m) c main_v3 = (dat2 (V3 m (outs m)) c).arrAt 3 cfg2.N := by
  rw [← outs_v3]
  simp only [V4]
  rw [Function.update_self]

/-- Each region's proof data, from the contents it is entered at. -/
def pdats : (p : Fin 3) → (c : Dev nD) → Dat τ (Elt F) Unit ℕ (UR sig nD τ) ℕ (cfgs p) c
  | ⟨0, _⟩ => fun c => dat0 (V0 m) c
  | ⟨1, _⟩ => fun c => dat1 (V2 m (outs m)) c
  | ⟨2, _⟩ => fun c => dat2 (V3 m (outs m)) c

def seg0' := reg0 (V0 m) (V1 m (outs m)) (pdats m) (fun _ => rfl) (V1_v0 m) (fun c b h => V1_of m (outs m) c b h)
def seg1' := reg1 (V2 m (outs m)) (V3 m (outs m)) (pdats m) (fun _ => rfl) (V3_v2 m) (fun c b h => V3_of m (outs m) c b h)
def seg2' := reg2 (V3 m (outs m)) (V4 m (outs m)) (pdats m) (fun _ => rfl) (V4_v3 m) (fun c b h => V4_of m (outs m) c b h)

/-- What rides beside the buffers: the core owes nothing. -/
abbrev rest (_ : Fin 4) (c : Dev nD) : sProp 𝕄 := iprop(∃ W, owes (c : Thread nD τ) (0 : CellTallies nD τ sig Unit) W)

theorem held_eq (c : Dev nD) (W : Valuation τ sig (Elt F)) :
    (unscopedBufs c (fun b => W b) : sProp 𝕄) = StableHlo.held (c : Thread nD τ) (Pipeline.ucRefs τ sig) W :=
  Pipeline.unscopedBufs_held c W

theorem glue (c : Dev nD) (W : Valuation τ sig (Elt F)) :
    iprop(StableHlo.held (c : Thread nD τ) (Pipeline.ucRefs τ sig) W ∗ rest 0 c)
      ⊢ (iprop(unscopedBufs c (fun b => W b) ∗ ∃ W, owes (c : Thread nD τ) (0 : CellTallies nD τ sig Unit) W) : sProp 𝕄) := by
  rw [held_eq]
theorem glue' (c : Dev nD) (W : Valuation τ sig (Elt F)) :
    (iprop(unscopedBufs c (fun b => W b) ∗ ∃ W, owes (c : Thread nD τ) (0 : CellTallies nD τ sig Unit) W) : sProp 𝕄)
      ⊢ iprop(StableHlo.held (c : Thread nD τ) (Pipeline.ucRefs τ sig) W ∗ rest 0 c) := by
  rw [held_eq]

set_option maxHeartbeats 4000000 in
set_option backward.isDefEq.respectTransparency.types false in
/-- Every weakly fair execution of @main from memory `m` with zero counters terminates; at the end each argument is as launched, the results are what the program's last operations leave, and every counter is zero. -/
theorem run_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_v0) = V4 m (outs m) c main_v0
      ∧ r.2.mem ((c.tc : Thread nD τ).loc main_v2) = V4 m (outs m) c main_v2
      ∧ r.2.mem ((c.tc : Thread nD τ).loc main_v3) = V4 m (outs m) c main_v3)
      ∧ r.2.sem = fun _ => 0) := by
  refine Pipeline.θ_run_regions_kit_dev_sems (pcfgs (F := F)) adm (pdats m) () cellOf_inj emb₁ defs₀ Variants.none (fun _ => ∅) (fun _ _ => 0) m ρ main
    (segs m (outs m) Variants.none (fun _ => ∅) (fun _ _ => 0) rest () (pdats m) (seg0' m) (seg1' m) (seg2' m))
    (fun c Q => by
      rewrite [main_chain c, Pipeline.Seg.run_eq_chain,
        show (segs m (outs m) Variants.none (fun _ => ∅) (fun _ _ => 0) rest () (pdats m) (seg0' m) (seg1' m) (seg2' m) c).map Pipeline.Seg.prog = [
          Prog.lift (.customCall (Pipeline.entry 0) ()),
          StableHlo.seq hostOps1,
          Prog.lift (.customCall (Pipeline.entry 1) ()),
          Prog.lift (.customCall (Pipeline.entry 2) ()) ] from rfl]
      dsimp (config := { failIfUnchanged := false }) only
      exact .rfl)
    (fun c => by simp only [segs, Pipeline.Seg.pipes_host, Pipeline.Seg.pipes_region, Pipeline.Seg.pipes_nil]; decide) (O₀ := 0) (hL := fun _ _ => rfl) (G := fun _ => iprop(emp))
    (u₀ := initOf (Pipeline.cells cfgs cellOf_inj) (Pipeline.launchToks cfgs cellOf_inj))
    (hu₀ := by
      iintro Hu
      imodintro
      isplitl [Hu]
      · iapply (show (ownU _ : sProp 𝕄) ⊢ BI.own (emb₁ (initOf (Pipeline.cells (Pipeline.pin (pcfgs (F := F)) adm) cellOf_inj) (Pipeline.launchToks (Pipeline.pin (pcfgs (F := F)) adm) cellOf_inj))) from .rfl); iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ rest 0 c))
    (Tₙ := fun c => StableHlo.held (c : Thread nD τ) (Pipeline.ucRefs τ sig) (V4 m (outs m) c))
    (hch := fun c => ⟨glue c (V0 m c), glue' c (V1 m (outs m) c), glue c (V2 m (outs m) c), .rfl, glue' c (V4 m (outs m) c)⟩)
    (hinit := by
      refine Pipeline.initEach (fun _ => ∅) (fun _ _ => 0) fun c => ?_
      rw [show unscopedBufs c (fun b => m ((c : Thread nD τ).loc b)) = StableHlo.held (c : Thread nD τ) (Pipeline.ucRefs τ sig) (V0 m c) from held_eq c (V0 m c)]
      iintro ⟨⟨Hh, -, HO, -, -, -⟩, -⟩
      imodintro
      isplitl [Hh]; · iexact Hh
      iexists ∅; iexact HO)
    (QY := fun c s => s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3)
      ∧ s.mem ((c.tc : Thread nD τ).loc main_arg4) = m ((c.tc : Thread nD τ).loc main_arg4)
      ∧ s.mem ((c.tc : Thread nD τ).loc main_arg5) = m ((c.tc : Thread nD τ).loc main_arg5)
      ∧ s.mem ((c.tc : Thread nD τ).loc main_arg6) = m ((c.tc : Thread nD τ).loc main_arg6)
      ∧ s.mem ((c.tc : Thread nD τ).loc main_arg7) = m ((c.tc : Thread nD τ).loc main_arg7)
      ∧ s.mem ((c.tc : Thread nD τ).loc main_arg8) = m ((c.tc : Thread nD τ).loc main_arg8)
      ∧ s.mem ((c.tc : Thread nD τ).loc main_v0) = V4 m (outs m) c main_v0
      ∧ s.mem ((c.tc : Thread nD τ).loc main_v2) = V4 m (outs m) c main_v2
      ∧ s.mem ((c.tc : Thread nD τ).loc main_v3) = V4 m (outs m) c main_v3)
    (hfin := fun c s' => ?_) (hQ := fun _ h hz => ⟨h, funext fun g => hz g (.inr (regions_no_unscoped g.2))⟩)
  unfold StableHlo.held
  iintro ⟨Hh, HSI⟩
  ihave Hr := (pointsTo_read_all (Pipeline.ucRefs τ sig) (fun b => ((c : Thread nD τ).1, b)) (V4 m (outs m) c) s') $$ [Hh HSI]
  · isplitl [Hh] <;> iassumption
  icases Hr with ⟨%h, HSI⟩
  imodintro
  isplitr
  · ipureintro
    exact ⟨(h (Proc.devRef .tc main_arg0) (Finset.mem_filter.mpr ⟨StableHlo.devRef_mem_tcRefs main_arg0, by decide⟩)).trans (V4_main_arg0 m (outs m) c),
      (h (Proc.devRef .tc main_arg1) (Finset.mem_filter.mpr ⟨StableHlo.devRef_mem_tcRefs main_arg1, by decide⟩)).trans (V4_main_arg1 m (outs m) c),
      (h (Proc.devRef .tc main_arg2) (Finset.mem_filter.mpr ⟨StableHlo.devRef_mem_tcRefs main_arg2, by decide⟩)).trans (V4_main_arg2 m (outs m) c),
      (h (Proc.devRef .tc main_arg3) (Finset.mem_filter.mpr ⟨StableHlo.devRef_mem_tcRefs main_arg3, by decide⟩)).trans (V4_main_arg3 m (outs m) c),
      (h (Proc.devRef .tc main_arg4) (Finset.mem_filter.mpr ⟨StableHlo.devRef_mem_tcRefs main_arg4, by decide⟩)).trans (V4_main_arg4 m (outs m) c),
      (h (Proc.devRef .tc main_arg5) (Finset.mem_filter.mpr ⟨StableHlo.devRef_mem_tcRefs main_arg5, by decide⟩)).trans (V4_main_arg5 m (outs m) c),
      (h (Proc.devRef .tc main_arg6) (Finset.mem_filter.mpr ⟨StableHlo.devRef_mem_tcRefs main_arg6, by decide⟩)).trans (V4_main_arg6 m (outs m) c),
      (h (Proc.devRef .tc main_arg7) (Finset.mem_filter.mpr ⟨StableHlo.devRef_mem_tcRefs main_arg7, by decide⟩)).trans (V4_main_arg7 m (outs m) c),
      (h (Proc.devRef .tc main_arg8) (Finset.mem_filter.mpr ⟨StableHlo.devRef_mem_tcRefs main_arg8, by decide⟩)).trans (V4_main_arg8 m (outs m) c),
      h (Proc.devRef .tc main_v0) (Finset.mem_filter.mpr ⟨StableHlo.devRef_mem_tcRefs main_v0, by decide⟩),
      h (Proc.devRef .tc main_v2) (Finset.mem_filter.mpr ⟨StableHlo.devRef_mem_tcRefs main_v2, by decide⟩),
      h (Proc.devRef .tc main_v3) (Finset.mem_filter.mpr ⟨StableHlo.devRef_mem_tcRefs main_v3, by decide⟩)⟩
  · iexact HSI

end Cert.Kernel5Ideal.Hand

end
-- ==== Proof.P5Pay.lean ====
module

public import proofs.«01_k».proof.Proof.Gen.Kernel5Ideal.Skeleton
public import Idealize.ShloMosaic.Lib.IdealHost
public import proofs.«01_k».proof.Proof.P5Spec

@[expose] public section

noncomputable section

namespace Cert.Kernel5Ideal.Hand

open Cert.Kernel5Ideal Cert.Kernel5Ideal.Gen Cert.Hand
open Idealize.ShloMosaic Idealize.ShloMosaic.ValueIdx

/-- The first mixer's cast weights, at an index. -/
theorem k0_pay1_at (v : Vec Ideal S1x2048x1024 .f32) (y : S2048x1024.Idx) :
    k0_pay1 (F := Ideal) v y = v (ix3 (0 : Fin 1) (y 0) (y 1)) := by
  unfold k0_pay1
  simp only [shapeCast_self]
  exact squeeze_at (A := 2048) (B := 1024) v _ y

/-- The second mixer's cast weights, at an index. -/
theorem k0_pay2_at (v : Vec Ideal S1x2048x1024 .f32) (y : S2048x1024.Idx) :
    k0_pay2 (F := Ideal) v y = v (ix3 (0 : Fin 1) (y 0) (y 1)) := k0_pay1_at v y

/-- The first call's block of the result, at an index. -/
theorem k0_pay3_at (wa wb : Vec Ideal S2048x1024 .bf16) (a b : Vec Ideal S512x2048 .bf16) (h : Vec Ideal S512x1024 .f32) (y : S512x1024.Idx) :
    k0_pay3 (F := Ideal) wa wb a b h y = h y + ((∑ k : Fin 2048, a (ix2 (y 0) k) * wa (ix2 k (y 1)))
      + ∑ k : Fin 2048, b (ix2 (y 0) k) * wb (ix2 k (y 1))) := by
  rw [← matmul_at (M := 512) (K := 2048) (N := 1024) (φ₁ := .bf16) (φ₂ := .bf16) a wa y,
    ← matmul_at (M := 512) (K := 2048) (N := 1024) (φ₁ := .bf16) (φ₂ := .bf16) b wb y]
  unfold k0_pay3
  rfl

/-- The cast rows of the transposed weights in the second call, at an index. -/
theorem k1_pay1_at (v : Vec Ideal S1x1024x2048 .f32) (y : S1024x2048.Idx) :
    k1_pay1 (F := Ideal) v y = v (ix3 (0 : Fin 1) (y 0) (y 1)) := by
  unfold k1_pay1
  simp only [shapeCast_self]
  exact squeeze_at (A := 1024) (B := 2048) v _ y

/-- The second call's block of the result, at an index. -/
theorem k1_pay2_at (i : grid1.Coords) (x a : Vec Ideal S1024x2048 .bf16) (y : S1024x1024.Idx) :
    k1_pay2 (F := Ideal) i x a y = (∑ k : Fin 2048, x (ix2 (y 0) k) * a (ix2 (y 1) k))
      * (if (i 0).val < 2 then Ideal.ofBits .f32 0x3E0293EE#32 else 1) := by
  rw [← matmul_nt_at (M := 1024) (K := 2048) (N := 1024) (φ₁ := .bf16) (φ₂ := .bf16) x a y, ← Ideal.ofBits_one_f32]
  have e := scale_at (i 0) (Ideal.ofBits .f32 0x3E0293EE#32) (Ideal.ofBits .f32 0x3F800000#32)
  refine Eq.trans ?_ (congrArg (_ * ·) e)
  unfold k1_pay2
  rfl

/-- The cast weights of the third call, at an index. -/
theorem k2_pay1_at (v : Vec Ideal S1x2048x1024 .f32) (y : S2048x1024.Idx) :
    k2_pay1 (F := Ideal) v y = v (ix3 (0 : Fin 1) (y 0) (y 1)) := k0_pay1_at v y

/-- The third call's block of the result, at an index. -/
theorem k2_pay2_at (w : Vec Ideal S2048x1024 .bf16) (o : Vec Ideal S1024x2048 .bf16) (h : Vec Ideal S1024x1024 .f32) (y : S1024x1024.Idx) :
    k2_pay2 (F := Ideal) w o h y = h y + ∑ k : Fin 2048, o (ix2 (y 0) k) * w (ix2 k (y 1)) := by
  rw [← matmul_at (M := 1024) (K := 2048) (N := 1024) (φ₁ := .bf16) (φ₂ := .bf16) o w y]
  unfold k2_pay2
  rfl

end Cert.Kernel5Ideal.Hand

end
-- ==== Proof.P5Value0.lean ====
module

public import proofs.«01_k».proof.Proof.P5Region0
public import proofs.«01_k».proof.Proof.P5Pay

@[expose] public section

set_option maxRecDepth 16384

noncomputable section

namespace Cert.Kernel5Ideal.Hand

open Cert.Kernel5Ideal Cert.Kernel5Ideal.Gen Cert.Hand
open Idealize.ShloMosaic Idealize.ShloMosaic.TcCoe Idealize.ShloMosaic.ValueIdx Idealize.SL.Sem
open Idealize.ShloMosaic.Pipeline (Dat Cfg Window)

variable (V : (c : Dev nD) → Valuation τ sig (Elt Ideal))

/-- Where each window's block sits, at every point of the grid. -/
theorem where0 : ∀ t : Fin cfg0.N, win0_0.index t (0 : Fin 2) = t.val % 16 ∧ win0_0.index t (1 : Fin 2) = t.val / 16 ∧ win0_1.index t (0 : Fin 2) = t.val % 16 ∧ win0_1.index t (1 : Fin 2) = 0 ∧ win0_2.index t (0 : Fin 2) = t.val % 16 ∧ win0_2.index t (1 : Fin 2) = 0 ∧ win0_3.index t (0 : Fin 3) = 0 ∧ win0_3.index t (1 : Fin 3) = 0 ∧ win0_3.index t (2 : Fin 3) = t.val / 16 * 1024 ∧ win0_4.index t (0 : Fin 3) = 0 ∧ win0_4.index t (1 : Fin 3) = 2048 ∧ win0_4.index t (2 : Fin 3) = t.val / 16 * 1024 ∧ win0_5.index t (0 : Fin 2) = t.val % 16 ∧ win0_5.index t (1 : Fin 2) = t.val / 16 :=
  (by decide +kernel : ∀ t : Fin grid0.N, win0_0.index t (0 : Fin 2) = t.val % 16 ∧ win0_0.index t (1 : Fin 2) = t.val / 16 ∧ win0_1.index t (0 : Fin 2) = t.val % 16 ∧ win0_1.index t (1 : Fin 2) = 0 ∧ win0_2.index t (0 : Fin 2) = t.val % 16 ∧ win0_2.index t (1 : Fin 2) = 0 ∧ win0_3.index t (0 : Fin 3) = 0 ∧ win0_3.index t (1 : Fin 3) = 0 ∧ win0_3.index t (2 : Fin 3) = t.val / 16 * 1024 ∧ win0_4.index t (0 : Fin 3) = 0 ∧ win0_4.index t (1 : Fin 3) = 2048 ∧ win0_4.index t (2 : Fin 3) = t.val / 16 * 1024 ∧ win0_5.index t (0 : Fin 2) = t.val % 16 ∧ win0_5.index t (1 : Fin 2) = t.val / 16)

/-- Window 0's block at a point, read off its array. -/
theorem iblk0_0_at (c : Dev nD) (t : Fin cfg0.N) (y : S512x1024.Idx) (i : S8192x2048.Idx) (h0 : (i (0 : Fin 2)).val = t.val % 16 * 512 + (y (0 : Fin 2)).val) (h1 : (i (1 : Fin 2)).val = t.val / 16 * 1024 + (y (1 : Fin 2)).val) :
    iblk0 V c 0 t y = (rd S8192x2048 (V c main_arg0)) i := by
  obtain ⟨e0_0, e0_1, e1_0, e1_1, e2_0, e2_1, e3_0, e3_1, e3_2, e4_0, e4_1, e4_2, e5_0, e5_1⟩ := where0 t
  unfold iblk0
  show (rd S8192x2048 (V c main_arg0)) (((cfg0.win 0).blk t).view.emb y) = _
  refine congrArg ((rd S8192x2048 (V c main_arg0))) (funext fun a => Fin.ext ?_)
  exact (match a with
    | ⟨0, _⟩ => by show win0_0.index t (0 : Fin 2) * 512 + 1 * (y (0 : Fin 2)).val = (i (0 : Fin 2)).val; rw [h0, e0_0]; omega
    | ⟨1, _⟩ => by show win0_0.index t (1 : Fin 2) * 1024 + 1 * (y (1 : Fin 2)).val = (i (1 : Fin 2)).val; rw [h1, e0_1]; omega)

/-- Window 1's block at a point, read off its array. -/
theorem iblk0_1_at (c : Dev nD) (t : Fin cfg0.N) (y : S512x2048.Idx) (i : S8192x2048.Idx) (h0 : (i (0 : Fin 2)).val = t.val % 16 * 512 + (y (0 : Fin 2)).val) (h1 : (i (1 : Fin 2)).val = 0 * 2048 + (y (1 : Fin 2)).val) :
    iblk0 V c 1 t y = (rd S8192x2048 (V c main_arg1)) i := by
  obtain ⟨e0_0, e0_1, e1_0, e1_1, e2_0, e2_1, e3_0, e3_1, e3_2, e4_0, e4_1, e4_2, e5_0, e5_1⟩ := where0 t
  unfold iblk0
  show (rd S8192x2048 (V c main_arg1)) (((cfg0.win 1).blk t).view.emb y) = _
  refine congrArg ((rd S8192x2048 (V c main_arg1))) (funext fun a => Fin.ext ?_)
  exact (match a with
    | ⟨0, _⟩ => by show win0_1.index t (0 : Fin 2) * 512 + 1 * (y (0 : Fin 2)).val = (i (0 : Fin 2)).val; rw [h0, e1_0]; omega
    | ⟨1, _⟩ => by show win0_1.index t (1 : Fin 2) * 2048 + 1 * (y (1 : Fin 2)).val = (i (1 : Fin 2)).val; rw [h1, e1_1]; omega)

/-- Window 2's block at a point, read off its array. -/
theorem iblk0_2_at (c : Dev nD) (t : Fin cfg0.N) (y : S512x2048.Idx) (i : S8192x2048.Idx) (h0 : (i (0 : Fin 2)).val = t.val % 16 * 512 + (y (0 : Fin 2)).val) (h1 : (i (1 : Fin 2)).val = 0 * 2048 + (y (1 : Fin 2)).val) :
    iblk0 V c 2 t y = (rd S8192x2048 (V c main_arg2)) i := by
  obtain ⟨e0_0, e0_1, e1_0, e1_1, e2_0, e2_1, e3_0, e3_1, e3_2, e4_0, e4_1, e4_2, e5_0, e5_1⟩ := where0 t
  unfold iblk0
  show (rd S8192x2048 (V c main_arg2)) (((cfg0.win 2).blk t).view.emb y) = _
  refine congrArg ((rd S8192x2048 (V c main_arg2))) (funext fun a => Fin.ext ?_)
  exact (match a with
    | ⟨0, _⟩ => by show win0_2.index t (0 : Fin 2) * 512 + 1 * (y (0 : Fin 2)).val = (i (0 : Fin 2)).val; rw [h0, e2_0]; omega
    | ⟨1, _⟩ => by show win0_2.index t (1 : Fin 2) * 2048 + 1 * (y (1 : Fin 2)).val = (i (1 : Fin 2)).val; rw [h1, e2_1]; omega)

/-- Window 3's block at a point, read off its array. -/
theorem iblk0_3_at (c : Dev nD) (t : Fin cfg0.N) (y : S1x2048x1024.Idx) (i : S1x4096x2048.Idx) (h0 : (i (0 : Fin 3)).val = 0 + (y (0 : Fin 3)).val) (h1 : (i (1 : Fin 3)).val = 0 + (y (1 : Fin 3)).val) (h2 : (i (2 : Fin 3)).val = t.val / 16 * 1024 + (y (2 : Fin 3)).val) :
    iblk0 V c 3 t y = (rd S1x4096x2048 (V c main_arg3)) i := by
  obtain ⟨e0_0, e0_1, e1_0, e1_1, e2_0, e2_1, e3_0, e3_1, e3_2, e4_0, e4_1, e4_2, e5_0, e5_1⟩ := where0 t
  unfold iblk0
  show (rd S1x4096x2048 (V c main_arg3)) (((cfg0.win 3).blk t).view.emb y) = _
  refine congrArg ((rd S1x4096x2048 (V c main_arg3))) (funext fun a => Fin.ext ?_)
  exact (match a with
    | ⟨0, _⟩ => by show win0_3.index t (0 : Fin 3) + 1 * (y (0 : Fin 3)).val = (i (0 : Fin 3)).val; rw [h0, e3_0]; omega
    | ⟨1, _⟩ => by show win0_3.index t (1 : Fin 3) + 1 * (y (1 : Fin 3)).val = (i (1 : Fin 3)).val; rw [h1, e3_1]; omega
    | ⟨2, _⟩ => by show win0_3.index t (2 : Fin 3) + 1 * (y (2 : Fin 3)).val = (i (2 : Fin 3)).val; rw [h2, e3_2]; omega)

/-- Window 4's block at a point, read off its array. -/
theorem iblk0_4_at (c : Dev nD) (t : Fin cfg0.N) (y : S1x2048x1024.Idx) (i : S1x4096x2048.Idx) (h0 : (i (0 : Fin 3)).val = 0 + (y (0 : Fin 3)).val) (h1 : (i (1 : Fin 3)).val = 2048 + (y (1 : Fin 3)).val) (h2 : (i (2 : Fin 3)).val = t.val / 16 * 1024 + (y (2 : Fin 3)).val) :
    iblk0 V c 4 t y = (rd S1x4096x2048 (V c main_arg3)) i := by
  obtain ⟨e0_0, e0_1, e1_0, e1_1, e2_0, e2_1, e3_0, e3_1, e3_2, e4_0, e4_1, e4_2, e5_0, e5_1⟩ := where0 t
  unfold iblk0
  show (rd S1x4096x2048 (V c main_arg3)) (((cfg0.win 4).blk t).view.emb y) = _
  refine congrArg ((rd S1x4096x2048 (V c main_arg3))) (funext fun a => Fin.ext ?_)
  exact (match a with
    | ⟨0, _⟩ => by show win0_4.index t (0 : Fin 3) + 1 * (y (0 : Fin 3)).val = (i (0 : Fin 3)).val; rw [h0, e4_0]; omega
    | ⟨1, _⟩ => by show win0_4.index t (1 : Fin 3) + 1 * (y (1 : Fin 3)).val = (i (1 : Fin 3)).val; rw [h1, e4_1]; omega
    | ⟨2, _⟩ => by show win0_4.index t (2 : Fin 3) + 1 * (y (2 : Fin 3)).val = (i (2 : Fin 3)).val; rw [h2, e4_2]; omega)

/-- Every point writes output window 5 back. -/
theorem flush0_5_all : ∀ t : Fin cfg0.N, (cfg0.win 5).flush t = true :=
  (by decide +kernel : ∀ t : Fin grid0.N, win0_5.flush t = true)

/-- An index of the array is in a point's block iff each coordinate is in the block's range. -/
theorem mem0_5 (t : Fin cfg0.N) (i : S8192x2048.Idx) :
    i ∈ ((cfg0.win 5).blk t).view.set ↔ ∀ a : Fin 2, win0_5.index t a * S512x1024.size a ≤ (i a).val ∧ (i a).val < win0_5.index t a * S512x1024.size a + S512x1024.size a := by
  show i ∈ ((View.whole main_v0).slice (win0_5.rect t)).set ↔ _
  rw [View.set_slice_whole, Rect.mem_set_unit]
  exact Iff.rfl

/-- Every index of output window 5's array is in the block of a point that writes back. -/
theorem covered0_5 (i : S8192x2048.Idx) :
    ∃ t : Fin cfg0.N, (cfg0.win 5).flush t = true ∧ i ∈ ((cfg0.win 5).blk t).view.set := by
  have hi0 : (i 0).val < 8192 := (i 0).isLt
  have hi1 : (i 1).val < 2048 := (i 1).isLt
  have hN : cfg0.N = 32 := by decide
  refine ⟨⟨(i 1).val / 1024 * 16 + (i 0).val / 512, by rw [hN]; omega⟩, (flush0_5_all _), ?_⟩
  rw [mem0_5]
  obtain ⟨e0_0, e0_1, e1_0, e1_1, e2_0, e2_1, e3_0, e3_1, e3_2, e4_0, e4_1, e4_2, e5_0, e5_1⟩ := where0 ⟨(i 1).val / 1024 * 16 + (i 0).val / 512, by rw [hN]; omega⟩
  intro a
  match a with
  | ⟨0, _⟩ => show win0_5.index _ (0 : Fin 2) * 512 ≤ (i 0).val ∧ (i 0).val < win0_5.index _ (0 : Fin 2) * 512 + 512; rw [e5_0]; dsimp only; omega
  | ⟨1, _⟩ => show win0_5.index _ (1 : Fin 2) * 1024 ≤ (i 1).val ∧ (i 1).val < win0_5.index _ (1 : Fin 2) * 1024 + 1024; rw [e5_1]; dsimp only; omega

/-- The stream plus the two mixers' projected rows, as the region finds its arrays. -/
def G0_5 (c : Dev nD) : (⟨2, S8192x2048.size⟩ : Shape).Idx → EReal := fun i =>
  mix (rd S8192x2048 (V c main_arg0)) (rd S8192x2048 (V c main_arg1)) (rd S8192x2048 (V c main_arg2)) (rd S1x4096x2048 (V c main_arg3)) i

/-- What a point writes back to output window 5 is that function read through the block. -/
theorem flushed0_5 (c : Dev nD) (t : Fin cfg0.N) :
    (dat0 V c).flushed 5 t = ((cfg0.win 5).blk t).view.read (Elt Ideal) (G0_5 V c) := by
  obtain ⟨e0_0, e0_1, e1_0, e1_1, e2_0, e2_1, e3_0, e3_1, e3_2, e4_0, e4_1, e4_2, e5_0, e5_1⟩ := where0 t
  refine funext fun (y : S512x1024.Idx) => ?_
  have q0 : ((((cfg0.win 5).blk t).view.emb y : S8192x2048.Idx) 0).val = t.val % 16 * 512 + (y 0).val := by
    show win0_5.index t (0 : Fin 2) * 512 + 1 * (y 0).val = _
    rw [e5_0]; omega
  have q1 : ((((cfg0.win 5).blk t).view.emb y : S8192x2048.Idx) 1).val = t.val / 16 * 1024 + (y 1).val := by
    show win0_5.index t (1 : Fin 2) * 1024 + 1 * (y 1).val = _
    rw [e5_1]; omega
  show (dat0 V c).after 5 t y = G0_5 V c (((cfg0.win 5).blk t).view.emb y)
  generalize (((cfg0.win 5).blk t).view.emb y : S8192x2048.Idx) = i at q0 q1
  have b0 := idx2_lt0 y
  have b1 := idx2_lt1 y
  have hN : cfg0.N = 32 := by decide
  have ht : t.val < 32 := lt_of_lt_of_eq t.isLt hN
  rw [after0_5]
  rw [k0_pay3_at]
  unfold G0_5 mix
  refine congrArg₂ (· + ·) (iblk0_0_at V c t y i q0 q1) (congrArg₂ (· + ·) (Finset.sum_congr (M := EReal) rfl fun k _ => ?_) (Finset.sum_congr (M := EReal) rfl fun k _ => ?_))
  · refine congrArg₂ (· * ·) (iblk0_1_at V c t _ _ ?_ ?_) ((k0_pay1_at _ _).trans (iblk0_3_at V c t _ _ ?_ ?_ ?_))
    · exact q0
    · show k.val = 0 * 2048 + k.val; omega
    · rfl
    · show k.val = 0 + k.val; omega
    · exact q1
  · refine congrArg₂ (· * ·) (iblk0_2_at V c t _ _ ?_ ?_) ((k0_pay2_at _ _).trans (iblk0_4_at V c t _ _ ?_ ?_ ?_))
    · exact q0
    · show k.val = 0 * 2048 + k.val; omega
    · rfl
    · show 2048 + k.val = 2048 + k.val; omega
    · exact q1

/-- Output window 5's array at the region's exit. -/
theorem final0_5 (c : Dev nD) : (dat0 V c).arrAt 5 cfg0.N = G0_5 V c :=
  (dat0 V c).arrAt_eq_of_cover 5 _ (fun t _ => flushed0_5 V c t) covered0_5

end Cert.Kernel5Ideal.Hand

end
-- ==== Proof.P5Value1.lean ====
module

public import proofs.«01_k».proof.Proof.P5Region1
public import proofs.«01_k».proof.Proof.P5Pay

@[expose] public section

set_option maxRecDepth 16384

noncomputable section

namespace Cert.Kernel5Ideal.Hand

open Cert.Kernel5Ideal Cert.Kernel5Ideal.Gen Cert.Hand
open Idealize.ShloMosaic Idealize.ShloMosaic.TcCoe Idealize.ShloMosaic.ValueIdx Idealize.SL.Sem
open Idealize.ShloMosaic.Pipeline (Dat Cfg Window)

variable (V : (c : Dev nD) → Valuation τ sig (Elt Ideal))

/-- Where each window's block sits, at every point of the grid. -/
theorem where1 : ∀ t : Fin cfg1.N, win1_0.index t (0 : Fin 2) = t.val % 8 ∧ win1_0.index t (1 : Fin 2) = 0 ∧ win1_1.index t (0 : Fin 3) = 0 ∧ win1_1.index t (1 : Fin 3) = t.val / 8 * 1024 ∧ win1_1.index t (2 : Fin 3) = 0 ∧ win1_2.index t (0 : Fin 2) = t.val % 8 ∧ win1_2.index t (1 : Fin 2) = t.val / 8 :=
  (by decide +kernel : ∀ t : Fin grid1.N, win1_0.index t (0 : Fin 2) = t.val % 8 ∧ win1_0.index t (1 : Fin 2) = 0 ∧ win1_1.index t (0 : Fin 3) = 0 ∧ win1_1.index t (1 : Fin 3) = t.val / 8 * 1024 ∧ win1_1.index t (2 : Fin 3) = 0 ∧ win1_2.index t (0 : Fin 2) = t.val % 8 ∧ win1_2.index t (1 : Fin 2) = t.val / 8)

/-- Window 0's block at a point, read off its array. -/
theorem iblk1_0_at (c : Dev nD) (t : Fin cfg1.N) (y : S1024x2048.Idx) (i : S8192x2048.Idx) (h0 : (i (0 : Fin 2)).val = t.val % 8 * 1024 + (y (0 : Fin 2)).val) (h1 : (i (1 : Fin 2)).val = 0 * 2048 + (y (1 : Fin 2)).val) :
    iblk1 V c 0 t y = (rd S8192x2048 (V c main_arg4)) i := by
  obtain ⟨e0_0, e0_1, e1_0, e1_1, e1_2, e2_0, e2_1⟩ := where1 t
  unfold iblk1
  show (rd S8192x2048 (V c main_arg4)) (((cfg1.win 0).blk t).view.emb y) = _
  refine congrArg ((rd S8192x2048 (V c main_arg4))) (funext fun a => Fin.ext ?_)
  exact (match a with
    | ⟨0, _⟩ => by show win1_0.index t (0 : Fin 2) * 1024 + 1 * (y (0 : Fin 2)).val = (i (0 : Fin 2)).val; rw [h0, e0_0]; omega
    | ⟨1, _⟩ => by show win1_0.index t (1 : Fin 2) * 2048 + 1 * (y (1 : Fin 2)).val = (i (1 : Fin 2)).val; rw [h1, e0_1]; omega)

/-- Window 1's block at a point, read off its array. -/
theorem iblk1_1_at (c : Dev nD) (t : Fin cfg1.N) (y : S1x1024x2048.Idx) (i : S1x6160x2048.Idx) (h0 : (i (0 : Fin 3)).val = 0 + (y (0 : Fin 3)).val) (h1 : (i (1 : Fin 3)).val = t.val / 8 * 1024 + (y (1 : Fin 3)).val) (h2 : (i (2 : Fin 3)).val = 0 + (y (2 : Fin 3)).val) :
    iblk1 V c 1 t y = (rd S1x6160x2048 (V c main_v1)) i := by
  obtain ⟨e0_0, e0_1, e1_0, e1_1, e1_2, e2_0, e2_1⟩ := where1 t
  unfold iblk1
  show (rd S1x6160x2048 (V c main_v1)) (((cfg1.win 1).blk t).view.emb y) = _
  refine congrArg ((rd S1x6160x2048 (V c main_v1))) (funext fun a => Fin.ext ?_)
  exact (match a with
    | ⟨0, _⟩ => by show win1_1.index t (0 : Fin 3) + 1 * (y (0 : Fin 3)).val = (i (0 : Fin 3)).val; rw [h0, e1_0]; omega
    | ⟨1, _⟩ => by show win1_1.index t (1 : Fin 3) + 1 * (y (1 : Fin 3)).val = (i (1 : Fin 3)).val; rw [h1, e1_1]; omega
    | ⟨2, _⟩ => by show win1_1.index t (2 : Fin 3) + 1 * (y (2 : Fin 3)).val = (i (2 : Fin 3)).val; rw [h2, e1_2]; omega)

/-- Every point writes output window 2 back. -/
theorem flush1_2_all : ∀ t : Fin cfg1.N, (cfg1.win 2).flush t = true :=
  (by decide +kernel : ∀ t : Fin grid1.N, win1_2.flush t = true)

/-- An index of the array is in a point's block iff each coordinate is in the block's range. -/
theorem mem1_2 (t : Fin cfg1.N) (i : S8192x6144.Idx) :
    i ∈ ((cfg1.win 2).blk t).view.set ↔ ∀ a : Fin 2, win1_2.index t a * S1024x1024.size a ≤ (i a).val ∧ (i a).val < win1_2.index t a * S1024x1024.size a + S1024x1024.size a := by
  show i ∈ ((View.whole main_v2).slice (win1_2.rect t)).set ↔ _
  rw [View.set_slice_whole, Rect.mem_set_unit]
  exact Iff.rfl

/-- Every index of output window 2's array is in the block of a point that writes back. -/
theorem covered1_2 (i : S8192x6144.Idx) :
    ∃ t : Fin cfg1.N, (cfg1.win 2).flush t = true ∧ i ∈ ((cfg1.win 2).blk t).view.set := by
  have hi0 : (i 0).val < 8192 := (i 0).isLt
  have hi1 : (i 1).val < 6144 := (i 1).isLt
  have hN : cfg1.N = 48 := by decide
  refine ⟨⟨(i 1).val / 1024 * 8 + (i 0).val / 1024, by rw [hN]; omega⟩, (flush1_2_all _), ?_⟩
  rw [mem1_2]
  obtain ⟨e0_0, e0_1, e1_0, e1_1, e1_2, e2_0, e2_1⟩ := where1 ⟨(i 1).val / 1024 * 8 + (i 0).val / 1024, by rw [hN]; omega⟩
  intro a
  match a with
  | ⟨0, _⟩ => show win1_2.index _ (0 : Fin 2) * 1024 ≤ (i 0).val ∧ (i 0).val < win1_2.index _ (0 : Fin 2) * 1024 + 1024; rw [e2_0]; dsimp only; omega
  | ⟨1, _⟩ => show win1_2.index _ (1 : Fin 2) * 1024 ≤ (i 1).val ∧ (i 1).val < win1_2.index _ (1 : Fin 2) * 1024 + 1024; rw [e2_1]; dsimp only; omega

/-- The scaled queries, the keys and the values, as the region finds its arrays. -/
def G1_2 (c : Dev nD) : (⟨2, S8192x6144.size⟩ : Shape).Idx → EReal := fun i =>
  (∑ k : Fin 2048, rd S8192x2048 (V c main_arg4) (ix2 (i 0) k) * rd S1x6160x2048 (V c main_v1) (ix3 (0 : Fin 1) ⟨(i 1).val, by have := idx2_lt1 i; omega⟩ k)) * fscale (i 1).val

/-- What a point writes back to output window 2 is that function read through the block. -/
theorem flushed1_2 (c : Dev nD) (t : Fin cfg1.N) :
    (dat1 V c).flushed 2 t = ((cfg1.win 2).blk t).view.read (Elt Ideal) (G1_2 V c) := by
  obtain ⟨e0_0, e0_1, e1_0, e1_1, e1_2, e2_0, e2_1⟩ := where1 t
  refine funext fun (y : S1024x1024.Idx) => ?_
  have q0 : ((((cfg1.win 2).blk t).view.emb y : S8192x6144.Idx) 0).val = t.val % 8 * 1024 + (y 0).val := by
    show win1_2.index t (0 : Fin 2) * 1024 + 1 * (y 0).val = _
    rw [e2_0]; omega
  have q1 : ((((cfg1.win 2).blk t).view.emb y : S8192x6144.Idx) 1).val = t.val / 8 * 1024 + (y 1).val := by
    show win1_2.index t (1 : Fin 2) * 1024 + 1 * (y 1).val = _
    rw [e2_1]; omega
  show (dat1 V c).after 2 t y = G1_2 V c (((cfg1.win 2).blk t).view.emb y)
  generalize (((cfg1.win 2).blk t).view.emb y : S8192x6144.Idx) = i at q0 q1
  have b0 := idx2_lt0 y
  have b1 := idx2_lt1 y
  have hN : cfg1.N = 48 := by decide
  have ht : t.val < 48 := lt_of_lt_of_eq t.isLt hN
  rw [after1_2]
  rw [k1_pay2_at]
  have hc : (grid1.coords t 0).val = t.val / 8 % 6 := Pipeline.Grid.coords_val t 0 (by decide) rfl
  unfold G1_2 fscale
  refine congrArg₂ (· * ·) (Finset.sum_congr (M := EReal) rfl fun k _ => ?_) ?_
  · rw [k1_pay1_at]
    refine congrArg₂ (· * ·) (iblk1_0_at V c t _ _ ?_ ?_) (iblk1_1_at V c t _ _ ?_ ?_ ?_)
    · exact q0
    · show k.val = 0 * 2048 + k.val; omega
    · rfl
    · show (i 1).val = t.val / 8 * 1024 + (y 1).val; omega
    · show k.val = 0 + k.val; omega
  · by_cases h : (i 1).val < 2048
    · rw [if_pos h, if_pos (by omega)]
    · rw [if_neg h, if_neg (by omega)]

/-- Output window 2's array at the region's exit. -/
theorem final1_2 (c : Dev nD) : (dat1 V c).arrAt 2 cfg1.N = G1_2 V c :=
  (dat1 V c).arrAt_eq_of_cover 2 _ (fun t _ => flushed1_2 V c t) covered1_2

end Cert.Kernel5Ideal.Hand

end
-- ==== Proof.P5Value2.lean ====
module

public import proofs.«01_k».proof.Proof.P5Region2
public import proofs.«01_k».proof.Proof.P5Pay

@[expose] public section

set_option maxRecDepth 16384

noncomputable section

namespace Cert.Kernel5Ideal.Hand

open Cert.Kernel5Ideal Cert.Kernel5Ideal.Gen Cert.Hand
open Idealize.ShloMosaic Idealize.ShloMosaic.TcCoe Idealize.ShloMosaic.ValueIdx Idealize.SL.Sem
open Idealize.ShloMosaic.Pipeline (Dat Cfg Window)

variable (V : (c : Dev nD) → Valuation τ sig (Elt Ideal))

/-- Where each window's block sits, at every point of the grid. -/
theorem where2 : ∀ t : Fin cfg2.N, win2_0.index t (0 : Fin 2) = t.val % 8 ∧ win2_0.index t (1 : Fin 2) = t.val / 8 ∧ win2_1.index t (0 : Fin 2) = t.val % 8 ∧ win2_1.index t (1 : Fin 2) = 0 ∧ win2_2.index t (0 : Fin 3) = 0 ∧ win2_2.index t (1 : Fin 3) = 0 ∧ win2_2.index t (2 : Fin 3) = t.val / 8 * 1024 ∧ win2_3.index t (0 : Fin 2) = t.val % 8 ∧ win2_3.index t (1 : Fin 2) = t.val / 8 :=
  (by decide +kernel : ∀ t : Fin grid2.N, win2_0.index t (0 : Fin 2) = t.val % 8 ∧ win2_0.index t (1 : Fin 2) = t.val / 8 ∧ win2_1.index t (0 : Fin 2) = t.val % 8 ∧ win2_1.index t (1 : Fin 2) = 0 ∧ win2_2.index t (0 : Fin 3) = 0 ∧ win2_2.index t (1 : Fin 3) = 0 ∧ win2_2.index t (2 : Fin 3) = t.val / 8 * 1024 ∧ win2_3.index t (0 : Fin 2) = t.val % 8 ∧ win2_3.index t (1 : Fin 2) = t.val / 8)

/-- Window 0's block at a point, read off its array. -/
theorem iblk2_0_at (c : Dev nD) (t : Fin cfg2.N) (y : S1024x1024.Idx) (i : S8192x2048.Idx) (h0 : (i (0 : Fin 2)).val = t.val % 8 * 1024 + (y (0 : Fin 2)).val) (h1 : (i (1 : Fin 2)).val = t.val / 8 * 1024 + (y (1 : Fin 2)).val) :
    iblk2 V c 0 t y = (rd S8192x2048 (V c main_arg6)) i := by
  obtain ⟨e0_0, e0_1, e1_0, e1_1, e2_0, e2_1, e2_2, e3_0, e3_1⟩ := where2 t
  unfold iblk2
  show (rd S8192x2048 (V c main_arg6)) (((cfg2.win 0).blk t).view.emb y) = _
  refine congrArg ((rd S8192x2048 (V c main_arg6))) (funext fun a => Fin.ext ?_)
  exact (match a with
    | ⟨0, _⟩ => by show win2_0.index t (0 : Fin 2) * 1024 + 1 * (y (0 : Fin 2)).val = (i (0 : Fin 2)).val; rw [h0, e0_0]; omega
    | ⟨1, _⟩ => by show win2_0.index t (1 : Fin 2) * 1024 + 1 * (y (1 : Fin 2)).val = (i (1 : Fin 2)).val; rw [h1, e0_1]; omega)

/-- Window 1's block at a point, read off its array. -/
theorem iblk2_1_at (c : Dev nD) (t : Fin cfg2.N) (y : S1024x2048.Idx) (i : S8192x2048.Idx) (h0 : (i (0 : Fin 2)).val = t.val % 8 * 1024 + (y (0 : Fin 2)).val) (h1 : (i (1 : Fin 2)).val = 0 * 2048 + (y (1 : Fin 2)).val) :
    iblk2 V c 1 t y = (rd S8192x2048 (V c main_arg7)) i := by
  obtain ⟨e0_0, e0_1, e1_0, e1_1, e2_0, e2_1, e2_2, e3_0, e3_1⟩ := where2 t
  unfold iblk2
  show (rd S8192x2048 (V c main_arg7)) (((cfg2.win 1).blk t).view.emb y) = _
  refine congrArg ((rd S8192x2048 (V c main_arg7))) (funext fun a => Fin.ext ?_)
  exact (match a with
    | ⟨0, _⟩ => by show win2_1.index t (0 : Fin 2) * 1024 + 1 * (y (0 : Fin 2)).val = (i (0 : Fin 2)).val; rw [h0, e1_0]; omega
    | ⟨1, _⟩ => by show win2_1.index t (1 : Fin 2) * 2048 + 1 * (y (1 : Fin 2)).val = (i (1 : Fin 2)).val; rw [h1, e1_1]; omega)

/-- Window 2's block at a point, read off its array. -/
theorem iblk2_2_at (c : Dev nD) (t : Fin cfg2.N) (y : S1x2048x1024.Idx) (i : S1x2048x2048.Idx) (h0 : (i (0 : Fin 3)).val = 0 + (y (0 : Fin 3)).val) (h1 : (i (1 : Fin 3)).val = 0 + (y (1 : Fin 3)).val) (h2 : (i (2 : Fin 3)).val = t.val / 8 * 1024 + (y (2 : Fin 3)).val) :
    iblk2 V c 2 t y = (rd S1x2048x2048 (V c main_arg8)) i := by
  obtain ⟨e0_0, e0_1, e1_0, e1_1, e2_0, e2_1, e2_2, e3_0, e3_1⟩ := where2 t
  unfold iblk2
  show (rd S1x2048x2048 (V c main_arg8)) (((cfg2.win 2).blk t).view.emb y) = _
  refine congrArg ((rd S1x2048x2048 (V c main_arg8))) (funext fun a => Fin.ext ?_)
  exact (match a with
    | ⟨0, _⟩ => by show win2_2.index t (0 : Fin 3) + 1 * (y (0 : Fin 3)).val = (i (0 : Fin 3)).val; rw [h0, e2_0]; omega
    | ⟨1, _⟩ => by show win2_2.index t (1 : Fin 3) + 1 * (y (1 : Fin 3)).val = (i (1 : Fin 3)).val; rw [h1, e2_1]; omega
    | ⟨2, _⟩ => by show win2_2.index t (2 : Fin 3) + 1 * (y (2 : Fin 3)).val = (i (2 : Fin 3)).val; rw [h2, e2_2]; omega)

/-- Every point writes output window 3 back. -/
theorem flush2_3_all : ∀ t : Fin cfg2.N, (cfg2.win 3).flush t = true :=
  (by decide +kernel : ∀ t : Fin grid2.N, win2_3.flush t = true)

/-- An index of the array is in a point's block iff each coordinate is in the block's range. -/
theorem mem2_3 (t : Fin cfg2.N) (i : S8192x2048.Idx) :
    i ∈ ((cfg2.win 3).blk t).view.set ↔ ∀ a : Fin 2, win2_3.index t a * S1024x1024.size a ≤ (i a).val ∧ (i a).val < win2_3.index t a * S1024x1024.size a + S1024x1024.size a := by
  show i ∈ ((View.whole main_v3).slice (win2_3.rect t)).set ↔ _
  rw [View.set_slice_whole, Rect.mem_set_unit]
  exact Iff.rfl

/-- Every index of output window 3's array is in the block of a point that writes back. -/
theorem covered2_3 (i : S8192x2048.Idx) :
    ∃ t : Fin cfg2.N, (cfg2.win 3).flush t = true ∧ i ∈ ((cfg2.win 3).blk t).view.set := by
  have hi0 : (i 0).val < 8192 := (i 0).isLt
  have hi1 : (i 1).val < 2048 := (i 1).isLt
  have hN : cfg2.N = 16 := by decide
  refine ⟨⟨(i 1).val / 1024 * 8 + (i 0).val / 1024, by rw [hN]; omega⟩, (flush2_3_all _), ?_⟩
  rw [mem2_3]
  obtain ⟨e0_0, e0_1, e1_0, e1_1, e2_0, e2_1, e2_2, e3_0, e3_1⟩ := where2 ⟨(i 1).val / 1024 * 8 + (i 0).val / 1024, by rw [hN]; omega⟩
  intro a
  match a with
  | ⟨0, _⟩ => show win2_3.index _ (0 : Fin 2) * 1024 ≤ (i 0).val ∧ (i 0).val < win2_3.index _ (0 : Fin 2) * 1024 + 1024; rw [e3_0]; dsimp only; omega
  | ⟨1, _⟩ => show win2_3.index _ (1 : Fin 2) * 1024 ≤ (i 1).val ∧ (i 1).val < win2_3.index _ (1 : Fin 2) * 1024 + 1024; rw [e3_1]; dsimp only; omega

/-- The stream plus the projected attention, as the region finds its arrays. -/
def G2_3 (c : Dev nD) : (⟨2, S8192x2048.size⟩ : Shape).Idx → EReal := fun i =>
  fox (rd S8192x2048 (V c main_arg6)) (rd S8192x2048 (V c main_arg7)) (rd S1x2048x2048 (V c main_arg8)) i

/-- What a point writes back to output window 3 is that function read through the block. -/
theorem flushed2_3 (c : Dev nD) (t : Fin cfg2.N) :
    (dat2 V c).flushed 3 t = ((cfg2.win 3).blk t).view.read (Elt Ideal) (G2_3 V c) := by
  obtain ⟨e0_0, e0_1, e1_0, e1_1, e2_0, e2_1, e2_2, e3_0, e3_1⟩ := where2 t
  refine funext fun (y : S1024x1024.Idx) => ?_
  have q0 : ((((cfg2.win 3).blk t).view.emb y : S8192x2048.Idx) 0).val = t.val % 8 * 1024 + (y 0).val := by
    show win2_3.index t (0 : Fin 2) * 1024 + 1 * (y 0).val = _
    rw [e3_0]; omega
  have q1 : ((((cfg2.win 3).blk t).view.emb y : S8192x2048.Idx) 1).val = t.val / 8 * 1024 + (y 1).val := by
    show win2_3.index t (1 : Fin 2) * 1024 + 1 * (y 1).val = _
    rw [e3_1]; omega
  show (dat2 V c).after 3 t y = G2_3 V c (((cfg2.win 3).blk t).view.emb y)
  generalize (((cfg2.win 3).blk t).view.emb y : S8192x2048.Idx) = i at q0 q1
  have b0 := idx2_lt0 y
  have b1 := idx2_lt1 y
  have hN : cfg2.N = 16 := by decide
  have ht : t.val < 16 := lt_of_lt_of_eq t.isLt hN
  rw [after2_3]
  rw [k2_pay2_at]
  unfold G2_3 fox
  refine congrArg₂ (· + ·) (iblk2_0_at V c t y i q0 q1) (Finset.sum_congr (M := EReal) rfl fun k _ => ?_)
  · refine congrArg₂ (· * ·) (iblk2_1_at V c t _ _ ?_ ?_) ((k2_pay1_at _ _).trans (iblk2_2_at V c t _ _ ?_ ?_ ?_))
    · exact q0
    · show k.val = 0 * 2048 + k.val; omega
    · rfl
    · show k.val = 0 + k.val; omega
    · exact q1

/-- Output window 3's array at the region's exit. -/
theorem final2_3 (c : Dev nD) : (dat2 V c).arrAt 3 cfg2.N = G2_3 V c :=
  (dat2 V c).arrAt_eq_of_cover 3 _ (fun t _ => flushed2_3 V c t) covered2_3

end Cert.Kernel5Ideal.Hand

end
-- ==== Proof.P5KerValue.lean ====
module

public import proofs.«01_k».proof.Proof.P5Main
public import proofs.«01_k».proof.Proof.P5Value0
public import proofs.«01_k».proof.Proof.P5Value1
public import proofs.«01_k».proof.Proof.P5Value2

@[expose] public section

set_option maxRecDepth 16384

noncomputable section

namespace Cert.Kernel5Ideal.Hand

open Cert.Kernel5Ideal Cert.Kernel5Ideal.Gen Cert.Hand
open Idealize.ShloMosaic Idealize.ShloMosaic.TcCoe Idealize.ShloMosaic.ValueIdx Idealize.SL.Sem

variable (m : (ℓ : Loc nD τ sig) → Buf (Elt Ideal) ℓ) (c : Dev nD)

/-- The stream before the mixers, as launched. -/
abbrev a0 : S8192x2048.Idx → EReal := m ((c : Thread nD τ).loc main_arg0)
/-- The first mixer's rows, as launched. -/
abbrev a1 : S8192x2048.Idx → EReal := m ((c : Thread nD τ).loc main_arg1)
/-- The second mixer's rows, as launched. -/
abbrev a2 : S8192x2048.Idx → EReal := m ((c : Thread nD τ).loc main_arg2)
/-- The mixers' output weights, as launched. -/
abbrev a3 : S1x4096x2048.Idx → EReal := m ((c : Thread nD τ).loc main_arg3)
/-- The normalised rows, as launched. -/
abbrev a4 : S8192x2048.Idx → EReal := m ((c : Thread nD τ).loc main_arg4)
/-- The attention's first weights, as launched. -/
abbrev a5 : S1x2048x6160.Idx → EReal := m ((c : Thread nD τ).loc main_arg5)
/-- The stream before the attention, as launched. -/
abbrev a6 : S8192x2048.Idx → EReal := m ((c : Thread nD τ).loc main_arg6)
/-- The attention's rows, as launched. -/
abbrev a7 : S8192x2048.Idx → EReal := m ((c : Thread nD τ).loc main_arg7)
/-- The attention's output weights, as launched. -/
abbrev a8 : S1x2048x2048.Idx → EReal := m ((c : Thread nD τ).loc main_arg8)

/-- The kernel's first result: the stream plus the mixers' projected rows. -/
theorem mix_ker : rd S8192x2048 (V4 m (outs m) c main_v0) = mix (a0 m c) (a1 m c) (a2 m c) (a3 m c) :=
  (V4_of m (outs m) c main_v0 (by decide)).trans ((V3_of m (outs m) c main_v0 (by decide)).trans ((V2_of m (outs m) c main_v0 (by decide)).trans
    ((V1_v0 m c).trans (final0_5 (V0 m) c))))

/-- The transposed weights, as region 1 finds them. -/
theorem V2_wt (j : Fin 6160) (k : Fin 2048) : rd S1x6160x2048 (V2 m (outs m) c main_v1) (ix3 (0 : Fin 1) j k) = a5 m c (ix3 (0 : Fin 1) k j) := by
  have e : V2 m (outs m) c main_v1 = transpose S1x6160x2048 [0, 2, 1] (a5 m c) transposes_S1x2048x6160_S1x6160x2048_0_2_1 := by
    simp only [V2, hostOps1]; after_results_simp <;> rfl
  refine (congrFun e _).trans (transpose_apply _ _ _ _ _ fun b => ?_)
  match b with
  | ⟨0, _⟩ => rfl
  | ⟨1, _⟩ => rfl
  | ⟨2, _⟩ => rfl
theorem V2_arg4 : rd S8192x2048 (V2 m (outs m) c main_arg4) = a4 m c :=
  (V2_of m (outs m) c main_arg4 (by decide)).trans <| (V1_of m (outs m) c main_arg4 (by decide)).trans rfl
theorem V3_arg6 : rd S8192x2048 (V3 m (outs m) c main_arg6) = a6 m c :=
  (V3_of m (outs m) c main_arg6 (by decide)).trans <| (V2_of m (outs m) c main_arg6 (by decide)).trans <| (V1_of m (outs m) c main_arg6 (by decide)).trans rfl
theorem V3_arg7 : rd S8192x2048 (V3 m (outs m) c main_arg7) = a7 m c :=
  (V3_of m (outs m) c main_arg7 (by decide)).trans <| (V2_of m (outs m) c main_arg7 (by decide)).trans <| (V1_of m (outs m) c main_arg7 (by decide)).trans rfl
theorem V3_arg8 : rd S1x2048x2048 (V3 m (outs m) c main_arg8) = a8 m c :=
  (V3_of m (outs m) c main_arg8 (by decide)).trans <| (V2_of m (outs m) c main_arg8 (by decide)).trans <| (V1_of m (outs m) c main_arg8 (by decide)).trans rfl

/-- The kernel's second result: the scaled queries, the keys and the values. -/
theorem qkv_ker : rd S8192x6144 (V4 m (outs m) c main_v2) = qkv (a4 m c) (a5 m c) := by
  refine ((V4_of m (outs m) c main_v2 (by decide)).trans ((V3_v2 m c).trans (final1_2 (V2 m (outs m)) c))).trans (funext fun i => ?_)
  unfold G1_2 qkv
  rw [V2_arg4]
  exact congrArg (· * _) (Finset.sum_congr (M := EReal) rfl fun k _ => congrArg (_ * ·) (V2_wt m c _ k))

/-- The kernel's third result: the stream plus the projected attention. -/
theorem fox_ker : rd S8192x2048 (V4 m (outs m) c main_v3) = fox (a6 m c) (a7 m c) (a8 m c) := by
  refine ((V4_v3 m c).trans (final2_3 (V3 m (outs m)) c)).trans (funext fun i => ?_)
  unfold G2_3
  rw [V3_arg6, V3_arg7, V3_arg8]

end Cert.Kernel5Ideal.Hand

end
-- ==== Proof.P6Spec.lean ====
module

public import proofs.«01_k».proof.Proof.Spec

@[expose] public section

/-! # What the sixth program computes

The running sum of the forget gates' logarithms, and the parts of it that its two sides share. -/

noncomputable section

namespace Cert.Hand

open Idealize.ShloMosaic Idealize.ShloMosaic.ValueIdx

/-- The logarithm of the logistic function, in the form that both sides state. -/
def lsg (a : EReal) : EReal := -(max (-a) 0 + Ideal.log (1 + Ideal.exp (-(max (-a) (-(-a))))))

/-- The sum of the first `n` values of a finite sequence; past its end it adds nothing. -/
def psum {N : ℕ} (f : Fin N → EReal) (n : ℕ) : EReal := ∑ s ∈ Finset.range n, if h : s < N then f ⟨s, h⟩ else 0

/-- A sum over a first piece and a second piece. -/
theorem psum_add {N M : ℕ} (f : Fin N → EReal) (g : Fin M → EReal) (o n : ℕ) (hn : n ≤ M) (hN : o + n ≤ N)
    (hg : ∀ (k : Fin M) (h : o + k.val < N), k.val < n → g k = f ⟨o + k.val, h⟩) : psum f (o + n) = psum f o + psum g n := by
  unfold psum
  rw [Finset.sum_range_add]
  refine congrArg (_ + ·) (Finset.sum_congr rfl fun s hs => ?_)
  have hs' := Finset.mem_range.1 hs
  rw [dif_pos (show o + s < N by omega), dif_pos (show s < M by omega)]
  exact (hg ⟨s, by omega⟩ _ hs').symm

theorem psum_zero {N : ℕ} (f : Fin N → EReal) : psum f 0 = 0 := rfl

/-- A sum of everything under a mask of ones up to `r` and zeros after it is the sum of the first `r + 1`. -/
theorem sum_mask {N : ℕ} (f : Fin N → EReal) (r : Fin N) : (∑ k : Fin N, (if k.val ≤ r.val then 1 else 0) * f k) = psum f (r.val + 1) := by
  unfold psum
  have e : ∀ k : Fin N, (if k.val ≤ r.val then (1 : EReal) else 0) * f k
      = (fun s : ℕ => if s ≤ r.val then (if h : s < N then f ⟨s, h⟩ else 0) else 0) k.val := fun k => by
    by_cases h : k.val ≤ r.val
    · simp [h]
    · simp [h]
  rw [Finset.sum_congr rfl fun k _ => e k, Fin.sum_univ_eq_sum_range (fun s : ℕ => if s ≤ r.val then (if h : s < N then f ⟨s, h⟩ else 0) else 0) N,
    ← Finset.sum_filter]
  refine Finset.sum_congr (Finset.ext fun s => ?_) fun _ _ => rfl
  have := r.isLt
  simp only [Finset.mem_filter, Finset.mem_range]
  omega

/-- The sum of the terms of a window that ends at `j`, padded below, is the sum of the first `j + 1`. -/
theorem sum_window {N : ℕ} (f : Fin N → EReal) (L : ℕ) (hL : L + 1 = N) (j : Fin N) :
    (∑ n ∈ Finset.range N, if h : L ≤ j.val + n ∧ j.val + n - L < N then f ⟨j.val + n - L, h.2⟩ else 0) = psum f (j.val + 1) := by
  unfold psum
  have hj := j.isLt
  have e : N = (L - j.val) + (j.val + 1) := by omega
  conv_lhs => rw [show Finset.range N = Finset.range ((L - j.val) + (j.val + 1)) from congrArg _ e]
  rw [Finset.sum_range_add, Finset.sum_eq_zero, zero_add]
  · refine Finset.sum_congr rfl fun s hs => ?_
    have hs' := Finset.mem_range.1 hs
    rw [dif_pos (show L ≤ j.val + (L - j.val + s) ∧ j.val + (L - j.val + s) - L < N by omega), dif_pos (show s < N by omega)]
    exact congrArg f (Fin.ext (by show j.val + (L - j.val + s) - L = s; omega))
  · intro s hs
    have hs' := Finset.mem_range.1 hs
    rw [dif_neg (by omega)]

/-- The logarithm of a row's forget gate: of a normalised row's product with a column of weights, plus the gate's bias. -/
def fgate (x : (⟨2, ![8192, 2048]⟩ : Shape).Idx → EReal) (w : Fin 2048 → EReal) (wc : Fin 2048 → EReal) (b : EReal) (r : Fin 8192) : EReal :=
  lsg ((∑ k : Fin 2048, hnS (fun k => x (ix2 r k)) w k * wc k) + b)

/-- The running sum of a gate's logarithms up to a row, in units of the logarithm to base two. -/
def decay (x : (⟨2, ![8192, 2048]⟩ : Shape).Idx → EReal) (w : Fin 2048 → EReal) (wc : Fin 2048 → EReal) (b : EReal) (r : Fin 8192) : EReal :=
  psum (fgate x w wc b) (r.val + 1) * Ideal.ofBits .f32 0x3FB8AA3B#32

/-- The attention's sixteen gates' running sums. -/
def decays (x : (⟨2, ![8192, 2048]⟩ : Shape).Idx → EReal) (w : (⟨1, ![2048]⟩ : Shape).Idx → EReal)
    (wi : (⟨3, ![1, 2048, 6160]⟩ : Shape).Idx → EReal) (b : (⟨1, ![16]⟩ : Shape).Idx → EReal) (r : Fin 8192) (j : Fin 16) : EReal :=
  decay x (fun k => w (ix1 k)) (fun k => wi (ix3 (0 : Fin 1) k ⟨6144 + j.val, by omega⟩)) (b (ix1 j)) r

end Cert.Hand

end
-- ==== Proof.P6RefValue.lean ====
module

public import proofs.«01_k».proof.Proof.Gen.Reference6Ideal.Read
public import proofs.«01_k».proof.Proof.P6Spec
public import Idealize.ShloMosaic.Lib.IdealHost
public import Idealize.ShloMosaic.Lib.Pipeline.Value
public import Idealize.ShloMosaic.Lib.Routing.OpsOne

@[expose] public section

set_option maxRecDepth 16384

noncomputable section

namespace Cert.Reference6Ideal.Hand

open Cert.Reference6Ideal Cert.Reference6Ideal.Gen Cert.Reference6Ideal.Read Cert.Hand
open Idealize.ShloMosaic Idealize.ShloMosaic.TcCoe Idealize.ShloMosaic.ValueIdx

variable (x0 : (⟨S8192x2048, .f32⟩ : BufTy).Contents (Elt Ideal)) (x1 : (⟨S2048, .f32⟩ : BufTy).Contents (Elt Ideal)) (x2 : (⟨S1x2048x6160, .f32⟩ : BufTy).Contents (Elt Ideal)) (x3 : (⟨S16, .f32⟩ : BufTy).Contents (Elt Ideal))

/-- The root mean square of a row of the stream. -/
theorem rms_mix (i : S8192x1.Idx) : val_main_v7 (F := Ideal) x0 i = rms (fun k => rd S8192x2048 (x0) (ix2 (i 0) k)) := by
  rw [val_main_v7_apply, val_main_v6_apply, val_main_v4_apply, val_main_v5_apply, val_main_v3_apply, val_main_v2_apply, val_main_v1_apply,
    val_main_cst_apply, val_main_cst_0_apply, val_main_cst_1_apply]
  have e : ∀ k : Fin 2048, val_main_v0 (F := Ideal) x0 (idx_main_v1 (idx_main_v2 i) k)
      = rd S8192x2048 (x0) (ix2 (i 0) k) * rd S8192x2048 (x0) (ix2 (i 0) k) := fun k => by
    rw [val_main_v0_apply, show idx_main_v1 (idx_main_v2 i) k = ix2 (i 0) k from funext fun a => by match a with | ⟨0, _⟩ => rfl | ⟨1, _⟩ => rfl]
    rfl
  rw [Finset.sum_congr rfl fun k _ => e k]
  show Ideal.rsqrt (Ideal.div (Ideal.ofBits .f32 0x00000000#32 + _) _ + _) = _
  rw [Ideal.ofBits_zero_f32, zero_add]
  rfl

/-- The normalised rows. -/
theorem hn_mix (r : Fin 8192) (k : Fin 2048) : val_main_v12 (F := Ideal) x0 x1 (ix2 r k)
    = hnS (fun k => rd S8192x2048 (x0) (ix2 r k)) (fun k => rd S2048 x1 (ix1 k)) k := by
  rw [val_main_v12_apply, val_main_v9_apply, val_main_v8_apply, val_main_v11_apply, val_main_v10_apply, rms_mix]
  refine congrArg₂ (· * ·) rfl (congrArg x1 ?_)
  exact funext fun a => by match a with | ⟨0, _⟩ => rfl

/-- The reference's weights without their leading axis. -/
theorem wi_ref (k : Fin 2048) (j : Fin 6160) : val_main_v13 (F := Ideal) x2 (ix2 k j) = rd S1x2048x6160 x2 (ix3 (0 : Fin 1) k j) := by
  rw [val_main_v13_apply]
  refine congrArg x2 (funext fun a => Fin.ext ?_)
  have hk := k.isLt
  have hj := j.isLt
  match a with
  | ⟨0, _⟩ => rfl
  | ⟨1, _⟩ => show (k.val * 6160 + j.val) / 6160 % 2048 = k.val; omega
  | ⟨2, _⟩ => show (k.val * 6160 + j.val) % 6160 = j.val; omega

/-- The reference's gates before their logarithm. -/
theorem pre_ref (r : Fin 8192) (j : Fin 16) : val_main_v21 (F := Ideal) x0 x1 x2 x3 (ix2 r j)
    = (∑ k : Fin 2048, hnS (fun k => rd S8192x2048 (x0) (ix2 r k)) (fun k => rd S2048 x1 (ix1 k)) k * rd S1x2048x6160 x2 (ix3 (0 : Fin 1) k ⟨6144 + j.val, by omega⟩))
      + rd S16 x3 (ix1 j) := by
  rw [val_main_v21_apply, val_main_v18_apply, val_main_v20_apply, val_main_v19_apply, val_main_v14_apply]
  refine congrArg₂ (· + ·) (Finset.sum_congr rfl fun k _ => congrArg₂ (· * ·) ?_ ?_) (congrArg x3 ?_)
  · refine (congrArg (val_main_v12 (F := Ideal) x0 x1) ?_).trans (hn_mix x0 x1 r k)
    exact funext fun a => by match a with | ⟨0, _⟩ => rfl | ⟨1, _⟩ => rfl
  · refine (congrArg (val_main_v13 (F := Ideal) x2) ?_).trans (wi_ref x2 k ⟨6144 + j.val, by omega⟩)
    exact funext fun a => by match a with | ⟨0, _⟩ => rfl | ⟨1, _⟩ => rfl
  · exact funext fun a => by match a with | ⟨0, _⟩ => rfl

/-- The reference's logarithms of the gates: its test for a value that is no number never succeeds, as every value here equals itself. -/
theorem log_ref (i : S8192x16.Idx) : val_main_v22 (F := Ideal) x0 x1 x2 x3 i = lsg (val_main_v21 (F := Ideal) x0 x1 x2 x3 i) := by
  rw [val_main_v22_apply, val_main_call0_v1_apply, val_main_call0_call0_v4_apply, val_main_call0_call0_v11_apply, val_main_call0_call0_v10_apply, val_main_call0_call0_v9_apply,
    val_main_call0_call0_v8_apply, val_main_call0_call0_v7_apply, val_main_call0_call0_v3_apply, val_main_call0_call0_v2_apply, val_main_call0_call0_v1_apply,
    val_main_call0_call0_v0_apply, val_main_call0_v0_apply, val_main_call0_call0_cst_apply]
  generalize val_main_v21 (F := Ideal) x0 x1 x2 x3 i = a
  have hz : (FloatOps.ofBits .f32 0x00000000#32 : Ideal .f32) = (0 : EReal) := Ideal.ofBits_zero_f32
  rw [hz]
  have hc : ∀ b : EReal, FloatOps.cmpf (F := Ideal) (φ := .f32) .une b b = 0#1 := fun b => by
    show BitVec.ofBool (decide (b ≠ b)) = 0#1
    simp
  have hs : ∀ b : EReal, (FloatOps.subf (F := Ideal) (φ := .f32) b (0 : EReal)) = b := fun b => sub_zero b
  rw [hc, hs]
  rfl

/-- A left fold that adds is the start plus the sum. -/
theorem foldl_add {α : Type} (t : α → EReal) : ∀ (l : List α) (v : EReal), l.foldl (fun a n => a + t n) v = v + (l.map t).sum
  | [], v => (add_zero v).symm
  | n :: l, v => by rw [List.foldl_cons, foldl_add t l, List.map_cons, List.sum_cons, add_assoc]

/-- A list's sum over the first naturals is the sum over their range. -/
theorem sum_list_range (f : ℕ → EReal) (M : ℕ) : ((List.range M).map f).sum = ∑ n ∈ Finset.range M, f n := by
  induction M with
  | zero => rfl
  | succ M ih => rw [List.range_succ, List.map_append, List.sum_append, ih, Finset.sum_range_succ, List.map_singleton, List.sum_singleton]

/-- A running sum down the rows of a matrix, as it prints: a window of the whole height, padded below by one less. -/
theorem cumsum_at {R L C : ℕ} (hR : L + 1 = R) (x : (⟨2, ![R, C]⟩ : Shape).Idx → EReal)
    (h : (⟨2, ![R, C]⟩ : Shape).ReduceWindows (![R, 1] : Fin 2 → Nat) ![1, 1] ![L, 0] ![0, 0] ⟨2, ![R, C]⟩) (j : Fin R) (c : Fin C) :
    Ideal.hostReduceWindowAdd (s := ⟨2, ![R, C]⟩) ![R, 1] ![1, 1] ![L, 0] ![0, 0] h x 0 (ix2 j c) = psum (fun n => x (ix2 n c)) (j.val + 1) := by
  have hj := j.isLt
  have hc := c.isLt
  unfold Ideal.hostReduceWindowAdd Host.reduceWindow
  refine (foldl_add _ _ _).trans ?_
  rw [zero_add]
  refine (congrArg List.sum (List.map_congr_left (g := fun n : Fin (⟨2, ![R, 1]⟩ : Shape).numel =>
      (fun n : ℕ => if h : L ≤ j.val + n ∧ j.val + n - L < R then x (ix2 ⟨j.val + n - L, h.2⟩ c) else 0) n.val) fun n _ => ?_)).trans ?_
  · have hw0 : ((⟨2, ![R, 1]⟩ : Shape).rowMajor.symm n 0).val = n.val := by rw [Routing.symm_col]; rfl
    have hw1 : ((⟨2, ![R, 1]⟩ : Shape).rowMajor.symm n 1).val = 0 := by rw [Routing.symm_col]; rfl
    dsimp only
    split
    · next hin =>
      have h0 := hin 0
      change L ≤ j.val * 1 + ((⟨2, ![R, 1]⟩ : Shape).rowMajor.symm n 0).val ∧ j.val * 1 + ((⟨2, ![R, 1]⟩ : Shape).rowMajor.symm n 0).val - L < R at h0
      rw [hw0, Nat.mul_one] at h0
      rw [dif_pos h0]
      refine congrArg x (funext fun a => Fin.ext ?_)
      match a with
      | ⟨0, _⟩ =>
        show j.val * 1 + ((⟨2, ![R, 1]⟩ : Shape).rowMajor.symm n 0).val - L = j.val + n.val - L
        rw [hw0, Nat.mul_one]
      | ⟨1, _⟩ =>
        show c.val * 1 + ((⟨2, ![R, 1]⟩ : Shape).rowMajor.symm n 1).val - 0 = c.val
        rw [hw1]
        omega
    · next hin =>
      rw [dif_neg fun hle => hin fun a => by
        match a with
        | ⟨0, _⟩ =>
          show L ≤ j.val * 1 + ((⟨2, ![R, 1]⟩ : Shape).rowMajor.symm n 0).val ∧ j.val * 1 + ((⟨2, ![R, 1]⟩ : Shape).rowMajor.symm n 0).val - L < R
          rw [hw0, Nat.mul_one]
          exact hle
        | ⟨1, _⟩ =>
          show 0 ≤ c.val * 1 + ((⟨2, ![R, 1]⟩ : Shape).rowMajor.symm n 1).val ∧ c.val * 1 + ((⟨2, ![R, 1]⟩ : Shape).rowMajor.symm n 1).val - 0 < C
          rw [hw1]
          omega]
  rw [Routing.map_finRange_val _ (fun n : ℕ => if h : L ≤ j.val + n ∧ j.val + n - L < R then x (ix2 ⟨j.val + n - L, h.2⟩ c) else 0), sum_list_range,
    show (⟨2, ![R, 1]⟩ : Shape).numel = R from Routing.numel_col R]
  exact sum_window (fun n => x (ix2 n c)) L hR j

/-- The reference's running sums. -/
theorem sum_ref (r : Fin 8192) (j : Fin 16) : val_main_v23 (F := Ideal) x0 x1 x2 x3 (ix2 r j)
    = psum (fun n => rd S8192x16 (val_main_v22 (F := Ideal) x0 x1 x2 x3) (ix2 n j)) (r.val + 1) := by
  unfold val_main_v23
  generalize val_main_v22 (F := Ideal) x0 x1 x2 x3 = y
  have hv : val_main_call1_call0_v0 (F := Ideal) (Shape.Idx.first h_S_) = (0 : EReal) := by
    rw [val_main_call1_call0_v0_apply, val_main_call1_call0_cst_apply]
    exact Ideal.ofBits_zero_f32
  unfold Host.reduceWindowAdd
  rw [hv]
  exact cumsum_at (R := 8192) (L := 8191) (C := 16) rfl y reduceWindows_S8192x16_S8192x16_w8192s1p8191_0_w1s1p0_0 r j

/-- The reference's scaled sums. -/
theorem scaled_ref (r : Fin 8192) (j : Fin 16) : val_main_v25 (F := Ideal) x0 x1 x2 x3 (ix2 r j) = decays (rd S8192x2048 x0) (rd S2048 x1) (rd S1x2048x6160 x2) (rd S16 x3) r j := by
  rw [val_main_v25_apply, val_main_v24_apply, val_main_cst_2_apply, sum_ref]
  have e : ∀ n : Fin 8192, rd S8192x16 (val_main_v22 (F := Ideal) x0 x1 x2 x3) (ix2 n j)
      = fgate (rd S8192x2048 x0) (fun k => rd S2048 x1 (ix1 k)) (fun k => rd S1x2048x6160 x2 (ix3 (0 : Fin 1) k ⟨6144 + j.val, by omega⟩)) (rd S16 x3 (ix1 j)) n := fun n =>
    (log_ref x0 x1 x2 x3 _).trans (congrArg lsg (pre_ref x0 x1 x2 x3 n j))
  rw [funext e]
  rfl

/-- The reference's first result. -/
theorem decay_ref : val_main_v25 (F := Ideal) x0 x1 x2 x3 = fun i : S8192x16.Idx => decays (rd S8192x2048 x0) (rd S2048 x1) (rd S1x2048x6160 x2) (rd S16 x3) (i 0) (i 1) :=
  funext fun (i : S8192x16.Idx) => (congrArg (val_main_v25 (F := Ideal) x0 x1 x2 x3) (eq_ix2 i)).trans (scaled_ref x0 x1 x2 x3 (i 0) (i 1))

/-- The reference's second result: the same sums, turned. -/
theorem turned_ref : val_main_v27 (F := Ideal) x0 x1 x2 x3 = fun i : S16x1x8192.Idx => decays (rd S8192x2048 x0) (rd S2048 x1) (rd S1x2048x6160 x2) (rd S16 x3) (i 2) (i 0) := by
  refine funext fun (i : S16x1x8192.Idx) => (val_main_v27_apply x0 x1 x2 x3 i).trans ((val_main_v26_apply x0 x1 x2 x3 _).trans ?_)
  rw [decay_ref]
  have h0 : (i 0).val < 16 := (i 0).isLt
  have h1 : (i 1).val < 1 := (i 1).isLt
  have h2 : (i 2).val < 8192 := (i 2).isLt
  refine congrArg₂ (decays _ _ _ _) (Fin.ext ?_) (Fin.ext ?_)
  · show (((i 0).val * 1 + (i 1).val) * 8192 + (i 2).val) % 8192 = (i 2).val; omega
  · show (((i 0).val * 1 + (i 1).val) * 8192 + (i 2).val) / 8192 = (i 0).val; omega

/-- The reference's third result. -/
theorem rows_ref : val_main_v28 (F := Ideal) x0 x1 = fun i : S8192x2048.Idx => hnS (fun k => rd S8192x2048 x0 (ix2 (i 0) k)) (fun k => rd S2048 x1 (ix1 k)) (i 1) := by
  refine funext fun (i : S8192x2048.Idx) => (val_main_v28_apply x0 x1 i).trans ?_
  exact (congrArg (val_main_v12 (F := Ideal) x0 x1) (eq_ix2 i)).trans (hn_mix x0 x1 (i 0) (i 1))

end Cert.Reference6Ideal.Hand

end
-- ==== Proof.P6Pay.lean ====
module

public import proofs.«01_k».proof.Proof.Gen.Kernel6Ideal.Skeleton
public import proofs.«01_k».proof.Proof.Pay
public import proofs.«01_k».proof.Proof.P6Spec
public import Idealize.ShloMosaic.Lib.IdealHost

@[expose] public section

set_option maxRecDepth 16384

noncomputable section

namespace Cert.Kernel6Ideal.Hand

open Cert.Kernel6Ideal Cert.Kernel6Ideal.Gen Cert.Hand
open Idealize.ShloMosaic Idealize.ShloMosaic.ValueIdx

/-- The cast rows of the weights, at an index. -/
theorem k0_pay10_at (v : Vec Ideal S1x128x2048 .f32) (y : S128x2048.Idx) :
    k0_pay10 (F := Ideal) v y = v (ix3 (0 : Fin 1) (y 0) (y 1)) := by
  unfold k0_pay10
  simp only [shapeCast_self]
  exact squeeze_at (A := 128) (B := 2048) v _ y

/-- The normalised rows, at an index. -/
theorem k0_pay11_at (x : Vec Ideal S1024x2048 .f32) (w : Vec Ideal S1x2048 .f32) (y : S1024x2048.Idx) :
    k0_pay11 (F := Ideal) x w y = hnS (fun k => x (ix2 (y 0) k)) (fun k => w (ix2 (0 : Fin 1) k)) (y 1) :=
  Cert.KernelIdeal.Hand.k0_pay3_at x w y

/-- The negated gates, at an index. -/
theorem k0_pay12_at (x : Vec Ideal S1024x2048 .f32) (w : Vec Ideal S1x2048 .f32) (a : Vec Ideal S128x2048 .bf16) (b : Vec Ideal S1x128 .f32) (r : Fin 1024) (j : Fin 128) :
    k0_pay12 (F := Ideal) x w a b (ix2 r j)
      = -((∑ k : Fin 2048, hnS (fun k => x (ix2 r k)) (fun k => w (ix2 (0 : Fin 1) k)) k * a (ix2 j k)) + b (ix2 (0 : Fin 1) j)) := by
  have e := matmul_nt_at (M := 1024) (K := 2048) (N := 128) (φ₁ := .bf16) (φ₂ := .bf16) (k0_pay11 (F := Ideal) x w) a (ix2 r j)
  have eb : broadcastTo S1024x128 (shapeCast S1x128 b shapeCasts_S1x128_S1x128) broadcasts_S1x128_S1024x128 (ix2 r j) = b (ix2 (0 : Fin 1) j) := by
    rw [shapeCast_self]
    refine broadcastTo_apply b _ _ _ fun a => ?_
    match a with
    | ⟨0, _⟩ => rfl
    | ⟨1, _⟩ => rfl
  show Ideal.ofBits .f32 0x00000000#32 - (_ + broadcastTo S1024x128 (shapeCast S1x128 b shapeCasts_S1x128_S1x128) broadcasts_S1x128_S1024x128 (ix2 r j)) = _
  rw [Ideal.ofBits_zero_f32, zero_sub, eb]
  refine congrArg (fun s => -(s + b (ix2 (0 : Fin 1) j))) (e.trans ?_)
  exact Finset.sum_congr (M := EReal) rfl fun k _ => congrArg (· * _) (k0_pay11_at x w _)

/-- The gates' logarithms of a block. -/
def lf (x : Vec Ideal S1024x2048 .f32) (w : Vec Ideal S1x2048 .f32) (a : Vec Ideal S128x2048 .bf16) (b : Vec Ideal S1x128 .f32) : FVec Ideal S1024x128 .f32 :=
  k0_pay15 (k0_pay13 x w a b) (k0_pay14 x w a b) (FloatOps.ofBits .f32 0#32)

/-- The gates' logarithms of a block, at an index. -/
theorem lf_at (x : Vec Ideal S1024x2048 .f32) (w : Vec Ideal S1x2048 .f32) (a : Vec Ideal S128x2048 .bf16) (b : Vec Ideal S1x128 .f32) (r : Fin 1024) (j : Fin 128) :
    lf x w a b (ix2 r j) = lsg ((∑ k : Fin 2048, hnS (fun k => x (ix2 r k)) (fun k => w (ix2 (0 : Fin 1) k)) k * a (ix2 j k)) + b (ix2 (0 : Fin 1) j)) := by
  have h := k0_pay12_at x w a b r j
  unfold lf k0_pay15 k0_pay13 k0_pay14
  show Ideal.ofBits .f32 0x00000000#32 - (max (k0_pay12 x w a b (ix2 r j)) (Ideal.ofBits .f32 0x00000000#32)
    + Ideal.log (Ideal.ofBits .f32 0x3F800000#32 + Ideal.exp (Ideal.ofBits .f32 0#32 - max (k0_pay12 x w a b (ix2 r j)) (-(k0_pay12 x w a b (ix2 r j)))))) = _
  rw [h, Ideal.ofBits_zero_f32, Ideal.ofBits_one_f32, zero_sub, zero_sub]
  rfl

/-- The lower triangle of ones, at an index. -/
theorem tri_at (r k : Fin 128) : k0_pay16 (F := Ideal) (ix2 r k) = if k.val ≤ r.val then (1 : EReal) else 0 := by
  have hw : ∀ (r k : Fin 128), (((IntOp.cmpi .sge (BitVec.ofNat 32 r.val) (BitVec.ofNat 32 k.val)).setWidth 32 : BitVec 32).toInt) = if k.val ≤ r.val then 1 else 0 := by
    decide +kernel
  have e0 : iota .tc S128x128 32 [0] iota_S128x128_d0_w32 (ix2 r k) = BitVec.ofNat 32 r.val := iota_single_apply _ _ _ _ _ _
  have e1 : iota .tc S128x128 32 [1] iota_S128x128_d1_w32 (ix2 r k) = BitVec.ofNat 32 k.val := iota_single_apply _ _ _ _ _ _
  show ((((IntOp.cmpi .sge (iota .tc S128x128 32 [0] iota_S128x128_d0_w32 (ix2 r k)) (iota .tc S128x128 32 [1] iota_S128x128_d1_w32 (ix2 r k))).setWidth 32 : BitVec 32).toInt : ℝ) : EReal) = _
  rw [e0, e1, hw]
  split <;> simp

/-- One slab of 128 rows of running sums: the triangle times the slab's logarithms, plus the carried row. -/
def cs (o : ℕ) (h : S1024x128.Slices ![o, 0] S128x128) (g : FVec Ideal S1024x128 .f32) (c : FVec Ideal S1x128 .f32) : FVec Ideal S128x128 .f32 :=
  addf (matmul dot_S128x128_S128x128_S128x128_1_0_0_1_n_n (some .fp32) (k0_pay16 (F := Ideal)) (extractStridedSlice S128x128 ![o, 0] g h) (constant S128x128 .f32 0x00000000#32))
    (broadcastTo S128x128 c broadcasts_S1x128_S128x128)

/-- A slab's last row. -/
def lastRow (s : FVec Ideal S128x128 .f32) : FVec Ideal S1x128 .f32 := extractStridedSlice S1x128 ![127, 0] s slices_S128x128_o127_0_S1x128

/-- A column of a block. -/
def colOf (g : S1024x128.Idx → EReal) (j : Fin 128) : Fin 1024 → EReal := fun n => g (ix2 n j)

/-- A slab's running sums, from the carried row's. -/
theorem cs_at (o : ℕ) (h : S1024x128.Slices ![o, 0] S128x128) (g : FVec Ideal S1024x128 .f32) (c : FVec Ideal S1x128 .f32) (c0 : Fin 128 → EReal) (ho : o + 128 ≤ 1024)
    (hc : ∀ j : Fin 128, c (ix2 (0 : Fin 1) j) = psum (colOf g j) o + c0 j) (r j : Fin 128) :
    cs o h g c (ix2 r j) = psum (colOf g j) (o + (r.val + 1)) + c0 j := by
  have eb : broadcastTo S128x128 c broadcasts_S1x128_S128x128 (ix2 r j) = c (ix2 (0 : Fin 1) j) := by
    refine broadcastTo_apply c _ _ _ fun a => ?_
    match a with
    | ⟨0, _⟩ => rfl
    | ⟨1, _⟩ => rfl
  have es : ∀ k : Fin 128, extractStridedSlice S128x128 ![o, 0] g h (ix2 k j) = g (ix2 (⟨o + k.val, by omega⟩ : Fin 1024) j) := fun k => by
    refine extractStridedSlice_apply ![o, 0] g h _ _ fun a => ?_
    match a with
    | ⟨0, _⟩ => rfl
    | ⟨1, _⟩ => show j.val = 0 + j.val; omega
  have em : matmul dot_S128x128_S128x128_S128x128_1_0_0_1_n_n (some .fp32) (k0_pay16 (F := Ideal)) (extractStridedSlice S128x128 ![o, 0] g h) (constant S128x128 .f32 0x00000000#32) (ix2 r j)
      = psum (fun k : Fin 128 => g (ix2 (⟨o + k.val, by omega⟩ : Fin 1024) j)) (r.val + 1) := by
    refine (Ideal.matmul_plain_apply (M := 128) (K := 128) (N := 128) (some .fp32) (k0_pay16 (F := Ideal)) (extractStridedSlice S128x128 ![o, 0] g h) _ r j).trans ?_
    show Ideal.ofBits .f32 0x00000000#32 + _ = _
    rw [Ideal.ofBits_zero_f32, zero_add, ← sum_mask]
    exact Finset.sum_congr (M := EReal) rfl fun k _ => congrArg₂ (· * ·) (tri_at r k) (es k)
  have ha : psum (colOf g j) (o + (r.val + 1)) = psum (colOf g j) o + psum (fun k : Fin 128 => g (ix2 (⟨o + k.val, by omega⟩ : Fin 1024) j)) (r.val + 1) :=
    psum_add _ _ o (r.val + 1) (by omega) (by omega) fun k _ _ => rfl
  show matmul dot_S128x128_S128x128_S128x128_1_0_0_1_n_n (some .fp32) (k0_pay16 (F := Ideal)) (extractStridedSlice S128x128 ![o, 0] g h) (constant S128x128 .f32 0x00000000#32) (ix2 r j)
    + broadcastTo S128x128 c broadcasts_S1x128_S128x128 (ix2 r j) = _
  rw [em, eb, hc, ha, add_assoc, add_left_comm]

/-- A slab's last row carries the running sums past it. -/
theorem last_at (o : ℕ) (g : FVec Ideal S1024x128 .f32) (s : FVec Ideal S128x128 .f32) (c0 : Fin 128 → EReal)
    (hs : ∀ r j : Fin 128, s (ix2 r j) = psum (colOf g j) (o + (r.val + 1)) + c0 j) (j : Fin 128) :
    lastRow s (ix2 (0 : Fin 1) j) = psum (colOf g j) (o + 128) + c0 j := by
  unfold lastRow
  refine (extractStridedSlice_apply ![127, 0] s _ _ (ix2 (127 : Fin 128) j) fun a => ?_).trans (hs 127 j)
  match a with
  | ⟨0, _⟩ => rfl
  | ⟨1, _⟩ => show j.val = 0 + j.val; omega

variable (u v : FVec Ideal S1024x128 .f32) (z : Ideal .f32) (q : Vec Ideal S1x128 .f32)

/-- The eight slabs, chained. -/
def s0 (g : FVec Ideal S1024x128 .f32) (q : FVec Ideal S1x128 .f32) : FVec Ideal S128x128 .f32 := cs 0 slices_S1024x128_o0_0_S128x128 g q
def s1 (g : FVec Ideal S1024x128 .f32) (q : FVec Ideal S1x128 .f32) : FVec Ideal S128x128 .f32 := cs 128 slices_S1024x128_o128_0_S128x128 g (lastRow (s0 g q))
def s2 (g : FVec Ideal S1024x128 .f32) (q : FVec Ideal S1x128 .f32) : FVec Ideal S128x128 .f32 := cs 256 slices_S1024x128_o256_0_S128x128 g (lastRow (s1 g q))
def s3 (g : FVec Ideal S1024x128 .f32) (q : FVec Ideal S1x128 .f32) : FVec Ideal S128x128 .f32 := cs 384 slices_S1024x128_o384_0_S128x128 g (lastRow (s2 g q))
def s4 (g : FVec Ideal S1024x128 .f32) (q : FVec Ideal S1x128 .f32) : FVec Ideal S128x128 .f32 := cs 512 slices_S1024x128_o512_0_S128x128 g (lastRow (s3 g q))
def s5 (g : FVec Ideal S1024x128 .f32) (q : FVec Ideal S1x128 .f32) : FVec Ideal S128x128 .f32 := cs 640 slices_S1024x128_o640_0_S128x128 g (lastRow (s4 g q))
def s6 (g : FVec Ideal S1024x128 .f32) (q : FVec Ideal S1x128 .f32) : FVec Ideal S128x128 .f32 := cs 768 slices_S1024x128_o768_0_S128x128 g (lastRow (s5 g q))
def s7 (g : FVec Ideal S1024x128 .f32) (q : FVec Ideal S1x128 .f32) : FVec Ideal S128x128 .f32 := cs 896 slices_S1024x128_o896_0_S128x128 g (lastRow (s6 g q))

theorem s0_at (g : FVec Ideal S1024x128 .f32) (r j : Fin 128) : s0 g q (ix2 r j) = psum (colOf g j) (0 + (r.val + 1)) + q (ix2 (0 : Fin 1) j) :=
  cs_at 0 _ g q (fun j => q (ix2 (0 : Fin 1) j)) (by omega) (fun j => by rw [psum_zero, zero_add]) r j
theorem s1_at (g : FVec Ideal S1024x128 .f32) (r j : Fin 128) : s1 g q (ix2 r j) = psum (colOf g j) (128 + (r.val + 1)) + q (ix2 (0 : Fin 1) j) :=
  cs_at 128 _ g _ (fun j => q (ix2 (0 : Fin 1) j)) (by omega) (last_at 0 g _ _ (s0_at q g)) r j
theorem s2_at (g : FVec Ideal S1024x128 .f32) (r j : Fin 128) : s2 g q (ix2 r j) = psum (colOf g j) (256 + (r.val + 1)) + q (ix2 (0 : Fin 1) j) :=
  cs_at 256 _ g _ (fun j => q (ix2 (0 : Fin 1) j)) (by omega) (last_at 128 g _ _ (s1_at q g)) r j
theorem s3_at (g : FVec Ideal S1024x128 .f32) (r j : Fin 128) : s3 g q (ix2 r j) = psum (colOf g j) (384 + (r.val + 1)) + q (ix2 (0 : Fin 1) j) :=
  cs_at 384 _ g _ (fun j => q (ix2 (0 : Fin 1) j)) (by omega) (last_at 256 g _ _ (s2_at q g)) r j
theorem s4_at (g : FVec Ideal S1024x128 .f32) (r j : Fin 128) : s4 g q (ix2 r j) = psum (colOf g j) (512 + (r.val + 1)) + q (ix2 (0 : Fin 1) j) :=
  cs_at 512 _ g _ (fun j => q (ix2 (0 : Fin 1) j)) (by omega) (last_at 384 g _ _ (s3_at q g)) r j
theorem s5_at (g : FVec Ideal S1024x128 .f32) (r j : Fin 128) : s5 g q (ix2 r j) = psum (colOf g j) (640 + (r.val + 1)) + q (ix2 (0 : Fin 1) j) :=
  cs_at 640 _ g _ (fun j => q (ix2 (0 : Fin 1) j)) (by omega) (last_at 512 g _ _ (s4_at q g)) r j
theorem s6_at (g : FVec Ideal S1024x128 .f32) (r j : Fin 128) : s6 g q (ix2 r j) = psum (colOf g j) (768 + (r.val + 1)) + q (ix2 (0 : Fin 1) j) :=
  cs_at 768 _ g _ (fun j => q (ix2 (0 : Fin 1) j)) (by omega) (last_at 640 g _ _ (s5_at q g)) r j
theorem s7_at (g : FVec Ideal S1024x128 .f32) (r j : Fin 128) : s7 g q (ix2 r j) = psum (colOf g j) (896 + (r.val + 1)) + q (ix2 (0 : Fin 1) j) :=
  cs_at 896 _ g _ (fun j => q (ix2 (0 : Fin 1) j)) (by omega) (last_at 768 g _ _ (s6_at q g)) r j

/-- The row carried to the next block. -/
theorem carry_at (g : FVec Ideal S1024x128 .f32) (j : Fin 128) : lastRow (s7 g q) (ix2 (0 : Fin 1) j) = psum (colOf g j) 1024 + q (ix2 (0 : Fin 1) j) :=
  last_at 896 g _ (fun j => q (ix2 (0 : Fin 1) j)) (s7_at q g) j

/-! The printed values are the slabs. -/

theorem pay17_eq : k0_pay17 u v z q = s0 (k0_pay15 u v z) q := rfl
theorem pay20_eq : k0_pay20 u v z q = s1 (k0_pay15 u v z) q := rfl
theorem pay23_eq : k0_pay23 u v z q = s2 (k0_pay15 u v z) q := rfl
theorem pay26_eq (g : FVec Ideal S1024x128 .f32) : k0_pay26 g (k0_pay16 (F := Ideal)) (s2 g q) = s3 g q := rfl
theorem pay29_eq (g : FVec Ideal S1024x128 .f32) : k0_pay29 g (k0_pay16 (F := Ideal)) (s2 g q) = s4 g q := rfl
theorem pay32_eq (g : FVec Ideal S1024x128 .f32) : k0_pay32 g (k0_pay16 (F := Ideal)) (s2 g q) = s5 g q := rfl
theorem pay33_eq (g : FVec Ideal S1024x128 .f32) : k0_pay33 g (k0_pay16 (F := Ideal)) (s2 g q) = lastRow (s5 g q) := rfl
theorem pay2_eq (g : FVec Ideal S1024x128 .f32) : k0_pay2 g (k0_pay16 (F := Ideal)) (lastRow (s5 g q)) = s6 g q := rfl
theorem pay5_eq (g : FVec Ideal S1024x128 .f32) : k0_pay5 g (k0_pay16 (F := Ideal)) (lastRow (s5 g q)) = s7 g q := rfl
theorem pay8_eq (g : FVec Ideal S1024x128 .f32) : k0_pay8 g (k0_pay16 (F := Ideal)) (lastRow (s5 g q)) = lastRow (s7 g q) :=
  shapeCast_self (lastRow (s7 g q)) _
theorem pay9_at (j : Fin 128) : k0_pay9 (F := Ideal) (ix2 (0 : Fin 1) j) = 0 := by
  refine (congrFun (shapeCast_self (broadcast S1x128 (Scalar.ofBits (F := Ideal) .f32 0x00000000#32)) shapeCasts_S1x128_S1x128) _).trans ?_
  exact Ideal.ofBits_zero_f32

/-- A slab in units of the logarithm to base two. -/
def sc (s : FVec Ideal S128x128 .f32) : FVec Ideal S128x128 .f32 := mulf s (broadcast S128x128 (Scalar.ofBits .f32 0x3FB8AA3B#32))
/-- Such a slab, transposed. -/
def sct (s : FVec Ideal S128x128 .f32) : FVec Ideal S128x128 .f32 := transpose S128x128 [1, 0] (sc s) transposes_S128x128_p1_0_S128x128

theorem sc_at (s : FVec Ideal S128x128 .f32) (y : S128x128.Idx) : sc s y = s y * Ideal.ofBits .f32 0x3FB8AA3B#32 := rfl
theorem sct_at (s : FVec Ideal S128x128 .f32) (r j : Fin 128) : sct s (ix2 j r) = s (ix2 r j) * Ideal.ofBits .f32 0x3FB8AA3B#32 := by
  unfold sct
  refine (transpose_apply [1, 0] (sc s) _ _ (ix2 r j) fun b => ?_).trans (sc_at s _)
  match b with
  | ⟨0, _⟩ => rfl
  | ⟨1, _⟩ => rfl

end Cert.Kernel6Ideal.Hand

end
-- ==== Proof.P6Out.lean ====
module

public import proofs.«01_k».proof.Proof.Gen.Kernel6Ideal.Frame
public import proofs.«01_k».proof.Proof.P6Pay
public import Idealize.ShloMosaic.Lib.VecWindow

@[expose] public section

set_option maxRecDepth 16384

noncomputable section

namespace Cert.Kernel6Ideal.Hand

open Cert.Kernel6Ideal Cert.Kernel6Ideal.Gen Cert.Hand
open Idealize.ShloMosaic Idealize.ShloMosaic.ValueIdx Idealize.ShloMosaic.TcCoe Idealize.ShloMosaic.Tactic
open Idealize.SL Idealize.SL.RA Idealize.SL.BI

/-- A block of scaled running sums down its rows, from the block of logarithms and the carried row. -/
def blk (g : FVec Ideal S1024x128 .f32) (q : FVec Ideal S1x128 .f32) (r : Fin 1024) (j : Fin 128) : EReal :=
  (psum (colOf g j) (r.val + 1) + q (ix2 (0 : Fin 1) j)) * Ideal.ofBits .f32 0x3FB8AA3B#32

/-- One slab of the block, where it is stored. -/
theorem piece4 (g : FVec Ideal S1024x128 .f32) (q : FVec Ideal S1x128 .f32) (s : FVec Ideal S128x128 .f32) (o : ℕ) (hin : ∀ a, (![o, 0] : Fin 2 → ℕ) a + (![128, 128] : Fin 2 → ℕ) a ≤ S1024x128.size a)
    (hs : ∀ r j : Fin 128, s (ix2 r j) = psum (colOf g j) (o + (r.val + 1)) + q (ix2 (0 : Fin 1) j)) (x : S128x128.Idx) :
    sc s x = (fun y : S1024x128.Idx => blk g q (y 0) (y 1)) ((Rect.unit (s := S1024x128) ![o, 0] ![128, 128] hin).emb x) := by
  obtain ⟨r, j, rfl⟩ : ∃ r j : Fin 128, x = ix2 r j := ⟨x 0, x 1, eq_ix2 x⟩
  rw [sc_at, hs]
  show _ = blk g q _ _
  unfold blk
  have h0 : ((((Rect.unit (s := S1024x128) ![o, 0] ![128, 128] hin).emb (ix2 r j) 0 : Fin 1024)) : ℕ) = o + r.val := by
    show o + 1 * r.val = _; rw [Nat.one_mul]
  have h1 : ((Rect.unit (s := S1024x128) ![o, 0] ![128, 128] hin).emb (ix2 r j) 1 : Fin 128) = j := Fin.ext (by
    show 0 + 1 * j.val = _; rw [Nat.one_mul, Nat.zero_add])
  rw [h1]
  refine congrArg (fun n => (psum (colOf g j) n + q (ix2 (0 : Fin 1) j)) * Ideal.ofBits .f32 0x3FB8AA3B#32) ?_
  rw [← Nat.add_assoc]; exact congrArg (· + 1) h0.symm

/-- One slab of the transposed block, where it is stored. -/
theorem piece5 (g : FVec Ideal S1024x128 .f32) (q : FVec Ideal S1x128 .f32) (s : FVec Ideal S128x128 .f32) (o : ℕ) (hin : ∀ a, (![0, o] : Fin 2 → ℕ) a + (![128, 128] : Fin 2 → ℕ) a ≤ S128x1024.size a)
    (hs : ∀ r j : Fin 128, s (ix2 r j) = psum (colOf g j) (o + (r.val + 1)) + q (ix2 (0 : Fin 1) j)) (x : S128x128.Idx) :
    sct s x = (fun y : S128x1024.Idx => blk g q (y 1) (y 0)) ((Rect.unit (s := S128x1024) ![0, o] ![128, 128] hin).emb x) := by
  obtain ⟨j, r, rfl⟩ : ∃ j r : Fin 128, x = ix2 j r := ⟨x 0, x 1, eq_ix2 x⟩
  refine (sct_at s r j).trans ?_
  rw [hs]
  show _ = blk g q _ _
  unfold blk
  have h0 : ((((Rect.unit (s := S128x1024) ![0, o] ![128, 128] hin).emb (ix2 j r) 1 : Fin 1024)) : ℕ) = o + r.val := by
    show o + 1 * r.val = _; rw [Nat.one_mul]
  have h1 : ((Rect.unit (s := S128x1024) ![0, o] ![128, 128] hin).emb (ix2 j r) 0 : Fin 128) = j := Fin.ext (by
    show 0 + 1 * j.val = _; rw [Nat.one_mul, Nat.zero_add])
  rw [h1]
  refine congrArg (fun n => (psum (colOf g j) n + q (ix2 (0 : Fin 1) j)) * Ideal.ofBits .f32 0x3FB8AA3B#32) ?_
  rw [← Nat.add_assoc]; exact congrArg (· + 1) h0.symm

/-- The logarithms, from loads equal to given blocks. -/
theorem lf_congr {x x' : Vec Ideal S1024x2048 .f32} {w w' : Vec Ideal S1x2048 .f32} {a a' : Vec Ideal S128x2048 .bf16} {b b' : Vec Ideal S1x128 .f32}
    (h0 : x = x') (h1 : w = w') (h2 : a = a') (h3 : b = b') : k0_pay15 (k0_pay13 x w a b) (k0_pay14 x w a b) (FloatOps.ofBits (F := Ideal) .f32 0#32) = lf x' w' a' b' := by
  subst h0; subst h1; subst h2; subst h3; rfl

section
variable (c : Dev nD) (i : grid0.Coords) (arg2 : Memref sig .tc .vmem S1024x2048 .f32) (harg2 : arg2.IsWhole) (arg3 : Memref sig .tc .vmem S1x128x2048 .f32) (harg3 : arg3.IsWhole) (arg4 : Memref sig .tc .vmem S1x2048 .f32) (harg4 : arg4.IsWhole) (arg5 : Memref sig .tc .vmem S1x128 .f32) (harg5 : arg5.IsWhole) (arg6 : Memref sig .tc .vmem S1024x128 .f32) (harg6 : arg6.IsWhole) (arg7 : Memref sig .tc .vmem S128x1024 .f32) (harg7 : arg7.IsWhole) (arg8 : Memref sig .tc .vmem S1024x2048 .bf16) (harg8 : arg8.IsWhole) (arg9 : Memref sig .tc .vmem S128x2048 .bf16) (harg9 : arg9.IsWhole) (arg10 : Memref sig .tc .vmem S1x128 .f32) (harg10 : arg10.IsWhole) (hc0 : cond0_0 i) (hc1 : cond0_1 i)
    (x0 : Vec Ideal S1024x2048 .f32) (x1 : Vec Ideal S1x128x2048 .f32) (x2 : Vec Ideal S1x2048 .f32) (x3 : Vec Ideal S1x128 .f32)

/-- The logarithms of the first point's body. -/
theorem lf_A : kernelRun0_A.sl.r_2 (F := Ideal) c arg2 harg2 arg3 harg3 arg4 harg4 arg5 harg5 arg9 x0 x1 x2 x3 = (lf x0 x2 (k0_pay10 x1) x3) := by
  unfold kernelRun0_A.sl.r_2 kernelRun0_A.sl.r kernelRun0_A.sl.r_1
  exact lf_congr ((View.readAt_full _ _ _).trans (Memref.IsWhole.read_unread _ _)) ((View.readAt_full _ _ _).trans (Memref.IsWhole.read_unread _ _)) ((View.readCov_full _ _ _ _ _).trans (congrArg k0_pay10 ((View.readAt_full _ _ _).trans (Memref.IsWhole.read_unread _ _)))) ((View.readAt_full _ _ _).trans (Memref.IsWhole.read_unread _ _))

/-- The third slab of the first point's body. -/
theorem r3_A : kernelRun0_A.sl.r_3 (F := Ideal) c arg2 harg2 arg3 harg3 arg4 harg4 arg5 harg5 arg9 arg10 x0 x1 x2 x3 = s2 (lf x0 x2 (k0_pay10 x1) x3) (k0_pay9 (F := Ideal)) := by
  unfold kernelRun0_A.sl.r_3
  refine (pay23_eq _ _ _ _).trans ?_
  exact congr (congrArg s2 (lf_A c arg2 harg2 arg3 harg3 arg4 harg4 arg5 harg5 arg9 x0 x1 x2 x3)) (View.readCov_full _ _ _ _ _)

/-- The sixth slab's last row. -/
theorem r4_A : kernelRun0_A.sl.r_4 (F := Ideal) c arg2 harg2 arg3 harg3 arg4 harg4 arg5 harg5 arg9 arg10 x0 x1 x2 x3 = lastRow (s5 (lf x0 x2 (k0_pay10 x1) x3) (k0_pay9 (F := Ideal))) := by
  unfold kernelRun0_A.sl.r_4
  rw [lf_A c arg2 harg2 arg3 harg3 arg4 harg4 arg5 harg5 arg9 x0 x1 x2 x3, r3_A c arg2 harg2 arg3 harg3 arg4 harg4 arg5 harg5 arg9 arg10 x0 x1 x2 x3]
  exact pay33_eq _ _

/-- The sixth slab, scaled. -/
theorem r5_A : kernelRun0_A.sl.r_5 (F := Ideal) c arg2 harg2 arg3 harg3 arg4 harg4 arg5 harg5 arg9 arg10 x0 x1 x2 x3 = sc (s5 (lf x0 x2 (k0_pay10 x1) x3) (k0_pay9 (F := Ideal))) := by
  unfold kernelRun0_A.sl.r_5
  rw [lf_A c arg2 harg2 arg3 harg3 arg4 harg4 arg5 harg5 arg9 x0 x1 x2 x3, r3_A c arg2 harg2 arg3 harg3 arg4 harg4 arg5 harg5 arg9 arg10 x0 x1 x2 x3]
  rfl

set_option maxHeartbeats 2000000 in
/-- The first point's first block. -/
theorem out4_A : out0_A_4 (F := Ideal) c i arg2 harg2 arg3 harg3 arg4 harg4 arg5 harg5 arg6 harg6 arg7 harg7 arg8 harg8 arg9 harg9 arg10 harg10 hc0 hc1 x0 x1 x2 x3 = (fun y : S1024x128.Idx => blk (lf x0 x2 (k0_pay10 x1) x3) (k0_pay9 (F := Ideal)) (y 0) (y 1)) := by
  have h2 := lf_A c arg2 harg2 arg3 harg3 arg4 harg4 arg5 harg5 arg9 x0 x1 x2 x3
  have h3 := r3_A c arg2 harg2 arg3 harg3 arg4 harg4 arg5 harg5 arg9 arg10 x0 x1 x2 x3
  have h4 := r4_A c arg2 harg2 arg3 harg3 arg4 harg4 arg5 harg5 arg9 arg10 x0 x1 x2 x3
  have h5 := r5_A c arg2 harg2 arg3 harg3 arg4 harg4 arg5 harg5 arg9 arg10 x0 x1 x2 x3
  unfold out0_A_4
  funext y
  refine View.read_writes_apply_of_pieces _ _ (fun y : S1024x128.Idx => blk (lf x0 x2 (k0_pay10 x1) x3) (k0_pay9 (F := Ideal)) (y 0) (y 1)) _ ?_ y (cover0_A_4 c i arg2 harg2 arg3 harg3 arg4 harg4 arg5 harg5 arg6 harg6 arg7 harg7 arg8 harg8 arg9 harg9 arg10 harg10 hc0 hc1 x0 x1 x2 x3 y)
  intro p hp
  unfold kernelRun0_A at hp
  dsimp only at hp
  rw [h2, h3, h4, h5] at hp
  simp only [List.mem_cons, List.not_mem_nil, or_false] at hp
  rcases hp with rfl | rfl | rfl | rfl | rfl | rfl | rfl | rfl <;> intro x
  · exact piece4 (lf x0 x2 (k0_pay10 x1) x3) (k0_pay9 (F := Ideal)) (s7 _ _) 896 inb_S1024x128_S128x128_896_0 (s7_at _ _) x
  · exact piece4 (lf x0 x2 (k0_pay10 x1) x3) (k0_pay9 (F := Ideal)) (s6 _ _) 768 inb_S1024x128_S128x128_768_0 (s6_at _ _) x
  · exact piece4 (lf x0 x2 (k0_pay10 x1) x3) (k0_pay9 (F := Ideal)) (s5 _ _) 640 inb_S1024x128_S128x128_640_0 (s5_at _ _) x
  · exact piece4 (lf x0 x2 (k0_pay10 x1) x3) (k0_pay9 (F := Ideal)) (s4 _ _) 512 inb_S1024x128_S128x128_512_0 (s4_at _ _) x
  · exact piece4 (lf x0 x2 (k0_pay10 x1) x3) (k0_pay9 (F := Ideal)) (s3 _ _) 384 inb_S1024x128_S128x128_384_0 (s3_at _ _) x
  · exact piece4 (lf x0 x2 (k0_pay10 x1) x3) (k0_pay9 (F := Ideal)) (s2 _ _) 256 inb_S1024x128_S128x128_256_0 (s2_at _ _) x
  · exact (congrFun (congrArg sc (congr (congrArg s1 h2) (View.readCov_full _ _ _ _ _))) x).trans (piece4 (lf x0 x2 (k0_pay10 x1) x3) (k0_pay9 (F := Ideal)) (s1 _ _) 128 inb_S1024x128_S128x128_128_0 (s1_at _ _) x)
  · exact (congrFun (congrArg sc (congr (congrArg s0 h2) (View.readCov_full _ _ _ _ _))) x).trans (piece4 (lf x0 x2 (k0_pay10 x1) x3) (k0_pay9 (F := Ideal)) (s0 _ _) 0 inb_S1024x128_S128x128_0_0 (s0_at _ _) x)

set_option maxHeartbeats 2000000 in
/-- The first point's second block. -/
theorem out5_A : out0_A_5 (F := Ideal) c i arg2 harg2 arg3 harg3 arg4 harg4 arg5 harg5 arg6 harg6 arg7 harg7 arg8 harg8 arg9 harg9 arg10 harg10 hc0 hc1 x0 x1 x2 x3 = (fun y : S128x1024.Idx => blk (lf x0 x2 (k0_pay10 x1) x3) (k0_pay9 (F := Ideal)) (y 1) (y 0)) := by
  have h2 := lf_A c arg2 harg2 arg3 harg3 arg4 harg4 arg5 harg5 arg9 x0 x1 x2 x3
  have h3 := r3_A c arg2 harg2 arg3 harg3 arg4 harg4 arg5 harg5 arg9 arg10 x0 x1 x2 x3
  have h4 := r4_A c arg2 harg2 arg3 harg3 arg4 harg4 arg5 harg5 arg9 arg10 x0 x1 x2 x3
  have h5 := r5_A c arg2 harg2 arg3 harg3 arg4 harg4 arg5 harg5 arg9 arg10 x0 x1 x2 x3
  unfold out0_A_5
  funext y
  refine View.read_writes_apply_of_pieces _ _ (fun y : S128x1024.Idx => blk (lf x0 x2 (k0_pay10 x1) x3) (k0_pay9 (F := Ideal)) (y 1) (y 0)) _ ?_ y (cover0_A_5 c i arg2 harg2 arg3 harg3 arg4 harg4 arg5 harg5 arg6 harg6 arg7 harg7 arg8 harg8 arg9 harg9 arg10 harg10 hc0 hc1 x0 x1 x2 x3 y)
  intro p hp
  unfold kernelRun0_A at hp
  dsimp only at hp
  rw [h2, h3, h4, h5] at hp
  simp only [List.mem_cons, List.not_mem_nil, or_false] at hp
  rcases hp with rfl | rfl | rfl | rfl | rfl | rfl | rfl | rfl <;> intro x
  · exact piece5 (lf x0 x2 (k0_pay10 x1) x3) (k0_pay9 (F := Ideal)) (s7 _ _) 896 inb_S128x1024_S128x128_0_896 (s7_at _ _) x
  · exact piece5 (lf x0 x2 (k0_pay10 x1) x3) (k0_pay9 (F := Ideal)) (s6 _ _) 768 inb_S128x1024_S128x128_0_768 (s6_at _ _) x
  · exact piece5 (lf x0 x2 (k0_pay10 x1) x3) (k0_pay9 (F := Ideal)) (s5 _ _) 640 inb_S128x1024_S128x128_0_640 (s5_at _ _) x
  · exact piece5 (lf x0 x2 (k0_pay10 x1) x3) (k0_pay9 (F := Ideal)) (s4 _ _) 512 inb_S128x1024_S128x128_0_512 (s4_at _ _) x
  · exact piece5 (lf x0 x2 (k0_pay10 x1) x3) (k0_pay9 (F := Ideal)) (s3 _ _) 384 inb_S128x1024_S128x128_0_384 (s3_at _ _) x
  · exact piece5 (lf x0 x2 (k0_pay10 x1) x3) (k0_pay9 (F := Ideal)) (s2 _ _) 256 inb_S128x1024_S128x128_0_256 (s2_at _ _) x
  · exact (congrFun (congrArg sct (congr (congrArg s1 h2) (View.readCov_full _ _ _ _ _))) x).trans (piece5 (lf x0 x2 (k0_pay10 x1) x3) (k0_pay9 (F := Ideal)) (s1 _ _) 128 inb_S128x1024_S128x128_0_128 (s1_at _ _) x)
  · exact (congrFun (congrArg sct (congr (congrArg s0 h2) (View.readCov_full _ _ _ _ _))) x).trans (piece5 (lf x0 x2 (k0_pay10 x1) x3) (k0_pay9 (F := Ideal)) (s0 _ _) 0 inb_S128x1024_S128x128_0_0 (s0_at _ _) x)

/-- The first point's normalised rows. -/
theorem out6_A : out0_A_6 (F := Ideal) c i arg2 harg2 arg3 harg3 arg4 harg4 arg5 harg5 arg6 harg6 arg7 harg7 arg8 harg8 arg9 harg9 arg10 harg10 hc0 hc1 x0 x1 x2 x3 = k0_pay11 x0 x2 := by
  unfold out0_A_6 kernelRun0_A
  dsimp only
  refine (View.read_writes_full _ _ _ _ _).trans ?_
  exact congr (congrArg k0_pay11 ((View.readAt_full _ _ _).trans (Memref.IsWhole.read_unread _ _))) ((View.readAt_full _ _ _).trans (Memref.IsWhole.read_unread _ _))

/-- The first point's cast weights. -/
theorem sout0_A : sout0_A_0 (F := Ideal) c i arg2 harg2 arg3 harg3 arg4 harg4 arg5 harg5 arg6 harg6 arg7 harg7 arg8 harg8 arg9 harg9 arg10 harg10 hc0 hc1 x0 x1 x2 x3 = k0_pay10 x1 := by
  unfold sout0_A_0 kernelRun0_A
  dsimp only
  refine (View.read_writes_full _ _ _ _ _).trans ?_
  exact congrArg k0_pay10 ((View.readAt_full _ _ _).trans (Memref.IsWhole.read_unread _ _))

/-- The row the first point carries on. -/
theorem sout1_A : sout0_A_1 (F := Ideal) c i arg2 harg2 arg3 harg3 arg4 harg4 arg5 harg5 arg6 harg6 arg7 harg7 arg8 harg8 arg9 harg9 arg10 harg10 hc0 hc1 x0 x1 x2 x3 = lastRow (s7 (lf x0 x2 (k0_pay10 x1) x3) (k0_pay9 (F := Ideal))) := by
  have h2 := lf_A c arg2 harg2 arg3 harg3 arg4 harg4 arg5 harg5 arg9 x0 x1 x2 x3
  have h4 := r4_A c arg2 harg2 arg3 harg3 arg4 harg4 arg5 harg5 arg9 arg10 x0 x1 x2 x3
  unfold sout0_A_1 kernelRun0_A
  dsimp only
  refine (View.read_writes_full _ _ _ _ _).trans ?_
  rw [h2, h4]
  exact pay8_eq _ _

end

section
variable (c : Dev nD) (i : grid0.Coords) (arg2 : Memref sig .tc .vmem S1024x2048 .f32) (harg2 : arg2.IsWhole) (arg3 : Memref sig .tc .vmem S1x128x2048 .f32) (harg3 : arg3.IsWhole) (arg4 : Memref sig .tc .vmem S1x2048 .f32) (harg4 : arg4.IsWhole) (arg5 : Memref sig .tc .vmem S1x128 .f32) (harg5 : arg5.IsWhole) (arg6 : Memref sig .tc .vmem S1024x128 .f32) (harg6 : arg6.IsWhole) (arg7 : Memref sig .tc .vmem S128x1024 .f32) (harg7 : arg7.IsWhole) (arg8 : Memref sig .tc .vmem S1024x2048 .bf16) (harg8 : arg8.IsWhole) (arg9 : Memref sig .tc .vmem S128x2048 .bf16) (harg9 : arg9.IsWhole) (arg10 : Memref sig .tc .vmem S1x128 .f32) (harg10 : arg10.IsWhole) (hc0 : ¬cond0_0 i) (hc1 : ¬cond0_1 i)
    (x0 : Vec Ideal S1024x2048 .f32) (x1 : Vec Ideal S1x128x2048 .f32) (x2 : Vec Ideal S1x2048 .f32) (x3 : Vec Ideal S1x128 .f32) (xs0 : Vec Ideal S128x2048 .bf16) (xs1 : Vec Ideal S1x128 .f32)

/-- The logarithms of the later point's body. -/
theorem lf_B : kernelRun0_B.sl.r_2 (F := Ideal) c arg2 harg2 arg4 harg4 arg5 harg5 arg9 harg9 x0 x2 x3 xs0 = (lf x0 x2 xs0 x3) := by
  unfold kernelRun0_B.sl.r_2 kernelRun0_B.sl.r kernelRun0_B.sl.r_1
  exact lf_congr ((View.readAt_full _ _ _).trans (Memref.IsWhole.read_unread _ _)) ((View.readAt_full _ _ _).trans (Memref.IsWhole.read_unread _ _)) ((View.readAt_full _ _ _).trans (Memref.IsWhole.read_unread _ _)) ((View.readAt_full _ _ _).trans (Memref.IsWhole.read_unread _ _))

/-- The third slab of the later point's body. -/
theorem r3_B : kernelRun0_B.sl.r_3 (F := Ideal) c arg2 harg2 arg4 harg4 arg5 harg5 arg9 harg9 arg10 harg10 x0 x2 x3 xs0 xs1 = s2 (lf x0 x2 xs0 x3) xs1 := by
  unfold kernelRun0_B.sl.r_3
  refine (pay23_eq _ _ _ _).trans ?_
  exact congr (congrArg s2 (lf_B c arg2 harg2 arg4 harg4 arg5 harg5 arg9 harg9 x0 x2 x3 xs0)) (((View.readAt_full _ _ _).trans (Memref.IsWhole.read_unread _ _)))

/-- The sixth slab's last row. -/
theorem r4_B : kernelRun0_B.sl.r_4 (F := Ideal) c arg2 harg2 arg4 harg4 arg5 harg5 arg9 harg9 arg10 harg10 x0 x2 x3 xs0 xs1 = lastRow (s5 (lf x0 x2 xs0 x3) xs1) := by
  unfold kernelRun0_B.sl.r_4
  rw [lf_B c arg2 harg2 arg4 harg4 arg5 harg5 arg9 harg9 x0 x2 x3 xs0, r3_B c arg2 harg2 arg4 harg4 arg5 harg5 arg9 harg9 arg10 harg10 x0 x2 x3 xs0 xs1]
  exact pay33_eq _ _

/-- The sixth slab, scaled. -/
theorem r5_B : kernelRun0_B.sl.r_5 (F := Ideal) c arg2 harg2 arg4 harg4 arg5 harg5 arg9 harg9 arg10 harg10 x0 x2 x3 xs0 xs1 = sc (s5 (lf x0 x2 xs0 x3) xs1) := by
  unfold kernelRun0_B.sl.r_5
  rw [lf_B c arg2 harg2 arg4 harg4 arg5 harg5 arg9 harg9 x0 x2 x3 xs0, r3_B c arg2 harg2 arg4 harg4 arg5 harg5 arg9 harg9 arg10 harg10 x0 x2 x3 xs0 xs1]
  rfl

set_option maxHeartbeats 2000000 in
/-- The later point's first block. -/
theorem out4_B : out0_B_4 (F := Ideal) c i arg2 harg2 arg3 harg3 arg4 harg4 arg5 harg5 arg6 harg6 arg7 harg7 arg8 harg8 arg9 harg9 arg10 harg10 hc0 hc1 x0 x1 x2 x3 xs0 xs1 = (fun y : S1024x128.Idx => blk (lf x0 x2 xs0 x3) xs1 (y 0) (y 1)) := by
  have h2 := lf_B c arg2 harg2 arg4 harg4 arg5 harg5 arg9 harg9 x0 x2 x3 xs0
  have h3 := r3_B c arg2 harg2 arg4 harg4 arg5 harg5 arg9 harg9 arg10 harg10 x0 x2 x3 xs0 xs1
  have h4 := r4_B c arg2 harg2 arg4 harg4 arg5 harg5 arg9 harg9 arg10 harg10 x0 x2 x3 xs0 xs1
  have h5 := r5_B c arg2 harg2 arg4 harg4 arg5 harg5 arg9 harg9 arg10 harg10 x0 x2 x3 xs0 xs1
  unfold out0_B_4
  funext y
  refine View.read_writes_apply_of_pieces _ _ (fun y : S1024x128.Idx => blk (lf x0 x2 xs0 x3) xs1 (y 0) (y 1)) _ ?_ y (cover0_B_4 c i arg2 harg2 arg3 harg3 arg4 harg4 arg5 harg5 arg6 harg6 arg7 harg7 arg8 harg8 arg9 harg9 arg10 harg10 hc0 hc1 x0 x1 x2 x3 xs0 xs1 y)
  intro p hp
  unfold kernelRun0_B at hp
  dsimp only at hp
  rw [h2, h3, h4, h5] at hp
  simp only [List.mem_cons, List.not_mem_nil, or_false] at hp
  rcases hp with rfl | rfl | rfl | rfl | rfl | rfl | rfl | rfl <;> intro x
  · exact piece4 (lf x0 x2 xs0 x3) xs1 (s7 _ _) 896 inb_S1024x128_S128x128_896_0 (s7_at _ _) x
  · exact piece4 (lf x0 x2 xs0 x3) xs1 (s6 _ _) 768 inb_S1024x128_S128x128_768_0 (s6_at _ _) x
  · exact piece4 (lf x0 x2 xs0 x3) xs1 (s5 _ _) 640 inb_S1024x128_S128x128_640_0 (s5_at _ _) x
  · exact piece4 (lf x0 x2 xs0 x3) xs1 (s4 _ _) 512 inb_S1024x128_S128x128_512_0 (s4_at _ _) x
  · exact piece4 (lf x0 x2 xs0 x3) xs1 (s3 _ _) 384 inb_S1024x128_S128x128_384_0 (s3_at _ _) x
  · exact piece4 (lf x0 x2 xs0 x3) xs1 (s2 _ _) 256 inb_S1024x128_S128x128_256_0 (s2_at _ _) x
  · exact (congrFun (congrArg sc (congr (congrArg s1 h2) (((View.readAt_full _ _ _).trans (Memref.IsWhole.read_unread _ _))))) x).trans (piece4 (lf x0 x2 xs0 x3) xs1 (s1 _ _) 128 inb_S1024x128_S128x128_128_0 (s1_at _ _) x)
  · exact (congrFun (congrArg sc (congr (congrArg s0 h2) (((View.readAt_full _ _ _).trans (Memref.IsWhole.read_unread _ _))))) x).trans (piece4 (lf x0 x2 xs0 x3) xs1 (s0 _ _) 0 inb_S1024x128_S128x128_0_0 (s0_at _ _) x)

set_option maxHeartbeats 2000000 in
/-- The later point's second block. -/
theorem out5_B : out0_B_5 (F := Ideal) c i arg2 harg2 arg3 harg3 arg4 harg4 arg5 harg5 arg6 harg6 arg7 harg7 arg8 harg8 arg9 harg9 arg10 harg10 hc0 hc1 x0 x1 x2 x3 xs0 xs1 = (fun y : S128x1024.Idx => blk (lf x0 x2 xs0 x3) xs1 (y 1) (y 0)) := by
  have h2 := lf_B c arg2 harg2 arg4 harg4 arg5 harg5 arg9 harg9 x0 x2 x3 xs0
  have h3 := r3_B c arg2 harg2 arg4 harg4 arg5 harg5 arg9 harg9 arg10 harg10 x0 x2 x3 xs0 xs1
  have h4 := r4_B c arg2 harg2 arg4 harg4 arg5 harg5 arg9 harg9 arg10 harg10 x0 x2 x3 xs0 xs1
  have h5 := r5_B c arg2 harg2 arg4 harg4 arg5 harg5 arg9 harg9 arg10 harg10 x0 x2 x3 xs0 xs1
  unfold out0_B_5
  funext y
  refine View.read_writes_apply_of_pieces _ _ (fun y : S128x1024.Idx => blk (lf x0 x2 xs0 x3) xs1 (y 1) (y 0)) _ ?_ y (cover0_B_5 c i arg2 harg2 arg3 harg3 arg4 harg4 arg5 harg5 arg6 harg6 arg7 harg7 arg8 harg8 arg9 harg9 arg10 harg10 hc0 hc1 x0 x1 x2 x3 xs0 xs1 y)
  intro p hp
  unfold kernelRun0_B at hp
  dsimp only at hp
  rw [h2, h3, h4, h5] at hp
  simp only [List.mem_cons, List.not_mem_nil, or_false] at hp
  rcases hp with rfl | rfl | rfl | rfl | rfl | rfl | rfl | rfl <;> intro x
  · exact piece5 (lf x0 x2 xs0 x3) xs1 (s7 _ _) 896 inb_S128x1024_S128x128_0_896 (s7_at _ _) x
  · exact piece5 (lf x0 x2 xs0 x3) xs1 (s6 _ _) 768 inb_S128x1024_S128x128_0_768 (s6_at _ _) x
  · exact piece5 (lf x0 x2 xs0 x3) xs1 (s5 _ _) 640 inb_S128x1024_S128x128_0_640 (s5_at _ _) x
  · exact piece5 (lf x0 x2 xs0 x3) xs1 (s4 _ _) 512 inb_S128x1024_S128x128_0_512 (s4_at _ _) x
  · exact piece5 (lf x0 x2 xs0 x3) xs1 (s3 _ _) 384 inb_S128x1024_S128x128_0_384 (s3_at _ _) x
  · exact piece5 (lf x0 x2 xs0 x3) xs1 (s2 _ _) 256 inb_S128x1024_S128x128_0_256 (s2_at _ _) x
  · exact (congrFun (congrArg sct (congr (congrArg s1 h2) (((View.readAt_full _ _ _).trans (Memref.IsWhole.read_unread _ _))))) x).trans (piece5 (lf x0 x2 xs0 x3) xs1 (s1 _ _) 128 inb_S128x1024_S128x128_0_128 (s1_at _ _) x)
  · exact (congrFun (congrArg sct (congr (congrArg s0 h2) (((View.readAt_full _ _ _).trans (Memref.IsWhole.read_unread _ _))))) x).trans (piece5 (lf x0 x2 xs0 x3) xs1 (s0 _ _) 0 inb_S128x1024_S128x128_0_0 (s0_at _ _) x)

/-- The later point's normalised rows. -/
theorem out6_B : out0_B_6 (F := Ideal) c i arg2 harg2 arg3 harg3 arg4 harg4 arg5 harg5 arg6 harg6 arg7 harg7 arg8 harg8 arg9 harg9 arg10 harg10 hc0 hc1 x0 x1 x2 x3 xs0 xs1 = k0_pay11 x0 x2 := by
  unfold out0_B_6 kernelRun0_B
  dsimp only
  refine (View.read_writes_full _ _ _ _ _).trans ?_
  exact congr (congrArg k0_pay11 ((View.readAt_full _ _ _).trans (Memref.IsWhole.read_unread _ _))) ((View.readAt_full _ _ _).trans (Memref.IsWhole.read_unread _ _))

/-- The row the later point carries on. -/
theorem sout1_B : sout0_B_1 (F := Ideal) c i arg2 harg2 arg3 harg3 arg4 harg4 arg5 harg5 arg6 harg6 arg7 harg7 arg8 harg8 arg9 harg9 arg10 harg10 hc0 hc1 x0 x1 x2 x3 xs0 xs1 = lastRow (s7 (lf x0 x2 xs0 x3) xs1) := by
  have h2 := lf_B c arg2 harg2 arg4 harg4 arg5 harg5 arg9 harg9 x0 x2 x3 xs0
  have h4 := r4_B c arg2 harg2 arg4 harg4 arg5 harg5 arg9 harg9 arg10 harg10 x0 x2 x3 xs0 xs1
  unfold sout0_B_1 kernelRun0_B
  dsimp only
  refine (View.read_writes_full _ _ _ _ _).trans ?_
  rw [h2, h4]
  exact pay8_eq _ _

end

end Cert.Kernel6Ideal.Hand
-- ==== Proof.P6Value.lean ====
module

public import proofs.«01_k».proof.Proof.P6Out

@[expose] public section

set_option maxRecDepth 16384

noncomputable section

namespace Cert.Kernel6Ideal.Hand

open Cert.Kernel6Ideal Cert.Kernel6Ideal.Gen Cert.Hand
open Idealize.ShloMosaic Idealize.ShloMosaic.TcCoe Idealize.ShloMosaic.ValueIdx Idealize.SL.Sem
open Idealize.ShloMosaic.Pipeline (Dat Cfg Window)

variable (m : (ℓ : Loc nD τ sig) → Buf (Elt Ideal) ℓ)

/-- Where each window's block sits, at every point of the grid. -/
theorem where0 : ∀ t : Fin cfg0.N, win0_0.index t (0 : Fin 2) = t.val ∧ win0_0.index t (1 : Fin 2) = 0 ∧ win0_1.index t (0 : Fin 3) = 0 ∧ win0_1.index t (1 : Fin 3) = 6032 ∧ win0_1.index t (2 : Fin 3) = 0 ∧ win0_2.index t (0 : Fin 2) = 0 ∧ win0_2.index t (1 : Fin 2) = 0 ∧ win0_3.index t (0 : Fin 2) = 0 ∧ win0_3.index t (1 : Fin 2) = 0 ∧ win0_4.index t (0 : Fin 2) = t.val ∧ win0_4.index t (1 : Fin 2) = 0 ∧ win0_5.index t (0 : Fin 2) = 0 ∧ win0_5.index t (1 : Fin 2) = t.val ∧ win0_6.index t (0 : Fin 2) = t.val ∧ win0_6.index t (1 : Fin 2) = 0 :=
  (by decide +kernel : ∀ t : Fin grid0.N, win0_0.index t (0 : Fin 2) = t.val ∧ win0_0.index t (1 : Fin 2) = 0 ∧ win0_1.index t (0 : Fin 3) = 0 ∧ win0_1.index t (1 : Fin 3) = 6032 ∧ win0_1.index t (2 : Fin 3) = 0 ∧ win0_2.index t (0 : Fin 2) = 0 ∧ win0_2.index t (1 : Fin 2) = 0 ∧ win0_3.index t (0 : Fin 2) = 0 ∧ win0_3.index t (1 : Fin 2) = 0 ∧ win0_4.index t (0 : Fin 2) = t.val ∧ win0_4.index t (1 : Fin 2) = 0 ∧ win0_5.index t (0 : Fin 2) = 0 ∧ win0_5.index t (1 : Fin 2) = t.val ∧ win0_6.index t (0 : Fin 2) = t.val ∧ win0_6.index t (1 : Fin 2) = 0)

/-- Window 0's block at a point, read off its array. -/
theorem iblk_0_at (c : Dev nD) (t : Fin cfg0.N) (y : S1024x2048.Idx) (i : S8192x2048.Idx) (h0 : (i (0 : Fin 2)).val = t.val * 1024 + (y (0 : Fin 2)).val) (h1 : (i (1 : Fin 2)).val = 0 * 2048 + (y (1 : Fin 2)).val) :
    iblk m c 0 t y = (rd S8192x2048 (V m c main_arg0)) i := by
  obtain ⟨e0_0, e0_1, e1_0, e1_1, e1_2, e2_0, e2_1, e3_0, e3_1, e4_0, e4_1, e5_0, e5_1, e6_0, e6_1⟩ := where0 t
  unfold iblk
  show (rd S8192x2048 (V m c main_arg0)) (((cfg0.win 0).blk t).view.emb y) = _
  refine congrArg (rd S8192x2048 (V m c main_arg0)) (funext fun a => Fin.ext ?_)
  exact (match a with
    | ⟨0, _⟩ => by show win0_0.index t (0 : Fin 2) * 1024 + 1 * (y (0 : Fin 2)).val = (i (0 : Fin 2)).val; rw [h0, e0_0]; omega
    | ⟨1, _⟩ => by show win0_0.index t (1 : Fin 2) * 2048 + 1 * (y (1 : Fin 2)).val = (i (1 : Fin 2)).val; rw [h1, e0_1]; omega)

/-- Window 1's block at a point, read off its array. -/
theorem iblk_1_at (c : Dev nD) (t : Fin cfg0.N) (y : S1x128x2048.Idx) (i : S1x6160x2048.Idx) (h0 : (i (0 : Fin 3)).val = 0 + (y (0 : Fin 3)).val) (h1 : (i (1 : Fin 3)).val = 6032 + (y (1 : Fin 3)).val) (h2 : (i (2 : Fin 3)).val = 0 + (y (2 : Fin 3)).val) :
    iblk m c 1 t y = (rd S1x6160x2048 (V m c main_v0)) i := by
  obtain ⟨e0_0, e0_1, e1_0, e1_1, e1_2, e2_0, e2_1, e3_0, e3_1, e4_0, e4_1, e5_0, e5_1, e6_0, e6_1⟩ := where0 t
  unfold iblk
  show (rd S1x6160x2048 (V m c main_v0)) (((cfg0.win 1).blk t).view.emb y) = _
  refine congrArg (rd S1x6160x2048 (V m c main_v0)) (funext fun a => Fin.ext ?_)
  exact (match a with
    | ⟨0, _⟩ => by show win0_1.index t (0 : Fin 3) + 1 * (y (0 : Fin 3)).val = (i (0 : Fin 3)).val; rw [h0, e1_0]; omega
    | ⟨1, _⟩ => by show win0_1.index t (1 : Fin 3) + 1 * (y (1 : Fin 3)).val = (i (1 : Fin 3)).val; rw [h1, e1_1]; omega
    | ⟨2, _⟩ => by show win0_1.index t (2 : Fin 3) + 1 * (y (2 : Fin 3)).val = (i (2 : Fin 3)).val; rw [h2, e1_2]; omega)

/-- Window 2's block at a point, read off its array. -/
theorem iblk_2_at (c : Dev nD) (t : Fin cfg0.N) (y : S1x2048.Idx) (i : S1x2048.Idx) (h0 : (i (0 : Fin 2)).val = 0 * 1 + (y (0 : Fin 2)).val) (h1 : (i (1 : Fin 2)).val = 0 * 2048 + (y (1 : Fin 2)).val) :
    iblk m c 2 t y = (rd S1x2048 (V m c main_v3)) i := by
  obtain ⟨e0_0, e0_1, e1_0, e1_1, e1_2, e2_0, e2_1, e3_0, e3_1, e4_0, e4_1, e5_0, e5_1, e6_0, e6_1⟩ := where0 t
  unfold iblk
  show (rd S1x2048 (V m c main_v3)) (((cfg0.win 2).blk t).view.emb y) = _
  refine congrArg (rd S1x2048 (V m c main_v3)) (funext fun a => Fin.ext ?_)
  exact (match a with
    | ⟨0, _⟩ => by show win0_2.index t (0 : Fin 2) * 1 + 1 * (y (0 : Fin 2)).val = (i (0 : Fin 2)).val; rw [h0, e2_0]; omega
    | ⟨1, _⟩ => by show win0_2.index t (1 : Fin 2) * 2048 + 1 * (y (1 : Fin 2)).val = (i (1 : Fin 2)).val; rw [h1, e2_1]; omega)

/-- Window 3's block at a point, read off its array. -/
theorem iblk_3_at (c : Dev nD) (t : Fin cfg0.N) (y : S1x128.Idx) (i : S1x128.Idx) (h0 : (i (0 : Fin 2)).val = 0 * 1 + (y (0 : Fin 2)).val) (h1 : (i (1 : Fin 2)).val = 0 * 128 + (y (1 : Fin 2)).val) :
    iblk m c 3 t y = (rd S1x128 (V m c main_v2)) i := by
  obtain ⟨e0_0, e0_1, e1_0, e1_1, e1_2, e2_0, e2_1, e3_0, e3_1, e4_0, e4_1, e5_0, e5_1, e6_0, e6_1⟩ := where0 t
  unfold iblk
  show (rd S1x128 (V m c main_v2)) (((cfg0.win 3).blk t).view.emb y) = _
  refine congrArg (rd S1x128 (V m c main_v2)) (funext fun a => Fin.ext ?_)
  exact (match a with
    | ⟨0, _⟩ => by show win0_3.index t (0 : Fin 2) * 1 + 1 * (y (0 : Fin 2)).val = (i (0 : Fin 2)).val; rw [h0, e3_0]; omega
    | ⟨1, _⟩ => by show win0_3.index t (1 : Fin 2) * 128 + 1 * (y (1 : Fin 2)).val = (i (1 : Fin 2)).val; rw [h1, e3_1]; omega)

/-- A lane's gate at every row, of the arrays as the launch finds them. -/
def gate (c : Dev nD) (j : Fin 128) : Fin 8192 → EReal :=
  fgate (rd S8192x2048 (V m c main_arg0)) (fun k => rd S1x2048 (V m c main_v3) (ix2 (0 : Fin 1) k))
    (fun k => rd S1x6160x2048 (V m c main_v0) (ix3 (0 : Fin 1) ⟨6032 + j.val, by omega⟩ k)) (rd S1x128 (V m c main_v2) (ix2 (0 : Fin 1) j))

/-- The cast rows of the weights that the scratch carries. -/
def wts (c : Dev nD) : Vec Ideal S128x2048 .bf16 := fun y =>
  rd S1x6160x2048 (V m c main_v0) (ix3 (0 : Fin 1) (⟨6032 + (y 0).val, by have := idx2_lt0 y; omega⟩ : Fin 6160) (⟨(y 1).val, idx2_lt1 y⟩ : Fin 2048))

/-- The row of running sums that the scratch carries into a point. -/
def crow (c : Dev nD) (n : ℕ) : FVec Ideal S1x128 .f32 := fun y => psum (gate m c ⟨(y 1).val, idx2_lt1 y⟩) (1024 * n)

/-- Every point's window of the weights is the same rows. -/
theorem pay10_wts (c : Dev nD) (t : Fin cfg0.N) : k0_pay10 (F := Ideal) (iblk m c 1 t) = wts m c :=
  funext fun (y : S128x2048.Idx) => (k0_pay10_at _ y).trans
    (iblk_1_at m c t _ _ rfl rfl (by show (y 1).val = 0 + (y 1).val; omega))

/-- The block of logarithms at a point. -/
def lgs (c : Dev nD) (t : Fin cfg0.N) : FVec Ideal S1024x128 .f32 := lf (iblk m c 0 t) (iblk m c 2 t) (wts m c) (iblk m c 3 t)

/-- It is the lanes' gates at the block's rows. -/
theorem lgs_at (c : Dev nD) (t : Fin cfg0.N) (r : Fin 1024) (j : Fin 128) (h : 1024 * t.val + r.val < 8192) :
    colOf (lgs m c t) j r = gate m c j ⟨1024 * t.val + r.val, h⟩ := by
  show lgs m c t (ix2 r j) = _
  unfold lgs
  rw [lf_at]
  have hx : ∀ k : Fin 2048, iblk m c 0 t (ix2 r k) = rd S8192x2048 (V m c main_arg0) (ix2 (⟨1024 * t.val + r.val, h⟩ : Fin 8192) k) := fun k =>
    iblk_0_at m c t _ _ (by show 1024 * t.val + r.val = t.val * 1024 + r.val; omega) (by show k.val = 0 * 2048 + k.val; omega)
  have hw : ∀ k : Fin 2048, iblk m c 2 t (ix2 (0 : Fin 1) k) = rd S1x2048 (V m c main_v3) (ix2 (0 : Fin 1) k) := fun k =>
    iblk_2_at m c t _ _ (by show 0 = 0 * 1 + 0; omega) (by show k.val = 0 * 2048 + k.val; omega)
  have hb : iblk m c 3 t (ix2 (0 : Fin 1) j) = rd S1x128 (V m c main_v2) (ix2 (0 : Fin 1) j) :=
    iblk_3_at m c t _ _ (by show 0 = 0 * 1 + 0; omega) (by show j.val = 0 * 128 + j.val; omega)
  unfold gate fgate
  refine congrArg lsg (congrArg₂ (· + ·) (Finset.sum_congr (M := EReal) rfl fun k _ => ?_) hb)
  exact congrArg₂ (· * ·) (congrArg₂ (fun a b => hnS a b k) (funext hx) (funext hw)) rfl

/-- A sum over the rows before a block and over the block's first rows. -/
theorem psum_step (c : Dev nD) (t : Fin cfg0.N) (j : Fin 128) (n : ℕ) (hn : n ≤ 1024) :
    psum (colOf (lgs m c t) j) n + psum (gate m c j) (1024 * t.val) = psum (gate m c j) (1024 * t.val + n) := by
  have ht : t.val < 8 := lt_of_lt_of_eq t.isLt N_0
  rw [psum_add (gate m c j) (colOf (lgs m c t) j) (1024 * t.val) n hn (by omega) (fun k h _ => lgs_at m c t k j h)]
  exact add_comm _ _

/-- The block of scaled sums at a point. -/
theorem blk_at (c : Dev nD) (t : Fin cfg0.N) (r : Fin 1024) (j : Fin 128) :
    blk (lgs m c t) (crow m c t.val) r j = psum (gate m c j) (1024 * t.val + (r.val + 1)) * Ideal.ofBits .f32 0x3FB8AA3B#32 :=
  congrArg (· * Ideal.ofBits .f32 0x3FB8AA3B#32) (psum_step m c t j (r.val + 1) (by omega))

/-- What a point carries on. -/
theorem carry_step (c : Dev nD) (t : Fin cfg0.N) : lastRow (s7 (lgs m c t) (crow m c t.val)) = crow m c (t.val + 1) :=
  funext fun (y : S1x128.Idx) => by
    obtain ⟨a, j, rfl⟩ : ∃ (a : Fin 1) (j : Fin 128), y = ix2 a j := ⟨y 0, y 1, eq_ix2 y⟩
    obtain rfl : a = 0 := Subsingleton.elim _ _
    refine (carry_at _ _ j).trans ?_
    show _ = psum (gate m c j) (1024 * (t.val + 1))
    rw [Nat.mul_add, Nat.mul_one]
    exact psum_step m c t j 1024 le_rfl

/-- The row that the first point starts from. -/
theorem crow_zero (c : Dev nD) : k0_pay9 (F := Ideal) = crow m c 0 :=
  funext fun (y : S1x128.Idx) => by
    obtain ⟨a, j, rfl⟩ : ∃ (a : Fin 1) (j : Fin 128), y = ix2 a j := ⟨y 0, y 1, eq_ix2 y⟩
    obtain rfl : a = 0 := Subsingleton.elim _ _
    exact (pay9_at j).trans (psum_zero (gate m c j)).symm

/-- What a point leaves: the block, its transpose, the normalised rows, the cast weights and the row carried on. -/
def left (c : Dev nD) (t : Fin cfg0.N) :
    Vec Ideal S1024x128 .f32 × Vec Ideal S128x1024 .f32 × Vec Ideal S1024x2048 .bf16 × Vec Ideal S128x2048 .bf16 × Vec Ideal S1x128 .f32 :=
  (fun y : S1024x128.Idx => blk (lgs m c t) (crow m c t.val) (y 0) (y 1), fun y : S128x1024.Idx => blk (lgs m c t) (crow m c t.val) (y 1) (y 0),
    k0_pay11 (iblk m c 0 t) (iblk m c 2 t), wts m c, crow m c (t.val + 1))

theorem left_A (c : Dev nD) (t : Fin cfg0.N) (h : t.val % 8 = 0) : outsAt0 m c t.val t.isLt = left m c t := by
  have ht : t.val < 8 := lt_of_lt_of_eq t.isLt N_0
  have h0 : t.val = 0 := by omega
  rw [outsAt0_A m c t h h, out4_A, out5_A, out6_A, sout0_A, sout1_A, pay10_wts]
  have e := carry_step m c t
  unfold left
  rw [h0] at e ⊢
  rw [crow_zero m c]
  exact congrArg (fun z => (_, _, _, _, z)) e

theorem left_B (c : Dev nD) (t : Fin cfg0.N) (h : ¬t.val % 8 = 0) (n : ℕ) (hn : n < cfg0.N) (hp : t.val = n + 1)
    (ih : outsAt0 m c n hn = left m c ⟨n, hn⟩) : outsAt0 m c t.val t.isLt = left m c t := by
  have e : outsAt0 m c (t.val - 1) (Nat.lt_of_le_of_lt (Nat.sub_le _ _) t.isLt) = left m c ⟨n, hn⟩ := by
    rw [← ih]; congr 1; omega
  rw [outsAt0_B m c t h h, out4_B, out5_B, out6_B, sout1_B, e]
  have e2 := carry_step m c t
  have e3 : (left m c ⟨n, hn⟩).2.2.2.2 = crow m c t.val := by rw [hp]; rfl
  rw [e3]
  exact congrArg (fun z => (_, _, _, _, z)) e2

/-- What every point leaves. -/
theorem left_all (c : Dev nD) : ∀ (n : ℕ) (hn : n < cfg0.N), outsAt0 m c n hn = left m c ⟨n, hn⟩
  | 0, hn => left_A m c ⟨0, hn⟩ rfl
  | n + 1, hn => left_B m c ⟨n + 1, hn⟩ (by have : n + 1 < 8 := lt_of_lt_of_eq hn N_0; dsimp only; omega) n (Nat.lt_of_succ_lt hn) rfl (left_all c n (Nat.lt_of_succ_lt hn))

/-- Every point writes output window 4 back. -/
theorem flush0_4_all : ∀ t : Fin cfg0.N, (cfg0.win 4).flush t = true :=
  (by decide +kernel : ∀ t : Fin grid0.N, win0_4.flush t = true)

/-- An index of the array is in a point's block iff each coordinate is in the block's range. -/
theorem mem0_4 (t : Fin cfg0.N) (i : S8192x128.Idx) :
    i ∈ ((cfg0.win 4).blk t).view.set ↔ ∀ a : Fin 2, win0_4.index t a * S1024x128.size a ≤ (i a).val ∧ (i a).val < win0_4.index t a * S1024x128.size a + S1024x128.size a := by
  show i ∈ ((View.whole main_v4_0).slice (win0_4.rect t)).set ↔ _
  rw [View.set_slice_whole, Rect.mem_set_unit]
  exact Iff.rfl

/-- Every index of output window 4's array is in the block of a point that writes back. -/
theorem covered0_4 (i : S8192x128.Idx) :
    ∃ t : Fin cfg0.N, (cfg0.win 4).flush t = true ∧ i ∈ ((cfg0.win 4).blk t).view.set := by
  have hi0 : (i 0).val < 8192 := (i 0).isLt
  have hi1 : (i 1).val < 128 := (i 1).isLt
  have hN : cfg0.N = 8 := N_0
  refine ⟨⟨(i 0).val / 1024, by rw [hN]; omega⟩, (flush0_4_all _), ?_⟩
  rw [mem0_4]
  obtain ⟨e0_0, e0_1, e1_0, e1_1, e1_2, e2_0, e2_1, e3_0, e3_1, e4_0, e4_1, e5_0, e5_1, e6_0, e6_1⟩ := where0 ⟨(i 0).val / 1024, by rw [hN]; omega⟩
  intro a
  match a with
  | ⟨0, _⟩ => show win0_4.index _ (0 : Fin 2) * 1024 ≤ (i 0).val ∧ (i 0).val < win0_4.index _ (0 : Fin 2) * 1024 + 1024; rw [e4_0]; dsimp only; omega
  | ⟨1, _⟩ => show win0_4.index _ (1 : Fin 2) * 128 ≤ (i 1).val ∧ (i 1).val < win0_4.index _ (1 : Fin 2) * 128 + 128; rw [e4_1]; dsimp only; omega

/-- The lanes' running sums, as the launch finds its arrays. -/
def G0_4 (c : Dev nD) : (⟨2, S8192x128.size⟩ : Shape).Idx → EReal := fun i =>
  psum (gate m c (i 1)) ((i 0).val + 1) * Ideal.ofBits .f32 0x3FB8AA3B#32

/-- What a point writes back to output window 4 is that function read through the block. -/
theorem flushed0_4 (c : Dev nD) (t : Fin cfg0.N) :
    (dats m 0 c).flushed 4 t = ((cfg0.win 4).blk t).view.read (Elt Ideal) (G0_4 m c) := by
  obtain ⟨e0_0, e0_1, e1_0, e1_1, e1_2, e2_0, e2_1, e3_0, e3_1, e4_0, e4_1, e5_0, e5_1, e6_0, e6_1⟩ := where0 t
  refine funext fun (y : S1024x128.Idx) => ?_
  have q0 : ((((cfg0.win 4).blk t).view.emb y : S8192x128.Idx) 0).val = t.val * 1024 + (y 0).val := by
    show win0_4.index t (0 : Fin 2) * 1024 + 1 * (y 0).val = _
    rw [e4_0]; omega
  have q1 : ((((cfg0.win 4).blk t).view.emb y : S8192x128.Idx) 1).val = 0 * 128 + (y 1).val := by
    show win0_4.index t (1 : Fin 2) * 128 + 1 * (y 1).val = _
    rw [e4_1]; omega
  show (dats m 0 c).after 4 t y = G0_4 m c (((cfg0.win 4).blk t).view.emb y)
  generalize (((cfg0.win 4).blk t).view.emb y : S8192x128.Idx) = i at q0 q1
  have b0 := idx2_lt0 y
  have b1 := idx2_lt1 y
  have ht : t.val < 8 := lt_of_lt_of_eq t.isLt N_0
  rw [after0_4, left_all]
  show blk (lgs m c t) (crow m c t.val) (y 0) (y 1) = _
  refine (blk_at m c t (y 0) (y 1)).trans ?_
  unfold G0_4
  have h1 : (y 1 : Fin 128) = i 1 := Fin.ext (by omega)
  have h0 : 1024 * t.val + ((y 0).val + 1) = (i 0).val + 1 := by omega
  rw [h1]
  exact congrArg (fun n => psum (gate m c (i 1)) n * Ideal.ofBits .f32 0x3FB8AA3B#32) h0

/-- Output window 4's array at the launch's end. -/
theorem final0_4 (c : Dev nD) : (dats m 0 c).arrAt 4 cfg0.N = G0_4 m c :=
  (dats m 0 c).arrAt_eq_of_cover 4 _ (fun t _ => flushed0_4 m c t) covered0_4

/-- Every point writes output window 5 back. -/
theorem flush0_5_all : ∀ t : Fin cfg0.N, (cfg0.win 5).flush t = true :=
  (by decide +kernel : ∀ t : Fin grid0.N, win0_5.flush t = true)

/-- An index of the array is in a point's block iff each coordinate is in the block's range. -/
theorem mem0_5 (t : Fin cfg0.N) (i : S128x8192.Idx) :
    i ∈ ((cfg0.win 5).blk t).view.set ↔ ∀ a : Fin 2, win0_5.index t a * S128x1024.size a ≤ (i a).val ∧ (i a).val < win0_5.index t a * S128x1024.size a + S128x1024.size a := by
  show i ∈ ((View.whole main_v4_1).slice (win0_5.rect t)).set ↔ _
  rw [View.set_slice_whole, Rect.mem_set_unit]
  exact Iff.rfl

/-- Every index of output window 5's array is in the block of a point that writes back. -/
theorem covered0_5 (i : S128x8192.Idx) :
    ∃ t : Fin cfg0.N, (cfg0.win 5).flush t = true ∧ i ∈ ((cfg0.win 5).blk t).view.set := by
  have hi0 : (i 0).val < 128 := (i 0).isLt
  have hi1 : (i 1).val < 8192 := (i 1).isLt
  have hN : cfg0.N = 8 := N_0
  refine ⟨⟨(i 1).val / 1024, by rw [hN]; omega⟩, (flush0_5_all _), ?_⟩
  rw [mem0_5]
  obtain ⟨e0_0, e0_1, e1_0, e1_1, e1_2, e2_0, e2_1, e3_0, e3_1, e4_0, e4_1, e5_0, e5_1, e6_0, e6_1⟩ := where0 ⟨(i 1).val / 1024, by rw [hN]; omega⟩
  intro a
  match a with
  | ⟨0, _⟩ => show win0_5.index _ (0 : Fin 2) * 128 ≤ (i 0).val ∧ (i 0).val < win0_5.index _ (0 : Fin 2) * 128 + 128; rw [e5_0]; dsimp only; omega
  | ⟨1, _⟩ => show win0_5.index _ (1 : Fin 2) * 1024 ≤ (i 1).val ∧ (i 1).val < win0_5.index _ (1 : Fin 2) * 1024 + 1024; rw [e5_1]; dsimp only; omega

/-- The lanes' running sums, turned, as the launch finds its arrays. -/
def G0_5 (c : Dev nD) : (⟨2, S128x8192.size⟩ : Shape).Idx → EReal := fun i =>
  psum (gate m c (i 0)) ((i 1).val + 1) * Ideal.ofBits .f32 0x3FB8AA3B#32

/-- What a point writes back to output window 5 is that function read through the block. -/
theorem flushed0_5 (c : Dev nD) (t : Fin cfg0.N) :
    (dats m 0 c).flushed 5 t = ((cfg0.win 5).blk t).view.read (Elt Ideal) (G0_5 m c) := by
  obtain ⟨e0_0, e0_1, e1_0, e1_1, e1_2, e2_0, e2_1, e3_0, e3_1, e4_0, e4_1, e5_0, e5_1, e6_0, e6_1⟩ := where0 t
  refine funext fun (y : S128x1024.Idx) => ?_
  have q0 : ((((cfg0.win 5).blk t).view.emb y : S128x8192.Idx) 0).val = 0 * 128 + (y 0).val := by
    show win0_5.index t (0 : Fin 2) * 128 + 1 * (y 0).val = _
    rw [e5_0]; omega
  have q1 : ((((cfg0.win 5).blk t).view.emb y : S128x8192.Idx) 1).val = t.val * 1024 + (y 1).val := by
    show win0_5.index t (1 : Fin 2) * 1024 + 1 * (y 1).val = _
    rw [e5_1]; omega
  show (dats m 0 c).after 5 t y = G0_5 m c (((cfg0.win 5).blk t).view.emb y)
  generalize (((cfg0.win 5).blk t).view.emb y : S128x8192.Idx) = i at q0 q1
  have b0 := idx2_lt0 y
  have b1 := idx2_lt1 y
  have ht : t.val < 8 := lt_of_lt_of_eq t.isLt N_0
  rw [after0_5, left_all]
  show blk (lgs m c t) (crow m c t.val) (y 1) (y 0) = _
  refine (blk_at m c t (y 1) (y 0)).trans ?_
  unfold G0_5
  have h1 : (y 0 : Fin 128) = i 0 := Fin.ext (by omega)
  have h0 : 1024 * t.val + ((y 1).val + 1) = (i 1).val + 1 := by omega
  rw [h1]
  exact congrArg (fun n => psum (gate m c (i 0)) n * Ideal.ofBits .f32 0x3FB8AA3B#32) h0

/-- Output window 5's array at the launch's end. -/
theorem final0_5 (c : Dev nD) : (dats m 0 c).arrAt 5 cfg0.N = G0_5 m c :=
  (dats m 0 c).arrAt_eq_of_cover 5 _ (fun t _ => flushed0_5 m c t) covered0_5

/-- Every point writes output window 6 back. -/
theorem flush0_6_all : ∀ t : Fin cfg0.N, (cfg0.win 6).flush t = true :=
  (by decide +kernel : ∀ t : Fin grid0.N, win0_6.flush t = true)

/-- An index of the array is in a point's block iff each coordinate is in the block's range. -/
theorem mem0_6 (t : Fin cfg0.N) (i : S8192x2048.Idx) :
    i ∈ ((cfg0.win 6).blk t).view.set ↔ ∀ a : Fin 2, win0_6.index t a * S1024x2048.size a ≤ (i a).val ∧ (i a).val < win0_6.index t a * S1024x2048.size a + S1024x2048.size a := by
  show i ∈ ((View.whole main_v4_2).slice (win0_6.rect t)).set ↔ _
  rw [View.set_slice_whole, Rect.mem_set_unit]
  exact Iff.rfl

/-- Every index of output window 6's array is in the block of a point that writes back. -/
theorem covered0_6 (i : S8192x2048.Idx) :
    ∃ t : Fin cfg0.N, (cfg0.win 6).flush t = true ∧ i ∈ ((cfg0.win 6).blk t).view.set := by
  have hi0 : (i 0).val < 8192 := (i 0).isLt
  have hi1 : (i 1).val < 2048 := (i 1).isLt
  have hN : cfg0.N = 8 := N_0
  refine ⟨⟨(i 0).val / 1024, by rw [hN]; omega⟩, (flush0_6_all _), ?_⟩
  rw [mem0_6]
  obtain ⟨e0_0, e0_1, e1_0, e1_1, e1_2, e2_0, e2_1, e3_0, e3_1, e4_0, e4_1, e5_0, e5_1, e6_0, e6_1⟩ := where0 ⟨(i 0).val / 1024, by rw [hN]; omega⟩
  intro a
  match a with
  | ⟨0, _⟩ => show win0_6.index _ (0 : Fin 2) * 1024 ≤ (i 0).val ∧ (i 0).val < win0_6.index _ (0 : Fin 2) * 1024 + 1024; rw [e6_0]; dsimp only; omega
  | ⟨1, _⟩ => show win0_6.index _ (1 : Fin 2) * 2048 ≤ (i 1).val ∧ (i 1).val < win0_6.index _ (1 : Fin 2) * 2048 + 2048; rw [e6_1]; dsimp only; omega

/-- The normalised rows, as the launch finds its arrays. -/
def G0_6 (c : Dev nD) : (⟨2, S8192x2048.size⟩ : Shape).Idx → EReal := fun i =>
  hnS (fun k => rd S8192x2048 (V m c main_arg0) (ix2 (i 0) k)) (fun k => rd S1x2048 (V m c main_v3) (ix2 (0 : Fin 1) k)) (i 1)

/-- What a point writes back to output window 6 is that function read through the block. -/
theorem flushed0_6 (c : Dev nD) (t : Fin cfg0.N) :
    (dats m 0 c).flushed 6 t = ((cfg0.win 6).blk t).view.read (Elt Ideal) (G0_6 m c) := by
  obtain ⟨e0_0, e0_1, e1_0, e1_1, e1_2, e2_0, e2_1, e3_0, e3_1, e4_0, e4_1, e5_0, e5_1, e6_0, e6_1⟩ := where0 t
  refine funext fun (y : S1024x2048.Idx) => ?_
  have q0 : ((((cfg0.win 6).blk t).view.emb y : S8192x2048.Idx) 0).val = t.val * 1024 + (y 0).val := by
    show win0_6.index t (0 : Fin 2) * 1024 + 1 * (y 0).val = _
    rw [e6_0]; omega
  have q1 : ((((cfg0.win 6).blk t).view.emb y : S8192x2048.Idx) 1).val = 0 * 2048 + (y 1).val := by
    show win0_6.index t (1 : Fin 2) * 2048 + 1 * (y 1).val = _
    rw [e6_1]; omega
  show (dats m 0 c).after 6 t y = G0_6 m c (((cfg0.win 6).blk t).view.emb y)
  generalize (((cfg0.win 6).blk t).view.emb y : S8192x2048.Idx) = i at q0 q1
  have b0 := idx2_lt0 y
  have b1 := idx2_lt1 y
  have ht : t.val < 8 := lt_of_lt_of_eq t.isLt N_0
  rw [after0_6, left_all]
  show k0_pay11 (F := Ideal) (iblk m c 0 t) (iblk m c 2 t) y = _
  rw [k0_pay11_at]
  have hx : ∀ k : Fin 2048, iblk m c 0 t (ix2 (y 0) k) = rd S8192x2048 (V m c main_arg0) (ix2 (i 0) k) := fun k =>
    iblk_0_at m c t _ _ (by rw [← q0]) (by show k.val = 0 * 2048 + k.val; omega)
  have hw : ∀ k : Fin 2048, iblk m c 2 t (ix2 (0 : Fin 1) k) = rd S1x2048 (V m c main_v3) (ix2 (0 : Fin 1) k) := fun k =>
    iblk_2_at m c t _ _ (by show 0 = 0 * 1 + 0; omega) (by show k.val = 0 * 2048 + k.val; omega)
  have h1 : (y 1 : Fin 2048) = i 1 := Fin.ext (by omega)
  unfold G0_6
  rw [funext hx, funext hw]
  exact congrArg (hnS _ _) h1

/-- Output window 6's array at the launch's end. -/
theorem final0_6 (c : Dev nD) : (dats m 0 c).arrAt 6 cfg0.N = G0_6 m c :=
  (dats m 0 c).arrAt_eq_of_cover 6 _ (fun t _ => flushed0_6 m c t) covered0_6

end Cert.Kernel6Ideal.Hand

end
-- ==== Proof.P6KerValue.lean ====
module

public import proofs.«01_k».proof.Proof.P6Value
public import Idealize.ShloMosaic.Lib.KernelVsHost

@[expose] public section

set_option maxRecDepth 16384

noncomputable section

namespace Cert.Kernel6Ideal.Hand

open Cert.Kernel6Ideal Cert.Kernel6Ideal.Gen Cert.Hand
open Idealize.ShloMosaic Idealize.ShloMosaic.TcCoe Idealize.ShloMosaic.ValueIdx Idealize.SL.Sem
open Idealize.ShloMosaic.Pipeline (Dat Cfg Window)

variable (m : (ℓ : Loc nD τ sig) → Buf (Elt Ideal) ℓ) (c : Dev nD)

/-- The stream, as launched. -/
abbrev a0 : S8192x2048.Idx → EReal := m ((c : Thread nD τ).loc main_arg0)
/-- The norm's weights, as launched. -/
abbrev a1 : S2048.Idx → EReal := m ((c : Thread nD τ).loc main_arg1)
/-- The attention's first weights, as launched. -/
abbrev a2 : S1x2048x6160.Idx → EReal := m ((c : Thread nD τ).loc main_arg2)
/-- The gates' biases, as launched. -/
abbrev a3 : S16.Idx → EReal := m ((c : Thread nD τ).loc main_arg3)

/-- The norm's weights given a leading axis, as the launch finds them. -/
theorem V_nw (k : Fin 2048) : rd S1x2048 (V m c main_v3) (ix2 (0 : Fin 1) k) = a1 m c (ix1 k) := by
  have e : V m c main_v3 = shapeCast S1x2048 (a1 m c) shapeCasts_S2048_S1x2048 := by
    simp only [V, V0, hostOps0, hostOps0_1, hostOps0_2, List.flatten_cons, List.flatten_nil, List.append_nil, List.cons_append, List.nil_append]
    after_results_simp <;> rfl
  exact (congrFun e _).trans (lead_at _ _ k)

/-- The transposed weights, as the launch finds them. -/
theorem V_wt (j : Fin 6160) (k : Fin 2048) : rd S1x6160x2048 (V m c main_v0) (ix3 (0 : Fin 1) j k) = a2 m c (ix3 (0 : Fin 1) k j) := by
  have e : V m c main_v0 = transpose S1x6160x2048 [0, 2, 1] (a2 m c) transposes_S1x2048x6160_S1x6160x2048_0_2_1 := by
    simp only [V, V0, hostOps0, hostOps0_1, hostOps0_2, List.flatten_cons, List.flatten_nil, List.append_nil, List.cons_append, List.nil_append]
    after_results_simp <;> rfl
  refine (congrFun e _).trans (transpose_apply _ _ _ _ _ fun b => ?_)
  match b with
  | ⟨0, _⟩ => rfl
  | ⟨1, _⟩ => rfl
  | ⟨2, _⟩ => rfl

/-- The biases, padded to the lanes, as the launch finds them: the last sixteen lanes hold them. -/
theorem V_bias (j : Fin 16) : rd S1x128 (V m c main_v2) (ix2 (0 : Fin 1) (⟨112 + j.val, by omega⟩ : Fin 128)) = a3 m c (ix1 j) := by
  have e : V m c main_v2 = shapeCast S1x128 (pad S128 ![112] ![0] ![0] (a3 m c) (sitofp (F := Ideal) .f32 (constantI S_ 32 0#32)) pads_S16_S128_11200 h_S_) shapeCasts_S128_S1x128 := by
    simp only [V, V0, hostOps0, hostOps0_1, hostOps0_2, List.flatten_cons, List.flatten_nil, List.append_nil, List.cons_append, List.nil_append]
    after_results_simp <;> rfl
  refine ((congrFun e _).trans (lead_at _ _ _)).trans (pad_apply_of_inside _ _ _ _ _ _ _ _ (ix1 j) fun a => ?_)
  match a with
  | ⟨0, _⟩ => show 112 + j.val = 112 + j.val * (0 + 1); omega

/-- A lane's gate is the gate of a column of the weights and a bias. -/
theorem gate_lane (j : Fin 16) : gate m c ⟨112 + j.val, by omega⟩
    = fgate (a0 m c) (fun k => a1 m c (ix1 k)) (fun k => a2 m c (ix3 (0 : Fin 1) k (⟨6144 + j.val, by omega⟩ : Fin 6160))) (a3 m c (ix1 j)) := by
  unfold gate
  have e0 : rd S8192x2048 (V m c main_arg0) = a0 m c := V_main_arg0 m c
  have e2 : ∀ k : Fin 2048, rd S1x6160x2048 (V m c main_v0) (ix3 (0 : Fin 1) (⟨6032 + (112 + j.val), by omega⟩ : Fin 6160) k) = a2 m c (ix3 (0 : Fin 1) k (⟨6144 + j.val, by omega⟩ : Fin 6160)) := fun k =>
    (V_wt m c _ k).trans (congrArg (fun n : Fin 6160 => a2 m c (ix3 (0 : Fin 1) k n)) (Fin.ext (by show 6032 + (112 + j.val) = 6144 + j.val; omega)))
  rw [e0, funext fun k => V_nw m c k, V_bias m c j]
  exact congrArg (fun f => fgate _ _ f _) (funext e2)

/-- The first result, after the lines that follow the launch. -/
abbrev res5 : Buf (Elt Ideal) ((c : Thread nD τ).loc main_v5) := Pipeline.afterTail₀ cfgs (dats m) 0 (V0 m) [hostOps1] c main_v5
/-- The second result, after the lines that follow the launch. -/
abbrev res7 : Buf (Elt Ideal) ((c : Thread nD τ).loc main_v7) := Pipeline.afterTail₀ cfgs (dats m) 0 (V0 m) [hostOps1] c main_v7
/-- The third result, as the launch leaves it. -/
abbrev res42 : Buf (Elt Ideal) ((c : Thread nD τ).loc main_v4_2) := (dats m 0 c).arrAt 6 cfg0.N

/-- The kernel's first result: the gates' running sums. -/
theorem decay_ker : rd S8192x16 (res5 m c) = fun i => decays (a0 m c) (a1 m c) (a2 m c) (a3 m c) (i 0) (i 1) := by
  have e : res5 m c = extractStridedSlice S8192x16 ![0, 112] (rd S8192x128 (Pipeline.withArrays (cfgs 0).spec c (V0 m c) (fun w => (dats m 0 c).arrAt w (cfgs 0).N) (Proc.devRef .tc main_v4_0))) slices_S8192x128_S8192x16_0_112 := by
    unfold res5 Pipeline.afterTail₀
    simp only [hostOps1, List.flatten_cons, List.flatten_nil, List.append_nil]
    after_results_simp <;> rfl
  refine e.trans (funext fun (i : S8192x16.Idx) => ?_)
  have hi := idx2_lt1 i
  refine (extractStridedSlice_apply _ _ _ i (ix2 (i 0) (⟨112 + (i 1).val, by omega⟩ : Fin 128)) fun a => ?_).trans ?_
  · match a with
    | ⟨0, _⟩ => show (i 0).val = 0 + (i 0).val; omega
    | ⟨1, _⟩ => rfl
  refine (congrFun ((Pipeline.withArrays_arr spec0 launch0.win.arr_inj c (V0 m c) (fun w => (dats m 0 c).arrAt w cfg0.N) 4).trans (final0_4 m c)) _).trans ?_
  unfold G0_4 decays decay
  exact congrArg (fun f => psum f ((i 0).val + 1) * Ideal.ofBits .f32 0x3FB8AA3B#32) (gate_lane m c ⟨(i 1).val, hi⟩)

/-- The kernel's second result: the same sums, turned. -/
theorem turned_ker : rd S16x1x8192 (res7 m c) = fun i => decays (a0 m c) (a1 m c) (a2 m c) (a3 m c) (i 2) (i 0) := by
  have e : res7 m c = shapeCast S16x1x8192 (extractStridedSlice S16x8192 ![112, 0] (rd S128x8192 (Pipeline.withArrays (cfgs 0).spec c (V0 m c) (fun w => (dats m 0 c).arrAt w (cfgs 0).N) (Proc.devRef .tc main_v4_1))) slices_S128x8192_S16x8192_112_0) shapeCasts_S16x8192_S16x1x8192 := by
    unfold res7 Pipeline.afterTail₀
    simp only [hostOps1, List.flatten_cons, List.flatten_nil, List.append_nil]
    after_results_simp <;> rfl
  refine e.trans (funext fun (i : S16x1x8192.Idx) => ?_)
  have h0 : (i 0).val < 16 := (i 0).isLt
  have h1 : (i 1).val < 1 := (i 1).isLt
  have h2 : (i 2).val < 8192 := (i 2).isLt
  refine (shapeCast_apply _ _ i (ix2 (⟨(i 0).val, h0⟩ : Fin 16) (⟨(i 2).val, h2⟩ : Fin 8192)) ?_).trans ?_
  · rw [Shape.rowMajor_val_three, Shape.rowMajor_val_two]
    show (i 0).val * 8192 + (i 2).val = ((i 0).val * 1 + (i 1).val) * 8192 + (i 2).val
    omega
  refine (extractStridedSlice_apply _ _ _ _ (ix2 (⟨112 + (i 0).val, by omega⟩ : Fin 128) (⟨(i 2).val, h2⟩ : Fin 8192)) fun a => ?_).trans ?_
  · match a with
    | ⟨0, _⟩ => rfl
    | ⟨1, _⟩ => show (i 2).val = 0 + (i 2).val; omega
  refine (congrFun ((Pipeline.withArrays_arr spec0 launch0.win.arr_inj c (V0 m c) (fun w => (dats m 0 c).arrAt w cfg0.N) 5).trans (final0_5 m c)) _).trans ?_
  unfold G0_5 decays decay
  exact congrArg (fun f => psum f ((i 2).val + 1) * Ideal.ofBits .f32 0x3FB8AA3B#32) (gate_lane m c ⟨(i 0).val, h0⟩)

/-- The kernel's third result: the normalised rows. -/
theorem rows_ker : rd S8192x2048 (res42 m c) = fun i => hnS (fun k => a0 m c (ix2 (i 0) k)) (fun k => a1 m c (ix1 k)) (i 1) := by
  refine (final0_6 m c).trans (funext fun i => ?_)
  unfold G0_6
  have e0 : rd S8192x2048 (V m c main_arg0) = a0 m c := V_main_arg0 m c
  rw [e0, funext fun k => V_nw m c k]

variable (ρ : Dev nD → PrngReg)

/-- A run of the program: what its results, its arguments and its counters hold at the end. -/
theorem run_results : θ_run defs (onTc (τ := τ) (main (F := Ideal))) ⟨m, fun _ => 0, ρ⟩ (fun r => ∀ c : Dev nD,
      r.2.mem ((c.tc : Thread nD τ).loc main_v5) = res5 m c ∧ r.2.mem ((c.tc : Thread nD τ).loc main_v7) = res7 m c ∧ r.2.mem ((c.tc : Thread nD τ).loc main_v4_2) = res42 m c
      ∧ r.2.mem ((c.tc : Thread nD τ).loc main_arg0) = m ((c.tc : Thread nD τ).loc main_arg0) ∧ r.2.mem ((c.tc : Thread nD τ).loc main_arg1) = m ((c.tc : Thread nD τ).loc main_arg1)
      ∧ r.2.mem ((c.tc : Thread nD τ).loc main_arg2) = m ((c.tc : Thread nD τ).loc main_arg2) ∧ r.2.mem ((c.tc : Thread nD τ).loc main_arg3) = m ((c.tc : Thread nD τ).loc main_arg3)) :=
  (θ_run defs _ _).mono (fun _ h c => ⟨(h.2 c).2 main_v5 (Pipeline.mem_restRefs_of main_v5 (by decide) (by decide)),
      (h.2 c).2 main_v7 (Pipeline.mem_restRefs_of main_v7 (by decide) (by decide)), (h.2 c).1 6, h.1 c⟩)
    (θ_run_and (unchanged m ρ) (run_main m ρ))

end Cert.Kernel6Ideal.Hand

end
-- ==== Proof.P7Spec.lean ====
module

public import proofs.«01_k».proof.Proof.Spec

@[expose] public section

/-! # What the seventh program computes

One query of the forgetting attention: a softmax to base two over the keys up to its own position, and the running
maximum, sum and weighted sum by which the kernel reaches it block by block. -/

noncomputable section

namespace Cert.Hand

open Idealize.ShloMosaic Idealize.ShloMosaic.ValueIdx

/-- The weight of key `s` at the reference maximum `μ`: zero past the query's position. -/
def wt (x : ℕ → ℝ) (t : ℕ) (μ : ℝ) (s : ℕ) : ℝ := if s ≤ t then Real.rpow 2 (x s - μ) else 0

/-- The softmax's denominator. -/
def den (x : ℕ → ℝ) (t : ℕ) : ℝ := ∑ s ∈ Finset.range (t + 1), Real.rpow 2 (x s)

/-- The weights' mean of the values, which may be infinite. -/
def smx (x : ℕ → ℝ) (v : ℕ → EReal) (t : ℕ) : EReal :=
  ∑ s ∈ Finset.range (t + 1), ((Real.rpow 2 (x s) / den x t : ℝ) : EReal) * v s

/-- The state after the first `c` keys: a real maximum with the weights' sum and weighted sum at it, or the start. -/
def St (x : ℕ → ℝ) (v : ℕ → EReal) (t c : ℕ) (m l a : EReal) : Prop :=
  (c = 0 ∧ m = ⊥ ∧ l = 0 ∧ a = 0) ∨ ∃ μ : ℝ, m = (μ : EReal)
    ∧ l = ((∑ s ∈ Finset.range c, wt x t μ s : ℝ) : EReal) ∧ a = ∑ s ∈ Finset.range c, ((wt x t μ s : ℝ) : EReal) * v s

/-- A nonnegative real factor goes into a sum of extended reals. -/
theorem nn_mul_sum {ι : Type} (r : ℝ) (hr : 0 ≤ r) (s : Finset ι) (f : ι → EReal) : (r : EReal) * ∑ i ∈ s, f i = ∑ i ∈ s, (r : EReal) * f i := by
  classical
  induction s using Finset.induction_on with
  | empty => simp
  | insert a s h ih =>
    rw [Finset.sum_insert h, Finset.sum_insert h, EReal.left_distrib_of_nonneg_of_ne_top (by exact_mod_cast hr) (EReal.coe_ne_top r), ih]

theorem coe_fsum {ι : Type} (s : Finset ι) (f : ι → ℝ) : ((∑ i ∈ s, f i : ℝ) : EReal) = ∑ i ∈ s, (f i : EReal) := by
  classical
  induction s using Finset.induction_on with
  | empty => simp
  | insert a s h ih => rw [Finset.sum_insert h, Finset.sum_insert h, EReal.coe_add, ih]

theorem rpow2_add (a b : ℝ) : Real.rpow 2 (a + b) = Real.rpow 2 a * Real.rpow 2 b := Real.rpow_add (by norm_num) a b

theorem rpow2_pos (a : ℝ) : 0 < Real.rpow 2 a := Real.rpow_pos_of_pos (by norm_num) a

theorem wt_shift (x : ℕ → ℝ) (t : ℕ) (μ ν : ℝ) (s : ℕ) : wt x t ν s = Real.rpow 2 (μ - ν) * wt x t μ s := by
  unfold wt
  split
  · rw [← rpow2_add]; congr 1; ring
  · simp

/-- The maximum of finitely many values none of which is `⊤` and one of which is real is real. -/
theorem fold_real {W : ℕ} (s : Fin W → EReal) (h : ∀ j, s j ≠ ⊤) (j0 : Fin W) (h0 : s j0 ≠ ⊥) :
    ∃ σ : ℝ, (Finset.univ : Finset (Fin W)).fold max ⊥ s = (σ : EReal) := by
  have e : (Finset.univ : Finset (Fin W)).fold max ⊥ s = Finset.univ.sup s := rfl
  rw [e]
  have ht : Finset.univ.sup s ≠ ⊤ := by
    refine ne_of_lt ((Finset.sup_lt_iff (by exact bot_lt_top)).2 fun j _ => lt_top_iff_ne_top.2 (h j))
  have hb : Finset.univ.sup s ≠ ⊥ := fun hh => h0 (le_bot_iff.1 (hh ▸ Finset.le_sup (f := s) (Finset.mem_univ j0)))
  exact ⟨(Finset.univ.sup s).toReal, (EReal.coe_toReal ht hb).symm⟩

theorem exp2_coe (r : ℝ) : Ideal.exp2 (r : EReal) = ((Real.rpow 2 r : ℝ) : EReal) := rfl
theorem exp2_bot : Ideal.exp2 ⊥ = 0 := rfl

/-- One block of keys carries the state past it. -/
theorem St_step (x : ℕ → ℝ) (v : ℕ → EReal) (t c W : ℕ) (dq : ℝ) (m l a : EReal) (s u : Fin W → EReal) (h : St x v t c m l a)
    (hs : ∀ j : Fin W, s j = if c + j.val ≤ t then ((x (c + j.val) - dq : ℝ) : EReal) else ⊥)
    (hu : ∀ j : Fin W, u j = v (c + j.val)) (hW : 0 < W) (hct : c ≤ t) (mn : EReal)
    (hmn : mn = max m ((Finset.univ : Finset (Fin W)).fold max ⊥ s + (dq : EReal))) :
    St x v t (c + W) mn (Ideal.exp2 (m - mn) * l + ∑ j : Fin W, Ideal.exp2 (s j - (mn - (dq : EReal))))
      (Ideal.exp2 (m - mn) * a + ∑ j : Fin W, u j * Ideal.exp2 (s j - (mn - (dq : EReal)))) := by
  have hs0 : s ⟨0, hW⟩ ≠ ⊥ := by
    rw [hs, if_pos (show c + 0 ≤ t from hct)]; exact EReal.coe_ne_bot _
  have hst : ∀ j, s j ≠ ⊤ := fun j => by
    rw [hs]; split
    · exact EReal.coe_ne_top _
    · exact bot_ne_top
  obtain ⟨σ, hσ⟩ := fold_real s hst ⟨0, hW⟩ hs0
  rw [hσ] at hmn
  right
  have hp : ∀ ν : ℝ, mn = (ν : EReal) → ∀ j : Fin W, Ideal.exp2 (s j - (mn - (dq : EReal))) = ((wt x t ν (c + j.val) : ℝ) : EReal) := fun ν hν j => by
    rw [hs, hν]; unfold wt
    split
    · rw [← EReal.coe_sub, ← EReal.coe_sub, exp2_coe]; congr 2; ring
    · rw [← EReal.coe_sub, EReal.bot_sub, exp2_bot]; rfl
  have hsum : ∀ ν : ℝ, mn = (ν : EReal) → ∑ j : Fin W, Ideal.exp2 (s j - (mn - (dq : EReal))) = ((∑ j : Fin W, wt x t ν (c + j.val) : ℝ) : EReal) := fun ν hν => by
    rw [coe_fsum]; exact Finset.sum_congr rfl fun j _ => hp ν hν j
  have hsumv : ∀ ν : ℝ, mn = (ν : EReal) → ∑ j : Fin W, u j * Ideal.exp2 (s j - (mn - (dq : EReal))) = ∑ j : Fin W, ((wt x t ν (c + j.val) : ℝ) : EReal) * v (c + j.val) := fun ν hν =>
    Finset.sum_congr rfl fun j _ => by rw [hp ν hν j, hu, mul_comm]
  have hsplit : ∀ f : ℕ → ℝ, ∑ s ∈ Finset.range (c + W), f s = ∑ s ∈ Finset.range c, f s + ∑ j : Fin W, f (c + j.val) := fun f => by
    rw [Finset.sum_range_add, Fin.sum_univ_eq_sum_range (fun j => f (c + j)) W]
  have hsplit' : ∀ f : ℕ → EReal, ∑ s ∈ Finset.range (c + W), f s = ∑ s ∈ Finset.range c, f s + ∑ j : Fin W, f (c + j.val) := fun f => by
    rw [Finset.sum_range_add, Fin.sum_univ_eq_sum_range (fun j => f (c + j)) W]
  rcases h with ⟨rfl, rfl, rfl, rfl⟩ | ⟨μ, rfl, rfl, rfl⟩
  · have hν : mn = ((σ + dq : ℝ) : EReal) := by rw [hmn, max_eq_right bot_le, EReal.coe_add]
    refine ⟨σ + dq, hν, ?_, ?_⟩
    · rw [hsum _ hν, mul_zero, zero_add, hsplit]; simp
    · rw [hsumv _ hν, mul_zero, zero_add, hsplit']; simp
  · have hν : mn = ((max μ (σ + dq) : ℝ) : EReal) := by
      rw [hmn, ← EReal.coe_add]; exact (EReal.coe_strictMono.monotone.map_max (a := μ) (b := σ + dq)).symm
    refine ⟨max μ (σ + dq), hν, ?_, ?_⟩
    · rw [hsum _ hν, hν, ← EReal.coe_sub, exp2_coe, ← EReal.coe_mul, ← EReal.coe_add, hsplit, Finset.mul_sum]
      congr 2
      exact Finset.sum_congr rfl fun s _ => (wt_shift x t μ _ s).symm
    · rw [hsumv _ hν, hν, ← EReal.coe_sub, exp2_coe, hsplit', nn_mul_sum _ (rpow2_pos _).le]
      congr 1
      exact Finset.sum_congr rfl fun s _ => by rw [wt_shift x t μ (max μ (σ + dq)) s, EReal.coe_mul, mul_assoc]

/-- The first weights' sum, once they reach past the query: the denominator at the reference maximum. -/
theorem sum_wt (x : ℕ → ℝ) (t c : ℕ) (μ : ℝ) (hc : t < c) : ∑ s ∈ Finset.range c, wt x t μ s = Real.rpow 2 (-μ) * den x t := by
  have e : ∀ s, wt x t μ s = if s ≤ t then Real.rpow 2 (-μ) * Real.rpow 2 (x s) else 0 := fun s => by
    unfold wt
    split
    · rw [sub_eq_neg_add, rpow2_add]
    · rfl
  unfold den
  rw [Finset.sum_congr rfl fun s _ => e s, ← Finset.sum_filter, Finset.mul_sum]
  refine Finset.sum_congr (Finset.ext fun s => ?_) fun _ _ => rfl
  simp only [Finset.mem_filter, Finset.mem_range]; omega

theorem den_pos (x : ℕ → ℝ) (t : ℕ) : 0 < den x t :=
  Finset.sum_pos (fun s _ => rpow2_pos _) ⟨0, by simp⟩

/-- The weights divided by their sum make the softmax's mean, whatever the reference maximum. -/
theorem mean_wt (x : ℕ → ℝ) (v : ℕ → EReal) (t c : ℕ) (μ : ℝ) (hc : t < c) :
    ∑ s ∈ Finset.range c, ((wt x t μ s / (Real.rpow 2 (-μ) * den x t) : ℝ) : EReal) * v s = smx x v t := by
  have hm := rpow2_pos (-μ)
  have e : ∀ s, ((wt x t μ s / (Real.rpow 2 (-μ) * den x t) : ℝ) : EReal) * v s = if s ≤ t then ((Real.rpow 2 (x s) / den x t : ℝ) : EReal) * v s else 0 := fun s => by
    unfold wt
    split
    · rw [sub_eq_neg_add, rpow2_add, mul_div_mul_left _ _ hm.ne']
    · rw [zero_div, EReal.coe_zero, zero_mul]
  unfold smx
  rw [Finset.sum_congr rfl fun s _ => e s, ← Finset.sum_filter]
  refine Finset.sum_congr (Finset.ext fun s => ?_) fun _ _ => rfl
  simp only [Finset.mem_filter, Finset.mem_range]; omega

theorem div_coe (a : EReal) (b : ℝ) (hb : b ≠ 0) : Ideal.div a (b : EReal) = a * ((b⁻¹ : ℝ) : EReal) := by
  unfold Ideal.div
  rw [if_neg (by exact_mod_cast hb), EReal.coe_inv]

/-- Past the query's position the state's quotient is the softmax's. -/
theorem St_end (x : ℕ → ℝ) (v : ℕ → EReal) (t c : ℕ) (m l a : EReal) (h : St x v t c m l a) (hc : t < c) : Ideal.div a l = smx x v t := by
  rcases h with ⟨rfl, -⟩ | ⟨μ, -, rfl, rfl⟩
  · omega
  · have hd := den_pos x t
    have hm := rpow2_pos (-μ)
    rw [sum_wt x t c μ hc, div_coe _ _ (by positivity), mul_comm, nn_mul_sum _ (by positivity), ← mean_wt x v t c μ hc]
    exact Finset.sum_congr rfl fun s _ => by rw [← mul_assoc, ← EReal.coe_mul, mul_comm (_⁻¹), ← div_eq_mul_inv]

/-- The textbook softmax of one query: the same value. -/
theorem ref_smx (x : ℕ → ℝ) (v : ℕ → EReal) (t N : ℕ) (htN : t < N) (s u w : Fin N → EReal) (M : EReal)
    (hs : ∀ j : Fin N, s j = if j.val ≤ t then ((x j.val : ℝ) : EReal) else ⊥) (hu : ∀ j : Fin N, u j = v j.val)
    (hM : M = (Finset.univ : Finset (Fin N)).fold max ⊥ s) (hw : ∀ j, w j = Ideal.pow ((2 : ℝ) : EReal) (s j - M)) :
    ∑ j : Fin N, u j * Ideal.div (w j) (0 + ∑ k : Fin N, w k) = smx x v t := by
  have hs0 : s ⟨0, by omega⟩ ≠ ⊥ := by
    rw [hs, if_pos (Nat.zero_le _)]; exact EReal.coe_ne_bot _
  have hst : ∀ j, s j ≠ ⊤ := fun j => by
    rw [hs]; split
    · exact EReal.coe_ne_top _
    · exact bot_ne_top
  obtain ⟨μ, hμ⟩ := fold_real s hst ⟨0, by omega⟩ hs0
  rw [hμ] at hM
  have hw' : ∀ j : Fin N, w j = ((wt x t μ j.val : ℝ) : EReal) := fun j => by
    rw [hw, hs, hM]; unfold wt
    split
    · rw [← EReal.coe_sub]; rfl
    · rw [EReal.bot_sub]
      show (if (2 : ℝ) < 0 then ⊥ else if 1 < (2 : ℝ) then (0 : EReal) else if (2 : ℝ) = 1 then 1 else ⊤) = _
      norm_num
  have hl : (0 + ∑ k : Fin N, w k) = ((∑ s ∈ Finset.range N, wt x t μ s : ℝ) : EReal) := by
    rw [zero_add, ← Fin.sum_univ_eq_sum_range, coe_fsum]; exact Finset.sum_congr rfl fun k _ => hw' k
  have hd := den_pos x t
  have hm := rpow2_pos (-μ)
  rw [hl, sum_wt x t N μ htN]
  have e : ∀ j : Fin N, u j * Ideal.div (w j) ((Real.rpow 2 (-μ) * den x t : ℝ) : EReal)
      = ((wt x t μ j.val / (Real.rpow 2 (-μ) * den x t) : ℝ) : EReal) * v j.val := fun j => by
    rw [hw', hu, div_coe _ _ (by positivity), ← EReal.coe_mul, ← div_eq_mul_inv, mul_comm]
  rw [Finset.sum_congr rfl fun j _ => e j,
    Fin.sum_univ_eq_sum_range (fun j => ((wt x t μ j / (Real.rpow 2 (-μ) * den x t) : ℝ) : EReal) * v j) N, mean_wt x v t N μ htN]

end Cert.Hand

end
-- ==== Proof.P7Step.lean ====
module

public import proofs.«01_k».proof.Proof.P7Spec

@[expose] public section

/-! # One block of keys, as the kernel writes it

The kernel handles blocks of 2048, 1024 and 512 keys by 1024 or 512 queries with the same lines; they are read here once,
for any extents. -/

noncomputable section

namespace Cert.Hand

open Idealize.ShloMosaic Idealize.ShloMosaic.ValueIdx

/-- A product contracted over both operands' rows, `[K,M]ᵀ × [K,N]`. -/
def dotT (K M N : ℕ) (wf : DotDims.WF (⟨2, ![K, M]⟩ : Shape) (⟨2, ![K, N]⟩ : Shape) (⟨2, ![M, N]⟩ : Shape) [0] [0] [1] [1] [] []) :
    DotDims ⟨2, ![K, M]⟩ ⟨2, ![K, N]⟩ ⟨2, ![M, N]⟩ where
  lhsContracting := [0]
  rhsContracting := [0]
  lhsNonContracting := [1]
  rhsNonContracting := [1]
  lhsBatch := []
  rhsBatch := []
  wf := wf

/-- Such a product into a zero accumulator, at an index. -/
theorem dotT_at {K M N : ℕ} {φ₁ φ₂ : FTy} (wf : DotDims.WF (⟨2, ![K, M]⟩ : Shape) (⟨2, ![K, N]⟩ : Shape) (⟨2, ![M, N]⟩ : Shape) [0] [0] [1] [1] [] [])
    (lhs : FVec Ideal ⟨2, ![K, M]⟩ φ₁) (rhs : FVec Ideal ⟨2, ![K, N]⟩ φ₂) (r : Fin M) (c : Fin N) :
    FloatOps.matmul (dotT K M N wf) none lhs rhs (constant ⟨2, ![M, N]⟩ .f32 0x00000000#32) (ix2 r c) = ∑ k : Fin K, lhs (ix2 k r) * rhs (ix2 k c) := by
  have h1 : (dotT K M N wf).contr.rank = 1 := rfl
  have h2 : (dotT K M N wf).contr.size ⟨0, by rw [h1]; exact Nat.one_pos⟩ = K := rfl
  rw [Ideal.matmul_apply, ← Equiv.sum_comp (contrEquiv1 _ K h1 h2).symm]
  show Ideal.ofBits .f32 0x00000000#32 + _ = _
  rw [Ideal.ofBits_zero_f32, zero_add]
  refine Finset.sum_congr rfl fun k _ => ?_
  have hk := contrEquiv1_symm_val _ K h1 h2 k
  have el : (dotT K M N wf).lhsIdx (ix2 r c) ((contrEquiv1 _ K h1 h2).symm k) = ix2 k r := by
    funext a; apply Fin.ext
    match a with
    | ⟨0, _⟩ => exact hk
    | ⟨1, _⟩ => rfl
  have er : (dotT K M N wf).rhsIdx (ix2 r c) ((contrEquiv1 _ K h1 h2).symm k) = ix2 k c := by
    funext a; apply Fin.ext
    match a with
    | ⟨0, _⟩ => exact hk
    | ⟨1, _⟩ => rfl
  rw [el, er]

/-- The relations between shapes that a block of `W` keys by `N` queries uses. -/
structure SF (W N : ℕ) : Prop where
  r1 : (⟨2, ![W, 128]⟩ : Shape).Reduces [1] ⟨1, ![W]⟩
  c1 : (⟨1, ![W]⟩ : Shape).ShapeCasts ⟨2, ![W, 1]⟩
  b1 : (⟨2, ![W, 1]⟩ : Shape).Broadcasts ⟨2, ![W, N]⟩
  r0 : (⟨2, ![W, N]⟩ : Shape).Reduces [0] ⟨1, ![N]⟩
  cN : (⟨1, ![N]⟩ : Shape).ShapeCasts ⟨2, ![1, N]⟩
  bN : (⟨2, ![1, N]⟩ : Shape).Broadcasts ⟨2, ![W, N]⟩
  bD : (⟨2, ![1, N]⟩ : Shape).Broadcasts ⟨2, ![128, N]⟩
  dT : DotDims.WF (⟨2, ![W, 128]⟩ : Shape) (⟨2, ![W, N]⟩ : Shape) (⟨2, ![128, N]⟩ : Shape) [0] [0] [1] [1] [] []

variable {W N : ℕ}

/-- A block's scores: the keys' products with the queries less the keys' running sums, which one lane of a block of lanes holds. -/
def scV (f : SF W N) (lanes : IVec ⟨2, ![W, 128]⟩ 32) (w : BitVec 32) (dk : FVec Ideal ⟨2, ![W, 128]⟩ .f32)
    (kb : FVec Ideal ⟨2, ![W, 128]⟩ .bf16) (qb : FVec Ideal ⟨2, ![N, 128]⟩ .bf16) : FVec Ideal ⟨2, ![W, N]⟩ .f32 :=
  subf (matmul (DotDims.transposedRhs W 128 N) none kb qb (constant ⟨2, ![W, N]⟩ .f32 0x00000000#32))
    (broadcastTo ⟨2, ![W, N]⟩ (shapeCast ⟨2, ![W, 1]⟩ (multiReduction .add [1] ⟨1, ![W]⟩
      (select (cmpi .eq lanes (broadcast ⟨2, ![W, 128]⟩ w)) dk (broadcast ⟨2, ![W, 128]⟩ (Scalar.ofBits .f32 0x00000000#32))) 0x00000000#32 f.r1 (.inl rfl) rfl) f.c1) f.b1)

/-- The new maximum. -/
def mxV (f : SF W N) (s : FVec Ideal ⟨2, ![W, N]⟩ .f32) (dq m : FVec Ideal ⟨2, ![1, N]⟩ .f32) : FVec Ideal ⟨2, ![1, N]⟩ .f32 :=
  maximumf m (addf (shapeCast ⟨2, ![1, N]⟩ (multiReduction .maximumf [0] ⟨1, ![N]⟩ s 0xFF800000#32 f.r0 (.inl rfl) rfl) f.cN) dq)

/-- The block's weights. -/
def pV (f : SF W N) (s : FVec Ideal ⟨2, ![W, N]⟩ .f32) (dq mn : FVec Ideal ⟨2, ![1, N]⟩ .f32) : FVec Ideal ⟨2, ![W, N]⟩ .f32 :=
  exp2 (subf s (broadcastTo ⟨2, ![W, N]⟩ (subf mn dq) f.bN))

/-- The new sum of the weights. -/
def lnV (f : SF W N) (s : FVec Ideal ⟨2, ![W, N]⟩ .f32) (dq m mn l : FVec Ideal ⟨2, ![1, N]⟩ .f32) : FVec Ideal ⟨2, ![1, N]⟩ .f32 :=
  addf (mulf (exp2 (subf m mn)) l) (shapeCast ⟨2, ![1, N]⟩ (multiReduction .add [0] ⟨1, ![N]⟩ (pV f s dq mn) 0x00000000#32 f.r0 (.inl rfl) rfl) f.cN)

/-- The new weighted sum of the values. -/
def acV (f : SF W N) (s : FVec Ideal ⟨2, ![W, N]⟩ .f32) (dq m mn : FVec Ideal ⟨2, ![1, N]⟩ .f32) (hb : FTy.bits .bf16 < FTy.bits .f32)
    (vb : FVec Ideal ⟨2, ![W, 128]⟩ .bf16) (a : FVec Ideal ⟨2, ![128, N]⟩ .f32) : FVec Ideal ⟨2, ![128, N]⟩ .f32 :=
  addf (mulf (broadcastTo ⟨2, ![128, N]⟩ (exp2 (subf m mn)) f.bD) a)
    (matmul (dotT W 128 N f.dT) none vb (truncf .bf16 (pV f s dq mn) hb) (constant ⟨2, ![128, N]⟩ .f32 0x00000000#32))

/-- A row spread down the rows, at an index. -/
theorem row_at {A : ℕ} (h : (⟨2, ![1, N]⟩ : Shape).Broadcasts ⟨2, ![A, N]⟩) (v : FVec Ideal ⟨2, ![1, N]⟩ .f32) (r : Fin A) (n : Fin N) :
    broadcastTo ⟨2, ![A, N]⟩ v h (ix2 r n) = v (ix2 (0 : Fin 1) n) := by
  refine broadcastTo_apply v _ _ _ fun a => ?_
  match a with
  | ⟨0, _⟩ => rfl
  | ⟨1, _⟩ =>
    show n.val = if N = 1 then 0 else n.val
    split
    · have := n.isLt; omega
    · rfl

/-- The scores at an index, once the lane is known. -/
theorem scV_at (f : SF W N) (lanes : IVec ⟨2, ![W, 128]⟩ 32) (w : BitVec 32) (dk : FVec Ideal ⟨2, ![W, 128]⟩ .f32)
    (kb : FVec Ideal ⟨2, ![W, 128]⟩ .bf16) (qb : FVec Ideal ⟨2, ![N, 128]⟩ .bf16) (L : Fin 128)
    (hl : ∀ (j : Fin W) (b : Fin 128), lanes (ix2 j b) = BitVec.ofNat 32 b.val) (hw : w = BitVec.ofNat 32 L.val) (j : Fin W) (n : Fin N) :
    scV f lanes w dk kb qb (ix2 j n) = (∑ d : Fin 128, kb (ix2 j d) * qb (ix2 n d)) - dk (ix2 j L) := by
  have e1 : matmul (DotDims.transposedRhs W 128 N) none kb qb (constant ⟨2, ![W, N]⟩ .f32 0x00000000#32) (ix2 j n) = ∑ d : Fin 128, kb (ix2 j d) * qb (ix2 n d) :=
    matmul_nt_at kb qb (ix2 j n)
  have e2 : broadcastTo ⟨2, ![W, N]⟩ (shapeCast ⟨2, ![W, 1]⟩ (multiReduction .add [1] ⟨1, ![W]⟩
      (select (cmpi .eq lanes (broadcast ⟨2, ![W, 128]⟩ w)) dk (broadcast ⟨2, ![W, 128]⟩ (Scalar.ofBits .f32 0x00000000#32))) 0x00000000#32 f.r1 (.inl rfl) rfl) f.c1) f.b1 (ix2 j n)
      = dk (ix2 j L) := by
    refine (broadcastTo_apply _ _ _ (ix2 j (0 : Fin 1)) fun a => ?_).trans ?_
    · match a with
      | ⟨0, _⟩ =>
        show j.val = if W = 1 then 0 else j.val
        split
        · have := j.isLt; omega
        · rfl
      | ⟨1, _⟩ => rfl
    rw [shapeCast_apply _ f.c1 (ix2 j (0 : Fin 1)) (ix1 j) (by
      rw [Shape.rowMajor_val_one, Shape.rowMajor_val_two]
      show j.val = j.val * 1 + 0
      omega)]
    refine (Ideal.multiReduction_add_single _ 0x00000000#32 f.r1 (.inl rfl) rfl (ix1 j)).trans ?_
    have e : ∀ k : Fin 128, (f.r1.lift (ix1 j) k) = ix2 j k := fun k => funext fun a => Fin.ext (by
      match a with | ⟨0, _⟩ => rfl | ⟨1, _⟩ => rfl)
    have hb : ∀ k : Fin 128, (select (cmpi .eq lanes (broadcast ⟨2, ![W, 128]⟩ w)) dk (broadcast ⟨2, ![W, 128]⟩ (Scalar.ofBits (F := Ideal) .f32 0x00000000#32))) (f.r1.lift (ix1 j) k)
        = if k = L then dk (ix2 j L) else 0 := fun k => by
      rw [e k]
      show (if (IntOp.cmpi .eq (lanes (ix2 j k)) w) = 1#1 then dk (ix2 j k) else Ideal.ofBits .f32 0x00000000#32) = _
      rw [hl, hw, Ideal.ofBits_zero_f32]
      have hd : ∀ a b : Fin 128, (IntOp.cmpi .eq (BitVec.ofNat 32 a.val) (BitVec.ofNat 32 b.val) = 1#1) ↔ a = b := by decide +kernel
      by_cases h : k = L
      · rw [if_pos ((hd _ _).2 h), if_pos h, h]
      · rw [if_neg (fun hh => h ((hd _ _).1 hh)), if_neg h]
    refine (Finset.sum_congr rfl fun k _ => hb k).trans ?_
    exact (Finset.sum_ite_eq' (Finset.univ : Finset (Fin 128)) L fun _ => dk (ix2 j L)).trans (if_pos (Finset.mem_univ L))
  show matmul (DotDims.transposedRhs W 128 N) none kb qb (constant ⟨2, ![W, N]⟩ .f32 0x00000000#32) (ix2 j n) - broadcastTo ⟨2, ![W, N]⟩ _ f.b1 (ix2 j n) = _
  rw [e1, e2]

theorem red0_lift (f : SF W N) (n : Fin N) (k : Fin W) : f.r0.lift (ix1 n) k = ix2 k n := funext fun a => Fin.ext (by
  match a with | ⟨0, _⟩ => rfl | ⟨1, _⟩ => rfl)

/-- The word of minus infinity. -/
theorem ofBits_bot : Ideal.ofBits .f32 0xFF800000#32 = (⊥ : EReal) := by simp [Ideal.ofBits, Ideal.ieee]

/-- The new maximum at a query. -/
theorem mxV_at (f : SF W N) (s : FVec Ideal ⟨2, ![W, N]⟩ .f32) (dq m : FVec Ideal ⟨2, ![1, N]⟩ .f32) (n : Fin N) :
    mxV f s dq m (ix2 (0 : Fin 1) n)
      = max (m (ix2 (0 : Fin 1) n)) ((Finset.univ : Finset (Fin W)).fold max ⊥ (fun j => s (ix2 j n)) + dq (ix2 (0 : Fin 1) n)) := by
  show max _ (shapeCast ⟨2, ![1, N]⟩ _ f.cN (ix2 (0 : Fin 1) n) + _) = _
  rw [lead_at]
  refine congrArg (fun z => max _ (z + _)) ((Ideal.multiReduction_maximumf_single s 0xFF800000#32 f.r0 (.inl rfl) rfl (ix1 n)).trans ?_)
  have hb : FloatOps.ofBits (F := Ideal) .f32 0xFF800000#32 = (⊥ : EReal) := ofBits_bot
  rw [hb]
  exact congrArg (fun g => (Finset.univ : Finset (Fin W)).fold max ⊥ g) (funext fun k => congrArg s (red0_lift f n k))

/-- A weight at a query. -/
theorem pV_at (f : SF W N) (s : FVec Ideal ⟨2, ![W, N]⟩ .f32) (dq mn : FVec Ideal ⟨2, ![1, N]⟩ .f32) (j : Fin W) (n : Fin N) :
    pV f s dq mn (ix2 j n) = Ideal.exp2 (s (ix2 j n) - (mn (ix2 (0 : Fin 1) n) - dq (ix2 (0 : Fin 1) n))) := by
  show Ideal.exp2 (s (ix2 j n) - broadcastTo ⟨2, ![W, N]⟩ (subf mn dq) f.bN (ix2 j n)) = _
  rw [row_at]; rfl

/-- The new sum at a query. -/
theorem lnV_at (f : SF W N) (s : FVec Ideal ⟨2, ![W, N]⟩ .f32) (dq m mn l : FVec Ideal ⟨2, ![1, N]⟩ .f32) (n : Fin N) :
    lnV f s dq m mn l (ix2 (0 : Fin 1) n)
      = Ideal.exp2 (m (ix2 (0 : Fin 1) n) - mn (ix2 (0 : Fin 1) n)) * l (ix2 (0 : Fin 1) n)
        + ∑ j : Fin W, Ideal.exp2 (s (ix2 j n) - (mn (ix2 (0 : Fin 1) n) - dq (ix2 (0 : Fin 1) n))) := by
  show _ + shapeCast ⟨2, ![1, N]⟩ _ f.cN (ix2 (0 : Fin 1) n) = _
  rw [lead_at]
  refine congrArg (_ + ·) ((Ideal.multiReduction_add_single (pV f s dq mn) 0x00000000#32 f.r0 (.inl rfl) rfl (ix1 n)).trans ?_)
  exact Finset.sum_congr rfl fun k _ => (congrArg (pV f s dq mn) (red0_lift f n k)).trans (pV_at f s dq mn k n)

/-- The new weighted sum at a query. -/
theorem acV_at (f : SF W N) (s : FVec Ideal ⟨2, ![W, N]⟩ .f32) (dq m mn : FVec Ideal ⟨2, ![1, N]⟩ .f32) (hb : FTy.bits .bf16 < FTy.bits .f32)
    (vb : FVec Ideal ⟨2, ![W, 128]⟩ .bf16) (a : FVec Ideal ⟨2, ![128, N]⟩ .f32) (d : Fin 128) (n : Fin N) :
    acV f s dq m mn hb vb a (ix2 d n)
      = Ideal.exp2 (m (ix2 (0 : Fin 1) n) - mn (ix2 (0 : Fin 1) n)) * a (ix2 d n)
        + ∑ j : Fin W, vb (ix2 j d) * Ideal.exp2 (s (ix2 j n) - (mn (ix2 (0 : Fin 1) n) - dq (ix2 (0 : Fin 1) n))) := by
  have e := dotT_at f.dT vb (truncf .bf16 (pV f s dq mn) hb) d n
  show broadcastTo ⟨2, ![128, N]⟩ (exp2 (subf m mn)) f.bD (ix2 d n) * _ + FloatOps.matmul (dotT W 128 N f.dT) none vb (truncf .bf16 (pV f s dq mn) hb) (constant ⟨2, ![128, N]⟩ .f32 0x00000000#32) (ix2 d n) = _
  rw [e, row_at]
  refine congrArg (_ + ·) (Finset.sum_congr rfl fun k _ => congrArg (vb (ix2 k d) * ·) ?_)
  exact pV_at f s dq mn k n

/-- One block of keys, at a query and a value's column: the state is carried past it. -/
theorem blk_step (f : SF W N) (s : FVec Ideal ⟨2, ![W, N]⟩ .f32) (dq m l : FVec Ideal ⟨2, ![1, N]⟩ .f32) (hb : FTy.bits .bf16 < FTy.bits .f32)
    (vb : FVec Ideal ⟨2, ![W, 128]⟩ .bf16) (a : FVec Ideal ⟨2, ![128, N]⟩ .f32) (d : Fin 128) (n : Fin N) (x : ℕ → ℝ) (v : ℕ → EReal) (t c : ℕ) (δ : ℝ)
    (h : St x v t c (m (ix2 (0 : Fin 1) n)) (l (ix2 (0 : Fin 1) n)) (a (ix2 d n))) (hδ : dq (ix2 (0 : Fin 1) n) = (δ : EReal))
    (hs : ∀ j : Fin W, s (ix2 j n) = if c + j.val ≤ t then ((x (c + j.val) - δ : ℝ) : EReal) else ⊥)
    (hu : ∀ j : Fin W, vb (ix2 j d) = v (c + j.val)) (hW : 0 < W) (hct : c ≤ t) :
    St x v t (c + W) (mxV f s dq m (ix2 (0 : Fin 1) n)) (lnV f s dq m (mxV f s dq m) l (ix2 (0 : Fin 1) n)) (acV f s dq m (mxV f s dq m) hb vb a (ix2 d n)) := by
  rw [lnV_at, acV_at, hδ]
  exact St_step x v t c W δ _ _ _ (fun j => s (ix2 j n)) (fun j => vb (ix2 j d)) h hs hu hW hct _ ((mxV_at f s dq m n).trans (by rw [hδ]))

end Cert.Hand

end
-- ==== Proof.P7Pay.lean ====
module

public import proofs.«01_k».proof.Proof.Gen.Kernel7Ideal.Skeleton
public import proofs.«01_k».proof.Proof.Pay
public import proofs.«01_k».proof.Proof.P7Step
public import Idealize.ShloMosaic.Lib.WordCmp

@[expose] public section

set_option maxRecDepth 16384

noncomputable section

namespace Cert.Hand

open Idealize.ShloMosaic Idealize.ShloMosaic.ValueIdx

/-- A query's score against a key, with the bias of the running sums. -/
def xs (kk : ℕ → Fin 128 → ℝ) (dk : ℕ → ℝ) (q : Fin 128 → ℝ) (δ : ℝ) (s : ℕ) : ℝ := (∑ d : Fin 128, kk s d * q d) - dk s + δ

/-- The state of every query of a block after `c` keys; the block's first query stands at `t0`. -/
def HS {N : ℕ} (kk : ℕ → Fin 128 → ℝ) (vv : ℕ → Fin 128 → EReal) (dk : ℕ → ℝ) (qq : Fin N → Fin 128 → ℝ) (δ : Fin N → ℝ) (t0 c : ℕ)
    (m l : FVec Ideal ⟨2, ![1, N]⟩ .f32) (a : FVec Ideal ⟨2, ![128, N]⟩ .f32) : Prop :=
  ∀ (n : Fin N) (d : Fin 128), St (xs kk dk (qq n) (δ n)) (fun s => vv s d) (t0 + n.val) c (m (ix2 (0 : Fin 1) n)) (l (ix2 (0 : Fin 1) n)) (a (ix2 d n))

/-- What the blocks hold: the keys, the values and the running sums from key `c` on, the queries and their running sums. -/
structure Blk {W N : ℕ} (kk : ℕ → Fin 128 → ℝ) (vv : ℕ → Fin 128 → EReal) (dk : ℕ → ℝ) (qq : Fin N → Fin 128 → ℝ) (δ : Fin N → ℝ) (c : ℕ) (L : Fin 128)
    (dkb : FVec Ideal ⟨2, ![W, 128]⟩ .f32) (kb vb : FVec Ideal ⟨2, ![W, 128]⟩ .bf16) (qb : FVec Ideal ⟨2, ![N, 128]⟩ .bf16) (dq : FVec Ideal ⟨2, ![1, N]⟩ .f32) : Prop where
  hk : ∀ (j : Fin W) (d : Fin 128), kb (ix2 j d) = ((kk (c + j.val) d : ℝ) : EReal)
  hv : ∀ (j : Fin W) (d : Fin 128), vb (ix2 j d) = vv (c + j.val) d
  hd : ∀ j : Fin W, dkb (ix2 j L) = ((dk (c + j.val) : ℝ) : EReal)
  hq : ∀ (n : Fin N) (d : Fin 128), qb (ix2 n d) = ((qq n d : ℝ) : EReal)
  hδ : ∀ n : Fin N, dq (ix2 (0 : Fin 1) n) = ((δ n : ℝ) : EReal)

variable {W N : ℕ} {kk : ℕ → Fin 128 → ℝ} {vv : ℕ → Fin 128 → EReal} {dk : ℕ → ℝ} {qq : Fin N → Fin 128 → ℝ} {δ : Fin N → ℝ} {c t0 : ℕ} {L : Fin 128}
  {dkb : FVec Ideal ⟨2, ![W, 128]⟩ .f32} {kb vb : FVec Ideal ⟨2, ![W, 128]⟩ .bf16} {qb : FVec Ideal ⟨2, ![N, 128]⟩ .bf16} {dq : FVec Ideal ⟨2, ![1, N]⟩ .f32}

theorem sc_real (f : SF W N) (lanes : IVec ⟨2, ![W, 128]⟩ 32) (w : BitVec 32) (B : Blk kk vv dk qq δ c L dkb kb vb qb dq)
    (hl : ∀ (j : Fin W) (b : Fin 128), lanes (ix2 j b) = BitVec.ofNat 32 b.val) (hw : w = BitVec.ofNat 32 L.val) (j : Fin W) (n : Fin N) :
    scV f lanes w dkb kb qb (ix2 j n) = ((xs kk dk (qq n) (δ n) (c + j.val) - δ n : ℝ) : EReal) := by
  rw [scV_at f lanes w dkb kb qb L hl hw, B.hd, Finset.sum_congr rfl fun d _ => by rw [B.hk, B.hq, ← EReal.coe_mul], ← coe_fsum, ← EReal.coe_sub]
  unfold xs
  congr 1; ring

/-- A block of keys all before the queries. -/
theorem step_full (f : SF W N) (lanes : IVec ⟨2, ![W, 128]⟩ 32) (w : BitVec 32) (B : Blk kk vv dk qq δ c L dkb kb vb qb dq)
    (hl : ∀ (j : Fin W) (b : Fin 128), lanes (ix2 j b) = BitVec.ofNat 32 b.val) (hw : w = BitVec.ofNat 32 L.val) (hb : FTy.bits .bf16 < FTy.bits .f32)
    (hW : 0 < W) (hc : c + W ≤ t0) (m l : FVec Ideal ⟨2, ![1, N]⟩ .f32) (a : FVec Ideal ⟨2, ![128, N]⟩ .f32) (h : HS kk vv dk qq δ t0 c m l a) :
    HS kk vv dk qq δ t0 (c + W) (mxV f (scV f lanes w dkb kb qb) dq m) (lnV f (scV f lanes w dkb kb qb) dq m (mxV f (scV f lanes w dkb kb qb) dq m) l)
      (acV f (scV f lanes w dkb kb qb) dq m (mxV f (scV f lanes w dkb kb qb) dq m) hb vb a) := fun n d => by
  refine blk_step f _ dq m l hb vb a d n _ (fun s => vv s d) _ c (δ n) (h n d) (B.hδ n) (fun j => ?_) (fun j => B.hv j d) hW (by omega)
  rw [sc_real f lanes w B hl hw, if_pos (by have := j.isLt; omega)]

/-- The scores of a block that holds the queries' own positions, the later keys struck out. -/
def mkV (i0 i1 : IVec ⟨2, ![W, N]⟩ 32) (s : FVec Ideal ⟨2, ![W, N]⟩ .f32) : FVec Ideal ⟨2, ![W, N]⟩ .f32 :=
  select (cmpi .sge i1 i0) s (broadcast ⟨2, ![W, N]⟩ (Scalar.ofBits .f32 0xFF800000#32))

/-- A block of keys that starts at the first query. -/
theorem step_mask (f : SF W N) (i0 i1 : IVec ⟨2, ![W, N]⟩ 32) (lanes : IVec ⟨2, ![W, 128]⟩ 32) (w : BitVec 32) (B : Blk kk vv dk qq δ c L dkb kb vb qb dq)
    (hl : ∀ (j : Fin W) (b : Fin 128), lanes (ix2 j b) = BitVec.ofNat 32 b.val) (hw : w = BitVec.ofNat 32 L.val)
    (h0 : ∀ (j : Fin W) (n : Fin N), i0 (ix2 j n) = BitVec.ofNat 32 j.val) (h1 : ∀ (j : Fin W) (n : Fin N), i1 (ix2 j n) = BitVec.ofNat 32 n.val)
    (hWN : W < 2 ^ 31 ∧ N < 2 ^ 31) (hb : FTy.bits .bf16 < FTy.bits .f32)
    (hW : 0 < W) (m l : FVec Ideal ⟨2, ![1, N]⟩ .f32) (a : FVec Ideal ⟨2, ![128, N]⟩ .f32) (h : HS kk vv dk qq δ c c m l a) :
    HS kk vv dk qq δ c (c + W) (mxV f (mkV i0 i1 (scV f lanes w dkb kb qb)) dq m) (lnV f (mkV i0 i1 (scV f lanes w dkb kb qb)) dq m (mxV f (mkV i0 i1 (scV f lanes w dkb kb qb)) dq m) l)
      (acV f (mkV i0 i1 (scV f lanes w dkb kb qb)) dq m (mxV f (mkV i0 i1 (scV f lanes w dkb kb qb)) dq m) hb vb a) := fun n d => by
  refine blk_step f _ dq m l hb vb a d n _ (fun s => vv s d) _ c (δ n) (h n d) (B.hδ n) (fun j => ?_) (fun j => B.hv j d) hW (by omega)
  show (if IntOp.cmpi .sge (i1 (ix2 j n)) (i0 (ix2 j n)) = 1#1 then scV f lanes w dkb kb qb (ix2 j n) else Ideal.ofBits .f32 0xFF800000#32) = _
  rw [sc_real f lanes w B hl hw, h0, h1, ofBits_bot]
  have hj := j.isLt
  have hn := n.isLt
  refine if_congr ?_ rfl rfl
  rw [WordCmp.cmpi_sge_ofNat_eq_one_iff (by omega) (by omega)]
  omega

end Cert.Hand

namespace Cert.Kernel7Ideal.Hand

open Cert.Kernel7Ideal Cert.Kernel7Ideal.Gen Cert.Hand
open Idealize.ShloMosaic Idealize.ShloMosaic.ValueIdx

theorem f2048_1024 : SF 2048 1024 where
  r1 := reduces_S2048x128_S2048
  c1 := shapeCasts_S2048_S2048x1
  b1 := broadcasts_S2048x1_S2048x1024
  r0 := reduces_S2048x1024_S1024
  cN := shapeCasts_S1024_S1x1024
  bN := broadcasts_S1x1024_S2048x1024
  bD := broadcasts_S1x1024_S128x1024
  dT := dot_S2048x128_S2048x1024_S128x1024_0_0_1_1_n_n_wf

theorem f1024_1024 : SF 1024 1024 where
  r1 := reduces_S1024x128_S1024
  c1 := shapeCasts_S1024_S1024x1
  b1 := broadcasts_S1024x1_S1024x1024
  r0 := reduces_S1024x1024_S1024
  cN := shapeCasts_S1024_S1x1024
  bN := broadcasts_S1x1024_S1024x1024
  bD := broadcasts_S1x1024_S128x1024
  dT := dot_S1024x128_S1024x1024_S128x1024_0_0_1_1_n_n_wf

theorem f512_1024 : SF 512 1024 where
  r1 := reduces_S512x128_S512
  c1 := shapeCasts_S512_S512x1
  b1 := broadcasts_S512x1_S512x1024
  r0 := reduces_S512x1024_S1024
  cN := shapeCasts_S1024_S1x1024
  bN := broadcasts_S1x1024_S512x1024
  bD := broadcasts_S1x1024_S128x1024
  dT := dot_S512x128_S512x1024_S128x1024_0_0_1_1_n_n_wf

theorem f512_512 : SF 512 512 where
  r1 := reduces_S512x128_S512
  c1 := shapeCasts_S512_S512x1
  b1 := broadcasts_S512x1_S512x512
  r0 := reduces_S512x512_S512
  cN := shapeCasts_S512_S1x512
  bN := broadcasts_S1x512_S512x512
  bD := broadcasts_S1x512_S128x512
  dT := dot_S512x128_S512x512_S128x512_0_0_1_1_n_n_wf

variable (i : grid0.Coords) (v2 : Vec Ideal S1024x128 .bf16) (m l : FVec Ideal S1x1024 .f32) (a : FVec Ideal S128x1024 .f32) (dq : FVec Ideal S1x1024 .f32) (v8 : Vec Ideal S1x1x1024 .f32)

/-- The word of the lane of head `hh`. -/
theorem laneW (g : Fin 8) (h : Fin 2) : Scalar.addi (Scalar.addi 112#32 (Scalar.muli (BitVec.ofNat 32 g.val) 2#32)) (BitVec.ofNat 32 h.val) = BitVec.ofNat 32 (112 + 2 * g.val + h.val) := by
  revert g h; decide +kernel

/-- The lane of head `h` of the grid's column `g`. -/
def lane (g : Fin 8) (h : Fin 2) : Fin 128 := ⟨112 + 2 * g.val + h.val, by omega⟩

variable {kk : ℕ → Fin 128 → ℝ} {vv : ℕ → Fin 128 → EReal} {dk : ℕ → ℝ} {qq : Fin 1024 → Fin 128 → ℝ} {δ : Fin 1024 → ℝ} {c t0 : ℕ}

/-- A wide block, first head. -/
theorem wide0 (x3 : Vec Ideal S2048x128 .f32) (x1 x2 : Vec Ideal S2048x128 .bf16) (B : Blk (W := 2048) (N := 1024) kk vv dk qq δ c (lane (i 0) 0) x3 x1 x2 v2 dq)
    (hc : c + 2048 ≤ t0) (h : HS kk vv dk qq δ t0 c m l a) :
    HS kk vv dk qq δ t0 (c + 2048) (k0_pay5 (BitVec.ofNat 32 (i 0).val) v2 dq m x3 x1) (k0_pay8 (BitVec.ofNat 32 (i 0).val) v2 dq m l x3 x1) (k0_pay9 (BitVec.ofNat 32 (i 0).val) v2 dq m a x3 x1 x2) := by
  have e : k0_pay3 (F := Ideal) x3 = x3 := shapeCast_self _ _
  rw [← e] at B
  exact step_full f2048_1024 (iota .tc S2048x128 32 [1] iota_S2048x128_d1_w32) _ B (fun j b => iota_single_apply _ _ _ _ _ _) (laneW (i 0) 0) bitsLt_bf16_f32 (by norm_num) hc m l a h

/-- A wide block, second head. -/
theorem wide1 (x3 : Vec Ideal S2048x128 .f32) (x1 x2 : Vec Ideal S2048x128 .bf16) (B : Blk (W := 2048) (N := 1024) kk vv dk qq δ c (lane (i 0) 1) x3 x1 x2 v2 (k0_pay32 v8))
    (hc : c + 2048 ≤ t0) (h : HS kk vv dk qq δ t0 c m l a) :
    HS kk vv dk qq δ t0 (c + 2048) (k0_pay40 i v2 v8 m (iota .tc S2048x128 32 [1] iota_S2048x128_d1_w32) (k0_pay3 x3) x1) (k0_pay43 i v2 v8 m l (iota .tc S2048x128 32 [1] iota_S2048x128_d1_w32) (k0_pay3 x3) x1)
      (k0_pay44 i v2 v8 m a (iota .tc S2048x128 32 [1] iota_S2048x128_d1_w32) (k0_pay3 x3) x1 x2) := by
  have e : k0_pay3 (F := Ideal) x3 = x3 := shapeCast_self _ _
  rw [← e] at B
  exact step_full f2048_1024 (iota .tc S2048x128 32 [1] iota_S2048x128_d1_w32) _ B (fun j b => iota_single_apply _ _ _ _ _ _) (laneW (i 0) 1) bitsLt_bf16_f32 (by norm_num) hc m l a h

/-- The odd block, first head. -/
theorem odd0 (x3 : Vec Ideal S1024x128 .f32) (x1 x2 : Vec Ideal S1024x128 .bf16) (B : Blk (W := 1024) (N := 1024) kk vv dk qq δ c (lane (i 0) 0) x3 x1 x2 v2 dq)
    (hc : c + 1024 ≤ t0) (h : HS kk vv dk qq δ t0 c m l a) :
    HS kk vv dk qq δ t0 (c + 1024) (k0_pay19 (BitVec.ofNat 32 (i 0).val) v2 dq m x3 x1) (k0_pay22 (BitVec.ofNat 32 (i 0).val) v2 dq m l x3 x1) (k0_pay23 (BitVec.ofNat 32 (i 0).val) v2 dq m a x3 x1 x2) := by
  have e : k0_pay17 (F := Ideal) x3 = x3 := shapeCast_self _ _
  rw [← e] at B
  exact step_full f1024_1024 (iota .tc S1024x128 32 [1] iota_S1024x128_d1_w32) _ B (fun j b => iota_single_apply _ _ _ _ _ _) (laneW (i 0) 0) bitsLt_bf16_f32 (by norm_num) hc m l a h

/-- The odd block, second head. -/
theorem odd1 (x3 : Vec Ideal S1024x128 .f32) (x1 x2 : Vec Ideal S1024x128 .bf16) (B : Blk (W := 1024) (N := 1024) kk vv dk qq δ c (lane (i 0) 1) x3 x1 x2 v2 (k0_pay32 v8))
    (hc : c + 1024 ≤ t0) (h : HS kk vv dk qq δ t0 c m l a) :
    HS kk vv dk qq δ t0 (c + 1024) (k0_pay52 v2 v8 m (iota .tc S1024x128 32 [1] iota_S1024x128_d1_w32) (k0_pay17 x3) x1 (Scalar.muli (BitVec.ofNat 32 (i 0).val) 2#32))
      (k0_pay55 v2 v8 m l (iota .tc S1024x128 32 [1] iota_S1024x128_d1_w32) (k0_pay17 x3) x1 (Scalar.muli (BitVec.ofNat 32 (i 0).val) 2#32))
      (k0_pay56 v2 v8 m a (iota .tc S1024x128 32 [1] iota_S1024x128_d1_w32) (k0_pay17 x3) x1 x2 (Scalar.muli (BitVec.ofNat 32 (i 0).val) 2#32)) := by
  have e : k0_pay17 (F := Ideal) x3 = x3 := shapeCast_self _ _
  rw [← e] at B
  exact step_full f1024_1024 (iota .tc S1024x128 32 [1] iota_S1024x128_d1_w32) _ B (fun j b => iota_single_apply _ _ _ _ _ _) (laneW (i 0) 1) bitsLt_bf16_f32 (by norm_num) hc m l a h

/-- The block at the queries' own positions, first head. -/
theorem diag0 (x3 : Vec Ideal S512x128 .f32) (x1 x2 : Vec Ideal S512x128 .bf16) (B : Blk (W := 512) (N := 1024) kk vv dk qq δ c (lane (i 0) 0) x3 x1 x2 v2 dq)
    (h : HS kk vv dk qq δ c c m l a) :
    HS kk vv dk qq δ c (c + 512) (k0_pay65 (BitVec.ofNat 32 (i 0).val) v2 dq m x3 x1) (k0_pay68 (BitVec.ofNat 32 (i 0).val) v2 dq m l x3 x1) (k0_pay69 (BitVec.ofNat 32 (i 0).val) v2 dq m a x3 x1 x2) := by
  have e : k0_pay63 (F := Ideal) x3 = x3 := shapeCast_self _ _
  rw [← e] at B
  exact step_mask f512_1024 (iota .tc S512x1024 32 [0] iota_S512x1024_d0_w32) (iota .tc S512x1024 32 [1] iota_S512x1024_d1_w32) (iota .tc S512x128 32 [1] iota_S512x128_d1_w32) _ B (fun j b => iota_single_apply _ _ _ _ _ _) (laneW (i 0) 0)
    (fun j b => iota_single_apply _ _ _ _ _ _) (fun j b => iota_single_apply _ _ _ _ _ _) (by norm_num) bitsLt_bf16_f32 (by norm_num) m l a h

/-- The block at the queries' own positions, second head. -/
theorem diag1 (x3 : Vec Ideal S512x128 .f32) (x1 x2 : Vec Ideal S512x128 .bf16) (B : Blk (W := 512) (N := 1024) kk vv dk qq δ c (lane (i 0) 1) x3 x1 x2 v2 dq)
    (h : HS kk vv dk qq δ c c m l a) :
    HS kk vv dk qq δ c (c + 512) (k0_pay71 (BitVec.ofNat 32 (i 0).val) v2 dq m (iota .tc S512x128 32 [1] iota_S512x128_d1_w32) (k0_pay63 x3) x1)
      (k0_pay74 (BitVec.ofNat 32 (i 0).val) v2 dq m l (iota .tc S512x128 32 [1] iota_S512x128_d1_w32) (k0_pay63 x3) x1)
      (k0_pay75 (BitVec.ofNat 32 (i 0).val) v2 dq m a (iota .tc S512x128 32 [1] iota_S512x128_d1_w32) (k0_pay63 x3) x1 x2) := by
  have e : k0_pay63 (F := Ideal) x3 = x3 := shapeCast_self _ _
  rw [← e] at B
  exact step_mask f512_1024 (iota .tc S512x1024 32 [0] iota_S512x1024_d0_w32) (iota .tc S512x1024 32 [1] iota_S512x1024_d1_w32) (iota .tc S512x128 32 [1] iota_S512x128_d1_w32) _ B (fun j b => iota_single_apply _ _ _ _ _ _) (laneW (i 0) 1)
    (fun j b => iota_single_apply _ _ _ _ _ _) (fun j b => iota_single_apply _ _ _ _ _ _) (by norm_num) bitsLt_bf16_f32 (by norm_num) m l a h

/-- The second half of a row of lanes. -/
def hiR (v : FVec Ideal S1x1024 .f32) : FVec Ideal S1x512 .f32 := extractStridedSlice S1x512 ![0, 512] v slices_S1x1024_o0_512_S1x512
/-- The second half of the lanes of a block. -/
def hiA (v : FVec Ideal S128x1024 .f32) : FVec Ideal S128x512 .f32 := extractStridedSlice S128x512 ![0, 512] v slices_S128x1024_o0_512_S128x512
/-- The second half of the queries. -/
def hiQ (v : FVec Ideal S1024x128 .bf16) : FVec Ideal S512x128 .bf16 := extractStridedSlice S512x128 ![512, 0] v slices_S1024x128_o512_0_S512x128
/-- The second half's position. -/
def up (n : Fin 512) : Fin 1024 := ⟨512 + n.val, by omega⟩

theorem hiR_at (v : FVec Ideal S1x1024 .f32) (n : Fin 512) : hiR v (ix2 (0 : Fin 1) n) = v (ix2 (0 : Fin 1) (up n)) :=
  congrArg v (funext fun a => Fin.ext (by match a with | ⟨0, _⟩ => rfl | ⟨1, _⟩ => rfl))
theorem hiA_at (v : FVec Ideal S128x1024 .f32) (d : Fin 128) (n : Fin 512) : hiA v (ix2 d n) = v (ix2 d (up n)) :=
  congrArg v (funext fun a => Fin.ext (by match a with | ⟨0, _⟩ => exact Nat.zero_add _ | ⟨1, _⟩ => rfl))
theorem hiQ_at (v : FVec Ideal S1024x128 .bf16) (n : Fin 512) (d : Fin 128) : hiQ v (ix2 n d) = v (ix2 (up n) d) :=
  congrArg v (funext fun a => Fin.ext (by match a with | ⟨0, _⟩ => rfl | ⟨1, _⟩ => exact Nat.zero_add _))

/-- The state of the second half of the queries. -/
theorem HS_hi (h : HS kk vv dk qq δ c (c + 512) m l a) : HS kk vv dk (fun n : Fin 512 => qq (up n)) (fun n => δ (up n)) (c + 512) (c + 512) (hiR m) (hiR l) (hiA a) := fun n d => by
  have e := h (up n) d
  rw [hiR_at, hiR_at, hiA_at, Nat.add_assoc]
  exact e

/-- The last block, first head. -/
theorem hi0 (x3 : Vec Ideal S512x128 .f32) (x1 x2 : Vec Ideal S512x128 .bf16) (m l : FVec Ideal S1x512 .f32) (a : FVec Ideal S128x512 .f32) {qq : Fin 512 → Fin 128 → ℝ} {δ : Fin 512 → ℝ}
    (B : Blk (W := 512) (N := 512) kk vv dk qq δ c (lane (i 0) 0) x3 x1 x2 (hiQ v2) (hiR dq)) (h : HS kk vv dk qq δ c c m l a) :
    HS kk vv dk qq δ c (c + 512) (k0_pay84 (BitVec.ofNat 32 (i 0).val) v2 dq m x3 x1) (k0_pay87 (BitVec.ofNat 32 (i 0).val) v2 dq m l x3 x1) (k0_pay88 (BitVec.ofNat 32 (i 0).val) v2 dq m a x3 x1 x2) := by
  have e : k0_pay82 (F := Ideal) x3 = x3 := shapeCast_self _ _
  rw [← e] at B
  exact step_mask f512_512 (iota .tc S512x512 32 [0] iota_S512x512_d0_w32) (iota .tc S512x512 32 [1] iota_S512x512_d1_w32) (iota .tc S512x128 32 [1] iota_S512x128_d1_w32) _ B (fun j b => iota_single_apply _ _ _ _ _ _) (laneW (i 0) 0)
    (fun j b => iota_single_apply _ _ _ _ _ _) (fun j b => iota_single_apply _ _ _ _ _ _) (by norm_num) bitsLt_bf16_f32 (by norm_num) m l a h

/-- The last block, second head. -/
theorem hi1 (x3 : Vec Ideal S512x128 .f32) (x1 x2 : Vec Ideal S512x128 .bf16) (m l : FVec Ideal S1x512 .f32) (a : FVec Ideal S128x512 .f32) {qq : Fin 512 → Fin 128 → ℝ} {δ : Fin 512 → ℝ}
    (B : Blk (W := 512) (N := 512) kk vv dk qq δ c (lane (i 0) 1) x3 x1 x2 (hiQ v2) (hiR dq)) (h : HS kk vv dk qq δ c c m l a) :
    HS kk vv dk qq δ c (c + 512) (k0_pay90 (BitVec.ofNat 32 (i 0).val) v2 dq m (iota .tc S512x128 32 [1] iota_S512x128_d1_w32) (k0_pay82 x3) x1)
      (k0_pay93 (BitVec.ofNat 32 (i 0).val) v2 dq m l (iota .tc S512x128 32 [1] iota_S512x128_d1_w32) (k0_pay82 x3) x1)
      (k0_pay94 (BitVec.ofNat 32 (i 0).val) v2 dq m a (iota .tc S512x128 32 [1] iota_S512x128_d1_w32) (k0_pay82 x3) x1 x2) := by
  have e : k0_pay82 (F := Ideal) x3 = x3 := shapeCast_self _ _
  rw [← e] at B
  exact step_mask f512_512 (iota .tc S512x512 32 [0] iota_S512x512_d0_w32) (iota .tc S512x512 32 [1] iota_S512x512_d1_w32) (iota .tc S512x128 32 [1] iota_S512x128_d1_w32) _ B (fun j b => iota_single_apply _ _ _ _ _ _) (laneW (i 0) 1)
    (fun j b => iota_single_apply _ _ _ _ _ _) (fun j b => iota_single_apply _ _ _ _ _ _) (by norm_num) bitsLt_bf16_f32 (by norm_num) m l a h

/-- The last block's data, from the whole block of queries. -/
theorem Blk_hi {x3 : Vec Ideal S512x128 .f32} {x1 x2 : Vec Ideal S512x128 .bf16} {L : Fin 128} (hk : ∀ (j : Fin 512) (d : Fin 128), x1 (ix2 j d) = ((kk (c + j.val) d : ℝ) : EReal))
    (hv : ∀ (j : Fin 512) (d : Fin 128), x2 (ix2 j d) = vv (c + j.val) d) (hd : ∀ j : Fin 512, x3 (ix2 j L) = ((dk (c + j.val) : ℝ) : EReal))
    (hq : ∀ (n : Fin 1024) (d : Fin 128), v2 (ix2 n d) = ((qq n d : ℝ) : EReal)) (hδ : ∀ n : Fin 1024, dq (ix2 (0 : Fin 1) n) = ((δ n : ℝ) : EReal)) :
    Blk (W := 512) (N := 512) kk vv dk (fun n => qq (up n)) (fun n => δ (up n)) c L x3 x1 x2 (hiQ v2) (hiR dq) where
  hk := hk
  hv := hv
  hd := hd
  hq n d := (hiQ_at v2 n d).trans (hq _ _)
  hδ n := (hiR_at dq n).trans (hδ _)

end Cert.Kernel7Ideal.Hand

end
-- ==== Proof.P7Loop.lean ====
module

public import proofs.«01_k».proof.Proof.Gen.Kernel7Ideal.Frame
public import proofs.«01_k».proof.Proof.P7Pay
public import Idealize.ShloMosaic.Lib.VecWindow

@[expose] public section

set_option maxRecDepth 16384

noncomputable section

namespace Cert.Kernel7Ideal.Hand

open Cert.Kernel7Ideal Cert.Kernel7Ideal.Gen Cert.Hand
open Idealize.ShloMosaic Idealize.ShloMosaic.ValueIdx Idealize.ShloMosaic.TcCoe Idealize.ShloMosaic.Tactic

/-- Head `h`'s column `d` in a block of two heads. -/
def col (h : Fin 2) (d : Fin 128) : Fin 256 := ⟨128 * h.val + d.val, by omega⟩
/-- The row of query `n` of block `q`. -/
def qrow (q : Fin 8) (n : Fin 1024) : Fin 8192 := ⟨1024 * q.val + n.val, by omega⟩

/-- What a grid point's windows hold. -/
structure Dat (i : grid0.Coords) (x0 : Vec Ideal S1024x256 .bf16) (x1 : Vec Ideal S8192x256 .bf16) (x2 : Vec Ideal S8192x256 .bf16) (x3 : Vec Ideal S8192x128 .f32) (x4 : Vec Ideal S2x1x8192 .f32)
    (kk : Fin 2 → ℕ → Fin 128 → ℝ) (vv : Fin 2 → ℕ → Fin 128 → EReal) (dk : Fin 2 → ℕ → ℝ) (qq : Fin 2 → Fin 1024 → Fin 128 → ℝ) (δ : Fin 2 → Fin 1024 → ℝ) : Prop where
  h0 : ∀ (h : Fin 2) (n : Fin 1024) (d : Fin 128), x0 (ix2 n (col h d)) = ((qq h n d : ℝ) : EReal)
  h1 : ∀ (h : Fin 2) (s : Fin 8192) (d : Fin 128), x1 (ix2 s (col h d)) = ((kk h s.val d : ℝ) : EReal)
  h2 : ∀ (h : Fin 2) (s : Fin 8192) (d : Fin 128), x2 (ix2 s (col h d)) = vv h s.val d
  h3 : ∀ (h : Fin 2) (s : Fin 8192), x3 (ix2 s (lane (i 0) h)) = ((dk h s.val : ℝ) : EReal)
  h4 : ∀ (h : Fin 2) (n : Fin 1024), x4 (ix3 h (0 : Fin 1) (qrow (i 1) n)) = ((δ h n : ℝ) : EReal)

/-- A load of a window of a block, at an index. -/
theorem ld2 {A B W C : ℕ} {e : EltTy} (m : Memref sig .tc .vmem ⟨2, ![A, B]⟩ e) (hm : m.IsWhole) (x : Vec Ideal ⟨2, ![A, B]⟩ e) {off : Fin 2 → ℕ} (o p : ℕ) (eo : off = ![o, p])
    (inb : ∀ a, off a + (![W, C] : Fin 2 → ℕ) a ≤ (⟨2, ![A, B]⟩ : Shape).size a) (j : Fin W) (b : Fin C) (r : Fin A) (s : Fin B) (hr : r.val = o + j.val) (hs : s.val = p + b.val) :
    View.readAt (Elt Ideal) m.view (Rect.unit (s := (⟨2, ![A, B]⟩ : Shape)) off ![W, C] inb).toLoadRect (hm.unread x) (ix2 j b) = x (ix2 r s) := by
  subst eo
  rw [View.readAt_unit m.view _ inb rfl inb, Memref.IsWhole.read_unread]
  exact congrArg x (funext fun a => Fin.ext (by match a with | ⟨0, _⟩ => exact (show o + 1 * j.val = r.val by omega) | ⟨1, _⟩ => exact (show p + 1 * b.val = s.val by omega)))

section
variable (c : Dev nD) (i : grid0.Coords) (arg2 : Memref sig .tc .vmem S1024x256 .bf16) (harg2 : arg2.IsWhole) (arg3 : Memref sig .tc .vmem S8192x256 .bf16) (harg3 : arg3.IsWhole) (arg4 : Memref sig .tc .vmem S8192x256 .bf16) (harg4 : arg4.IsWhole) (arg5 : Memref sig .tc .vmem S8192x128 .f32) (harg5 : arg5.IsWhole) (arg6 : Memref sig .tc .vmem S2x1x8192 .f32) (harg6 : arg6.IsWhole) (arg7 : Memref sig .tc .vmem S1024x256 .bf16) (harg7 : arg7.IsWhole)
    {x0 : Vec Ideal S1024x256 .bf16} {x1 : Vec Ideal S8192x256 .bf16} {x2 : Vec Ideal S8192x256 .bf16} {x3 : Vec Ideal S8192x128 .f32} {x4 : Vec Ideal S2x1x8192 .f32}
    {kk : Fin 2 → ℕ → Fin 128 → ℝ} {vv : Fin 2 → ℕ → Fin 128 → EReal} {dk : Fin 2 → ℕ → ℝ} {qq : Fin 2 → Fin 1024 → Fin 128 → ℝ} {δ : Fin 2 → Fin 1024 → ℝ} (D : Dat i x0 x1 x2 x3 x4 kk vv dk qq δ)

/-- The two heads' states after `c` keys. -/
def G (kk : Fin 2 → ℕ → Fin 128 → ℝ) (vv : Fin 2 → ℕ → Fin 128 → EReal) (dk : Fin 2 → ℕ → ℝ) (qq : Fin 2 → Fin 1024 → Fin 128 → ℝ) (δ : Fin 2 → Fin 1024 → ℝ) (t0 c : ℕ)
    (p : FVec Ideal S1x1024 .f32 × FVec Ideal S1x1024 .f32 × FVec Ideal S128x1024 .f32 × FVec Ideal S1x1024 .f32 × FVec Ideal S1x1024 .f32 × FVec Ideal S128x1024 .f32) : Prop :=
  HS (kk 0) (vv 0) (dk 0) (qq 0) (δ 0) t0 c p.1 p.2.1 p.2.2.1 ∧ HS (kk 1) (vv 1) (dk 1) (qq 1) (δ 1) t0 c p.2.2.2.1 p.2.2.2.2.1 p.2.2.2.2.2

include D in
/-- The blocks a step loads. -/
theorem blk_ld {W : ℕ} (h : Fin 2) (o : ℕ) (ho : o + W ≤ 8192) {off5 off3 : Fin 2 → ℕ} (e5 : off5 = ![o, 0]) (e3 : off3 = ![o, 128 * h.val])
    (inb5 : ∀ a, off5 a + (![W, 128] : Fin 2 → ℕ) a ≤ S8192x128.size a) (inb3 inb4 : ∀ a, off3 a + (![W, 128] : Fin 2 → ℕ) a ≤ S8192x256.size a)
    {v2 : Vec Ideal S1024x128 .bf16} {dq : FVec Ideal S1x1024 .f32} (hq : ∀ (n : Fin 1024) (d : Fin 128), v2 (ix2 n d) = ((qq h n d : ℝ) : EReal)) (hδ : ∀ n : Fin 1024, dq (ix2 (0 : Fin 1) n) = ((δ h n : ℝ) : EReal)) :
    Blk (W := W) (N := 1024) (kk h) (vv h) (dk h) (qq h) (δ h) o (lane (i 0) h)
      (View.readAt (Elt Ideal) arg5.view (Rect.unit (s := S8192x128) off5 ![W, 128] inb5).toLoadRect (harg5.unread x3))
      (View.readAt (Elt Ideal) arg3.view (Rect.unit (s := S8192x256) off3 ![W, 128] inb3).toLoadRect (harg3.unread x1))
      (View.readAt (Elt Ideal) arg4.view (Rect.unit (s := S8192x256) off3 ![W, 128] inb4).toLoadRect (harg4.unread x2)) v2 dq where
  hk j d := (ld2 arg3 harg3 x1 o _ e3 inb3 j d ⟨o + j.val, by omega⟩ (col h d) rfl rfl).trans (D.h1 h _ d)
  hv j d := (ld2 arg4 harg4 x2 o _ e3 inb4 j d ⟨o + j.val, by omega⟩ (col h d) rfl rfl).trans (D.h2 h _ d)
  hd j := (ld2 arg5 harg5 x3 o _ e5 inb5 j (lane (i 0) h) ⟨o + j.val, by omega⟩ (lane (i 0) h) rfl (Nat.zero_add _).symm).trans (D.h3 h _)
  hq := hq
  hδ := hδ

/-- The first head's queries as loaded. -/
abbrev ldq0 (x0 : Vec Ideal S1024x256 .bf16) : Vec Ideal S1024x128 .bf16 := View.readAt (Elt Ideal) arg2.view (Rect.unit (s := S1024x256) ![0, 0] S1024x128.size inb_S1024x256_S1024x128_0_0).toLoadRect (harg2.unread x0)
/-- The second head's queries as loaded. -/
abbrev ldq1 (x0 : Vec Ideal S1024x256 .bf16) : Vec Ideal S1024x128 .bf16 := View.readAt (Elt Ideal) arg2.view (Rect.unit (s := S1024x256) ![0, 128] S1024x128.size inb_S1024x256_S1024x128_0_128).toLoadRect (harg2.unread x0)
/-- The first head's running sums as loaded. -/
abbrev ldd0 (x4 : Vec Ideal S2x1x8192 .f32) : Vec Ideal S1x1x1024 .f32 := View.readAt (Elt Ideal) arg6.view (Rect.unit (s := S2x1x8192) (k0_off1 i) S1x1x1024.size (k0_off1_inb i)).toLoadRect (harg6.unread x4)
/-- The second head's running sums as loaded. -/
abbrev ldd1 (x4 : Vec Ideal S2x1x8192 .f32) : Vec Ideal S1x1x1024 .f32 := View.readAt (Elt Ideal) arg6.view (Rect.unit (s := S2x1x8192) (k0_off2 i) S1x1x1024.size (k0_off2_inb i)).toLoadRect (harg6.unread x4)

include D in
theorem ldq0_at (n : Fin 1024) (d : Fin 128) : ldq0 arg2 harg2 x0 (ix2 n d) = ((qq 0 n d : ℝ) : EReal) :=
  (ld2 arg2 harg2 x0 0 0 rfl _ n d n (col 0 d) (Nat.zero_add _).symm rfl).trans (D.h0 0 n d)
include D in
theorem ldq1_at (n : Fin 1024) (d : Fin 128) : ldq1 arg2 harg2 x0 (ix2 n d) = ((qq 1 n d : ℝ) : EReal) :=
  (ld2 arg2 harg2 x0 0 128 rfl _ n d n (col 1 d) (Nat.zero_add _).symm rfl).trans (D.h0 1 n d)

theorem w1024 : ∀ q : Fin 8, (Scalar.indexCast (Scalar.muli (BitVec.ofNat 32 q.val) 1024#32)).toNat = 1024 * q.val := by decide +kernel
theorem w1536 : ∀ q : Fin 8, (Scalar.indexCast (Scalar.addi (Scalar.muli (BitVec.ofNat 32 q.val) 1024#32) 512#32)).toNat = 1024 * q.val + 512 := by decide +kernel
theorem wodd : ∀ q : Fin 8, (Scalar.indexCast (Scalar.muli (Scalar.shrui (BitVec.ofNat 32 q.val) 1#32) 2048#32)).toNat = 2048 * (q.val / 2) := by decide +kernel
theorem wwide : ∀ k : Fin 4, (Scalar.indexCast (Scalar.muli (Scf.iv 0#32 1#32 k.val) 2048#32)).toNat = 2048 * k.val := by decide +kernel

theorem pr {x y z w : ℕ} (h : x = y) (h' : z = w) : (![x, z] : Fin 2 → ℕ) = ![y, w] := by rw [h, h']

theorem off15 : k0_off15 i = ![1024 * (i 1).val, 0] := pr (w1024 (i 1)) rfl
theorem off16 : k0_off16 i = ![1024 * (i 1).val, 128 * (0 : Fin 2).val] := pr (w1024 (i 1)) rfl
theorem off17 : k0_off17 i = ![1024 * (i 1).val, 128 * (1 : Fin 2).val] := pr (w1024 (i 1)) rfl
theorem off18 : k0_off18 i = ![1024 * (i 1).val + 512, 0] := pr (w1536 (i 1)) rfl
theorem off19 : k0_off19 i = ![1024 * (i 1).val + 512, 128 * (0 : Fin 2).val] := pr (w1536 (i 1)) rfl
theorem off20 : k0_off20 i = ![1024 * (i 1).val + 512, 128 * (1 : Fin 2).val] := pr (w1536 (i 1)) rfl
theorem off9 : k0_off9 i = ![2048 * ((i 1).val / 2), 0] := pr (wodd (i 1)) rfl
theorem off10 : k0_off10 i = ![2048 * ((i 1).val / 2), 128 * (0 : Fin 2).val] := pr (wodd (i 1)) rfl
theorem off11 : k0_off11 i = ![2048 * ((i 1).val / 2), 128 * (1 : Fin 2).val] := pr (wodd (i 1)) rfl

theorem trips1 : (k0_t1_loop i).trips = (i 1).val / 2 :=
  (by decide +kernel : ∀ q : Fin 8, Scf.trips 0#32 (Scalar.addi 0#32 (Scalar.muli (Scalar.divsi (Scalar.subi (Scalar.shrui (BitVec.ofNat 32 q.val) 1#32) 0#32) 1#32) 1#32)) 1#32 = q.val / 2) (i 1)
theorem trips2 : (k0_t2_loop i).trips = 0 :=
  (by decide +kernel : ∀ q : Fin 8, Scf.trips (Scalar.addi 0#32 (Scalar.muli (Scalar.divsi (Scalar.subi (Scalar.shrui (BitVec.ofNat 32 q.val) 1#32) 0#32) 1#32) 1#32)) (Scalar.addi 0#32 (Scalar.subi (Scalar.shrui (BitVec.ofNat 32 q.val) 1#32) 0#32)) 1#32 = 0) (i 1)
theorem trips3 : (k0_t3_loop i).trips = (i 1).val % 2 :=
  (by decide +kernel : ∀ q : Fin 8, Scf.trips 0#32 (Scalar.addi 0#32 (Scalar.muli (Scalar.divsi (Scalar.subi (Scalar.andi (BitVec.ofNat 32 q.val) 1#32) 0#32) 1#32) 1#32)) 1#32 = q.val % 2) (i 1)
theorem trips4 : (k0_t4_loop i).trips = 0 :=
  (by decide +kernel : ∀ q : Fin 8, Scf.trips (Scalar.addi 0#32 (Scalar.muli (Scalar.divsi (Scalar.subi (Scalar.andi (BitVec.ofNat 32 q.val) 1#32) 0#32) 1#32) 1#32)) (Scalar.addi 0#32 (Scalar.subi (Scalar.andi (BitVec.ofNat 32 q.val) 1#32) 0#32)) 1#32 = 0) (i 1)

theorem klt (k : Fin (k0_t1_loop i).trips) : k.val < (i 1).val / 2 := lt_of_lt_of_eq k.isLt (trips1 i)
theorem qlt : (i 1).val < 8 := (i 1).isLt
theorem klt4 (k : Fin (k0_t1_loop i).trips) : k.val < 4 := by
  have := klt i k; have := qlt i; omega
theorem off3 (k : Fin (k0_t1_loop i).trips) : k0_off3 i k = ![2048 * k.val, 0] := pr (wwide ⟨k.val, klt4 i k⟩) rfl
theorem off4 (k : Fin (k0_t1_loop i).trips) : k0_off4 i k = ![2048 * k.val, 128 * (0 : Fin 2).val] := pr (wwide ⟨k.val, klt4 i k⟩) rfl
theorem off5 (k : Fin (k0_t1_loop i).trips) : k0_off5 i k = ![2048 * k.val, 128 * (1 : Fin 2).val] := pr (wwide ⟨k.val, klt4 i k⟩) rfl

theorem tri {x y : ℕ} (b : ℕ) (h : x = y) : (![b, 0, x] : Fin 3 → ℕ) = ![b, 0, y] := by rw [h]

theorem ld3 (h : Fin 2) {off : Fin 3 → ℕ} (eo : off = ![h.val, 0, 1024 * (i 1).val]) (inb : ∀ a, off a + S1x1x1024.size a ≤ S2x1x8192.size a) (n : Fin 1024) :
    View.readAt (Elt Ideal) arg6.view (Rect.unit (s := S2x1x8192) off S1x1x1024.size inb).toLoadRect (harg6.unread x4) (ix3 (0 : Fin 1) (0 : Fin 1) n) = x4 (ix3 h (0 : Fin 1) (qrow (i 1) n)) := by
  subst eo
  rw [View.readAt_unit arg6.view _ inb rfl inb, Memref.IsWhole.read_unread]
  exact congrArg x4 (funext fun a => Fin.ext (by match a with | ⟨0, _⟩ => rfl | ⟨1, _⟩ => rfl | ⟨2, _⟩ => exact (show 1024 * (i 1).val + 1 * n.val = 1024 * (i 1).val + n.val by omega)))

include D in
theorem ldd0_at (n : Fin 1024) : k0_pay31 (F := Ideal) (ldd0 i arg6 harg6 x4) (ix2 (0 : Fin 1) n) = ((δ 0 n : ℝ) : EReal) :=
  (squeeze_at (A := 1) (B := 1024) _ shapeCasts_S1x1x1024_S1x1024 (ix2 (0 : Fin 1) n)).trans ((ld3 i arg6 harg6 0 (tri 0 (w1024 (i 1))) (k0_off1_inb i) n).trans (D.h4 0 n))
include D in
theorem ldd1_at (n : Fin 1024) : k0_pay32 (F := Ideal) (ldd1 i arg6 harg6 x4) (ix2 (0 : Fin 1) n) = ((δ 1 n : ℝ) : EReal) :=
  (squeeze_at (A := 1) (B := 1024) _ shapeCasts_S1x1x1024_S1x1024 (ix2 (0 : Fin 1) n)).trans ((ld3 i arg6 harg6 1 (tri 1 (w1024 (i 1))) (k0_off2_inb i) n).trans (D.h4 1 n))

include D in
/-- One trip of the wide loop. -/
theorem trip1 (k : Fin (k0_t1_loop i).trips) (p : FVec Ideal S1x1024 .f32 × FVec Ideal S1x1024 .f32 × FVec Ideal S128x1024 .f32 × FVec Ideal S1x1024 .f32 × FVec Ideal S1x1024 .f32 × FVec Ideal S128x1024 .f32)
    (h : G kk vv dk qq δ (1024 * (i 1).val) (2048 * k.val) p) :
    G kk vv dk qq δ (1024 * (i 1).val) (2048 * k.val + 2048) (tripR_k0_t1 (F := Ideal) Variants.none c none i arg2 harg2 arg3 harg3 arg4 harg4 arg5 harg5 arg6 harg6 arg7 harg7 (BitVec.ofNat 32 (i 0).val) (ldq0 arg2 harg2 x0) (ldd0 i arg6 harg6 x4) (ldq1 arg2 harg2 x0) (ldd1 i arg6 harg6 x4) (harg3.unread x1) (harg4.unread x2) (harg5.unread x3) k p) := by
  have hk := klt i k
  have hq := qlt i
  unfold tripR_k0_t1 trip_k0_t1
  dsimp only
  refine ⟨?_, ?_⟩
  · exact wide0 i _ _ _ _ _ _ _ _ (blk_ld i arg3 harg3 arg4 harg4 arg5 harg5 D (W := 2048) 0 (2048 * k.val) (by omega) (off3 i k) (off4 i k) (k0_off3_inb i k) (k0_off4_inb i k) (k0_off4_inb i k) (ldq0_at i arg2 harg2 D) (ldd0_at i arg6 harg6 D)) (by omega) h.1
  · exact wide1 i _ _ _ _ _ _ _ _ (blk_ld i arg3 harg3 arg4 harg4 arg5 harg5 D (W := 2048) 1 (2048 * k.val) (by omega) (off3 i k) (off5 i k) (k0_off3_inb i k) (k0_off5_inb i k) (k0_off5_inb i k) (ldq1_at i arg2 harg2 D) (ldd1_at i arg6 harg6 D)) (by omega) h.2

include D in
/-- The odd block's trip. -/
theorem trip3 (v : BitVec 32) (k : Fin (k0_t3_loop i).trips) (p : FVec Ideal S1x1024 .f32 × FVec Ideal S1x1024 .f32 × FVec Ideal S128x1024 .f32 × FVec Ideal S1x1024 .f32 × FVec Ideal S1x1024 .f32 × FVec Ideal S128x1024 .f32)
    (h : G kk vv dk qq δ (1024 * (i 1).val) (2048 * ((i 1).val / 2)) p) :
    G kk vv dk qq δ (1024 * (i 1).val) (2048 * ((i 1).val / 2) + 1024) (tripR_k0_t3 (F := Ideal) Variants.none c none i arg2 harg2 arg3 harg3 arg4 harg4 arg5 harg5 arg6 harg6 arg7 harg7 (BitVec.ofNat 32 (i 0).val) (ldq0 arg2 harg2 x0) (ldd0 i arg6 harg6 x4) (ldq1 arg2 harg2 x0) (ldd1 i arg6 harg6 x4) v (harg3.unread x1) (harg4.unread x2) (harg5.unread x3) k p) := by
  have hk : k.val < (i 1).val % 2 := lt_of_lt_of_eq k.isLt (trips3 i)
  have hq := qlt i
  unfold tripR_k0_t3 trip_k0_t3
  dsimp only
  refine ⟨?_, ?_⟩
  · exact odd0 i _ _ _ _ _ _ _ _ (blk_ld i arg3 harg3 arg4 harg4 arg5 harg5 D (W := 1024) 0 (2048 * ((i 1).val / 2)) (by omega) (off9 i) (off10 i) (k0_off9_inb i k) (k0_off10_inb i k) (k0_off10_inb i k) (ldq0_at i arg2 harg2 D) (ldd0_at i arg6 harg6 D)) (by omega) h.1
  · exact odd1 i _ _ _ _ _ _ _ _ (blk_ld i arg3 harg3 arg4 harg4 arg5 harg5 D (W := 1024) 1 (2048 * ((i 1).val / 2)) (by omega) (off9 i) (off11 i) (k0_off9_inb i k) (k0_off11_inb i k) (k0_off11_inb i k) (ldq1_at i arg2 harg2 D) (ldd1_at i arg6 harg6 D)) (by omega) h.2

include D in
/-- The wide loop's state before trip `k`. -/
theorem loop1 (init : FVec Ideal S1x1024 .f32 × FVec Ideal S1x1024 .f32 × FVec Ideal S128x1024 .f32 × FVec Ideal S1x1024 .f32 × FVec Ideal S1x1024 .f32 × FVec Ideal S128x1024 .f32)
    (h : G kk vv dk qq δ (1024 * (i 1).val) 0 init) (k : ℕ) (hk : k ≤ (k0_t1_loop i).trips) :
    G kk vv dk qq δ (1024 * (i 1).val) (2048 * k) (st_k0_t1 (F := Ideal) Variants.none c none i arg2 harg2 arg3 harg3 arg4 harg4 arg5 harg5 arg6 harg6 arg7 harg7 (BitVec.ofNat 32 (i 0).val) (ldq0 arg2 harg2 x0) (ldd0 i arg6 harg6 x4) (ldq1 arg2 harg2 x0) (ldd1 i arg6 harg6 x4) (harg3.unread x1) (harg4.unread x2) (harg5.unread x3) init k) := by
  induction k with
  | zero => exact h
  | succ k ih =>
    have e := st_k0_t1_succ (F := Ideal) Variants.none c none i arg2 harg2 arg3 harg3 arg4 harg4 arg5 harg5 arg6 harg6 arg7 harg7 (BitVec.ofNat 32 (i 0).val) (ldq0 arg2 harg2 x0) (ldd0 i arg6 harg6 x4) (ldq1 arg2 harg2 x0) (ldd1 i arg6 harg6 x4) (harg3.unread x1) (harg4.unread x2) (harg5.unread x3) init ⟨k, hk⟩
    have t := trip1 c i arg2 harg2 arg3 harg3 arg4 harg4 arg5 harg5 arg6 harg6 arg7 harg7 D ⟨k, hk⟩ _ (ih (Nat.le_of_succ_le hk))
    rw [← e] at t
    exact t

include D in
/-- The odd loop's state at its end. -/
theorem loop3 (v : BitVec 32) (init : FVec Ideal S1x1024 .f32 × FVec Ideal S1x1024 .f32 × FVec Ideal S128x1024 .f32 × FVec Ideal S1x1024 .f32 × FVec Ideal S1x1024 .f32 × FVec Ideal S128x1024 .f32)
    (h : G kk vv dk qq δ (1024 * (i 1).val) (2048 * ((i 1).val / 2)) init) :
    G kk vv dk qq δ (1024 * (i 1).val) (1024 * (i 1).val) (st_k0_t3 (F := Ideal) Variants.none c none i arg2 harg2 arg3 harg3 arg4 harg4 arg5 harg5 arg6 harg6 arg7 harg7 (BitVec.ofNat 32 (i 0).val) (ldq0 arg2 harg2 x0) (ldd0 i arg6 harg6 x4) (ldq1 arg2 harg2 x0) (ldd1 i arg6 harg6 x4) v (harg3.unread x1) (harg4.unread x2) (harg5.unread x3) init (k0_t3_loop i).trips) := by
  have ht := trips3 i
  rcases Nat.mod_two_eq_zero_or_one (i 1).val with hm | hm
  · rw [ht, hm, st_k0_t3_zero]
    have e : 2048 * ((i 1).val / 2) = 1024 * (i 1).val := by omega
    rw [e] at h
    exact h
  · have h0 : 0 < (k0_t3_loop i).trips := by rw [ht, hm]; exact Nat.one_pos
    have e := st_k0_t3_succ (F := Ideal) Variants.none c none i arg2 harg2 arg3 harg3 arg4 harg4 arg5 harg5 arg6 harg6 arg7 harg7 (BitVec.ofNat 32 (i 0).val) (ldq0 arg2 harg2 x0) (ldd0 i arg6 harg6 x4) (ldq1 arg2 harg2 x0) (ldd1 i arg6 harg6 x4) v (harg3.unread x1) (harg4.unread x2) (harg5.unread x3) init ⟨0, h0⟩
    have t := trip3 c i arg2 harg2 arg3 harg3 arg4 harg4 arg5 harg5 arg6 harg6 arg7 harg7 D v ⟨0, h0⟩ init h
    have e1 : (k0_t3_loop i).trips = (⟨0, h0⟩ : Fin (k0_t3_loop i).trips).val + 1 := ht.trans hm
    have e2 : 2048 * ((i 1).val / 2) + 1024 = 1024 * (i 1).val := by omega
    rw [e1, e]
    rw [e2] at t
    exact t

/-- Nothing has been read before the first block. -/
theorem G_init (t0 : ℕ) : G kk vv dk qq δ t0 0 (k0_pay33 (F := Ideal), k0_pay34 (F := Ideal), k0_pay35 (F := Ideal), k0_pay36 (F := Ideal), k0_pay37 (F := Ideal), k0_pay38 (F := Ideal)) :=
  ⟨fun n d => Or.inl ⟨rfl, ofBits_bot, Ideal.ofBits_zero_f32, Ideal.ofBits_zero_f32⟩, fun n d => Or.inl ⟨rfl, ofBits_bot, Ideal.ofBits_zero_f32, Ideal.ofBits_zero_f32⟩⟩

end

end Cert.Kernel7Ideal.Hand

end
-- ==== Proof.P7Out.lean ====
module

public import proofs.«01_k».proof.Proof.P7Loop

@[expose] public section

set_option maxRecDepth 16384

noncomputable section

namespace Cert.Kernel7Ideal.Hand

open Cert.Kernel7Ideal Cert.Kernel7Ideal.Gen Cert.Hand
open Idealize.ShloMosaic Idealize.ShloMosaic.ValueIdx Idealize.ShloMosaic.TcCoe Idealize.ShloMosaic.Tactic

/-- A column's head in a block of two heads. -/
def hd (b : Fin 256) : Fin 2 := ⟨b.val / 128, by omega⟩
/-- A column's place in its head. -/
def cm (b : Fin 256) : Fin 128 := ⟨b.val % 128, by omega⟩

theorem hd_col (h : Fin 2) (d : Fin 128) : hd (col h d) = h := Fin.ext (by show (128 * h.val + d.val) / 128 = h.val; omega)
theorem cm_col (h : Fin 2) (d : Fin 128) : cm (col h d) = d := Fin.ext (by show (128 * h.val + d.val) % 128 = d.val; omega)

/-- The two halves of the lanes side by side, at an index. -/
theorem cat_at {A : ℕ} (h : Shape.Concatenates [(⟨2, ![A, 512]⟩ : Shape), (⟨2, ![A, 512]⟩ : Shape)] ⟨2, ![A, 1024]⟩ (1 : Fin 2)) (x y : FVec Ideal ⟨2, ![A, 512]⟩ .f32) (r : Fin A) (n : Fin 1024) :
    concatenate (⟨2, ![A, 1024]⟩ : Shape) (1 : Fin 2) [⟨(⟨2, ![A, 512]⟩ : Shape), x⟩, ⟨(⟨2, ![A, 512]⟩ : Shape), y⟩] h (ix2 r n)
      = if hn : n.val < 512 then x (ix2 r ⟨n.val, hn⟩) else y (ix2 r ⟨n.val - 512, by omega⟩) := by
  by_cases hn : n.val < 512
  · rw [dif_pos hn]
    refine concatenate_apply_piece (t := (⟨2, ![A, 1024]⟩ : Shape)) (1 : Fin 2) [⟨(⟨2, ![A, 512]⟩ : Shape), x⟩, ⟨(⟨2, ![A, 512]⟩ : Shape), y⟩] h (ix2 r n) 0 (by simp) (⟨2, ![A, 512]⟩ : Shape) x rfl rfl 0 rfl (ix2 r ⟨n.val, hn⟩) (fun b hb => ?_) ?_
    · match b, hb with
      | ⟨0, _⟩, _ => rfl
      | ⟨1, _⟩, hb => exact absurd rfl hb
    · show 0 + n.val = n.val; omega
  · rw [dif_neg hn]
    refine concatenate_apply_piece (t := (⟨2, ![A, 1024]⟩ : Shape)) (1 : Fin 2) [⟨(⟨2, ![A, 512]⟩ : Shape), x⟩, ⟨(⟨2, ![A, 512]⟩ : Shape), y⟩] h (ix2 r n) 1 (by simp) (⟨2, ![A, 512]⟩ : Shape) y rfl rfl 512 rfl (ix2 r ⟨n.val - 512, by omega⟩) (fun b hb => ?_) ?_
    · match b, hb with
      | ⟨0, _⟩, _ => rfl
      | ⟨1, _⟩, hb => exact absurd rfl hb
    · show 512 + (n.val - 512) = n.val; omega

/-- The output of one head, from the state of the first half of the queries and of the second. -/
theorem fin_val {kk : ℕ → Fin 128 → ℝ} {vv : ℕ → Fin 128 → EReal} {dk : ℕ → ℝ} {qq : Fin 1024 → Fin 128 → ℝ} {δ : Fin 1024 → ℝ} {t0 : ℕ} {m l : FVec Ideal S1x1024 .f32} {a : FVec Ideal S128x1024 .f32} {m' l' : FVec Ideal S1x512 .f32} {a' : FVec Ideal S128x512 .f32}
    (h : HS kk vv dk qq δ t0 (t0 + 512) m l a) (h' : HS kk vv dk (fun n : Fin 512 => qq (up n)) (fun n => δ (up n)) (t0 + 512) (t0 + 512 + 512) m' l' a') (n : Fin 1024) (d : Fin 128) :
    k0_pay2 (F := Ideal) l a l' a' (ix2 n d) = smx (xs kk dk (qq n) (δ n)) (fun s => vv s d) (t0 + n.val) := by
  unfold k0_pay2
  unfold truncf
  dsimp only
  show (transpose S1024x128 [1, 0] _ transposes_S128x1024_p1_0_S1024x128 (ix2 n d) : EReal) = _
  refine (transpose_apply [1, 0] _ _ _ (ix2 d n) fun b => ?_).trans ?_
  · match b with
    | ⟨0, _⟩ => rfl
    | ⟨1, _⟩ => rfl
  have ea := cat_at concatenates_S128x512_S128x512_S128x1024_d1 (extractStridedSlice S128x512 ![0, 0] a slices_S128x1024_o0_0_S128x512) a' d n
  have el := cat_at concatenates_S1x512_S1x512_S1x1024_d1 (extractStridedSlice S1x512 ![0, 0] l slices_S1x1024_o0_0_S1x512) l' (0 : Fin 1) n
  refine (congr (congrArg Ideal.div ea) ((row_at broadcasts_S1x1024_S128x1024 _ d n).trans el)).trans ?_
  by_cases hn : n.val < 512
  · rw [dif_pos hn, dif_pos hn]
    refine (congr (congrArg Ideal.div (congrArg a (?_ : _ = ix2 d n))) (congrArg l (?_ : _ = ix2 (0 : Fin 1) n))).trans (St_end _ _ _ _ _ _ _ (h n d) (by omega))
    · exact funext fun b => Fin.ext (by match b with | ⟨0, _⟩ => exact Nat.zero_add _ | ⟨1, _⟩ => exact Nat.zero_add _)
    · exact funext fun b => Fin.ext (by match b with | ⟨0, _⟩ => rfl | ⟨1, _⟩ => exact Nat.zero_add _)
  · rw [dif_neg hn, dif_neg hn]
    have e := St_end _ _ _ _ _ _ _ (h' ⟨n.val - 512, by omega⟩ d) (by show t0 + 512 + (n.val - 512) < _; omega)
    have eu : up ⟨n.val - 512, by omega⟩ = n := Fin.ext (by show 512 + (n.val - 512) = n.val; omega)
    have et : t0 + 512 + (n.val - 512) = t0 + n.val := by omega
    refine e.trans ?_
    show smx (xs kk dk (qq (up ⟨n.val - 512, by omega⟩)) (δ (up ⟨n.val - 512, by omega⟩))) (fun s => vv s d) (t0 + 512 + (n.val - 512)) = _
    rw [eu, et]

section
variable (c : Dev nD) (i : grid0.Coords) (arg2 : Memref sig .tc .vmem S1024x256 .bf16) (harg2 : arg2.IsWhole) (arg3 : Memref sig .tc .vmem S8192x256 .bf16) (harg3 : arg3.IsWhole) (arg4 : Memref sig .tc .vmem S8192x256 .bf16) (harg4 : arg4.IsWhole) (arg5 : Memref sig .tc .vmem S8192x128 .f32) (harg5 : arg5.IsWhole) (arg6 : Memref sig .tc .vmem S2x1x8192 .f32) (harg6 : arg6.IsWhole) (arg7 : Memref sig .tc .vmem S1024x256 .bf16) (harg7 : arg7.IsWhole)
    {x0 : Vec Ideal S1024x256 .bf16} {x1 : Vec Ideal S8192x256 .bf16} {x2 : Vec Ideal S8192x256 .bf16} {x3 : Vec Ideal S8192x128 .f32} {x4 : Vec Ideal S2x1x8192 .f32}
    {kk : Fin 2 → ℕ → Fin 128 → ℝ} {vv : Fin 2 → ℕ → Fin 128 → EReal} {dk : Fin 2 → ℕ → ℝ} {qq : Fin 2 → Fin 1024 → Fin 128 → ℝ} {δ : Fin 2 → Fin 1024 → ℝ} (D : Dat i x0 x1 x2 x3 x4 kk vv dk qq δ)

theorem gproj {t0 c : ℕ} {p : FVec Ideal S1x1024 .f32 × FVec Ideal S1x1024 .f32 × FVec Ideal S128x1024 .f32 × FVec Ideal S1x1024 .f32 × FVec Ideal S1x1024 .f32 × FVec Ideal S128x1024 .f32}
    (h : G kk vv dk qq δ t0 c p) : G kk vv dk qq δ t0 c (p.1, p.2.1, p.2.2.1, p.2.2.2.1, p.2.2.2.2.1, p.2.2.2.2.2) := ⟨h.1, h.2⟩

/-- The state the blocks before the queries leave, as the body holds it. -/
abbrev s4 (x0 : Vec Ideal S1024x256 .bf16) (x1 : Vec Ideal S8192x256 .bf16) (x2 : Vec Ideal S8192x256 .bf16) (x3 : Vec Ideal S8192x128 .f32) (x4 : Vec Ideal S2x1x8192 .f32) :=
  st_k0_t4 (F := Ideal) Variants.none c none i arg2 harg2 arg3 harg3 arg4 harg4 arg5 harg5 arg6 harg6 arg7 harg7 (BitVec.ofNat 32 (i 0).val) (kernelRun0_A.sl.v0 i) (kernelRun0_A.sl.r c arg2 harg2 x0) (kernelRun0_A.sl.r_1 c i arg6 harg6 x4) (kernelRun0_A.sl.r_2 c arg2 harg2 x0) (kernelRun0_A.sl.r_3 c i arg6 harg6 x4) (kernelRun0_A.sl.v24 i) (kernelRun0_A.sl.v31 i)
    (kernelRun0_A.sl.r_4 c i arg2 harg2 arg3 harg3 arg4 harg4 arg5 harg5 arg6 harg6 arg7 harg7 x0 x1 x2 x3 x4) (kernelRun0_A.sl.r_5 c i arg2 harg2 arg3 harg3 arg4 harg4 arg5 harg5 arg6 harg6 arg7 harg7 x0 x1 x2 x3 x4) (kernelRun0_A.sl.r_6 c i arg2 harg2 arg3 harg3 arg4 harg4 arg5 harg5 arg6 harg6 arg7 harg7 x0 x1 x2 x3 x4) (kernelRun0_A.sl.r_7 c i arg2 harg2 arg3 harg3 arg4 harg4 arg5 harg5 arg6 harg6 arg7 harg7 x0 x1 x2 x3 x4) (kernelRun0_A.sl.r_8 c i arg2 harg2 arg3 harg3 arg4 harg4 arg5 harg5 arg6 harg6 arg7 harg7 x0 x1 x2 x3 x4) (kernelRun0_A.sl.r_9 c i arg2 harg2 arg3 harg3 arg4 harg4 arg5 harg5 arg6 harg6 arg7 harg7 x0 x1 x2 x3 x4)
    (harg3.unread x1) (harg4.unread x2) (harg5.unread x3)
    (kernelRun0_A.sl.r_4 c i arg2 harg2 arg3 harg3 arg4 harg4 arg5 harg5 arg6 harg6 arg7 harg7 x0 x1 x2 x3 x4, kernelRun0_A.sl.r_5 c i arg2 harg2 arg3 harg3 arg4 harg4 arg5 harg5 arg6 harg6 arg7 harg7 x0 x1 x2 x3 x4, kernelRun0_A.sl.r_6 c i arg2 harg2 arg3 harg3 arg4 harg4 arg5 harg5 arg6 harg6 arg7 harg7 x0 x1 x2 x3 x4, kernelRun0_A.sl.r_7 c i arg2 harg2 arg3 harg3 arg4 harg4 arg5 harg5 arg6 harg6 arg7 harg7 x0 x1 x2 x3 x4, kernelRun0_A.sl.r_8 c i arg2 harg2 arg3 harg3 arg4 harg4 arg5 harg5 arg6 harg6 arg7 harg7 x0 x1 x2 x3 x4, kernelRun0_A.sl.r_9 c i arg2 harg2 arg3 harg3 arg4 harg4 arg5 harg5 arg6 harg6 arg7 harg7 x0 x1 x2 x3 x4)
    (Scf.trips (k0_t4_loop i).lb (k0_t4_loop i).ub (k0_t4_loop i).st)

include D in
/-- Every key before the block of queries has been read. -/
theorem s4_G : G kk vv dk qq δ (1024 * (i 1).val) (1024 * (i 1).val) (s4 c i arg2 harg2 arg3 harg3 arg4 harg4 arg5 harg5 arg6 harg6 arg7 harg7 x0 x1 x2 x3 x4) := by
  have h4 : Scf.trips (k0_t4_loop i).lb (k0_t4_loop i).ub (k0_t4_loop i).st = 0 := trips4 i
  have h2 : Scf.trips (k0_t2_loop i).lb (k0_t2_loop i).ub (k0_t2_loop i).st = 0 := trips2 i
  unfold s4
  rw [h4, st_k0_t4_zero]
  unfold kernelRun0_A.sl.r_4 kernelRun0_A.sl.r_5 kernelRun0_A.sl.r_6 kernelRun0_A.sl.r_7 kernelRun0_A.sl.r_8 kernelRun0_A.sl.r_9
  refine gproj (loop3 c i arg2 harg2 arg3 harg3 arg4 harg4 arg5 harg5 arg6 harg6 arg7 harg7 D _ _ ?_)
  rw [h2, st_k0_t2_zero]
  have h1 := loop1 c i arg2 harg2 arg3 harg3 arg4 harg4 arg5 harg5 arg6 harg6 arg7 harg7 D _ (G_init _) _ (le_refl _)
  have e : 2048 * (k0_t1_loop i).trips = 2048 * ((i 1).val / 2) := congrArg (2048 * ·) (trips1 i)
  exact ⟨e ▸ h1.1, e ▸ h1.2⟩

/-- The values of a block of queries. -/
def outv (kk : Fin 2 → ℕ → Fin 128 → ℝ) (vv : Fin 2 → ℕ → Fin 128 → EReal) (dk : Fin 2 → ℕ → ℝ) (qq : Fin 2 → Fin 1024 → Fin 128 → ℝ) (δ : Fin 2 → Fin 1024 → ℝ) (q : ℕ) (n : Fin 1024) (b : Fin 256) : EReal :=
  smx (xs (kk (hd b)) (dk (hd b)) (qq (hd b) n) (δ (hd b) n)) (fun s => vv (hd b) s (cm b)) (1024 * q + n.val)

theorem outv_col (q : ℕ) (n : Fin 1024) (h : Fin 2) (d : Fin 128) : outv kk vv dk qq δ q n (col h d) = smx (xs (kk h) (dk h) (qq h n) (δ h n)) (fun s => vv h s d) (1024 * q + n.val) := by
  unfold outv; rw [hd_col, cm_col]

set_option maxHeartbeats 2000000 in
include D in
/-- The body's block. -/
theorem out5_A : out0_A_5 (F := Ideal) c i arg2 harg2 arg3 harg3 arg4 harg4 arg5 harg5 arg6 harg6 arg7 harg7 x0 x1 x2 x3 x4 = (fun y : S1024x256.Idx => outv kk vv dk qq δ (i 1).val (y 0) (y 1)) := by
  have hq := qlt i
  have g := s4_G c i arg2 harg2 arg3 harg3 arg4 harg4 arg5 harg5 arg6 harg6 arg7 harg7 D
  have hq0 := ldq0_at i arg2 harg2 D
  have hq1 := ldq1_at i arg2 harg2 D
  have hd0 := ldd0_at i arg6 harg6 D
  have hd1 := ldd1_at i arg6 harg6 D
  have bd0 := blk_ld i arg3 harg3 arg4 harg4 arg5 harg5 D (W := 512) 0 (1024 * (i 1).val) (by omega) (off15 i) (off16 i) (k0_off15_inb i) (k0_off16_inb i) (k0_off16_inb i) hq0 hd0
  have bd1 := blk_ld i arg3 harg3 arg4 harg4 arg5 harg5 D (W := 512) 1 (1024 * (i 1).val) (by omega) (off15 i) (off17 i) (k0_off15_inb i) (k0_off17_inb i) (k0_off17_inb i) hq1 hd1
  have be0 := blk_ld i arg3 harg3 arg4 harg4 arg5 harg5 D (W := 512) 0 (1024 * (i 1).val + 512) (by omega) (off18 i) (off19 i) (k0_off18_inb i) (k0_off19_inb i) (k0_off19_inb i) hq0 hd0
  have be1 := blk_ld i arg3 harg3 arg4 harg4 arg5 harg5 D (W := 512) 1 (1024 * (i 1).val + 512) (by omega) (off18 i) (off20 i) (k0_off18_inb i) (k0_off20_inb i) (k0_off20_inb i) hq1 hd1
  have d0 := diag0 i _ _ _ _ _ _ _ _ bd0 g.1
  have d1 := diag1 i _ _ _ _ _ _ _ _ bd1 g.2
  have e0 := hi0 i _ _ _ _ _ _ _ _ (Blk_hi _ _ be0.hk be0.hv be0.hd hq0 hd0) (HS_hi _ _ _ d0)
  have e1 := hi1 i _ _ _ _ _ _ _ _ (Blk_hi _ _ be1.hk be1.hv be1.hd hq1 hd1) (HS_hi _ _ _ d1)
  unfold out0_A_5
  funext y
  refine View.read_writes_apply_of_pieces _ _ (fun y : S1024x256.Idx => outv kk vv dk qq δ (i 1).val (y 0) (y 1)) _ ?_ y (cover0_A_5 c i arg2 harg2 arg3 harg3 arg4 harg4 arg5 harg5 arg6 harg6 arg7 harg7 x0 x1 x2 x3 x4 y)
  intro p hp
  unfold kernelRun0_A at hp
  dsimp only at hp
  simp only [List.mem_cons, List.not_mem_nil, or_false] at hp
  rcases hp with rfl | rfl <;> intro x
  · obtain ⟨n, d, rfl⟩ : ∃ (n : Fin 1024) (d : Fin 128), x = ix2 n d := ⟨x 0, x 1, eq_ix2 x⟩
    refine Eq.trans ?_ (congr (congrArg (outv kk vv dk qq δ (i 1).val) (?_ : n = _)) (?_ : col 1 d = _))
    · rw [outv_col]
      exact fin_val d1 e1 n d
    · exact Fin.ext (show n.val = 0 + 1 * n.val by omega)
    · exact Fin.ext (show 128 * 1 + d.val = 128 + 1 * d.val by omega)
  · obtain ⟨n, d, rfl⟩ : ∃ (n : Fin 1024) (d : Fin 128), x = ix2 n d := ⟨x 0, x 1, eq_ix2 x⟩
    refine Eq.trans ?_ (congr (congrArg (outv kk vv dk qq δ (i 1).val) (?_ : n = _)) (?_ : col 0 d = _))
    · rw [outv_col]
      exact fin_val d0 e0 n d
    · exact Fin.ext (show n.val = 0 + 1 * n.val by omega)
    · exact Fin.ext (show 128 * 0 + d.val = 0 + 1 * d.val by omega)

end

end Cert.Kernel7Ideal.Hand

end
-- ==== Proof.P7Fox.lean ====
module

public import proofs.«01_k».proof.Proof.P7Pay

@[expose] public section

/-! # The forgetting attention over the whole arrays

What the call writes at a query, a head and a column: a softmax to base two over the keys up to the query's position, of
the queries, keys and values that lie side by side in one array and of the gates' running sums. -/

noncomputable section

namespace Cert.Hand

open Idealize.ShloMosaic Idealize.ShloMosaic.ValueIdx

/-- An array's real entry at row `s`, and zero past its end. -/
def rk {n : ℕ} (A : (⟨2, ![8192, n]⟩ : Shape).Idx → EReal) (s : ℕ) (j : Fin n) : ℝ :=
  if h : s < 8192 then (A (ix2 (⟨s, h⟩ : Fin 8192) j)).toReal else 0

/-- A finite entry is its real one. -/
theorem rk_at {n : ℕ} {A : (⟨2, ![8192, n]⟩ : Shape).Idx → EReal} (s : Fin 8192) (j : Fin n) (hA : A (ix2 s j) = ((A (ix2 s j)).toReal : EReal)) :
    A (ix2 s j) = ((rk A s.val j : ℝ) : EReal) := by
  unfold rk
  rw [dif_pos s.isLt]
  exact hA

/-- An array's entry at row `s`, and zero past its end. -/
def ek {n : ℕ} (A : (⟨2, ![8192, n]⟩ : Shape).Idx → EReal) (s : ℕ) (j : Fin n) : EReal :=
  if h : s < 8192 then A (ix2 (⟨s, h⟩ : Fin 8192) j) else 0

theorem ek_at {n : ℕ} (A : (⟨2, ![8192, n]⟩ : Shape).Idx → EReal) (s : Fin 8192) (j : Fin n) : A (ix2 s j) = ek A s.val j := by
  unfold ek
  rw [dif_pos s.isLt]

/-- Head `H`'s column `d` of the queries. -/
def qc (H : Fin 16) (d : Fin 128) : Fin 6144 := ⟨128 * H.val + d.val, by omega⟩
/-- Head `H`'s column `d` of the keys. -/
def kc (H : Fin 16) (d : Fin 128) : Fin 6144 := ⟨2048 + (128 * H.val + d.val), by omega⟩
/-- Head `H`'s column `d` of the values. -/
def vc (H : Fin 16) (d : Fin 128) : Fin 6144 := ⟨4096 + (128 * H.val + d.val), by omega⟩

/-- The attention's output at query `t`, head `H`, column `d`. -/
def foxAt (A : (⟨2, ![8192, 6144]⟩ : Shape).Idx → EReal) (D : (⟨2, ![8192, 16]⟩ : Shape).Idx → EReal) (t : ℕ) (H : Fin 16) (d : Fin 128) : EReal :=
  smx (xs (fun s e => rk A s (kc H e)) (fun s => rk D s H) (fun e => rk A t (qc H e)) (rk D t H)) (fun s => ek A s (vc H d)) t

end Cert.Hand

end
-- ==== Proof.P7Value.lean ====
module

public import proofs.«01_k».proof.Proof.P7Out
public import proofs.«01_k».proof.Proof.P7Fox
public import proofs.«01_k».proof.Proof.Gen.Kernel7Ideal.Value
public import Idealize.ShloMosaic.Lib.KernelVsHost

@[expose] public section

set_option maxRecDepth 16384

noncomputable section

namespace Cert.Kernel7Ideal.Hand

open Cert.Kernel7Ideal Cert.Kernel7Ideal.Gen Cert.Hand
open Idealize.ShloMosaic Idealize.ShloMosaic.TcCoe Idealize.ShloMosaic.ValueIdx Idealize.SL.Sem

variable (m : (ℓ : Loc nD τ sig) → Buf (Elt Ideal) ℓ) (c : Dev nD)

/-- The queries, keys and values, as launched. -/
abbrev a0 : S8192x6144.Idx → EReal := m ((c : Thread nD τ).loc main_arg0)
/-- The gates' running sums, as launched. -/
abbrev a1 : S8192x16.Idx → EReal := m ((c : Thread nD τ).loc main_arg1)

/-- The running sums on the last sixteen lanes, as the launch finds them. -/
theorem V_lane (s : Fin 8192) (H : Fin 16) : rd S8192x128 (V m c main_v0) (ix2 s (⟨112 + H.val, by omega⟩ : Fin 128)) = a1 m c (ix2 s H) := by
  have e : V m c main_v0 = pad S8192x128 ![0, 112] ![0, 0] ![0, 0] (a1 m c) (sitofp (F := Ideal) .f32 (constantI S_ 32 0#32)) pads_S8192x16_S8192x128_000_11200 h_S_ := by
    simp only [V, hostOps0, hostOps0_1, hostOps0_2, List.flatten_cons, List.flatten_nil, List.append_nil, List.cons_append, List.nil_append]
    after_results_simp <;> rfl
  refine (congrFun e _).trans (pad_apply_of_inside _ _ _ _ _ _ _ _ (ix2 s H) fun a => ?_)
  match a with
  | ⟨0, _⟩ => show s.val = 0 + s.val * (0 + 1); omega
  | ⟨1, _⟩ => show 112 + H.val = 112 + H.val * (0 + 1); omega

/-- The turned running sums, as the launch finds them. -/
theorem V_turn (H : Fin 16) (t : Fin 8192) : rd S16x1x8192 (V m c main_v2) (ix3 H (0 : Fin 1) t) = a1 m c (ix2 t H) := by
  have e : V m c main_v2 = shapeCast S16x1x8192 (transpose S16x8192 [1, 0] (a1 m c) transposes_S8192x16_S16x8192_1_0) shapeCasts_S16x8192_S16x1x8192 := by
    simp only [V, hostOps0, hostOps0_1, hostOps0_2, List.flatten_cons, List.flatten_nil, List.append_nil, List.cons_append, List.nil_append]
    after_results_simp <;> rfl
  refine ((congrFun e _).trans (shapeCast_apply _ _ _ (ix2 H t) ?_)).trans (transpose_apply _ _ _ _ _ fun b => ?_)
  · rw [Shape.rowMajor_val_three, Shape.rowMajor_val_two]
    show H.val * 8192 + t.val = (H.val * 1 + 0) * 8192 + t.val
    omega
  · match b with
    | ⟨0, _⟩ => rfl
    | ⟨1, _⟩ => rfl

/-- Where each window's block sits, at every point of the grid. -/
theorem where0 : ∀ t : Fin cfg0.N, (win0_0.index t (0 : Fin 2) = (grid0.coords t 1).val ∧ win0_0.index t (1 : Fin 2) = (grid0.coords t 0).val) ∧ (win0_1.index t (0 : Fin 2) = 0 ∧ win0_1.index t (1 : Fin 2) = 8 + (grid0.coords t 0).val) ∧ (win0_2.index t (0 : Fin 2) = 0 ∧ win0_2.index t (1 : Fin 2) = 16 + (grid0.coords t 0).val) ∧ (win0_3.index t (0 : Fin 2) = 0 ∧ win0_3.index t (1 : Fin 2) = 0) ∧ (win0_4.index t (0 : Fin 3) = (grid0.coords t 0).val ∧ win0_4.index t (1 : Fin 3) = 0 ∧ win0_4.index t (2 : Fin 3) = 0) ∧ (win0_5.index t (0 : Fin 2) = (grid0.coords t 1).val ∧ win0_5.index t (1 : Fin 2) = (grid0.coords t 0).val) :=
  (by decide +kernel : ∀ t : Fin grid0.N, (win0_0.index t (0 : Fin 2) = (grid0.coords t 1).val ∧ win0_0.index t (1 : Fin 2) = (grid0.coords t 0).val) ∧ (win0_1.index t (0 : Fin 2) = 0 ∧ win0_1.index t (1 : Fin 2) = 8 + (grid0.coords t 0).val) ∧ (win0_2.index t (0 : Fin 2) = 0 ∧ win0_2.index t (1 : Fin 2) = 16 + (grid0.coords t 0).val) ∧ (win0_3.index t (0 : Fin 2) = 0 ∧ win0_3.index t (1 : Fin 2) = 0) ∧ (win0_4.index t (0 : Fin 3) = (grid0.coords t 0).val ∧ win0_4.index t (1 : Fin 3) = 0 ∧ win0_4.index t (2 : Fin 3) = 0) ∧ (win0_5.index t (0 : Fin 2) = (grid0.coords t 1).val ∧ win0_5.index t (1 : Fin 2) = (grid0.coords t 0).val))

/-- Every pair of a head pair and a query block is a point of the grid. -/
theorem point : ∀ a b : Fin 8, ∃ t : Fin cfg0.N, (grid0.coords t 0).val = a.val ∧ (grid0.coords t 1).val = b.val :=
  (by decide +kernel : ∀ a b : Fin 8, ∃ t : Fin grid0.N, (grid0.coords t 0).val = a.val ∧ (grid0.coords t 1).val = b.val)

/-- Window 0's block at a point, read off its array. -/
theorem iblk_0_at (t : Fin cfg0.N) (y : S1024x256.Idx) (i : S8192x6144.Idx) (h0 : (i (0 : Fin 2)).val = (grid0.coords t 1).val * 1024 + (y (0 : Fin 2)).val) (h1 : (i (1 : Fin 2)).val = (grid0.coords t 0).val * 256 + (y (1 : Fin 2)).val) :
    iblk m c 0 t y = (rd S8192x6144 (V m c main_arg0)) i := by
  obtain ⟨e0, e1⟩ := (where0 t).1
  unfold iblk
  show (rd S8192x6144 (V m c main_arg0)) (((cfg0.win 0).blk t).view.emb y) = _
  refine congrArg (rd S8192x6144 (V m c main_arg0)) (funext fun a => Fin.ext ?_)
  exact (match a with
    | ⟨0, _⟩ => by show win0_0.index t (0 : Fin 2) * 1024 + 1 * (y (0 : Fin 2)).val = (i (0 : Fin 2)).val; rw [h0, e0]; omega
    | ⟨1, _⟩ => by show win0_0.index t (1 : Fin 2) * 256 + 1 * (y (1 : Fin 2)).val = (i (1 : Fin 2)).val; rw [h1, e1]; omega)

/-- Window 1's block at a point, read off its array. -/
theorem iblk_1_at (t : Fin cfg0.N) (y : S8192x256.Idx) (i : S8192x6144.Idx) (h0 : (i (0 : Fin 2)).val = (y (0 : Fin 2)).val) (h1 : (i (1 : Fin 2)).val = (8 + (grid0.coords t 0).val) * 256 + (y (1 : Fin 2)).val) :
    iblk m c 1 t y = (rd S8192x6144 (V m c main_arg0)) i := by
  obtain ⟨e0, e1⟩ := (where0 t).2.1
  unfold iblk
  show (rd S8192x6144 (V m c main_arg0)) (((cfg0.win 1).blk t).view.emb y) = _
  refine congrArg (rd S8192x6144 (V m c main_arg0)) (funext fun a => Fin.ext ?_)
  exact (match a with
    | ⟨0, _⟩ => by show win0_1.index t (0 : Fin 2) * 8192 + 1 * (y (0 : Fin 2)).val = (i (0 : Fin 2)).val; rw [h0, e0]; omega
    | ⟨1, _⟩ => by show win0_1.index t (1 : Fin 2) * 256 + 1 * (y (1 : Fin 2)).val = (i (1 : Fin 2)).val; rw [h1, e1]; omega)

/-- Window 2's block at a point, read off its array. -/
theorem iblk_2_at (t : Fin cfg0.N) (y : S8192x256.Idx) (i : S8192x6144.Idx) (h0 : (i (0 : Fin 2)).val = (y (0 : Fin 2)).val) (h1 : (i (1 : Fin 2)).val = (16 + (grid0.coords t 0).val) * 256 + (y (1 : Fin 2)).val) :
    iblk m c 2 t y = (rd S8192x6144 (V m c main_arg0)) i := by
  obtain ⟨e0, e1⟩ := (where0 t).2.2.1
  unfold iblk
  show (rd S8192x6144 (V m c main_arg0)) (((cfg0.win 2).blk t).view.emb y) = _
  refine congrArg (rd S8192x6144 (V m c main_arg0)) (funext fun a => Fin.ext ?_)
  exact (match a with
    | ⟨0, _⟩ => by show win0_2.index t (0 : Fin 2) * 8192 + 1 * (y (0 : Fin 2)).val = (i (0 : Fin 2)).val; rw [h0, e0]; omega
    | ⟨1, _⟩ => by show win0_2.index t (1 : Fin 2) * 256 + 1 * (y (1 : Fin 2)).val = (i (1 : Fin 2)).val; rw [h1, e1]; omega)

/-- Window 3's block at a point is its array. -/
theorem iblk_3_at (t : Fin cfg0.N) (y : S8192x128.Idx) : iblk m c 3 t y = (rd S8192x128 (V m c main_v0)) y := by
  obtain ⟨e0, e1⟩ := (where0 t).2.2.2.1
  unfold iblk
  show (rd S8192x128 (V m c main_v0)) (((cfg0.win 3).blk t).view.emb y) = _
  refine congrArg (rd S8192x128 (V m c main_v0)) (funext fun a => Fin.ext ?_)
  exact (match a with
    | ⟨0, _⟩ => by show win0_3.index t (0 : Fin 2) * 8192 + 1 * (y (0 : Fin 2)).val = (y (0 : Fin 2)).val; rw [e0]; omega
    | ⟨1, _⟩ => by show win0_3.index t (1 : Fin 2) * 128 + 1 * (y (1 : Fin 2)).val = (y (1 : Fin 2)).val; rw [e1]; omega)

/-- Window 4's block at a point, read off its array. -/
theorem iblk_4_at (t : Fin cfg0.N) (y : S2x1x8192.Idx) (i : S16x1x8192.Idx) (h0 : (i (0 : Fin 3)).val = (grid0.coords t 0).val * 2 + (y (0 : Fin 3)).val) (h1 : (i (1 : Fin 3)).val = (y (1 : Fin 3)).val) (h2 : (i (2 : Fin 3)).val = (y (2 : Fin 3)).val) :
    iblk m c 4 t y = (rd S16x1x8192 (V m c main_v2)) i := by
  obtain ⟨e0, e1, e2⟩ := (where0 t).2.2.2.2.1
  unfold iblk
  show (rd S16x1x8192 (V m c main_v2)) (((cfg0.win 4).blk t).view.emb y) = _
  refine congrArg (rd S16x1x8192 (V m c main_v2)) (funext fun a => Fin.ext ?_)
  exact (match a with
    | ⟨0, _⟩ => by show win0_4.index t (0 : Fin 3) * 2 + 1 * (y (0 : Fin 3)).val = (i (0 : Fin 3)).val; rw [h0, e0]; omega
    | ⟨1, _⟩ => by show win0_4.index t (1 : Fin 3) * 1 + 1 * (y (1 : Fin 3)).val = (i (1 : Fin 3)).val; rw [h1, e1]; omega
    | ⟨2, _⟩ => by show win0_4.index t (2 : Fin 3) * 8192 + 1 * (y (2 : Fin 3)).val = (i (2 : Fin 3)).val; rw [h2, e2]; omega)

/-- The head that is number `h` of pair `g`. -/
def head (g : Fin 8) (h : Fin 2) : Fin 16 := ⟨2 * g.val + h.val, by omega⟩

variable (hA : ∀ (s : Fin 8192) (j : Fin 6144), j.val < 4096 → a0 m c (ix2 s j) = ((a0 m c (ix2 s j)).toReal : EReal)) (hD : ∀ i, a1 m c i = ((a1 m c i).toReal : EReal))

include hA hD in
/-- The blocks at a point hold the real entries of the arrays. -/
theorem dat (t : Fin cfg0.N) : Dat (grid0.coords t) (iblk m c 0 t) (iblk m c 1 t) (iblk m c 2 t) (iblk m c 3 t) (iblk m c 4 t)
    (fun h s d => rk (a0 m c) s (kc (head (grid0.coords t 0) h) d)) (fun h s d => ek (a0 m c) s (vc (head (grid0.coords t 0) h) d))
    (fun h s => rk (a1 m c) s (head (grid0.coords t 0) h))
    (fun h n d => rk (a0 m c) (qrow (grid0.coords t 1) n).val (qc (head (grid0.coords t 0) h) d))
    (fun h n => rk (a1 m c) (qrow (grid0.coords t 1) n).val (head (grid0.coords t 0) h)) := by
  have e0 : rd S8192x6144 (V m c main_arg0) = a0 m c := V_main_arg0 m c
  have hg : (grid0.coords t 0).val < 8 := (grid0.coords t 0).isLt
  have hq : (grid0.coords t 1).val < 8 := (grid0.coords t 1).isLt
  refine ⟨fun h n d => ?_, fun h s d => ?_, fun h s d => ?_, fun h s => ?_, fun h n => ?_⟩
  · refine (iblk_0_at m c t _ (ix2 (qrow (grid0.coords t 1) n) (qc (head (grid0.coords t 0) h) d)) ?_ ?_).trans ?_
    · show 1024 * (grid0.coords t 1).val + n.val = (grid0.coords t 1).val * 1024 + n.val; omega
    · show 128 * (2 * (grid0.coords t 0).val + h.val) + d.val = (grid0.coords t 0).val * 256 + (128 * h.val + d.val); omega
    · rw [e0]; exact rk_at _ _ (hA _ _ (by show 128 * (2 * (grid0.coords t 0).val + h.val) + d.val < 4096; have := h.isLt; have := d.isLt; omega))
  · refine (iblk_1_at m c t _ (ix2 s (kc (head (grid0.coords t 0) h) d)) rfl ?_).trans ?_
    · show 2048 + (128 * (2 * (grid0.coords t 0).val + h.val) + d.val) = (8 + (grid0.coords t 0).val) * 256 + (128 * h.val + d.val); omega
    · rw [e0]; exact rk_at _ _ (hA _ _ (by show 2048 + (128 * (2 * (grid0.coords t 0).val + h.val) + d.val) < 4096; have := h.isLt; have := d.isLt; omega))
  · refine (iblk_2_at m c t _ (ix2 s (vc (head (grid0.coords t 0) h) d)) rfl ?_).trans ?_
    · show 4096 + (128 * (2 * (grid0.coords t 0).val + h.val) + d.val) = (16 + (grid0.coords t 0).val) * 256 + (128 * h.val + d.val); omega
    · rw [e0]; exact ek_at _ _ _
  · refine (iblk_3_at m c t _).trans ?_
    refine Eq.trans (congrArg (rd S8192x128 (V m c main_v0)) (congrArg (ix2 s) (Fin.ext ?_))) ((V_lane m c s (head (grid0.coords t 0) h)).trans (rk_at _ _ (hD _)))
    show 112 + 2 * (grid0.coords t 0).val + h.val = 112 + (2 * (grid0.coords t 0).val + h.val); omega
  · refine (iblk_4_at m c t _ (ix3 (head (grid0.coords t 0) h) (0 : Fin 1) (qrow (grid0.coords t 1) n)) ?_ rfl rfl).trans ?_
    · show 2 * (grid0.coords t 0).val + h.val = (grid0.coords t 0).val * 2 + h.val; omega
    · exact (V_turn m c _ _).trans (rk_at _ _ (hD _))

/-- Every point writes the output window back. -/
theorem flush0_5_all : ∀ t : Fin cfg0.N, (cfg0.win 5).flush t = true :=
  (by decide +kernel : ∀ t : Fin grid0.N, win0_5.flush t = true)

/-- An index of the array is in a point's block iff each coordinate is in the block's range. -/
theorem mem0_5 (t : Fin cfg0.N) (i : S8192x2048.Idx) :
    i ∈ ((cfg0.win 5).blk t).view.set ↔ ∀ a : Fin 2, win0_5.index t a * S1024x256.size a ≤ (i a).val ∧ (i a).val < win0_5.index t a * S1024x256.size a + S1024x256.size a := by
  show i ∈ ((View.whole main_v3).slice (win0_5.rect t)).set ↔ _
  rw [View.set_slice_whole, Rect.mem_set_unit]
  exact Iff.rfl

/-- Every index of the output array is in the block of a point that writes back. -/
theorem covered0_5 (i : S8192x2048.Idx) : ∃ t : Fin cfg0.N, (cfg0.win 5).flush t = true ∧ i ∈ ((cfg0.win 5).blk t).view.set := by
  have hi0 : (i 0).val < 8192 := (i 0).isLt
  have hi1 : (i 1).val < 2048 := (i 1).isLt
  obtain ⟨t, t0, t1⟩ := point ⟨(i 1).val / 256, by omega⟩ ⟨(i 0).val / 1024, by omega⟩
  refine ⟨t, flush0_5_all _, ?_⟩
  rw [mem0_5]
  obtain ⟨e0, e1⟩ := (where0 t).2.2.2.2.2
  dsimp only at t0 t1
  intro a
  match a with
  | ⟨0, _⟩ => show win0_5.index t (0 : Fin 2) * 1024 ≤ (i 0).val ∧ (i 0).val < win0_5.index t (0 : Fin 2) * 1024 + 1024; rw [e0, t1]; omega
  | ⟨1, _⟩ => show win0_5.index t (1 : Fin 2) * 256 ≤ (i 1).val ∧ (i 1).val < win0_5.index t (1 : Fin 2) * 256 + 256; rw [e1, t0]; omega

/-- The attention over the whole array. -/
def foxes (A : S8192x6144.Idx → EReal) (D : S8192x16.Idx → EReal) : S8192x2048.Idx → EReal := fun i =>
  foxAt A D (i 0).val ⟨(i 1).val / 128, by have := idx2_lt1 i; omega⟩ ⟨(i 1).val % 128, by omega⟩

include hA hD in
/-- What a point writes back is that function read through the block. -/
theorem flushed0_5 (t : Fin cfg0.N) : (dats m 0 c).flushed 5 t = ((cfg0.win 5).blk t).view.read (Elt Ideal) (foxes (a0 m c) (a1 m c)) := by
  obtain ⟨e0, e1⟩ := (where0 t).2.2.2.2.2
  refine funext fun (y : S1024x256.Idx) => ?_
  have q0 : ((((cfg0.win 5).blk t).view.emb y : S8192x2048.Idx) 0).val = (grid0.coords t 1).val * 1024 + (y 0).val := by
    show win0_5.index t (0 : Fin 2) * 1024 + 1 * (y 0).val = _
    rw [e0]; omega
  have q1 : ((((cfg0.win 5).blk t).view.emb y : S8192x2048.Idx) 1).val = (grid0.coords t 0).val * 256 + (y 1).val := by
    show win0_5.index t (1 : Fin 2) * 256 + 1 * (y 1).val = _
    rw [e1]; omega
  show (dats m 0 c).after 5 t y = foxes (a0 m c) (a1 m c) (((cfg0.win 5).blk t).view.emb y)
  generalize (((cfg0.win 5).blk t).view.emb y : S8192x2048.Idx) = i at q0 q1
  have b0 := idx2_lt0 y
  have b1 := idx2_lt1 y
  rw [after0_5]
  unfold outsAt0
  rw [out5_A (D := dat m c hA hD t)]
  unfold foxes
  have r0 : (i 0).val = 1024 * (grid0.coords t 1).val + (y 0).val := by omega
  have r1 : (⟨(i 1).val / 128, by have := idx2_lt1 i; omega⟩ : Fin 16) = head (grid0.coords t 0) (hd (y 1)) := Fin.ext (by
    show (i 1).val / 128 = 2 * (grid0.coords t 0).val + (y 1).val / 128; omega)
  have r2 : (⟨(i 1).val % 128, by omega⟩ : Fin 128) = cm (y 1) := Fin.ext (by
    show (i 1).val % 128 = (y 1).val % 128; omega)
  rw [r0, r1, r2]
  rfl

include hA hD in
/-- The output array at the launch's end. -/
theorem final0_5 : (dats m 0 c).arrAt 5 cfg0.N = foxes (a0 m c) (a1 m c) :=
  (dats m 0 c).arrAt_eq_of_cover 5 _ (fun t _ => flushed0_5 m c hA hD t) covered0_5

end Cert.Kernel7Ideal.Hand

end
-- ==== Proof.P7RefValue.lean ====
module

public import proofs.«01_k».proof.Proof.Gen.Reference7Ideal.Read
public import proofs.«01_k».proof.Proof.P7Fox
public import proofs.«01_k».proof.Pre_finite7
public import Idealize.ShloMosaic.Lib.IdealHost
public import Idealize.ShloMosaic.Lib.Pipeline.Value
public import Idealize.ShloMosaic.Lib.KernelVsHost
public import Idealize.ShloMosaic.Lib.WordCmp

@[expose] public section

set_option maxRecDepth 16384

noncomputable section

namespace Cert.Reference7Ideal.Hand

open Cert.Reference7Ideal Cert.Reference7Ideal.Gen Cert.Reference7Ideal.Read Cert.Hand
open Idealize.ShloMosaic Idealize.ShloMosaic.TcCoe Idealize.ShloMosaic.ValueIdx

variable (x0 : (⟨S8192x6144, .bf16⟩ : BufTy).Contents (Elt Ideal)) (x1 : (⟨S8192x16, .f32⟩ : BufTy).Contents (Elt Ideal))

/-- The reference's queries. -/
theorem q_ref (r : Fin 8192) (H : Fin 16) (d : Fin 128) : val_main_v4 (F := Ideal) x0 (ix3 r H d) = rd S8192x6144 x0 (ix2 r (qc H d)) := by
  rw [val_main_v4_apply, val_main_v1_apply, val_main_v0_apply]
  refine congrArg x0 (funext fun a => Fin.ext ?_)
  have hr := r.isLt; have hH := H.isLt; have hd := d.isLt
  match a with
  | ⟨0, _⟩ => show ((r.val * 16 + H.val) * 128 + d.val) / 2048 = r.val; omega
  | ⟨1, _⟩ => show ((r.val * 16 + H.val) * 128 + d.val) % 2048 = 128 * H.val + d.val; omega

/-- The reference's keys. -/
theorem k_ref (r : Fin 8192) (H : Fin 16) (d : Fin 128) : val_main_v5 (F := Ideal) x0 (ix3 r H d) = rd S8192x6144 x0 (ix2 r (kc H d)) := by
  rw [val_main_v5_apply, val_main_v2_apply, val_main_v0_apply]
  refine congrArg x0 (funext fun a => Fin.ext ?_)
  have hr := r.isLt; have hH := H.isLt; have hd := d.isLt
  match a with
  | ⟨0, _⟩ => show ((r.val * 16 + H.val) * 128 + d.val) / 2048 = r.val; omega
  | ⟨1, _⟩ => show 2048 + ((r.val * 16 + H.val) * 128 + d.val) % 2048 = 2048 + (128 * H.val + d.val); omega

/-- The reference's values. -/
theorem v_ref (r : Fin 8192) (H : Fin 16) (d : Fin 128) : val_main_v6 (F := Ideal) x0 (ix3 r H d) = rd S8192x6144 x0 (ix2 r (vc H d)) := by
  rw [val_main_v6_apply, val_main_v3_apply, val_main_v0_apply]
  refine congrArg x0 (funext fun a => Fin.ext ?_)
  have hr := r.isLt; have hH := H.isLt; have hd := d.isLt
  match a with
  | ⟨0, _⟩ => show ((r.val * 16 + H.val) * 128 + d.val) / 2048 = r.val; omega
  | ⟨1, _⟩ => show 4096 + ((r.val * 16 + H.val) * 128 + d.val) % 2048 = 4096 + (128 * H.val + d.val); omega

/-- The reference's scores before the mask. -/
theorem score_ref (H : Fin 16) (r k : Fin 8192) : val_main_v14 (F := Ideal) x0 x1 (ix3 H r k)
    = ((∑ d : Fin 128, rd S8192x6144 x0 (ix2 r (qc H d)) * rd S8192x6144 x0 (ix2 k (kc H d))) + rd S8192x16 x1 (ix2 r H)) - rd S8192x16 x1 (ix2 k H) := by
  rw [val_main_v14_apply, val_main_v11_apply, val_main_v10_apply, val_main_v9_apply, val_main_v13_apply, val_main_v12_apply, val_main_v8_apply, val_main_v7_apply, val_main_v7_apply]
  refine congrArg₂ (· - ·) (congrArg₂ (· + ·) (Finset.sum_congr rfl fun d _ => congrArg₂ (· * ·) ?_ ?_) (congrArg x1 ?_)) (congrArg x1 ?_)
  · refine (congrArg (val_main_v4 (F := Ideal) x0) ?_).trans (q_ref x0 r H d)
    exact funext fun a => by match a with | ⟨0, _⟩ => rfl | ⟨1, _⟩ => rfl | ⟨2, _⟩ => rfl
  · refine (congrArg (val_main_v5 (F := Ideal) x0) ?_).trans (k_ref x0 k H d)
    exact funext fun a => by match a with | ⟨0, _⟩ => rfl | ⟨1, _⟩ => rfl | ⟨2, _⟩ => rfl
  · exact funext fun a => by match a with | ⟨0, _⟩ => rfl | ⟨1, _⟩ => rfl
  · exact funext fun a => by match a with | ⟨0, _⟩ => rfl | ⟨1, _⟩ => rfl

/-- The reference's masked scores. -/
theorem masked_ref (H : Fin 16) (r k : Fin 8192) : val_main_v22 (F := Ideal) x0 x1 (ix3 H r k)
    = if k.val ≤ r.val then val_main_v14 (F := Ideal) x0 x1 (ix3 H r k) else (⊥ : EReal) := by
  rw [val_main_v22_apply, val_main_call0_v1_apply, val_main_v21_apply, val_main_v19_apply, val_main_v16_apply, val_main_v15_apply, val_main_v20_apply, val_main_v18_apply,
    val_main_v17_apply, val_main_call0_v2_apply, val_main_call0_v0_apply, val_main_cst_apply]
  show (if IntOp.cmpi .sge (BitVec.ofNat 32 r.val) (BitVec.ofNat 32 k.val) = 1#1 then val_main_v14 (F := Ideal) x0 x1 (ix3 H r k) else Ideal.ofBits .f32 0xFF800000#32) = _
  rw [ofBits_bot]
  have hr := r.isLt; have hk := k.isLt
  have e : (IntOp.cmpi .sge (BitVec.ofNat 32 r.val) (BitVec.ofNat 32 k.val) = 1#1) ↔ k.val ≤ r.val := WordCmp.cmpi_sge_ofNat_eq_one_iff (by omega) (by omega)
  by_cases h : k.val ≤ r.val
  · rw [if_pos h, if_pos (e.mpr h)]
  · rw [if_neg h, if_neg fun g => h (e.mp g)]

/-- A three-axis array's maximum along its last axis. -/
theorem max_at {A B C : ℕ} (x : FVec Ideal ⟨3, ![A, B, C]⟩ .f32) (h : (⟨3, ![A, B, C]⟩ : Shape).ReducesTo [2] ⟨2, ![A, B]⟩) (hu : 0 < S_.numel)
    (h' : (⟨3, ![A, B, C]⟩ : Shape).Reduces [2] ⟨2, ![A, B]⟩) (i : Fin A) (j : Fin B) :
    Host.reduce (t := ⟨2, ![A, B]⟩) FloatOps.maximumf x (constant (F := Ideal) S_ .f32 0xFF800000#32) h hu (ix2 i j) = (Finset.univ : Finset (Fin C)).fold max ⊥ (fun k => x (ix3 i j k)) := by
  rw [hostReduce_maximumf_eq_multiReduction x 0xFF800000#32 h hu h' (.inl rfl) rfl]
  refine (Ideal.multiReduction_maximumf_single x 0xFF800000#32 h' (.inl rfl) rfl (ix2 i j)).trans ?_
  have hb : FloatOps.ofBits (F := Ideal) .f32 0xFF800000#32 = (⊥ : EReal) := ofBits_bot
  rw [hb]
  refine congrArg (fun g => (Finset.univ : Finset (Fin C)).fold max ⊥ g) (funext fun k => congrArg x (funext fun a => Fin.ext ?_))
  match a with
  | ⟨0, _⟩ => rfl
  | ⟨1, _⟩ => rfl
  | ⟨2, _⟩ => rfl

/-- The reference's row maxima. -/
theorem max_ref (H : Fin 16) (r : Fin 8192) : val_main_v23 (F := Ideal) x0 x1 (ix2 H r)
    = (Finset.univ : Finset (Fin 8192)).fold max ⊥ (fun k => val_main_v22 (F := Ideal) x0 x1 (ix3 H r k)) := by
  unfold val_main_v23
  generalize val_main_v22 (F := Ideal) x0 x1 = y
  exact max_at y reducesTo_S16x8192x8192_S16x8192_d2 h_S_ (by decide) H r

/-- The base of the powers. -/
theorem ofBits_two : Ideal.ofBits .f32 0x40000000#32 = ((2 : ℝ) : EReal) := by
  simp [Ideal.ofBits, Ideal.ieee, -EReal.coe_mul]; norm_num

/-- The reference's weights. -/
theorem weight_ref (H : Fin 16) (r k : Fin 8192) : val_main_v28 (F := Ideal) x0 x1 (ix3 H r k)
    = Ideal.pow ((2 : ℝ) : EReal) (val_main_v22 (F := Ideal) x0 x1 (ix3 H r k) - val_main_v23 (F := Ideal) x0 x1 (ix2 H r)) := by
  rw [val_main_v28_apply, val_main_v27_apply, val_main_cst_1_apply, val_main_v26_apply, val_main_v25_apply, val_main_v24_apply]
  have e : idx_main_v24 (idx_main_v25 (ix3 H r k)) = ix2 H r := funext fun a => by match a with | ⟨0, _⟩ => rfl | ⟨1, _⟩ => rfl
  rw [e]
  show Ideal.pow (Ideal.ofBits .f32 0x40000000#32) _ = _
  rw [ofBits_two]
  rfl

/-- The reference's probabilities. -/
theorem prob_ref (H : Fin 16) (r k : Fin 8192) : val_main_v32 (F := Ideal) x0 x1 (ix3 H r k)
    = Ideal.div (val_main_v28 (F := Ideal) x0 x1 (ix3 H r k)) (0 + ∑ j : Fin 8192, val_main_v28 (F := Ideal) x0 x1 (ix3 H r j)) := by
  rw [val_main_v32_apply, val_main_v31_apply, val_main_v30_apply, val_main_v29_apply, val_main_cst_2_apply]
  have e : ∀ j : Fin 8192, idx_main_v29 (idx_main_v30 (idx_main_v31 (ix3 H r k))) j = ix3 H r j := fun j => funext fun a => by match a with | ⟨0, _⟩ => rfl | ⟨1, _⟩ => rfl | ⟨2, _⟩ => rfl
  rw [Finset.sum_congr rfl fun j _ => congrArg (val_main_v28 (F := Ideal) x0 x1) (e j)]
  show Ideal.div _ (Ideal.ofBits .f32 0x00000000#32 + _) = _
  rw [Ideal.ofBits_zero_f32]

variable (hA : ∀ (s : Fin 8192) (j : Fin 6144), j.val < 4096 → rd S8192x6144 x0 (ix2 s j) = ((rd S8192x6144 x0 (ix2 s j)).toReal : EReal)) (hD : ∀ i, rd S8192x16 x1 i = ((rd S8192x16 x1 i).toReal : EReal))

include hA hD in
/-- A score of the reference is the real score. -/
theorem score_real (H : Fin 16) (r k : Fin 8192) : val_main_v14 (F := Ideal) x0 x1 (ix3 H r k)
    = ((xs (fun s e => rk (rd S8192x6144 x0) s (kc H e)) (fun s => rk (rd S8192x16 x1) s H) (fun e => rk (rd S8192x6144 x0) r.val (qc H e)) (rk (rd S8192x16 x1) r.val H) k.val : ℝ) : EReal) := by
  rw [score_ref]
  rw [rk_at r H (hD _), rk_at k H (hD _), Finset.sum_congr rfl fun d _ => (congrArg₂ (· * ·) (rk_at r (qc H d) (hA _ _ (by show 128 * H.val + d.val < 4096; have := H.isLt; have := d.isLt; omega))) (rk_at k (kc H d) (hA _ _ (by show 2048 + (128 * H.val + d.val) < 4096; have := H.isLt; have := d.isLt; omega)))).trans (EReal.coe_mul _ _).symm,
    ← coe_fsum, ← EReal.coe_add, ← EReal.coe_sub]
  unfold xs
  refine congrArg _ ?_
  rw [Finset.sum_congr rfl fun d _ => mul_comm (rk (rd S8192x6144 x0) r.val (qc H d)) (rk (rd S8192x6144 x0) k.val (kc H d))]
  ring

include hA hD in
/-- The reference's output at a query, a head and a column. -/
theorem out_ref (r : Fin 8192) (H : Fin 16) (d : Fin 128) : val_main_v34 (F := Ideal) x0 x1 (ix3 r H d) = foxAt (rd S8192x6144 x0) (rd S8192x16 x1) r.val H d := by
  rw [val_main_v34_apply, val_main_v33_apply]
  unfold foxAt
  refine Eq.trans (Finset.sum_congr rfl fun k _ => congrArg₂ (· * ·) (?_ : _ = rd S8192x6144 x0 (ix2 k (vc H d))) (?_ : _ = Ideal.div (val_main_v28 (F := Ideal) x0 x1 (ix3 H r k)) (0 + ∑ j : Fin 8192, val_main_v28 (F := Ideal) x0 x1 (ix3 H r j))))
    (ref_smx _ _ r.val 8192 r.isLt (fun k => val_main_v22 (F := Ideal) x0 x1 (ix3 H r k)) _ _ (val_main_v23 (F := Ideal) x0 x1 (ix2 H r)) (fun k => ?_) (fun k => ek_at _ k (vc H d)) (max_ref x0 x1 H r) (fun k => weight_ref x0 x1 H r k))
  · refine (congrArg (val_main_v6 (F := Ideal) x0) ?_).trans (v_ref x0 k H d)
    exact funext fun a => by match a with | ⟨0, _⟩ => rfl | ⟨1, _⟩ => rfl | ⟨2, _⟩ => rfl
  · refine (congrArg (val_main_v32 (F := Ideal) x0 x1) ?_).trans (prob_ref x0 x1 H r k)
    exact funext fun a => by match a with | ⟨0, _⟩ => rfl | ⟨1, _⟩ => rfl | ⟨2, _⟩ => rfl
  · show val_main_v22 (F := Ideal) x0 x1 (ix3 H r k) = _
    rw [masked_ref, score_real x0 x1 hA hD]

include hA hD in
/-- The reference's result. -/
theorem fox_ref : val_main_v36 (F := Ideal) x0 x1 = (fun i : S8192x2048.Idx =>
    foxAt (rd S8192x6144 x0) (rd S8192x16 x1) (i 0).val ⟨(i 1).val / 128, by have := idx2_lt1 i; omega⟩ ⟨(i 1).val % 128, by omega⟩) := by
  refine funext fun (i : S8192x2048.Idx) => ?_
  have h0 := idx2_lt0 i
  have h1 := idx2_lt1 i
  rw [val_main_v36_apply, val_main_v35_apply]
  refine (congrArg (val_main_v34 (F := Ideal) x0 x1) (?_ : _ = ix3 (⟨(i 0).val, h0⟩ : Fin 8192) (⟨(i 1).val / 128, by omega⟩ : Fin 16) (⟨(i 1).val % 128, by omega⟩ : Fin 128))).trans (out_ref x0 x1 hA hD _ _ _)
  refine funext fun a => Fin.ext ?_
  match a with
  | ⟨0, _⟩ => show ((i 0).val * 2048 + (i 1).val) / 2048 = (i 0).val; omega
  | ⟨1, _⟩ => show ((i 0).val * 2048 + (i 1).val) / 128 % 16 = (i 1).val / 128; omega
  | ⟨2, _⟩ => show ((i 0).val * 2048 + (i 1).val) % 128 = (i 1).val % 128; omega

end Cert.Reference7Ideal.Hand

namespace Cert.Pre_finite7

open Idealize.ShloMosaic Idealize.ShloMosaic.ValueIdx Cert.Hand

/-- The precondition's side conditions. -/
theorem sides : Facts := ⟨by decide, by decide, by decide, by decide⟩

/-- A value below the largest and above the least is a real one. -/
theorem real_of_bits (x : EReal) (h : IntOp.andi (FloatOps.cmpf (F := Ideal) (φ := .f32) .olt x (Ideal.ofBits .f32 0x7F800000#32)) (FloatOps.cmpf (F := Ideal) (φ := .f32) .ogt x (Ideal.ofBits .f32 0xFF800000#32)) = 1#1) :
    x = (x.toReal : EReal) := by
  have et : Ideal.ofBits .f32 0x7F800000#32 = (⊤ : EReal) := by simp [Ideal.ofBits, Ideal.ieee]
  rw [et, ofBits_bot] at h
  have h' : BitVec.ofBool (decide (x < ⊤)) &&& BitVec.ofBool (decide (⊥ < x)) = 1#1 := h
  refine (EReal.coe_toReal (fun e => ?_) (fun e => ?_)).symm <;> · rw [e] at h'; simp at h'

/-- Under the precondition every query, key and running sum is real. -/
theorem real_of_pre [Facts] (A : FVec Ideal S8192x6144 .bf16) (D : FVec Ideal S8192x16 .f32) (h : fn (F := Ideal) A D = fun _ => 1#1) :
    (∀ (s : Fin 8192) (j : Fin 6144), j.val < 4096 → A (ix2 s j) = ((EReal.toReal (A (ix2 s j)) : ℝ) : EReal)) ∧ ∀ i : S8192x16.Idx, D i = ((EReal.toReal (D i) : ℝ) : EReal) := by
  have p : ∀ j : S8192x4112.Idx, ∀ x : EReal, concatenate S8192x4112 1 [⟨S8192x4096, (extractStridedSlice S8192x4096 ![0, 0] A Facts.slices_S8192x6144_S8192x4096_0_0 : S8192x4096.Idx → EReal)⟩, ⟨S8192x16, (fun i => D i : S8192x16.Idx → EReal)⟩] Facts.concatenates_S8192x4096_S8192x16_S8192x4112_d1 j = x → x = (x.toReal : EReal) := fun j x e =>
    real_of_bits x (by rw [← e]; exact congrFun h j)
  refine ⟨fun s k hk => p (ix2 s ⟨k.val, by omega⟩) (A (ix2 s k)) ?_, fun i => p (ix2 (i 0) ⟨4096 + (i 1).val, by have := idx2_lt1 i; omega⟩) _ ?_⟩
  · refine (concatenate_apply_piece (t := S8192x4112) (1 : Fin 2) [⟨S8192x4096, (extractStridedSlice S8192x4096 ![0, 0] A Facts.slices_S8192x6144_S8192x4096_0_0 : S8192x4096.Idx → EReal)⟩, ⟨S8192x16, (fun i => D i : S8192x16.Idx → EReal)⟩] _ _ 0 (by simp) S8192x4096 _ rfl rfl 0 rfl (ix2 s ⟨k.val, hk⟩) (fun b hb => ?_) ?_).trans
      (congrArg A (?_ : _ = ix2 s k))
    · match b, hb with
      | ⟨0, _⟩, _ => rfl
      | ⟨1, _⟩, hb => exact absurd rfl hb
    · show 0 + k.val = k.val; omega
    · exact funext fun a => Fin.ext (by match a with | ⟨0, _⟩ => exact Nat.zero_add _ | ⟨1, _⟩ => exact Nat.zero_add _)
  · refine concatenate_apply_piece (t := S8192x4112) (1 : Fin 2) [⟨S8192x4096, (extractStridedSlice S8192x4096 ![0, 0] A Facts.slices_S8192x6144_S8192x4096_0_0 : S8192x4096.Idx → EReal)⟩, ⟨S8192x16, (fun i => D i : S8192x16.Idx → EReal)⟩] _ _ 1 (by simp) S8192x16 _ rfl rfl 4096 rfl i (fun b hb => ?_) ?_
    · match b, hb with
      | ⟨0, _⟩, _ => rfl
      | ⟨1, _⟩, hb => exact absurd rfl hb
    · rfl

end Cert.Pre_finite7

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Skeleton
public import proofs.«01_k».proof.Proof.Gen.Kernel2.Launch
public import proofs.«01_k».proof.Proof.Gen.Kernel2.Regions
public import proofs.«01_k».proof.Proof.Gen.Kernel2.Points
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Regions
public import proofs.«01_k».proof.Proof.Gen.Kernel2Ideal.Points
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Regions
public import proofs.«01_k».proof.Proof.Gen.Kernel3.Points
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Regions
public import proofs.«01_k».proof.Proof.Gen.Kernel3Ideal.Points
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Regions
public import proofs.«01_k».proof.Proof.Gen.Kernel4.Points
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Regions
public import proofs.«01_k».proof.Proof.Gen.Kernel4Ideal.Points
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Regions
public import proofs.«01_k».proof.Proof.Gen.Kernel5.Points
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Regions
public import proofs.«01_k».proof.Proof.Gen.Kernel5Ideal.Points
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Frame
public import proofs.«01_k».proof.Proof.Gen.Kernel7.Frame
public import proofs.«01_k».proof.Proof.Gen.Kernel7Ideal.Value
public import proofs.«01_k».proof.Proof.Gen.Reference7Ideal.Run
public import proofs.«01_k».proof.Proof.Gen.Reference7Ideal.Read
public import proofs.«01_k».proof.Proof.Gen.Kernel6.Points
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Frame
public import proofs.«01_k».proof.Proof.Gen.Kernel6Ideal.Points
public import proofs.«01_k».proof.Proof.Gen.Reference6Ideal
public import proofs.«01_k».proof.Proof.Gen.Reference6Ideal.Run
public import proofs.«01_k».proof.Proof.Gen.Reference6Ideal.Read
public import proofs.«01_k».proof.Proof.RefValue
public import proofs.«01_k».proof.Proof.P2RefValue
public import proofs.«01_k».proof.Proof.P3RefValue
public import proofs.«01_k».proof.Proof.SameText
public import proofs.«01_k».proof.Proof.KerValue
public import proofs.«01_k».proof.Proof.P2KerValue
public import proofs.«01_k».proof.Proof.P3KerValue
public import proofs.«01_k».proof.Proof.P4RefValue
public import proofs.«01_k».proof.Proof.P4KerValue
public import proofs.«01_k».proof.Proof.P5RefValue
public import proofs.«01_k».proof.Proof.P5KerValue
public import proofs.«01_k».proof.Proof.P6RefValue
public import proofs.«01_k».proof.Proof.P6KerValue
public import proofs.«01_k».proof.Proof.P7Value
public import proofs.«01_k».proof.Proof.P7RefValue
public import Idealize.ShloMosaic.Lib.Quiescent
public import Idealize.ShloMosaic.Adequacy
public import Idealize.ShloMosaic.Init

@[expose] public section

set_option maxRecDepth 16384
set_option maxHeartbeats 4000000

noncomputable section

namespace Cert.Proof

open Idealize.ShloMosaic Idealize.SL.Sem Cert.Kernel

/-- The first program's run read at its arguments and counters, over any floats. -/
theorem frame_any {F : FTy → Type} [FloatOps F] (m : (ℓ : Loc Cert.KernelIdeal.nD Cert.KernelIdeal.τ Cert.KernelIdeal.sig) → Buf (Elt F) ℓ) (ρ : Dev Cert.KernelIdeal.nD → PrngReg) :
    θ_run (Cert.KernelIdeal.defs (F := F)) (onTc (τ := Cert.KernelIdeal.τ) (Cert.KernelIdeal.main (F := F))) ⟨m, fun _ => 0, ρ⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0) :=
  (θ_run Cert.KernelIdeal.defs _ _).mono (fun r h => ⟨fun c => ⟨(h.1 c).1, (h.1 c).2.1, (h.1 c).2.2.1, (h.1 c).2.2.2.1⟩, h.2⟩)
    (Cert.KernelIdeal.Hand.run_main (F := F) m ρ)

/-- The first kernel's frame over words: its text is the idealized program's, whose run is proved over any floats. -/
theorem frame_kernel : Cert.quiescent_Kernel (hKernel := Cert.Kernel.Gen.facts) := fun m ρ _ => by
  rw [Cert.Hand.defs_same]
  exact frame_any (F := Bits) m ρ

/-- The first idealized kernel's frame. -/
theorem frame_ideal : Cert.quiescent_KernelIdeal (hKernelIdeal := Cert.KernelIdeal.Gen.facts) := fun m ρ _ =>
  frame_any (F := Ideal) m ρ

/-- The first reference's frame; it declares no semaphore. -/
theorem frame_reference : Cert.quiescent_ReferenceIdeal (hReferenceIdeal := Cert.ReferenceIdeal.Gen.facts) := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

/-- The first kernel and its reference end with the same array of extended reals. -/
theorem algebraic : Cert.algebraic_KernelIdeal_ReferenceIdeal (hKernelIdeal := Cert.KernelIdeal.Gen.facts) (hReferenceIdeal := Cert.ReferenceIdeal.Gen.facts) := by
  intro m ρ m' ρ' _ hagree
  refine ⟨fun c => Cert.Hand.swiglu 0 (Cert.KernelIdeal.Hand.a0 m c) (Cert.KernelIdeal.Hand.a1 m c) (Cert.KernelIdeal.Hand.a2 m c) (Cert.KernelIdeal.Hand.a3 m c), ?_, ?_⟩
  · exact (θ_run Cert.KernelIdeal.defs _ _).mono
      (fun r h c => ⟨(h.1 c).2.2.2.2.trans (Cert.KernelIdeal.Hand.out_ker m c), (h.1 c).1, (h.1 c).2.1, (h.1 c).2.2.1, (h.1 c).2.2.2.1⟩)
      (Cert.KernelIdeal.Hand.run_main (F := Ideal) m ρ)
  · refine (θ_run Cert.ReferenceIdeal.defs _ _).mono
      (fun r h c => ⟨(((h c).1.trans (Cert.ReferenceIdeal.Read.val_main_v25_eq _ _ _ _)).trans (Cert.ReferenceIdeal.Hand.out_ref _ _ _ _)).trans ?_, (h c).2⟩)
      (Cert.ReferenceIdeal.Value.run (F := Ideal) m' ρ')
    rw [(hagree c).1, (hagree c).2.1, (hagree c).2.2.1, (hagree c).2.2.2]

/-- The second program's run read at its arguments and counters, over any floats. -/
theorem frame_any2 {F : FTy → Type} [FloatOps F] (m : (ℓ : Loc Cert.Kernel2Ideal.nD Cert.Kernel2Ideal.τ Cert.Kernel2Ideal.sig) → Buf (Elt F) ℓ) (ρ : Dev Cert.Kernel2Ideal.nD → PrngReg) :
    θ_run (Cert.Kernel2Ideal.defs (F := F)) (onTc (τ := Cert.Kernel2Ideal.τ) (Cert.Kernel2Ideal.main (F := F))) ⟨m, fun _ => 0, ρ⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ r.2.sem = fun _ => 0) :=
  (θ_run Cert.Kernel2Ideal.defs _ _).mono (fun r h => ⟨fun c => ⟨(h.1 c).1, (h.1 c).2.1, (h.1 c).2.2.1, (h.1 c).2.2.2.1, (h.1 c).2.2.2.2.1, (h.1 c).2.2.2.2.2.1, (h.1 c).2.2.2.2.2.2.1, (h.1 c).2.2.2.2.2.2.2.1, (h.1 c).2.2.2.2.2.2.2.2.1⟩, h.2⟩)
    (Cert.Kernel2Ideal.Hand.run_main (F := F) m ρ)

/-- The second kernel's frame over words: its text is the idealized program's, whose run is proved over any floats. -/
theorem frame_kernel2 : Cert.quiescent_Kernel2 (hKernel2 := Cert.Kernel2.Gen.facts) := fun m ρ _ => by
  rw [Cert.Hand.defs_same2]
  exact frame_any2 (F := Bits) m ρ

/-- The second idealized kernel's frame. -/
theorem frame_ideal2 : Cert.quiescent_Kernel2Ideal (hKernel2Ideal := Cert.Kernel2Ideal.Gen.facts) := fun m ρ _ =>
  frame_any2 (F := Ideal) m ρ

/-- The second reference's frame; it declares no semaphore. -/
theorem frame_reference2 : Cert.quiescent_Reference2Ideal (hReference2Ideal := Cert.Reference2Ideal.Gen.facts) := fun m ρ _ =>
  (θ_run Cert.Reference2Ideal.defs _ _).mono (fun r h => ⟨fun c => (h c).2, Idealize.ShloMosaic.sem_eq_zero_of_no_sems (by decide) r.2⟩)
    (Cert.Reference2Ideal.Value.run (F := Ideal) m ρ)

/-- The second kernel and its reference end with the same array of extended reals. -/
theorem algebraic2 : Cert.algebraic_Kernel2Ideal_Reference2Ideal (hKernel2Ideal := Cert.Kernel2Ideal.Gen.facts) (hReference2Ideal := Cert.Reference2Ideal.Gen.facts) := by
  intro m ρ m' ρ' _ hagree
  refine ⟨fun c => Cert.Hand.swiglu 1 (Cert.Kernel2Ideal.Hand.stream m c) (Cert.Kernel2Ideal.Hand.a6 m c) (Cert.Kernel2Ideal.Hand.a7 m c) (Cert.Kernel2Ideal.Hand.a8 m c), ?_, ?_⟩
  · exact (θ_run Cert.Kernel2Ideal.defs _ _).mono
      (fun r h c => ⟨(h.1 c).2.2.2.2.2.2.2.2.2.trans (Cert.Kernel2Ideal.Hand.out_ker m c), (h.1 c).1, (h.1 c).2.1, (h.1 c).2.2.1, (h.1 c).2.2.2.1, (h.1 c).2.2.2.2.1, (h.1 c).2.2.2.2.2.1, (h.1 c).2.2.2.2.2.2.1, (h.1 c).2.2.2.2.2.2.2.1, (h.1 c).2.2.2.2.2.2.2.2.1⟩)
      (Cert.Kernel2Ideal.Hand.run_main (F := Ideal) m ρ)
  · refine (θ_run Cert.Reference2Ideal.defs _ _).mono
      (fun r h c => ⟨(((h c).1.trans (Cert.Reference2Ideal.Read.val_main_v67_eq _ _)).trans (Cert.Reference2Ideal.Hand.out_ref _ _ _ _ _ _ _ _ _)).trans ?_, (h c).2⟩)
      (Cert.Reference2Ideal.Value.run (F := Ideal) m' ρ')
    rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2]

/-- The third program's run read at its arguments and counters, over any floats. -/
theorem frame_any3 {F : FTy → Type} [FloatOps F] (m : (ℓ : Loc Cert.Kernel3Ideal.nD Cert.Kernel3Ideal.τ Cert.Kernel3Ideal.sig) → Buf (Elt F) ℓ) (ρ : Dev Cert.Kernel3Ideal.nD → PrngReg) :
    θ_run (Cert.Kernel3Ideal.defs (F := F)) (onTc (τ := Cert.Kernel3Ideal.τ) (Cert.Kernel3Ideal.main (F := F))) ⟨m, fun _ => 0, ρ⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ r.2.sem = fun _ => 0) :=
  (θ_run Cert.Kernel3Ideal.defs _ _).mono (fun r h => ⟨fun c => ⟨(h.1 c).1, (h.1 c).2.1, (h.1 c).2.2.1, (h.1 c).2.2.2.1, (h.1 c).2.2.2.2.1, (h.1 c).2.2.2.2.2.1, (h.1 c).2.2.2.2.2.2.1, (h.1 c).2.2.2.2.2.2.2.1, (h.1 c).2.2.2.2.2.2.2.2.1, (h.1 c).2.2.2.2.2.2.2.2.2.1⟩, h.2⟩)
    (Cert.Kernel3Ideal.Hand.run_main (F := F) m ρ)

/-- The third kernel's frame over words: its text is the idealized program's, whose run is proved over any floats. -/
theorem frame_kernel3 : Cert.quiescent_Kernel3 (hKernel3 := Cert.Kernel3.Gen.facts) := fun m ρ _ => by
  rw [Cert.Hand.defs_same3]
  exact frame_any3 (F := Bits) m ρ

/-- The third idealized kernel's frame. -/
theorem frame_ideal3 : Cert.quiescent_Kernel3Ideal (hKernel3Ideal := Cert.Kernel3Ideal.Gen.facts) := fun m ρ _ =>
  frame_any3 (F := Ideal) m ρ

/-- The third reference's frame; it declares no semaphore. -/
theorem frame_reference3 : Cert.quiescent_Reference3Ideal (hReference3Ideal := Cert.Reference3Ideal.Gen.facts) := fun m ρ _ =>
  (θ_run Cert.Reference3Ideal.defs _ _).mono (fun r h => ⟨fun c => (h c).2, Idealize.ShloMosaic.sem_eq_zero_of_no_sems (by decide) r.2⟩)
    (Cert.Reference3Ideal.Value.run (F := Ideal) m ρ)

/-- The third kernel and its reference end with the same array of extended reals. -/
theorem algebraic3 : Cert.algebraic_Kernel3Ideal_Reference3Ideal (hKernel3Ideal := Cert.Kernel3Ideal.Gen.facts) (hReference3Ideal := Cert.Reference3Ideal.Gen.facts) := by
  intro m ρ m' ρ' _ hagree
  refine ⟨fun c => Cert.Kernel3Ideal.Hand.result m c, ?_, ?_⟩
  · exact (θ_run Cert.Kernel3Ideal.defs _ _).mono
      (fun r h c => ⟨(h.1 c).2.2.2.2.2.2.2.2.2.2.trans (Cert.Kernel3Ideal.Hand.out_ker m c), (h.1 c).1, (h.1 c).2.1, (h.1 c).2.2.1, (h.1 c).2.2.2.1, (h.1 c).2.2.2.2.1, (h.1 c).2.2.2.2.2.1, (h.1 c).2.2.2.2.2.2.1, (h.1 c).2.2.2.2.2.2.2.1, (h.1 c).2.2.2.2.2.2.2.2.1, (h.1 c).2.2.2.2.2.2.2.2.2.1⟩)
      (Cert.Kernel3Ideal.Hand.run_main (F := Ideal) m ρ)
  · refine (θ_run Cert.Reference3Ideal.defs _ _).mono
      (fun r h c => ⟨(((h c).1.trans (Cert.Reference3Ideal.Read.val_main_v81_eq _ _)).trans (Cert.Reference3Ideal.Hand.out_ref _ _ _ _ _ _ _ _ _ _)).trans ?_, (h c).2⟩)
      (Cert.Reference3Ideal.Value.run (F := Ideal) m' ρ')
    rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2]

/-- The fourth program's run read at its arguments and counters, over any floats. -/
theorem frame_any4 {F : FTy → Type} [FloatOps F] (m : (ℓ : Loc Cert.Kernel4Ideal.nD Cert.Kernel4Ideal.τ Cert.Kernel4Ideal.sig) → Buf (Elt F) ℓ) (ρ : Dev Cert.Kernel4Ideal.nD → PrngReg) :
    θ_run (Cert.Kernel4Ideal.defs (F := F)) (onTc (τ := Cert.Kernel4Ideal.τ) (Cert.Kernel4Ideal.main (F := F))) ⟨m, fun _ => 0, ρ⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0) :=
  (θ_run Cert.Kernel4Ideal.defs _ _).mono (fun r h => ⟨fun c => ⟨(h.1 c).1, (h.1 c).2.1, (h.1 c).2.2.1⟩, h.2⟩)
    (Cert.Kernel4Ideal.Hand.run_main (F := F) m ρ)

/-- The fourth kernel's frame over words: its text is the idealized program's, whose run is proved over any floats. -/
theorem frame_kernel4 : Cert.quiescent_Kernel4 (hKernel4 := Cert.Kernel4.Gen.facts) := fun m ρ _ => by
  rw [Cert.Hand.defs_same4]
  exact frame_any4 (F := Bits) m ρ

/-- The fourth idealized kernel's frame. -/
theorem frame_ideal4 : Cert.quiescent_Kernel4Ideal (hKernel4Ideal := Cert.Kernel4Ideal.Gen.facts) := fun m ρ _ =>
  frame_any4 (F := Ideal) m ρ

/-- The fourth reference's frame; it declares no semaphore. -/
theorem frame_reference4 : Cert.quiescent_Reference4Ideal (hReference4Ideal := Cert.Reference4Ideal.Gen.facts) := fun m ρ _ =>
  (θ_run Cert.Reference4Ideal.defs _ _).mono (fun r h => ⟨fun c => (h c).2.2.2.2, Idealize.ShloMosaic.sem_eq_zero_of_no_sems (by decide) r.2⟩)
    (Cert.Reference4Ideal.Value.run (F := Ideal) m ρ)

/-- The fourth kernel and its reference end with the same arrays of extended reals. -/
theorem algebraic4 : Cert.algebraic_Kernel4Ideal_Reference4Ideal (hKernel4Ideal := Cert.Kernel4Ideal.Gen.facts) (hReference4Ideal := Cert.Reference4Ideal.Gen.facts) := by
  intro m ρ m' ρ' _ hagree
  refine ⟨fun c => Cert.Kernel4Ideal.Gen.V6 m (Cert.Kernel4Ideal.Hand.outs m) c (Proc.devRef .tc Cert.Kernel4Ideal.main_v3), fun c => Cert.Kernel4Ideal.Gen.V6 m (Cert.Kernel4Ideal.Hand.outs m) c (Proc.devRef .tc Cert.Kernel4Ideal.main_v6), fun c => Cert.Kernel4Ideal.Gen.V6 m (Cert.Kernel4Ideal.Hand.outs m) c (Proc.devRef .tc Cert.Kernel4Ideal.main_v4), fun c => Cert.Kernel4Ideal.Gen.V6 m (Cert.Kernel4Ideal.Hand.outs m) c (Proc.devRef .tc Cert.Kernel4Ideal.main_v5), ?_, ?_⟩
  · exact (θ_run Cert.Kernel4Ideal.defs _ _).mono
      (fun r h c => ⟨(h.1 c).2.2.2.1, (h.1 c).2.2.2.2.1, (h.1 c).2.2.2.2.2.1, (h.1 c).2.2.2.2.2.2, (h.1 c).1, (h.1 c).2.1, (h.1 c).2.2.1⟩)
      (Cert.Kernel4Ideal.Hand.run_main (F := Ideal) m ρ)
  · refine (θ_run Cert.Reference4Ideal.defs _ _).mono
      (fun r h c => ⟨(((h c).1.trans (Cert.Reference4Ideal.Read.val_main_v23_eq _ _ _)).trans (Cert.Reference4Ideal.Hand.proj_ref _ _ _)).trans ?_, (((h c).2.1.trans (Cert.Reference4Ideal.Read.val_main_v17_eq _ _ _)).trans (funext fun i => Cert.Reference4Ideal.Hand.steps_ref _ _ _ i)).trans ?_, (((h c).2.2.1.trans (Cert.Reference4Ideal.Read.val_main_v25_eq _ _ _)).trans (Cert.Reference4Ideal.Hand.qvg_ref _ _ _)).trans ?_, (((h c).2.2.2.1.trans (Cert.Reference4Ideal.Read.val_main_v19_eq _ _ _)).trans (funext fun i => Cert.Reference4Ideal.Hand.forget_ref _ _ _ i)).trans ?_, (h c).2.2.2.2⟩)
      (Cert.Reference4Ideal.Value.run (F := Ideal) m' ρ')
    · rw [(hagree c).1, (hagree c).2.1, (hagree c).2.2]; exact (Cert.Kernel4Ideal.Hand.proj_ker m c).symm
    · rw [(hagree c).1, (hagree c).2.1, (hagree c).2.2]; exact (Cert.Kernel4Ideal.Hand.steps_ker m c).symm
    · rw [(hagree c).1, (hagree c).2.1, (hagree c).2.2]; exact (Cert.Kernel4Ideal.Hand.qvg_ker m c).symm
    · rw [(hagree c).1, (hagree c).2.1, (hagree c).2.2]; exact (Cert.Kernel4Ideal.Hand.forget_ker m c).symm

/-- The fifth program's run read at its arguments and counters, over any floats. -/
theorem frame_any5 {F : FTy → Type} [FloatOps F] (m : (ℓ : Loc Cert.Kernel5Ideal.nD Cert.Kernel5Ideal.τ Cert.Kernel5Ideal.sig) → Buf (Elt F) ℓ) (ρ : Dev Cert.Kernel5Ideal.nD → PrngReg) :
    θ_run (Cert.Kernel5Ideal.defs (F := F)) (onTc (τ := Cert.Kernel5Ideal.τ) (Cert.Kernel5Ideal.main (F := F))) ⟨m, fun _ => 0, ρ⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8))
      ∧ r.2.sem = fun _ => 0) :=
  (θ_run Cert.Kernel5Ideal.defs _ _).mono (fun r h => ⟨fun c => ⟨(h.1 c).1, (h.1 c).2.1, (h.1 c).2.2.1, (h.1 c).2.2.2.1, (h.1 c).2.2.2.2.1, (h.1 c).2.2.2.2.2.1, (h.1 c).2.2.2.2.2.2.1, (h.1 c).2.2.2.2.2.2.2.1, (h.1 c).2.2.2.2.2.2.2.2.1⟩, h.2⟩)
    (Cert.Kernel5Ideal.Hand.run_main (F := F) m ρ)

/-- The fifth kernel's frame over words: its text is the idealized program's, whose run is proved over any floats. -/
theorem frame_kernel5 : Cert.quiescent_Kernel5 (hKernel5 := Cert.Kernel5.Gen.facts) := fun m ρ _ => by
  rw [Cert.Hand.defs_same5]
  exact frame_any5 (F := Bits) m ρ

/-- The fifth idealized kernel's frame. -/
theorem frame_ideal5 : Cert.quiescent_Kernel5Ideal (hKernel5Ideal := Cert.Kernel5Ideal.Gen.facts) := fun m ρ _ =>
  frame_any5 (F := Ideal) m ρ

/-- The fifth reference's frame; it declares no semaphore. -/
theorem frame_reference5 : Cert.quiescent_Reference5Ideal (hReference5Ideal := Cert.Reference5Ideal.Gen.facts) := fun m ρ _ =>
  (θ_run Cert.Reference5Ideal.defs _ _).mono (fun r h => ⟨fun c => (h c).2.2.2, Idealize.ShloMosaic.sem_eq_zero_of_no_sems (by decide) r.2⟩)
    (Cert.Reference5Ideal.Value.run (F := Ideal) m ρ)

/-- The fifth kernel and its reference end with the same arrays of extended reals. -/
theorem algebraic5 : Cert.algebraic_Kernel5Ideal_Reference5Ideal (hKernel5Ideal := Cert.Kernel5Ideal.Gen.facts) (hReference5Ideal := Cert.Reference5Ideal.Gen.facts) := by
  intro m ρ m' ρ' _ hagree
  refine ⟨fun c => Cert.Kernel5Ideal.Gen.V4 m (Cert.Kernel5Ideal.Hand.outs m) c (Proc.devRef .tc Cert.Kernel5Ideal.main_v0), fun c => Cert.Kernel5Ideal.Gen.V4 m (Cert.Kernel5Ideal.Hand.outs m) c (Proc.devRef .tc Cert.Kernel5Ideal.main_v2), fun c => Cert.Kernel5Ideal.Gen.V4 m (Cert.Kernel5Ideal.Hand.outs m) c (Proc.devRef .tc Cert.Kernel5Ideal.main_v3), ?_, ?_⟩
  · exact (θ_run Cert.Kernel5Ideal.defs _ _).mono
      (fun r h c => ⟨(h.1 c).2.2.2.2.2.2.2.2.2.1, (h.1 c).2.2.2.2.2.2.2.2.2.2.1, (h.1 c).2.2.2.2.2.2.2.2.2.2.2, (h.1 c).1, (h.1 c).2.1, (h.1 c).2.2.1, (h.1 c).2.2.2.1, (h.1 c).2.2.2.2.1, (h.1 c).2.2.2.2.2.1, (h.1 c).2.2.2.2.2.2.1, (h.1 c).2.2.2.2.2.2.2.1, (h.1 c).2.2.2.2.2.2.2.2.1⟩)
      (Cert.Kernel5Ideal.Hand.run_main (F := Ideal) m ρ)
  · refine (θ_run Cert.Reference5Ideal.defs _ _).mono
      (fun r h c => ⟨(((h c).1.trans (Cert.Reference5Ideal.Read.val_main_v4_eq _ _ _ _)).trans (Cert.Reference5Ideal.Hand.mix_ref _ _ _ _)).trans ?_, (((h c).2.1.trans (Cert.Reference5Ideal.Read.val_main_v15_eq _ _)).trans (Cert.Reference5Ideal.Hand.qkv_ref _ _)).trans ?_, (((h c).2.2.1.trans (Cert.Reference5Ideal.Read.val_main_v19_eq _ _ _)).trans (Cert.Reference5Ideal.Hand.fox_ref _ _ _)).trans ?_, (h c).2.2.2⟩)
      (Cert.Reference5Ideal.Value.run (F := Ideal) m' ρ')
    · rw [(hagree c).1, (hagree c).2.1, (hagree c).2.2.1, (hagree c).2.2.2.1]; exact (Cert.Kernel5Ideal.Hand.mix_ker m c).symm
    · rw [(hagree c).2.2.2.2.1, (hagree c).2.2.2.2.2.1]; exact (Cert.Kernel5Ideal.Hand.qkv_ker m c).symm
    · rw [(hagree c).2.2.2.2.2.2.1, (hagree c).2.2.2.2.2.2.2.1, (hagree c).2.2.2.2.2.2.2.2]; exact (Cert.Kernel5Ideal.Hand.fox_ker m c).symm

/-- The sixth kernel's frame over words. -/
theorem frame_kernel6 : Cert.quiescent_Kernel6 (hKernel6 := Cert.Kernel6.Gen.facts) := fun m ρ _ =>
  Cert.Kernel6.Gen.frame (F := Bits) m ρ

/-- The sixth idealized kernel's frame. -/
theorem frame_ideal6 : Cert.quiescent_Kernel6Ideal (hKernel6Ideal := Cert.Kernel6Ideal.Gen.facts) := fun m ρ _ =>
  Cert.Kernel6Ideal.Gen.frame (F := Ideal) m ρ

/-- The sixth reference's frame; it declares no semaphore. -/
theorem frame_reference6 : Cert.quiescent_Reference6Ideal (hReference6Ideal := Cert.Reference6Ideal.Gen.facts) := fun m ρ _ =>
  (θ_run Cert.Reference6Ideal.defs _ _).mono (fun r h => ⟨fun c => (h c).2.2.2, Idealize.ShloMosaic.sem_eq_zero_of_no_sems (by decide) r.2⟩)
    (Cert.Reference6Ideal.Value.run (F := Ideal) m ρ)

/-- The sixth kernel and its reference end with the same arrays of extended reals. -/
theorem algebraic6 : Cert.algebraic_Kernel6Ideal_Reference6Ideal (hKernel6Ideal := Cert.Kernel6Ideal.Gen.facts) (hReference6Ideal := Cert.Reference6Ideal.Gen.facts) := by
  intro m ρ m' ρ' _ hagree
  refine ⟨fun c => Cert.Kernel6Ideal.Hand.res5 m c, fun c => Cert.Kernel6Ideal.Hand.res7 m c, fun c => Cert.Kernel6Ideal.Hand.res42 m c, ?_, ?_⟩
  · exact Cert.Kernel6Ideal.Hand.run_results m ρ
  · refine (θ_run Cert.Reference6Ideal.defs _ _).mono
      (fun r h c => ⟨(((h c).1.trans (Cert.Reference6Ideal.Read.val_main_v25_eq _ _)).trans (Cert.Reference6Ideal.Hand.decay_ref _ _ _ _)).trans ?_, (((h c).2.1.trans (Cert.Reference6Ideal.Read.val_main_v27_eq _ _)).trans (Cert.Reference6Ideal.Hand.turned_ref _ _ _ _)).trans ?_, (((h c).2.2.1.trans (Cert.Reference6Ideal.Read.val_main_v28_eq _ _)).trans (Cert.Reference6Ideal.Hand.rows_ref _ _)).trans ?_, (h c).2.2.2⟩)
      (Cert.Reference6Ideal.Value.run (F := Ideal) m' ρ')
    · rw [(hagree c).1, (hagree c).2.1, (hagree c).2.2.1, (hagree c).2.2.2]; exact (Cert.Kernel6Ideal.Hand.decay_ker m c).symm
    · rw [(hagree c).1, (hagree c).2.1, (hagree c).2.2.1, (hagree c).2.2.2]; exact (Cert.Kernel6Ideal.Hand.turned_ker m c).symm
    · rw [(hagree c).1, (hagree c).2.1]; exact (Cert.Kernel6Ideal.Hand.rows_ker m c).symm

/-- The seventh kernel's frame over words. -/
theorem frame_kernel7 : Cert.quiescent_Kernel7 (hKernel7 := Cert.Kernel7.Gen.facts) := fun m ρ _ =>
  Cert.Kernel7.Gen.frame (F := Bits) m ρ

/-- The seventh idealized kernel's frame. -/
theorem frame_ideal7 : Cert.quiescent_Kernel7Ideal (hKernel7Ideal := Cert.Kernel7Ideal.Gen.facts) := fun m ρ _ =>
  Cert.Kernel7Ideal.Gen.frame (F := Ideal) m ρ

/-- The seventh idealized kernel's frame on finite arguments. -/
theorem frame_ideal7_finite : Cert.quiescent_Kernel7Ideal_pre_finite7 (hKernel7Ideal := Cert.Kernel7Ideal.Gen.facts) (hPre_finite7 := Cert.Pre_finite7.sides) := fun m ρ _ =>
  Cert.Kernel7Ideal.Gen.frame (F := Ideal) m ρ

/-- The seventh reference's frame; it declares no semaphore. -/
theorem frame_reference7 : Cert.quiescent_Reference7Ideal (hReference7Ideal := Cert.Reference7Ideal.Gen.facts) := fun m ρ _ =>
  (θ_run Cert.Reference7Ideal.defs _ _).mono (fun r h => ⟨fun c => (h c).2, Idealize.ShloMosaic.sem_eq_zero_of_no_sems (by decide) r.2⟩)
    (Cert.Reference7Ideal.Value.run (F := Ideal) m ρ)

/-- The seventh reference's frame on finite arguments. -/
theorem frame_reference7_finite : Cert.quiescent_Reference7Ideal_pre_finite7 (hReference7Ideal := Cert.Reference7Ideal.Gen.facts) (hPre_finite7 := Cert.Pre_finite7.sides) := fun m ρ _ =>
  frame_reference7 m ρ trivial

/-- On finite arguments the seventh kernel and its reference end with the same array of extended reals. -/
theorem algebraic7 : Cert.algebraic_Kernel7Ideal_Reference7Ideal_pre_finite7 (hKernel7Ideal := Cert.Kernel7Ideal.Gen.facts) (hReference7Ideal := Cert.Reference7Ideal.Gen.facts) (hPre_finite7 := Cert.Pre_finite7.sides) := by
  intro m ρ m' ρ' hpre hagree
  have hreal := fun c => @Cert.Pre_finite7.real_of_pre Cert.Pre_finite7.sides _ _ (hpre c)
  refine ⟨fun c => Cert.Kernel7Ideal.Hand.foxes (Cert.Kernel7Ideal.Hand.a0 m c) (Cert.Kernel7Ideal.Hand.a1 m c), ?_, ?_⟩
  · exact (θ_run Cert.Kernel7Ideal.defs _ _).mono
      (fun r h c => ⟨(h c).1.trans (Cert.Kernel7Ideal.Hand.final0_5 m c (hreal c).1 (hreal c).2), (h c).2⟩)
      (Cert.Kernel7Ideal.Value.run_blocks (F := Ideal) m ρ)
  · refine (θ_run Cert.Reference7Ideal.defs _ _).mono
      (fun r h c => ⟨((h c).1.trans (Cert.Reference7Ideal.Read.val_main_v36_eq _ _)).trans ?_, (h c).2⟩)
      (Cert.Reference7Ideal.Value.run (F := Ideal) m' ρ')
    rw [(hagree c).1, (hagree c).2]
    exact Cert.Reference7Ideal.Hand.fox_ref _ _ (hreal c).1 (hreal c).2

/-- Every claim of the certificate. -/
theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Pre_finite7.sides,
  frame_kernel, frame_ideal, frame_reference, frame_kernel2, frame_ideal2, frame_reference2, frame_kernel3, frame_ideal3, frame_reference3, frame_kernel4, frame_ideal4, frame_reference4, frame_kernel5, frame_ideal5, frame_reference5, frame_kernel6, frame_ideal6, frame_reference6, frame_kernel7, frame_ideal7, frame_ideal7_finite, frame_reference7, frame_reference7_finite,
  trivial, algebraic, trivial, algebraic2, trivial, algebraic3, trivial, algebraic4, trivial, algebraic5, trivial, algebraic6, trivial, algebraic7⟩

end Cert.Proof

end
